-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2 = (fun _ => 1#1)

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_WFf2 (m : (ℓ : Loc Cert.WFf2.nD Cert.WFf2.τ Cert.WFf2.sig) → Buf (Elt Bits) ℓ) : Prop :=
  True

def Pre_WFf2Ideal (m : (ℓ : Loc Cert.WFf2Ideal.nD Cert.WFf2Ideal.τ Cert.WFf2Ideal.sig) → Buf (Elt Ideal) ℓ) : Prop :=
  True

def Pre_WFf2RefIdeal (m : (ℓ : Loc Cert.WFf2RefIdeal.nD Cert.WFf2RefIdeal.τ Cert.WFf2RefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_WFf1 (m : (ℓ : Loc Cert.WFf1.nD Cert.WFf1.τ Cert.WFf1.sig) → Buf (Elt Bits) ℓ) : Prop :=
  True

def Pre_WFf1Ideal (m : (ℓ : Loc Cert.WFf1Ideal.nD Cert.WFf1Ideal.τ Cert.WFf1Ideal.sig) → Buf (Elt Ideal) ℓ) : Prop :=
  True

def Pre_WFf1RefIdeal (m : (ℓ : Loc Cert.WFf1RefIdeal.nD Cert.WFf1RefIdeal.τ Cert.WFf1RefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_Ycat (m : (ℓ : Loc Cert.Ycat.nD Cert.Ycat.τ Cert.Ycat.sig) → Buf (Elt Bits) ℓ) : Prop :=
  True

def Pre_YcatIdeal (m : (ℓ : Loc Cert.YcatIdeal.nD Cert.YcatIdeal.τ Cert.YcatIdeal.sig) → Buf (Elt Ideal) ℓ) : Prop :=
  True

def Pre_YcatRefIdeal (m : (ℓ : Loc Cert.YcatRefIdeal.nD Cert.YcatRefIdeal.τ Cert.YcatRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfTwo (m : (ℓ : Loc Cert.FfTwo.nD Cert.FfTwo.τ Cert.FfTwo.sig) → Buf (Elt Bits) ℓ) : Prop :=
  True

def Pre_FfTwoIdeal (m : (ℓ : Loc Cert.FfTwoIdeal.nD Cert.FfTwoIdeal.τ Cert.FfTwoIdeal.sig) → Buf (Elt Ideal) ℓ) : Prop :=
  True

def Pre_FfTwoRefIdeal (m : (ℓ : Loc Cert.FfTwoRefIdeal.nD Cert.FfTwoRefIdeal.τ Cert.FfTwoRefIdeal.sig) → Buf (Elt Ideal) ℓ) : Prop :=
  True

def Pre_WInG (m : (ℓ : Loc Cert.WInG.nD Cert.WInG.τ Cert.WInG.sig) → Buf (Elt Bits) ℓ) : Prop :=
  True

def Pre_WInGIdeal (m : (ℓ : Loc Cert.WInGIdeal.nD Cert.WInGIdeal.τ Cert.WInGIdeal.sig) → Buf (Elt Ideal) ℓ) : Prop :=
  True

def Pre_WInGRefIdeal (m : (ℓ : Loc Cert.WInGRefIdeal.nD Cert.WInGRefIdeal.τ Cert.WInGRefIdeal.sig) → Buf (Elt Ideal) ℓ) : Prop :=
  True

def Pre_WInZ (m : (ℓ : Loc Cert.WInZ.nD Cert.WInZ.τ Cert.WInZ.sig) → Buf (Elt Bits) ℓ) : Prop :=
  True

def Pre_WInZIdeal (m : (ℓ : Loc Cert.WInZIdeal.nD Cert.WInZIdeal.τ Cert.WInZIdeal.sig) → Buf (Elt Ideal) ℓ) : Prop :=
  True

def Pre_WInZRefIdeal (m : (ℓ : Loc Cert.WInZRefIdeal.nD Cert.WInZRefIdeal.τ Cert.WInZRefIdeal.sig) → Buf (Elt Ideal) ℓ) : Prop :=
  True

def Pre_WInXbc (m : (ℓ : Loc Cert.WInXbc.nD Cert.WInXbc.τ Cert.WInXbc.sig) → Buf (Elt Bits) ℓ) : Prop :=
  True

def Pre_WInXbcIdeal (m : (ℓ : Loc Cert.WInXbcIdeal.nD Cert.WInXbcIdeal.τ Cert.WInXbcIdeal.sig) → Buf (Elt Ideal) ℓ) : Prop :=
  True

def Pre_WInXbcRefIdeal (m : (ℓ : Loc Cert.WInXbcRefIdeal.nD Cert.WInXbcRefIdeal.τ Cert.WInXbcRefIdeal.sig) → Buf (Elt Ideal) ℓ) : Prop :=
  True

def Pre_WInDt (m : (ℓ : Loc Cert.WInDt.nD Cert.WInDt.τ Cert.WInDt.sig) → Buf (Elt Bits) ℓ) : Prop :=
  True

def Pre_WInDtIdeal (m : (ℓ : Loc Cert.WInDtIdeal.nD Cert.WInDtIdeal.τ Cert.WInDtIdeal.sig) → Buf (Elt Ideal) ℓ) : Prop :=
  True

def Pre_WInDtRefIdeal (m : (ℓ : Loc Cert.WInDtRefIdeal.nD Cert.WInDtRefIdeal.τ Cert.WInDtRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1))
      ∧ r.2.sem = fun _ => 0)

def quiescent_WFf2 [hWFf2 : Cert.WFf2.Facts] : Prop :=
  ∀ (m : (ℓ : Loc Cert.WFf2.nD Cert.WFf2.τ Cert.WFf2.sig) → Buf (Elt Bits) ℓ) (g : Dev Cert.WFf2.nD → PrngReg), Pre_WFf2 m →
    θ_run (Cert.WFf2.defs (F := Bits)) (onTc (τ := Cert.WFf2.τ) (Cert.WFf2.main (F := Bits))) ⟨m, fun _ => 0, g⟩ (fun r => (∀ c : Dev Cert.WFf2.nD,
      r.2.mem ((c.tc : Thread Cert.WFf2.nD Cert.WFf2.τ).loc Cert.WFf2.main_arg0) = m ((c.tc : Thread Cert.WFf2.nD Cert.WFf2.τ).loc Cert.WFf2.main_arg0)
      ∧ r.2.mem ((c.tc : Thread Cert.WFf2.nD Cert.WFf2.τ).loc Cert.WFf2.main_arg1) = m ((c.tc : Thread Cert.WFf2.nD Cert.WFf2.τ).loc Cert.WFf2.main_arg1))
      ∧ r.2.sem = fun _ => 0)

def quiescent_WFf2Ideal [hWFf2Ideal : Cert.WFf2Ideal.Facts] : Prop :=
  ∀ (m : (ℓ : Loc Cert.WFf2Ideal.nD Cert.WFf2Ideal.τ Cert.WFf2Ideal.sig) → Buf (Elt Ideal) ℓ) (g : Dev Cert.WFf2Ideal.nD → PrngReg), Pre_WFf2Ideal m →
    θ_run (Cert.WFf2Ideal.defs (F := Ideal)) (onTc (τ := Cert.WFf2Ideal.τ) (Cert.WFf2Ideal.main (F := Ideal))) ⟨m, fun _ => 0, g⟩ (fun r => (∀ c : Dev Cert.WFf2Ideal.nD,
      r.2.mem ((c.tc : Thread Cert.WFf2Ideal.nD Cert.WFf2Ideal.τ).loc Cert.WFf2Ideal.main_arg0) = m ((c.tc : Thread Cert.WFf2Ideal.nD Cert.WFf2Ideal.τ).loc Cert.WFf2Ideal.main_arg0)
      ∧ r.2.mem ((c.tc : Thread Cert.WFf2Ideal.nD Cert.WFf2Ideal.τ).loc Cert.WFf2Ideal.main_arg1) = m ((c.tc : Thread Cert.WFf2Ideal.nD Cert.WFf2Ideal.τ).loc Cert.WFf2Ideal.main_arg1))
      ∧ r.2.sem = fun _ => 0)

def quiescent_WFf2RefIdeal [hWFf2RefIdeal : Cert.WFf2RefIdeal.Facts] : Prop :=
  ∀ (m : (ℓ : Loc Cert.WFf2RefIdeal.nD Cert.WFf2RefIdeal.τ Cert.WFf2RefIdeal.sig) → Buf (Elt Ideal) ℓ) (g : Dev Cert.WFf2RefIdeal.nD → PrngReg), Pre_WFf2RefIdeal m →
    θ_run (Cert.WFf2RefIdeal.defs (F := Ideal)) (onTc (τ := Cert.WFf2RefIdeal.τ) (Cert.WFf2RefIdeal.main (F := Ideal))) ⟨m, fun _ => 0, g⟩ (fun r => (∀ c : Dev Cert.WFf2RefIdeal.nD,
      r.2.mem ((c.tc : Thread Cert.WFf2RefIdeal.nD Cert.WFf2RefIdeal.τ).loc Cert.WFf2RefIdeal.main_arg0) = m ((c.tc : Thread Cert.WFf2RefIdeal.nD Cert.WFf2RefIdeal.τ).loc Cert.WFf2RefIdeal.main_arg0)
      ∧ r.2.mem ((c.tc : Thread Cert.WFf2RefIdeal.nD Cert.WFf2RefIdeal.τ).loc Cert.WFf2RefIdeal.main_arg1) = m ((c.tc : Thread Cert.WFf2RefIdeal.nD Cert.WFf2RefIdeal.τ).loc Cert.WFf2RefIdeal.main_arg1))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2))
      ∧ r.2.sem = fun _ => 0)

def quiescent_WFf1 [hWFf1 : Cert.WFf1.Facts] : Prop :=
  ∀ (m : (ℓ : Loc Cert.WFf1.nD Cert.WFf1.τ Cert.WFf1.sig) → Buf (Elt Bits) ℓ) (g : Dev Cert.WFf1.nD → PrngReg), Pre_WFf1 m →
    θ_run (Cert.WFf1.defs (F := Bits)) (onTc (τ := Cert.WFf1.τ) (Cert.WFf1.main (F := Bits))) ⟨m, fun _ => 0, g⟩ (fun r => (∀ c : Dev Cert.WFf1.nD,
      r.2.mem ((c.tc : Thread Cert.WFf1.nD Cert.WFf1.τ).loc Cert.WFf1.main_arg0) = m ((c.tc : Thread Cert.WFf1.nD Cert.WFf1.τ).loc Cert.WFf1.main_arg0)
      ∧ r.2.mem ((c.tc : Thread Cert.WFf1.nD Cert.WFf1.τ).loc Cert.WFf1.main_arg1) = m ((c.tc : Thread Cert.WFf1.nD Cert.WFf1.τ).loc Cert.WFf1.main_arg1))
      ∧ r.2.sem = fun _ => 0)

def quiescent_WFf1Ideal [hWFf1Ideal : Cert.WFf1Ideal.Facts] : Prop :=
  ∀ (m : (ℓ : Loc Cert.WFf1Ideal.nD Cert.WFf1Ideal.τ Cert.WFf1Ideal.sig) → Buf (Elt Ideal) ℓ) (g : Dev Cert.WFf1Ideal.nD → PrngReg), Pre_WFf1Ideal m →
    θ_run (Cert.WFf1Ideal.defs (F := Ideal)) (onTc (τ := Cert.WFf1Ideal.τ) (Cert.WFf1Ideal.main (F := Ideal))) ⟨m, fun _ => 0, g⟩ (fun r => (∀ c : Dev Cert.WFf1Ideal.nD,
      r.2.mem ((c.tc : Thread Cert.WFf1Ideal.nD Cert.WFf1Ideal.τ).loc Cert.WFf1Ideal.main_arg0) = m ((c.tc : Thread Cert.WFf1Ideal.nD Cert.WFf1Ideal.τ).loc Cert.WFf1Ideal.main_arg0)
      ∧ r.2.mem ((c.tc : Thread Cert.WFf1Ideal.nD Cert.WFf1Ideal.τ).loc Cert.WFf1Ideal.main_arg1) = m ((c.tc : Thread Cert.WFf1Ideal.nD Cert.WFf1Ideal.τ).loc Cert.WFf1Ideal.main_arg1))
      ∧ r.2.sem = fun _ => 0)

def quiescent_WFf1RefIdeal [hWFf1RefIdeal : Cert.WFf1RefIdeal.Facts] : Prop :=
  ∀ (m : (ℓ : Loc Cert.WFf1RefIdeal.nD Cert.WFf1RefIdeal.τ Cert.WFf1RefIdeal.sig) → Buf (Elt Ideal) ℓ) (g : Dev Cert.WFf1RefIdeal.nD → PrngReg), Pre_WFf1RefIdeal m →
    θ_run (Cert.WFf1RefIdeal.defs (F := Ideal)) (onTc (τ := Cert.WFf1RefIdeal.τ) (Cert.WFf1RefIdeal.main (F := Ideal))) ⟨m, fun _ => 0, g⟩ (fun r => (∀ c : Dev Cert.WFf1RefIdeal.nD,
      r.2.mem ((c.tc : Thread Cert.WFf1RefIdeal.nD Cert.WFf1RefIdeal.τ).loc Cert.WFf1RefIdeal.main_arg0) = m ((c.tc : Thread Cert.WFf1RefIdeal.nD Cert.WFf1RefIdeal.τ).loc Cert.WFf1RefIdeal.main_arg0)
      ∧ r.2.mem ((c.tc : Thread Cert.WFf1RefIdeal.nD Cert.WFf1RefIdeal.τ).loc Cert.WFf1RefIdeal.main_arg1) = m ((c.tc : Thread Cert.WFf1RefIdeal.nD Cert.WFf1RefIdeal.τ).loc Cert.WFf1RefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_Ycat [hYcat : Cert.Ycat.Facts] : Prop :=
  ∀ (m : (ℓ : Loc Cert.Ycat.nD Cert.Ycat.τ Cert.Ycat.sig) → Buf (Elt Bits) ℓ) (g : Dev Cert.Ycat.nD → PrngReg), Pre_Ycat m →
    θ_run (Cert.Ycat.defs (F := Bits)) (onTc (τ := Cert.Ycat.τ) (Cert.Ycat.main (F := Bits))) ⟨m, fun _ => 0, g⟩ (fun r => (∀ c : Dev Cert.Ycat.nD,
      r.2.mem ((c.tc : Thread Cert.Ycat.nD Cert.Ycat.τ).loc Cert.Ycat.main_arg0) = m ((c.tc : Thread Cert.Ycat.nD Cert.Ycat.τ).loc Cert.Ycat.main_arg0)
      ∧ r.2.mem ((c.tc : Thread Cert.Ycat.nD Cert.Ycat.τ).loc Cert.Ycat.main_arg1) = m ((c.tc : Thread Cert.Ycat.nD Cert.Ycat.τ).loc Cert.Ycat.main_arg1))
      ∧ r.2.sem = fun _ => 0)

def quiescent_YcatIdeal [hYcatIdeal : Cert.YcatIdeal.Facts] : Prop :=
  ∀ (m : (ℓ : Loc Cert.YcatIdeal.nD Cert.YcatIdeal.τ Cert.YcatIdeal.sig) → Buf (Elt Ideal) ℓ) (g : Dev Cert.YcatIdeal.nD → PrngReg), Pre_YcatIdeal m →
    θ_run (Cert.YcatIdeal.defs (F := Ideal)) (onTc (τ := Cert.YcatIdeal.τ) (Cert.YcatIdeal.main (F := Ideal))) ⟨m, fun _ => 0, g⟩ (fun r => (∀ c : Dev Cert.YcatIdeal.nD,
      r.2.mem ((c.tc : Thread Cert.YcatIdeal.nD Cert.YcatIdeal.τ).loc Cert.YcatIdeal.main_arg0) = m ((c.tc : Thread Cert.YcatIdeal.nD Cert.YcatIdeal.τ).loc Cert.YcatIdeal.main_arg0)
      ∧ r.2.mem ((c.tc : Thread Cert.YcatIdeal.nD Cert.YcatIdeal.τ).loc Cert.YcatIdeal.main_arg1) = m ((c.tc : Thread Cert.YcatIdeal.nD Cert.YcatIdeal.τ).loc Cert.YcatIdeal.main_arg1))
      ∧ r.2.sem = fun _ => 0)

def quiescent_YcatRefIdeal [hYcatRefIdeal : Cert.YcatRefIdeal.Facts] : Prop :=
  ∀ (m : (ℓ : Loc Cert.YcatRefIdeal.nD Cert.YcatRefIdeal.τ Cert.YcatRefIdeal.sig) → Buf (Elt Ideal) ℓ) (g : Dev Cert.YcatRefIdeal.nD → PrngReg), Pre_YcatRefIdeal m →
    θ_run (Cert.YcatRefIdeal.defs (F := Ideal)) (onTc (τ := Cert.YcatRefIdeal.τ) (Cert.YcatRefIdeal.main (F := Ideal))) ⟨m, fun _ => 0, g⟩ (fun r => (∀ c : Dev Cert.YcatRefIdeal.nD,
      r.2.mem ((c.tc : Thread Cert.YcatRefIdeal.nD Cert.YcatRefIdeal.τ).loc Cert.YcatRefIdeal.main_arg0) = m ((c.tc : Thread Cert.YcatRefIdeal.nD Cert.YcatRefIdeal.τ).loc Cert.YcatRefIdeal.main_arg0)
      ∧ r.2.mem ((c.tc : Thread Cert.YcatRefIdeal.nD Cert.YcatRefIdeal.τ).loc Cert.YcatRefIdeal.main_arg1) = m ((c.tc : Thread Cert.YcatRefIdeal.nD Cert.YcatRefIdeal.τ).loc Cert.YcatRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_FfTwo [hFfTwo : Cert.FfTwo.Facts] : Prop :=
  ∀ (m : (ℓ : Loc Cert.FfTwo.nD Cert.FfTwo.τ Cert.FfTwo.sig) → Buf (Elt Bits) ℓ) (g : Dev Cert.FfTwo.nD → PrngReg), Pre_FfTwo m →
    θ_run (Cert.FfTwo.defs (F := Bits)) (onTc (τ := Cert.FfTwo.τ) (Cert.FfTwo.main (F := Bits))) ⟨m, fun _ => 0, g⟩ (fun r => (∀ c : Dev Cert.FfTwo.nD,
      r.2.mem ((c.tc : Thread Cert.FfTwo.nD Cert.FfTwo.τ).loc Cert.FfTwo.main_arg0) = m ((c.tc : Thread Cert.FfTwo.nD Cert.FfTwo.τ).loc Cert.FfTwo.main_arg0)
      ∧ r.2.mem ((c.tc : Thread Cert.FfTwo.nD Cert.FfTwo.τ).loc Cert.FfTwo.main_arg1) = m ((c.tc : Thread Cert.FfTwo.nD Cert.FfTwo.τ).loc Cert.FfTwo.main_arg1)
      ∧ r.2.mem ((c.tc : Thread Cert.FfTwo.nD Cert.FfTwo.τ).loc Cert.FfTwo.main_arg2) = m ((c.tc : Thread Cert.FfTwo.nD Cert.FfTwo.τ).loc Cert.FfTwo.main_arg2)
      ∧ r.2.mem ((c.tc : Thread Cert.FfTwo.nD Cert.FfTwo.τ).loc Cert.FfTwo.main_arg3) = m ((c.tc : Thread Cert.FfTwo.nD Cert.FfTwo.τ).loc Cert.FfTwo.main_arg3)
      ∧ r.2.mem ((c.tc : Thread Cert.FfTwo.nD Cert.FfTwo.τ).loc Cert.FfTwo.main_arg4) = m ((c.tc : Thread Cert.FfTwo.nD Cert.FfTwo.τ).loc Cert.FfTwo.main_arg4))
      ∧ r.2.sem = fun _ => 0)

def quiescent_FfTwoIdeal [hFfTwoIdeal : Cert.FfTwoIdeal.Facts] : Prop :=
  ∀ (m : (ℓ : Loc Cert.FfTwoIdeal.nD Cert.FfTwoIdeal.τ Cert.FfTwoIdeal.sig) → Buf (Elt Ideal) ℓ) (g : Dev Cert.FfTwoIdeal.nD → PrngReg), Pre_FfTwoIdeal m →
    θ_run (Cert.FfTwoIdeal.defs (F := Ideal)) (onTc (τ := Cert.FfTwoIdeal.τ) (Cert.FfTwoIdeal.main (F := Ideal))) ⟨m, fun _ => 0, g⟩ (fun r => (∀ c : Dev Cert.FfTwoIdeal.nD,
      r.2.mem ((c.tc : Thread Cert.FfTwoIdeal.nD Cert.FfTwoIdeal.τ).loc Cert.FfTwoIdeal.main_arg0) = m ((c.tc : Thread Cert.FfTwoIdeal.nD Cert.FfTwoIdeal.τ).loc Cert.FfTwoIdeal.main_arg0)
      ∧ r.2.mem ((c.tc : Thread Cert.FfTwoIdeal.nD Cert.FfTwoIdeal.τ).loc Cert.FfTwoIdeal.main_arg1) = m ((c.tc : Thread Cert.FfTwoIdeal.nD Cert.FfTwoIdeal.τ).loc Cert.FfTwoIdeal.main_arg1)
      ∧ r.2.mem ((c.tc : Thread Cert.FfTwoIdeal.nD Cert.FfTwoIdeal.τ).loc Cert.FfTwoIdeal.main_arg2) = m ((c.tc : Thread Cert.FfTwoIdeal.nD Cert.FfTwoIdeal.τ).loc Cert.FfTwoIdeal.main_arg2)
      ∧ r.2.mem ((c.tc : Thread Cert.FfTwoIdeal.nD Cert.FfTwoIdeal.τ).loc Cert.FfTwoIdeal.main_arg3) = m ((c.tc : Thread Cert.FfTwoIdeal.nD Cert.FfTwoIdeal.τ).loc Cert.FfTwoIdeal.main_arg3)
      ∧ r.2.mem ((c.tc : Thread Cert.FfTwoIdeal.nD Cert.FfTwoIdeal.τ).loc Cert.FfTwoIdeal.main_arg4) = m ((c.tc : Thread Cert.FfTwoIdeal.nD Cert.FfTwoIdeal.τ).loc Cert.FfTwoIdeal.main_arg4))
      ∧ r.2.sem = fun _ => 0)

def quiescent_FfTwoRefIdeal [hFfTwoRefIdeal : Cert.FfTwoRefIdeal.Facts] : Prop :=
  ∀ (m : (ℓ : Loc Cert.FfTwoRefIdeal.nD Cert.FfTwoRefIdeal.τ Cert.FfTwoRefIdeal.sig) → Buf (Elt Ideal) ℓ) (g : Dev Cert.FfTwoRefIdeal.nD → PrngReg), Pre_FfTwoRefIdeal m →
    θ_run (Cert.FfTwoRefIdeal.defs (F := Ideal)) (onTc (τ := Cert.FfTwoRefIdeal.τ) (Cert.FfTwoRefIdeal.main (F := Ideal))) ⟨m, fun _ => 0, g⟩ (fun r => (∀ c : Dev Cert.FfTwoRefIdeal.nD,
      r.2.mem ((c.tc : Thread Cert.FfTwoRefIdeal.nD Cert.FfTwoRefIdeal.τ).loc Cert.FfTwoRefIdeal.main_arg0) = m ((c.tc : Thread Cert.FfTwoRefIdeal.nD Cert.FfTwoRefIdeal.τ).loc Cert.FfTwoRefIdeal.main_arg0)
      ∧ r.2.mem ((c.tc : Thread Cert.FfTwoRefIdeal.nD Cert.FfTwoRefIdeal.τ).loc Cert.FfTwoRefIdeal.main_arg1) = m ((c.tc : Thread Cert.FfTwoRefIdeal.nD Cert.FfTwoRefIdeal.τ).loc Cert.FfTwoRefIdeal.main_arg1)
      ∧ r.2.mem ((c.tc : Thread Cert.FfTwoRefIdeal.nD Cert.FfTwoRefIdeal.τ).loc Cert.FfTwoRefIdeal.main_arg2) = m ((c.tc : Thread Cert.FfTwoRefIdeal.nD Cert.FfTwoRefIdeal.τ).loc Cert.FfTwoRefIdeal.main_arg2)
      ∧ r.2.mem ((c.tc : Thread Cert.FfTwoRefIdeal.nD Cert.FfTwoRefIdeal.τ).loc Cert.FfTwoRefIdeal.main_arg3) = m ((c.tc : Thread Cert.FfTwoRefIdeal.nD Cert.FfTwoRefIdeal.τ).loc Cert.FfTwoRefIdeal.main_arg3)
      ∧ r.2.mem ((c.tc : Thread Cert.FfTwoRefIdeal.nD Cert.FfTwoRefIdeal.τ).loc Cert.FfTwoRefIdeal.main_arg4) = m ((c.tc : Thread Cert.FfTwoRefIdeal.nD Cert.FfTwoRefIdeal.τ).loc Cert.FfTwoRefIdeal.main_arg4))
      ∧ r.2.sem = fun _ => 0)

def quiescent_WInG [hWInG : Cert.WInG.Facts] : Prop :=
  ∀ (m : (ℓ : Loc Cert.WInG.nD Cert.WInG.τ Cert.WInG.sig) → Buf (Elt Bits) ℓ) (g : Dev Cert.WInG.nD → PrngReg), Pre_WInG m →
    θ_run (Cert.WInG.defs (F := Bits)) (onTc (τ := Cert.WInG.τ) (Cert.WInG.main (F := Bits))) ⟨m, fun _ => 0, g⟩ (fun r => (∀ c : Dev Cert.WInG.nD,
      r.2.mem ((c.tc : Thread Cert.WInG.nD Cert.WInG.τ).loc Cert.WInG.main_arg0) = m ((c.tc : Thread Cert.WInG.nD Cert.WInG.τ).loc Cert.WInG.main_arg0)
      ∧ r.2.mem ((c.tc : Thread Cert.WInG.nD Cert.WInG.τ).loc Cert.WInG.main_arg1) = m ((c.tc : Thread Cert.WInG.nD Cert.WInG.τ).loc Cert.WInG.main_arg1)
      ∧ r.2.mem ((c.tc : Thread Cert.WInG.nD Cert.WInG.τ).loc Cert.WInG.main_arg2) = m ((c.tc : Thread Cert.WInG.nD Cert.WInG.τ).loc Cert.WInG.main_arg2))
      ∧ r.2.sem = fun _ => 0)

def quiescent_WInGIdeal [hWInGIdeal : Cert.WInGIdeal.Facts] : Prop :=
  ∀ (m : (ℓ : Loc Cert.WInGIdeal.nD Cert.WInGIdeal.τ Cert.WInGIdeal.sig) → Buf (Elt Ideal) ℓ) (g : Dev Cert.WInGIdeal.nD → PrngReg), Pre_WInGIdeal m →
    θ_run (Cert.WInGIdeal.defs (F := Ideal)) (onTc (τ := Cert.WInGIdeal.τ) (Cert.WInGIdeal.main (F := Ideal))) ⟨m, fun _ => 0, g⟩ (fun r => (∀ c : Dev Cert.WInGIdeal.nD,
      r.2.mem ((c.tc : Thread Cert.WInGIdeal.nD Cert.WInGIdeal.τ).loc Cert.WInGIdeal.main_arg0) = m ((c.tc : Thread Cert.WInGIdeal.nD Cert.WInGIdeal.τ).loc Cert.WInGIdeal.main_arg0)
      ∧ r.2.mem ((c.tc : Thread Cert.WInGIdeal.nD Cert.WInGIdeal.τ).loc Cert.WInGIdeal.main_arg1) = m ((c.tc : Thread Cert.WInGIdeal.nD Cert.WInGIdeal.τ).loc Cert.WInGIdeal.main_arg1)
      ∧ r.2.mem ((c.tc : Thread Cert.WInGIdeal.nD Cert.WInGIdeal.τ).loc Cert.WInGIdeal.main_arg2) = m ((c.tc : Thread Cert.WInGIdeal.nD Cert.WInGIdeal.τ).loc Cert.WInGIdeal.main_arg2))
      ∧ r.2.sem = fun _ => 0)

def quiescent_WInGRefIdeal [hWInGRefIdeal : Cert.WInGRefIdeal.Facts] : Prop :=
  ∀ (m : (ℓ : Loc Cert.WInGRefIdeal.nD Cert.WInGRefIdeal.τ Cert.WInGRefIdeal.sig) → Buf (Elt Ideal) ℓ) (g : Dev Cert.WInGRefIdeal.nD → PrngReg), Pre_WInGRefIdeal m →
    θ_run (Cert.WInGRefIdeal.defs (F := Ideal)) (onTc (τ := Cert.WInGRefIdeal.τ) (Cert.WInGRefIdeal.main (F := Ideal))) ⟨m, fun _ => 0, g⟩ (fun r => (∀ c : Dev Cert.WInGRefIdeal.nD,
      r.2.mem ((c.tc : Thread Cert.WInGRefIdeal.nD Cert.WInGRefIdeal.τ).loc Cert.WInGRefIdeal.main_arg0) = m ((c.tc : Thread Cert.WInGRefIdeal.nD Cert.WInGRefIdeal.τ).loc Cert.WInGRefIdeal.main_arg0)
      ∧ r.2.mem ((c.tc : Thread Cert.WInGRefIdeal.nD Cert.WInGRefIdeal.τ).loc Cert.WInGRefIdeal.main_arg1) = m ((c.tc : Thread Cert.WInGRefIdeal.nD Cert.WInGRefIdeal.τ).loc Cert.WInGRefIdeal.main_arg1)
      ∧ r.2.mem ((c.tc : Thread Cert.WInGRefIdeal.nD Cert.WInGRefIdeal.τ).loc Cert.WInGRefIdeal.main_arg2) = m ((c.tc : Thread Cert.WInGRefIdeal.nD Cert.WInGRefIdeal.τ).loc Cert.WInGRefIdeal.main_arg2))
      ∧ r.2.sem = fun _ => 0)

def quiescent_WInZ [hWInZ : Cert.WInZ.Facts] : Prop :=
  ∀ (m : (ℓ : Loc Cert.WInZ.nD Cert.WInZ.τ Cert.WInZ.sig) → Buf (Elt Bits) ℓ) (g : Dev Cert.WInZ.nD → PrngReg), Pre_WInZ m →
    θ_run (Cert.WInZ.defs (F := Bits)) (onTc (τ := Cert.WInZ.τ) (Cert.WInZ.main (F := Bits))) ⟨m, fun _ => 0, g⟩ (fun r => (∀ c : Dev Cert.WInZ.nD,
      r.2.mem ((c.tc : Thread Cert.WInZ.nD Cert.WInZ.τ).loc Cert.WInZ.main_arg0) = m ((c.tc : Thread Cert.WInZ.nD Cert.WInZ.τ).loc Cert.WInZ.main_arg0)
      ∧ r.2.mem ((c.tc : Thread Cert.WInZ.nD Cert.WInZ.τ).loc Cert.WInZ.main_arg1) = m ((c.tc : Thread Cert.WInZ.nD Cert.WInZ.τ).loc Cert.WInZ.main_arg1)
      ∧ r.2.mem ((c.tc : Thread Cert.WInZ.nD Cert.WInZ.τ).loc Cert.WInZ.main_arg2) = m ((c.tc : Thread Cert.WInZ.nD Cert.WInZ.τ).loc Cert.WInZ.main_arg2))
      ∧ r.2.sem = fun _ => 0)

def quiescent_WInZIdeal [hWInZIdeal : Cert.WInZIdeal.Facts] : Prop :=
  ∀ (m : (ℓ : Loc Cert.WInZIdeal.nD Cert.WInZIdeal.τ Cert.WInZIdeal.sig) → Buf (Elt Ideal) ℓ) (g : Dev Cert.WInZIdeal.nD → PrngReg), Pre_WInZIdeal m →
    θ_run (Cert.WInZIdeal.defs (F := Ideal)) (onTc (τ := Cert.WInZIdeal.τ) (Cert.WInZIdeal.main (F := Ideal))) ⟨m, fun _ => 0, g⟩ (fun r => (∀ c : Dev Cert.WInZIdeal.nD,
      r.2.mem ((c.tc : Thread Cert.WInZIdeal.nD Cert.WInZIdeal.τ).loc Cert.WInZIdeal.main_arg0) = m ((c.tc : Thread Cert.WInZIdeal.nD Cert.WInZIdeal.τ).loc Cert.WInZIdeal.main_arg0)
      ∧ r.2.mem ((c.tc : Thread Cert.WInZIdeal.nD Cert.WInZIdeal.τ).loc Cert.WInZIdeal.main_arg1) = m ((c.tc : Thread Cert.WInZIdeal.nD Cert.WInZIdeal.τ).loc Cert.WInZIdeal.main_arg1)
      ∧ r.2.mem ((c.tc : Thread Cert.WInZIdeal.nD Cert.WInZIdeal.τ).loc Cert.WInZIdeal.main_arg2) = m ((c.tc : Thread Cert.WInZIdeal.nD Cert.WInZIdeal.τ).loc Cert.WInZIdeal.main_arg2))
      ∧ r.2.sem = fun _ => 0)

def quiescent_WInZRefIdeal [hWInZRefIdeal : Cert.WInZRefIdeal.Facts] : Prop :=
  ∀ (m : (ℓ : Loc Cert.WInZRefIdeal.nD Cert.WInZRefIdeal.τ Cert.WInZRefIdeal.sig) → Buf (Elt Ideal) ℓ) (g : Dev Cert.WInZRefIdeal.nD → PrngReg), Pre_WInZRefIdeal m →
    θ_run (Cert.WInZRefIdeal.defs (F := Ideal)) (onTc (τ := Cert.WInZRefIdeal.τ) (Cert.WInZRefIdeal.main (F := Ideal))) ⟨m, fun _ => 0, g⟩ (fun r => (∀ c : Dev Cert.WInZRefIdeal.nD,
      r.2.mem ((c.tc : Thread Cert.WInZRefIdeal.nD Cert.WInZRefIdeal.τ).loc Cert.WInZRefIdeal.main_arg0) = m ((c.tc : Thread Cert.WInZRefIdeal.nD Cert.WInZRefIdeal.τ).loc Cert.WInZRefIdeal.main_arg0)
      ∧ r.2.mem ((c.tc : Thread Cert.WInZRefIdeal.nD Cert.WInZRefIdeal.τ).loc Cert.WInZRefIdeal.main_arg1) = m ((c.tc : Thread Cert.WInZRefIdeal.nD Cert.WInZRefIdeal.τ).loc Cert.WInZRefIdeal.main_arg1)
      ∧ r.2.mem ((c.tc : Thread Cert.WInZRefIdeal.nD Cert.WInZRefIdeal.τ).loc Cert.WInZRefIdeal.main_arg2) = m ((c.tc : Thread Cert.WInZRefIdeal.nD Cert.WInZRefIdeal.τ).loc Cert.WInZRefIdeal.main_arg2))
      ∧ r.2.sem = fun _ => 0)

def quiescent_WInXbc [hWInXbc : Cert.WInXbc.Facts] : Prop :=
  ∀ (m : (ℓ : Loc Cert.WInXbc.nD Cert.WInXbc.τ Cert.WInXbc.sig) → Buf (Elt Bits) ℓ) (g : Dev Cert.WInXbc.nD → PrngReg), Pre_WInXbc m →
    θ_run (Cert.WInXbc.defs (F := Bits)) (onTc (τ := Cert.WInXbc.τ) (Cert.WInXbc.main (F := Bits))) ⟨m, fun _ => 0, g⟩ (fun r => (∀ c : Dev Cert.WInXbc.nD,
      r.2.mem ((c.tc : Thread Cert.WInXbc.nD Cert.WInXbc.τ).loc Cert.WInXbc.main_arg0) = m ((c.tc : Thread Cert.WInXbc.nD Cert.WInXbc.τ).loc Cert.WInXbc.main_arg0)
      ∧ r.2.mem ((c.tc : Thread Cert.WInXbc.nD Cert.WInXbc.τ).loc Cert.WInXbc.main_arg1) = m ((c.tc : Thread Cert.WInXbc.nD Cert.WInXbc.τ).loc Cert.WInXbc.main_arg1)
      ∧ r.2.mem ((c.tc : Thread Cert.WInXbc.nD Cert.WInXbc.τ).loc Cert.WInXbc.main_arg2) = m ((c.tc : Thread Cert.WInXbc.nD Cert.WInXbc.τ).loc Cert.WInXbc.main_arg2))
      ∧ r.2.sem = fun _ => 0)

def quiescent_WInXbcIdeal [hWInXbcIdeal : Cert.WInXbcIdeal.Facts] : Prop :=
  ∀ (m : (ℓ : Loc Cert.WInXbcIdeal.nD Cert.WInXbcIdeal.τ Cert.WInXbcIdeal.sig) → Buf (Elt Ideal) ℓ) (g : Dev Cert.WInXbcIdeal.nD → PrngReg), Pre_WInXbcIdeal m →
    θ_run (Cert.WInXbcIdeal.defs (F := Ideal)) (onTc (τ := Cert.WInXbcIdeal.τ) (Cert.WInXbcIdeal.main (F := Ideal))) ⟨m, fun _ => 0, g⟩ (fun r => (∀ c : Dev Cert.WInXbcIdeal.nD,
      r.2.mem ((c.tc : Thread Cert.WInXbcIdeal.nD Cert.WInXbcIdeal.τ).loc Cert.WInXbcIdeal.main_arg0) = m ((c.tc : Thread Cert.WInXbcIdeal.nD Cert.WInXbcIdeal.τ).loc Cert.WInXbcIdeal.main_arg0)
      ∧ r.2.mem ((c.tc : Thread Cert.WInXbcIdeal.nD Cert.WInXbcIdeal.τ).loc Cert.WInXbcIdeal.main_arg1) = m ((c.tc : Thread Cert.WInXbcIdeal.nD Cert.WInXbcIdeal.τ).loc Cert.WInXbcIdeal.main_arg1)
      ∧ r.2.mem ((c.tc : Thread Cert.WInXbcIdeal.nD Cert.WInXbcIdeal.τ).loc Cert.WInXbcIdeal.main_arg2) = m ((c.tc : Thread Cert.WInXbcIdeal.nD Cert.WInXbcIdeal.τ).loc Cert.WInXbcIdeal.main_arg2))
      ∧ r.2.sem = fun _ => 0)

def quiescent_WInXbcRefIdeal [hWInXbcRefIdeal : Cert.WInXbcRefIdeal.Facts] : Prop :=
  ∀ (m : (ℓ : Loc Cert.WInXbcRefIdeal.nD Cert.WInXbcRefIdeal.τ Cert.WInXbcRefIdeal.sig) → Buf (Elt Ideal) ℓ) (g : Dev Cert.WInXbcRefIdeal.nD → PrngReg), Pre_WInXbcRefIdeal m →
    θ_run (Cert.WInXbcRefIdeal.defs (F := Ideal)) (onTc (τ := Cert.WInXbcRefIdeal.τ) (Cert.WInXbcRefIdeal.main (F := Ideal))) ⟨m, fun _ => 0, g⟩ (fun r => (∀ c : Dev Cert.WInXbcRefIdeal.nD,
      r.2.mem ((c.tc : Thread Cert.WInXbcRefIdeal.nD Cert.WInXbcRefIdeal.τ).loc Cert.WInXbcRefIdeal.main_arg0) = m ((c.tc : Thread Cert.WInXbcRefIdeal.nD Cert.WInXbcRefIdeal.τ).loc Cert.WInXbcRefIdeal.main_arg0)
      ∧ r.2.mem ((c.tc : Thread Cert.WInXbcRefIdeal.nD Cert.WInXbcRefIdeal.τ).loc Cert.WInXbcRefIdeal.main_arg1) = m ((c.tc : Thread Cert.WInXbcRefIdeal.nD Cert.WInXbcRefIdeal.τ).loc Cert.WInXbcRefIdeal.main_arg1)
      ∧ r.2.mem ((c.tc : Thread Cert.WInXbcRefIdeal.nD Cert.WInXbcRefIdeal.τ).loc Cert.WInXbcRefIdeal.main_arg2) = m ((c.tc : Thread Cert.WInXbcRefIdeal.nD Cert.WInXbcRefIdeal.τ).loc Cert.WInXbcRefIdeal.main_arg2))
      ∧ r.2.sem = fun _ => 0)

def quiescent_WInDt [hWInDt : Cert.WInDt.Facts] : Prop :=
  ∀ (m : (ℓ : Loc Cert.WInDt.nD Cert.WInDt.τ Cert.WInDt.sig) → Buf (Elt Bits) ℓ) (g : Dev Cert.WInDt.nD → PrngReg), Pre_WInDt m →
    θ_run (Cert.WInDt.defs (F := Bits)) (onTc (τ := Cert.WInDt.τ) (Cert.WInDt.main (F := Bits))) ⟨m, fun _ => 0, g⟩ (fun r => (∀ c : Dev Cert.WInDt.nD,
      r.2.mem ((c.tc : Thread Cert.WInDt.nD Cert.WInDt.τ).loc Cert.WInDt.main_arg0) = m ((c.tc : Thread Cert.WInDt.nD Cert.WInDt.τ).loc Cert.WInDt.main_arg0)
      ∧ r.2.mem ((c.tc : Thread Cert.WInDt.nD Cert.WInDt.τ).loc Cert.WInDt.main_arg1) = m ((c.tc : Thread Cert.WInDt.nD Cert.WInDt.τ).loc Cert.WInDt.main_arg1)
      ∧ r.2.mem ((c.tc : Thread Cert.WInDt.nD Cert.WInDt.τ).loc Cert.WInDt.main_arg2) = m ((c.tc : Thread Cert.WInDt.nD Cert.WInDt.τ).loc Cert.WInDt.main_arg2))
      ∧ r.2.sem = fun _ => 0)

def quiescent_WInDtIdeal [hWInDtIdeal : Cert.WInDtIdeal.Facts] : Prop :=
  ∀ (m : (ℓ : Loc Cert.WInDtIdeal.nD Cert.WInDtIdeal.τ Cert.WInDtIdeal.sig) → Buf (Elt Ideal) ℓ) (g : Dev Cert.WInDtIdeal.nD → PrngReg), Pre_WInDtIdeal m →
    θ_run (Cert.WInDtIdeal.defs (F := Ideal)) (onTc (τ := Cert.WInDtIdeal.τ) (Cert.WInDtIdeal.main (F := Ideal))) ⟨m, fun _ => 0, g⟩ (fun r => (∀ c : Dev Cert.WInDtIdeal.nD,
      r.2.mem ((c.tc : Thread Cert.WInDtIdeal.nD Cert.WInDtIdeal.τ).loc Cert.WInDtIdeal.main_arg0) = m ((c.tc : Thread Cert.WInDtIdeal.nD Cert.WInDtIdeal.τ).loc Cert.WInDtIdeal.main_arg0)
      ∧ r.2.mem ((c.tc : Thread Cert.WInDtIdeal.nD Cert.WInDtIdeal.τ).loc Cert.WInDtIdeal.main_arg1) = m ((c.tc : Thread Cert.WInDtIdeal.nD Cert.WInDtIdeal.τ).loc Cert.WInDtIdeal.main_arg1)
      ∧ r.2.mem ((c.tc : Thread Cert.WInDtIdeal.nD Cert.WInDtIdeal.τ).loc Cert.WInDtIdeal.main_arg2) = m ((c.tc : Thread Cert.WInDtIdeal.nD Cert.WInDtIdeal.τ).loc Cert.WInDtIdeal.main_arg2))
      ∧ r.2.sem = fun _ => 0)

def quiescent_WInDtRefIdeal [hWInDtRefIdeal : Cert.WInDtRefIdeal.Facts] : Prop :=
  ∀ (m : (ℓ : Loc Cert.WInDtRefIdeal.nD Cert.WInDtRefIdeal.τ Cert.WInDtRefIdeal.sig) → Buf (Elt Ideal) ℓ) (g : Dev Cert.WInDtRefIdeal.nD → PrngReg), Pre_WInDtRefIdeal m →
    θ_run (Cert.WInDtRefIdeal.defs (F := Ideal)) (onTc (τ := Cert.WInDtRefIdeal.τ) (Cert.WInDtRefIdeal.main (F := Ideal))) ⟨m, fun _ => 0, g⟩ (fun r => (∀ c : Dev Cert.WInDtRefIdeal.nD,
      r.2.mem ((c.tc : Thread Cert.WInDtRefIdeal.nD Cert.WInDtRefIdeal.τ).loc Cert.WInDtRefIdeal.main_arg0) = m ((c.tc : Thread Cert.WInDtRefIdeal.nD Cert.WInDtRefIdeal.τ).loc Cert.WInDtRefIdeal.main_arg0)
      ∧ r.2.mem ((c.tc : Thread Cert.WInDtRefIdeal.nD Cert.WInDtRefIdeal.τ).loc Cert.WInDtRefIdeal.main_arg1) = m ((c.tc : Thread Cert.WInDtRefIdeal.nD Cert.WInDtRefIdeal.τ).loc Cert.WInDtRefIdeal.main_arg1)
      ∧ r.2.mem ((c.tc : Thread Cert.WInDtRefIdeal.nD Cert.WInDtRefIdeal.τ).loc Cert.WInDtRefIdeal.main_arg2) = m ((c.tc : Thread Cert.WInDtRefIdeal.nD Cert.WInDtRefIdeal.τ).loc Cert.WInDtRefIdeal.main_arg2))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v137_0)) (v1 : (c : Dev Cert.KernelIdeal.nD) → Buf (Elt Ideal) ((c.tc : Thread Cert.KernelIdeal.nD Cert.KernelIdeal.τ).loc Cert.KernelIdeal.main_v137_1)) (v2 : (c : Dev Cert.KernelIdeal.nD) → Buf (Elt Ideal) ((c.tc : Thread Cert.KernelIdeal.nD Cert.KernelIdeal.τ).loc Cert.KernelIdeal.main_v138)) (v3 : (c : Dev Cert.KernelIdeal.nD) → Buf (Elt Ideal) ((c.tc : Thread Cert.KernelIdeal.nD Cert.KernelIdeal.τ).loc Cert.KernelIdeal.main_v139)) (v4 : (c : Dev Cert.KernelIdeal.nD) → Buf (Elt Ideal) ((c.tc : Thread Cert.KernelIdeal.nD Cert.KernelIdeal.τ).loc Cert.KernelIdeal.main_v149)) (v5 : (c : Dev Cert.KernelIdeal.nD) → Buf (Elt Ideal) ((c.tc : Thread Cert.KernelIdeal.nD Cert.KernelIdeal.τ).loc Cert.KernelIdeal.main_v151)) (v6 : (c : Dev Cert.KernelIdeal.nD) → Buf (Elt Ideal) ((c.tc : Thread Cert.KernelIdeal.nD Cert.KernelIdeal.τ).loc Cert.KernelIdeal.main_v161)) (v7 : (c : Dev Cert.KernelIdeal.nD) → Buf (Elt Ideal) ((c.tc : Thread Cert.KernelIdeal.nD Cert.KernelIdeal.τ).loc Cert.KernelIdeal.main_v163)) (v8 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137_0) = v0 c
          ∧ r.2.mem ((c.tc : Thread Cert.KernelIdeal.nD Cert.KernelIdeal.τ).loc Cert.KernelIdeal.main_v137_1) = v1 c
          ∧ r.2.mem ((c.tc : Thread Cert.KernelIdeal.nD Cert.KernelIdeal.τ).loc Cert.KernelIdeal.main_v138) = v2 c
          ∧ r.2.mem ((c.tc : Thread Cert.KernelIdeal.nD Cert.KernelIdeal.τ).loc Cert.KernelIdeal.main_v139) = v3 c
          ∧ r.2.mem ((c.tc : Thread Cert.KernelIdeal.nD Cert.KernelIdeal.τ).loc Cert.KernelIdeal.main_v149) = v4 c
          ∧ r.2.mem ((c.tc : Thread Cert.KernelIdeal.nD Cert.KernelIdeal.τ).loc Cert.KernelIdeal.main_v151) = v5 c
          ∧ r.2.mem ((c.tc : Thread Cert.KernelIdeal.nD Cert.KernelIdeal.τ).loc Cert.KernelIdeal.main_v161) = v6 c
          ∧ r.2.mem ((c.tc : Thread Cert.KernelIdeal.nD Cert.KernelIdeal.τ).loc Cert.KernelIdeal.main_v163) = v7 c
          ∧ r.2.mem ((c.tc : Thread Cert.KernelIdeal.nD Cert.KernelIdeal.τ).loc Cert.KernelIdeal.main_v164) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_v255) = v1 c
          ∧ r.2.mem ((c.tc : Thread Cert.ReferenceIdeal.nD Cert.ReferenceIdeal.τ).loc Cert.ReferenceIdeal.main_v235) = v2 c
          ∧ r.2.mem ((c.tc : Thread Cert.ReferenceIdeal.nD Cert.ReferenceIdeal.τ).loc Cert.ReferenceIdeal.main_v195) = v3 c
          ∧ r.2.mem ((c.tc : Thread Cert.ReferenceIdeal.nD Cert.ReferenceIdeal.τ).loc Cert.ReferenceIdeal.main_v191) = v4 c
          ∧ r.2.mem ((c.tc : Thread Cert.ReferenceIdeal.nD Cert.ReferenceIdeal.τ).loc Cert.ReferenceIdeal.main_v185) = v5 c
          ∧ r.2.mem ((c.tc : Thread Cert.ReferenceIdeal.nD Cert.ReferenceIdeal.τ).loc Cert.ReferenceIdeal.main_v181) = v6 c
          ∧ r.2.mem ((c.tc : Thread Cert.ReferenceIdeal.nD Cert.ReferenceIdeal.τ).loc Cert.ReferenceIdeal.main_v176) = v7 c
          ∧ r.2.mem ((c.tc : Thread Cert.ReferenceIdeal.nD Cert.ReferenceIdeal.τ).loc Cert.ReferenceIdeal.main_v168) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v6) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v7) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1))

def preserves_WFf2_WFf2Ideal : Prop :=
  True

def algebraic_WFf2Ideal_WFf2RefIdeal [hWFf2Ideal : Cert.WFf2Ideal.Facts] [hWFf2RefIdeal : Cert.WFf2RefIdeal.Facts] : Prop :=
  ∀ (m : (ℓ : Loc Cert.WFf2Ideal.nD Cert.WFf2Ideal.τ Cert.WFf2Ideal.sig) → Buf (Elt Ideal) ℓ) (g : Dev Cert.WFf2Ideal.nD → PrngReg)
    (m' : (ℓ : Loc Cert.WFf2RefIdeal.nD Cert.WFf2RefIdeal.τ Cert.WFf2RefIdeal.sig) → Buf (Elt Ideal) ℓ) (g' : Dev Cert.WFf2RefIdeal.nD → PrngReg), Pre_WFf2Ideal m →
    (∀ c : Dev Cert.WFf2Ideal.nD,
      m' ((c.tc : Thread Cert.WFf2RefIdeal.nD Cert.WFf2RefIdeal.τ).loc Cert.WFf2RefIdeal.main_arg0) = m ((c.tc : Thread Cert.WFf2Ideal.nD Cert.WFf2Ideal.τ).loc Cert.WFf2Ideal.main_arg0)
      ∧ m' ((c.tc : Thread Cert.WFf2RefIdeal.nD Cert.WFf2RefIdeal.τ).loc Cert.WFf2RefIdeal.main_arg1) = m ((c.tc : Thread Cert.WFf2Ideal.nD Cert.WFf2Ideal.τ).loc Cert.WFf2Ideal.main_arg1)) →
    ∃ (v0 : (c : Dev Cert.WFf2Ideal.nD) → Buf (Elt Ideal) ((c.tc : Thread Cert.WFf2Ideal.nD Cert.WFf2Ideal.τ).loc Cert.WFf2Ideal.main_v0)),
      θ_run (Cert.WFf2Ideal.defs (F := Ideal)) (onTc (τ := Cert.WFf2Ideal.τ) (Cert.WFf2Ideal.main (F := Ideal))) ⟨m, fun _ => 0, g⟩ (fun r => ∀ c : Dev Cert.WFf2Ideal.nD,
          r.2.mem ((c.tc : Thread Cert.WFf2Ideal.nD Cert.WFf2Ideal.τ).loc Cert.WFf2Ideal.main_v0) = v0 c
          ∧ r.2.mem ((c.tc : Thread Cert.WFf2Ideal.nD Cert.WFf2Ideal.τ).loc Cert.WFf2Ideal.main_arg0) = m ((c.tc : Thread Cert.WFf2Ideal.nD Cert.WFf2Ideal.τ).loc Cert.WFf2Ideal.main_arg0)
          ∧ r.2.mem ((c.tc : Thread Cert.WFf2Ideal.nD Cert.WFf2Ideal.τ).loc Cert.WFf2Ideal.main_arg1) = m ((c.tc : Thread Cert.WFf2Ideal.nD Cert.WFf2Ideal.τ).loc Cert.WFf2Ideal.main_arg1))
      ∧ θ_run (Cert.WFf2RefIdeal.defs (F := Ideal)) (onTc (τ := Cert.WFf2RefIdeal.τ) (Cert.WFf2RefIdeal.main (F := Ideal))) ⟨m', fun _ => 0, g'⟩ (fun r => ∀ c : Dev Cert.WFf2RefIdeal.nD,
          r.2.mem ((c.tc : Thread Cert.WFf2RefIdeal.nD Cert.WFf2RefIdeal.τ).loc Cert.WFf2RefIdeal.main_v8) = v0 c
          ∧ r.2.mem ((c.tc : Thread Cert.WFf2RefIdeal.nD Cert.WFf2RefIdeal.τ).loc Cert.WFf2RefIdeal.main_arg0) = m' ((c.tc : Thread Cert.WFf2RefIdeal.nD Cert.WFf2RefIdeal.τ).loc Cert.WFf2RefIdeal.main_arg0)
          ∧ r.2.mem ((c.tc : Thread Cert.WFf2RefIdeal.nD Cert.WFf2RefIdeal.τ).loc Cert.WFf2RefIdeal.main_arg1) = m' ((c.tc : Thread Cert.WFf2RefIdeal.nD Cert.WFf2RefIdeal.τ).loc Cert.WFf2RefIdeal.main_arg1))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)) →
    ∃ (v0 : (c : Dev Cert.PreIdeal.nD) → Buf (Elt Ideal) ((c.tc : Thread Cert.PreIdeal.nD Cert.PreIdeal.τ).loc Cert.PreIdeal.main_v0)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0) = v0 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v15) = v0 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2))

def preserves_WFf1_WFf1Ideal : Prop :=
  True

def algebraic_WFf1Ideal_WFf1RefIdeal [hWFf1Ideal : Cert.WFf1Ideal.Facts] [hWFf1RefIdeal : Cert.WFf1RefIdeal.Facts] : Prop :=
  ∀ (m : (ℓ : Loc Cert.WFf1Ideal.nD Cert.WFf1Ideal.τ Cert.WFf1Ideal.sig) → Buf (Elt Ideal) ℓ) (g : Dev Cert.WFf1Ideal.nD → PrngReg)
    (m' : (ℓ : Loc Cert.WFf1RefIdeal.nD Cert.WFf1RefIdeal.τ Cert.WFf1RefIdeal.sig) → Buf (Elt Ideal) ℓ) (g' : Dev Cert.WFf1RefIdeal.nD → PrngReg), Pre_WFf1Ideal m →
    (∀ c : Dev Cert.WFf1Ideal.nD,
      m' ((c.tc : Thread Cert.WFf1RefIdeal.nD Cert.WFf1RefIdeal.τ).loc Cert.WFf1RefIdeal.main_arg0) = m ((c.tc : Thread Cert.WFf1Ideal.nD Cert.WFf1Ideal.τ).loc Cert.WFf1Ideal.main_arg0)
      ∧ m' ((c.tc : Thread Cert.WFf1RefIdeal.nD Cert.WFf1RefIdeal.τ).loc Cert.WFf1RefIdeal.main_arg1) = m ((c.tc : Thread Cert.WFf1Ideal.nD Cert.WFf1Ideal.τ).loc Cert.WFf1Ideal.main_arg1)) →
    ∃ (v0 : (c : Dev Cert.WFf1Ideal.nD) → Buf (Elt Ideal) ((c.tc : Thread Cert.WFf1Ideal.nD Cert.WFf1Ideal.τ).loc Cert.WFf1Ideal.main_v0)),
      θ_run (Cert.WFf1Ideal.defs (F := Ideal)) (onTc (τ := Cert.WFf1Ideal.τ) (Cert.WFf1Ideal.main (F := Ideal))) ⟨m, fun _ => 0, g⟩ (fun r => ∀ c : Dev Cert.WFf1Ideal.nD,
          r.2.mem ((c.tc : Thread Cert.WFf1Ideal.nD Cert.WFf1Ideal.τ).loc Cert.WFf1Ideal.main_v0) = v0 c
          ∧ r.2.mem ((c.tc : Thread Cert.WFf1Ideal.nD Cert.WFf1Ideal.τ).loc Cert.WFf1Ideal.main_arg0) = m ((c.tc : Thread Cert.WFf1Ideal.nD Cert.WFf1Ideal.τ).loc Cert.WFf1Ideal.main_arg0)
          ∧ r.2.mem ((c.tc : Thread Cert.WFf1Ideal.nD Cert.WFf1Ideal.τ).loc Cert.WFf1Ideal.main_arg1) = m ((c.tc : Thread Cert.WFf1Ideal.nD Cert.WFf1Ideal.τ).loc Cert.WFf1Ideal.main_arg1))
      ∧ θ_run (Cert.WFf1RefIdeal.defs (F := Ideal)) (onTc (τ := Cert.WFf1RefIdeal.τ) (Cert.WFf1RefIdeal.main (F := Ideal))) ⟨m', fun _ => 0, g'⟩ (fun r => ∀ c : Dev Cert.WFf1RefIdeal.nD,
          r.2.mem ((c.tc : Thread Cert.WFf1RefIdeal.nD Cert.WFf1RefIdeal.τ).loc Cert.WFf1RefIdeal.main_v8) = v0 c
          ∧ r.2.mem ((c.tc : Thread Cert.WFf1RefIdeal.nD Cert.WFf1RefIdeal.τ).loc Cert.WFf1RefIdeal.main_arg0) = m' ((c.tc : Thread Cert.WFf1RefIdeal.nD Cert.WFf1RefIdeal.τ).loc Cert.WFf1RefIdeal.main_arg0)
          ∧ r.2.mem ((c.tc : Thread Cert.WFf1RefIdeal.nD Cert.WFf1RefIdeal.τ).loc Cert.WFf1RefIdeal.main_arg1) = m' ((c.tc : Thread Cert.WFf1RefIdeal.nD Cert.WFf1RefIdeal.τ).loc Cert.WFf1RefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v6) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_Ycat_YcatIdeal : Prop :=
  True

def algebraic_YcatIdeal_YcatRefIdeal [hYcatIdeal : Cert.YcatIdeal.Facts] [hYcatRefIdeal : Cert.YcatRefIdeal.Facts] : Prop :=
  ∀ (m : (ℓ : Loc Cert.YcatIdeal.nD Cert.YcatIdeal.τ Cert.YcatIdeal.sig) → Buf (Elt Ideal) ℓ) (g : Dev Cert.YcatIdeal.nD → PrngReg)
    (m' : (ℓ : Loc Cert.YcatRefIdeal.nD Cert.YcatRefIdeal.τ Cert.YcatRefIdeal.sig) → Buf (Elt Ideal) ℓ) (g' : Dev Cert.YcatRefIdeal.nD → PrngReg), Pre_YcatIdeal m →
    (∀ c : Dev Cert.YcatIdeal.nD,
      m' ((c.tc : Thread Cert.YcatRefIdeal.nD Cert.YcatRefIdeal.τ).loc Cert.YcatRefIdeal.main_arg0) = m ((c.tc : Thread Cert.YcatIdeal.nD Cert.YcatIdeal.τ).loc Cert.YcatIdeal.main_arg0)
      ∧ m' ((c.tc : Thread Cert.YcatRefIdeal.nD Cert.YcatRefIdeal.τ).loc Cert.YcatRefIdeal.main_arg1) = m ((c.tc : Thread Cert.YcatIdeal.nD Cert.YcatIdeal.τ).loc Cert.YcatIdeal.main_arg1)) →
    ∃ (v0 : (c : Dev Cert.YcatIdeal.nD) → Buf (Elt Ideal) ((c.tc : Thread Cert.YcatIdeal.nD Cert.YcatIdeal.τ).loc Cert.YcatIdeal.main_v0)),
      θ_run (Cert.YcatIdeal.defs (F := Ideal)) (onTc (τ := Cert.YcatIdeal.τ) (Cert.YcatIdeal.main (F := Ideal))) ⟨m, fun _ => 0, g⟩ (fun r => ∀ c : Dev Cert.YcatIdeal.nD,
          r.2.mem ((c.tc : Thread Cert.YcatIdeal.nD Cert.YcatIdeal.τ).loc Cert.YcatIdeal.main_v0) = v0 c
          ∧ r.2.mem ((c.tc : Thread Cert.YcatIdeal.nD Cert.YcatIdeal.τ).loc Cert.YcatIdeal.main_arg0) = m ((c.tc : Thread Cert.YcatIdeal.nD Cert.YcatIdeal.τ).loc Cert.YcatIdeal.main_arg0)
          ∧ r.2.mem ((c.tc : Thread Cert.YcatIdeal.nD Cert.YcatIdeal.τ).loc Cert.YcatIdeal.main_arg1) = m ((c.tc : Thread Cert.YcatIdeal.nD Cert.YcatIdeal.τ).loc Cert.YcatIdeal.main_arg1))
      ∧ θ_run (Cert.YcatRefIdeal.defs (F := Ideal)) (onTc (τ := Cert.YcatRefIdeal.τ) (Cert.YcatRefIdeal.main (F := Ideal))) ⟨m', fun _ => 0, g'⟩ (fun r => ∀ c : Dev Cert.YcatRefIdeal.nD,
          r.2.mem ((c.tc : Thread Cert.YcatRefIdeal.nD Cert.YcatRefIdeal.τ).loc Cert.YcatRefIdeal.main_v4) = v0 c
          ∧ r.2.mem ((c.tc : Thread Cert.YcatRefIdeal.nD Cert.YcatRefIdeal.τ).loc Cert.YcatRefIdeal.main_arg0) = m' ((c.tc : Thread Cert.YcatRefIdeal.nD Cert.YcatRefIdeal.τ).loc Cert.YcatRefIdeal.main_arg0)
          ∧ r.2.mem ((c.tc : Thread Cert.YcatRefIdeal.nD Cert.YcatRefIdeal.τ).loc Cert.YcatRefIdeal.main_arg1) = m' ((c.tc : Thread Cert.YcatRefIdeal.nD Cert.YcatRefIdeal.τ).loc Cert.YcatRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v3)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v15) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v3) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v29) = v1 c
          ∧ r.2.mem ((c.tc : Thread Cert.OutProjRefIdeal.nD Cert.OutProjRefIdeal.τ).loc Cert.OutProjRefIdeal.main_v30) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_FfTwo_FfTwoIdeal : Prop :=
  True

def algebraic_FfTwoIdeal_FfTwoRefIdeal [hFfTwoIdeal : Cert.FfTwoIdeal.Facts] [hFfTwoRefIdeal : Cert.FfTwoRefIdeal.Facts] : Prop :=
  ∀ (m : (ℓ : Loc Cert.FfTwoIdeal.nD Cert.FfTwoIdeal.τ Cert.FfTwoIdeal.sig) → Buf (Elt Ideal) ℓ) (g : Dev Cert.FfTwoIdeal.nD → PrngReg)
    (m' : (ℓ : Loc Cert.FfTwoRefIdeal.nD Cert.FfTwoRefIdeal.τ Cert.FfTwoRefIdeal.sig) → Buf (Elt Ideal) ℓ) (g' : Dev Cert.FfTwoRefIdeal.nD → PrngReg), Pre_FfTwoIdeal m →
    (∀ c : Dev Cert.FfTwoIdeal.nD,
      m' ((c.tc : Thread Cert.FfTwoRefIdeal.nD Cert.FfTwoRefIdeal.τ).loc Cert.FfTwoRefIdeal.main_arg0) = m ((c.tc : Thread Cert.FfTwoIdeal.nD Cert.FfTwoIdeal.τ).loc Cert.FfTwoIdeal.main_arg0)
      ∧ m' ((c.tc : Thread Cert.FfTwoRefIdeal.nD Cert.FfTwoRefIdeal.τ).loc Cert.FfTwoRefIdeal.main_arg1) = m ((c.tc : Thread Cert.FfTwoIdeal.nD Cert.FfTwoIdeal.τ).loc Cert.FfTwoIdeal.main_arg1)
      ∧ m' ((c.tc : Thread Cert.FfTwoRefIdeal.nD Cert.FfTwoRefIdeal.τ).loc Cert.FfTwoRefIdeal.main_arg2) = m ((c.tc : Thread Cert.FfTwoIdeal.nD Cert.FfTwoIdeal.τ).loc Cert.FfTwoIdeal.main_arg2)
      ∧ m' ((c.tc : Thread Cert.FfTwoRefIdeal.nD Cert.FfTwoRefIdeal.τ).loc Cert.FfTwoRefIdeal.main_arg3) = m ((c.tc : Thread Cert.FfTwoIdeal.nD Cert.FfTwoIdeal.τ).loc Cert.FfTwoIdeal.main_arg3)
      ∧ m' ((c.tc : Thread Cert.FfTwoRefIdeal.nD Cert.FfTwoRefIdeal.τ).loc Cert.FfTwoRefIdeal.main_arg4) = m ((c.tc : Thread Cert.FfTwoIdeal.nD Cert.FfTwoIdeal.τ).loc Cert.FfTwoIdeal.main_arg4)) →
    ∃ (v0 : (c : Dev Cert.FfTwoIdeal.nD) → Buf (Elt Ideal) ((c.tc : Thread Cert.FfTwoIdeal.nD Cert.FfTwoIdeal.τ).loc Cert.FfTwoIdeal.main_v0_0)) (v1 : (c : Dev Cert.FfTwoIdeal.nD) → Buf (Elt Ideal) ((c.tc : Thread Cert.FfTwoIdeal.nD Cert.FfTwoIdeal.τ).loc Cert.FfTwoIdeal.main_v0_1)) (v2 : (c : Dev Cert.FfTwoIdeal.nD) → Buf (Elt Ideal) ((c.tc : Thread Cert.FfTwoIdeal.nD Cert.FfTwoIdeal.τ).loc Cert.FfTwoIdeal.main_v0_2)),
      θ_run (Cert.FfTwoIdeal.defs (F := Ideal)) (onTc (τ := Cert.FfTwoIdeal.τ) (Cert.FfTwoIdeal.main (F := Ideal))) ⟨m, fun _ => 0, g⟩ (fun r => ∀ c : Dev Cert.FfTwoIdeal.nD,
          r.2.mem ((c.tc : Thread Cert.FfTwoIdeal.nD Cert.FfTwoIdeal.τ).loc Cert.FfTwoIdeal.main_v0_0) = v0 c
          ∧ r.2.mem ((c.tc : Thread Cert.FfTwoIdeal.nD Cert.FfTwoIdeal.τ).loc Cert.FfTwoIdeal.main_v0_1) = v1 c
          ∧ r.2.mem ((c.tc : Thread Cert.FfTwoIdeal.nD Cert.FfTwoIdeal.τ).loc Cert.FfTwoIdeal.main_v0_2) = v2 c
          ∧ r.2.mem ((c.tc : Thread Cert.FfTwoIdeal.nD Cert.FfTwoIdeal.τ).loc Cert.FfTwoIdeal.main_arg0) = m ((c.tc : Thread Cert.FfTwoIdeal.nD Cert.FfTwoIdeal.τ).loc Cert.FfTwoIdeal.main_arg0)
          ∧ r.2.mem ((c.tc : Thread Cert.FfTwoIdeal.nD Cert.FfTwoIdeal.τ).loc Cert.FfTwoIdeal.main_arg1) = m ((c.tc : Thread Cert.FfTwoIdeal.nD Cert.FfTwoIdeal.τ).loc Cert.FfTwoIdeal.main_arg1)
          ∧ r.2.mem ((c.tc : Thread Cert.FfTwoIdeal.nD Cert.FfTwoIdeal.τ).loc Cert.FfTwoIdeal.main_arg2) = m ((c.tc : Thread Cert.FfTwoIdeal.nD Cert.FfTwoIdeal.τ).loc Cert.FfTwoIdeal.main_arg2)
          ∧ r.2.mem ((c.tc : Thread Cert.FfTwoIdeal.nD Cert.FfTwoIdeal.τ).loc Cert.FfTwoIdeal.main_arg3) = m ((c.tc : Thread Cert.FfTwoIdeal.nD Cert.FfTwoIdeal.τ).loc Cert.FfTwoIdeal.main_arg3)
          ∧ r.2.mem ((c.tc : Thread Cert.FfTwoIdeal.nD Cert.FfTwoIdeal.τ).loc Cert.FfTwoIdeal.main_arg4) = m ((c.tc : Thread Cert.FfTwoIdeal.nD Cert.FfTwoIdeal.τ).loc Cert.FfTwoIdeal.main_arg4))
      ∧ θ_run (Cert.FfTwoRefIdeal.defs (F := Ideal)) (onTc (τ := Cert.FfTwoRefIdeal.τ) (Cert.FfTwoRefIdeal.main (F := Ideal))) ⟨m', fun _ => 0, g'⟩ (fun r => ∀ c : Dev Cert.FfTwoRefIdeal.nD,
          r.2.mem ((c.tc : Thread Cert.FfTwoRefIdeal.nD Cert.FfTwoRefIdeal.τ).loc Cert.FfTwoRefIdeal.main_v4) = v0 c
          ∧ r.2.mem ((c.tc : Thread Cert.FfTwoRefIdeal.nD Cert.FfTwoRefIdeal.τ).loc Cert.FfTwoRefIdeal.main_v31) = v1 c
          ∧ r.2.mem ((c.tc : Thread Cert.FfTwoRefIdeal.nD Cert.FfTwoRefIdeal.τ).loc Cert.FfTwoRefIdeal.main_v32) = v2 c
          ∧ r.2.mem ((c.tc : Thread Cert.FfTwoRefIdeal.nD Cert.FfTwoRefIdeal.τ).loc Cert.FfTwoRefIdeal.main_arg0) = m' ((c.tc : Thread Cert.FfTwoRefIdeal.nD Cert.FfTwoRefIdeal.τ).loc Cert.FfTwoRefIdeal.main_arg0)
          ∧ r.2.mem ((c.tc : Thread Cert.FfTwoRefIdeal.nD Cert.FfTwoRefIdeal.τ).loc Cert.FfTwoRefIdeal.main_arg1) = m' ((c.tc : Thread Cert.FfTwoRefIdeal.nD Cert.FfTwoRefIdeal.τ).loc Cert.FfTwoRefIdeal.main_arg1)
          ∧ r.2.mem ((c.tc : Thread Cert.FfTwoRefIdeal.nD Cert.FfTwoRefIdeal.τ).loc Cert.FfTwoRefIdeal.main_arg2) = m' ((c.tc : Thread Cert.FfTwoRefIdeal.nD Cert.FfTwoRefIdeal.τ).loc Cert.FfTwoRefIdeal.main_arg2)
          ∧ r.2.mem ((c.tc : Thread Cert.FfTwoRefIdeal.nD Cert.FfTwoRefIdeal.τ).loc Cert.FfTwoRefIdeal.main_arg3) = m' ((c.tc : Thread Cert.FfTwoRefIdeal.nD Cert.FfTwoRefIdeal.τ).loc Cert.FfTwoRefIdeal.main_arg3)
          ∧ r.2.mem ((c.tc : Thread Cert.FfTwoRefIdeal.nD Cert.FfTwoRefIdeal.τ).loc Cert.FfTwoRefIdeal.main_arg4) = m' ((c.tc : Thread Cert.FfTwoRefIdeal.nD Cert.FfTwoRefIdeal.τ).loc Cert.FfTwoRefIdeal.main_arg4))

def preserves_WInG_WInGIdeal : Prop :=
  True

def algebraic_WInGIdeal_WInGRefIdeal [hWInGIdeal : Cert.WInGIdeal.Facts] [hWInGRefIdeal : Cert.WInGRefIdeal.Facts] : Prop :=
  ∀ (m : (ℓ : Loc Cert.WInGIdeal.nD Cert.WInGIdeal.τ Cert.WInGIdeal.sig) → Buf (Elt Ideal) ℓ) (g : Dev Cert.WInGIdeal.nD → PrngReg)
    (m' : (ℓ : Loc Cert.WInGRefIdeal.nD Cert.WInGRefIdeal.τ Cert.WInGRefIdeal.sig) → Buf (Elt Ideal) ℓ) (g' : Dev Cert.WInGRefIdeal.nD → PrngReg), Pre_WInGIdeal m →
    (∀ c : Dev Cert.WInGIdeal.nD,
      m' ((c.tc : Thread Cert.WInGRefIdeal.nD Cert.WInGRefIdeal.τ).loc Cert.WInGRefIdeal.main_arg0) = m ((c.tc : Thread Cert.WInGIdeal.nD Cert.WInGIdeal.τ).loc Cert.WInGIdeal.main_arg0)
      ∧ m' ((c.tc : Thread Cert.WInGRefIdeal.nD Cert.WInGRefIdeal.τ).loc Cert.WInGRefIdeal.main_arg1) = m ((c.tc : Thread Cert.WInGIdeal.nD Cert.WInGIdeal.τ).loc Cert.WInGIdeal.main_arg1)
      ∧ m' ((c.tc : Thread Cert.WInGRefIdeal.nD Cert.WInGRefIdeal.τ).loc Cert.WInGRefIdeal.main_arg2) = m ((c.tc : Thread Cert.WInGIdeal.nD Cert.WInGIdeal.τ).loc Cert.WInGIdeal.main_arg2)) →
    ∃ (v0 : (c : Dev Cert.WInGIdeal.nD) → Buf (Elt Ideal) ((c.tc : Thread Cert.WInGIdeal.nD Cert.WInGIdeal.τ).loc Cert.WInGIdeal.main_v1)),
      θ_run (Cert.WInGIdeal.defs (F := Ideal)) (onTc (τ := Cert.WInGIdeal.τ) (Cert.WInGIdeal.main (F := Ideal))) ⟨m, fun _ => 0, g⟩ (fun r => ∀ c : Dev Cert.WInGIdeal.nD,
          r.2.mem ((c.tc : Thread Cert.WInGIdeal.nD Cert.WInGIdeal.τ).loc Cert.WInGIdeal.main_v1) = v0 c
          ∧ r.2.mem ((c.tc : Thread Cert.WInGIdeal.nD Cert.WInGIdeal.τ).loc Cert.WInGIdeal.main_arg0) = m ((c.tc : Thread Cert.WInGIdeal.nD Cert.WInGIdeal.τ).loc Cert.WInGIdeal.main_arg0)
          ∧ r.2.mem ((c.tc : Thread Cert.WInGIdeal.nD Cert.WInGIdeal.τ).loc Cert.WInGIdeal.main_arg1) = m ((c.tc : Thread Cert.WInGIdeal.nD Cert.WInGIdeal.τ).loc Cert.WInGIdeal.main_arg1)
          ∧ r.2.mem ((c.tc : Thread Cert.WInGIdeal.nD Cert.WInGIdeal.τ).loc Cert.WInGIdeal.main_arg2) = m ((c.tc : Thread Cert.WInGIdeal.nD Cert.WInGIdeal.τ).loc Cert.WInGIdeal.main_arg2))
      ∧ θ_run (Cert.WInGRefIdeal.defs (F := Ideal)) (onTc (τ := Cert.WInGRefIdeal.τ) (Cert.WInGRefIdeal.main (F := Ideal))) ⟨m', fun _ => 0, g'⟩ (fun r => ∀ c : Dev Cert.WInGRefIdeal.nD,
          r.2.mem ((c.tc : Thread Cert.WInGRefIdeal.nD Cert.WInGRefIdeal.τ).loc Cert.WInGRefIdeal.main_v9) = v0 c
          ∧ r.2.mem ((c.tc : Thread Cert.WInGRefIdeal.nD Cert.WInGRefIdeal.τ).loc Cert.WInGRefIdeal.main_arg0) = m' ((c.tc : Thread Cert.WInGRefIdeal.nD Cert.WInGRefIdeal.τ).loc Cert.WInGRefIdeal.main_arg0)
          ∧ r.2.mem ((c.tc : Thread Cert.WInGRefIdeal.nD Cert.WInGRefIdeal.τ).loc Cert.WInGRefIdeal.main_arg1) = m' ((c.tc : Thread Cert.WInGRefIdeal.nD Cert.WInGRefIdeal.τ).loc Cert.WInGRefIdeal.main_arg1)
          ∧ r.2.mem ((c.tc : Thread Cert.WInGRefIdeal.nD Cert.WInGRefIdeal.τ).loc Cert.WInGRefIdeal.main_arg2) = m' ((c.tc : Thread Cert.WInGRefIdeal.nD Cert.WInGRefIdeal.τ).loc Cert.WInGRefIdeal.main_arg2))

def preserves_WInZ_WInZIdeal : Prop :=
  True

def algebraic_WInZIdeal_WInZRefIdeal [hWInZIdeal : Cert.WInZIdeal.Facts] [hWInZRefIdeal : Cert.WInZRefIdeal.Facts] : Prop :=
  ∀ (m : (ℓ : Loc Cert.WInZIdeal.nD Cert.WInZIdeal.τ Cert.WInZIdeal.sig) → Buf (Elt Ideal) ℓ) (g : Dev Cert.WInZIdeal.nD → PrngReg)
    (m' : (ℓ : Loc Cert.WInZRefIdeal.nD Cert.WInZRefIdeal.τ Cert.WInZRefIdeal.sig) → Buf (Elt Ideal) ℓ) (g' : Dev Cert.WInZRefIdeal.nD → PrngReg), Pre_WInZIdeal m →
    (∀ c : Dev Cert.WInZIdeal.nD,
      m' ((c.tc : Thread Cert.WInZRefIdeal.nD Cert.WInZRefIdeal.τ).loc Cert.WInZRefIdeal.main_arg0) = m ((c.tc : Thread Cert.WInZIdeal.nD Cert.WInZIdeal.τ).loc Cert.WInZIdeal.main_arg0)
      ∧ m' ((c.tc : Thread Cert.WInZRefIdeal.nD Cert.WInZRefIdeal.τ).loc Cert.WInZRefIdeal.main_arg1) = m ((c.tc : Thread Cert.WInZIdeal.nD Cert.WInZIdeal.τ).loc Cert.WInZIdeal.main_arg1)
      ∧ m' ((c.tc : Thread Cert.WInZRefIdeal.nD Cert.WInZRefIdeal.τ).loc Cert.WInZRefIdeal.main_arg2) = m ((c.tc : Thread Cert.WInZIdeal.nD Cert.WInZIdeal.τ).loc Cert.WInZIdeal.main_arg2)) →
    ∃ (v0 : (c : Dev Cert.WInZIdeal.nD) → Buf (Elt Ideal) ((c.tc : Thread Cert.WInZIdeal.nD Cert.WInZIdeal.τ).loc Cert.WInZIdeal.main_v1)),
      θ_run (Cert.WInZIdeal.defs (F := Ideal)) (onTc (τ := Cert.WInZIdeal.τ) (Cert.WInZIdeal.main (F := Ideal))) ⟨m, fun _ => 0, g⟩ (fun r => ∀ c : Dev Cert.WInZIdeal.nD,
          r.2.mem ((c.tc : Thread Cert.WInZIdeal.nD Cert.WInZIdeal.τ).loc Cert.WInZIdeal.main_v1) = v0 c
          ∧ r.2.mem ((c.tc : Thread Cert.WInZIdeal.nD Cert.WInZIdeal.τ).loc Cert.WInZIdeal.main_arg0) = m ((c.tc : Thread Cert.WInZIdeal.nD Cert.WInZIdeal.τ).loc Cert.WInZIdeal.main_arg0)
          ∧ r.2.mem ((c.tc : Thread Cert.WInZIdeal.nD Cert.WInZIdeal.τ).loc Cert.WInZIdeal.main_arg1) = m ((c.tc : Thread Cert.WInZIdeal.nD Cert.WInZIdeal.τ).loc Cert.WInZIdeal.main_arg1)
          ∧ r.2.mem ((c.tc : Thread Cert.WInZIdeal.nD Cert.WInZIdeal.τ).loc Cert.WInZIdeal.main_arg2) = m ((c.tc : Thread Cert.WInZIdeal.nD Cert.WInZIdeal.τ).loc Cert.WInZIdeal.main_arg2))
      ∧ θ_run (Cert.WInZRefIdeal.defs (F := Ideal)) (onTc (τ := Cert.WInZRefIdeal.τ) (Cert.WInZRefIdeal.main (F := Ideal))) ⟨m', fun _ => 0, g'⟩ (fun r => ∀ c : Dev Cert.WInZRefIdeal.nD,
          r.2.mem ((c.tc : Thread Cert.WInZRefIdeal.nD Cert.WInZRefIdeal.τ).loc Cert.WInZRefIdeal.main_v9) = v0 c
          ∧ r.2.mem ((c.tc : Thread Cert.WInZRefIdeal.nD Cert.WInZRefIdeal.τ).loc Cert.WInZRefIdeal.main_arg0) = m' ((c.tc : Thread Cert.WInZRefIdeal.nD Cert.WInZRefIdeal.τ).loc Cert.WInZRefIdeal.main_arg0)
          ∧ r.2.mem ((c.tc : Thread Cert.WInZRefIdeal.nD Cert.WInZRefIdeal.τ).loc Cert.WInZRefIdeal.main_arg1) = m' ((c.tc : Thread Cert.WInZRefIdeal.nD Cert.WInZRefIdeal.τ).loc Cert.WInZRefIdeal.main_arg1)
          ∧ r.2.mem ((c.tc : Thread Cert.WInZRefIdeal.nD Cert.WInZRefIdeal.τ).loc Cert.WInZRefIdeal.main_arg2) = m' ((c.tc : Thread Cert.WInZRefIdeal.nD Cert.WInZRefIdeal.τ).loc Cert.WInZRefIdeal.main_arg2))

def preserves_WInXbc_WInXbcIdeal : Prop :=
  True

def algebraic_WInXbcIdeal_WInXbcRefIdeal [hWInXbcIdeal : Cert.WInXbcIdeal.Facts] [hWInXbcRefIdeal : Cert.WInXbcRefIdeal.Facts] : Prop :=
  ∀ (m : (ℓ : Loc Cert.WInXbcIdeal.nD Cert.WInXbcIdeal.τ Cert.WInXbcIdeal.sig) → Buf (Elt Ideal) ℓ) (g : Dev Cert.WInXbcIdeal.nD → PrngReg)
    (m' : (ℓ : Loc Cert.WInXbcRefIdeal.nD Cert.WInXbcRefIdeal.τ Cert.WInXbcRefIdeal.sig) → Buf (Elt Ideal) ℓ) (g' : Dev Cert.WInXbcRefIdeal.nD → PrngReg), Pre_WInXbcIdeal m →
    (∀ c : Dev Cert.WInXbcIdeal.nD,
      m' ((c.tc : Thread Cert.WInXbcRefIdeal.nD Cert.WInXbcRefIdeal.τ).loc Cert.WInXbcRefIdeal.main_arg0) = m ((c.tc : Thread Cert.WInXbcIdeal.nD Cert.WInXbcIdeal.τ).loc Cert.WInXbcIdeal.main_arg0)
      ∧ m' ((c.tc : Thread Cert.WInXbcRefIdeal.nD Cert.WInXbcRefIdeal.τ).loc Cert.WInXbcRefIdeal.main_arg1) = m ((c.tc : Thread Cert.WInXbcIdeal.nD Cert.WInXbcIdeal.τ).loc Cert.WInXbcIdeal.main_arg1)
      ∧ m' ((c.tc : Thread Cert.WInXbcRefIdeal.nD Cert.WInXbcRefIdeal.τ).loc Cert.WInXbcRefIdeal.main_arg2) = m ((c.tc : Thread Cert.WInXbcIdeal.nD Cert.WInXbcIdeal.τ).loc Cert.WInXbcIdeal.main_arg2)) →
    ∃ (v0 : (c : Dev Cert.WInXbcIdeal.nD) → Buf (Elt Ideal) ((c.tc : Thread Cert.WInXbcIdeal.nD Cert.WInXbcIdeal.τ).loc Cert.WInXbcIdeal.main_v1)),
      θ_run (Cert.WInXbcIdeal.defs (F := Ideal)) (onTc (τ := Cert.WInXbcIdeal.τ) (Cert.WInXbcIdeal.main (F := Ideal))) ⟨m, fun _ => 0, g⟩ (fun r => ∀ c : Dev Cert.WInXbcIdeal.nD,
          r.2.mem ((c.tc : Thread Cert.WInXbcIdeal.nD Cert.WInXbcIdeal.τ).loc Cert.WInXbcIdeal.main_v1) = v0 c
          ∧ r.2.mem ((c.tc : Thread Cert.WInXbcIdeal.nD Cert.WInXbcIdeal.τ).loc Cert.WInXbcIdeal.main_arg0) = m ((c.tc : Thread Cert.WInXbcIdeal.nD Cert.WInXbcIdeal.τ).loc Cert.WInXbcIdeal.main_arg0)
          ∧ r.2.mem ((c.tc : Thread Cert.WInXbcIdeal.nD Cert.WInXbcIdeal.τ).loc Cert.WInXbcIdeal.main_arg1) = m ((c.tc : Thread Cert.WInXbcIdeal.nD Cert.WInXbcIdeal.τ).loc Cert.WInXbcIdeal.main_arg1)
          ∧ r.2.mem ((c.tc : Thread Cert.WInXbcIdeal.nD Cert.WInXbcIdeal.τ).loc Cert.WInXbcIdeal.main_arg2) = m ((c.tc : Thread Cert.WInXbcIdeal.nD Cert.WInXbcIdeal.τ).loc Cert.WInXbcIdeal.main_arg2))
      ∧ θ_run (Cert.WInXbcRefIdeal.defs (F := Ideal)) (onTc (τ := Cert.WInXbcRefIdeal.τ) (Cert.WInXbcRefIdeal.main (F := Ideal))) ⟨m', fun _ => 0, g'⟩ (fun r => ∀ c : Dev Cert.WInXbcRefIdeal.nD,
          r.2.mem ((c.tc : Thread Cert.WInXbcRefIdeal.nD Cert.WInXbcRefIdeal.τ).loc Cert.WInXbcRefIdeal.main_v9) = v0 c
          ∧ r.2.mem ((c.tc : Thread Cert.WInXbcRefIdeal.nD Cert.WInXbcRefIdeal.τ).loc Cert.WInXbcRefIdeal.main_arg0) = m' ((c.tc : Thread Cert.WInXbcRefIdeal.nD Cert.WInXbcRefIdeal.τ).loc Cert.WInXbcRefIdeal.main_arg0)
          ∧ r.2.mem ((c.tc : Thread Cert.WInXbcRefIdeal.nD Cert.WInXbcRefIdeal.τ).loc Cert.WInXbcRefIdeal.main_arg1) = m' ((c.tc : Thread Cert.WInXbcRefIdeal.nD Cert.WInXbcRefIdeal.τ).loc Cert.WInXbcRefIdeal.main_arg1)
          ∧ r.2.mem ((c.tc : Thread Cert.WInXbcRefIdeal.nD Cert.WInXbcRefIdeal.τ).loc Cert.WInXbcRefIdeal.main_arg2) = m' ((c.tc : Thread Cert.WInXbcRefIdeal.nD Cert.WInXbcRefIdeal.τ).loc Cert.WInXbcRefIdeal.main_arg2))

def preserves_WInDt_WInDtIdeal : Prop :=
  True

def algebraic_WInDtIdeal_WInDtRefIdeal [hWInDtIdeal : Cert.WInDtIdeal.Facts] [hWInDtRefIdeal : Cert.WInDtRefIdeal.Facts] : Prop :=
  ∀ (m : (ℓ : Loc Cert.WInDtIdeal.nD Cert.WInDtIdeal.τ Cert.WInDtIdeal.sig) → Buf (Elt Ideal) ℓ) (g : Dev Cert.WInDtIdeal.nD → PrngReg)
    (m' : (ℓ : Loc Cert.WInDtRefIdeal.nD Cert.WInDtRefIdeal.τ Cert.WInDtRefIdeal.sig) → Buf (Elt Ideal) ℓ) (g' : Dev Cert.WInDtRefIdeal.nD → PrngReg), Pre_WInDtIdeal m →
    (∀ c : Dev Cert.WInDtIdeal.nD,
      m' ((c.tc : Thread Cert.WInDtRefIdeal.nD Cert.WInDtRefIdeal.τ).loc Cert.WInDtRefIdeal.main_arg0) = m ((c.tc : Thread Cert.WInDtIdeal.nD Cert.WInDtIdeal.τ).loc Cert.WInDtIdeal.main_arg0)
      ∧ m' ((c.tc : Thread Cert.WInDtRefIdeal.nD Cert.WInDtRefIdeal.τ).loc Cert.WInDtRefIdeal.main_arg1) = m ((c.tc : Thread Cert.WInDtIdeal.nD Cert.WInDtIdeal.τ).loc Cert.WInDtIdeal.main_arg1)
      ∧ m' ((c.tc : Thread Cert.WInDtRefIdeal.nD Cert.WInDtRefIdeal.τ).loc Cert.WInDtRefIdeal.main_arg2) = m ((c.tc : Thread Cert.WInDtIdeal.nD Cert.WInDtIdeal.τ).loc Cert.WInDtIdeal.main_arg2)) →
    ∃ (v0 : (c : Dev Cert.WInDtIdeal.nD) → Buf (Elt Ideal) ((c.tc : Thread Cert.WInDtIdeal.nD Cert.WInDtIdeal.τ).loc Cert.WInDtIdeal.main_v1)),
      θ_run (Cert.WInDtIdeal.defs (F := Ideal)) (onTc (τ := Cert.WInDtIdeal.τ) (Cert.WInDtIdeal.main (F := Ideal))) ⟨m, fun _ => 0, g⟩ (fun r => ∀ c : Dev Cert.WInDtIdeal.nD,
          r.2.mem ((c.tc : Thread Cert.WInDtIdeal.nD Cert.WInDtIdeal.τ).loc Cert.WInDtIdeal.main_v1) = v0 c
          ∧ r.2.mem ((c.tc : Thread Cert.WInDtIdeal.nD Cert.WInDtIdeal.τ).loc Cert.WInDtIdeal.main_arg0) = m ((c.tc : Thread Cert.WInDtIdeal.nD Cert.WInDtIdeal.τ).loc Cert.WInDtIdeal.main_arg0)
          ∧ r.2.mem ((c.tc : Thread Cert.WInDtIdeal.nD Cert.WInDtIdeal.τ).loc Cert.WInDtIdeal.main_arg1) = m ((c.tc : Thread Cert.WInDtIdeal.nD Cert.WInDtIdeal.τ).loc Cert.WInDtIdeal.main_arg1)
          ∧ r.2.mem ((c.tc : Thread Cert.WInDtIdeal.nD Cert.WInDtIdeal.τ).loc Cert.WInDtIdeal.main_arg2) = m ((c.tc : Thread Cert.WInDtIdeal.nD Cert.WInDtIdeal.τ).loc Cert.WInDtIdeal.main_arg2))
      ∧ θ_run (Cert.WInDtRefIdeal.defs (F := Ideal)) (onTc (τ := Cert.WInDtRefIdeal.τ) (Cert.WInDtRefIdeal.main (F := Ideal))) ⟨m', fun _ => 0, g'⟩ (fun r => ∀ c : Dev Cert.WInDtRefIdeal.nD,
          r.2.mem ((c.tc : Thread Cert.WInDtRefIdeal.nD Cert.WInDtRefIdeal.τ).loc Cert.WInDtRefIdeal.main_v9) = v0 c
          ∧ r.2.mem ((c.tc : Thread Cert.WInDtRefIdeal.nD Cert.WInDtRefIdeal.τ).loc Cert.WInDtRefIdeal.main_arg0) = m' ((c.tc : Thread Cert.WInDtRefIdeal.nD Cert.WInDtRefIdeal.τ).loc Cert.WInDtRefIdeal.main_arg0)
          ∧ r.2.mem ((c.tc : Thread Cert.WInDtRefIdeal.nD Cert.WInDtRefIdeal.τ).loc Cert.WInDtRefIdeal.main_arg1) = m' ((c.tc : Thread Cert.WInDtRefIdeal.nD Cert.WInDtRefIdeal.τ).loc Cert.WInDtRefIdeal.main_arg1)
          ∧ r.2.mem ((c.tc : Thread Cert.WInDtRefIdeal.nD Cert.WInDtRefIdeal.τ).loc Cert.WInDtRefIdeal.main_arg2) = m' ((c.tc : Thread Cert.WInDtRefIdeal.nD Cert.WInDtRefIdeal.τ).loc Cert.WInDtRefIdeal.main_arg2))

def Claim : Prop :=
  ∃ (hKernel : Cert.Kernel.Facts) (hKernelIdeal : Cert.KernelIdeal.Facts) (hReferenceIdeal : Cert.ReferenceIdeal.Facts) (hPleGate : Cert.PleGate.Facts) (hPleGateIdeal : Cert.PleGateIdeal.Facts) (hPleGateRefIdeal : Cert.PleGateRefIdeal.Facts) (hPle : Cert.Ple.Facts) (hPleIdeal : Cert.PleIdeal.Facts) (hPleRefIdeal : Cert.PleRefIdeal.Facts) (hWFf2 : Cert.WFf2.Facts) (hWFf2Ideal : Cert.WFf2Ideal.Facts) (hWFf2RefIdeal : Cert.WFf2RefIdeal.Facts) (hPre : Cert.Pre.Facts) (hPreIdeal : Cert.PreIdeal.Facts) (hPreRefIdeal : Cert.PreRefIdeal.Facts) (hWFf1 : Cert.WFf1.Facts) (hWFf1Ideal : Cert.WFf1Ideal.Facts) (hWFf1RefIdeal : Cert.WFf1RefIdeal.Facts) (hWOut : Cert.WOut.Facts) (hWOutIdeal : Cert.WOutIdeal.Facts) (hWOutRefIdeal : Cert.WOutRefIdeal.Facts) (hYcat : Cert.Ycat.Facts) (hYcatIdeal : Cert.YcatIdeal.Facts) (hYcatRefIdeal : Cert.YcatRefIdeal.Facts) (hDx : Cert.Dx.Facts) (hDxIdeal : Cert.DxIdeal.Facts) (hDxRefIdeal : Cert.DxRefIdeal.Facts) (hInProj : Cert.InProj.Facts) (hInProjIdeal : Cert.InProjIdeal.Facts) (hInProjRefIdeal : Cert.InProjRefIdeal.Facts) (hFf1 : Cert.Ff1.Facts) (hFf1Ideal : Cert.Ff1Ideal.Facts) (hFf1RefIdeal : Cert.Ff1RefIdeal.Facts) (hOutProj : Cert.OutProj.Facts) (hOutProjIdeal : Cert.OutProjIdeal.Facts) (hOutProjRefIdeal : Cert.OutProjRefIdeal.Facts) (hFfTwo : Cert.FfTwo.Facts) (hFfTwoIdeal : Cert.FfTwoIdeal.Facts) (hFfTwoRefIdeal : Cert.FfTwoRefIdeal.Facts) (hWInG : Cert.WInG.Facts) (hWInGIdeal : Cert.WInGIdeal.Facts) (hWInGRefIdeal : Cert.WInGRefIdeal.Facts) (hWInZ : Cert.WInZ.Facts) (hWInZIdeal : Cert.WInZIdeal.Facts) (hWInZRefIdeal : Cert.WInZRefIdeal.Facts) (hWInXbc : Cert.WInXbc.Facts) (hWInXbcIdeal : Cert.WInXbcIdeal.Facts) (hWInXbcRefIdeal : Cert.WInXbcRefIdeal.Facts) (hWInDt : Cert.WInDt.Facts) (hWInDtIdeal : Cert.WInDtIdeal.Facts) (hWInDtRefIdeal : Cert.WInDtRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_Ple (hPle := hPle)
    ∧ quiescent_PleIdeal (hPleIdeal := hPleIdeal)
    ∧ quiescent_PleRefIdeal (hPleRefIdeal := hPleRefIdeal)
    ∧ quiescent_WFf2 (hWFf2 := hWFf2)
    ∧ quiescent_WFf2Ideal (hWFf2Ideal := hWFf2Ideal)
    ∧ quiescent_WFf2RefIdeal (hWFf2RefIdeal := hWFf2RefIdeal)
    ∧ quiescent_Pre (hPre := hPre)
    ∧ quiescent_PreIdeal (hPreIdeal := hPreIdeal)
    ∧ quiescent_PreRefIdeal (hPreRefIdeal := hPreRefIdeal)
    ∧ quiescent_WFf1 (hWFf1 := hWFf1)
    ∧ quiescent_WFf1Ideal (hWFf1Ideal := hWFf1Ideal)
    ∧ quiescent_WFf1RefIdeal (hWFf1RefIdeal := hWFf1RefIdeal)
    ∧ quiescent_WOut (hWOut := hWOut)
    ∧ quiescent_WOutIdeal (hWOutIdeal := hWOutIdeal)
    ∧ quiescent_WOutRefIdeal (hWOutRefIdeal := hWOutRefIdeal)
    ∧ quiescent_Ycat (hYcat := hYcat)
    ∧ quiescent_YcatIdeal (hYcatIdeal := hYcatIdeal)
    ∧ quiescent_YcatRefIdeal (hYcatRefIdeal := hYcatRefIdeal)
    ∧ quiescent_Dx (hDx := hDx)
    ∧ quiescent_DxIdeal (hDxIdeal := hDxIdeal)
    ∧ quiescent_DxRefIdeal (hDxRefIdeal := hDxRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfTwo (hFfTwo := hFfTwo)
    ∧ quiescent_FfTwoIdeal (hFfTwoIdeal := hFfTwoIdeal)
    ∧ quiescent_FfTwoRefIdeal (hFfTwoRefIdeal := hFfTwoRefIdeal)
    ∧ quiescent_WInG (hWInG := hWInG)
    ∧ quiescent_WInGIdeal (hWInGIdeal := hWInGIdeal)
    ∧ quiescent_WInGRefIdeal (hWInGRefIdeal := hWInGRefIdeal)
    ∧ quiescent_WInZ (hWInZ := hWInZ)
    ∧ quiescent_WInZIdeal (hWInZIdeal := hWInZIdeal)
    ∧ quiescent_WInZRefIdeal (hWInZRefIdeal := hWInZRefIdeal)
    ∧ quiescent_WInXbc (hWInXbc := hWInXbc)
    ∧ quiescent_WInXbcIdeal (hWInXbcIdeal := hWInXbcIdeal)
    ∧ quiescent_WInXbcRefIdeal (hWInXbcRefIdeal := hWInXbcRefIdeal)
    ∧ quiescent_WInDt (hWInDt := hWInDt)
    ∧ quiescent_WInDtIdeal (hWInDtIdeal := hWInDtIdeal)
    ∧ quiescent_WInDtRefIdeal (hWInDtRefIdeal := hWInDtRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_PleGate_PleGateIdeal
    ∧ algebraic_PleGateIdeal_PleGateRefIdeal (hPleGateIdeal := hPleGateIdeal) (hPleGateRefIdeal := hPleGateRefIdeal)
    ∧ preserves_Ple_PleIdeal
    ∧ algebraic_PleIdeal_PleRefIdeal (hPleIdeal := hPleIdeal) (hPleRefIdeal := hPleRefIdeal)
    ∧ preserves_WFf2_WFf2Ideal
    ∧ algebraic_WFf2Ideal_WFf2RefIdeal (hWFf2Ideal := hWFf2Ideal) (hWFf2RefIdeal := hWFf2RefIdeal)
    ∧ preserves_Pre_PreIdeal
    ∧ algebraic_PreIdeal_PreRefIdeal (hPreIdeal := hPreIdeal) (hPreRefIdeal := hPreRefIdeal)
    ∧ preserves_WFf1_WFf1Ideal
    ∧ algebraic_WFf1Ideal_WFf1RefIdeal (hWFf1Ideal := hWFf1Ideal) (hWFf1RefIdeal := hWFf1RefIdeal)
    ∧ preserves_WOut_WOutIdeal
    ∧ algebraic_WOutIdeal_WOutRefIdeal (hWOutIdeal := hWOutIdeal) (hWOutRefIdeal := hWOutRefIdeal)
    ∧ preserves_Ycat_YcatIdeal
    ∧ algebraic_YcatIdeal_YcatRefIdeal (hYcatIdeal := hYcatIdeal) (hYcatRefIdeal := hYcatRefIdeal)
    ∧ preserves_Dx_DxIdeal
    ∧ algebraic_DxIdeal_DxRefIdeal (hDxIdeal := hDxIdeal) (hDxRefIdeal := hDxRefIdeal)
    ∧ preserves_InProj_InProjIdeal
    ∧ algebraic_InProjIdeal_InProjRefIdeal (hInProjIdeal := hInProjIdeal) (hInProjRefIdeal := hInProjRefIdeal)
    ∧ preserves_Ff1_Ff1Ideal
    ∧ algebraic_Ff1Ideal_Ff1RefIdeal (hFf1Ideal := hFf1Ideal) (hFf1RefIdeal := hFf1RefIdeal)
    ∧ preserves_OutProj_OutProjIdeal
    ∧ algebraic_OutProjIdeal_OutProjRefIdeal (hOutProjIdeal := hOutProjIdeal) (hOutProjRefIdeal := hOutProjRefIdeal)
    ∧ preserves_FfTwo_FfTwoIdeal
    ∧ algebraic_FfTwoIdeal_FfTwoRefIdeal (hFfTwoIdeal := hFfTwoIdeal) (hFfTwoRefIdeal := hFfTwoRefIdeal)
    ∧ preserves_WInG_WInGIdeal
    ∧ algebraic_WInGIdeal_WInGRefIdeal (hWInGIdeal := hWInGIdeal) (hWInGRefIdeal := hWInGRefIdeal)
    ∧ preserves_WInZ_WInZIdeal
    ∧ algebraic_WInZIdeal_WInZRefIdeal (hWInZIdeal := hWInZIdeal) (hWInZRefIdeal := hWInZRefIdeal)
    ∧ preserves_WInXbc_WInXbcIdeal
    ∧ algebraic_WInXbcIdeal_WInXbcRefIdeal (hWInXbcIdeal := hWInXbcIdeal) (hWInXbcRefIdeal := hWInXbcRefIdeal)
    ∧ preserves_WInDt_WInDtIdeal
    ∧ algebraic_WInDtIdeal_WInDtRefIdeal (hWInDtIdeal := hWInDtIdeal) (hWInDtRefIdeal := hWInDtRefIdeal)
-- ==== Pre_finite.lean ====
abbrev S2048x5632 : Shape := ⟨2, ![2048, 5632]⟩
abbrev S2048x2048 : Shape := ⟨2, ![2048, 2048]⟩
abbrev S4x1024 : Shape := ⟨2, ![4, 1024]⟩
abbrev S1x1024 : Shape := ⟨2, ![1, 1024]⟩
abbrev S16x64x64 : Shape := ⟨3, ![16, 64, 64]⟩
abbrev S16x64 : Shape := ⟨2, ![16, 64]⟩
abbrev S2048x1024 : Shape := ⟨2, ![2048, 1024]⟩
abbrev S_ : Shape := ⟨0, ![]⟩

class Facts : Prop where
  slices_S2048x5632_S2048x1024_0_0 : S2048x5632.Slices ![0, 0] S2048x1024
  slices_S2048x5632_S2048x1024_0_1024 : S2048x5632.Slices ![0, 1024] S2048x1024
  slices_S2048x2048_S2048x1024_0_0 : S2048x2048.Slices ![0, 0] S2048x1024
  bcast_S_S2048x1024 : S_.BroadcastsInDim S2048x1024 (![] : Fin 0 → Fin S2048x1024.rank)
  bcast_S_S4x1024 : S_.BroadcastsInDim S4x1024 (![] : Fin 0 → Fin S4x1024.rank)
  bcast_S_S1x1024 : S_.BroadcastsInDim S1x1024 (![] : Fin 0 → Fin S1x1024.rank)
  bcast_S_S16x64x64 : S_.BroadcastsInDim S16x64x64 (![] : Fin 0 → Fin S16x64x64.rank)
  bcast_S_S16x64 : S_.BroadcastsInDim S16x64 (![] : Fin 0 → Fin S16x64.rank)

variable [Facts]

def fn_part1 {F : FTy → Type} [FloatOps F] (main_arg5 : FVec F S16x64 .f32) (main_arg6 : FVec F S16x64x64 .f32) (main_arg7 : FVec F S16x64 .f32) (main_arg8 : FVec F S1x1024 .f32) (main_v5 : IVec S2048x1024 1) (main_v8 : IVec S2048x1024 1) (main_v11 : IVec S2048x1024 1) (main_v14 : IVec S4x1024 1) (main_v17 : IVec S1x1024 1) (main_v18 : FVec F S16x64x64 .f32) : IVec S2048x1024 1 × IVec S2048x1024 1 × IVec S2048x1024 1 × IVec S4x1024 1 × IVec S1x1024 1 × IVec S16x64x64 1 × IVec S16x64 1 × IVec S16x64x64 1 × IVec S16x64 1 × IVec S1x1024 1 :=
  let main_cst_4 : FVec F S_ .f32 := constant S_ .f32 0x7F800000#32
  let main_v19 : FVec F S16x64x64 .f32 := broadcastInDim S16x64x64 ![] bcast_S_S16x64x64 main_cst_4
  let main_v20 : IVec S16x64x64 1 := cmpf .olt main_v18 main_v19
  let main_v21 : FVec F S16x64 .f32 := Host.absf main_arg5
  let main_cst_5 : FVec F S_ .f32 := constant S_ .f32 0x7F800000#32
  let main_v22 : FVec F S16x64 .f32 := broadcastInDim S16x64 ![] bcast_S_S16x64 main_cst_5
  let main_v23 : IVec S16x64 1 := cmpf .olt main_v21 main_v22
  let main_v24 : FVec F S16x64x64 .f32 := Host.absf main_arg6
  let main_cst_6 : FVec F S_ .f32 := constant S_ .f32 0x7F800000#32
  let main_v25 : FVec F S16x64x64 .f32 := broadcastInDim S16x64x64 ![] bcast_S_S16x64x64 main_cst_6
  let main_v26 : IVec S16x64x64 1 := cmpf .olt main_v24 main_v25
  let main_v27 : FVec F S16x64 .f32 := Host.absf main_arg7
  let main_cst_7 : FVec F S_ .f32 := constant S_ .f32 0x7F800000#32
  let main_v28 : FVec F S16x64 .f32 := broadcastInDim S16x64 ![] bcast_S_S16x64 main_cst_7
  let main_v29 : IVec S16x64 1 := cmpf .olt main_v27 main_v28
  let main_v30 : FVec F S1x1024 .f32 := Host.absf main_arg8
  let main_cst_8 : FVec F S_ .f32 := constant S_ .f32 0x7F800000#32
  let main_v31 : FVec F S1x1024 .f32 := broadcastInDim S1x1024 ![] bcast_S_S1x1024 main_cst_8
  let main_v32 : IVec S1x1024 1 := cmpf .olt main_v30 main_v31
  (main_v5, main_v8, main_v11, main_v14, main_v17, main_v20, main_v23, main_v26, main_v29, main_v32)

def fn {F : FTy → Type} [FloatOps F] (main_arg0 : FVec F S2048x5632 .f32) (main_arg1 : FVec F S2048x2048 .f32) (main_arg2 : FVec F S4x1024 .f32) (main_arg3 : FVec F S1x1024 .f32) (main_arg4 : FVec F S16x64x64 .f32) (main_arg5 : FVec F S16x64 .f32) (main_arg6 : FVec F S16x64x64 .f32) (main_arg7 : FVec F S16x64 .f32) (main_arg8 : FVec F S1x1024 .f32) : IVec S2048x1024 1 × IVec S2048x1024 1 × IVec S2048x1024 1 × IVec S4x1024 1 × IVec S1x1024 1 × IVec S16x64x64 1 × IVec S16x64 1 × IVec S16x64x64 1 × IVec S16x64 1 × IVec S1x1024 1 :=
  let main_v0 : FVec F S2048x1024 .f32 := (extractStridedSlice S2048x1024 ![0, 0] · slices_S2048x5632_S2048x1024_0_0) main_arg0
  let main_v1 : FVec F S2048x1024 .f32 := (extractStridedSlice S2048x1024 ![0, 1024] · slices_S2048x5632_S2048x1024_0_1024) main_arg0
  let main_v2 : FVec F S2048x1024 .f32 := (extractStridedSlice S2048x1024 ![0, 0] · slices_S2048x2048_S2048x1024_0_0) main_arg1
  let main_v3 : FVec F S2048x1024 .f32 := Host.absf main_v0
  let main_cst : FVec F S_ .f32 := constant S_ .f32 0x7F800000#32
  let main_v4 : FVec F S2048x1024 .f32 := broadcastInDim S2048x1024 ![] bcast_S_S2048x1024 main_cst
  let main_v5 : IVec S2048x1024 1 := cmpf .olt main_v3 main_v4
  let main_v6 : FVec F S2048x1024 .f32 := Host.absf main_v1
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_v9 : FVec F S2048x1024 .f32 := Host.absf main_v2
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S4x1024 .f32 := Host.absf main_arg2
  let main_cst_2 : FVec F S_ .f32 := constant S_ .f32 0x7F800000#32
  let main_v13 : FVec F S4x1024 .f32 := broadcastInDim S4x1024 ![] bcast_S_S4x1024 main_cst_2
  let main_v14 : IVec S4x1024 1 := cmpf .olt main_v12 main_v13
  let main_v15 : FVec F S1x1024 .f32 := Host.absf main_arg3
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  let main_v18 : FVec F S16x64x64 .f32 := Host.absf main_arg4
  fn_part1 (F := F) main_arg5 main_arg6 main_arg7 main_arg8 main_v5 main_v8 main_v11 main_v14 main_v17 main_v18
-- ==== Kernel.lean ====
abbrev S2048x5632 : Shape := ⟨2, ![2048, 5632]⟩
abbrev S2048x2048 : Shape := ⟨2, ![2048, 2048]⟩
abbrev S4x1024 : Shape := ⟨2, ![4, 1024]⟩
abbrev S1x1024 : Shape := ⟨2, ![1, 1024]⟩
abbrev S16x64x64 : Shape := ⟨3, ![16, 64, 64]⟩
abbrev S16x64 : Shape := ⟨2, ![16, 64]⟩
abbrev S2048x1024 : Shape := ⟨2, ![2048, 1024]⟩
abbrev S_ : Shape := ⟨0, ![]⟩
abbrev S3x1024 : Shape := ⟨2, ![3, 1024]⟩
abbrev S2051x1024 : Shape := ⟨2, ![2051, 1024]⟩
abbrev S1024 : Shape := ⟨1, ![1024]⟩
abbrev S2048x16x64 : Shape := ⟨3, ![2048, 16, 64]⟩
abbrev S2048x16x64x1 : Shape := ⟨4, ![2048, 16, 64, 1]⟩
abbrev S1x16x64x64 : Shape := ⟨4, ![1, 16, 64, 64]⟩
abbrev S2048x16x64x64 : Shape := ⟨4, ![2048, 16, 64, 64]⟩
abbrev S1x16x64 : Shape := ⟨3, ![1, 16, 64]⟩
abbrev S2048 : Shape := ⟨1, ![2048]⟩
abbrev S2048x1 : Shape := ⟨2, ![2048, 1]⟩
abbrev S1x2048 : Shape := ⟨2, ![1, 2048]⟩
abbrev S2048x2048x1 : Shape := ⟨3, ![2048, 2048, 1]⟩
abbrev S2048x1x1024 : Shape := ⟨3, ![2048, 1, 1024]⟩
abbrev S1x2048x1024 : Shape := ⟨3, ![1, 2048, 1024]⟩
abbrev S2048x2048x1024 : Shape := ⟨3, ![2048, 2048, 1024]⟩
abbrev S8x1024 : Shape := ⟨2, ![8, 1024]⟩
abbrev S4x4x64x64 : Shape := ⟨4, ![4, 4, 64, 64]⟩
abbrev S4x64x64 : Shape := ⟨3, ![4, 64, 64]⟩
abbrev S4x1x64x64 : Shape := ⟨4, ![4, 1, 64, 64]⟩
abbrev S4x64x256 : Shape := ⟨3, ![4, 64, 256]⟩
abbrev S4x256x256 : Shape := ⟨3, ![4, 256, 256]⟩
abbrev S2048x256 : Shape := ⟨2, ![2048, 256]⟩
abbrev S8x256 : Shape := ⟨2, ![8, 256]⟩
abbrev S1x256 : Shape := ⟨2, ![1, 256]⟩
abbrev S1x256x256 : Shape := ⟨3, ![1, 256, 256]⟩
abbrev S2056x256 : Shape := ⟨2, ![2056, 256]⟩
abbrev S256x256 : Shape := ⟨2, ![256, 256]⟩
abbrev S256x1 : Shape := ⟨2, ![256, 1]⟩
abbrev S264x256 : Shape := ⟨2, ![264, 256]⟩
abbrev S256 : Shape := ⟨1, ![256]⟩

abbrev nBuf : Space → Nat
  | .hbm => 215
  | .vmem => 34
  | .smem => 0
  | _ => 0

abbrev hbmTy0_0 (i : Nat) : BufTy := match i % 128 with
  | 0 => ⟨S2048x5632, .f32⟩
  | 1 => ⟨S2048x2048, .f32⟩
  | 2 => ⟨S4x1024, .f32⟩
  | 3 => ⟨S1x1024, .f32⟩
  | 4 => ⟨S16x64x64, .f32⟩
  | 5 => ⟨S16x64, .f32⟩
  | 6 => ⟨S16x64x64, .f32⟩
  | 7 => ⟨S16x64, .f32⟩
  | 8 => ⟨S1x1024, .f32⟩
  | 9 => ⟨S2048x1024, .f32⟩
  | 10 => ⟨S_, .f32⟩
  | 11 => ⟨S3x1024, .f32⟩
  | 12 => ⟨S2051x1024, .f32⟩
  | 13 => ⟨S2048x1024, .f32⟩
  | 14 => ⟨S1x1024, .f32⟩
  | 15 => ⟨S1024, .f32⟩
  | 16 => ⟨S1x1024, .f32⟩
  | 17 => ⟨S2048x1024, .f32⟩
  | 18 => ⟨S2048x1024, .f32⟩
  | 19 => ⟨S2048x1024, .f32⟩
  | 20 => ⟨S1x1024, .f32⟩
  | 21 => ⟨S1024, .f32⟩
  | 22 => ⟨S1x1024, .f32⟩
  | 23 => ⟨S2048x1024, .f32⟩
  | 24 => ⟨S2048x1024, .f32⟩
  | 25 => ⟨S2048x1024, .f32⟩
  | 26 => ⟨S2048x1024, .f32⟩
  | 27 => ⟨S1x1024, .f32⟩
  | 28 => ⟨S1024, .f32⟩
  | 29 => ⟨S1x1024, .f32⟩
  | 30 => ⟨S2048x1024, .f32⟩
  | 31 => ⟨S2048x1024, .f32⟩
  | 32 => ⟨S2048x1024, .f32⟩
  | 33 => ⟨S2048x1024, .f32⟩
  | 34 => ⟨S1x1024, .f32⟩
  | 35 => ⟨S1024, .f32⟩
  | 36 => ⟨S1x1024, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x16x64, .f32⟩
  | 43 => ⟨S2048x16x64x1, .f32⟩
  | 44 => ⟨S1x16x64x64, .f32⟩
  | 45 => ⟨S2048x16x64x64, .f32⟩
  | 46 => ⟨S2048x16x64x64, .f32⟩
  | 47 => ⟨S2048x16x64x64, .f32⟩
  | 48 => ⟨S_, .f32⟩
  | 49 => ⟨S2048x16x64, .f32⟩
  | 50 => ⟨S1x16x64, .f32⟩
  | 51 => ⟨S2048x16x64, .f32⟩
  | 52 => ⟨S2048x16x64, .f32⟩
  | 53 => ⟨S2048x16x64, .f32⟩
  | 54 => ⟨S2048x16x64, .f32⟩
  | 55 => ⟨S_, .f32⟩
  | 56 => ⟨S2048x16x64, .f32⟩
  | 57 => ⟨S2048x16x64, .f32⟩
  | 58 => ⟨S_, .f32⟩
  | 59 => ⟨S2048x16x64, .f32⟩
  | 60 => ⟨S2048x16x64, .f32⟩
  | 61 => ⟨S2048x16x64x1, .f32⟩
  | 62 => ⟨S1x16x64x64, .f32⟩
  | 63 => ⟨S2048x16x64x64, .f32⟩
  | 64 => ⟨S2048x16x64x64, .f32⟩
  | 65 => ⟨S2048x16x64x64, .f32⟩
  | 66 => ⟨S_, .f32⟩
  | 67 => ⟨S2048x16x64, .f32⟩
  | 68 => ⟨S1x16x64, .f32⟩
  | 69 => ⟨S2048x16x64, .f32⟩
  | 70 => ⟨S2048x16x64, .f32⟩
  | 71 => ⟨S2048x16x64, .f32⟩
  | 72 => ⟨S2048x16x64, .f32⟩
  | 73 => ⟨S_, .f32⟩
  | 74 => ⟨S2048x16x64, .f32⟩
  | 75 => ⟨S2048x16x64, .f32⟩
  | 76 => ⟨S_, .f32⟩
  | 77 => ⟨S2048x16x64, .f32⟩
  | 78 => ⟨S2048x16x64, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S1x1024, .f32⟩
  | 90 => ⟨S1x1024, .i1⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S2048, .i32⟩
  | 108 => ⟨S_, .i32⟩
  | 109 => ⟨S2048, .i32⟩
  | 110 => ⟨S2048, .i1⟩
  | 111 => ⟨S2048x1, .i1⟩
  | 112 => ⟨S_, .f32⟩
  | 113 => ⟨S_, .f32⟩
  | 114 => ⟨S2048x1024, .i1⟩
  | 115 => ⟨S2048x1024, .f32⟩
  | 116 => ⟨S2048x1024, .f32⟩
  | 117 => ⟨S2048x1024, .f32⟩
  | 118 => ⟨S2048x1024, .f32⟩
  | 119 => ⟨S_, .f32⟩
  | 120 => ⟨S_, .f32⟩
  | 121 => ⟨S2048x1024, .f32⟩
  | 122 => ⟨S2048, .i32⟩
  | 123 => ⟨S2048x1, .i32⟩
  | 124 => ⟨S2048, .i32⟩
  | 125 => ⟨S1x2048, .i32⟩
  | 126 => ⟨S2048x2048, .i32⟩
  | 127 => ⟨S2048x2048, .i32⟩
  | _ => ⟨S2048x5632, .f32⟩

abbrev hbmTy0_1 (i : Nat) : BufTy := match i % 128 with
  | 0 => ⟨S2048x2048, .i1⟩
  | 1 => ⟨S2048x2048x1, .i1⟩
  | 2 => ⟨S2048x1x1024, .f32⟩
  | 3 => ⟨S1x2048x1024, .f32⟩
  | 4 => ⟨S2048x2048x1024, .f32⟩
  | 5 => ⟨S2048x2048x1024, .f32⟩
  | 6 => ⟨S2048x2048x1024, .f32⟩
  | 7 => ⟨S_, .f32⟩
  | 8 => ⟨S_, .f32⟩
  | 9 => ⟨S2048x2048x1024, .i1⟩
  | 10 => ⟨S2048x2048x1024, .f32⟩
  | 11 => ⟨S2048x2048x1024, .f32⟩
  | 12 => ⟨S2048x2048x1024, .f32⟩
  | 13 => ⟨S1x2048x1024, .f32⟩
  | 14 => ⟨S2048x2048x1024, .f32⟩
  | 15 => ⟨S2048x2048x1024, .f32⟩
  | 16 => ⟨S_, .f32⟩
  | 17 => ⟨S2048x1024, .f32⟩
  | 18 => ⟨S_, .f32⟩
  | 19 => ⟨S4x1024, .f32⟩
  | 20 => ⟨S8x1024, .f32⟩
  | 21 => ⟨S4x4x64x64, .f32⟩
  | 22 => ⟨S_, .f32⟩
  | 23 => ⟨S4x64x64, .f32⟩
  | 24 => ⟨S4x1x64x64, .f32⟩
  | 25 => ⟨S4x64x64, .f32⟩
  | 26 => ⟨S4x64x256, .f32⟩
  | 27 => ⟨S4x1x64x64, .f32⟩
  | 28 => ⟨S4x64x64, .f32⟩
  | 29 => ⟨S4x64x256, .f32⟩
  | 30 => ⟨S4x1x64x64, .f32⟩
  | 31 => ⟨S4x64x64, .f32⟩
  | 32 => ⟨S4x64x256, .f32⟩
  | 33 => ⟨S4x1x64x64, .f32⟩
  | 34 => ⟨S4x64x64, .f32⟩
  | 35 => ⟨S4x64x256, .f32⟩
  | 36 => ⟨S4x256x256, .f32⟩
  | 37 => ⟨S4x4x64x64, .f32⟩
  | 38 => ⟨S_, .f32⟩
  | 39 => ⟨S4x64x64, .f32⟩
  | 40 => ⟨S4x1x64x64, .f32⟩
  | 41 => ⟨S4x64x64, .f32⟩
  | 42 => ⟨S4x64x256, .f32⟩
  | 43 => ⟨S4x1x64x64, .f32⟩
  | 44 => ⟨S4x64x64, .f32⟩
  | 45 => ⟨S4x64x256, .f32⟩
  | 46 => ⟨S4x1x64x64, .f32⟩
  | 47 => ⟨S4x64x64, .f32⟩
  | 48 => ⟨S4x64x256, .f32⟩
  | 49 => ⟨S4x1x64x64, .f32⟩
  | 50 => ⟨S4x64x64, .f32⟩
  | 51 => ⟨S4x64x256, .f32⟩
  | 52 => ⟨S4x256x256, .f32⟩
  | 53 => ⟨S1x1024, .f32⟩
  | 54 => ⟨S1x1024, .f32⟩
  | 55 => ⟨S2048x1024, .bf16⟩
  | 56 => ⟨S2048x1024, .bf16⟩
  | 57 => ⟨S8x1024, .f32⟩
  | 58 => ⟨S4x256x256, .f32⟩
  | 59 => ⟨S4x256x256, .f32⟩
  | 60 => ⟨S4x1024, .f32⟩
  | 61 => ⟨S1x1024, .f32⟩
  | 62 => ⟨S4x64x64, .f32⟩
  | 63 => ⟨S4x64x64, .f32⟩
  | 64 => ⟨S4x64x64, .f32⟩
  | 65 => ⟨S4x64x64, .f32⟩
  | 66 => ⟨S4x1x64x64, .f32⟩
  | 67 => ⟨S4x1x64x64, .f32⟩
  | 68 => ⟨S4x1x64x64, .f32⟩
  | 69 => ⟨S4x1x64x64, .f32⟩
  | 70 => ⟨S4x4x64x64, .f32⟩
  | 71 => ⟨S16x64x64, .f32⟩
  | 72 => ⟨S1x1024, .f32⟩
  | 73 => ⟨S16x64, .f32⟩
  | 74 => ⟨S4x64x64, .f32⟩
  | 75 => ⟨S4x64x64, .f32⟩
  | 76 => ⟨S4x64x64, .f32⟩
  | 77 => ⟨S4x64x64, .f32⟩
  | 78 => ⟨S4x1x64x64, .f32⟩
  | 79 => ⟨S4x1x64x64, .f32⟩
  | 80 => ⟨S4x1x64x64, .f32⟩
  | 81 => ⟨S4x1x64x64, .f32⟩
  | 82 => ⟨S4x4x64x64, .f32⟩
  | 83 => ⟨S16x64x64, .f32⟩
  | 84 => ⟨S1x1024, .f32⟩
  | 85 => ⟨S16x64, .f32⟩
  | 86 => ⟨S1x1024, .f32⟩
  | _ => ⟨S2048x5632, .f32⟩

abbrev hbmTy (i : Nat) : BufTy := match i / 128 with
  | 0 => hbmTy0_0 i
  | 1 => hbmTy0_1 i
  | _ => ⟨S2048x5632, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S8x256, .f32⟩
  | .local _ .vmem, ⟨9, _⟩ => ⟨S8x256, .f32⟩
  | .local _ .vmem, ⟨10, _⟩ => ⟨S1x256, .f32⟩
  | .local _ .vmem, ⟨11, _⟩ => ⟨S1x256, .f32⟩
  | .local _ .vmem, ⟨12, _⟩ => ⟨S1x256x256, .f32⟩
  | .local _ .vmem, ⟨13, _⟩ => ⟨S1x256x256, .f32⟩
  | .local _ .vmem, ⟨14, _⟩ => ⟨S1x256, .f32⟩
  | .local _ .vmem, ⟨15, _⟩ => ⟨S1x256, .f32⟩
  | .local _ .vmem, ⟨16, _⟩ => ⟨S1x256x256, .f32⟩
  | .local _ .vmem, ⟨17, _⟩ => ⟨S1x256x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S8x256, .f32⟩
  | .local _ .vmem, ⟨27, _⟩ => ⟨S8x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256x256, .f32⟩
  | .local _ .vmem, ⟨32, _⟩ => ⟨S2056x256, .f32⟩
  | .local _ .vmem, ⟨33, _⟩ => ⟨S2056x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_1 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_7 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_8 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call2_call0_cst : Ref sig .tc := ⟨.hbm, 119, rfl⟩
abbrev main_call2_call0_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_9 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_10 : Ref sig .tc := ⟨.hbm, 144, rfl⟩
abbrev main_v102 : Ref sig .tc := ⟨.hbm, 145, rfl⟩
abbrev main_cst_11 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_12 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_13 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137_0 : Ref sig .tc := ⟨.hbm, 183, rfl⟩
abbrev main_v137_1 : Ref sig .tc := ⟨.hbm, 184, rfl⟩
abbrev main_v137_2 : Ref sig .tc := ⟨.hbm, 185, rfl⟩
abbrev main_v137_3 : Ref sig .tc := ⟨.hbm, 186, rfl⟩
abbrev main_v137_4 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c256_i32 : BitVec 32 := 256#32
  let v53 : BitVec 32 := Scalar.muli arg19 c256_i32
  v53
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c256_i32 : BitVec 32 := 256#32
  let v53 : BitVec 32 := Scalar.muli arg19 c256_i32
  let v54 : BitVec 32 := v53
  let v55 : Index := Scalar.indexCast v54
  let c0_48 : Index := 0#32
  ![v55.toNat, 0]
def k0_mult2 (k0_t1 : Fin k0_t1_loop.trips) : BitVec 32 :=
  let c8_i32_49 : BitVec 32 := 8#32
  let c0_i32 : BitVec 32 := 0#32
  let c1_i32 : BitVec 32 := 1#32
  let arg19 : BitVec 32 := Scf.iv c0_i32 c1_i32 k0_t1
  let c256_i32 : BitVec 32 := 256#32
  let v53 : BitVec 32 := Scalar.muli arg19 c256_i32
  let v54 : BitVec 32 := v53
  let v57 : BitVec 32 := Scalar.addi c8_i32_49 v54
  v57
def k0_off2 (k0_t1 : Fin k0_t1_loop.trips) : Fin 2 → Nat :=
  let c8_i32_49 : BitVec 32 := 8#32
  let c0_i32 : BitVec 32 := 0#32
  let c1_i32 : BitVec 32 := 1#32
  let arg19 : BitVec 32 := Scf.iv c0_i32 c1_i32 k0_t1
  let c256_i32 : BitVec 32 := 256#32
  let v53 : BitVec 32 := Scalar.muli arg19 c256_i32
  let v54 : BitVec 32 := v53
  let v57 : BitVec 32 := Scalar.addi c8_i32_49 v54
  let v58 : BitVec 32 := v57
  let v59 : Index := Scalar.indexCast v58
  let c0_50 : Index := 0#32
  ![v59.toNat, 0]
@[reducible] def k0_t2_loop : Scf.Loop 32 :=
  let c0_i32_5 : BitVec 32 := 0#32
  let c8_i32_6 : BitVec 32 := 8#32
  let v9 : BitVec 32 := Scalar.addi c0_i32_5 c8_i32_6
  let c1_i32_7 : BitVec 32 := 1#32
  ⟨c0_i32_5, v9, c1_i32_7⟩
def k0_mult3 (k0_t2 : Fin k0_t2_loop.trips) : BitVec 32 :=
  let c0_i32_5 : BitVec 32 := 0#32
  let c1_i32_7 : BitVec 32 := 1#32
  let arg19 : BitVec 32 := Scf.iv c0_i32_5 c1_i32_7 k0_t2
  let c256_i32 : BitVec 32 := 256#32
  let v53 : BitVec 32 := Scalar.muli arg19 c256_i32
  v53
def k0_off3 (k0_t2 : Fin k0_t2_loop.trips) : Fin 2 → Nat :=
  let c0_i32_5 : BitVec 32 := 0#32
  let c1_i32_7 : BitVec 32 := 1#32
  let arg19 : BitVec 32 := Scf.iv c0_i32_5 c1_i32_7 k0_t2
  let c256_i32 : BitVec 32 := 256#32
  let v53 : BitVec 32 := Scalar.muli arg19 c256_i32
  let v54 : BitVec 32 := v53
  let v55 : Index := Scalar.indexCast v54
  let c0_48 : Index := 0#32
  ![v55.toNat, 0]
def k0_mult4 (k0_t2 : Fin k0_t2_loop.trips) : BitVec 32 :=
  let c8_i32_49 : BitVec 32 := 8#32
  let c0_i32_5 : BitVec 32 := 0#32
  let c1_i32_7 : BitVec 32 := 1#32
  let arg19 : BitVec 32 := Scf.iv c0_i32_5 c1_i32_7 k0_t2
  let c256_i32 : BitVec 32 := 256#32
  let v53 : BitVec 32 := Scalar.muli arg19 c256_i32
  let v54 : BitVec 32 := v53
  let v58 : BitVec 32 := Scalar.addi c8_i32_49 v54
  v58
def k0_off4 (k0_t2 : Fin k0_t2_loop.trips) : Fin 2 → Nat :=
  let c8_i32_49 : BitVec 32 := 8#32
  let c0_i32_5 : BitVec 32 := 0#32
  let c1_i32_7 : BitVec 32 := 1#32
  let arg19 : BitVec 32 := Scf.iv c0_i32_5 c1_i32_7 k0_t2
  let c256_i32 : BitVec 32 := 256#32
  let v53 : BitVec 32 := Scalar.muli arg19 c256_i32
  let v54 : BitVec 32 := v53
  let v58 : BitVec 32 := Scalar.addi c8_i32_49 v54
  let v59 : BitVec 32 := v58
  let v60 : Index := Scalar.indexCast v59
  let c0_50 : Index := 0#32
  ![v60.toNat, 0]
@[reducible] def k0_t3_loop : Scf.Loop 32 :=
  let c0_i32_39 : BitVec 32 := 0#32
  let c8_i32_40 : BitVec 32 := 8#32
  let v42 : BitVec 32 := Scalar.addi c0_i32_39 c8_i32_40
  let c1_i32_41 : BitVec 32 := 1#32
  ⟨c0_i32_39, v42, c1_i32_41⟩
def k0_mult5 (k0_t3 : Fin k0_t3_loop.trips) : BitVec 32 :=
  let c7_i32 : BitVec 32 := 7#32
  let c0_i32_39 : BitVec 32 := 0#32
  let c1_i32_41 : BitVec 32 := 1#32
  let arg19 : BitVec 32 := Scf.iv c0_i32_39 c1_i32_41 k0_t3
  let v56 : BitVec 32 := Scalar.subi c7_i32 arg19
  let c256_i32 : BitVec 32 := 256#32
  let v57 : BitVec 32 := Scalar.muli v56 c256_i32
  v57
def k0_off5 (k0_t3 : Fin k0_t3_loop.trips) : Fin 2 → Nat :=
  let c7_i32 : BitVec 32 := 7#32
  let c0_i32_39 : BitVec 32 := 0#32
  let c1_i32_41 : BitVec 32 := 1#32
  let arg19 : BitVec 32 := Scf.iv c0_i32_39 c1_i32_41 k0_t3
  let v56 : BitVec 32 := Scalar.subi c7_i32 arg19
  let c256_i32 : BitVec 32 := 256#32
  let v57 : BitVec 32 := Scalar.muli v56 c256_i32
  let v58 : BitVec 32 := v57
  let v59 : Index := Scalar.indexCast v58
  let c0_48 : Index := 0#32
  ![v59.toNat, 0]
def k0_off6 (k0_t3 : Fin k0_t3_loop.trips) : Fin 2 → Nat :=
  let c7_i32 : BitVec 32 := 7#32
  let c0_i32_39 : BitVec 32 := 0#32
  let c1_i32_41 : BitVec 32 := 1#32
  let arg19 : BitVec 32 := Scf.iv c0_i32_39 c1_i32_41 k0_t3
  let v56 : BitVec 32 := Scalar.subi c7_i32 arg19
  let c256_i32 : BitVec 32 := 256#32
  let v57 : BitVec 32 := Scalar.muli v56 c256_i32
  let v58 : BitVec 32 := v57
  let v125 : Index := Scalar.indexCast v58
  let c0_63 : Index := 0#32
  ![v125.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== ReferenceIdeal.lean ====
abbrev S2048x5632 : Shape := ⟨2, ![2048, 5632]⟩
abbrev S2048x2048 : Shape := ⟨2, ![2048, 2048]⟩
abbrev S4x1024 : Shape := ⟨2, ![4, 1024]⟩
abbrev S1x1024 : Shape := ⟨2, ![1, 1024]⟩
abbrev S16x64x64 : Shape := ⟨3, ![16, 64, 64]⟩
abbrev S16x64 : Shape := ⟨2, ![16, 64]⟩
abbrev S2048x1024 : Shape := ⟨2, ![2048, 1024]⟩
abbrev S_ : Shape := ⟨0, ![]⟩
abbrev S3x1024 : Shape := ⟨2, ![3, 1024]⟩
abbrev S2051x1024 : Shape := ⟨2, ![2051, 1024]⟩
abbrev S1024 : Shape := ⟨1, ![1024]⟩
abbrev S2048x16x64 : Shape := ⟨3, ![2048, 16, 64]⟩
abbrev S16x64x2048 : Shape := ⟨3, ![16, 64, 2048]⟩
abbrev S1x16x64 : Shape := ⟨3, ![1, 16, 64]⟩
abbrev S2048 : Shape := ⟨1, ![2048]⟩
abbrev S2048x1 : Shape := ⟨2, ![2048, 1]⟩
abbrev S1x2048 : Shape := ⟨2, ![1, 2048]⟩
abbrev S2048x2048x1 : Shape := ⟨3, ![2048, 2048, 1]⟩
abbrev S2048x1x1024 : Shape := ⟨3, ![2048, 1, 1024]⟩
abbrev S1x2048x1024 : Shape := ⟨3, ![1, 2048, 1024]⟩
abbrev S2048x2048x1024 : Shape := ⟨3, ![2048, 2048, 1024]⟩
abbrev S16x2048x64 : Shape := ⟨3, ![16, 2048, 64]⟩

abbrev nBuf : Space → Nat
  | .hbm => 385
  | .vmem => 0
  | .smem => 0
  | _ => 0

abbrev hbmTy0_0 (i : Nat) : BufTy := match i % 128 with
  | 0 => ⟨S2048x5632, .f32⟩
  | 1 => ⟨S2048x2048, .f32⟩
  | 2 => ⟨S4x1024, .f32⟩
  | 3 => ⟨S1x1024, .f32⟩
  | 4 => ⟨S16x64x64, .f32⟩
  | 5 => ⟨S16x64, .f32⟩
  | 6 => ⟨S16x64x64, .f32⟩
  | 7 => ⟨S16x64, .f32⟩
  | 8 => ⟨S1x1024, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S2048x1024, .f32⟩
  | 43 => ⟨S_, .f32⟩
  | 44 => ⟨S3x1024, .f32⟩
  | 45 => ⟨S2051x1024, .f32⟩
  | 46 => ⟨S_, .f32⟩
  | 47 => ⟨S3x1024, .f32⟩
  | 48 => ⟨S2048x1024, .f32⟩
  | 49 => ⟨S1x1024, .f32⟩
  | 50 => ⟨S1024, .f32⟩
  | 51 => ⟨S1x1024, .f32⟩
  | 52 => ⟨S2048x1024, .f32⟩
  | 53 => ⟨S2048x1024, .f32⟩
  | 54 => ⟨S2048x1024, .f32⟩
  | 55 => ⟨S1x1024, .f32⟩
  | 56 => ⟨S1024, .f32⟩
  | 57 => ⟨S1x1024, .f32⟩
  | 58 => ⟨S2048x1024, .f32⟩
  | 59 => ⟨S2048x1024, .f32⟩
  | 60 => ⟨S2048x1024, .f32⟩
  | 61 => ⟨S2048x1024, .f32⟩
  | 62 => ⟨S1x1024, .f32⟩
  | 63 => ⟨S1024, .f32⟩
  | 64 => ⟨S1x1024, .f32⟩
  | 65 => ⟨S2048x1024, .f32⟩
  | 66 => ⟨S2048x1024, .f32⟩
  | 67 => ⟨S2048x1024, .f32⟩
  | 68 => ⟨S2048x1024, .f32⟩
  | 69 => ⟨S1x1024, .f32⟩
  | 70 => ⟨S1024, .f32⟩
  | 71 => ⟨S1x1024, .f32⟩
  | 72 => ⟨S2048x1024, .f32⟩
  | 73 => ⟨S2048x1024, .f32⟩
  | 74 => ⟨S2048x1024, .f32⟩
  | 75 => ⟨S2048x1024, .f32⟩
  | 76 => ⟨S2048x1024, .f32⟩
  | 77 => ⟨S2048x16x64, .f32⟩
  | 78 => ⟨S16x64x2048, .f32⟩
  | 79 => ⟨S2048x16x64, .f32⟩
  | 80 => ⟨S1x16x64, .f32⟩
  | 81 => ⟨S2048x16x64, .f32⟩
  | 82 => ⟨S2048x16x64, .f32⟩
  | 83 => ⟨S2048x16x64, .f32⟩
  | 84 => ⟨S2048x16x64, .f32⟩
  | 85 => ⟨S_, .f32⟩
  | 86 => ⟨S2048x16x64, .f32⟩
  | 87 => ⟨S2048x16x64, .f32⟩
  | 88 => ⟨S_, .f32⟩
  | 89 => ⟨S2048x16x64, .f32⟩
  | 90 => ⟨S2048x16x64, .f32⟩
  | 91 => ⟨S_, .f32⟩
  | 92 => ⟨S2048x16x64, .f32⟩
  | 93 => ⟨S2048x16x64, .f32⟩
  | 94 => ⟨S2048x16x64, .f32⟩
  | 95 => ⟨S16x64x2048, .f32⟩
  | 96 => ⟨S2048x16x64, .f32⟩
  | 97 => ⟨S1x16x64, .f32⟩
  | 98 => ⟨S2048x16x64, .f32⟩
  | 99 => ⟨S2048x16x64, .f32⟩
  | 100 => ⟨S2048x16x64, .f32⟩
  | 101 => ⟨S2048x16x64, .f32⟩
  | 102 => ⟨S_, .f32⟩
  | 103 => ⟨S2048x16x64, .f32⟩
  | 104 => ⟨S2048x16x64, .f32⟩
  | 105 => ⟨S_, .f32⟩
  | 106 => ⟨S2048x16x64, .f32⟩
  | 107 => ⟨S2048x16x64, .f32⟩
  | 108 => ⟨S_, .f32⟩
  | 109 => ⟨S2048x16x64, .f32⟩
  | 110 => ⟨S2048x16x64, .f32⟩
  | 111 => ⟨S2048x16x64, .f32⟩
  | 112 => ⟨S2048x1024, .f32⟩
  | 113 => ⟨S2048x1024, .f32⟩
  | 114 => ⟨S_, .f32⟩
  | 115 => ⟨S2048x1024, .f32⟩
  | 116 => ⟨S2048x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S1x1024, .f32⟩
  | 123 => ⟨S1x1024, .i1⟩
  | 124 => ⟨S1x1024, .f32⟩
  | 125 => ⟨S1x1024, .f32⟩
  | 126 => ⟨S1x1024, .f32⟩
  | 127 => ⟨S1x1024, .f32⟩
  | _ => ⟨S2048x5632, .f32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .i1⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .i1⟩
  | 13 => ⟨S_, .f32⟩
  | 14 => ⟨S1x1024, .f32⟩
  | 15 => ⟨S1x1024, .f32⟩
  | 16 => ⟨S1x1024, .f32⟩
  | 17 => ⟨S1x1024, .f32⟩
  | 18 => ⟨S_, .f32⟩
  | 19 => ⟨S_, .f32⟩
  | 20 => ⟨S_, .i1⟩
  | 21 => ⟨S_, .f32⟩
  | 22 => ⟨S_, .f32⟩
  | 23 => ⟨S_, .f32⟩
  | 24 => ⟨S_, .f32⟩
  | 25 => ⟨S1x1024, .f32⟩
  | 26 => ⟨S1x1024, .i1⟩
  | 27 => ⟨S_, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S2048, .i32⟩
  | 49 => ⟨S_, .i32⟩
  | 50 => ⟨S2048, .i32⟩
  | 51 => ⟨S2048, .i1⟩
  | 52 => ⟨S2048x1, .i1⟩
  | 53 => ⟨S_, .f32⟩
  | 54 => ⟨S_, .f32⟩
  | 55 => ⟨S2048x1024, .i1⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S2048x1024, .f32⟩
  | 62 => ⟨S_, .f32⟩
  | 63 => ⟨S_, .f32⟩
  | 64 => ⟨S2048x1024, .f32⟩
  | 65 => ⟨S2048, .i32⟩
  | 66 => ⟨S2048x1, .i32⟩
  | 67 => ⟨S2048, .i32⟩
  | 68 => ⟨S1x2048, .i32⟩
  | 69 => ⟨S2048x2048, .i32⟩
  | 70 => ⟨S2048x2048, .i32⟩
  | 71 => ⟨S2048x2048, .i1⟩
  | 72 => ⟨S2048x2048x1, .i1⟩
  | 73 => ⟨S2048x1x1024, .f32⟩
  | 74 => ⟨S1x2048x1024, .f32⟩
  | 75 => ⟨S2048x2048x1024, .f32⟩
  | 76 => ⟨S2048x2048x1024, .f32⟩
  | 77 => ⟨S2048x2048x1024, .f32⟩
  | 78 => ⟨S_, .f32⟩
  | 79 => ⟨S_, .f32⟩
  | 80 => ⟨S2048x2048x1024, .i1⟩
  | 81 => ⟨S2048x2048x1024, .f32⟩
  | 82 => ⟨S2048x2048x1024, .f32⟩
  | 83 => ⟨S_, .f32⟩
  | 84 => ⟨S2048x2048x1024, .f32⟩
  | 85 => ⟨S2048x2048x1024, .f32⟩
  | 86 => ⟨S1x2048x1024, .f32⟩
  | 87 => ⟨S2048x2048x1024, .f32⟩
  | 88 => ⟨S2048x2048x1024, .f32⟩
  | 89 => ⟨S_, .f32⟩
  | 90 => ⟨S2048x1024, .f32⟩
  | 91 => ⟨S2048x1024, .f32⟩
  | 92 => ⟨S2048x1024, .f32⟩
  | 93 => ⟨S2048x1024, .f32⟩
  | 94 => ⟨S2048x2048x1024, .f32⟩
  | 95 => ⟨S2048x2048x1024, .f32⟩
  | 96 => ⟨S_, .f32⟩
  | 97 => ⟨S2048x1024, .f32⟩
  | 98 => ⟨S1x2048x1024, .f32⟩
  | 99 => ⟨S2048x2048x1024, .f32⟩
  | 100 => ⟨S2048x2048x1024, .f32⟩
  | 101 => ⟨S_, .f32⟩
  | 102 => ⟨S2048x1024, .f32⟩
  | 103 => ⟨S2048x2048x1024, .f32⟩
  | 104 => ⟨S_, .f32⟩
  | 105 => ⟨S2048x2048x1024, .f32⟩
  | 106 => ⟨S2048x2048x1024, .f32⟩
  | 107 => ⟨S_, .f32⟩
  | 108 => ⟨S2048x1024, .f32⟩
  | 109 => ⟨S2048x1x1024, .f32⟩
  | 110 => ⟨S2048x2048x1024, .f32⟩
  | 111 => ⟨S_, .f32⟩
  | 112 => ⟨S2048x1024, .f32⟩
  | 113 => ⟨S1x2048x1024, .f32⟩
  | 114 => ⟨S_, .f32⟩
  | 115 => ⟨S2048x1024, .f32⟩
  | 116 => ⟨S_, .f32⟩
  | 117 => ⟨S2048x1024, .f32⟩
  | 118 => ⟨S2048x1024, .f32⟩
  | 119 => ⟨S_, .f32⟩
  | 120 => ⟨S_, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S_, .f32⟩
  | 127 => ⟨S2048x1024, .f32⟩
  | _ => ⟨S2048x5632, .f32⟩

abbrev hbmTy0_2 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S_, .f32⟩
  | 5 => ⟨S2048x1024, .f32⟩
  | 6 => ⟨S2048x1024, .f32⟩
  | 7 => ⟨S2048x1024, .f32⟩
  | 8 => ⟨S2048x1024, .f32⟩
  | 9 => ⟨S_, .f32⟩
  | 10 => ⟨S1024, .f32⟩
  | 11 => ⟨S1x1024, .f32⟩
  | 12 => ⟨S2048x1024, .f32⟩
  | 13 => ⟨S2048x1024, .f32⟩
  | 14 => ⟨S1x1024, .f32⟩
  | 15 => ⟨S1x1024, .f32⟩
  | 16 => ⟨S_, .f32⟩
  | 17 => ⟨S2048x1024, .f32⟩
  | 18 => ⟨S2048x1024, .f32⟩
  | 19 => ⟨S2048x16x64, .f32⟩
  | 20 => ⟨S2048x16x64, .f32⟩
  | 21 => ⟨S2048x16x64, .f32⟩
  | 22 => ⟨S_, .f32⟩
  | 23 => ⟨S16x64, .f32⟩
  | 24 => ⟨S1x16x64, .f32⟩
  | 25 => ⟨S_, .f32⟩
  | 26 => ⟨S16x64, .f32⟩
  | 27 => ⟨S16x64x2048, .f32⟩
  | 28 => ⟨S16x2048x64, .f32⟩
  | 29 => ⟨S2048x16x64, .f32⟩
  | 30 => ⟨S16x64x64, .f32⟩
  | 31 => ⟨S16x64x64, .f32⟩
  | 32 => ⟨S2048x16x64, .f32⟩
  | 33 => ⟨S_, .f32⟩
  | 34 => ⟨S16x64, .f32⟩
  | 35 => ⟨S1x16x64, .f32⟩
  | 36 => ⟨S_, .f32⟩
  | 37 => ⟨S16x64, .f32⟩
  | 38 => ⟨S16x64x2048, .f32⟩
  | 39 => ⟨S16x2048x64, .f32⟩
  | 40 => ⟨S2048x16x64, .f32⟩
  | 41 => ⟨S2048x16x64, .f32⟩
  | 42 => ⟨S16x64x64, .f32⟩
  | 43 => ⟨S16x64x64, .f32⟩
  | 44 => ⟨S2048x1024, .f32⟩
  | 45 => ⟨S2048x1024, .f32⟩
  | 46 => ⟨S_, .f32⟩
  | 47 => ⟨S1024, .f32⟩
  | 48 => ⟨S1x1024, .f32⟩
  | 49 => ⟨S2048x1024, .f32⟩
  | 50 => ⟨S_, .f32⟩
  | 51 => ⟨S1024, .f32⟩
  | 52 => ⟨S1x1024, .f32⟩
  | 53 => ⟨S2048x1024, .f32⟩
  | 54 => ⟨S2048x1024, .f32⟩
  | 55 => ⟨S_, .f32⟩
  | 56 => ⟨S1024, .f32⟩
  | 57 => ⟨S1x1024, .f32⟩
  | 58 => ⟨S_, .f32⟩
  | 59 => ⟨S4x1024, .f32⟩
  | 60 => ⟨S_, .f32⟩
  | 61 => ⟨S2051x1024, .f32⟩
  | 62 => ⟨S2048x1024, .f32⟩
  | 63 => ⟨S_, .f32⟩
  | 64 => ⟨S1024, .f32⟩
  | 65 => ⟨S1x1024, .f32⟩
  | 66 => ⟨S2048x1024, .f32⟩
  | 67 => ⟨S2048x1024, .f32⟩
  | 68 => ⟨S_, .f32⟩
  | 69 => ⟨S1024, .f32⟩
  | 70 => ⟨S1x1024, .f32⟩
  | 71 => ⟨S_, .f32⟩
  | 72 => ⟨S4x1024, .f32⟩
  | 73 => ⟨S4x1024, .f32⟩
  | 74 => ⟨S_, .f32⟩
  | 75 => ⟨S2051x1024, .f32⟩
  | 76 => ⟨S2051x1024, .f32⟩
  | 77 => ⟨S2048x1024, .f32⟩
  | 78 => ⟨S_, .f32⟩
  | 79 => ⟨S1024, .f32⟩
  | 80 => ⟨S1x1024, .f32⟩
  | 81 => ⟨S2048x1024, .f32⟩
  | 82 => ⟨S2048x1024, .f32⟩
  | 83 => ⟨S_, .f32⟩
  | 84 => ⟨S1024, .f32⟩
  | 85 => ⟨S1x1024, .f32⟩
  | 86 => ⟨S_, .f32⟩
  | 87 => ⟨S4x1024, .f32⟩
  | 88 => ⟨S4x1024, .f32⟩
  | 89 => ⟨S_, .f32⟩
  | 90 => ⟨S2051x1024, .f32⟩
  | 91 => ⟨S2051x1024, .f32⟩
  | 92 => ⟨S2048x1024, .f32⟩
  | 93 => ⟨S_, .f32⟩
  | 94 => ⟨S1024, .f32⟩
  | 95 => ⟨S1x1024, .f32⟩
  | 96 => ⟨S2048x1024, .f32⟩
  | 97 => ⟨S2048x1024, .f32⟩
  | 98 => ⟨S_, .f32⟩
  | 99 => ⟨S1024, .f32⟩
  | 100 => ⟨S1x1024, .f32⟩
  | 101 => ⟨S_, .f32⟩
  | 102 => ⟨S4x1024, .f32⟩
  | 103 => ⟨S4x1024, .f32⟩
  | 104 => ⟨S_, .f32⟩
  | 105 => ⟨S2051x1024, .f32⟩
  | 106 => ⟨S2051x1024, .f32⟩
  | 107 => ⟨S3x1024, .f32⟩
  | 108 => ⟨S2048x1024, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S2048x1024, .f32⟩
  | 115 => ⟨S_, .f32⟩
  | 116 => ⟨S2048x1024, .f32⟩
  | 117 => ⟨S2048x1024, .f32⟩
  | 118 => ⟨S2048x1024, .f32⟩
  | 119 => ⟨S_, .f32⟩
  | 120 => ⟨S2048x1024, .f32⟩
  | 121 => ⟨S2048x1024, .f32⟩
  | 122 => ⟨S_, .f32⟩
  | 123 => ⟨S2048x1024, .f32⟩
  | 124 => ⟨S2048x1024, .f32⟩
  | 125 => ⟨S2048x1024, .f32⟩
  | 126 => ⟨S2048x1024, .f32⟩
  | 127 => ⟨S2048x1024, .bf16⟩
  | _ => ⟨S2048x5632, .f32⟩

abbrev hbmTy0_3 (i : Nat) : BufTy := match i % 128 with
  | 0 => ⟨S2048x1024, .bf16⟩
  | _ => ⟨S2048x5632, .f32⟩

abbrev hbmTy (i : Nat) : BufTy := match i / 128 with
  | 0 => hbmTy0_0 i
  | 1 => hbmTy0_1 i
  | 2 => hbmTy0_2 i
  | 3 => hbmTy0_3 i
  | _ => ⟨S2048x5632, .f32⟩

abbrev bufTy : (tb : Table) → Fin (tcTables nBuf tb) → BufTy
  | .hbm, ⟨i, _⟩ => hbmTy i
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_cst_13 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call0_cst : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_call0_v3 : Ref sig .tc := ⟨.hbm, 122, rfl⟩
abbrev main_call0_v4 : Ref sig .tc := ⟨.hbm, 123, rfl⟩
abbrev main_call0_v5 : Ref sig .tc := ⟨.hbm, 124, rfl⟩
abbrev main_call0_v6 : Ref sig .tc := ⟨.hbm, 125, rfl⟩
abbrev main_call0_v7 : Ref sig .tc := ⟨.hbm, 126, rfl⟩
abbrev main_call0_v8 : Ref sig .tc := ⟨.hbm, 127, rfl⟩
abbrev main_call0_v9 : Ref sig .tc := ⟨.hbm, 128, rfl⟩
abbrev main_call0_v10 : Ref sig .tc := ⟨.hbm, 129, rfl⟩
abbrev main_call0_v11 : Ref sig .tc := ⟨.hbm, 130, rfl⟩
abbrev main_v92_0 : Ref sig .tc := ⟨.hbm, 131, rfl⟩
abbrev main_call0_cst_0 : Ref sig .tc := ⟨.hbm, 132, rfl⟩
abbrev main_call0_v13 : Ref sig .tc := ⟨.hbm, 133, rfl⟩
abbrev main_call0_v14 : Ref sig .tc := ⟨.hbm, 134, rfl⟩
abbrev main_call0_cst_1 : Ref sig .tc := ⟨.hbm, 135, rfl⟩
abbrev main_call0_v15 : Ref sig .tc := ⟨.hbm, 136, rfl⟩
abbrev main_call0_v16 : Ref sig .tc := ⟨.hbm, 137, rfl⟩
abbrev main_call0_cst_2 : Ref sig .tc := ⟨.hbm, 138, rfl⟩
abbrev main_call0_v17 : Ref sig .tc := ⟨.hbm, 139, rfl⟩
abbrev main_call0_v18 : Ref sig .tc := ⟨.hbm, 140, rfl⟩
abbrev main_call0_cst_3 : Ref sig .tc := ⟨.hbm, 141, rfl⟩
abbrev main_call0_v19 : Ref sig .tc := ⟨.hbm, 142, rfl⟩
abbrev main_call0_v20 : Ref sig .tc := ⟨.hbm, 143, rfl⟩
abbrev main_call0_v21 : Ref sig .tc := ⟨.hbm, 144, rfl⟩
abbrev main_v92_1 : Ref sig .tc := ⟨.hbm, 145, rfl⟩
abbrev main_call0_cst_4 : Ref sig .tc := ⟨.hbm, 146, rfl⟩
abbrev main_call0_cst_5 : Ref sig .tc := ⟨.hbm, 147, rfl⟩
abbrev main_call0_v23 : Ref sig .tc := ⟨.hbm, 148, rfl⟩
abbrev main_call0_cst_6 : Ref sig .tc := ⟨.hbm, 149, rfl⟩
abbrev main_call0_cst_7 : Ref sig .tc := ⟨.hbm, 150, rfl⟩
abbrev main_call0_v24 : Ref sig .tc := ⟨.hbm, 151, rfl⟩
abbrev main_call0_cst_8 : Ref sig .tc := ⟨.hbm, 152, rfl⟩
abbrev main_call0_v25 : Ref sig .tc := ⟨.hbm, 153, rfl⟩
abbrev main_call0_v26 : Ref sig .tc := ⟨.hbm, 154, rfl⟩
abbrev main_call0_cst_9 : Ref sig .tc := ⟨.hbm, 155, rfl⟩
abbrev main_call0_v27 : Ref sig .tc := ⟨.hbm, 156, rfl⟩
abbrev main_call0_v28 : Ref sig .tc := ⟨.hbm, 157, rfl⟩
abbrev main_call0_v29 : Ref sig .tc := ⟨.hbm, 158, rfl⟩
abbrev main_call0_v30 : Ref sig .tc := ⟨.hbm, 159, rfl⟩
abbrev main_call0_v31 : Ref sig .tc := ⟨.hbm, 160, rfl⟩
abbrev main_call0_cst_10 : Ref sig .tc := ⟨.hbm, 161, rfl⟩
abbrev main_call0_v32 : Ref sig .tc := ⟨.hbm, 162, rfl⟩
abbrev main_v92_2 : Ref sig .tc := ⟨.hbm, 163, rfl⟩
abbrev main_v93 : Ref sig .tc := ⟨.hbm, 164, rfl⟩
abbrev main_v94 : Ref sig .tc := ⟨.hbm, 165, rfl⟩
abbrev main_cst_16 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_cst_17 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_c : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_cst_18 : Ref sig .tc := ⟨.hbm, 181, rfl⟩
abbrev main_call1_v0 : Ref sig .tc := ⟨.hbm, 182, rfl⟩
abbrev main_v107_1 : Ref sig .tc := ⟨.hbm, 183, rfl⟩
abbrev main_call1_v2 : Ref sig .tc := ⟨.hbm, 184, rfl⟩
abbrev main_v107_0 : Ref sig .tc := ⟨.hbm, 185, rfl⟩
abbrev main_call1_cst : Ref sig .tc := ⟨.hbm, 186, rfl⟩
abbrev main_v107_2 : Ref sig .tc := ⟨.hbm, 187, rfl⟩
abbrev main_v108 : Ref sig .tc := ⟨.hbm, 188, rfl⟩
abbrev main_v109 : Ref sig .tc := ⟨.hbm, 189, rfl⟩
abbrev main_call2_call0_cst : Ref sig .tc := ⟨.hbm, 190, rfl⟩
abbrev main_call2_call0_v0 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_cst_19 : Ref sig .tc := ⟨.hbm, 206, rfl⟩
abbrev main_call3_v0 : Ref sig .tc := ⟨.hbm, 207, rfl⟩
abbrev main_v124_1 : Ref sig .tc := ⟨.hbm, 208, rfl⟩
abbrev main_call3_v2 : Ref sig .tc := ⟨.hbm, 209, rfl⟩
abbrev main_v124_0 : Ref sig .tc := ⟨.hbm, 210, rfl⟩
abbrev main_call3_cst : Ref sig .tc := ⟨.hbm, 211, rfl⟩
abbrev main_v124_2 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_cst_20 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_cst_21 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_cst_22 : Ref sig .tc := ⟨.hbm, 229, rfl⟩
abbrev main_v139 : Ref sig .tc := ⟨.hbm, 230, rfl⟩
abbrev main_v140 : Ref sig .tc := ⟨.hbm, 231, rfl⟩
abbrev main_call4_cst : Ref sig .tc := ⟨.hbm, 232, rfl⟩
abbrev main_call4_v0 : Ref sig .tc := ⟨.hbm, 233, rfl⟩
abbrev main_v141 : Ref sig .tc := ⟨.hbm, 234, rfl⟩
abbrev main_cst_23 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_cst_24 : Ref sig .tc := ⟨.hbm, 239, rfl⟩
abbrev main_v145 : Ref sig .tc := ⟨.hbm, 240, rfl⟩
abbrev main_v146 : Ref sig .tc := ⟨.hbm, 241, rfl⟩
abbrev main_cst_25 : Ref sig .tc := ⟨.hbm, 242, rfl⟩
abbrev main_v147 : Ref sig .tc := ⟨.hbm, 243, rfl⟩
abbrev main_cst_26 : Ref sig .tc := ⟨.hbm, 244, rfl⟩
abbrev main_v148 : Ref sig .tc := ⟨.hbm, 245, rfl⟩
abbrev main_v149 : Ref sig .tc := ⟨.hbm, 246, rfl⟩
abbrev main_call5_call0_cst : Ref sig .tc := ⟨.hbm, 247, rfl⟩
abbrev main_call5_call0_v0 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_call6_cst : Ref sig .tc := ⟨.hbm, 254, rfl⟩
abbrev main_call6_v0 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_cst_27 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_cst_28 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_cst_29 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_cst_30 : Ref sig .tc := ⟨.hbm, 278, rfl⟩
abbrev main_v174 : Ref sig .tc := ⟨.hbm, 279, rfl⟩
abbrev main_v175 : Ref sig .tc := ⟨.hbm, 280, rfl⟩
abbrev main_cst_31 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_cst_32 : Ref sig .tc := ⟨.hbm, 289, rfl⟩
abbrev main_v183 : Ref sig .tc := ⟨.hbm, 290, rfl⟩
abbrev main_v184 : Ref sig .tc := ⟨.hbm, 291, rfl⟩
abbrev main_cst_33 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_cst_34 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_cst_35 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_v200 : Ref sig .tc := ⟨.hbm, 310, rfl⟩
abbrev main_cst_36 : Ref sig .tc := ⟨.hbm, 311, rfl⟩
abbrev main_v201 : Ref sig .tc := ⟨.hbm, 312, rfl⟩
abbrev main_v202 : Ref sig .tc := ⟨.hbm, 313, rfl⟩
abbrev main_cst_37 : Ref sig .tc := ⟨.hbm, 314, rfl⟩
abbrev main_v203 : Ref sig .tc := ⟨.hbm, 315, rfl⟩
abbrev main_cst_38 : Ref sig .tc := ⟨.hbm, 316, rfl⟩
abbrev main_v204 : Ref sig .tc := ⟨.hbm, 317, rfl⟩
abbrev main_v205 : Ref sig .tc := ⟨.hbm, 318, rfl⟩
abbrev main_cst_39 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_cst_40 : Ref sig .tc := ⟨.hbm, 324, rfl⟩
abbrev main_v210 : Ref sig .tc := ⟨.hbm, 325, rfl⟩
abbrev main_v211 : Ref sig .tc := ⟨.hbm, 326, rfl⟩
abbrev main_cst_41 : Ref sig .tc := ⟨.hbm, 327, rfl⟩
abbrev main_v212 : Ref sig .tc := ⟨.hbm, 328, rfl⟩
abbrev main_v213 : Ref sig .tc := ⟨.hbm, 329, rfl⟩
abbrev main_cst_42 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_cst_43 : Ref sig .tc := ⟨.hbm, 334, rfl⟩
abbrev main_v217 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_cst_44 : Ref sig .tc := ⟨.hbm, 339, rfl⟩
abbrev main_v221 : Ref sig .tc := ⟨.hbm, 340, rfl⟩
abbrev main_v222 : Ref sig .tc := ⟨.hbm, 341, rfl⟩
abbrev main_cst_45 : Ref sig .tc := ⟨.hbm, 342, rfl⟩
abbrev main_v223 : Ref sig .tc := ⟨.hbm, 343, rfl⟩
abbrev main_v224 : Ref sig .tc := ⟨.hbm, 344, rfl⟩
abbrev main_cst_46 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_cst_47 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_v231 : Ref sig .tc := ⟨.hbm, 353, rfl⟩
abbrev main_cst_48 : Ref sig .tc := ⟨.hbm, 354, rfl⟩
abbrev main_v232 : Ref sig .tc := ⟨.hbm, 355, rfl⟩
abbrev main_v233 : Ref sig .tc := ⟨.hbm, 356, rfl⟩
abbrev main_cst_49 : Ref sig .tc := ⟨.hbm, 357, rfl⟩
abbrev main_v234 : Ref sig .tc := ⟨.hbm, 358, rfl⟩
abbrev main_v235 : Ref sig .tc := ⟨.hbm, 359, rfl⟩
abbrev main_cst_50 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_cst_51 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_cst_52 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_cst_53 : Ref sig .tc := ⟨.hbm, 375, rfl⟩
abbrev main_v248 : Ref sig .tc := ⟨.hbm, 376, rfl⟩
abbrev main_v249 : Ref sig .tc := ⟨.hbm, 377, rfl⟩
abbrev main_cst_54 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_v255 : Ref sig .tc := ⟨.hbm, 384, rfl⟩

abbrev nD : Nat := 1
abbrev τ : Topo := Topo.v7x

variable {F : FTy → Type} [FloatOps F]

def κ : String → Option EReal := fun
  | "gelu_cubic" => some ((8943 / 200000 : ℝ) : EReal)
  | "gelu_cubic_3" => some ((26829 / 200000 : ℝ) : EReal)
  | _ => none
-- ==== PleGate.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PleGateRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ple.lean ====
abbrev S2048x256 : Shape := ⟨2, ![2048, 256]⟩
abbrev S2048x1024 : Shape := ⟨2, ![2048, 1024]⟩
abbrev S8x256x128 : Shape := ⟨3, ![8, 256, 128]⟩
abbrev S2048x128 : Shape := ⟨2, ![2048, 128]⟩
abbrev S1x256x128 : Shape := ⟨3, ![1, 256, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S8x256x128, .bf16⟩
  | .local _ .vmem, ⟨0, _⟩ => ⟨S2048x256, .f32⟩
  | .local _ .vmem, ⟨1, _⟩ => ⟨S2048x128, .bf16⟩
  | .local _ .vmem, ⟨2, _⟩ => ⟨S2048x128, .bf16⟩
  | .local _ .vmem, ⟨3, _⟩ => ⟨S1x256x128, .bf16⟩
  | .local _ .vmem, ⟨4, _⟩ => ⟨S1x256x128, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PleRefIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S256x1024, .f32⟩
  | .hbm, ⟨5, _⟩ => ⟨S2048x1024, .f32⟩
  | .hbm, ⟨6, _⟩ => ⟨S1024x256, .f32⟩
  | .hbm, ⟨7, _⟩ => ⟨S256x1024, .f32⟩
  | .hbm, ⟨8, _⟩ => ⟨S256x1024, .bf16⟩
  | .hbm, ⟨9, _⟩ => ⟨S256x8x128, .bf16⟩
  | .hbm, ⟨10, _⟩ => ⟨S8x256x128, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WFf2.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WFf2RefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S_, .f32⟩
  | .hbm, ⟨9, _⟩ => ⟨S4096x1024, .f32⟩
  | .hbm, ⟨10, _⟩ => ⟨S2048x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Pre.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PreRefIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S4096x1024, .f32⟩
  | .hbm, ⟨17, _⟩ => ⟨S2048x1024, .f32⟩
  | .hbm, ⟨18, _⟩ => ⟨S2048x1024, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== WFf1.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WFf1RefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S1024x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WOut.lean ====
abbrev S2048x2048 : Shape := ⟨2, ![2048, 2048]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WOutRefIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ycat.lean ====
abbrev S2048x1024 : Shape := ⟨2, ![2048, 1024]⟩
abbrev S2048x2048 : Shape := ⟨2, ![2048, 2048]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== YcatRefIdeal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dx.lean ====
abbrev S2048x1024 : Shape := ⟨2, ![2048, 1024]⟩
abbrev S2048x2048 : Shape := ⟨2, ![2048, 2048]⟩
abbrev S2048x128 : Shape := ⟨2, ![2048, 128]⟩
abbrev S1024x5136 : Shape := ⟨2, ![1024, 5136]⟩
abbrev S5136x1024 : Shape := ⟨2, ![5136, 1024]⟩
abbrev S_ : Shape := ⟨0, ![]⟩
abbrev S5632x1024 : Shape := ⟨2, ![5632, 1024]⟩
abbrev S256x1024 : Shape := ⟨2, ![256, 1024]⟩
abbrev S256x2048 : Shape := ⟨2, ![256, 2048]⟩
abbrev S256x128 : Shape := ⟨2, ![256, 128]⟩
abbrev S1024x1024 : Shape := ⟨2, ![1024, 1024]⟩
abbrev S128x1024 : Shape := ⟨2, ![128, 1024]⟩

abbrev nBuf : Space → Nat
  | .hbm => 14
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x2048, .bf16⟩
  | .hbm, ⟨4, _⟩ => ⟨S2048x128, .bf16⟩
  | .hbm, ⟨5, _⟩ => ⟨S1024x5136, .bf16⟩
  | .hbm, ⟨6, _⟩ => ⟨S2048x1024, .f32⟩
  | .hbm, ⟨7, _⟩ => ⟨S5136x1024, .bf16⟩
  | .hbm, ⟨8, _⟩ => ⟨S_, .bf16⟩
  | .hbm, ⟨9, _⟩ => ⟨S5632x1024, .bf16⟩
  | .hbm, ⟨10, _⟩ => ⟨S_, .i32⟩
  | .hbm, ⟨11, _⟩ => ⟨S_, .i32⟩
  | .hbm, ⟨12, _⟩ => ⟨S5632x1024, .bf16⟩
  | .hbm, ⟨13, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x128, .bf16⟩
  | .local _ .vmem, ⟨9, _⟩ => ⟨S256x128, .bf16⟩
  | .local _ .vmem, ⟨10, _⟩ => ⟨S5632x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DxRefIdeal.lean ====
abbrev S2048x1024 : Shape := ⟨2, ![2048, 1024]⟩
abbrev S2048x2048 : Shape := ⟨2, ![2048, 2048]⟩
abbrev S2048x128 : Shape := ⟨2, ![2048, 128]⟩
abbrev S1024x5136 : Shape := ⟨2, ![1024, 5136]⟩
abbrev S2048x16 : Shape := ⟨2, ![2048, 16]⟩
abbrev S2048x5136 : Shape := ⟨2, ![2048, 5136]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x2048, .bf16⟩
  | .hbm, ⟨4, _⟩ => ⟨S2048x128, .bf16⟩
  | .hbm, ⟨5, _⟩ => ⟨S1024x5136, .bf16⟩
  | .hbm, ⟨6, _⟩ => ⟨S2048x1024, .f32⟩
  | .hbm, ⟨7, _⟩ => ⟨S2048x16, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x16, .f32⟩
  | .hbm, ⟨13, _⟩ => ⟨S2048x5136, .f32⟩
  | .hbm, ⟨14, _⟩ => ⟨S_, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S1024x5136, .f32⟩
  | .hbm, ⟨20, _⟩ => ⟨S2048x5136, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== InProj.lean ====
abbrev S2048x1024 : Shape := ⟨2, ![2048, 1024]⟩
abbrev S1024x5136 : Shape := ⟨2, ![1024, 5136]⟩
abbrev S5136x1024 : Shape := ⟨2, ![5136, 1024]⟩
abbrev S_ : Shape := ⟨0, ![]⟩
abbrev S5632x1024 : Shape := ⟨2, ![5632, 1024]⟩
abbrev S2048x5632 : Shape := ⟨2, ![2048, 5632]⟩
abbrev S512x1024 : Shape := ⟨2, ![512, 1024]⟩
abbrev S2048x512 : Shape := ⟨2, ![2048, 512]⟩

abbrev nBuf : Space → Nat
  | .hbm => 10
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x5136, .bf16⟩
  | .hbm, ⟨2, _⟩ => ⟨S2048x1024, .bf16⟩
  | .hbm, ⟨3, _⟩ => ⟨S5136x1024, .bf16⟩
  | .hbm, ⟨4, _⟩ => ⟨S_, .bf16⟩
  | .hbm, ⟨5, _⟩ => ⟨S5632x1024, .bf16⟩
  | .hbm, ⟨6, _⟩ => ⟨S_, .i32⟩
  | .hbm, ⟨7, _⟩ => ⟨S_, .i32⟩
  | .hbm, ⟨8, _⟩ => ⟨S5632x1024, .bf16⟩
  | .hbm, ⟨9, _⟩ => ⟨S2048x5632, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S2048x1024 : Shape := ⟨2, ![2048, 1024]⟩
abbrev S1024x5136 : Shape := ⟨2, ![1024, 5136]⟩
abbrev S2048x5136 : Shape := ⟨2, ![2048, 5136]⟩
abbrev S_ : Shape := ⟨0, ![]⟩
abbrev S2048x496 : Shape := ⟨2, ![2048, 496]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5136, .bf16⟩
  | .hbm, ⟨2, _⟩ => ⟨S1024x5136, .f32⟩
  | .hbm, ⟨3, _⟩ => ⟨S2048x5136, .f32⟩
  | .hbm, ⟨4, _⟩ => ⟨S_, .f32⟩
  | .hbm, ⟨5, _⟩ => ⟨S2048x496, .f32⟩
  | .hbm, ⟨6, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ff1.lean ====
abbrev S2048x1024 : Shape := ⟨2, ![2048, 1024]⟩
abbrev S1024x4096 : Shape := ⟨2, ![1024, 4096]⟩
abbrev S2048x4096 : Shape := ⟨2, ![2048, 4096]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Ff1RefIdeal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S2048x2048 : Shape := ⟨2, ![2048, 2048]⟩
abbrev S2048x1024 : Shape := ⟨2, ![2048, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== FfTwo.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfTwoRefIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S4096x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== WInG.lean ====
abbrev S2048x1024 : Shape := ⟨2, ![2048, 1024]⟩
abbrev S5136x1024 : Shape := ⟨2, ![5136, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S5136x1024, .bf16⟩
  | .hbm, ⟨3, _⟩ => ⟨S2048x1024, .bf16⟩
  | .hbm, ⟨4, _⟩ => ⟨S5136x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WInGRefIdeal.lean ====
abbrev S2048x1024 : Shape := ⟨2, ![2048, 1024]⟩
abbrev S5136x1024 : Shape := ⟨2, ![5136, 1024]⟩
abbrev S_ : Shape := ⟨0, ![]⟩
abbrev S1024x1024 : Shape := ⟨2, ![1024, 1024]⟩
abbrev S3088x1024 : Shape := ⟨2, ![3088, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S5136x1024, .bf16⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S3088x1024, .bf16⟩
  | .hbm, ⟨13, _⟩ => ⟨S5136x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== WInZ.lean ====
abbrev S2048x1024 : Shape := ⟨2, ![2048, 1024]⟩
abbrev S5136x1024 : Shape := ⟨2, ![5136, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S5136x1024, .bf16⟩
  | .hbm, ⟨3, _⟩ => ⟨S2048x1024, .bf16⟩
  | .hbm, ⟨4, _⟩ => ⟨S5136x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WInZRefIdeal.lean ====
abbrev S2048x1024 : Shape := ⟨2, ![2048, 1024]⟩
abbrev S5136x1024 : Shape := ⟨2, ![5136, 1024]⟩
abbrev S_ : Shape := ⟨0, ![]⟩
abbrev S1024x1024 : Shape := ⟨2, ![1024, 1024]⟩
abbrev S2064x1024 : Shape := ⟨2, ![2064, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S5136x1024, .bf16⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S2048x1024, .bf16⟩
  | .hbm, ⟨12, _⟩ => ⟨S2064x1024, .bf16⟩
  | .hbm, ⟨13, _⟩ => ⟨S5136x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== WInXbc.lean ====
abbrev S2048x2048 : Shape := ⟨2, ![2048, 2048]⟩
abbrev S2048x1024 : Shape := ⟨2, ![2048, 1024]⟩
abbrev S5136x1024 : Shape := ⟨2, ![5136, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S5136x1024, .bf16⟩
  | .hbm, ⟨3, _⟩ => ⟨S2048x1024, .bf16⟩
  | .hbm, ⟨4, _⟩ => ⟨S5136x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WInXbcRefIdeal.lean ====
abbrev S2048x2048 : Shape := ⟨2, ![2048, 2048]⟩
abbrev S2048x1024 : Shape := ⟨2, ![2048, 1024]⟩
abbrev S5136x1024 : Shape := ⟨2, ![5136, 1024]⟩
abbrev S_ : Shape := ⟨0, ![]⟩
abbrev S1024x2048 : Shape := ⟨2, ![1024, 2048]⟩
abbrev S3072x1024 : Shape := ⟨2, ![3072, 1024]⟩
abbrev S16x1024 : Shape := ⟨2, ![16, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S5136x1024, .bf16⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S3072x1024, .bf16⟩
  | .hbm, ⟨12, _⟩ => ⟨S16x1024, .bf16⟩
  | .hbm, ⟨13, _⟩ => ⟨S5136x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== WInDt.lean ====
abbrev S2048x128 : Shape := ⟨2, ![2048, 128]⟩
abbrev S2048x1024 : Shape := ⟨2, ![2048, 1024]⟩
abbrev S5136x1024 : Shape := ⟨2, ![5136, 1024]⟩
abbrev S128x1024 : Shape := ⟨2, ![128, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x128, .bf16⟩
  | .hbm, ⟨1, _⟩ => ⟨S2048x1024, .f32⟩
  | .hbm, ⟨2, _⟩ => ⟨S5136x1024, .bf16⟩
  | .hbm, ⟨3, _⟩ => ⟨S2048x1024, .bf16⟩
  | .hbm, ⟨4, _⟩ => ⟨S5136x1024, .bf16⟩
  | .local _ .vmem, ⟨0, _⟩ => ⟨S2048x128, .bf16⟩
  | .local _ .vmem, ⟨1, _⟩ => ⟨S2048x1024, .bf16⟩
  | .local _ .vmem, ⟨2, _⟩ => ⟨S128x1024, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![v0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== WInDtRefIdeal.lean ====
abbrev S2048x128 : Shape := ⟨2, ![2048, 128]⟩
abbrev S2048x1024 : Shape := ⟨2, ![2048, 1024]⟩
abbrev S5136x1024 : Shape := ⟨2, ![5136, 1024]⟩
abbrev S2048x16 : Shape := ⟨2, ![2048, 16]⟩
abbrev S_ : Shape := ⟨0, ![]⟩
abbrev S1024x16 : Shape := ⟨2, ![1024, 16]⟩
abbrev S16x1024 : Shape := ⟨2, ![16, 1024]⟩
abbrev S5120x1024 : Shape := ⟨2, ![5120, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x1024, .f32⟩
  | .hbm, ⟨2, _⟩ => ⟨S5136x1024, .bf16⟩
  | .hbm, ⟨3, _⟩ => ⟨S2048x16, .bf16⟩
  | .hbm, ⟨4, _⟩ => ⟨S2048x16, .f32⟩
  | .hbm, ⟨5, _⟩ => ⟨S_, .f32⟩
  | .hbm, ⟨6, _⟩ => ⟨S1024x16, .f32⟩
  | .hbm, ⟨7, _⟩ => ⟨S2048x16, .f32⟩
  | .hbm, ⟨8, _⟩ => ⟨S16x1024, .f32⟩
  | .hbm, ⟨9, _⟩ => ⟨S1024x16, .f32⟩
  | .hbm, ⟨10, _⟩ => ⟨S16x1024, .f32⟩
  | .hbm, ⟨11, _⟩ => ⟨S16x1024, .bf16⟩
  | .hbm, ⟨12, _⟩ => ⟨S5120x1024, .bf16⟩
  | .hbm, ⟨13, _⟩ => ⟨S5136x1024, .bf16⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.CTrip.lean ====
module

public import proofs.«01_k».proof.Proof.Gen.Kernel.Loops
public import Idealize.ShloMosaic.Lib.WritesUnit
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

/-- What one call of the body reads: the two histories behind eight zero rows, the gate's input, the cotangent, the
taps, the decay rate, the bias and the two gates' weights and biases. -/
structure Tape (F : FTy → Type) where
  xp : Vec F S2056x256 .f32
  hp : Vec F S2056x256 .f32
  g : Vec F S2048x256 .f32
  dy : Vec F S2048x256 .f32
  cw : Vec F S8x256 .f32
  sp : FVec F S1x256 .f32
  cb : Vec F S1x256 .f32
  wa : FVec F S256x256 .f32
  ba : FVec F S1x256 .f32
  wx : Vec F S1x256x256 .f32
  bx : Vec F S1x256 .f32

/-- What one chunk hands to the chunk before it: the state's gradient and the decay at its first row, and the first
eight rows of the gradient of the convolution's result. -/
abbrev Carry (F : FTy → Type) : Type := FVec F S1x256 .f32 × FVec F S1x256 .f32 × FVec F S8x256 .f32

/-- The number of a chunk. -/
abbrev Trip := Fin k0_t3_loop.trips

def Tape.ext (E : Tape F) (k : Trip) : Vec F S264x256 .f32 :=
  View.ld E.xp (Rect.unit (s := S2056x256) (k0_off5 k) S264x256.size (k0_off5_inb k))
def Tape.hext (E : Tape F) (k : Trip) : Vec F S264x256 .f32 :=
  View.ld E.hp (Rect.unit (s := S2056x256) (k0_off5 k) S264x256.size (k0_off5_inb k))
def Tape.gv (E : Tape F) (k : Trip) : Vec F S256x256 .f32 :=
  View.ld E.g (Rect.unit (s := S2048x256) (k0_off6 k) S256x256.size (k0_off6_inb k))
def Tape.dv (E : Tape F) (k : Trip) : Vec F S256x256 .f32 :=
  View.ld E.dy (Rect.unit (s := S2048x256) (k0_off6 k) S256x256.size (k0_off6_inb k))
def Tape.tap0 (E : Tape F) : Vec F S1x256 .f32 :=
  View.ld E.cw (Rect.unit (s := S8x256) ![0, 0] S1x256.size inb_S8x256_S1x256_0_0)
def Tape.tap1 (E : Tape F) : Vec F S1x256 .f32 :=
  View.ld E.cw (Rect.unit (s := S8x256) ![1, 0] S1x256.size inb_S8x256_S1x256_1_0)
def Tape.tap2 (E : Tape F) : Vec F S1x256 .f32 :=
  View.ld E.cw (Rect.unit (s := S8x256) ![2, 0] S1x256.size inb_S8x256_S1x256_2_0)
def Tape.tap3 (E : Tape F) : Vec F S1x256 .f32 :=
  View.ld E.cw (Rect.unit (s := S8x256) ![3, 0] S1x256.size inb_S8x256_S1x256_3_0)
/-- The number of the first row of trip `k`'s chunk. -/
def base (k : Trip) : BitVec 32 := Scalar.muli (Scalar.subi 7#32 (Scf.iv 0#32 1#32 k)) 256#32

namespace T

/-! The values of one trip, numbered as in the body. -/

def v176 (E : Tape F) (k : Trip) (a : Carry F) : IVec S256x1 32 := iota .tc S256x1 32 [0] iota_S256x1_d0_w32
def v268 (E : Tape F) (k : Trip) (a : Carry F) : IVec S256x1 32 := broadcast S256x1 128#32
def v269 (E : Tape F) (k : Trip) (a : Carry F) : IVec S256x1 1 := cmpi .slt (v176 E k a) (v268 E k a)
def v273 (E : Tape F) (k : Trip) (a : Carry F) : IVec S256x1 1 := shapeCast S256x1 (v269 E k a) shapeCasts_S256x1_S256x1
def v274 (E : Tape F) (k : Trip) (a : Carry F) : IVec S256x256 1 := broadcastTo S256x256 (v273 E k a) broadcasts_S256x1_S256x256
def v255 (E : Tape F) (k : Trip) (a : Carry F) : IVec S256x1 32 := broadcast S256x1 192#32
def v256 (E : Tape F) (k : Trip) (a : Carry F) : IVec S256x1 1 := cmpi .slt (v176 E k a) (v255 E k a)
def v265 (E : Tape F) (k : Trip) (a : Carry F) : IVec S256x1 1 := shapeCast S256x1 (v256 E k a) shapeCasts_S256x1_S256x1
def v266 (E : Tape F) (k : Trip) (a : Carry F) : IVec S256x256 1 := broadcastTo S256x256 (v265 E k a) broadcasts_S256x1_S256x256
def v242 (E : Tape F) (k : Trip) (a : Carry F) : IVec S256x1 32 := broadcast S256x1 224#32
def v243 (E : Tape F) (k : Trip) (a : Carry F) : IVec S256x1 1 := cmpi .slt (v176 E k a) (v242 E k a)
def v252 (E : Tape F) (k : Trip) (a : Carry F) : IVec S256x1 1 := shapeCast S256x1 (v243 E k a) shapeCasts_S256x1_S256x1
def v253 (E : Tape F) (k : Trip) (a : Carry F) : IVec S256x256 1 := broadcastTo S256x256 (v252 E k a) broadcasts_S256x1_S256x256
def v229 (E : Tape F) (k : Trip) (a : Carry F) : IVec S256x1 32 := broadcast S256x1 240#32
def v230 (E : Tape F) (k : Trip) (a : Carry F) : IVec S256x1 1 := cmpi .slt (v176 E k a) (v229 E k a)
def v239 (E : Tape F) (k : Trip) (a : Carry F) : IVec S256x1 1 := shapeCast S256x1 (v230 E k a) shapeCasts_S256x1_S256x1
def v240 (E : Tape F) (k : Trip) (a : Carry F) : IVec S256x256 1 := broadcastTo S256x256 (v239 E k a) broadcasts_S256x1_S256x256
def v216 (E : Tape F) (k : Trip) (a : Carry F) : IVec S256x1 32 := broadcast S256x1 248#32
def v217 (E : Tape F) (k : Trip) (a : Carry F) : IVec S256x1 1 := cmpi .slt (v176 E k a) (v216 E k a)
def v226 (E : Tape F) (k : Trip) (a : Carry F) : IVec S256x1 1 := shapeCast S256x1 (v217 E k a) shapeCasts_S256x1_S256x1
def v227 (E : Tape F) (k : Trip) (a : Carry F) : IVec S256x256 1 := broadcastTo S256x256 (v226 E k a) broadcasts_S256x1_S256x256
def v203 (E : Tape F) (k : Trip) (a : Carry F) : IVec S256x1 32 := broadcast S256x1 252#32
def v204 (E : Tape F) (k : Trip) (a : Carry F) : IVec S256x1 1 := cmpi .slt (v176 E k a) (v203 E k a)
def v213 (E : Tape F) (k : Trip) (a : Carry F) : IVec S256x1 1 := shapeCast S256x1 (v204 E k a) shapeCasts_S256x1_S256x1
def v214 (E : Tape F) (k : Trip) (a : Carry F) : IVec S256x256 1 := broadcastTo S256x256 (v213 E k a) broadcasts_S256x1_S256x256
def v190 (E : Tape F) (k : Trip) (a : Carry F) : IVec S256x1 32 := broadcast S256x1 254#32
def v191 (E : Tape F) (k : Trip) (a : Carry F) : IVec S256x1 1 := cmpi .slt (v176 E k a) (v190 E k a)
def v200 (E : Tape F) (k : Trip) (a : Carry F) : IVec S256x1 1 := shapeCast S256x1 (v191 E k a) shapeCasts_S256x1_S256x1
def v201 (E : Tape F) (k : Trip) (a : Carry F) : IVec S256x256 1 := broadcastTo S256x256 (v200 E k a) broadcasts_S256x1_S256x256
def v177 (E : Tape F) (k : Trip) (a : Carry F) : IVec S256x1 32 := broadcast S256x1 255#32
def v178 (E : Tape F) (k : Trip) (a : Carry F) : IVec S256x1 1 := cmpi .slt (v176 E k a) (v177 E k a)
def v187 (E : Tape F) (k : Trip) (a : Carry F) : IVec S256x1 1 := shapeCast S256x1 (v178 E k a) shapeCasts_S256x1_S256x1
def v188 (E : Tape F) (k : Trip) (a : Carry F) : IVec S256x256 1 := broadcastTo S256x256 (v187 E k a) broadcasts_S256x1_S256x256
def v53 (E : Tape F) (k : Trip) (a : Carry F) : IVec S256x1 32 := iota .tc S256x1 32 [0] iota_S256x1_d0_w32
def v54 (E : Tape F) (k : Trip) (a : Carry F) : IVec S256x1 32 := broadcast S256x1 255#32
def v55 (E : Tape F) (k : Trip) (a : Carry F) : IVec S256x1 1 := cmpi .eq (v53 E k a) (v54 E k a)
def v170 (E : Tape F) (k : Trip) (a : Carry F) : IVec S256x1 1 := shapeCast S256x1 (v55 E k a) shapeCasts_S256x1_S256x1
def v171 (E : Tape F) (k : Trip) (a : Carry F) : IVec S256x256 1 := broadcastTo S256x256 (v170 E k a) broadcasts_S256x1_S256x256
def v172 (E : Tape F) (k : Trip) (a : Carry F) : FVec F S1x256 .f32 := shapeCast S1x256 a.2.1 shapeCasts_S1x256_S1x256
def v173 (E : Tape F) (k : Trip) (a : Carry F) : FVec F S256x256 .f32 := broadcastTo S256x256 (v172 E k a) broadcasts_S1x256_S256x256
def v101 (E : Tape F) (k : Trip) (a : Carry F) : FVec F S256x256 .f32 := broadcast S256x256 (Scalar.ofBits .f32 0xC1000000#32 : F .f32)
def v61 (E : Tape F) (k : Trip) (a : Carry F) : FVec F S256x256 .f32 := extractStridedSlice S256x256 ![8, 0] (E.ext k) slices_S264x256_o8_0_S256x256
def v63 (E : Tape F) (k : Trip) (a : Carry F) : FVec F S1x256 .f32 := shapeCast S1x256 (E.tap3) shapeCasts_S1x256_S1x256
def v64 (E : Tape F) (k : Trip) (a : Carry F) : FVec F S256x256 .f32 := broadcastTo S256x256 (v63 E k a) broadcasts_S1x256_S256x256
def v65 (E : Tape F) (k : Trip) (a : Carry F) : FVec F S256x256 .f32 := mulf (v61 E k a) (v64 E k a)
def v66 (E : Tape F) (k : Trip) (a : Carry F) : FVec F S264x256 .f32 := dynamicRotate 0 3#32 none (E.ext k) rotates_S264x256_d0
def v67 (E : Tape F) (k : Trip) (a : Carry F) : FVec F S256x256 .f32 := extractStridedSlice S256x256 ![8, 0] (v66 E k a) slices_S264x256_o8_0_S256x256
def v69 (E : Tape F) (k : Trip) (a : Carry F) : FVec F S1x256 .f32 := shapeCast S1x256 (E.tap0) shapeCasts_S1x256_S1x256
def v70 (E : Tape F) (k : Trip) (a : Carry F) : FVec F S256x256 .f32 := broadcastTo S256x256 (v69 E k a) broadcasts_S1x256_S256x256
def v71 (E : Tape F) (k : Trip) (a : Carry F) : FVec F S256x256 .f32 := mulf (v67 E k a) (v70 E k a)
def v72 (E : Tape F) (k : Trip) (a : Carry F) : FVec F S256x256 .f32 := addf (v65 E k a) (v71 E k a)
def v73 (E : Tape F) (k : Trip) (a : Carry F) : FVec F S264x256 .f32 := dynamicRotate 0 2#32 none (E.ext k) rotates_S264x256_d0
def v74 (E : Tape F) (k : Trip) (a : Carry F) : FVec F S256x256 .f32 := extractStridedSlice S256x256 ![8, 0] (v73 E k a) slices_S264x256_o8_0_S256x256
def v76 (E : Tape F) (k : Trip) (a : Carry F) : FVec F S1x256 .f32 := shapeCast S1x256 (E.tap1) shapeCasts_S1x256_S1x256
def v77 (E : Tape F) (k : Trip) (a : Carry F) : FVec F S256x256 .f32 := broadcastTo S256x256 (v76 E k a) broadcasts_S1x256_S256x256
def v78 (E : Tape F) (k : Trip) (a : Carry F) : FVec F S256x256 .f32 := mulf (v74 E k a) (v77 E k a)
def v79 (E : Tape F) (k : Trip) (a : Carry F) : FVec F S256x256 .f32 := addf (v72 E k a) (v78 E k a)
def v80 (E : Tape F) (k : Trip) (a : Carry F) : FVec F S264x256 .f32 := dynamicRotate 0 1#32 none (E.ext k) rotates_S264x256_d0
def v81 (E : Tape F) (k : Trip) (a : Carry F) : FVec F S256x256 .f32 := extractStridedSlice S256x256 ![8, 0] (v80 E k a) slices_S264x256_o8_0_S256x256
def v83 (E : Tape F) (k : Trip) (a : Carry F) : FVec F S1x256 .f32 := shapeCast S1x256 (E.tap2) shapeCasts_S1x256_S1x256
def v84 (E : Tape F) (k : Trip) (a : Carry F) : FVec F S256x256 .f32 := broadcastTo S256x256 (v83 E k a) broadcasts_S1x256_S256x256
def v85 (E : Tape F) (k : Trip) (a : Carry F) : FVec F S256x256 .f32 := mulf (v81 E k a) (v84 E k a)
def v86 (E : Tape F) (k : Trip) (a : Carry F) : FVec F S256x256 .f32 := addf (v79 E k a) (v85 E k a)
def v87 (E : Tape F) (k : Trip) (a : Carry F) : FVec F S256x256 .f32 := broadcastTo S256x256 E.cb broadcasts_S1x256_S256x256
def v88 (E : Tape F) (k : Trip) (a : Carry F) : FVec F S256x256 .f32 := addf (v86 E k a) (v87 E k a)
def v89 (E : Tape F) (k : Trip) (a : Carry F) : FVec F S256x256 .bf16 := truncf .bf16 (v88 E k a) bitsLt_bf16_f32
def v90 (E : Tape F) (k : Trip) (a : Carry F) : FVec F S256x256 .bf16 := truncf .bf16 E.wa bitsLt_bf16_f32
def v91 (E : Tape F) (k : Trip) (a : Carry F) : FVec F S256x256 .f32 := matmul dot_S256x256_S256x256_S256x256_1_0_0_1_n_n none (v89 E k a) (v90 E k a) (constant S256x256 .f32 0x00000000#32 : FVec F S256x256 .f32)
def v92 (E : Tape F) (k : Trip) (a : Carry F) : FVec F S256x256 .f32 := broadcastTo S256x256 E.ba broadcasts_S1x256_S256x256
def v93 (E : Tape F) (k : Trip) (a : Carry F) : FVec F S256x256 .f32 := addf (v91 E k a) (v92 E k a)
def v94 (E : Tape F) (k : Trip) (a : Carry F) : FVec F S256x256 .f32 := logistic (v93 E k a)
def v102 (E : Tape F) (k : Trip) (a : Carry F) : FVec F S256x256 .f32 := mulf (v101 E k a) (v94 E k a)
def v103 (E : Tape F) (k : Trip) (a : Carry F) : FVec F S256x256 .f32 := broadcastTo S256x256 E.sp broadcasts_S1x256_S256x256
def v104 (E : Tape F) (k : Trip) (a : Carry F) : FVec F S256x256 .f32 := mulf (v102 E k a) (v103 E k a)
def v105 (E : Tape F) (k : Trip) (a : Carry F) : FVec F S256x256 .f32 := exp (v104 E k a)
def v169 (E : Tape F) (k : Trip) (a : Carry F) : FVec F S256x256 .f32 := dynamicRotate 0 255#32 none (v105 E k a) rotates_S256x256_d0
def v174 (E : Tape F) (k : Trip) (a : Carry F) : FVec F S256x256 .f32 := select (v171 E k a) (v173 E k a) (v169 E k a)
def v185 (E : Tape F) (k : Trip) (a : Carry F) : FVec F S256x256 .f32 := dynamicRotate 0 255#32 none (v174 E k a) rotates_S256x256_d0
def v186 (E : Tape F) (k : Trip) (a : Carry F) : FVec F S256x256 .f32 := mulf (v174 E k a) (v185 E k a)
def v189 (E : Tape F) (k : Trip) (a : Carry F) : FVec F S256x256 .f32 := select (v188 E k a) (v186 E k a) (v174 E k a)
def v198 (E : Tape F) (k : Trip) (a : Carry F) : FVec F S256x256 .f32 := dynamicRotate 0 254#32 none (v189 E k a) rotates_S256x256_d0
def v199 (E : Tape F) (k : Trip) (a : Carry F) : FVec F S256x256 .f32 := mulf (v189 E k a) (v198 E k a)
def v202 (E : Tape F) (k : Trip) (a : Carry F) : FVec F S256x256 .f32 := select (v201 E k a) (v199 E k a) (v189 E k a)
def v211 (E : Tape F) (k : Trip) (a : Carry F) : FVec F S256x256 .f32 := dynamicRotate 0 252#32 none (v202 E k a) rotates_S256x256_d0
def v212 (E : Tape F) (k : Trip) (a : Carry F) : FVec F S256x256 .f32 := mulf (v202 E k a) (v211 E k a)
def v215 (E : Tape F) (k : Trip) (a : Carry F) : FVec F S256x256 .f32 := select (v214 E k a) (v212 E k a) (v202 E k a)
def v224 (E : Tape F) (k : Trip) (a : Carry F) : FVec F S256x256 .f32 := dynamicRotate 0 248#32 none (v215 E k a) rotates_S256x256_d0
def v225 (E : Tape F) (k : Trip) (a : Carry F) : FVec F S256x256 .f32 := mulf (v215 E k a) (v224 E k a)
def v228 (E : Tape F) (k : Trip) (a : Carry F) : FVec F S256x256 .f32 := select (v227 E k a) (v225 E k a) (v215 E k a)
def v237 (E : Tape F) (k : Trip) (a : Carry F) : FVec F S256x256 .f32 := dynamicRotate 0 240#32 none (v228 E k a) rotates_S256x256_d0
def v238 (E : Tape F) (k : Trip) (a : Carry F) : FVec F S256x256 .f32 := mulf (v228 E k a) (v237 E k a)
def v241 (E : Tape F) (k : Trip) (a : Carry F) : FVec F S256x256 .f32 := select (v240 E k a) (v238 E k a) (v228 E k a)
def v250 (E : Tape F) (k : Trip) (a : Carry F) : FVec F S256x256 .f32 := dynamicRotate 0 224#32 none (v241 E k a) rotates_S256x256_d0
def v251 (E : Tape F) (k : Trip) (a : Carry F) : FVec F S256x256 .f32 := mulf (v241 E k a) (v250 E k a)
def v254 (E : Tape F) (k : Trip) (a : Carry F) : FVec F S256x256 .f32 := select (v253 E k a) (v251 E k a) (v241 E k a)
def v263 (E : Tape F) (k : Trip) (a : Carry F) : FVec F S256x256 .f32 := dynamicRotate 0 192#32 none (v254 E k a) rotates_S256x256_d0
def v264 (E : Tape F) (k : Trip) (a : Carry F) : FVec F S256x256 .f32 := mulf (v254 E k a) (v263 E k a)
def v267 (E : Tape F) (k : Trip) (a : Carry F) : FVec F S256x256 .f32 := select (v266 E k a) (v264 E k a) (v254 E k a)
def v260 (E : Tape F) (k : Trip) (a : Carry F) : IVec S256x1 1 := shapeCast S256x1 (v256 E k a) shapeCasts_S256x1_S256x1
def v261 (E : Tape F) (k : Trip) (a : Carry F) : IVec S256x256 1 := broadcastTo S256x256 (v260 E k a) broadcasts_S256x1_S256x256
def v247 (E : Tape F) (k : Trip) (a : Carry F) : IVec S256x1 1 := shapeCast S256x1 (v243 E k a) shapeCasts_S256x1_S256x1
def v248 (E : Tape F) (k : Trip) (a : Carry F) : IVec S256x256 1 := broadcastTo S256x256 (v247 E k a) broadcasts_S256x1_S256x256
def v234 (E : Tape F) (k : Trip) (a : Carry F) : IVec S256x1 1 := shapeCast S256x1 (v230 E k a) shapeCasts_S256x1_S256x1
def v235 (E : Tape F) (k : Trip) (a : Carry F) : IVec S256x256 1 := broadcastTo S256x256 (v234 E k a) broadcasts_S256x1_S256x256
def v221 (E : Tape F) (k : Trip) (a : Carry F) : IVec S256x1 1 := shapeCast S256x1 (v217 E k a) shapeCasts_S256x1_S256x1
def v222 (E : Tape F) (k : Trip) (a : Carry F) : IVec S256x256 1 := broadcastTo S256x256 (v221 E k a) broadcasts_S256x1_S256x256
def v208 (E : Tape F) (k : Trip) (a : Carry F) : IVec S256x1 1 := shapeCast S256x1 (v204 E k a) shapeCasts_S256x1_S256x1
def v209 (E : Tape F) (k : Trip) (a : Carry F) : IVec S256x256 1 := broadcastTo S256x256 (v208 E k a) broadcasts_S256x1_S256x256
def v195 (E : Tape F) (k : Trip) (a : Carry F) : IVec S256x1 1 := shapeCast S256x1 (v191 E k a) shapeCasts_S256x1_S256x1
def v196 (E : Tape F) (k : Trip) (a : Carry F) : IVec S256x256 1 := broadcastTo S256x256 (v195 E k a) broadcasts_S256x1_S256x256
def v182 (E : Tape F) (k : Trip) (a : Carry F) : IVec S256x1 1 := shapeCast S256x1 (v178 E k a) shapeCasts_S256x1_S256x1
def v183 (E : Tape F) (k : Trip) (a : Carry F) : IVec S256x256 1 := broadcastTo S256x256 (v182 E k a) broadcasts_S256x1_S256x256
def v139 (E : Tape F) (k : Trip) (a : Carry F) : FVec F S256x256 .f32 := broadcast S256x256 (Scalar.ofBits .f32 0x3F000000#32 : F .f32)
def v140 (E : Tape F) (k : Trip) (a : Carry F) : FVec F S256x256 .f32 := mulf (v139 E k a) (E.gv k)
def v141 (E : Tape F) (k : Trip) (a : Carry F) : FVec F S256x256 .f32 := broadcast S256x256 (Scalar.ofBits .f32 0x3F800000#32 : F .f32)
def v136 (E : Tape F) (k : Trip) (a : Carry F) : FVec F S256x256 .f32 := broadcast S256x256 (Scalar.ofBits .f32 0x3F4C422A#32 : F .f32)
def v131 (E : Tape F) (k : Trip) (a : Carry F) : FVec F S256x256 .f32 := broadcast S256x256 (Scalar.ofBits .f32 0x3D372713#32 : F .f32)
def v132 (E : Tape F) (k : Trip) (a : Carry F) : FVec F S256x256 .f32 := mulf (v131 E k a) (E.gv k)
def v133 (E : Tape F) (k : Trip) (a : Carry F) : FVec F S256x256 .f32 := mulf (v132 E k a) (E.gv k)
def v134 (E : Tape F) (k : Trip) (a : Carry F) : FVec F S256x256 .f32 := mulf (v133 E k a) (E.gv k)
def v135 (E : Tape F) (k : Trip) (a : Carry F) : FVec F S256x256 .f32 := addf (E.gv k) (v134 E k a)
def v137 (E : Tape F) (k : Trip) (a : Carry F) : FVec F S256x256 .f32 := mulf (v136 E k a) (v135 E k a)
def v138 (E : Tape F) (k : Trip) (a : Carry F) : FVec F S256x256 .f32 := tanh (v137 E k a)
def v142 (E : Tape F) (k : Trip) (a : Carry F) : FVec F S256x256 .f32 := addf (v141 E k a) (v138 E k a)
def v143 (E : Tape F) (k : Trip) (a : Carry F) : FVec F S256x256 .f32 := mulf (v140 E k a) (v142 E k a)
def v175 (E : Tape F) (k : Trip) (a : Carry F) : FVec F S256x256 .f32 := mulf (E.dv k) (v143 E k a)
def v179 (E : Tape F) (k : Trip) (a : Carry F) : FVec F S256x256 .f32 := dynamicRotate 0 255#32 none (v175 E k a) rotates_S256x256_d0
def v180 (E : Tape F) (k : Trip) (a : Carry F) : FVec F S256x256 .f32 := mulf (v174 E k a) (v179 E k a)
def v181 (E : Tape F) (k : Trip) (a : Carry F) : FVec F S256x256 .f32 := addf (v180 E k a) (v175 E k a)
def v184 (E : Tape F) (k : Trip) (a : Carry F) : FVec F S256x256 .f32 := select (v183 E k a) (v181 E k a) (v175 E k a)
def v192 (E : Tape F) (k : Trip) (a : Carry F) : FVec F S256x256 .f32 := dynamicRotate 0 254#32 none (v184 E k a) rotates_S256x256_d0
def v193 (E : Tape F) (k : Trip) (a : Carry F) : FVec F S256x256 .f32 := mulf (v189 E k a) (v192 E k a)
def v194 (E : Tape F) (k : Trip) (a : Carry F) : FVec F S256x256 .f32 := addf (v193 E k a) (v184 E k a)
def v197 (E : Tape F) (k : Trip) (a : Carry F) : FVec F S256x256 .f32 := select (v196 E k a) (v194 E k a) (v184 E k a)
def v205 (E : Tape F) (k : Trip) (a : Carry F) : FVec F S256x256 .f32 := dynamicRotate 0 252#32 none (v197 E k a) rotates_S256x256_d0
def v206 (E : Tape F) (k : Trip) (a : Carry F) : FVec F S256x256 .f32 := mulf (v202 E k a) (v205 E k a)
def v207 (E : Tape F) (k : Trip) (a : Carry F) : FVec F S256x256 .f32 := addf (v206 E k a) (v197 E k a)
def v210 (E : Tape F) (k : Trip) (a : Carry F) : FVec F S256x256 .f32 := select (v209 E k a) (v207 E k a) (v197 E k a)
def v218 (E : Tape F) (k : Trip) (a : Carry F) : FVec F S256x256 .f32 := dynamicRotate 0 248#32 none (v210 E k a) rotates_S256x256_d0
def v219 (E : Tape F) (k : Trip) (a : Carry F) : FVec F S256x256 .f32 := mulf (v215 E k a) (v218 E k a)
def v220 (E : Tape F) (k : Trip) (a : Carry F) : FVec F S256x256 .f32 := addf (v219 E k a) (v210 E k a)
def v223 (E : Tape F) (k : Trip) (a : Carry F) : FVec F S256x256 .f32 := select (v222 E k a) (v220 E k a) (v210 E k a)
def v231 (E : Tape F) (k : Trip) (a : Carry F) : FVec F S256x256 .f32 := dynamicRotate 0 240#32 none (v223 E k a) rotates_S256x256_d0
def v232 (E : Tape F) (k : Trip) (a : Carry F) : FVec F S256x256 .f32 := mulf (v228 E k a) (v231 E k a)
def v233 (E : Tape F) (k : Trip) (a : Carry F) : FVec F S256x256 .f32 := addf (v232 E k a) (v223 E k a)
def v236 (E : Tape F) (k : Trip) (a : Carry F) : FVec F S256x256 .f32 := select (v235 E k a) (v233 E k a) (v223 E k a)
def v244 (E : Tape F) (k : Trip) (a : Carry F) : FVec F S256x256 .f32 := dynamicRotate 0 224#32 none (v236 E k a) rotates_S256x256_d0
def v245 (E : Tape F) (k : Trip) (a : Carry F) : FVec F S256x256 .f32 := mulf (v241 E k a) (v244 E k a)
def v246 (E : Tape F) (k : Trip) (a : Carry F) : FVec F S256x256 .f32 := addf (v245 E k a) (v236 E k a)
def v249 (E : Tape F) (k : Trip) (a : Carry F) : FVec F S256x256 .f32 := select (v248 E k a) (v246 E k a) (v236 E k a)
def v257 (E : Tape F) (k : Trip) (a : Carry F) : FVec F S256x256 .f32 := dynamicRotate 0 192#32 none (v249 E k a) rotates_S256x256_d0
def v258 (E : Tape F) (k : Trip) (a : Carry F) : FVec F S256x256 .f32 := mulf (v254 E k a) (v257 E k a)
def v259 (E : Tape F) (k : Trip) (a : Carry F) : FVec F S256x256 .f32 := addf (v258 E k a) (v249 E k a)
def v262 (E : Tape F) (k : Trip) (a : Carry F) : FVec F S256x256 .f32 := select (v261 E k a) (v259 E k a) (v249 E k a)
def v270 (E : Tape F) (k : Trip) (a : Carry F) : FVec F S256x256 .f32 := dynamicRotate 0 128#32 none (v262 E k a) rotates_S256x256_d0
def v271 (E : Tape F) (k : Trip) (a : Carry F) : FVec F S256x256 .f32 := mulf (v267 E k a) (v270 E k a)
def v272 (E : Tape F) (k : Trip) (a : Carry F) : FVec F S256x256 .f32 := addf (v271 E k a) (v262 E k a)
def v275 (E : Tape F) (k : Trip) (a : Carry F) : FVec F S256x256 .f32 := select (v274 E k a) (v272 E k a) (v262 E k a)
def v278 (E : Tape F) (k : Trip) (a : Carry F) : IVec S256x1 1 := shapeCast S256x1 (v269 E k a) shapeCasts_S256x1_S256x1
def v279 (E : Tape F) (k : Trip) (a : Carry F) : IVec S256x256 1 := broadcastTo S256x256 (v278 E k a) broadcasts_S256x1_S256x256
def v276 (E : Tape F) (k : Trip) (a : Carry F) : FVec F S256x256 .f32 := dynamicRotate 0 128#32 none (v267 E k a) rotates_S256x256_d0
def v277 (E : Tape F) (k : Trip) (a : Carry F) : FVec F S256x256 .f32 := mulf (v267 E k a) (v276 E k a)
def v280 (E : Tape F) (k : Trip) (a : Carry F) : FVec F S256x256 .f32 := select (v279 E k a) (v277 E k a) (v267 E k a)
def v281 (E : Tape F) (k : Trip) (a : Carry F) : FVec F S256x256 .f32 := broadcastTo S256x256 a.1 broadcasts_S1x256_S256x256
def v282 (E : Tape F) (k : Trip) (a : Carry F) : FVec F S256x256 .f32 := mulf (v280 E k a) (v281 E k a)
def v283 (E : Tape F) (k : Trip) (a : Carry F) : FVec F S256x256 .f32 := addf (v275 E k a) (v282 E k a)
def v95 (E : Tape F) (k : Trip) (a : Carry F) : FVec F S256x256 .bf16 := truncf .bf16 (v88 E k a) bitsLt_bf16_f32
def v96 (E : Tape F) (k : Trip) (a : Carry F) : FVec F S256x256 .bf16 := truncf .bf16 (k0_pay1 E.wx) bitsLt_bf16_f32
def v97 (E : Tape F) (k : Trip) (a : Carry F) : FVec F S256x256 .f32 := matmul dot_S256x256_S256x256_S256x256_1_0_0_1_n_n none (v95 E k a) (v96 E k a) (constant S256x256 .f32 0x00000000#32 : FVec F S256x256 .f32)
def v98 (E : Tape F) (k : Trip) (a : Carry F) : FVec F S256x256 .f32 := broadcastTo S256x256 (k0_pay2 E.bx) broadcasts_S1x256_S256x256
def v99 (E : Tape F) (k : Trip) (a : Carry F) : FVec F S256x256 .f32 := addf (v97 E k a) (v98 E k a)
def v100 (E : Tape F) (k : Trip) (a : Carry F) : FVec F S256x256 .f32 := logistic (v99 E k a)
def v287 (E : Tape F) (k : Trip) (a : Carry F) : FVec F S256x256 .f32 := mulf (v283 E k a) (v100 E k a)
def v117 (E : Tape F) (k : Trip) (a : Carry F) : IVec S256x1 32 := broadcast S256x1 (base k)
def v116 (E : Tape F) (k : Trip) (a : Carry F) : IVec S256x1 32 := iota .tc S256x1 32 [0] iota_S256x1_d0_w32
def v118 (E : Tape F) (k : Trip) (a : Carry F) : IVec S256x1 32 := addi (v117 E k a) (v116 E k a)
def v119 (E : Tape F) (k : Trip) (a : Carry F) : IVec S256x1 32 := broadcast S256x1 0#32
def v120 (E : Tape F) (k : Trip) (a : Carry F) : IVec S256x1 1 := cmpi .eq (v118 E k a) (v119 E k a)
def v121 (E : Tape F) (k : Trip) (a : Carry F) : IVec S256x1 1 := shapeCast S256x1 (v120 E k a) shapeCasts_S256x1_S256x1
def v122 (E : Tape F) (k : Trip) (a : Carry F) : IVec S256x256 1 := broadcastTo S256x256 (v121 E k a) broadcasts_S256x1_S256x256
def v123 (E : Tape F) (k : Trip) (a : Carry F) : FVec F S256x256 .f32 := broadcast S256x256 (Scalar.ofBits .f32 0x3F800000#32 : F .f32)
def v110 (E : Tape F) (k : Trip) (a : Carry F) : FVec F S256x256 .f32 := broadcast S256x256 (Scalar.ofBits .f32 0x00000000#32 : F .f32)
def v109 (E : Tape F) (k : Trip) (a : Carry F) : FVec F S256x256 .f32 := tanh (v104 E k a)
def v111 (E : Tape F) (k : Trip) (a : Carry F) : FVec F S256x256 .f32 := subf (v110 E k a) (v109 E k a)
def v106 (E : Tape F) (k : Trip) (a : Carry F) : FVec F S256x256 .f32 := broadcast S256x256 (Scalar.ofBits .f32 0x40000000#32 : F .f32)
def v107 (E : Tape F) (k : Trip) (a : Carry F) : FVec F S256x256 .f32 := mulf (v106 E k a) (v104 E k a)
def v108 (E : Tape F) (k : Trip) (a : Carry F) : FVec F S256x256 .f32 := exp (v107 E k a)
def v112 (E : Tape F) (k : Trip) (a : Carry F) : FVec F S256x256 .f32 := broadcast S256x256 (Scalar.ofBits .f32 0x3F800000#32 : F .f32)
def v113 (E : Tape F) (k : Trip) (a : Carry F) : FVec F S256x256 .f32 := addf (v108 E k a) (v112 E k a)
def v114 (E : Tape F) (k : Trip) (a : Carry F) : FVec F S256x256 .f32 := mulf (v111 E k a) (v113 E k a)
def v115 (E : Tape F) (k : Trip) (a : Carry F) : FVec F S256x256 .f32 := sqrt (v114 E k a)
def v124 (E : Tape F) (k : Trip) (a : Carry F) : FVec F S256x256 .f32 := select (v122 E k a) (v123 E k a) (v115 E k a)
def v288 (E : Tape F) (k : Trip) (a : Carry F) : FVec F S256x256 .f32 := mulf (v287 E k a) (v124 E k a)
def v284 (E : Tape F) (k : Trip) (a : Carry F) : FVec F S264x256 .f32 := dynamicRotate 0 1#32 none (E.hext k) rotates_S264x256_d0
def v285 (E : Tape F) (k : Trip) (a : Carry F) : FVec F S256x256 .f32 := extractStridedSlice S256x256 ![8, 0] (v284 E k a) slices_S264x256_o8_0_S256x256
def v286 (E : Tape F) (k : Trip) (a : Carry F) : FVec F S256x256 .f32 := mulf (v283 E k a) (v285 E k a)
def v297 (E : Tape F) (k : Trip) (a : Carry F) : FVec F S256x256 .f32 := mulf (v286 E k a) (v105 E k a)
def v293 (E : Tape F) (k : Trip) (a : Carry F) : IVec S256x1 1 := shapeCast S256x1 (v120 E k a) shapeCasts_S256x1_S256x1
def v294 (E : Tape F) (k : Trip) (a : Carry F) : IVec S256x256 1 := broadcastTo S256x256 (v293 E k a) broadcasts_S256x1_S256x256
def v295 (E : Tape F) (k : Trip) (a : Carry F) : FVec F S256x256 .f32 := broadcast S256x256 (Scalar.ofBits .f32 0x00000000#32 : F .f32)
def v291 (E : Tape F) (k : Trip) (a : Carry F) : FVec F S256x256 .f32 := mulf (v283 E k a) (v88 E k a)
def v292 (E : Tape F) (k : Trip) (a : Carry F) : FVec F S256x256 .f32 := mulf (v291 E k a) (v100 E k a)
def v296 (E : Tape F) (k : Trip) (a : Carry F) : FVec F S256x256 .f32 := select (v294 E k a) (v295 E k a) (v292 E k a)
def v298 (E : Tape F) (k : Trip) (a : Carry F) : FVec F S256x256 .f32 := mulf (v296 E k a) (v108 E k a)
def v299 (E : Tape F) (k : Trip) (a : Carry F) : FVec F S256x256 .f32 := divf (v298 E k a) (v124 E k a)
def v300 (E : Tape F) (k : Trip) (a : Carry F) : FVec F S256x256 .f32 := subf (v297 E k a) (v299 E k a)
def v301 (E : Tape F) (k : Trip) (a : Carry F) : FVec F S256x256 .f32 := broadcast S256x256 (Scalar.ofBits .f32 0xC1000000#32 : F .f32)
def v302 (E : Tape F) (k : Trip) (a : Carry F) : FVec F S256x256 .f32 := mulf (v300 E k a) (v301 E k a)
def v303 (E : Tape F) (k : Trip) (a : Carry F) : FVec F S256x256 .f32 := broadcastTo S256x256 E.sp broadcasts_S1x256_S256x256
def v304 (E : Tape F) (k : Trip) (a : Carry F) : FVec F S256x256 .f32 := mulf (v302 E k a) (v303 E k a)
def v314 (E : Tape F) (k : Trip) (a : Carry F) : FVec F S256x256 .f32 := mulf (v304 E k a) (v94 E k a)
def v315 (E : Tape F) (k : Trip) (a : Carry F) : FVec F S256x256 .f32 := broadcast S256x256 (Scalar.ofBits .f32 0x3F800000#32 : F .f32)
def v316 (E : Tape F) (k : Trip) (a : Carry F) : FVec F S256x256 .f32 := subf (v315 E k a) (v94 E k a)
def v317 (E : Tape F) (k : Trip) (a : Carry F) : FVec F S256x256 .f32 := mulf (v314 E k a) (v316 E k a)
def v322 (E : Tape F) (k : Trip) (a : Carry F) : FVec F S256x256 .bf16 := truncf .bf16 (v317 E k a) bitsLt_bf16_f32
def v323 (E : Tape F) (k : Trip) (a : Carry F) : FVec F S256x256 .bf16 := truncf .bf16 E.wa bitsLt_bf16_f32
def v324 (E : Tape F) (k : Trip) (a : Carry F) : FVec F S256x256 .f32 := matmul dot_S256x256_S256x256_S256x256_1_1_0_0_n_n none (v322 E k a) (v323 E k a) (constant S256x256 .f32 0x00000000#32 : FVec F S256x256 .f32)
def v325 (E : Tape F) (k : Trip) (a : Carry F) : FVec F S256x256 .f32 := addf (v288 E k a) (v324 E k a)
def v289 (E : Tape F) (k : Trip) (a : Carry F) : FVec F S256x256 .f32 := mulf (v283 E k a) (v88 E k a)
def v290 (E : Tape F) (k : Trip) (a : Carry F) : FVec F S256x256 .f32 := mulf (v289 E k a) (v124 E k a)
def v318 (E : Tape F) (k : Trip) (a : Carry F) : FVec F S256x256 .f32 := mulf (v290 E k a) (v100 E k a)
def v319 (E : Tape F) (k : Trip) (a : Carry F) : FVec F S256x256 .f32 := broadcast S256x256 (Scalar.ofBits .f32 0x3F800000#32 : F .f32)
def v320 (E : Tape F) (k : Trip) (a : Carry F) : FVec F S256x256 .f32 := subf (v319 E k a) (v100 E k a)
def v321 (E : Tape F) (k : Trip) (a : Carry F) : FVec F S256x256 .f32 := mulf (v318 E k a) (v320 E k a)
def v326 (E : Tape F) (k : Trip) (a : Carry F) : FVec F S256x256 .bf16 := truncf .bf16 (v321 E k a) bitsLt_bf16_f32
def v327 (E : Tape F) (k : Trip) (a : Carry F) : FVec F S256x256 .bf16 := truncf .bf16 (k0_pay1 E.wx) bitsLt_bf16_f32
def v328 (E : Tape F) (k : Trip) (a : Carry F) : FVec F S256x256 .f32 := matmul dot_S256x256_S256x256_S256x256_1_1_0_0_n_n none (v326 E k a) (v327 E k a) (constant S256x256 .f32 0x00000000#32 : FVec F S256x256 .f32)
def v329 (E : Tape F) (k : Trip) (a : Carry F) : FVec F S256x256 .f32 := addf (v325 E k a) (v328 E k a)
def v401 (E : Tape F) (k : Trip) (a : Carry F) : FVec F S264x256 .f32 := concatenate S264x256 0 [⟨S256x256, (v329 E k a)⟩, ⟨S8x256, a.2.2⟩] concatenates_S256x256_S8x256_S264x256_d0
def v402 (E : Tape F) (k : Trip) (a : Carry F) : FVec F S256x256 .f32 := extractStridedSlice S256x256 ![0, 0] (v401 E k a) slices_S264x256_o0_0_S256x256
def v404 (E : Tape F) (k : Trip) (a : Carry F) : FVec F S1x256 .f32 := shapeCast S1x256 (E.tap3) shapeCasts_S1x256_S1x256
def v405 (E : Tape F) (k : Trip) (a : Carry F) : FVec F S256x256 .f32 := broadcastTo S256x256 (v404 E k a) broadcasts_S1x256_S256x256
def v406 (E : Tape F) (k : Trip) (a : Carry F) : FVec F S256x256 .f32 := mulf (v402 E k a) (v405 E k a)
def v407 (E : Tape F) (k : Trip) (a : Carry F) : FVec F S264x256 .f32 := dynamicRotate 0 261#32 none (v401 E k a) rotates_S264x256_d0
def v408 (E : Tape F) (k : Trip) (a : Carry F) : FVec F S256x256 .f32 := extractStridedSlice S256x256 ![0, 0] (v407 E k a) slices_S264x256_o0_0_S256x256
def v410 (E : Tape F) (k : Trip) (a : Carry F) : FVec F S1x256 .f32 := shapeCast S1x256 (E.tap0) shapeCasts_S1x256_S1x256
def v411 (E : Tape F) (k : Trip) (a : Carry F) : FVec F S256x256 .f32 := broadcastTo S256x256 (v410 E k a) broadcasts_S1x256_S256x256
def v412 (E : Tape F) (k : Trip) (a : Carry F) : FVec F S256x256 .f32 := mulf (v408 E k a) (v411 E k a)
def v413 (E : Tape F) (k : Trip) (a : Carry F) : FVec F S256x256 .f32 := addf (v406 E k a) (v412 E k a)
def v414 (E : Tape F) (k : Trip) (a : Carry F) : FVec F S264x256 .f32 := dynamicRotate 0 262#32 none (v401 E k a) rotates_S264x256_d0
def v415 (E : Tape F) (k : Trip) (a : Carry F) : FVec F S256x256 .f32 := extractStridedSlice S256x256 ![0, 0] (v414 E k a) slices_S264x256_o0_0_S256x256
def v417 (E : Tape F) (k : Trip) (a : Carry F) : FVec F S1x256 .f32 := shapeCast S1x256 (E.tap1) shapeCasts_S1x256_S1x256
def v418 (E : Tape F) (k : Trip) (a : Carry F) : FVec F S256x256 .f32 := broadcastTo S256x256 (v417 E k a) broadcasts_S1x256_S256x256
def v419 (E : Tape F) (k : Trip) (a : Carry F) : FVec F S256x256 .f32 := mulf (v415 E k a) (v418 E k a)
def v420 (E : Tape F) (k : Trip) (a : Carry F) : FVec F S256x256 .f32 := addf (v413 E k a) (v419 E k a)
def v421 (E : Tape F) (k : Trip) (a : Carry F) : FVec F S264x256 .f32 := dynamicRotate 0 263#32 none (v401 E k a) rotates_S264x256_d0
def v422 (E : Tape F) (k : Trip) (a : Carry F) : FVec F S256x256 .f32 := extractStridedSlice S256x256 ![0, 0] (v421 E k a) slices_S264x256_o0_0_S256x256
def v424 (E : Tape F) (k : Trip) (a : Carry F) : FVec F S1x256 .f32 := shapeCast S1x256 (E.tap2) shapeCasts_S1x256_S1x256
def v425 (E : Tape F) (k : Trip) (a : Carry F) : FVec F S256x256 .f32 := broadcastTo S256x256 (v424 E k a) broadcasts_S1x256_S256x256
def v426 (E : Tape F) (k : Trip) (a : Carry F) : FVec F S256x256 .f32 := mulf (v422 E k a) (v425 E k a)
def v427 (E : Tape F) (k : Trip) (a : Carry F) : FVec F S256x256 .f32 := addf (v420 E k a) (v426 E k a)
def v428 (E : Tape F) (k : Trip) (a : Carry F) : FVec F S256x256 .bf16 := truncf .bf16 (v427 E k a) bitsLt_bf16_f32
def v144 (E : Tape F) (k : Trip) (a : Carry F) : FVec F S256x256 .f32 := extractStridedSlice S256x256 ![8, 0] (E.hext k) slices_S264x256_o8_0_S256x256
def v145 (E : Tape F) (k : Trip) (a : Carry F) : FVec F S256x256 .f32 := mulf (E.dv k) (v144 E k a)
def v148 (E : Tape F) (k : Trip) (a : Carry F) : FVec F S256x256 .f32 := broadcast S256x256 (Scalar.ofBits .f32 0x3F000000#32 : F .f32)
def v146 (E : Tape F) (k : Trip) (a : Carry F) : FVec F S256x256 .f32 := broadcast S256x256 (Scalar.ofBits .f32 0x3F800000#32 : F .f32)
def v147 (E : Tape F) (k : Trip) (a : Carry F) : FVec F S256x256 .f32 := addf (v146 E k a) (v138 E k a)
def v149 (E : Tape F) (k : Trip) (a : Carry F) : FVec F S256x256 .f32 := mulf (v148 E k a) (v147 E k a)
def v150 (E : Tape F) (k : Trip) (a : Carry F) : FVec F S256x256 .f32 := broadcast S256x256 (Scalar.ofBits .f32 0x3F000000#32 : F .f32)
def v151 (E : Tape F) (k : Trip) (a : Carry F) : FVec F S256x256 .f32 := mulf (v150 E k a) (E.gv k)
def v153 (E : Tape F) (k : Trip) (a : Carry F) : FVec F S256x256 .f32 := broadcast S256x256 (Scalar.ofBits .f32 0x3F800000#32 : F .f32)
def v152 (E : Tape F) (k : Trip) (a : Carry F) : FVec F S256x256 .f32 := mulf (v138 E k a) (v138 E k a)
def v154 (E : Tape F) (k : Trip) (a : Carry F) : FVec F S256x256 .f32 := subf (v153 E k a) (v152 E k a)
def v155 (E : Tape F) (k : Trip) (a : Carry F) : FVec F S256x256 .f32 := mulf (v151 E k a) (v154 E k a)
def v156 (E : Tape F) (k : Trip) (a : Carry F) : FVec F S256x256 .f32 := broadcast S256x256 (Scalar.ofBits .f32 0x3F4C422A#32 : F .f32)
def v157 (E : Tape F) (k : Trip) (a : Carry F) : FVec F S256x256 .f32 := mulf (v155 E k a) (v156 E k a)
def v161 (E : Tape F) (k : Trip) (a : Carry F) : FVec F S256x256 .f32 := broadcast S256x256 (Scalar.ofBits .f32 0x3F800000#32 : F .f32)
def v158 (E : Tape F) (k : Trip) (a : Carry F) : FVec F S256x256 .f32 := broadcast S256x256 (Scalar.ofBits .f32 0x3E095D4F#32 : F .f32)
def v159 (E : Tape F) (k : Trip) (a : Carry F) : FVec F S256x256 .f32 := mulf (v158 E k a) (E.gv k)
def v160 (E : Tape F) (k : Trip) (a : Carry F) : FVec F S256x256 .f32 := mulf (v159 E k a) (E.gv k)
def v162 (E : Tape F) (k : Trip) (a : Carry F) : FVec F S256x256 .f32 := addf (v161 E k a) (v160 E k a)
def v163 (E : Tape F) (k : Trip) (a : Carry F) : FVec F S256x256 .f32 := mulf (v157 E k a) (v162 E k a)
def v164 (E : Tape F) (k : Trip) (a : Carry F) : FVec F S256x256 .f32 := addf (v149 E k a) (v163 E k a)
def v165 (E : Tape F) (k : Trip) (a : Carry F) : FVec F S256x256 .f32 := mulf (v145 E k a) (v164 E k a)
def v166 (E : Tape F) (k : Trip) (a : Carry F) : FVec F S256x256 .bf16 := truncf .bf16 (v165 E k a) bitsLt_bf16_f32
def v431 (E : Tape F) (k : Trip) (a : Carry F) : IVec S256x1 32 := iota .tc S256x1 32 [0] iota_S256x1_d0_w32
def v432 (E : Tape F) (k : Trip) (a : Carry F) : IVec S256x1 32 := broadcast S256x1 0#32
def v433 (E : Tape F) (k : Trip) (a : Carry F) : IVec S256x1 1 := cmpi .eq (v431 E k a) (v432 E k a)
def v434 (E : Tape F) (k : Trip) (a : Carry F) : IVec S256x1 1 := shapeCast S256x1 (v433 E k a) shapeCasts_S256x1_S256x1
def v435 (E : Tape F) (k : Trip) (a : Carry F) : IVec S256x256 1 := broadcastTo S256x256 (v434 E k a) broadcasts_S256x1_S256x256
def v436 (E : Tape F) (k : Trip) (a : Carry F) : FVec F S256x256 .f32 := broadcast S256x256 (Scalar.ofBits .f32 0x00000000#32 : F .f32)
def v437 (E : Tape F) (k : Trip) (a : Carry F) : FVec F S256x256 .f32 := select (v435 E k a) (v283 E k a) (v436 E k a)
def v307 (E : Tape F) (k : Trip) (a : Carry F) : FVec F S256x256 .f32 := broadcast S256x256 (Scalar.ofBits .f32 0xC1000000#32 : F .f32)
def v308 (E : Tape F) (k : Trip) (a : Carry F) : FVec F S256x256 .f32 := mulf (v300 E k a) (v307 E k a)
def v309 (E : Tape F) (k : Trip) (a : Carry F) : FVec F S256x256 .f32 := mulf (v308 E k a) (v94 E k a)
def v310 (E : Tape F) (k : Trip) (a : Carry F) : FVec F S256 .f32 := multiReduction .add [0] S256 (v309 E k a) 0x00000000#32 reduces_S256x256_S256 (.inl rfl) rfl
def v311 (E : Tape F) (k : Trip) (a : Carry F) : FVec F S1x256 .f32 := shapeCast S1x256 (v310 E k a) shapeCasts_S256_S1x256
def v350 (E : Tape F) (k : Trip) (a : Carry F) : FVec F S256 .f32 := multiReduction .add [0] S256 (v317 E k a) 0x00000000#32 reduces_S256x256_S256 (.inl rfl) rfl
def v351 (E : Tape F) (k : Trip) (a : Carry F) : FVec F S1x256 .f32 := shapeCast S1x256 (v350 E k a) shapeCasts_S256_S1x256
def v356 (E : Tape F) (k : Trip) (a : Carry F) : FVec F S256 .f32 := multiReduction .add [0] S256 (v321 E k a) 0x00000000#32 reduces_S256x256_S256 (.inl rfl) rfl
def v357 (E : Tape F) (k : Trip) (a : Carry F) : FVec F S1x256 .f32 := shapeCast S1x256 (v356 E k a) shapeCasts_S256_S1x256
def v362 (E : Tape F) (k : Trip) (a : Carry F) : FVec F S264x256 .f32 := dynamicRotate 0 3#32 none (E.ext k) rotates_S264x256_d0
def v363 (E : Tape F) (k : Trip) (a : Carry F) : FVec F S256x256 .f32 := extractStridedSlice S256x256 ![8, 0] (v362 E k a) slices_S264x256_o8_0_S256x256
def v364 (E : Tape F) (k : Trip) (a : Carry F) : FVec F S256x256 .f32 := mulf (v329 E k a) (v363 E k a)
def v365 (E : Tape F) (k : Trip) (a : Carry F) : FVec F S256 .f32 := multiReduction .add [0] S256 (v364 E k a) 0x00000000#32 reduces_S256x256_S256 (.inl rfl) rfl
def v366 (E : Tape F) (k : Trip) (a : Carry F) : FVec F S1x256 .f32 := shapeCast S1x256 (v365 E k a) shapeCasts_S256_S1x256
def v371 (E : Tape F) (k : Trip) (a : Carry F) : FVec F S264x256 .f32 := dynamicRotate 0 2#32 none (E.ext k) rotates_S264x256_d0
def v372 (E : Tape F) (k : Trip) (a : Carry F) : FVec F S256x256 .f32 := extractStridedSlice S256x256 ![8, 0] (v371 E k a) slices_S264x256_o8_0_S256x256
def v373 (E : Tape F) (k : Trip) (a : Carry F) : FVec F S256x256 .f32 := mulf (v329 E k a) (v372 E k a)
def v374 (E : Tape F) (k : Trip) (a : Carry F) : FVec F S256 .f32 := multiReduction .add [0] S256 (v373 E k a) 0x00000000#32 reduces_S256x256_S256 (.inl rfl) rfl
def v375 (E : Tape F) (k : Trip) (a : Carry F) : FVec F S1x256 .f32 := shapeCast S1x256 (v374 E k a) shapeCasts_S256_S1x256
def v380 (E : Tape F) (k : Trip) (a : Carry F) : FVec F S264x256 .f32 := dynamicRotate 0 1#32 none (E.ext k) rotates_S264x256_d0
def v381 (E : Tape F) (k : Trip) (a : Carry F) : FVec F S256x256 .f32 := extractStridedSlice S256x256 ![8, 0] (v380 E k a) slices_S264x256_o8_0_S256x256
def v382 (E : Tape F) (k : Trip) (a : Carry F) : FVec F S256x256 .f32 := mulf (v329 E k a) (v381 E k a)
def v383 (E : Tape F) (k : Trip) (a : Carry F) : FVec F S256 .f32 := multiReduction .add [0] S256 (v382 E k a) 0x00000000#32 reduces_S256x256_S256 (.inl rfl) rfl
def v384 (E : Tape F) (k : Trip) (a : Carry F) : FVec F S1x256 .f32 := shapeCast S1x256 (v383 E k a) shapeCasts_S256_S1x256
def v389 (E : Tape F) (k : Trip) (a : Carry F) : FVec F S256x256 .f32 := extractStridedSlice S256x256 ![8, 0] (E.ext k) slices_S264x256_o8_0_S256x256
def v390 (E : Tape F) (k : Trip) (a : Carry F) : FVec F S256x256 .f32 := mulf (v329 E k a) (v389 E k a)
def v391 (E : Tape F) (k : Trip) (a : Carry F) : FVec F S256 .f32 := multiReduction .add [0] S256 (v390 E k a) 0x00000000#32 reduces_S256x256_S256 (.inl rfl) rfl
def v392 (E : Tape F) (k : Trip) (a : Carry F) : FVec F S1x256 .f32 := shapeCast S1x256 (v391 E k a) shapeCasts_S256_S1x256
def v397 (E : Tape F) (k : Trip) (a : Carry F) : FVec F S256 .f32 := multiReduction .add [0] S256 (v329 E k a) 0x00000000#32 reduces_S256x256_S256 (.inl rfl) rfl
def v398 (E : Tape F) (k : Trip) (a : Carry F) : FVec F S1x256 .f32 := shapeCast S1x256 (v397 E k a) shapeCasts_S256_S1x256
def v332 (E : Tape F) (k : Trip) (a : Carry F) : FVec F S256x256 .bf16 := truncf .bf16 (v88 E k a) bitsLt_bf16_f32
def v333 (E : Tape F) (k : Trip) (a : Carry F) : FVec F S256x256 .bf16 := truncf .bf16 (v317 E k a) bitsLt_bf16_f32
def v334 (E : Tape F) (k : Trip) (a : Carry F) : FVec F S256x256 .f32 := matmul dot_S256x256_S256x256_S256x256_0_0_1_1_n_n none (v332 E k a) (v333 E k a) (constant S256x256 .f32 0x00000000#32 : FVec F S256x256 .f32)
def v341 (E : Tape F) (k : Trip) (a : Carry F) : FVec F S256x256 .bf16 := truncf .bf16 (v88 E k a) bitsLt_bf16_f32
def v342 (E : Tape F) (k : Trip) (a : Carry F) : FVec F S256x256 .bf16 := truncf .bf16 (v321 E k a) bitsLt_bf16_f32
def v343 (E : Tape F) (k : Trip) (a : Carry F) : FVec F S256x256 .f32 := matmul dot_S256x256_S256x256_S256x256_0_0_1_1_n_n none (v341 E k a) (v342 E k a) (constant S256x256 .f32 0x00000000#32 : FVec F S256x256 .f32)

/-- The row of an accumulator's eight. -/
def row (A : Vec F S8x256 .f32) (o : ℕ) (inb : ∀ a : Fin 2, (![o, 0] : Fin 2 → ℕ) a + S1x256.size a ≤ S8x256.size a) :
    Vec F S1x256 .f32 := View.ld A (Rect.unit (s := S8x256) ![o, 0] S1x256.size inb)

end T

/-- What a trip hands on. -/
def carry' (E : Tape F) (k : Trip) (acc : Carry F) : Carry F :=
  (k0_pay8 (T.v437 E k acc), k0_pay9 (T.v105 E k acc), k0_pay10 (T.v329 E k acc))

/-- The eight accumulated rows after a trip: each row's old content plus the trip's sum down its column. -/
def A14' (E : Tape F) (k : Trip) (acc : Carry F) (A : Vec F S8x256 .f32) : Fin 8 → Vec F S1x256 .f32
  | 0 => addf (shapeCast S1x256 (T.row A 0 inb_S8x256_S1x256_0_0) shapeCasts_S1x256_S1x256) (T.v366 E k acc)
  | 1 => addf (shapeCast S1x256 (T.row A 1 inb_S8x256_S1x256_1_0) shapeCasts_S1x256_S1x256) (T.v375 E k acc)
  | 2 => addf (shapeCast S1x256 (T.row A 2 inb_S8x256_S1x256_2_0) shapeCasts_S1x256_S1x256) (T.v384 E k acc)
  | 3 => addf (shapeCast S1x256 (T.row A 3 inb_S8x256_S1x256_3_0) shapeCasts_S1x256_S1x256) (T.v392 E k acc)
  | 4 => addf (shapeCast S1x256 (T.row A 4 inb_S8x256_S1x256_4_0) shapeCasts_S1x256_S1x256) (T.v398 E k acc)
  | 5 => addf (shapeCast S1x256 (T.row A 5 inb_S8x256_S1x256_5_0) shapeCasts_S1x256_S1x256) (T.v351 E k acc)
  | 6 => addf (shapeCast S1x256 (T.row A 6 inb_S8x256_S1x256_6_0) shapeCasts_S1x256_S1x256) (T.v357 E k acc)
  | 7 => addf (shapeCast S1x256 (T.row A 7 inb_S8x256_S1x256_7_0) shapeCasts_S1x256_S1x256) (T.v311 E k acc)

def A15' (E : Tape F) (k : Trip) (acc : Carry F) (A : Vec F S1x256x256 .f32) : Vec F S1x256x256 .f32 :=
  shapeCast S1x256x256 (addf (shapeCast S256x256 A shapeCasts_S1x256x256_S256x256) (T.v334 E k acc)) shapeCasts_S256x256_S1x256x256

def A16' (E : Tape F) (k : Trip) (acc : Carry F) (A : Vec F S1x256x256 .f32) : Vec F S1x256x256 .f32 :=
  shapeCast S1x256x256 (addf (shapeCast S256x256 A shapeCasts_S1x256x256_S256x256) (T.v343 E k acc)) shapeCasts_S256x256_S1x256x256

section Trip

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256 .f32) (harg8 : arg8.IsWhole) (arg9 : Memref sig .tc .vmem S1x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S8x256 .f32) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S2056x256 .f32) (harg17 : arg17.IsWhole) (arg18 : Memref sig .tc .vmem S2056x256 .f32) (harg18 : arg18.IsWhole)
  (v20 : FVec F S1x256 .f32) (v21 : Vec F S1x256 .f32) (v23 : FVec F S256x256 .f32) (v25 : FVec F S1x256 .f32) (v26 : Vec F S1x256x256 .f32) (v28 : Vec F S1x256 .f32)
  (X2 : BufTy.Contents (Elt F) arg2.view.ty) (X3 : BufTy.Contents (Elt F) arg3.view.ty) (X5 : BufTy.Contents (Elt F) arg5.view.ty) (X17 : BufTy.Contents (Elt F) arg17.view.ty) (X18 : BufTy.Contents (Elt F) arg18.view.ty)

/-- The tape of a call whose buffers hold given contents. -/
def tapeOf : Tape F :=
  { xp := View.read (Elt F) arg17.view X17, hp := View.read (Elt F) arg18.view X18, g := View.read (Elt F) arg2.view X2,
    dy := View.read (Elt F) arg3.view X3, cw := View.read (Elt F) arg5.view X5, sp := v20, cb := v21, wa := v23, ba := v25,
    wx := v26, bx := v28 }

variable (k : Trip) (acc : Carry F)
  (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)

set_option maxHeartbeats 2000000 in
theorem tripR_eq :
    tripR_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 k acc f12 f13 f14 f15 f16
      = carry' (tapeOf arg2 arg3 arg5 arg17 arg18 v20 v21 v23 v25 v26 v28 X2 X3 X5 X17 X18) k acc := by
  unfold tripR_k0_t3 trip_k0_t3
  rfl

end Trip

end Cert.Kernel.Hand
end
-- ==== Proof.Trip.lean ====
module

public import proofs.«01_k».proof.Proof.Gen.KernelIdeal.Loops
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- What one call of the body reads: the two histories behind eight zero rows, the gate's input, the cotangent, the
taps, the decay rate, the bias and the two gates' weights and biases. -/
structure Tape (F : FTy → Type) where
  xp : Vec F S2056x256 .f32
  hp : Vec F S2056x256 .f32
  g : Vec F S2048x256 .f32
  dy : Vec F S2048x256 .f32
  cw : Vec F S8x256 .f32
  sp : FVec F S1x256 .f32
  cb : Vec F S1x256 .f32
  wa : FVec F S256x256 .f32
  ba : FVec F S1x256 .f32
  wx : Vec F S1x256x256 .f32
  bx : Vec F S1x256 .f32

/-- What one chunk hands to the chunk before it: the state's gradient and the decay at its first row, and the first
eight rows of the gradient of the convolution's result. -/
abbrev Carry (F : FTy → Type) : Type := FVec F S1x256 .f32 × FVec F S1x256 .f32 × FVec F S8x256 .f32

def Tape.ext (E : Tape F) (k : Fin k0_t3_loop.trips) : Vec F S264x256 .f32 :=
  View.ld E.xp (Rect.unit (s := S2056x256) (k0_off5 k) S264x256.size (k0_off5_inb k))
def Tape.hext (E : Tape F) (k : Fin k0_t3_loop.trips) : Vec F S264x256 .f32 :=
  View.ld E.hp (Rect.unit (s := S2056x256) (k0_off5 k) S264x256.size (k0_off5_inb k))
def Tape.gv (E : Tape F) (k : Fin k0_t3_loop.trips) : Vec F S256x256 .f32 :=
  View.ld E.g (Rect.unit (s := S2048x256) (k0_off6 k) S256x256.size (k0_off6_inb k))
def Tape.dv (E : Tape F) (k : Fin k0_t3_loop.trips) : Vec F S256x256 .f32 :=
  View.ld E.dy (Rect.unit (s := S2048x256) (k0_off6 k) S256x256.size (k0_off6_inb k))
def Tape.tap0 (E : Tape F) : Vec F S1x256 .f32 :=
  View.ld E.cw (Rect.unit (s := S8x256) ![0, 0] S1x256.size inb_S8x256_S1x256_0_0)
def Tape.tap1 (E : Tape F) : Vec F S1x256 .f32 :=
  View.ld E.cw (Rect.unit (s := S8x256) ![1, 0] S1x256.size inb_S8x256_S1x256_1_0)
def Tape.tap2 (E : Tape F) : Vec F S1x256 .f32 :=
  View.ld E.cw (Rect.unit (s := S8x256) ![2, 0] S1x256.size inb_S8x256_S1x256_2_0)
def Tape.tap3 (E : Tape F) : Vec F S1x256 .f32 :=
  View.ld E.cw (Rect.unit (s := S8x256) ![3, 0] S1x256.size inb_S8x256_S1x256_3_0)
/-- The number of the first row of trip `k`'s chunk. -/
def base (k : Fin k0_t3_loop.trips) : BitVec 32 := Scalar.muli (Scalar.subi 7#32 (Scf.iv 0#32 1#32 k)) 256#32

namespace T

/-! The values of one trip, numbered as in the body. -/

def v176 (E : Tape F) (k : Fin k0_t3_loop.trips) (acc : Carry F) : IVec S256x1 32 := iota .tc S256x1 32 [0] iota_S256x1_d0_w32
def v268 (E : Tape F) (k : Fin k0_t3_loop.trips) (acc : Carry F) : IVec S256x1 32 := broadcast S256x1 128#32
def v269 (E : Tape F) (k : Fin k0_t3_loop.trips) (acc : Carry F) : IVec S256x1 1 := cmpi .slt (v176 E k acc) (v268 E k acc)
def v273 (E : Tape F) (k : Fin k0_t3_loop.trips) (acc : Carry F) : IVec S256x1 1 := shapeCast S256x1 (v269 E k acc) shapeCasts_S256x1_S256x1
def v274 (E : Tape F) (k : Fin k0_t3_loop.trips) (acc : Carry F) : IVec S256x256 1 := broadcastTo S256x256 (v273 E k acc) broadcasts_S256x1_S256x256
def v255 (E : Tape F) (k : Fin k0_t3_loop.trips) (acc : Carry F) : IVec S256x1 32 := broadcast S256x1 192#32
def v256 (E : Tape F) (k : Fin k0_t3_loop.trips) (acc : Carry F) : IVec S256x1 1 := cmpi .slt (v176 E k acc) (v255 E k acc)
def v265 (E : Tape F) (k : Fin k0_t3_loop.trips) (acc : Carry F) : IVec S256x1 1 := shapeCast S256x1 (v256 E k acc) shapeCasts_S256x1_S256x1
def v266 (E : Tape F) (k : Fin k0_t3_loop.trips) (acc : Carry F) : IVec S256x256 1 := broadcastTo S256x256 (v265 E k acc) broadcasts_S256x1_S256x256
def v242 (E : Tape F) (k : Fin k0_t3_loop.trips) (acc : Carry F) : IVec S256x1 32 := broadcast S256x1 224#32
def v243 (E : Tape F) (k : Fin k0_t3_loop.trips) (acc : Carry F) : IVec S256x1 1 := cmpi .slt (v176 E k acc) (v242 E k acc)
def v252 (E : Tape F) (k : Fin k0_t3_loop.trips) (acc : Carry F) : IVec S256x1 1 := shapeCast S256x1 (v243 E k acc) shapeCasts_S256x1_S256x1
def v253 (E : Tape F) (k : Fin k0_t3_loop.trips) (acc : Carry F) : IVec S256x256 1 := broadcastTo S256x256 (v252 E k acc) broadcasts_S256x1_S256x256
def v229 (E : Tape F) (k : Fin k0_t3_loop.trips) (acc : Carry F) : IVec S256x1 32 := broadcast S256x1 240#32
def v230 (E : Tape F) (k : Fin k0_t3_loop.trips) (acc : Carry F) : IVec S256x1 1 := cmpi .slt (v176 E k acc) (v229 E k acc)
def v239 (E : Tape F) (k : Fin k0_t3_loop.trips) (acc : Carry F) : IVec S256x1 1 := shapeCast S256x1 (v230 E k acc) shapeCasts_S256x1_S256x1
def v240 (E : Tape F) (k : Fin k0_t3_loop.trips) (acc : Carry F) : IVec S256x256 1 := broadcastTo S256x256 (v239 E k acc) broadcasts_S256x1_S256x256
def v216 (E : Tape F) (k : Fin k0_t3_loop.trips) (acc : Carry F) : IVec S256x1 32 := broadcast S256x1 248#32
def v217 (E : Tape F) (k : Fin k0_t3_loop.trips) (acc : Carry F) : IVec S256x1 1 := cmpi .slt (v176 E k acc) (v216 E k acc)
def v226 (E : Tape F) (k : Fin k0_t3_loop.trips) (acc : Carry F) : IVec S256x1 1 := shapeCast S256x1 (v217 E k acc) shapeCasts_S256x1_S256x1
def v227 (E : Tape F) (k : Fin k0_t3_loop.trips) (acc : Carry F) : IVec S256x256 1 := broadcastTo S256x256 (v226 E k acc) broadcasts_S256x1_S256x256
def v203 (E : Tape F) (k : Fin k0_t3_loop.trips) (acc : Carry F) : IVec S256x1 32 := broadcast S256x1 252#32
def v204 (E : Tape F) (k : Fin k0_t3_loop.trips) (acc : Carry F) : IVec S256x1 1 := cmpi .slt (v176 E k acc) (v203 E k acc)
def v213 (E : Tape F) (k : Fin k0_t3_loop.trips) (acc : Carry F) : IVec S256x1 1 := shapeCast S256x1 (v204 E k acc) shapeCasts_S256x1_S256x1
def v214 (E : Tape F) (k : Fin k0_t3_loop.trips) (acc : Carry F) : IVec S256x256 1 := broadcastTo S256x256 (v213 E k acc) broadcasts_S256x1_S256x256
def v190 (E : Tape F) (k : Fin k0_t3_loop.trips) (acc : Carry F) : IVec S256x1 32 := broadcast S256x1 254#32
def v191 (E : Tape F) (k : Fin k0_t3_loop.trips) (acc : Carry F) : IVec S256x1 1 := cmpi .slt (v176 E k acc) (v190 E k acc)
def v200 (E : Tape F) (k : Fin k0_t3_loop.trips) (acc : Carry F) : IVec S256x1 1 := shapeCast S256x1 (v191 E k acc) shapeCasts_S256x1_S256x1
def v201 (E : Tape F) (k : Fin k0_t3_loop.trips) (acc : Carry F) : IVec S256x256 1 := broadcastTo S256x256 (v200 E k acc) broadcasts_S256x1_S256x256
def v177 (E : Tape F) (k : Fin k0_t3_loop.trips) (acc : Carry F) : IVec S256x1 32 := broadcast S256x1 255#32
def v178 (E : Tape F) (k : Fin k0_t3_loop.trips) (acc : Carry F) : IVec S256x1 1 := cmpi .slt (v176 E k acc) (v177 E k acc)
def v187 (E : Tape F) (k : Fin k0_t3_loop.trips) (acc : Carry F) : IVec S256x1 1 := shapeCast S256x1 (v178 E k acc) shapeCasts_S256x1_S256x1
def v188 (E : Tape F) (k : Fin k0_t3_loop.trips) (acc : Carry F) : IVec S256x256 1 := broadcastTo S256x256 (v187 E k acc) broadcasts_S256x1_S256x256
def v53 (E : Tape F) (k : Fin k0_t3_loop.trips) (acc : Carry F) : IVec S256x1 32 := iota .tc S256x1 32 [0] iota_S256x1_d0_w32
def v54 (E : Tape F) (k : Fin k0_t3_loop.trips) (acc : Carry F) : IVec S256x1 32 := broadcast S256x1 255#32
def v55 (E : Tape F) (k : Fin k0_t3_loop.trips) (acc : Carry F) : IVec S256x1 1 := cmpi .eq (v53 E k acc) (v54 E k acc)
def v170 (E : Tape F) (k : Fin k0_t3_loop.trips) (acc : Carry F) : IVec S256x1 1 := shapeCast S256x1 (v55 E k acc) shapeCasts_S256x1_S256x1
def v171 (E : Tape F) (k : Fin k0_t3_loop.trips) (acc : Carry F) : IVec S256x256 1 := broadcastTo S256x256 (v170 E k acc) broadcasts_S256x1_S256x256
def v172 (E : Tape F) (k : Fin k0_t3_loop.trips) (acc : Carry F) : FVec F S1x256 .f32 := shapeCast S1x256 acc.2.1 shapeCasts_S1x256_S1x256
def v173 (E : Tape F) (k : Fin k0_t3_loop.trips) (acc : Carry F) : FVec F S256x256 .f32 := broadcastTo S256x256 (v172 E k acc) broadcasts_S1x256_S256x256
def v101 (E : Tape F) (k : Fin k0_t3_loop.trips) (acc : Carry F) : FVec F S256x256 .f32 := broadcast S256x256 (Scalar.ofBits .f32 0xC1000000#32 : F .f32)
def v61 (E : Tape F) (k : Fin k0_t3_loop.trips) (acc : Carry F) : FVec F S256x256 .f32 := extractStridedSlice S256x256 ![8, 0] (E.ext k) slices_S264x256_o8_0_S256x256
def v63 (E : Tape F) (k : Fin k0_t3_loop.trips) (acc : Carry F) : FVec F S1x256 .f32 := shapeCast S1x256 (E.tap3) shapeCasts_S1x256_S1x256
def v64 (E : Tape F) (k : Fin k0_t3_loop.trips) (acc : Carry F) : FVec F S256x256 .f32 := broadcastTo S256x256 (v63 E k acc) broadcasts_S1x256_S256x256
def v65 (E : Tape F) (k : Fin k0_t3_loop.trips) (acc : Carry F) : FVec F S256x256 .f32 := mulf (v61 E k acc) (v64 E k acc)
def v66 (E : Tape F) (k : Fin k0_t3_loop.trips) (acc : Carry F) : FVec F S264x256 .f32 := dynamicRotate 0 3#32 none (E.ext k) rotates_S264x256_d0
def v67 (E : Tape F) (k : Fin k0_t3_loop.trips) (acc : Carry F) : FVec F S256x256 .f32 := extractStridedSlice S256x256 ![8, 0] (v66 E k acc) slices_S264x256_o8_0_S256x256
def v69 (E : Tape F) (k : Fin k0_t3_loop.trips) (acc : Carry F) : FVec F S1x256 .f32 := shapeCast S1x256 (E.tap0) shapeCasts_S1x256_S1x256
def v70 (E : Tape F) (k : Fin k0_t3_loop.trips) (acc : Carry F) : FVec F S256x256 .f32 := broadcastTo S256x256 (v69 E k acc) broadcasts_S1x256_S256x256
def v71 (E : Tape F) (k : Fin k0_t3_loop.trips) (acc : Carry F) : FVec F S256x256 .f32 := mulf (v67 E k acc) (v70 E k acc)
def v72 (E : Tape F) (k : Fin k0_t3_loop.trips) (acc : Carry F) : FVec F S256x256 .f32 := addf (v65 E k acc) (v71 E k acc)
def v73 (E : Tape F) (k : Fin k0_t3_loop.trips) (acc : Carry F) : FVec F S264x256 .f32 := dynamicRotate 0 2#32 none (E.ext k) rotates_S264x256_d0
def v74 (E : Tape F) (k : Fin k0_t3_loop.trips) (acc : Carry F) : FVec F S256x256 .f32 := extractStridedSlice S256x256 ![8, 0] (v73 E k acc) slices_S264x256_o8_0_S256x256
def v76 (E : Tape F) (k : Fin k0_t3_loop.trips) (acc : Carry F) : FVec F S1x256 .f32 := shapeCast S1x256 (E.tap1) shapeCasts_S1x256_S1x256
def v77 (E : Tape F) (k : Fin k0_t3_loop.trips) (acc : Carry F) : FVec F S256x256 .f32 := broadcastTo S256x256 (v76 E k acc) broadcasts_S1x256_S256x256
def v78 (E : Tape F) (k : Fin k0_t3_loop.trips) (acc : Carry F) : FVec F S256x256 .f32 := mulf (v74 E k acc) (v77 E k acc)
def v79 (E : Tape F) (k : Fin k0_t3_loop.trips) (acc : Carry F) : FVec F S256x256 .f32 := addf (v72 E k acc) (v78 E k acc)
def v80 (E : Tape F) (k : Fin k0_t3_loop.trips) (acc : Carry F) : FVec F S264x256 .f32 := dynamicRotate 0 1#32 none (E.ext k) rotates_S264x256_d0
def v81 (E : Tape F) (k : Fin k0_t3_loop.trips) (acc : Carry F) : FVec F S256x256 .f32 := extractStridedSlice S256x256 ![8, 0] (v80 E k acc) slices_S264x256_o8_0_S256x256
def v83 (E : Tape F) (k : Fin k0_t3_loop.trips) (acc : Carry F) : FVec F S1x256 .f32 := shapeCast S1x256 (E.tap2) shapeCasts_S1x256_S1x256
def v84 (E : Tape F) (k : Fin k0_t3_loop.trips) (acc : Carry F) : FVec F S256x256 .f32 := broadcastTo S256x256 (v83 E k acc) broadcasts_S1x256_S256x256
def v85 (E : Tape F) (k : Fin k0_t3_loop.trips) (acc : Carry F) : FVec F S256x256 .f32 := mulf (v81 E k acc) (v84 E k acc)
def v86 (E : Tape F) (k : Fin k0_t3_loop.trips) (acc : Carry F) : FVec F S256x256 .f32 := addf (v79 E k acc) (v85 E k acc)
def v87 (E : Tape F) (k : Fin k0_t3_loop.trips) (acc : Carry F) : FVec F S256x256 .f32 := broadcastTo S256x256 E.cb broadcasts_S1x256_S256x256
def v88 (E : Tape F) (k : Fin k0_t3_loop.trips) (acc : Carry F) : FVec F S256x256 .f32 := addf (v86 E k acc) (v87 E k acc)
def v89 (E : Tape F) (k : Fin k0_t3_loop.trips) (acc : Carry F) : FVec F S256x256 .bf16 := truncf .bf16 (v88 E k acc) bitsLt_bf16_f32
def v90 (E : Tape F) (k : Fin k0_t3_loop.trips) (acc : Carry F) : FVec F S256x256 .bf16 := truncf .bf16 E.wa bitsLt_bf16_f32
def v91 (E : Tape F) (k : Fin k0_t3_loop.trips) (acc : Carry F) : FVec F S256x256 .f32 := matmul dot_S256x256_S256x256_S256x256_1_0_0_1_n_n none (v89 E k acc) (v90 E k acc) (constant S256x256 .f32 0x00000000#32 : FVec F S256x256 .f32)
def v92 (E : Tape F) (k : Fin k0_t3_loop.trips) (acc : Carry F) : FVec F S256x256 .f32 := broadcastTo S256x256 E.ba broadcasts_S1x256_S256x256
def v93 (E : Tape F) (k : Fin k0_t3_loop.trips) (acc : Carry F) : FVec F S256x256 .f32 := addf (v91 E k acc) (v92 E k acc)
def v94 (E : Tape F) (k : Fin k0_t3_loop.trips) (acc : Carry F) : FVec F S256x256 .f32 := logistic (v93 E k acc)
def v102 (E : Tape F) (k : Fin k0_t3_loop.trips) (acc : Carry F) : FVec F S256x256 .f32 := mulf (v101 E k acc) (v94 E k acc)
def v103 (E : Tape F) (k : Fin k0_t3_loop.trips) (acc : Carry F) : FVec F S256x256 .f32 := broadcastTo S256x256 E.sp broadcasts_S1x256_S256x256
def v104 (E : Tape F) (k : Fin k0_t3_loop.trips) (acc : Carry F) : FVec F S256x256 .f32 := mulf (v102 E k acc) (v103 E k acc)
def v105 (E : Tape F) (k : Fin k0_t3_loop.trips) (acc : Carry F) : FVec F S256x256 .f32 := exp (v104 E k acc)
def v169 (E : Tape F) (k : Fin k0_t3_loop.trips) (acc : Carry F) : FVec F S256x256 .f32 := dynamicRotate 0 255#32 none (v105 E k acc) rotates_S256x256_d0
def v174 (E : Tape F) (k : Fin k0_t3_loop.trips) (acc : Carry F) : FVec F S256x256 .f32 := select (v171 E k acc) (v173 E k acc) (v169 E k acc)
def v185 (E : Tape F) (k : Fin k0_t3_loop.trips) (acc : Carry F) : FVec F S256x256 .f32 := dynamicRotate 0 255#32 none (v174 E k acc) rotates_S256x256_d0
def v186 (E : Tape F) (k : Fin k0_t3_loop.trips) (acc : Carry F) : FVec F S256x256 .f32 := mulf (v174 E k acc) (v185 E k acc)
def v189 (E : Tape F) (k : Fin k0_t3_loop.trips) (acc : Carry F) : FVec F S256x256 .f32 := select (v188 E k acc) (v186 E k acc) (v174 E k acc)
def v198 (E : Tape F) (k : Fin k0_t3_loop.trips) (acc : Carry F) : FVec F S256x256 .f32 := dynamicRotate 0 254#32 none (v189 E k acc) rotates_S256x256_d0
def v199 (E : Tape F) (k : Fin k0_t3_loop.trips) (acc : Carry F) : FVec F S256x256 .f32 := mulf (v189 E k acc) (v198 E k acc)
def v202 (E : Tape F) (k : Fin k0_t3_loop.trips) (acc : Carry F) : FVec F S256x256 .f32 := select (v201 E k acc) (v199 E k acc) (v189 E k acc)
def v211 (E : Tape F) (k : Fin k0_t3_loop.trips) (acc : Carry F) : FVec F S256x256 .f32 := dynamicRotate 0 252#32 none (v202 E k acc) rotates_S256x256_d0
def v212 (E : Tape F) (k : Fin k0_t3_loop.trips) (acc : Carry F) : FVec F S256x256 .f32 := mulf (v202 E k acc) (v211 E k acc)
def v215 (E : Tape F) (k : Fin k0_t3_loop.trips) (acc : Carry F) : FVec F S256x256 .f32 := select (v214 E k acc) (v212 E k acc) (v202 E k acc)
def v224 (E : Tape F) (k : Fin k0_t3_loop.trips) (acc : Carry F) : FVec F S256x256 .f32 := dynamicRotate 0 248#32 none (v215 E k acc) rotates_S256x256_d0
def v225 (E : Tape F) (k : Fin k0_t3_loop.trips) (acc : Carry F) : FVec F S256x256 .f32 := mulf (v215 E k acc) (v224 E k acc)
def v228 (E : Tape F) (k : Fin k0_t3_loop.trips) (acc : Carry F) : FVec F S256x256 .f32 := select (v227 E k acc) (v225 E k acc) (v215 E k acc)
def v237 (E : Tape F) (k : Fin k0_t3_loop.trips) (acc : Carry F) : FVec F S256x256 .f32 := dynamicRotate 0 240#32 none (v228 E k acc) rotates_S256x256_d0
def v238 (E : Tape F) (k : Fin k0_t3_loop.trips) (acc : Carry F) : FVec F S256x256 .f32 := mulf (v228 E k acc) (v237 E k acc)
def v241 (E : Tape F) (k : Fin k0_t3_loop.trips) (acc : Carry F) : FVec F S256x256 .f32 := select (v240 E k acc) (v238 E k acc) (v228 E k acc)
def v250 (E : Tape F) (k : Fin k0_t3_loop.trips) (acc : Carry F) : FVec F S256x256 .f32 := dynamicRotate 0 224#32 none (v241 E k acc) rotates_S256x256_d0
def v251 (E : Tape F) (k : Fin k0_t3_loop.trips) (acc : Carry F) : FVec F S256x256 .f32 := mulf (v241 E k acc) (v250 E k acc)
def v254 (E : Tape F) (k : Fin k0_t3_loop.trips) (acc : Carry F) : FVec F S256x256 .f32 := select (v253 E k acc) (v251 E k acc) (v241 E k acc)
def v263 (E : Tape F) (k : Fin k0_t3_loop.trips) (acc : Carry F) : FVec F S256x256 .f32 := dynamicRotate 0 192#32 none (v254 E k acc) rotates_S256x256_d0
def v264 (E : Tape F) (k : Fin k0_t3_loop.trips) (acc : Carry F) : FVec F S256x256 .f32 := mulf (v254 E k acc) (v263 E k acc)
def v267 (E : Tape F) (k : Fin k0_t3_loop.trips) (acc : Carry F) : FVec F S256x256 .f32 := select (v266 E k acc) (v264 E k acc) (v254 E k acc)
def v260 (E : Tape F) (k : Fin k0_t3_loop.trips) (acc : Carry F) : IVec S256x1 1 := shapeCast S256x1 (v256 E k acc) shapeCasts_S256x1_S256x1
def v261 (E : Tape F) (k : Fin k0_t3_loop.trips) (acc : Carry F) : IVec S256x256 1 := broadcastTo S256x256 (v260 E k acc) broadcasts_S256x1_S256x256
def v247 (E : Tape F) (k : Fin k0_t3_loop.trips) (acc : Carry F) : IVec S256x1 1 := shapeCast S256x1 (v243 E k acc) shapeCasts_S256x1_S256x1
def v248 (E : Tape F) (k : Fin k0_t3_loop.trips) (acc : Carry F) : IVec S256x256 1 := broadcastTo S256x256 (v247 E k acc) broadcasts_S256x1_S256x256
def v234 (E : Tape F) (k : Fin k0_t3_loop.trips) (acc : Carry F) : IVec S256x1 1 := shapeCast S256x1 (v230 E k acc) shapeCasts_S256x1_S256x1
def v235 (E : Tape F) (k : Fin k0_t3_loop.trips) (acc : Carry F) : IVec S256x256 1 := broadcastTo S256x256 (v234 E k acc) broadcasts_S256x1_S256x256
def v221 (E : Tape F) (k : Fin k0_t3_loop.trips) (acc : Carry F) : IVec S256x1 1 := shapeCast S256x1 (v217 E k acc) shapeCasts_S256x1_S256x1
def v222 (E : Tape F) (k : Fin k0_t3_loop.trips) (acc : Carry F) : IVec S256x256 1 := broadcastTo S256x256 (v221 E k acc) broadcasts_S256x1_S256x256
def v208 (E : Tape F) (k : Fin k0_t3_loop.trips) (acc : Carry F) : IVec S256x1 1 := shapeCast S256x1 (v204 E k acc) shapeCasts_S256x1_S256x1
def v209 (E : Tape F) (k : Fin k0_t3_loop.trips) (acc : Carry F) : IVec S256x256 1 := broadcastTo S256x256 (v208 E k acc) broadcasts_S256x1_S256x256
def v195 (E : Tape F) (k : Fin k0_t3_loop.trips) (acc : Carry F) : IVec S256x1 1 := shapeCast S256x1 (v191 E k acc) shapeCasts_S256x1_S256x1
def v196 (E : Tape F) (k : Fin k0_t3_loop.trips) (acc : Carry F) : IVec S256x256 1 := broadcastTo S256x256 (v195 E k acc) broadcasts_S256x1_S256x256
def v182 (E : Tape F) (k : Fin k0_t3_loop.trips) (acc : Carry F) : IVec S256x1 1 := shapeCast S256x1 (v178 E k acc) shapeCasts_S256x1_S256x1
def v183 (E : Tape F) (k : Fin k0_t3_loop.trips) (acc : Carry F) : IVec S256x256 1 := broadcastTo S256x256 (v182 E k acc) broadcasts_S256x1_S256x256
def v139 (E : Tape F) (k : Fin k0_t3_loop.trips) (acc : Carry F) : FVec F S256x256 .f32 := broadcast S256x256 (Scalar.ofBits .f32 0x3F000000#32 : F .f32)
def v140 (E : Tape F) (k : Fin k0_t3_loop.trips) (acc : Carry F) : FVec F S256x256 .f32 := mulf (v139 E k acc) (E.gv k)
def v141 (E : Tape F) (k : Fin k0_t3_loop.trips) (acc : Carry F) : FVec F S256x256 .f32 := broadcast S256x256 (Scalar.ofBits .f32 0x3F800000#32 : F .f32)
def v136 (E : Tape F) (k : Fin k0_t3_loop.trips) (acc : Carry F) : FVec F S256x256 .f32 := broadcast S256x256 (Scalar.ofBits .f32 0x3F4C422A#32 : F .f32)
def v131 (E : Tape F) (k : Fin k0_t3_loop.trips) (acc : Carry F) : FVec F S256x256 .f32 := broadcast S256x256 (Named.named κ "gelu_cubic" 0x3D372713#32 : F .f32)
def v132 (E : Tape F) (k : Fin k0_t3_loop.trips) (acc : Carry F) : FVec F S256x256 .f32 := mulf (v131 E k acc) (E.gv k)
def v133 (E : Tape F) (k : Fin k0_t3_loop.trips) (acc : Carry F) : FVec F S256x256 .f32 := mulf (v132 E k acc) (E.gv k)
def v134 (E : Tape F) (k : Fin k0_t3_loop.trips) (acc : Carry F) : FVec F S256x256 .f32 := mulf (v133 E k acc) (E.gv k)
def v135 (E : Tape F) (k : Fin k0_t3_loop.trips) (acc : Carry F) : FVec F S256x256 .f32 := addf (E.gv k) (v134 E k acc)
def v137 (E : Tape F) (k : Fin k0_t3_loop.trips) (acc : Carry F) : FVec F S256x256 .f32 := mulf (v136 E k acc) (v135 E k acc)
def v138 (E : Tape F) (k : Fin k0_t3_loop.trips) (acc : Carry F) : FVec F S256x256 .f32 := tanh (v137 E k acc)
def v142 (E : Tape F) (k : Fin k0_t3_loop.trips) (acc : Carry F) : FVec F S256x256 .f32 := addf (v141 E k acc) (v138 E k acc)
def v143 (E : Tape F) (k : Fin k0_t3_loop.trips) (acc : Carry F) : FVec F S256x256 .f32 := mulf (v140 E k acc) (v142 E k acc)
def v175 (E : Tape F) (k : Fin k0_t3_loop.trips) (acc : Carry F) : FVec F S256x256 .f32 := mulf (E.dv k) (v143 E k acc)
def v179 (E : Tape F) (k : Fin k0_t3_loop.trips) (acc : Carry F) : FVec F S256x256 .f32 := dynamicRotate 0 255#32 none (v175 E k acc) rotates_S256x256_d0
def v180 (E : Tape F) (k : Fin k0_t3_loop.trips) (acc : Carry F) : FVec F S256x256 .f32 := mulf (v174 E k acc) (v179 E k acc)
def v181 (E : Tape F) (k : Fin k0_t3_loop.trips) (acc : Carry F) : FVec F S256x256 .f32 := addf (v180 E k acc) (v175 E k acc)
def v184 (E : Tape F) (k : Fin k0_t3_loop.trips) (acc : Carry F) : FVec F S256x256 .f32 := select (v183 E k acc) (v181 E k acc) (v175 E k acc)
def v192 (E : Tape F) (k : Fin k0_t3_loop.trips) (acc : Carry F) : FVec F S256x256 .f32 := dynamicRotate 0 254#32 none (v184 E k acc) rotates_S256x256_d0
def v193 (E : Tape F) (k : Fin k0_t3_loop.trips) (acc : Carry F) : FVec F S256x256 .f32 := mulf (v189 E k acc) (v192 E k acc)
def v194 (E : Tape F) (k : Fin k0_t3_loop.trips) (acc : Carry F) : FVec F S256x256 .f32 := addf (v193 E k acc) (v184 E k acc)
def v197 (E : Tape F) (k : Fin k0_t3_loop.trips) (acc : Carry F) : FVec F S256x256 .f32 := select (v196 E k acc) (v194 E k acc) (v184 E k acc)
def v205 (E : Tape F) (k : Fin k0_t3_loop.trips) (acc : Carry F) : FVec F S256x256 .f32 := dynamicRotate 0 252#32 none (v197 E k acc) rotates_S256x256_d0
def v206 (E : Tape F) (k : Fin k0_t3_loop.trips) (acc : Carry F) : FVec F S256x256 .f32 := mulf (v202 E k acc) (v205 E k acc)
def v207 (E : Tape F) (k : Fin k0_t3_loop.trips) (acc : Carry F) : FVec F S256x256 .f32 := addf (v206 E k acc) (v197 E k acc)
def v210 (E : Tape F) (k : Fin k0_t3_loop.trips) (acc : Carry F) : FVec F S256x256 .f32 := select (v209 E k acc) (v207 E k acc) (v197 E k acc)
def v218 (E : Tape F) (k : Fin k0_t3_loop.trips) (acc : Carry F) : FVec F S256x256 .f32 := dynamicRotate 0 248#32 none (v210 E k acc) rotates_S256x256_d0
def v219 (E : Tape F) (k : Fin k0_t3_loop.trips) (acc : Carry F) : FVec F S256x256 .f32 := mulf (v215 E k acc) (v218 E k acc)
def v220 (E : Tape F) (k : Fin k0_t3_loop.trips) (acc : Carry F) : FVec F S256x256 .f32 := addf (v219 E k acc) (v210 E k acc)
def v223 (E : Tape F) (k : Fin k0_t3_loop.trips) (acc : Carry F) : FVec F S256x256 .f32 := select (v222 E k acc) (v220 E k acc) (v210 E k acc)
def v231 (E : Tape F) (k : Fin k0_t3_loop.trips) (acc : Carry F) : FVec F S256x256 .f32 := dynamicRotate 0 240#32 none (v223 E k acc) rotates_S256x256_d0
def v232 (E : Tape F) (k : Fin k0_t3_loop.trips) (acc : Carry F) : FVec F S256x256 .f32 := mulf (v228 E k acc) (v231 E k acc)
def v233 (E : Tape F) (k : Fin k0_t3_loop.trips) (acc : Carry F) : FVec F S256x256 .f32 := addf (v232 E k acc) (v223 E k acc)
def v236 (E : Tape F) (k : Fin k0_t3_loop.trips) (acc : Carry F) : FVec F S256x256 .f32 := select (v235 E k acc) (v233 E k acc) (v223 E k acc)
def v244 (E : Tape F) (k : Fin k0_t3_loop.trips) (acc : Carry F) : FVec F S256x256 .f32 := dynamicRotate 0 224#32 none (v236 E k acc) rotates_S256x256_d0
def v245 (E : Tape F) (k : Fin k0_t3_loop.trips) (acc : Carry F) : FVec F S256x256 .f32 := mulf (v241 E k acc) (v244 E k acc)
def v246 (E : Tape F) (k : Fin k0_t3_loop.trips) (acc : Carry F) : FVec F S256x256 .f32 := addf (v245 E k acc) (v236 E k acc)
def v249 (E : Tape F) (k : Fin k0_t3_loop.trips) (acc : Carry F) : FVec F S256x256 .f32 := select (v248 E k acc) (v246 E k acc) (v236 E k acc)
def v257 (E : Tape F) (k : Fin k0_t3_loop.trips) (acc : Carry F) : FVec F S256x256 .f32 := dynamicRotate 0 192#32 none (v249 E k acc) rotates_S256x256_d0
def v258 (E : Tape F) (k : Fin k0_t3_loop.trips) (acc : Carry F) : FVec F S256x256 .f32 := mulf (v254 E k acc) (v257 E k acc)
def v259 (E : Tape F) (k : Fin k0_t3_loop.trips) (acc : Carry F) : FVec F S256x256 .f32 := addf (v258 E k acc) (v249 E k acc)
def v262 (E : Tape F) (k : Fin k0_t3_loop.trips) (acc : Carry F) : FVec F S256x256 .f32 := select (v261 E k acc) (v259 E k acc) (v249 E k acc)
def v270 (E : Tape F) (k : Fin k0_t3_loop.trips) (acc : Carry F) : FVec F S256x256 .f32 := dynamicRotate 0 128#32 none (v262 E k acc) rotates_S256x256_d0
def v271 (E : Tape F) (k : Fin k0_t3_loop.trips) (acc : Carry F) : FVec F S256x256 .f32 := mulf (v267 E k acc) (v270 E k acc)
def v272 (E : Tape F) (k : Fin k0_t3_loop.trips) (acc : Carry F) : FVec F S256x256 .f32 := addf (v271 E k acc) (v262 E k acc)
def v275 (E : Tape F) (k : Fin k0_t3_loop.trips) (acc : Carry F) : FVec F S256x256 .f32 := select (v274 E k acc) (v272 E k acc) (v262 E k acc)
def v278 (E : Tape F) (k : Fin k0_t3_loop.trips) (acc : Carry F) : IVec S256x1 1 := shapeCast S256x1 (v269 E k acc) shapeCasts_S256x1_S256x1
def v279 (E : Tape F) (k : Fin k0_t3_loop.trips) (acc : Carry F) : IVec S256x256 1 := broadcastTo S256x256 (v278 E k acc) broadcasts_S256x1_S256x256
def v276 (E : Tape F) (k : Fin k0_t3_loop.trips) (acc : Carry F) : FVec F S256x256 .f32 := dynamicRotate 0 128#32 none (v267 E k acc) rotates_S256x256_d0
def v277 (E : Tape F) (k : Fin k0_t3_loop.trips) (acc : Carry F) : FVec F S256x256 .f32 := mulf (v267 E k acc) (v276 E k acc)
def v280 (E : Tape F) (k : Fin k0_t3_loop.trips) (acc : Carry F) : FVec F S256x256 .f32 := select (v279 E k acc) (v277 E k acc) (v267 E k acc)
def v281 (E : Tape F) (k : Fin k0_t3_loop.trips) (acc : Carry F) : FVec F S256x256 .f32 := broadcastTo S256x256 acc.1 broadcasts_S1x256_S256x256
def v282 (E : Tape F) (k : Fin k0_t3_loop.trips) (acc : Carry F) : FVec F S256x256 .f32 := mulf (v280 E k acc) (v281 E k acc)
def v283 (E : Tape F) (k : Fin k0_t3_loop.trips) (acc : Carry F) : FVec F S256x256 .f32 := addf (v275 E k acc) (v282 E k acc)
def v95 (E : Tape F) (k : Fin k0_t3_loop.trips) (acc : Carry F) : FVec F S256x256 .bf16 := truncf .bf16 (v88 E k acc) bitsLt_bf16_f32
def v96 (E : Tape F) (k : Fin k0_t3_loop.trips) (acc : Carry F) : FVec F S256x256 .bf16 := truncf .bf16 (k0_pay1 E.wx) bitsLt_bf16_f32
def v97 (E : Tape F) (k : Fin k0_t3_loop.trips) (acc : Carry F) : FVec F S256x256 .f32 := matmul dot_S256x256_S256x256_S256x256_1_0_0_1_n_n none (v95 E k acc) (v96 E k acc) (constant S256x256 .f32 0x00000000#32 : FVec F S256x256 .f32)
def v98 (E : Tape F) (k : Fin k0_t3_loop.trips) (acc : Carry F) : FVec F S256x256 .f32 := broadcastTo S256x256 (k0_pay2 E.bx) broadcasts_S1x256_S256x256
def v99 (E : Tape F) (k : Fin k0_t3_loop.trips) (acc : Carry F) : FVec F S256x256 .f32 := addf (v97 E k acc) (v98 E k acc)
def v100 (E : Tape F) (k : Fin k0_t3_loop.trips) (acc : Carry F) : FVec F S256x256 .f32 := logistic (v99 E k acc)
def v287 (E : Tape F) (k : Fin k0_t3_loop.trips) (acc : Carry F) : FVec F S256x256 .f32 := mulf (v283 E k acc) (v100 E k acc)
def v117 (E : Tape F) (k : Fin k0_t3_loop.trips) (acc : Carry F) : IVec S256x1 32 := broadcast S256x1 (base k)
def v116 (E : Tape F) (k : Fin k0_t3_loop.trips) (acc : Carry F) : IVec S256x1 32 := iota .tc S256x1 32 [0] iota_S256x1_d0_w32
def v118 (E : Tape F) (k : Fin k0_t3_loop.trips) (acc : Carry F) : IVec S256x1 32 := addi (v117 E k acc) (v116 E k acc)
def v119 (E : Tape F) (k : Fin k0_t3_loop.trips) (acc : Carry F) : IVec S256x1 32 := broadcast S256x1 0#32
def v120 (E : Tape F) (k : Fin k0_t3_loop.trips) (acc : Carry F) : IVec S256x1 1 := cmpi .eq (v118 E k acc) (v119 E k acc)
def v121 (E : Tape F) (k : Fin k0_t3_loop.trips) (acc : Carry F) : IVec S256x1 1 := shapeCast S256x1 (v120 E k acc) shapeCasts_S256x1_S256x1
def v122 (E : Tape F) (k : Fin k0_t3_loop.trips) (acc : Carry F) : IVec S256x256 1 := broadcastTo S256x256 (v121 E k acc) broadcasts_S256x1_S256x256
def v123 (E : Tape F) (k : Fin k0_t3_loop.trips) (acc : Carry F) : FVec F S256x256 .f32 := broadcast S256x256 (Scalar.ofBits .f32 0x3F800000#32 : F .f32)
def v110 (E : Tape F) (k : Fin k0_t3_loop.trips) (acc : Carry F) : FVec F S256x256 .f32 := broadcast S256x256 (Scalar.ofBits .f32 0x00000000#32 : F .f32)
def v109 (E : Tape F) (k : Fin k0_t3_loop.trips) (acc : Carry F) : FVec F S256x256 .f32 := tanh (v104 E k acc)
def v111 (E : Tape F) (k : Fin k0_t3_loop.trips) (acc : Carry F) : FVec F S256x256 .f32 := subf (v110 E k acc) (v109 E k acc)
def v106 (E : Tape F) (k : Fin k0_t3_loop.trips) (acc : Carry F) : FVec F S256x256 .f32 := broadcast S256x256 (Scalar.ofBits .f32 0x40000000#32 : F .f32)
def v107 (E : Tape F) (k : Fin k0_t3_loop.trips) (acc : Carry F) : FVec F S256x256 .f32 := mulf (v106 E k acc) (v104 E k acc)
def v108 (E : Tape F) (k : Fin k0_t3_loop.trips) (acc : Carry F) : FVec F S256x256 .f32 := exp (v107 E k acc)
def v112 (E : Tape F) (k : Fin k0_t3_loop.trips) (acc : Carry F) : FVec F S256x256 .f32 := broadcast S256x256 (Scalar.ofBits .f32 0x3F800000#32 : F .f32)
def v113 (E : Tape F) (k : Fin k0_t3_loop.trips) (acc : Carry F) : FVec F S256x256 .f32 := addf (v108 E k acc) (v112 E k acc)
def v114 (E : Tape F) (k : Fin k0_t3_loop.trips) (acc : Carry F) : FVec F S256x256 .f32 := mulf (v111 E k acc) (v113 E k acc)
def v115 (E : Tape F) (k : Fin k0_t3_loop.trips) (acc : Carry F) : FVec F S256x256 .f32 := sqrt (v114 E k acc)
def v124 (E : Tape F) (k : Fin k0_t3_loop.trips) (acc : Carry F) : FVec F S256x256 .f32 := select (v122 E k acc) (v123 E k acc) (v115 E k acc)
def v288 (E : Tape F) (k : Fin k0_t3_loop.trips) (acc : Carry F) : FVec F S256x256 .f32 := mulf (v287 E k acc) (v124 E k acc)
def v284 (E : Tape F) (k : Fin k0_t3_loop.trips) (acc : Carry F) : FVec F S264x256 .f32 := dynamicRotate 0 1#32 none (E.hext k) rotates_S264x256_d0
def v285 (E : Tape F) (k : Fin k0_t3_loop.trips) (acc : Carry F) : FVec F S256x256 .f32 := extractStridedSlice S256x256 ![8, 0] (v284 E k acc) slices_S264x256_o8_0_S256x256
def v286 (E : Tape F) (k : Fin k0_t3_loop.trips) (acc : Carry F) : FVec F S256x256 .f32 := mulf (v283 E k acc) (v285 E k acc)
def v297 (E : Tape F) (k : Fin k0_t3_loop.trips) (acc : Carry F) : FVec F S256x256 .f32 := mulf (v286 E k acc) (v105 E k acc)
def v293 (E : Tape F) (k : Fin k0_t3_loop.trips) (acc : Carry F) : IVec S256x1 1 := shapeCast S256x1 (v120 E k acc) shapeCasts_S256x1_S256x1
def v294 (E : Tape F) (k : Fin k0_t3_loop.trips) (acc : Carry F) : IVec S256x256 1 := broadcastTo S256x256 (v293 E k acc) broadcasts_S256x1_S256x256
def v295 (E : Tape F) (k : Fin k0_t3_loop.trips) (acc : Carry F) : FVec F S256x256 .f32 := broadcast S256x256 (Scalar.ofBits .f32 0x00000000#32 : F .f32)
def v291 (E : Tape F) (k : Fin k0_t3_loop.trips) (acc : Carry F) : FVec F S256x256 .f32 := mulf (v283 E k acc) (v88 E k acc)
def v292 (E : Tape F) (k : Fin k0_t3_loop.trips) (acc : Carry F) : FVec F S256x256 .f32 := mulf (v291 E k acc) (v100 E k acc)
def v296 (E : Tape F) (k : Fin k0_t3_loop.trips) (acc : Carry F) : FVec F S256x256 .f32 := select (v294 E k acc) (v295 E k acc) (v292 E k acc)
def v298 (E : Tape F) (k : Fin k0_t3_loop.trips) (acc : Carry F) : FVec F S256x256 .f32 := mulf (v296 E k acc) (v108 E k acc)
def v299 (E : Tape F) (k : Fin k0_t3_loop.trips) (acc : Carry F) : FVec F S256x256 .f32 := divf (v298 E k acc) (v124 E k acc)
def v300 (E : Tape F) (k : Fin k0_t3_loop.trips) (acc : Carry F) : FVec F S256x256 .f32 := subf (v297 E k acc) (v299 E k acc)
def v301 (E : Tape F) (k : Fin k0_t3_loop.trips) (acc : Carry F) : FVec F S256x256 .f32 := broadcast S256x256 (Scalar.ofBits .f32 0xC1000000#32 : F .f32)
def v302 (E : Tape F) (k : Fin k0_t3_loop.trips) (acc : Carry F) : FVec F S256x256 .f32 := mulf (v300 E k acc) (v301 E k acc)
def v303 (E : Tape F) (k : Fin k0_t3_loop.trips) (acc : Carry F) : FVec F S256x256 .f32 := broadcastTo S256x256 E.sp broadcasts_S1x256_S256x256
def v304 (E : Tape F) (k : Fin k0_t3_loop.trips) (acc : Carry F) : FVec F S256x256 .f32 := mulf (v302 E k acc) (v303 E k acc)
def v314 (E : Tape F) (k : Fin k0_t3_loop.trips) (acc : Carry F) : FVec F S256x256 .f32 := mulf (v304 E k acc) (v94 E k acc)
def v315 (E : Tape F) (k : Fin k0_t3_loop.trips) (acc : Carry F) : FVec F S256x256 .f32 := broadcast S256x256 (Scalar.ofBits .f32 0x3F800000#32 : F .f32)
def v316 (E : Tape F) (k : Fin k0_t3_loop.trips) (acc : Carry F) : FVec F S256x256 .f32 := subf (v315 E k acc) (v94 E k acc)
def v317 (E : Tape F) (k : Fin k0_t3_loop.trips) (acc : Carry F) : FVec F S256x256 .f32 := mulf (v314 E k acc) (v316 E k acc)
def v322 (E : Tape F) (k : Fin k0_t3_loop.trips) (acc : Carry F) : FVec F S256x256 .bf16 := truncf .bf16 (v317 E k acc) bitsLt_bf16_f32
def v323 (E : Tape F) (k : Fin k0_t3_loop.trips) (acc : Carry F) : FVec F S256x256 .bf16 := truncf .bf16 E.wa bitsLt_bf16_f32
def v324 (E : Tape F) (k : Fin k0_t3_loop.trips) (acc : Carry F) : FVec F S256x256 .f32 := matmul dot_S256x256_S256x256_S256x256_1_1_0_0_n_n none (v322 E k acc) (v323 E k acc) (constant S256x256 .f32 0x00000000#32 : FVec F S256x256 .f32)
def v325 (E : Tape F) (k : Fin k0_t3_loop.trips) (acc : Carry F) : FVec F S256x256 .f32 := addf (v288 E k acc) (v324 E k acc)
def v289 (E : Tape F) (k : Fin k0_t3_loop.trips) (acc : Carry F) : FVec F S256x256 .f32 := mulf (v283 E k acc) (v88 E k acc)
def v290 (E : Tape F) (k : Fin k0_t3_loop.trips) (acc : Carry F) : FVec F S256x256 .f32 := mulf (v289 E k acc) (v124 E k acc)
def v318 (E : Tape F) (k : Fin k0_t3_loop.trips) (acc : Carry F) : FVec F S256x256 .f32 := mulf (v290 E k acc) (v100 E k acc)
def v319 (E : Tape F) (k : Fin k0_t3_loop.trips) (acc : Carry F) : FVec F S256x256 .f32 := broadcast S256x256 (Scalar.ofBits .f32 0x3F800000#32 : F .f32)
def v320 (E : Tape F) (k : Fin k0_t3_loop.trips) (acc : Carry F) : FVec F S256x256 .f32 := subf (v319 E k acc) (v100 E k acc)
def v321 (E : Tape F) (k : Fin k0_t3_loop.trips) (acc : Carry F) : FVec F S256x256 .f32 := mulf (v318 E k acc) (v320 E k acc)
def v326 (E : Tape F) (k : Fin k0_t3_loop.trips) (acc : Carry F) : FVec F S256x256 .bf16 := truncf .bf16 (v321 E k acc) bitsLt_bf16_f32
def v327 (E : Tape F) (k : Fin k0_t3_loop.trips) (acc : Carry F) : FVec F S256x256 .bf16 := truncf .bf16 (k0_pay1 E.wx) bitsLt_bf16_f32
def v328 (E : Tape F) (k : Fin k0_t3_loop.trips) (acc : Carry F) : FVec F S256x256 .f32 := matmul dot_S256x256_S256x256_S256x256_1_1_0_0_n_n none (v326 E k acc) (v327 E k acc) (constant S256x256 .f32 0x00000000#32 : FVec F S256x256 .f32)
def v329 (E : Tape F) (k : Fin k0_t3_loop.trips) (acc : Carry F) : FVec F S256x256 .f32 := addf (v325 E k acc) (v328 E k acc)
def v401 (E : Tape F) (k : Fin k0_t3_loop.trips) (acc : Carry F) : FVec F S264x256 .f32 := concatenate S264x256 0 [⟨S256x256, (v329 E k acc)⟩, ⟨S8x256, acc.2.2⟩] concatenates_S256x256_S8x256_S264x256_d0
def v402 (E : Tape F) (k : Fin k0_t3_loop.trips) (acc : Carry F) : FVec F S256x256 .f32 := extractStridedSlice S256x256 ![0, 0] (v401 E k acc) slices_S264x256_o0_0_S256x256
def v404 (E : Tape F) (k : Fin k0_t3_loop.trips) (acc : Carry F) : FVec F S1x256 .f32 := shapeCast S1x256 (E.tap3) shapeCasts_S1x256_S1x256
def v405 (E : Tape F) (k : Fin k0_t3_loop.trips) (acc : Carry F) : FVec F S256x256 .f32 := broadcastTo S256x256 (v404 E k acc) broadcasts_S1x256_S256x256
def v406 (E : Tape F) (k : Fin k0_t3_loop.trips) (acc : Carry F) : FVec F S256x256 .f32 := mulf (v402 E k acc) (v405 E k acc)
def v407 (E : Tape F) (k : Fin k0_t3_loop.trips) (acc : Carry F) : FVec F S264x256 .f32 := dynamicRotate 0 261#32 none (v401 E k acc) rotates_S264x256_d0
def v408 (E : Tape F) (k : Fin k0_t3_loop.trips) (acc : Carry F) : FVec F S256x256 .f32 := extractStridedSlice S256x256 ![0, 0] (v407 E k acc) slices_S264x256_o0_0_S256x256
def v410 (E : Tape F) (k : Fin k0_t3_loop.trips) (acc : Carry F) : FVec F S1x256 .f32 := shapeCast S1x256 (E.tap0) shapeCasts_S1x256_S1x256
def v411 (E : Tape F) (k : Fin k0_t3_loop.trips) (acc : Carry F) : FVec F S256x256 .f32 := broadcastTo S256x256 (v410 E k acc) broadcasts_S1x256_S256x256
def v412 (E : Tape F) (k : Fin k0_t3_loop.trips) (acc : Carry F) : FVec F S256x256 .f32 := mulf (v408 E k acc) (v411 E k acc)
def v413 (E : Tape F) (k : Fin k0_t3_loop.trips) (acc : Carry F) : FVec F S256x256 .f32 := addf (v406 E k acc) (v412 E k acc)
def v414 (E : Tape F) (k : Fin k0_t3_loop.trips) (acc : Carry F) : FVec F S264x256 .f32 := dynamicRotate 0 262#32 none (v401 E k acc) rotates_S264x256_d0
def v415 (E : Tape F) (k : Fin k0_t3_loop.trips) (acc : Carry F) : FVec F S256x256 .f32 := extractStridedSlice S256x256 ![0, 0] (v414 E k acc) slices_S264x256_o0_0_S256x256
def v417 (E : Tape F) (k : Fin k0_t3_loop.trips) (acc : Carry F) : FVec F S1x256 .f32 := shapeCast S1x256 (E.tap1) shapeCasts_S1x256_S1x256
def v418 (E : Tape F) (k : Fin k0_t3_loop.trips) (acc : Carry F) : FVec F S256x256 .f32 := broadcastTo S256x256 (v417 E k acc) broadcasts_S1x256_S256x256
def v419 (E : Tape F) (k : Fin k0_t3_loop.trips) (acc : Carry F) : FVec F S256x256 .f32 := mulf (v415 E k acc) (v418 E k acc)
def v420 (E : Tape F) (k : Fin k0_t3_loop.trips) (acc : Carry F) : FVec F S256x256 .f32 := addf (v413 E k acc) (v419 E k acc)
def v421 (E : Tape F) (k : Fin k0_t3_loop.trips) (acc : Carry F) : FVec F S264x256 .f32 := dynamicRotate 0 263#32 none (v401 E k acc) rotates_S264x256_d0
def v422 (E : Tape F) (k : Fin k0_t3_loop.trips) (acc : Carry F) : FVec F S256x256 .f32 := extractStridedSlice S256x256 ![0, 0] (v421 E k acc) slices_S264x256_o0_0_S256x256
def v424 (E : Tape F) (k : Fin k0_t3_loop.trips) (acc : Carry F) : FVec F S1x256 .f32 := shapeCast S1x256 (E.tap2) shapeCasts_S1x256_S1x256
def v425 (E : Tape F) (k : Fin k0_t3_loop.trips) (acc : Carry F) : FVec F S256x256 .f32 := broadcastTo S256x256 (v424 E k acc) broadcasts_S1x256_S256x256
def v426 (E : Tape F) (k : Fin k0_t3_loop.trips) (acc : Carry F) : FVec F S256x256 .f32 := mulf (v422 E k acc) (v425 E k acc)
def v427 (E : Tape F) (k : Fin k0_t3_loop.trips) (acc : Carry F) : FVec F S256x256 .f32 := addf (v420 E k acc) (v426 E k acc)
def v428 (E : Tape F) (k : Fin k0_t3_loop.trips) (acc : Carry F) : FVec F S256x256 .bf16 := truncf .bf16 (v427 E k acc) bitsLt_bf16_f32
def v144 (E : Tape F) (k : Fin k0_t3_loop.trips) (acc : Carry F) : FVec F S256x256 .f32 := extractStridedSlice S256x256 ![8, 0] (E.hext k) slices_S264x256_o8_0_S256x256
def v145 (E : Tape F) (k : Fin k0_t3_loop.trips) (acc : Carry F) : FVec F S256x256 .f32 := mulf (E.dv k) (v144 E k acc)
def v148 (E : Tape F) (k : Fin k0_t3_loop.trips) (acc : Carry F) : FVec F S256x256 .f32 := broadcast S256x256 (Scalar.ofBits .f32 0x3F000000#32 : F .f32)
def v146 (E : Tape F) (k : Fin k0_t3_loop.trips) (acc : Carry F) : FVec F S256x256 .f32 := broadcast S256x256 (Scalar.ofBits .f32 0x3F800000#32 : F .f32)
def v147 (E : Tape F) (k : Fin k0_t3_loop.trips) (acc : Carry F) : FVec F S256x256 .f32 := addf (v146 E k acc) (v138 E k acc)
def v149 (E : Tape F) (k : Fin k0_t3_loop.trips) (acc : Carry F) : FVec F S256x256 .f32 := mulf (v148 E k acc) (v147 E k acc)
def v150 (E : Tape F) (k : Fin k0_t3_loop.trips) (acc : Carry F) : FVec F S256x256 .f32 := broadcast S256x256 (Scalar.ofBits .f32 0x3F000000#32 : F .f32)
def v151 (E : Tape F) (k : Fin k0_t3_loop.trips) (acc : Carry F) : FVec F S256x256 .f32 := mulf (v150 E k acc) (E.gv k)
def v153 (E : Tape F) (k : Fin k0_t3_loop.trips) (acc : Carry F) : FVec F S256x256 .f32 := broadcast S256x256 (Scalar.ofBits .f32 0x3F800000#32 : F .f32)
def v152 (E : Tape F) (k : Fin k0_t3_loop.trips) (acc : Carry F) : FVec F S256x256 .f32 := mulf (v138 E k acc) (v138 E k acc)
def v154 (E : Tape F) (k : Fin k0_t3_loop.trips) (acc : Carry F) : FVec F S256x256 .f32 := subf (v153 E k acc) (v152 E k acc)
def v155 (E : Tape F) (k : Fin k0_t3_loop.trips) (acc : Carry F) : FVec F S256x256 .f32 := mulf (v151 E k acc) (v154 E k acc)
def v156 (E : Tape F) (k : Fin k0_t3_loop.trips) (acc : Carry F) : FVec F S256x256 .f32 := broadcast S256x256 (Scalar.ofBits .f32 0x3F4C422A#32 : F .f32)
def v157 (E : Tape F) (k : Fin k0_t3_loop.trips) (acc : Carry F) : FVec F S256x256 .f32 := mulf (v155 E k acc) (v156 E k acc)
def v161 (E : Tape F) (k : Fin k0_t3_loop.trips) (acc : Carry F) : FVec F S256x256 .f32 := broadcast S256x256 (Scalar.ofBits .f32 0x3F800000#32 : F .f32)
def v158 (E : Tape F) (k : Fin k0_t3_loop.trips) (acc : Carry F) : FVec F S256x256 .f32 := broadcast S256x256 (Named.named κ "gelu_cubic_3" 0x3E095D4F#32 : F .f32)
def v159 (E : Tape F) (k : Fin k0_t3_loop.trips) (acc : Carry F) : FVec F S256x256 .f32 := mulf (v158 E k acc) (E.gv k)
def v160 (E : Tape F) (k : Fin k0_t3_loop.trips) (acc : Carry F) : FVec F S256x256 .f32 := mulf (v159 E k acc) (E.gv k)
def v162 (E : Tape F) (k : Fin k0_t3_loop.trips) (acc : Carry F) : FVec F S256x256 .f32 := addf (v161 E k acc) (v160 E k acc)
def v163 (E : Tape F) (k : Fin k0_t3_loop.trips) (acc : Carry F) : FVec F S256x256 .f32 := mulf (v157 E k acc) (v162 E k acc)
def v164 (E : Tape F) (k : Fin k0_t3_loop.trips) (acc : Carry F) : FVec F S256x256 .f32 := addf (v149 E k acc) (v163 E k acc)
def v165 (E : Tape F) (k : Fin k0_t3_loop.trips) (acc : Carry F) : FVec F S256x256 .f32 := mulf (v145 E k acc) (v164 E k acc)
def v166 (E : Tape F) (k : Fin k0_t3_loop.trips) (acc : Carry F) : FVec F S256x256 .bf16 := truncf .bf16 (v165 E k acc) bitsLt_bf16_f32
def v431 (E : Tape F) (k : Fin k0_t3_loop.trips) (acc : Carry F) : IVec S256x1 32 := iota .tc S256x1 32 [0] iota_S256x1_d0_w32
def v432 (E : Tape F) (k : Fin k0_t3_loop.trips) (acc : Carry F) : IVec S256x1 32 := broadcast S256x1 0#32
def v433 (E : Tape F) (k : Fin k0_t3_loop.trips) (acc : Carry F) : IVec S256x1 1 := cmpi .eq (v431 E k acc) (v432 E k acc)
def v434 (E : Tape F) (k : Fin k0_t3_loop.trips) (acc : Carry F) : IVec S256x1 1 := shapeCast S256x1 (v433 E k acc) shapeCasts_S256x1_S256x1
def v435 (E : Tape F) (k : Fin k0_t3_loop.trips) (acc : Carry F) : IVec S256x256 1 := broadcastTo S256x256 (v434 E k acc) broadcasts_S256x1_S256x256
def v436 (E : Tape F) (k : Fin k0_t3_loop.trips) (acc : Carry F) : FVec F S256x256 .f32 := broadcast S256x256 (Scalar.ofBits .f32 0x00000000#32 : F .f32)
def v437 (E : Tape F) (k : Fin k0_t3_loop.trips) (acc : Carry F) : FVec F S256x256 .f32 := select (v435 E k acc) (v283 E k acc) (v436 E k acc)
def v307 (E : Tape F) (k : Fin k0_t3_loop.trips) (acc : Carry F) : FVec F S256x256 .f32 := broadcast S256x256 (Scalar.ofBits .f32 0xC1000000#32 : F .f32)
def v308 (E : Tape F) (k : Fin k0_t3_loop.trips) (acc : Carry F) : FVec F S256x256 .f32 := mulf (v300 E k acc) (v307 E k acc)
def v309 (E : Tape F) (k : Fin k0_t3_loop.trips) (acc : Carry F) : FVec F S256x256 .f32 := mulf (v308 E k acc) (v94 E k acc)
def v310 (E : Tape F) (k : Fin k0_t3_loop.trips) (acc : Carry F) : FVec F S256 .f32 := multiReduction .add [0] S256 (v309 E k acc) 0x00000000#32 reduces_S256x256_S256 (.inl rfl) rfl
def v311 (E : Tape F) (k : Fin k0_t3_loop.trips) (acc : Carry F) : FVec F S1x256 .f32 := shapeCast S1x256 (v310 E k acc) shapeCasts_S256_S1x256
def v350 (E : Tape F) (k : Fin k0_t3_loop.trips) (acc : Carry F) : FVec F S256 .f32 := multiReduction .add [0] S256 (v317 E k acc) 0x00000000#32 reduces_S256x256_S256 (.inl rfl) rfl
def v351 (E : Tape F) (k : Fin k0_t3_loop.trips) (acc : Carry F) : FVec F S1x256 .f32 := shapeCast S1x256 (v350 E k acc) shapeCasts_S256_S1x256
def v356 (E : Tape F) (k : Fin k0_t3_loop.trips) (acc : Carry F) : FVec F S256 .f32 := multiReduction .add [0] S256 (v321 E k acc) 0x00000000#32 reduces_S256x256_S256 (.inl rfl) rfl
def v357 (E : Tape F) (k : Fin k0_t3_loop.trips) (acc : Carry F) : FVec F S1x256 .f32 := shapeCast S1x256 (v356 E k acc) shapeCasts_S256_S1x256
def v362 (E : Tape F) (k : Fin k0_t3_loop.trips) (acc : Carry F) : FVec F S264x256 .f32 := dynamicRotate 0 3#32 none (E.ext k) rotates_S264x256_d0
def v363 (E : Tape F) (k : Fin k0_t3_loop.trips) (acc : Carry F) : FVec F S256x256 .f32 := extractStridedSlice S256x256 ![8, 0] (v362 E k acc) slices_S264x256_o8_0_S256x256
def v364 (E : Tape F) (k : Fin k0_t3_loop.trips) (acc : Carry F) : FVec F S256x256 .f32 := mulf (v329 E k acc) (v363 E k acc)
def v365 (E : Tape F) (k : Fin k0_t3_loop.trips) (acc : Carry F) : FVec F S256 .f32 := multiReduction .add [0] S256 (v364 E k acc) 0x00000000#32 reduces_S256x256_S256 (.inl rfl) rfl
def v366 (E : Tape F) (k : Fin k0_t3_loop.trips) (acc : Carry F) : FVec F S1x256 .f32 := shapeCast S1x256 (v365 E k acc) shapeCasts_S256_S1x256
def v371 (E : Tape F) (k : Fin k0_t3_loop.trips) (acc : Carry F) : FVec F S264x256 .f32 := dynamicRotate 0 2#32 none (E.ext k) rotates_S264x256_d0
def v372 (E : Tape F) (k : Fin k0_t3_loop.trips) (acc : Carry F) : FVec F S256x256 .f32 := extractStridedSlice S256x256 ![8, 0] (v371 E k acc) slices_S264x256_o8_0_S256x256
def v373 (E : Tape F) (k : Fin k0_t3_loop.trips) (acc : Carry F) : FVec F S256x256 .f32 := mulf (v329 E k acc) (v372 E k acc)
def v374 (E : Tape F) (k : Fin k0_t3_loop.trips) (acc : Carry F) : FVec F S256 .f32 := multiReduction .add [0] S256 (v373 E k acc) 0x00000000#32 reduces_S256x256_S256 (.inl rfl) rfl
def v375 (E : Tape F) (k : Fin k0_t3_loop.trips) (acc : Carry F) : FVec F S1x256 .f32 := shapeCast S1x256 (v374 E k acc) shapeCasts_S256_S1x256
def v380 (E : Tape F) (k : Fin k0_t3_loop.trips) (acc : Carry F) : FVec F S264x256 .f32 := dynamicRotate 0 1#32 none (E.ext k) rotates_S264x256_d0
def v381 (E : Tape F) (k : Fin k0_t3_loop.trips) (acc : Carry F) : FVec F S256x256 .f32 := extractStridedSlice S256x256 ![8, 0] (v380 E k acc) slices_S264x256_o8_0_S256x256
def v382 (E : Tape F) (k : Fin k0_t3_loop.trips) (acc : Carry F) : FVec F S256x256 .f32 := mulf (v329 E k acc) (v381 E k acc)
def v383 (E : Tape F) (k : Fin k0_t3_loop.trips) (acc : Carry F) : FVec F S256 .f32 := multiReduction .add [0] S256 (v382 E k acc) 0x00000000#32 reduces_S256x256_S256 (.inl rfl) rfl
def v384 (E : Tape F) (k : Fin k0_t3_loop.trips) (acc : Carry F) : FVec F S1x256 .f32 := shapeCast S1x256 (v383 E k acc) shapeCasts_S256_S1x256
def v389 (E : Tape F) (k : Fin k0_t3_loop.trips) (acc : Carry F) : FVec F S256x256 .f32 := extractStridedSlice S256x256 ![8, 0] (E.ext k) slices_S264x256_o8_0_S256x256
def v390 (E : Tape F) (k : Fin k0_t3_loop.trips) (acc : Carry F) : FVec F S256x256 .f32 := mulf (v329 E k acc) (v389 E k acc)
def v391 (E : Tape F) (k : Fin k0_t3_loop.trips) (acc : Carry F) : FVec F S256 .f32 := multiReduction .add [0] S256 (v390 E k acc) 0x00000000#32 reduces_S256x256_S256 (.inl rfl) rfl
def v392 (E : Tape F) (k : Fin k0_t3_loop.trips) (acc : Carry F) : FVec F S1x256 .f32 := shapeCast S1x256 (v391 E k acc) shapeCasts_S256_S1x256
def v397 (E : Tape F) (k : Fin k0_t3_loop.trips) (acc : Carry F) : FVec F S256 .f32 := multiReduction .add [0] S256 (v329 E k acc) 0x00000000#32 reduces_S256x256_S256 (.inl rfl) rfl
def v398 (E : Tape F) (k : Fin k0_t3_loop.trips) (acc : Carry F) : FVec F S1x256 .f32 := shapeCast S1x256 (v397 E k acc) shapeCasts_S256_S1x256
def v332 (E : Tape F) (k : Fin k0_t3_loop.trips) (acc : Carry F) : FVec F S256x256 .bf16 := truncf .bf16 (v88 E k acc) bitsLt_bf16_f32
def v333 (E : Tape F) (k : Fin k0_t3_loop.trips) (acc : Carry F) : FVec F S256x256 .bf16 := truncf .bf16 (v317 E k acc) bitsLt_bf16_f32
def v334 (E : Tape F) (k : Fin k0_t3_loop.trips) (acc : Carry F) : FVec F S256x256 .f32 := matmul dot_S256x256_S256x256_S256x256_0_0_1_1_n_n none (v332 E k acc) (v333 E k acc) (constant S256x256 .f32 0x00000000#32 : FVec F S256x256 .f32)
def v341 (E : Tape F) (k : Fin k0_t3_loop.trips) (acc : Carry F) : FVec F S256x256 .bf16 := truncf .bf16 (v88 E k acc) bitsLt_bf16_f32
def v342 (E : Tape F) (k : Fin k0_t3_loop.trips) (acc : Carry F) : FVec F S256x256 .bf16 := truncf .bf16 (v321 E k acc) bitsLt_bf16_f32
def v343 (E : Tape F) (k : Fin k0_t3_loop.trips) (acc : Carry F) : FVec F S256x256 .f32 := matmul dot_S256x256_S256x256_S256x256_0_0_1_1_n_n none (v341 E k acc) (v342 E k acc) (constant S256x256 .f32 0x00000000#32 : FVec F S256x256 .f32)

/-- The row of an accumulator's eight. -/
def row (A : Vec F S8x256 .f32) (o : ℕ) (inb : ∀ a : Fin 2, (![o, 0] : Fin 2 → ℕ) a + S1x256.size a ≤ S8x256.size a) :
    Vec F S1x256 .f32 := View.ld A (Rect.unit (s := S8x256) ![o, 0] S1x256.size inb)

end T

/-- What a trip hands on. -/
def carry' (E : Tape F) (k : Fin k0_t3_loop.trips) (acc : Carry F) : Carry F :=
  (k0_pay8 (T.v437 E k acc), k0_pay9 (T.v105 E k acc), k0_pay10 (T.v329 E k acc))

/-- The eight accumulated rows after a trip: each row's old content plus the trip's sum down its column. -/
def A14' (E : Tape F) (k : Fin k0_t3_loop.trips) (acc : Carry F) (A : Vec F S8x256 .f32) : Fin 8 → Vec F S1x256 .f32
  | 0 => addf (shapeCast S1x256 (T.row A 0 inb_S8x256_S1x256_0_0) shapeCasts_S1x256_S1x256) (T.v366 E k acc)
  | 1 => addf (shapeCast S1x256 (T.row A 1 inb_S8x256_S1x256_1_0) shapeCasts_S1x256_S1x256) (T.v375 E k acc)
  | 2 => addf (shapeCast S1x256 (T.row A 2 inb_S8x256_S1x256_2_0) shapeCasts_S1x256_S1x256) (T.v384 E k acc)
  | 3 => addf (shapeCast S1x256 (T.row A 3 inb_S8x256_S1x256_3_0) shapeCasts_S1x256_S1x256) (T.v392 E k acc)
  | 4 => addf (shapeCast S1x256 (T.row A 4 inb_S8x256_S1x256_4_0) shapeCasts_S1x256_S1x256) (T.v398 E k acc)
  | 5 => addf (shapeCast S1x256 (T.row A 5 inb_S8x256_S1x256_5_0) shapeCasts_S1x256_S1x256) (T.v351 E k acc)
  | 6 => addf (shapeCast S1x256 (T.row A 6 inb_S8x256_S1x256_6_0) shapeCasts_S1x256_S1x256) (T.v357 E k acc)
  | 7 => addf (shapeCast S1x256 (T.row A 7 inb_S8x256_S1x256_7_0) shapeCasts_S1x256_S1x256) (T.v311 E k acc)

def A15' (E : Tape F) (k : Fin k0_t3_loop.trips) (acc : Carry F) (A : Vec F S1x256x256 .f32) : Vec F S1x256x256 .f32 :=
  shapeCast S1x256x256 (addf (shapeCast S256x256 A shapeCasts_S1x256x256_S256x256) (T.v334 E k acc)) shapeCasts_S256x256_S1x256x256

def A16' (E : Tape F) (k : Fin k0_t3_loop.trips) (acc : Carry F) (A : Vec F S1x256x256 .f32) : Vec F S1x256x256 .f32 :=
  shapeCast S1x256x256 (addf (shapeCast S256x256 A shapeCasts_S1x256x256_S256x256) (T.v343 E k acc)) shapeCasts_S256x256_S1x256x256

section Trip

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256 .f32) (harg8 : arg8.IsWhole) (arg9 : Memref sig .tc .vmem S1x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S8x256 .f32) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S2056x256 .f32) (harg17 : arg17.IsWhole) (arg18 : Memref sig .tc .vmem S2056x256 .f32) (harg18 : arg18.IsWhole)
  (v20 : FVec F S1x256 .f32) (v21 : Vec F S1x256 .f32) (v23 : FVec F S256x256 .f32) (v25 : FVec F S1x256 .f32) (v26 : Vec F S1x256x256 .f32) (v28 : Vec F S1x256 .f32)
  (X2 : BufTy.Contents (Elt F) arg2.view.ty) (X3 : BufTy.Contents (Elt F) arg3.view.ty) (X5 : BufTy.Contents (Elt F) arg5.view.ty) (X17 : BufTy.Contents (Elt F) arg17.view.ty) (X18 : BufTy.Contents (Elt F) arg18.view.ty)

/-- The tape of a call whose buffers hold given contents. -/
def tapeOf : Tape F :=
  { xp := View.read (Elt F) arg17.view X17, hp := View.read (Elt F) arg18.view X18, g := View.read (Elt F) arg2.view X2,
    dy := View.read (Elt F) arg3.view X3, cw := View.read (Elt F) arg5.view X5, sp := v20, cb := v21, wa := v23, ba := v25,
    wx := v26, bx := v28 }

variable (k : Fin k0_t3_loop.trips) (acc : Carry F)
  (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)

set_option maxHeartbeats 2000000 in
theorem tripR_eq :
    tripR_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 k acc f12 f13 f14 f15 f16
      = carry' (tapeOf arg2 arg3 arg5 arg17 arg18 v20 v21 v23 v25 v26 v28 X2 X3 X5 X17 X18) k acc := by
  unfold tripR_k0_t3 trip_k0_t3
  rfl

end Trip

end Cert.KernelIdeal.Hand
end
-- ==== Proof.Loop.lean ====
module

public import proofs.«01_k».proof.Proof.Trip
public import Idealize.ShloMosaic.Lib.ValueIdx
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

open Idealize.ShloMosaic.ValueIdx

theorem trips_eq : k0_t3_loop.trips = 8 := rfl
theorem off5_eq (k : Fin k0_t3_loop.trips) : k0_off5 k = ![(7 - k.val) * 256, 0] := by
  revert k; decide +kernel
theorem off6_eq (k : Fin k0_t3_loop.trips) : k0_off6 k = ![(7 - k.val) * 256, 0] := by
  revert k; decide +kernel
theorem off1_eq (k : Fin k0_t1_loop.trips) : k0_off1 k = ![k.val * 256, 0] := by
  revert k; decide +kernel
theorem off2_eq (k : Fin k0_t1_loop.trips) : k0_off2 k = ![8 + k.val * 256, 0] := by
  revert k; decide +kernel
theorem off3_eq (k : Fin k0_t2_loop.trips) : k0_off3 k = ![k.val * 256, 0] := by
  revert k; decide +kernel
theorem off4_eq (k : Fin k0_t2_loop.trips) : k0_off4 k = ![8 + k.val * 256, 0] := by
  revert k; decide +kernel
theorem base_eq (k : Fin k0_t3_loop.trips) : base k = BitVec.ofNat 32 ((7 - k.val) * 256) := by
  revert k; decide +kernel

/-- A history behind eight zero rows. -/
def pad8 (x : Vec F S2048x256 .f32) : Vec F S2056x256 .f32 :=
  fun y => if h : (y 0).val < 8 then Scalar.ofBits .f32 0x00000000#32
    else x (ix2 ⟨(y 0).val - 8, by have := idx2_lt0 y; omega⟩ (y 1))

/-- The accumulators and what is carried, before each trip. -/
def ST (E : Tape F) (acc0 : Carry F) (A0 : Vec F S8x256 .f32) (B0 C0 : Vec F S1x256x256 .f32) :
    ℕ → Carry F × Vec F S8x256 .f32 × Vec F S1x256x256 .f32 × Vec F S1x256x256 .f32
  | 0 => (acc0, A0, B0, C0)
  | n + 1 => if h : n < k0_t3_loop.trips then
      (carry' E ⟨n, h⟩ (ST E acc0 A0 B0 C0 n).1,
       fun y => A14' E ⟨n, h⟩ (ST E acc0 A0 B0 C0 n).1 (ST E acc0 A0 B0 C0 n).2.1 (y 0) (ix2 0 (y 1)),
       A15' E ⟨n, h⟩ (ST E acc0 A0 B0 C0 n).1 (ST E acc0 A0 B0 C0 n).2.2.1,
       A16' E ⟨n, h⟩ (ST E acc0 A0 B0 C0 n).1 (ST E acc0 A0 B0 C0 n).2.2.2)
    else ST E acc0 A0 B0 C0 n

theorem ST_succ (E : Tape F) (acc0 : Carry F) (A0 : Vec F S8x256 .f32) (B0 C0 : Vec F S1x256x256 .f32) (n : ℕ)
    (h : n < k0_t3_loop.trips) : ST E acc0 A0 B0 C0 (n + 1) =
      (carry' E ⟨n, h⟩ (ST E acc0 A0 B0 C0 n).1,
       fun y => A14' E ⟨n, h⟩ (ST E acc0 A0 B0 C0 n).1 (ST E acc0 A0 B0 C0 n).2.1 (y 0) (ix2 0 (y 1)),
       A15' E ⟨n, h⟩ (ST E acc0 A0 B0 C0 n).1 (ST E acc0 A0 B0 C0 n).2.2.1,
       A16' E ⟨n, h⟩ (ST E acc0 A0 B0 C0 n).1 (ST E acc0 A0 B0 C0 n).2.2.2) := by
  rw [ST]; exact dif_pos h

section Trip

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256 .f32) (harg8 : arg8.IsWhole) (arg9 : Memref sig .tc .vmem S1x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S8x256 .f32) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S2056x256 .f32) (harg17 : arg17.IsWhole) (arg18 : Memref sig .tc .vmem S2056x256 .f32) (harg18 : arg18.IsWhole)
  (v20 : FVec F S1x256 .f32) (v21 : Vec F S1x256 .f32) (v23 : FVec F S256x256 .f32) (v25 : FVec F S1x256 .f32) (v26 : Vec F S1x256x256 .f32) (v28 : Vec F S1x256 .f32)
  (X2 : BufTy.Contents (Elt F) arg2.view.ty) (X3 : BufTy.Contents (Elt F) arg3.view.ty) (X5 : BufTy.Contents (Elt F) arg5.view.ty) (X17 : BufTy.Contents (Elt F) arg17.view.ty) (X18 : BufTy.Contents (Elt F) arg18.view.ty)

section one
variable (k : Fin k0_t3_loop.trips) (acc : Carry F)
  (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)

set_option maxHeartbeats 4000000 in
theorem tripL_eq :
    tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 k acc f12 f13 f14 f15 f16
      = ([⟨Rect.unit (s := S2048x256) (k0_off6 k) S256x256.size (k0_off6_inb k), T.v428 (tapeOf arg2 arg3 arg5 arg17 arg18 v20 v21 v23 v25 v26 v28 X2 X3 X5 X17 X18) k acc⟩],
         [⟨Rect.unit (s := S2048x256) (k0_off6 k) S256x256.size (k0_off6_inb k), T.v166 (tapeOf arg2 arg3 arg5 arg17 arg18 v20 v21 v23 v25 v26 v28 X2 X3 X5 X17 X18) k acc⟩],
         [⟨Rect.unit (s := S8x256) ![4, 0] S1x256.size inb_S8x256_S1x256_4_0, A14' (tapeOf arg2 arg3 arg5 arg17 arg18 v20 v21 v23 v25 v26 v28 X2 X3 X5 X17 X18) k acc (View.read (Elt F) arg14.view f14) 4⟩, ⟨Rect.unit (s := S8x256) ![3, 0] S1x256.size inb_S8x256_S1x256_3_0, A14' (tapeOf arg2 arg3 arg5 arg17 arg18 v20 v21 v23 v25 v26 v28 X2 X3 X5 X17 X18) k acc (View.read (Elt F) arg14.view f14) 3⟩, ⟨Rect.unit (s := S8x256) ![2, 0] S1x256.size inb_S8x256_S1x256_2_0, A14' (tapeOf arg2 arg3 arg5 arg17 arg18 v20 v21 v23 v25 v26 v28 X2 X3 X5 X17 X18) k acc (View.read (Elt F) arg14.view f14) 2⟩, ⟨Rect.unit (s := S8x256) ![1, 0] S1x256.size inb_S8x256_S1x256_1_0, A14' (tapeOf arg2 arg3 arg5 arg17 arg18 v20 v21 v23 v25 v26 v28 X2 X3 X5 X17 X18) k acc (View.read (Elt F) arg14.view f14) 1⟩, ⟨Rect.unit (s := S8x256) ![0, 0] S1x256.size inb_S8x256_S1x256_0_0, A14' (tapeOf arg2 arg3 arg5 arg17 arg18 v20 v21 v23 v25 v26 v28 X2 X3 X5 X17 X18) k acc (View.read (Elt F) arg14.view f14) 0⟩, ⟨Rect.unit (s := S8x256) ![6, 0] S1x256.size inb_S8x256_S1x256_6_0, A14' (tapeOf arg2 arg3 arg5 arg17 arg18 v20 v21 v23 v25 v26 v28 X2 X3 X5 X17 X18) k acc (View.read (Elt F) arg14.view f14) 6⟩, ⟨Rect.unit (s := S8x256) ![5, 0] S1x256.size inb_S8x256_S1x256_5_0, A14' (tapeOf arg2 arg3 arg5 arg17 arg18 v20 v21 v23 v25 v26 v28 X2 X3 X5 X17 X18) k acc (View.read (Elt F) arg14.view f14) 5⟩, ⟨Rect.unit (s := S8x256) ![7, 0] S1x256.size inb_S8x256_S1x256_7_0, A14' (tapeOf arg2 arg3 arg5 arg17 arg18 v20 v21 v23 v25 v26 v28 X2 X3 X5 X17 X18) k acc (View.read (Elt F) arg14.view f14) 7⟩],
         [⟨Rect.unit (s := S1x256x256) ![0, 0, 0] S1x256x256.size inb_S1x256x256_S1x256x256_0_0_0, A15' (tapeOf arg2 arg3 arg5 arg17 arg18 v20 v21 v23 v25 v26 v28 X2 X3 X5 X17 X18) k acc (View.ld (View.read (Elt F) arg15.view f15) (Rect.unit (s := S1x256x256) ![0, 0, 0] S1x256x256.size inb_S1x256x256_S1x256x256_0_0_0))⟩],
         [⟨Rect.unit (s := S1x256x256) ![0, 0, 0] S1x256x256.size inb_S1x256x256_S1x256x256_0_0_0, A16' (tapeOf arg2 arg3 arg5 arg17 arg18 v20 v21 v23 v25 v26 v28 X2 X3 X5 X17 X18) k acc (View.ld (View.read (Elt F) arg16.view f16) (Rect.unit (s := S1x256x256) ![0, 0, 0] S1x256x256.size inb_S1x256x256_S1x256x256_0_0_0))⟩]) := by
  unfold tripL_k0_t3 trip_k0_t3
  rfl
end one

theorem ld_whole3 (X : Vec F S1x256x256 .f32) :
    View.ld X (Rect.unit (s := S1x256x256) ![0, 0, 0] S1x256x256.size inb_S1x256x256_S1x256x256_0_0_0) = X :=
  View.ld_unit_zero (by funext a; match a with | ⟨0, _⟩ => rfl | ⟨1, _⟩ => rfl | ⟨2, _⟩ => rfl) _ X

theorem read_whole3 (v : View sig .tc .vmem S1x256x256 .f32) (f : v.ty.Contents (Elt F)) (w : Vec F S1x256x256 .f32) (L) :
    v.read (Elt F) (v.writes (Elt F) f ((⟨Rect.unit (s := S1x256x256) ![0, 0, 0] S1x256x256.size inb_S1x256x256_S1x256x256_0_0_0, w⟩ : View.Piece (Elt F) S1x256x256 .f32) :: L)) = w :=
  funext fun y => View.read_writes_cons_unit_of_mem v f _ w L y y rfl fun a => by
    match a with
    | ⟨0, _⟩ => exact (Nat.zero_add _).symm
    | ⟨1, _⟩ => exact (Nat.zero_add _).symm
    | ⟨2, _⟩ => exact (Nat.zero_add _).symm

/-- Eight rows stored one by one: each element is the one of its row. -/
theorem read_rows8 (v : View sig .tc .vmem S8x256 .f32) (f : v.ty.Contents (Elt F)) (W : Fin 8 → Vec F S1x256 .f32) (L) (y : S8x256.Idx) :
    v.read (Elt F) (v.writes (Elt F) f ([(⟨Rect.unit (s := S8x256) ![4, 0] S1x256.size inb_S8x256_S1x256_4_0, W 4⟩ : View.Piece (Elt F) S8x256 .f32), (⟨Rect.unit (s := S8x256) ![3, 0] S1x256.size inb_S8x256_S1x256_3_0, W 3⟩ : View.Piece (Elt F) S8x256 .f32), (⟨Rect.unit (s := S8x256) ![2, 0] S1x256.size inb_S8x256_S1x256_2_0, W 2⟩ : View.Piece (Elt F) S8x256 .f32), (⟨Rect.unit (s := S8x256) ![1, 0] S1x256.size inb_S8x256_S1x256_1_0, W 1⟩ : View.Piece (Elt F) S8x256 .f32), (⟨Rect.unit (s := S8x256) ![0, 0] S1x256.size inb_S8x256_S1x256_0_0, W 0⟩ : View.Piece (Elt F) S8x256 .f32), (⟨Rect.unit (s := S8x256) ![6, 0] S1x256.size inb_S8x256_S1x256_6_0, W 6⟩ : View.Piece (Elt F) S8x256 .f32), (⟨Rect.unit (s := S8x256) ![5, 0] S1x256.size inb_S8x256_S1x256_5_0, W 5⟩ : View.Piece (Elt F) S8x256 .f32), (⟨Rect.unit (s := S8x256) ![7, 0] S1x256.size inb_S8x256_S1x256_7_0, W 7⟩ : View.Piece (Elt F) S8x256 .f32)] ++ L)) y
      = W (y 0) (ix2 0 (y 1)) := by
  obtain ⟨r, q, rfl⟩ : ∃ r q, y = ix2 r q := ⟨y 0, y 1, eq_ix2 y⟩
  simp only [List.cons_append, List.nil_append]
  have step : ∀ (o : ℕ) (ho : o < 8) (inb) (w : Vec F S1x256 .f32) (L' : List (View.Piece (Elt F) S8x256 .f32)),
      r.val = o → v.read (Elt F) (v.writes (Elt F) f ((⟨Rect.unit (s := S8x256) ![o, 0] S1x256.size inb, w⟩ : View.Piece (Elt F) S8x256 .f32) :: L')) (ix2 r q) = w (ix2 0 q) := by
    intro o ho inb w L' e
    exact View.read_writes_cons_rows_of_mem v f inb w L' (ix2 r q) (ix2 0 q) rfl e rfl
  have skip : ∀ (o : ℕ) (ho : o < 8) (inb) (w : Vec F S1x256 .f32) (L' : List (View.Piece (Elt F) S8x256 .f32)),
      r.val ≠ o → v.read (Elt F) (v.writes (Elt F) f ((⟨Rect.unit (s := S8x256) ![o, 0] S1x256.size inb, w⟩ : View.Piece (Elt F) S8x256 .f32) :: L')) (ix2 r q)
        = v.read (Elt F) (v.writes (Elt F) f L') (ix2 r q) := by
    intro o ho inb w L' e
    exact View.read_writes_cons_rows_of_not_mem (W := 1) v f inb w L' (ix2 r q) rfl rfl (by show r.val < o ∨ o + 1 ≤ r.val; omega)
  have hr : ∀ j : Fin 8, (ix2 r q : S8x256.Idx) 0 = j ↔ r = j := fun j => Iff.rfl
  fin_cases r
  ·
    rw [skip 4 (by decide) _ _ _ (by decide)]
    rw [skip 3 (by decide) _ _ _ (by decide)]
    rw [skip 2 (by decide) _ _ _ (by decide)]
    rw [skip 1 (by decide) _ _ _ (by decide)]
    exact step 0 (by decide) _ _ _ rfl
  ·
    rw [skip 4 (by decide) _ _ _ (by decide)]
    rw [skip 3 (by decide) _ _ _ (by decide)]
    rw [skip 2 (by decide) _ _ _ (by decide)]
    exact step 1 (by decide) _ _ _ rfl
  ·
    rw [skip 4 (by decide) _ _ _ (by decide)]
    rw [skip 3 (by decide) _ _ _ (by decide)]
    exact step 2 (by decide) _ _ _ rfl
  ·
    rw [skip 4 (by decide) _ _ _ (by decide)]
    exact step 3 (by decide) _ _ _ rfl
  ·
    exact step 4 (by decide) _ _ _ rfl
  ·
    rw [skip 4 (by decide) _ _ _ (by decide)]
    rw [skip 3 (by decide) _ _ _ (by decide)]
    rw [skip 2 (by decide) _ _ _ (by decide)]
    rw [skip 1 (by decide) _ _ _ (by decide)]
    rw [skip 0 (by decide) _ _ _ (by decide)]
    rw [skip 6 (by decide) _ _ _ (by decide)]
    exact step 5 (by decide) _ _ _ rfl
  ·
    rw [skip 4 (by decide) _ _ _ (by decide)]
    rw [skip 3 (by decide) _ _ _ (by decide)]
    rw [skip 2 (by decide) _ _ _ (by decide)]
    rw [skip 1 (by decide) _ _ _ (by decide)]
    rw [skip 0 (by decide) _ _ _ (by decide)]
    exact step 6 (by decide) _ _ _ rfl
  ·
    rw [skip 4 (by decide) _ _ _ (by decide)]
    rw [skip 3 (by decide) _ _ _ (by decide)]
    rw [skip 2 (by decide) _ _ _ (by decide)]
    rw [skip 1 (by decide) _ _ _ (by decide)]
    rw [skip 0 (by decide) _ _ _ (by decide)]
    rw [skip 6 (by decide) _ _ _ (by decide)]
    rw [skip 5 (by decide) _ _ _ (by decide)]
    exact step 7 (by decide) _ _ _ rfl

variable (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (acc0 : Carry F)

set_option maxHeartbeats 1000000 in
theorem st_succ' (k : Fin k0_t3_loop.trips) (P) (hP : st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 k.val = P) (E) (hE : tapeOf arg2 arg3 arg5 arg17 arg18 v20 v21 v23 v25 v26 v28 X2 X3 X5 X17 X18 = E) :
    st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 (k.val + 1)
      = (carry' E k P.1,
         [⟨Rect.unit (s := S2048x256) (k0_off6 k) S256x256.size (k0_off6_inb k), T.v428 E k P.1⟩] ++ P.2.1,
         [⟨Rect.unit (s := S2048x256) (k0_off6 k) S256x256.size (k0_off6_inb k), T.v166 E k P.1⟩] ++ P.2.2.1,
         [⟨Rect.unit (s := S8x256) ![4, 0] S1x256.size inb_S8x256_S1x256_4_0, A14' E k P.1 (View.read (Elt F) arg14.view (arg14.view.writes (Elt F) G14 P.2.2.2.1)) 4⟩, ⟨Rect.unit (s := S8x256) ![3, 0] S1x256.size inb_S8x256_S1x256_3_0, A14' E k P.1 (View.read (Elt F) arg14.view (arg14.view.writes (Elt F) G14 P.2.2.2.1)) 3⟩, ⟨Rect.unit (s := S8x256) ![2, 0] S1x256.size inb_S8x256_S1x256_2_0, A14' E k P.1 (View.read (Elt F) arg14.view (arg14.view.writes (Elt F) G14 P.2.2.2.1)) 2⟩, ⟨Rect.unit (s := S8x256) ![1, 0] S1x256.size inb_S8x256_S1x256_1_0, A14' E k P.1 (View.read (Elt F) arg14.view (arg14.view.writes (Elt F) G14 P.2.2.2.1)) 1⟩, ⟨Rect.unit (s := S8x256) ![0, 0] S1x256.size inb_S8x256_S1x256_0_0, A14' E k P.1 (View.read (Elt F) arg14.view (arg14.view.writes (Elt F) G14 P.2.2.2.1)) 0⟩, ⟨Rect.unit (s := S8x256) ![6, 0] S1x256.size inb_S8x256_S1x256_6_0, A14' E k P.1 (View.read (Elt F) arg14.view (arg14.view.writes (Elt F) G14 P.2.2.2.1)) 6⟩, ⟨Rect.unit (s := S8x256) ![5, 0] S1x256.size inb_S8x256_S1x256_5_0, A14' E k P.1 (View.read (Elt F) arg14.view (arg14.view.writes (Elt F) G14 P.2.2.2.1)) 5⟩, ⟨Rect.unit (s := S8x256) ![7, 0] S1x256.size inb_S8x256_S1x256_7_0, A14' E k P.1 (View.read (Elt F) arg14.view (arg14.view.writes (Elt F) G14 P.2.2.2.1)) 7⟩] ++ P.2.2.2.1,
         [⟨Rect.unit (s := S1x256x256) ![0, 0, 0] S1x256x256.size inb_S1x256x256_S1x256x256_0_0_0, A15' E k P.1 (View.ld (View.read (Elt F) arg15.view (arg15.view.writes (Elt F) G15 P.2.2.2.2.1)) (Rect.unit (s := S1x256x256) ![0, 0, 0] S1x256x256.size inb_S1x256x256_S1x256x256_0_0_0))⟩] ++ P.2.2.2.2.1,
         [⟨Rect.unit (s := S1x256x256) ![0, 0, 0] S1x256x256.size inb_S1x256x256_S1x256x256_0_0_0, A16' E k P.1 (View.ld (View.read (Elt F) arg16.view (arg16.view.writes (Elt F) G16 P.2.2.2.2.2)) (Rect.unit (s := S1x256x256) ![0, 0, 0] S1x256x256.size inb_S1x256x256_S1x256x256_0_0_0))⟩] ++ P.2.2.2.2.2) := by
  have e := st_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 k
  have hR := tripR_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 k P.1 (arg12.view.writes (Elt F) G12 P.2.1) (arg13.view.writes (Elt F) G13 P.2.2.1) (arg14.view.writes (Elt F) G14 P.2.2.2.1) (arg15.view.writes (Elt F) G15 P.2.2.2.2.1) (arg16.view.writes (Elt F) G16 P.2.2.2.2.2)
  have hL := tripL_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 k P.1 (arg12.view.writes (Elt F) G12 P.2.1) (arg13.view.writes (Elt F) G13 P.2.2.1) (arg14.view.writes (Elt F) G14 P.2.2.2.1) (arg15.view.writes (Elt F) G15 P.2.2.2.2.1) (arg16.view.writes (Elt F) G16 P.2.2.2.2.2)
  subst hP
  subst hE
  refine e.trans ?_
  exact congr (congrArg Prod.mk hR) (congr (congrArg Prod.mk (congrArg (fun z => z.1 ++ _) hL)) (congr (congrArg Prod.mk (congrArg (fun z => z.2.1 ++ _) hL))
    (congr (congrArg Prod.mk (congrArg (fun z => z.2.2.1 ++ _) hL)) (congr (congrArg Prod.mk (congrArg (fun z => z.2.2.2.1 ++ _) hL)) (congrArg (fun z => z.2.2.2.2 ++ _) hL)))))

set_option maxHeartbeats 1000000 in
/-- The loop's state, read: what is carried, the accumulators, and the rows stored so far. -/
theorem st_read (n : ℕ) (hn : n ≤ 8) :
    (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 n).1
        = (ST (tapeOf arg2 arg3 arg5 arg17 arg18 v20 v21 v23 v25 v26 v28 X2 X3 X5 X17 X18) acc0 (View.read (Elt F) arg14.view G14) (View.read (Elt F) arg15.view G15) (View.read (Elt F) arg16.view G16) n).1
    ∧ View.read (Elt F) arg14.view (arg14.view.writes (Elt F) G14 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 n).2.2.2.1)
        = (ST (tapeOf arg2 arg3 arg5 arg17 arg18 v20 v21 v23 v25 v26 v28 X2 X3 X5 X17 X18) acc0 (View.read (Elt F) arg14.view G14) (View.read (Elt F) arg15.view G15) (View.read (Elt F) arg16.view G16) n).2.1
    ∧ View.read (Elt F) arg15.view (arg15.view.writes (Elt F) G15 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 n).2.2.2.2.1)
        = (ST (tapeOf arg2 arg3 arg5 arg17 arg18 v20 v21 v23 v25 v26 v28 X2 X3 X5 X17 X18) acc0 (View.read (Elt F) arg14.view G14) (View.read (Elt F) arg15.view G15) (View.read (Elt F) arg16.view G16) n).2.2.1
    ∧ View.read (Elt F) arg16.view (arg16.view.writes (Elt F) G16 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 n).2.2.2.2.2)
        = (ST (tapeOf arg2 arg3 arg5 arg17 arg18 v20 v21 v23 v25 v26 v28 X2 X3 X5 X17 X18) acc0 (View.read (Elt F) arg14.view G14) (View.read (Elt F) arg15.view G15) (View.read (Elt F) arg16.view G16) n).2.2.2
    ∧ (∀ (j : Fin k0_t3_loop.trips) (hj : j.val < n) (y : S2048x256.Idx) (x : S256x256.Idx), (y 0).val = (7 - j.val) * 256 + (x 0).val → (y 1).val = (x 1).val →
        View.read (Elt F) arg12.view (arg12.view.writes (Elt F) G12 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 n).2.1) y
          = T.v428 (tapeOf arg2 arg3 arg5 arg17 arg18 v20 v21 v23 v25 v26 v28 X2 X3 X5 X17 X18) j (ST (tapeOf arg2 arg3 arg5 arg17 arg18 v20 v21 v23 v25 v26 v28 X2 X3 X5 X17 X18) acc0 (View.read (Elt F) arg14.view G14) (View.read (Elt F) arg15.view G15) (View.read (Elt F) arg16.view G16) j.val).1 x)
    ∧ (∀ (j : Fin k0_t3_loop.trips) (hj : j.val < n) (y : S2048x256.Idx) (x : S256x256.Idx), (y 0).val = (7 - j.val) * 256 + (x 0).val → (y 1).val = (x 1).val →
        View.read (Elt F) arg13.view (arg13.view.writes (Elt F) G13 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 n).2.2.1) y
          = T.v166 (tapeOf arg2 arg3 arg5 arg17 arg18 v20 v21 v23 v25 v26 v28 X2 X3 X5 X17 X18) j (ST (tapeOf arg2 arg3 arg5 arg17 arg18 v20 v21 v23 v25 v26 v28 X2 X3 X5 X17 X18) acc0 (View.read (Elt F) arg14.view G14) (View.read (Elt F) arg15.view G15) (View.read (Elt F) arg16.view G16) j.val).1 x) := by
  induction n with
  | zero => exact ⟨rfl, rfl, rfl, rfl, fun j hj => absurd hj (Nat.not_lt_zero _), fun j hj => absurd hj (Nat.not_lt_zero _)⟩
  | succ n ih =>
    have h : n < k0_t3_loop.trips := by rw [trips_eq]; omega
    obtain ⟨h1, h2, h3, h4, h5, h6⟩ := ih (by omega)
    have e := st_succ' c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 ⟨n, h⟩ _ rfl _ rfl
    rw [show (⟨n, h⟩ : Fin k0_t3_loop.trips).val = n from rfl] at e
    rw [e, ST_succ _ _ _ _ _ n h]
    clear e ih
    revert h1 h2 h3 h4 h5 h6
    generalize tapeOf arg2 arg3 arg5 arg17 arg18 v20 v21 v23 v25 v26 v28 X2 X3 X5 X17 X18 = E
    generalize st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 acc0 n = P
    intro h1 h2 h3 h4 h5 h6
    refine ⟨?_, ?_, ?_, ?_, ?_, ?_⟩
    · simp only [h1]
    · funext y
      exact (read_rows8 arg14.view G14 (A14' E ⟨n, h⟩ P.1 (View.read (Elt F) arg14.view (arg14.view.writes (Elt F) G14 P.2.2.2.1))) _ y).trans
        (congrArg₂ (fun a A => A14' E ⟨n, h⟩ a A (y 0) (ix2 0 (y 1))) h1 h2)
    · exact (read_whole3 arg15.view G15 _ _).trans ((congrArg (A15' E ⟨n, h⟩ P.1) (ld_whole3 _)).trans (congrArg₂ (A15' E ⟨n, h⟩) h1 h3))
    · exact (read_whole3 arg16.view G16 _ _).trans ((congrArg (A16' E ⟨n, h⟩ P.1) (ld_whole3 _)).trans (congrArg₂ (A16' E ⟨n, h⟩) h1 h4))
    · intro j hj y x hy0 hy1
      by_cases hjn : j.val = n
      · obtain rfl : j = ⟨n, h⟩ := Fin.ext hjn
        refine (View.read_writes_cons_rows_of_mem _ _ _ _ _ y x (off6_eq ⟨n, h⟩) hy0 hy1).trans ?_
        exact congrArg (fun a => T.v428 E ⟨n, h⟩ a x) h1
      · have hj8 : j.val < 8 := j.isLt
        have hx := idx2_lt0 x
        refine (View.read_writes_cons_rows_of_not_mem (W := 256) _ _ _ _ _ y (off6_eq ⟨n, h⟩) rfl
          (by show (y 0).val < (7 - n) * 256 ∨ (7 - n) * 256 + 256 ≤ (y 0).val; omega)).trans ?_
        exact h5 j (by omega) y x hy0 hy1
    · intro j hj y x hy0 hy1
      by_cases hjn : j.val = n
      · obtain rfl : j = ⟨n, h⟩ := Fin.ext hjn
        refine (View.read_writes_cons_rows_of_mem _ _ _ _ _ y x (off6_eq ⟨n, h⟩) hy0 hy1).trans ?_
        exact congrArg (fun a => T.v166 E ⟨n, h⟩ a x) h1
      · have hj8 : j.val < 8 := j.isLt
        have hx := idx2_lt0 x
        refine (View.read_writes_cons_rows_of_not_mem (W := 256) _ _ _ _ _ y (off6_eq ⟨n, h⟩) rfl
          (by show (y 0).val < (7 - n) * 256 ∨ (7 - n) * 256 + 256 ≤ (y 0).val; omega)).trans ?_
        exact h6 j (by omega) y x hy0 hy1

section fill1
variable (X : BufTy.Contents (Elt F) arg1.view.ty) (fs : BufTy.Contents (Elt F) arg17.view.ty)

theorem trip_fill1 (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X k
      = [⟨Rect.unit (s := S2056x256) (k0_off2 k) S256x256.size (k0_off2_inb k), k0_pay62 (View.ld (View.read (Elt F) arg1.view X) (Rect.unit (s := S2048x256) (k0_off1 k) S256x256.size (k0_off1_inb k)))⟩] := by
  unfold tripL_k0_t1 trip_k0_t1
  rfl

theorem fill1_read (n : ℕ) (hn : n ≤ 8) (y : S2056x256.Idx) (hy : (y 0).val < 8 + n * 256) :
    View.read (Elt F) arg17.view (arg17.view.writes (Elt F) fs (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X n
        ++ [⟨Rect.unit (s := S2056x256) ![0, 0] S8x256.size inb_S2056x256_S8x256_0_0, k0_pay61⟩])) y = pad8 (View.read (Elt F) arg1.view X) y := by
  induction n with
  | zero =>
    have hy' : (y 0).val < 8 := by omega
    refine (View.read_writes_cons_rows_of_mem arg17.view fs _ _ [] y (ix2 ⟨(y 0).val, hy'⟩ (y 1)) rfl (Nat.zero_add _).symm rfl).trans ?_
    unfold pad8 k0_pay61
    rw [dif_pos hy', shapeCast_self]
    rfl
  | succ n ih =>
    have h : n < k0_t1_loop.trips := by show n < 8; omega
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X ⟨n, h⟩
    simp only [] at e
    rw [e, trip_fill1, List.singleton_append, List.cons_append]
    by_cases hlt : (y 0).val < 8 + n * 256
    · refine (View.read_writes_cons_rows_of_not_mem (W := 256) _ _ _ _ _ y (off2_eq ⟨n, h⟩) rfl (Or.inl hlt)).trans ?_
      exact ih (by omega) hlt
    · have h0 : (y 0).val - (8 + n * 256) < 256 := by omega
      refine (View.read_writes_cons_rows_of_mem _ _ _ _ _ y (ix2 ⟨(y 0).val - (8 + n * 256), h0⟩ (y 1)) (off2_eq ⟨n, h⟩)
        (by show (y 0).val = 8 + n * 256 + ((y 0).val - (8 + n * 256)); omega) rfl).trans ?_
      unfold pad8 k0_pay62
      simp only [shapeCast_self]
      rw [dif_neg (by omega), View.ld_unit]
      refine extractStridedSlice_apply _ _ _ _ _ fun a => ?_
      have q := off1_eq ⟨n, h⟩
      match a with
      | ⟨0, _⟩ =>
        have q0 := congrFun q 0
        show (y 0).val - 8 = k0_off1 ⟨n, h⟩ 0 + ((y 0).val - (8 + n * 256))
        rw [q0]
        show (y 0).val - 8 = n * 256 + ((y 0).val - (8 + n * 256))
        omega
      | ⟨1, _⟩ =>
        have q1 := congrFun q 1
        show (y 1).val = k0_off1 ⟨n, h⟩ 1 + (y 1).val
        rw [q1]
        exact (Nat.zero_add _).symm

end fill1

section fill4
variable (X : BufTy.Contents (Elt F) arg4.view.ty) (fs : BufTy.Contents (Elt F) arg18.view.ty)

theorem trip_fill4 (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X k
      = [⟨Rect.unit (s := S2056x256) (k0_off4 k) S256x256.size (k0_off4_inb k), k0_pay64 (View.ld (View.read (Elt F) arg4.view X) (Rect.unit (s := S2048x256) (k0_off3 k) S256x256.size (k0_off3_inb k)))⟩] := by
  unfold tripL_k0_t2 trip_k0_t2
  rfl

theorem fill4_read (n : ℕ) (hn : n ≤ 8) (y : S2056x256.Idx) (hy : (y 0).val < 8 + n * 256) :
    View.read (Elt F) arg18.view (arg18.view.writes (Elt F) fs (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X n
        ++ [⟨Rect.unit (s := S2056x256) ![0, 0] S8x256.size inb_S2056x256_S8x256_0_0, k0_pay63⟩])) y = pad8 (View.read (Elt F) arg4.view X) y := by
  induction n with
  | zero =>
    have hy' : (y 0).val < 8 := by omega
    refine (View.read_writes_cons_rows_of_mem arg18.view fs _ _ [] y (ix2 ⟨(y 0).val, hy'⟩ (y 1)) rfl (Nat.zero_add _).symm rfl).trans ?_
    unfold pad8 k0_pay63
    rw [dif_pos hy', shapeCast_self]
    rfl
  | succ n ih =>
    have h : n < k0_t2_loop.trips := by show n < 8; omega
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X ⟨n, h⟩
    simp only [] at e
    rw [e, trip_fill4, List.singleton_append, List.cons_append]
    by_cases hlt : (y 0).val < 8 + n * 256
    · refine (View.read_writes_cons_rows_of_not_mem (W := 256) _ _ _ _ _ y (off4_eq ⟨n, h⟩) rfl (Or.inl hlt)).trans ?_
      exact ih (by omega) hlt
    · have h0 : (y 0).val - (8 + n * 256) < 256 := by omega
      refine (View.read_writes_cons_rows_of_mem _ _ _ _ _ y (ix2 ⟨(y 0).val - (8 + n * 256), h0⟩ (y 1)) (off4_eq ⟨n, h⟩)
        (by show (y 0).val = 8 + n * 256 + ((y 0).val - (8 + n * 256)); omega) rfl).trans ?_
      unfold pad8 k0_pay64
      simp only [shapeCast_self]
      rw [dif_neg (by omega), View.ld_unit]
      refine extractStridedSlice_apply _ _ _ _ _ fun a => ?_
      have q := off3_eq ⟨n, h⟩
      match a with
      | ⟨0, _⟩ =>
        have q0 := congrFun q 0
        show (y 0).val - 8 = k0_off3 ⟨n, h⟩ 0 + ((y 0).val - (8 + n * 256))
        rw [q0]
        show (y 0).val - 8 = n * 256 + ((y 0).val - (8 + n * 256))
        omega
      | ⟨1, _⟩ =>
        have q1 := congrFun q 1
        show (y 1).val = k0_off3 ⟨n, h⟩ 1 + (y 1).val
        rw [q1]
        exact (Nat.zero_add _).symm

end fill4

end Trip

end Cert.KernelIdeal.Hand
end
-- ==== Proof.Fin.lean ====
module

public import proofs.«01_k».proof.Proof.Gen.KernelIdeal.Frame
public import proofs.«01_k».proof.Proof.Gen.KernelIdeal.Loops
public import proofs.«01_k».proof.Proof.Loop
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The tape of a call from the blocks it is given. -/
def tapeB (x0 : Vec F S2048x256 .f32) (x1 : Vec F S2048x256 .f32) (x2 : Vec F S2048x256 .f32) (x3 : Vec F S2048x256 .f32) (x4 : Vec F S8x256 .f32) (x5 : Vec F S1x256 .f32) (x6 : Vec F S1x256x256 .f32) (x7 : Vec F S1x256 .f32) (x8 : Vec F S1x256x256 .f32) (x9 : Vec F S1x256 .f32) (x10 : Vec F S1x256 .f32) : Tape F :=
  { xp := pad8 x0, hp := pad8 x3, g := x1, dy := x2, cw := x4, sp := k0_pay65 x10, cb := x5, wa := k0_pay66 x6, ba := k0_pay67 x7,
    wx := x8, bx := x9 }

/-- The state of the trips of one call. -/
def STB (E : Tape F) (n : ℕ) : Carry F × Vec F S8x256 .f32 × Vec F S1x256x256 .f32 × Vec F S1x256x256 .f32 :=
  ST E (k0_pay6, k0_pay6, k0_pay7) k0_pay3 k0_pay4 k0_pay5 n

/-- The trip that computes row `r`. -/
def tripOf (r : Fin 2048) : Fin k0_t3_loop.trips := ⟨7 - r.val / 256, by show 7 - r.val / 256 < 8; omega⟩
/-- The row of the chunk that row `r` is. -/
def rowOf (r : Fin 2048) : Fin 256 := ⟨r.val % 256, Nat.mod_lt _ (by decide)⟩

def out12 (E : Tape F) : Vec F S2048x256 .bf16 :=
  fun y => T.v428 E (tripOf (y 0)) (STB E (tripOf (y 0)).val).1 (ix2 (rowOf (y 0)) (y 1))
def out13 (E : Tape F) : Vec F S2048x256 .bf16 :=
  fun y => T.v166 E (tripOf (y 0)) (STB E (tripOf (y 0)).val).1 (ix2 (rowOf (y 0)) (y 1))
def out14 (E : Tape F) (x10 : Vec F S1x256 .f32) : Vec F S8x256 .f32 :=
  fun y => if (y 0).val = 7 then k0_pay11 x10 (T.row (STB E 8).2.1 7 inb_S8x256_S1x256_7_0) (ix2 0 (y 1)) else (STB E 8).2.1 y
def out15 (E : Tape F) : Vec F S1x256x256 .f32 := (STB E 8).2.2.1
def out16 (E : Tape F) : Vec F S1x256x256 .f32 := (STB E 8).2.2.2

theorem whole2 {arg : Memref sig .tc .vmem S1x256 .f32} (h : arg.IsWhole) (x : Vec F S1x256 .f32) :
    View.readAt (Elt F) arg.view (Rect.unit (s := S1x256) ![0, 0] S1x256.size inb_S1x256_S1x256_0_0).toLoadRect (h.unread x) = x := by
  rw [View.readAt_eq_ld, h.read_unread]
  exact View.ld_unit_zero (by funext a; match a with | ⟨0, _⟩ => rfl | ⟨1, _⟩ => rfl) _ x
theorem whole3 {arg : Memref sig .tc .vmem S1x256x256 .f32} (h : arg.IsWhole) (x : Vec F S1x256x256 .f32) :
    View.readAt (Elt F) arg.view (Rect.unit (s := S1x256x256) ![0, 0, 0] S1x256x256.size inb_S1x256x256_S1x256x256_0_0_0).toLoadRect (h.unread x) = x := by
  rw [View.readAt_eq_ld, h.read_unread]
  exact ld_whole3 x

theorem read_whole8 (v : View sig .tc .vmem S8x256 .f32) (f : v.ty.Contents (Elt F)) (w : Vec F S8x256 .f32) (inb) :
    v.read (Elt F) (v.writes (Elt F) f [(⟨Rect.unit (s := S8x256) ![0, 0] S8x256.size inb, w⟩ : View.Piece (Elt F) S8x256 .f32)]) = w :=
  funext fun y => View.read_writes_cons_unit_of_mem v f _ w [] y y rfl fun a => by
    match a with
    | ⟨0, _⟩ => exact (Nat.zero_add _).symm
    | ⟨1, _⟩ => exact (Nat.zero_add _).symm

section Fin
variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256 .f32) (harg8 : arg8.IsWhole) (arg9 : Memref sig .tc .vmem S1x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S8x256 .f32) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S2056x256 .f32) (harg17 : arg17.IsWhole) (arg18 : Memref sig .tc .vmem S2056x256 .f32) (harg18 : arg18.IsWhole)

theorem tape_run (x0 : Vec F S2048x256 .f32) (x1 : Vec F S2048x256 .f32) (x2 : Vec F S2048x256 .f32) (x3 : Vec F S2048x256 .f32) (x4 : Vec F S8x256 .f32) (x5 : Vec F S1x256 .f32) (x6 : Vec F S1x256x256 .f32) (x7 : Vec F S1x256 .f32) (x8 : Vec F S1x256x256 .f32) (x9 : Vec F S1x256 .f32) (x10 : Vec F S1x256 .f32) (fs0 : BufTy.Contents (Elt F) arg17.view.ty) (fs1 : BufTy.Contents (Elt F) arg18.view.ty) (n1 n2 : ℕ) (hn1 : n1 = 8) (hn2 : n2 = 8) :
    tapeOf arg2 arg3 arg5 arg17 arg18 (k0_pay65 (View.readAt (Elt F) arg11.view (Rect.unit (s := S1x256) ![0, 0] S1x256.size inb_S1x256_S1x256_0_0).toLoadRect (harg11.unread x10))) (View.readAt (Elt F) arg6.view (Rect.unit (s := S1x256) ![0, 0] S1x256.size inb_S1x256_S1x256_0_0).toLoadRect (harg6.unread x5)) (k0_pay66 (View.readAt (Elt F) arg7.view (Rect.unit (s := S1x256x256) ![0, 0, 0] S1x256x256.size inb_S1x256x256_S1x256x256_0_0_0).toLoadRect (harg7.unread x6))) (k0_pay67 (View.readAt (Elt F) arg8.view (Rect.unit (s := S1x256) ![0, 0] S1x256.size inb_S1x256_S1x256_0_0).toLoadRect (harg8.unread x7))) (View.readAt (Elt F) arg9.view (Rect.unit (s := S1x256x256) ![0, 0, 0] S1x256x256.size inb_S1x256x256_S1x256x256_0_0_0).toLoadRect (harg9.unread x8)) (View.readAt (Elt F) arg10.view (Rect.unit (s := S1x256) ![0, 0] S1x256.size inb_S1x256_S1x256_0_0).toLoadRect (harg10.unread x9))
      (harg2.unread x1) (harg3.unread x2) (harg5.unread x4)
      (arg17.view.writes (Elt F) fs0 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) n1 ++ [⟨Rect.unit (s := S2056x256) ![0, 0] S8x256.size inb_S2056x256_S8x256_0_0, k0_pay61⟩]))
      (arg18.view.writes (Elt F) fs1 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg4.unread x3) n2 ++ [⟨Rect.unit (s := S2056x256) ![0, 0] S8x256.size inb_S2056x256_S8x256_0_0, k0_pay63⟩]))
      = tapeB x0 x1 x2 x3 x4 x5 x6 x7 x8 x9 x10 := by
  subst hn1 hn2
  unfold tapeOf tapeB
  rw [whole2, whole2, whole2, whole2, whole3, whole3, harg2.read_unread, harg3.read_unread, harg5.read_unread]
  have e1 := funext fun y => fill1_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) fs0 8 le_rfl y (idx2_lt0 y)
  have e2 := funext fun y => fill4_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg4.unread x3) fs1 8 le_rfl y (idx2_lt0 y)
  rw [harg1.read_unread] at e1
  rw [harg4.read_unread] at e2
  rw [e1, e2]

variable (v20 : FVec F S1x256 .f32) (v21 : Vec F S1x256 .f32) (v23 : FVec F S256x256 .f32) (v25 : FVec F S1x256 .f32) (v26 : Vec F S1x256x256 .f32) (v28 : Vec F S1x256 .f32)
  (X2 : BufTy.Contents (Elt F) arg2.view.ty) (X3 : BufTy.Contents (Elt F) arg3.view.ty) (X5 : BufTy.Contents (Elt F) arg5.view.ty) (X17 : BufTy.Contents (Elt F) arg17.view.ty) (X18 : BufTy.Contents (Elt F) arg18.view.ty)
  (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty)
  (E : Tape F) (hE : tapeOf arg2 arg3 arg5 arg17 arg18 v20 v21 v23 v25 v26 v28 X2 X3 X5 X17 X18 = E)
  (hG14 : View.read (Elt F) arg14.view G14 = k0_pay3) (hG15 : View.read (Elt F) arg15.view G15 = k0_pay4) (hG16 : View.read (Elt F) arg16.view G16 = k0_pay5)
  (n : ℕ) (hn : n = 8)
include hE hG14 hG15 hG16 hn

theorem fin12 : View.read (Elt F) arg12.view (arg12.view.writes (Elt F) G12 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) n).2.1) = out12 E := by
  subst hn
  have h := (st_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) 8 le_rfl).2.2.2.2.1
  rw [hE, hG14, hG15, hG16] at h
  funext y
  have hy := idx2_lt0 y
  exact h (tripOf (y 0)) (by show 7 - (y 0).val / 256 < 8; omega) y (ix2 (rowOf (y 0)) (y 1))
    (by show (y 0).val = (7 - (7 - (y 0).val / 256)) * 256 + (y 0).val % 256; omega) rfl
theorem fin13 : View.read (Elt F) arg13.view (arg13.view.writes (Elt F) G13 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) n).2.2.1) = out13 E := by
  subst hn
  have h := (st_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) 8 le_rfl).2.2.2.2.2
  rw [hE, hG14, hG15, hG16] at h
  funext y
  have hy := idx2_lt0 y
  exact h (tripOf (y 0)) (by show 7 - (y 0).val / 256 < 8; omega) y (ix2 (rowOf (y 0)) (y 1))
    (by show (y 0).val = (7 - (7 - (y 0).val / 256)) * 256 + (y 0).val % 256; omega) rfl
theorem fin14a : View.read (Elt F) arg14.view (arg14.view.writes (Elt F) G14 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) n).2.2.2.1) = (STB E 8).2.1 := by
  subst hn
  have h := (st_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) 8 le_rfl).2.1
  rw [hE, hG14, hG15, hG16] at h
  exact h
theorem fin15 : View.read (Elt F) arg15.view (arg15.view.writes (Elt F) G15 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) n).2.2.2.2.1) = out15 E := by
  subst hn
  have h := (st_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) 8 le_rfl).2.2.1
  rw [hE, hG14, hG15, hG16] at h
  exact h
theorem fin16 : View.read (Elt F) arg16.view (arg16.view.writes (Elt F) G16 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) n).2.2.2.2.2) = out16 E := by
  subst hn
  have h := (st_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v21 v23 v25 v26 v28 X2 X3 X5 X17 X18 G12 G13 G14 G15 G16 (k0_pay6, k0_pay6, k0_pay7) 8 le_rfl).2.2.2.1
  rw [hE, hG14, hG15, hG16] at h
  exact h
end Fin

/-- The last row of the accumulators is replaced by its product with the slope of the decay rate. -/
theorem fin14 (v : View sig .tc .vmem S8x256 .f32) (f : v.ty.Contents (Elt F)) (L) (E : Tape F) (a x10 : Vec F S1x256 .f32) (ha : a = x10)
    (hL : v.read (Elt F) (v.writes (Elt F) f L) = (STB E 8).2.1) :
    v.read (Elt F) (v.writes (Elt F) f ((⟨Rect.unit (s := S8x256) ![7, 0] S1x256.size inb_S8x256_S1x256_7_0,
      k0_pay11 a (View.readAt (Elt F) v (Rect.unit (s := S8x256) ![7, 0] S1x256.size inb_S8x256_S1x256_7_0).toLoadRect (v.writes (Elt F) f L))⟩ : View.Piece (Elt F) S8x256 .f32) :: L)) = out14 E x10 := by
  subst ha
  funext y
  obtain ⟨r, q, rfl⟩ : ∃ r q, y = ix2 r q := ⟨y 0, y 1, eq_ix2 y⟩
  unfold out14
  by_cases h : r.val = 7
  · rw [if_pos (show ((ix2 r q : S8x256.Idx) 0).val = 7 from h)]
    refine (View.read_writes_cons_rows_of_mem (size := S1x256.size) v f _ _ L (ix2 r q) (ix2 0 q) rfl h rfl).trans ?_
    rw [View.readAt_eq_ld, hL]
    rfl
  · rw [if_neg (show ¬ ((ix2 r q : S8x256.Idx) 0).val = 7 from h)]
    refine (View.read_writes_cons_rows_of_not_mem (W := 1) (size := S1x256.size) v f _ _ L (ix2 r q) rfl rfl (by show r.val < 7 ∨ 7 + 1 ≤ r.val; omega)).trans ?_
    rw [hL]

end Cert.KernelIdeal.Hand
end
-- ==== Proof.Run.lean ====
module

public import proofs.«01_k».proof.Proof.Gen.KernelIdeal.Frame
public import proofs.«01_k».proof.Proof.Gen.KernelIdeal.Loops
public import proofs.«01_k».proof.Proof.Fin
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run on whole buffers: the inputs are left as they were, the outputs hold what the tape of the call gives. -/
theorem kernelRun (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256 .f32) (harg8 : arg8.IsWhole) (arg9 : Memref sig .tc .vmem S1x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S8x256 .f32) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S2056x256 .f32) (harg17 : arg17.IsWhole) (arg18 : Memref sig .tc .vmem S2056x256 .f32) (harg18 : arg18.IsWhole)
    (x0 : Vec F S2048x256 .f32) (x1 : Vec F S2048x256 .f32) (x2 : Vec F S2048x256 .f32) (x3 : Vec F S2048x256 .f32) (x4 : Vec F S8x256 .f32) (x5 : Vec F S1x256 .f32) (x6 : Vec F S1x256x256 .f32) (x7 : Vec F S1x256 .f32) (x8 : Vec F S1x256x256 .f32) (x9 : Vec F S1x256 .f32) (x10 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out12 (tapeB x0 x1 x2 x3 x4 x5 x6 x7 x8 x9 x10)) ∗ owns (c : Thread nD τ) arg13 fullShare (out13 (tapeB x0 x1 x2 x3 x4 x5 x6 x7 x8 x9 x10)) ∗ owns (c : Thread nD τ) arg14 fullShare (out14 (tapeB x0 x1 x2 x3 x4 x5 x6 x7 x8 x9 x10) x10) ∗ owns (c : Thread nD τ) arg15 fullShare (out15 (tapeB x0 x1 x2 x3 x4 x5 x6 x7 x8 x9 x10)) ∗ owns (c : Thread nD τ) arg16 fullShare (out16 (tapeB x0 x1 x2 x3 x4 x5 x6 x7 x8 x9 x10)) ∗ (∃ d, owns (c : Thread nD τ) arg17 fullShare d) ∗ (∃ d, owns (c : Thread nD τ) arg18 fullShare d)) -∗ K ⟨⟩))
          ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_lru_bwd_eq_skeleton]; unfold cc0_lru_bwd_skel
    simp only [k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      apply fin12
      · apply tape_run <;> rfl
      · exact read_whole8 _ _ _ _
      · exact read_whole3 _ _ _ _
      · exact read_whole3 _ _ _ _
      · rfl
    isplitl [H12]
    · iexists _; isplitr; swap; · iexact H12
      ipureintro
      apply fin13
      · apply tape_run <;> rfl
      · exact read_whole8 _ _ _ _
      · exact read_whole3 _ _ _ _
      · exact read_whole3 _ _ _ _
      · rfl
    isplitl [H13]
    · iexists _; isplitr; swap; · iexact H13
      ipureintro
      apply fin14
      · exact whole2 harg11 x10
      · rw [View.writes_append]
        apply fin14a
        · apply tape_run <;> rfl
        · exact read_whole8 _ _ _ _
        · exact read_whole3 _ _ _ _
        · exact read_whole3 _ _ _ _
        · rfl
    isplitl [H14]
    · iexists _; isplitr; swap; · iexact H14
      ipureintro
      rw [View.writes_append]
      apply fin15
      · apply tape_run <;> rfl
      · exact read_whole8 _ _ _ _
      · exact read_whole3 _ _ _ _
      · exact read_whole3 _ _ _ _
      · rfl
    isplitl [H15]
    · iexists _; isplitr; swap; · iexact H15
      ipureintro
      rw [View.writes_append]
      apply fin16
      · apply tape_run <;> rfl
      · exact read_whole8 _ _ _ _
      · exact read_whole3 _ _ _ _
      · exact read_whole3 _ _ _ _
      · rfl
    isplitl [HS0]
    · iexists _, _; isplitr; swap; · iexact HS0
      ipureintro; rfl
    iexists _, _; isplitr; swap; · iexact HS1
    ipureintro; rfl

end Cert.KernelIdeal.Hand
end
-- ==== Proof.Dats.lean ====
module

public import proofs.«01_k».proof.Proof.Run
public import Idealize.ShloMosaic.Lib.Claim
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x256 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S2056x256 .f32 := Memref.whole cc0_scratch0
abbrev scM0_1 : Memref sig .tc .vmem S2056x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The tape of one column block: what the body reads at grid point `t`. -/
def tp (c : Dev nD) (t : Fin cfg0.N) : Tape F := tapeB (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The proof data of the one pipeline on core `c`: inputs keep their blocks, each output holds what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out12 (tp m c t)
    | ⟨12, _⟩ => out13 (tp m c t)
    | ⟨13, _⟩ => out14 (tp m c t) (iblk m c 10 t)
    | ⟨14, _⟩ => out15 (tp m c t)
    | ⟨15, _⟩ => out16 (tp m c t)
    | ⟨_ + 16, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out12 (tp m c t) := by dsimp only [dats]
theorem after0_12 (c : Dev nD) (t : Fin cfg0.N) : (dats m 0 c).after 12 t = out13 (tp m c t) := by dsimp only [dats]
theorem after0_13 (c : Dev nD) (t : Fin cfg0.N) : (dats m 0 c).after 13 t = out14 (tp m c t) (iblk m c 10 t) := by dsimp only [dats]
theorem after0_14 (c : Dev nD) (t : Fin cfg0.N) : (dats m 0 c).after 14 t = out15 (tp m c t) := by dsimp only [dats]
theorem after0_15 (c : Dev nD) (t : Fin cfg0.N) : (dats m 0 c).after 15 t = out16 (tp m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every execution ends with each array of the pipeline at its computed contents, every other buffer at
    what the host code leaves, and every counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Hand

end
-- ==== Proof.Mat.lean ====
module

public import Idealize.ShloMosaic.PureOps.Ideal.Laws

@[expose] public section

noncomputable section

open Finset

/-- The arguments as real numbers: the two columns of the projection, the gradient that comes in, the convolution's
taps, the gates' blocks and the decay. -/
structure Inp where
  X : ℕ → ℕ → ℝ
  G : ℕ → ℕ → ℝ
  DY : ℕ → ℕ → ℝ
  CW : ℕ → ℕ → ℝ
  CB : ℕ → ℝ
  WA : ℕ → ℕ → ℕ → ℝ
  WX : ℕ → ℕ → ℕ → ℝ
  BA : ℕ → ℕ → ℝ
  BX : ℕ → ℕ → ℝ
  AP : ℕ → ℝ

namespace Lru

/-- The square root of 2/π as the word both programs hold it. -/
def gc : ℝ := 13386282 / 16777216

/-! ## The forward values -/

variable (I : Inp)

def xp (t c : ℕ) : ℝ := if t < 3 then 0 else I.X (t - 3) c
def xl (t c : ℕ) : ℝ :=
  xp I t c * I.CW 0 c + xp I (1 + t) c * I.CW 1 c + xp I (2 + t) c * I.CW 2 c + xp I (3 + t) c * I.CW 3 c + I.CB c
def pa (t h d : ℕ) : ℝ := (∑ k ∈ range 64, I.WA h k d * xl I t (h * 64 + k)) + I.BA h d
def px (t h d : ℕ) : ℝ := (∑ k ∈ range 64, I.WX h k d * xl I t (h * 64 + k)) + I.BX h d
def sg (x : ℝ) : ℝ := 1 / (1 + Real.exp (-x))
def ra (t c : ℕ) : ℝ := sg (pa I t (c / 64) (c % 64))
def ig (t c : ℕ) : ℝ := sg (px I t (c / 64) (c % 64))
def sp (c : ℕ) : ℝ := max (-I.AP c) 0 + Real.log (1 + Real.exp (-|-I.AP c|))
def la (t c : ℕ) : ℝ := -8 * ra I t c * sp I c
def ea (t c : ℕ) : ℝ := Real.exp (la I t c)
def a2 (t c : ℕ) : ℝ := Real.exp (2 * la I t c)
def root (t c : ℕ) : ℝ := Real.sqrt (1 - a2 I t c)
def mult (t c : ℕ) : ℝ := if t = 0 then 1 else root I t c
def u (t c : ℕ) : ℝ := xl I t c * ig I t c * mult I t c
def cs (t c : ℕ) : ℝ := ∑ s ∈ range (t + 1), la I s c
def ee (t s c : ℕ) : ℝ := if s ≤ t then Real.exp (cs I t c - cs I s c) else 0
def hh (t c : ℕ) : ℝ := ∑ s ∈ range 2048, ee I t s c * u I s c
def th (t c : ℕ) : ℝ := Real.tanh (gc * (I.G t c + 44715 / 1000000 * (I.G t c * I.G t c * I.G t c)))
def ge (t c : ℕ) : ℝ := I.G t c * (1 / 2 * (1 + th I t c))
def dh (t c : ℕ) : ℝ := ge I t c * I.DY t c

/-! ## The backward values -/

def gd (s c : ℕ) : ℝ := ∑ t ∈ range 2048, ee I t s c * dh I t c
def hp (t c : ℕ) : ℝ := if t = 0 then 0 else hh I (t - 1) c
def dm (t c : ℕ) : ℝ := if t = 0 then 0 else gd I t c * xl I t c * ig I t c
def dla (t c : ℕ) : ℝ := gd I t c * hp I t c * ea I t c - dm I t c * a2 I t c / mult I t c
def dpr (t c : ℕ) : ℝ := dla I t c * -8 * sp I c * ra I t c * (1 - ra I t c)
def dpi (t c : ℕ) : ℝ := gd I t c * xl I t c * mult I t c * ig I t c * (1 - ig I t c)
def dxl (t c : ℕ) : ℝ :=
  gd I t c * ig I t c * mult I t c + (∑ d ∈ range 64, dpr I t (c / 64 * 64 + d) * I.WA (c / 64) (c % 64) d)
    + ∑ d ∈ range 64, dpi I t (c / 64 * 64 + d) * I.WX (c / 64) (c % 64) d
def dz (t c : ℕ) : ℝ := if t < 2048 then dxl I t c else 0
def dx (t c : ℕ) : ℝ := dz I t c * I.CW 3 c + dz I (t + 3) c * I.CW 0 c + dz I (t + 2) c * I.CW 1 c + dz I (t + 1) c * I.CW 2 c
def dg (t c : ℕ) : ℝ :=
  I.DY t c * hh I t c * (1 / 2 * (1 + th I t c)
    + 1 / 2 * I.G t c * (1 - th I t c * th I t c) * gc * (1 + 134145 / 1000000 * I.G t c * I.G t c))
def dcw (j c : ℕ) : ℝ := ∑ t ∈ range 2048, dxl I t c * xp I (j + t) c
def dcb (c : ℕ) : ℝ := ∑ t ∈ range 2048, dxl I t c
def dwa (h k d : ℕ) : ℝ := ∑ t ∈ range 2048, xl I t (h * 64 + k) * dpr I t (h * 64 + d)
def dwx (h k d : ℕ) : ℝ := ∑ t ∈ range 2048, xl I t (h * 64 + k) * dpi I t (h * 64 + d)
def dba (c : ℕ) : ℝ := ∑ t ∈ range 2048, dpr I t c
def dbx (c : ℕ) : ℝ := ∑ t ∈ range 2048, dpi I t c
def dsp (c : ℕ) : ℝ := ∑ t ∈ range 2048, dla I t c * -8 * ra I t c
def dap (c : ℕ) : ℝ := dsp I c * (0 - sg (-I.AP c))

/-! ## Signs -/

theorem sg_pos (x : ℝ) : 0 < sg x := by unfold sg; positivity
theorem sp_pos (c : ℕ) : 0 < sp I c := by
  unfold sp
  have h : 0 < Real.log (1 + Real.exp (-|-I.AP c|)) := Real.log_pos (by linarith [Real.exp_pos (-|-I.AP c|)])
  have := le_max_right (-I.AP c) 0
  linarith
theorem la_neg (t c : ℕ) : la I t c < 0 := by
  unfold la
  have h1 := sg_pos (pa I t (c / 64) (c % 64))
  have h2 := sp_pos I c
  have h3 : 0 < ra I t c * sp I c := mul_pos h1 h2
  linarith
theorem a2_lt (t c : ℕ) : a2 I t c < 1 := by
  unfold a2
  rw [Real.exp_lt_one_iff]
  linarith [la_neg I t c]
theorem root_pos (t c : ℕ) : 0 < root I t c := Real.sqrt_pos.2 (by linarith [a2_lt I t c])
theorem mult_pos (t c : ℕ) : 0 < mult I t c := by
  unfold mult; split
  · exact one_pos
  · exact root_pos I t c

/-- The multiplier as the hyperbolic tangent writes it. -/
theorem tanh_form (x : ℝ) : (0 - Real.tanh x) * (Real.exp (2 * x) + 1) = 1 - Real.exp (2 * x) := by
  have e : Real.exp (2 * x) = Real.exp x * Real.exp x := by rw [two_mul, Real.exp_add]
  have p := Real.exp_pos x
  rw [Real.tanh_eq_sinh_div_cosh, Real.sinh_eq, Real.cosh_eq, Real.exp_neg, e]
  have q : Real.exp x + (Real.exp x)⁻¹ ≠ 0 := by positivity
  field_simp
  ring

/-- The slope of softplus is the logistic function. -/
theorem slope (x : ℝ) : Real.exp (x - (max x 0 + Real.log (1 + Real.exp (-|x|)))) = sg x := by
  have p := Real.exp_pos x
  have q := Real.exp_pos (-|x|)
  rw [Real.exp_sub, Real.exp_add, Real.exp_log (by linarith)]
  unfold sg
  rcases le_total 0 x with h | h
  · rw [max_eq_left h, abs_of_nonneg h]
    field_simp
  · rw [max_eq_right h, abs_of_nonpos h, neg_neg, Real.exp_zero, Real.exp_neg]
    field_simp
    ring

/-! ## The recurrence -/

theorem cs_succ (t c : ℕ) : cs I (t + 1) c = cs I t c + la I (t + 1) c := by
  unfold cs; rw [sum_range_succ]
theorem ee_self (t c : ℕ) : ee I t t c = 1 := by unfold ee; rw [if_pos le_rfl, sub_self, Real.exp_zero]
theorem ee_zero (t s c : ℕ) (h : t < s) : ee I t s c = 0 := by unfold ee; rw [if_neg (not_le.2 h)]
theorem ee_succ (t s c : ℕ) (h : s + 1 ≤ t) : ee I t s c = ea I (s + 1) c * ee I t (s + 1) c := by
  unfold ee ea
  rw [if_pos h, if_pos (by omega), ← Real.exp_add, cs_succ]
  congr 1; ring
theorem ee_split (t τ s c : ℕ) (h1 : s ≤ τ) (h2 : τ + 1 ≤ t) : ee I t s c = ee I t (τ + 1) c * (ea I (τ + 1) c * ee I τ s c) := by
  unfold ee ea
  rw [if_pos (by omega), if_pos h2, if_pos h1, ← Real.exp_add, ← Real.exp_add, cs_succ]
  congr 1; ring

/-- The gradient of the state goes down one step by one product with the decay. -/
theorem gd_step (s c : ℕ) (hs : s < 2048) : gd I s c = dh I s c + ea I (s + 1) c * gd I (s + 1) c := by
  unfold gd
  have e : ∀ t ∈ range 2048, ee I t s c * dh I t c
      = (if t = s then dh I s c else 0) + ea I (s + 1) c * (ee I t (s + 1) c * dh I t c) := fun t _ => by
    rcases lt_trichotomy t s with h | h | h
    · rw [ee_zero I t s c h, ee_zero I t (s + 1) c (by omega), if_neg (by omega)]; ring
    · subst h; rw [ee_self, ee_zero I t (t + 1) c (by omega), if_pos rfl]; ring
    · rw [ee_succ I t s c h, if_neg (by omega)]; ring
  rw [sum_congr rfl e, sum_add_distrib, ← mul_sum, sum_ite_eq' (range 2048) s, if_pos (mem_range.2 hs)]

theorem gd_end (s c : ℕ) (hs : 2048 ≤ s) : gd I s c = 0 := by
  unfold gd
  exact sum_eq_zero fun t ht => by rw [ee_zero I t s c (by have := mem_range.1 ht; omega), zero_mul]

/-- What one pair of times adds to the gradient of the decay. -/
def pp (t s c : ℕ) : ℝ := dh I t c * u I s c * ee I t s c

theorem pp_diff (τ t s c : ℕ) :
    (if τ + 1 ≤ t then pp I t s c else 0) - (if τ + 1 ≤ s then pp I t s c else 0)
      = (ee I t (τ + 1) c * dh I t c) * (ea I (τ + 1) c * (ee I τ s c * u I s c)) := by
  unfold pp
  by_cases h1 : τ + 1 ≤ t
  · by_cases h2 : τ + 1 ≤ s
    · rw [if_pos h1, if_pos h2, ee_zero I τ s c (by omega)]; ring
    · rw [if_pos h1, if_neg h2, ee_split I t τ s c (by omega) h1]; ring
  · by_cases h2 : τ + 1 ≤ s
    · rw [if_neg h1, if_pos h2, ee_zero I τ s c (by omega), ee_zero I t s c (by omega)]; ring
    · rw [if_neg h1, if_neg h2, ee_zero I t (τ + 1) c (by omega)]; ring

theorem ite_sum (p : Prop) [Decidable p] (S : Finset ℕ) (f : ℕ → ℝ) : (if p then ∑ i ∈ S, f i else 0) = ∑ i ∈ S, if p then f i else 0 := by
  by_cases h : p
  · simp only [if_pos h]
  · simp only [if_neg h, sum_const_zero]

/-- The gradient of the running sum, summed back from the end, is the step's own: the gradient of the state times the state
before times the decay. -/
theorem rev (τ c : ℕ) :
    (∑ t ∈ range 2048, if τ ≤ t then ((∑ k ∈ range 2048, -pp I k t c) + ∑ k ∈ range 2048, pp I t k c) else 0)
      = gd I τ c * hp I τ c * ea I τ c := by
  have e : ∀ t ∈ range 2048, (if τ ≤ t then ((∑ k ∈ range 2048, -pp I k t c) + ∑ k ∈ range 2048, pp I t k c) else 0)
      = (∑ k ∈ range 2048, if τ ≤ t then pp I t k c else 0) - ∑ k ∈ range 2048, if τ ≤ t then pp I k t c else 0 := fun t _ => by
    rw [← ite_sum, ← ite_sum]
    by_cases h : τ ≤ t
    · rw [if_pos h, if_pos h, if_pos h, sum_neg_distrib]; ring
    · rw [if_neg h, if_neg h, if_neg h]; ring
  rw [sum_congr rfl e, sum_sub_distrib, sum_comm (f := fun t k => if τ ≤ t then pp I k t c else 0), ← sum_sub_distrib]
  cases τ with
  | zero =>
    unfold hp
    rw [if_pos rfl, mul_zero, zero_mul]
    refine sum_eq_zero fun t _ => ?_
    simp only [Nat.zero_le, if_true]
    exact sub_self _
  | succ τ =>
    have e2 : ∀ t ∈ range 2048, (∑ k ∈ range 2048, if τ + 1 ≤ t then pp I t k c else 0) - (∑ k ∈ range 2048, if τ + 1 ≤ k then pp I t k c else 0)
        = (ee I t (τ + 1) c * dh I t c) * (ea I (τ + 1) c * hh I τ c) := fun t _ => by
      rw [← sum_sub_distrib, sum_congr rfl fun s _ => pp_diff I τ t s c, ← mul_sum, ← mul_sum]; rfl
    rw [sum_congr rfl e2, ← sum_mul]
    unfold hp
    rw [if_neg (Nat.succ_ne_zero τ), Nat.add_sub_cancel]
    show gd I (τ + 1) c * _ = _
    ring

/-! ## The convolution's shifts -/

theorem shift (t c lo m : ℕ) (w : ℝ) (h1 : lo ≤ 3 + t) (h2 : 3 + t - lo = t + m) :
    (if lo ≤ 3 + t ∧ 3 + t - lo < 2048 then dxl I (3 + t - lo) c * w else 0) = dz I (t + m) c * w := by
  unfold dz
  rw [h2]
  by_cases h : t + m < 2048
  · rw [if_pos ⟨h1, h⟩, if_pos h]
  · rw [if_neg (fun q => h q.2), if_neg h, zero_mul]

theorem dx_pads (t c : ℕ) (h : t < 2048) :
    (if 3 ≤ 3 + t ∧ 3 + t - 3 < 2048 then dxl I (3 + t - 3) c * I.CW 3 c else 0)
      + (if 2 ≤ 3 + t ∧ 3 + t - 2 < 2048 then dxl I (3 + t - 2) c * I.CW 2 c else 0)
      + (if 1 ≤ 3 + t ∧ 3 + t - 1 < 2048 then dxl I (3 + t - 1) c * I.CW 1 c else 0)
      + (if 0 ≤ 3 + t ∧ 3 + t - 0 < 2048 then dxl I (3 + t - 0) c * I.CW 0 c else 0) = dx I t c := by
  rw [shift I t c 3 0 _ (by omega) (by omega), shift I t c 2 1 _ (by omega) (by omega), shift I t c 1 2 _ (by omega) (by omega),
    shift I t c 0 3 _ (by omega) (by omega)]
  unfold dx
  ring

theorem dcw_pads (j c : ℕ) (h : j < 4) :
    (if 3 ≤ j ∧ j - 3 < 1 then ∑ t ∈ range 2048, xp I (3 + t) c * dxl I t c else 0)
      + (if 2 ≤ j ∧ j - 2 < 1 then ∑ t ∈ range 2048, xp I (2 + t) c * dxl I t c else 0)
      + (if 1 ≤ j ∧ j - 1 < 1 then ∑ t ∈ range 2048, xp I (1 + t) c * dxl I t c else 0)
      + (if 0 ≤ j ∧ j - 0 < 1 then ∑ t ∈ range 2048, xp I t c * dxl I t c else 0) = dcw I j c := by
  unfold dcw
  have e : ∀ t ∈ range 2048, dxl I t c * xp I (j + t) c = xp I (j + t) c * dxl I t c := fun t _ => mul_comm _ _
  rw [sum_congr rfl e]
  interval_cases j <;> simp

end Lru
-- ==== Proof.Up.lean ====
module

public import proofs.«01_k».proof.Proof.Mat
public import Idealize.ShloMosaic.Lib.Pipeline.Value
public import Idealize.ShloMosaic.Lib.KernelVsHost
public import Idealize.ShloMosaic.Lib.ValueIdx
public import Idealize.ShloMosaic.PureOps.Ideal.Laws

@[expose] public section

noncomputable section

namespace Cert.Up

open Idealize.ShloMosaic

/-! Operations on extended reals that are real numbers. -/

variable {a b : EReal} {r s : ℝ}

theorem mul (ha : a = (r : EReal)) (hb : b = (s : EReal)) : FloatOps.mulf (F := Ideal) (φ := .f32) a b = ((r * s : ℝ) : EReal) := by
  subst ha hb; exact (EReal.coe_mul r s).symm
theorem add (ha : a = (r : EReal)) (hb : b = (s : EReal)) : FloatOps.addf (F := Ideal) (φ := .f32) a b = ((r + s : ℝ) : EReal) := by
  subst ha hb; exact (EReal.coe_add r s).symm
theorem sub (ha : a = (r : EReal)) (hb : b = (s : EReal)) : FloatOps.subf (F := Ideal) (φ := .f32) a b = ((r - s : ℝ) : EReal) := by
  subst ha hb; exact (EReal.coe_sub r s).symm
theorem neg (ha : a = (r : EReal)) : FloatOps.hostNegf (F := Ideal) (φ := .f32) a = ((-r : ℝ) : EReal) := by
  subst ha; exact (EReal.coe_neg r).symm
theorem div_coe (hs : s ≠ 0) : Ideal.div (r : EReal) (s : EReal) = ((r / s : ℝ) : EReal) := by
  unfold Ideal.div
  rw [if_neg (fun h => hs (EReal.coe_eq_zero.1 h)), ← EReal.coe_inv, ← EReal.coe_mul, div_eq_mul_inv]
theorem hdiv (ha : a = (r : EReal)) (hb : b = (s : EReal)) (hs : s ≠ 0) : FloatOps.hostDivf (F := Ideal) (φ := .f32) a b = ((r / s : ℝ) : EReal) := by
  subst ha hb; exact div_coe hs
theorem div (ha : a = (r : EReal)) (hb : b = (s : EReal)) (hs : s ≠ 0) : FloatOps.divf (F := Ideal) (φ := .f32) a b = ((r / s : ℝ) : EReal) := by
  subst ha hb; exact div_coe hs
theorem hexp (ha : a = (r : EReal)) : FloatOps.hostUnary (F := Ideal) (φ := .f32) .exp a = ((Real.exp r : ℝ) : EReal) := by
  subst ha; rfl
theorem exp (ha : a = (r : EReal)) : FloatOps.exp (F := Ideal) (φ := .f32) a = ((Real.exp r : ℝ) : EReal) := by
  subst ha; rfl
theorem htanh (ha : a = (r : EReal)) : FloatOps.hostUnary (F := Ideal) (φ := .f32) .tanh a = ((Real.tanh r : ℝ) : EReal) := by
  subst ha; rfl
theorem tanh (ha : a = (r : EReal)) : FloatOps.tanh (F := Ideal) (φ := .f32) a = ((Real.tanh r : ℝ) : EReal) := by
  subst ha; rfl
theorem sqrt_coe (h : 0 ≤ r) : Ideal.sqrt (r : EReal) = ((Real.sqrt r : ℝ) : EReal) := by
  rw [Ideal.sqrt_coe, if_neg (not_lt.2 h)]
theorem hsqrt (ha : a = (r : EReal)) (h : 0 ≤ r) : FloatOps.hostUnary (F := Ideal) (φ := .f32) .sqrt a = ((Real.sqrt r : ℝ) : EReal) := by
  subst ha; exact sqrt_coe h
theorem sqrt (ha : a = (r : EReal)) (h : 0 ≤ r) : FloatOps.sqrt (F := Ideal) (φ := .f32) a = ((Real.sqrt r : ℝ) : EReal) := by
  subst ha; exact sqrt_coe h
theorem hexpm1 (ha : a = (r : EReal)) : FloatOps.hostUnary (F := Ideal) (φ := .f32) .expm1 a = ((Real.exp r - 1 : ℝ) : EReal) := by
  subst ha; exact (EReal.coe_sub _ _).symm
theorem log1p_coe (h : 0 < 1 + r) : Ideal.log1p (r : EReal) = ((Real.log (1 + r) : ℝ) : EReal) := by
  unfold Ideal.log1p
  rw [← EReal.coe_one, ← EReal.coe_add, Ideal.log_coe, if_neg (not_le.2 h)]
theorem hlog1p (ha : a = (r : EReal)) (h : 0 < 1 + r) : FloatOps.hostUnary (F := Ideal) (φ := .f32) .log1p a = ((Real.log (1 + r) : ℝ) : EReal) := by
  subst ha; exact log1p_coe h
theorem log1p (ha : a = (r : EReal)) (h : 0 < 1 + r) : FloatOps.log1p (F := Ideal) (φ := .f32) a = ((Real.log (1 + r) : ℝ) : EReal) := by
  subst ha; exact log1p_coe h
theorem max_coe : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]
theorem max (ha : a = (r : EReal)) (hb : b = (s : EReal)) : FloatOps.maximumf (F := Ideal) (φ := .f32) a b = ((Max.max r s : ℝ) : EReal) := by
  subst ha hb; exact max_coe
theorem abs_coe : Max.max (r : EReal) (-(r : EReal)) = ((|r| : ℝ) : EReal) := by
  rw [← EReal.coe_neg, max_coe]; rfl
theorem habs (ha : a = (r : EReal)) : FloatOps.hostAbsf (F := Ideal) (φ := .f32) a = ((|r| : ℝ) : EReal) := by
  subst ha; exact abs_coe
theorem abs (ha : a = (r : EReal)) : FloatOps.absf (F := Ideal) (φ := .f32) a = ((|r| : ℝ) : EReal) := by
  subst ha; exact abs_coe
theorem logistic (ha : a = (r : EReal)) : FloatOps.logistic (F := Ideal) (φ := .f32) a = ((1 / (1 + Real.exp (-r)) : ℝ) : EReal) := by
  subst ha
  show Ideal.div 1 (1 + Ideal.exp (-(r : EReal))) = _
  rw [← EReal.coe_neg, Ideal.exp_coe, ← EReal.coe_one, ← EReal.coe_add]
  exact div_coe (by positivity)

theorem sum_coe {n : ℕ} (g : ℕ → ℝ) (f : Fin n → EReal) (h : ∀ k : Fin n, f k = (g k.val : EReal)) :
    ∑ k : Fin n, f k = ((∑ k ∈ Finset.range n, g k : ℝ) : EReal) := by
  rw [Finset.sum_congr rfl fun k _ => h k, Finset.sum_range]
  exact (map_sum (⟨⟨Real.toEReal, EReal.coe_zero⟩, EReal.coe_add⟩ : ℝ →+ EReal) (fun k : Fin n => g k.val) Finset.univ).symm
theorem sum_mul_coe {n : ℕ} (g g' : ℕ → ℝ) (f f' : Fin n → EReal) (h : ∀ k : Fin n, f k = (g k.val : EReal)) (h' : ∀ k : Fin n, f' k = (g' k.val : EReal)) :
    ∑ k : Fin n, f k * f' k = ((∑ k ∈ Finset.range n, g k * g' k : ℝ) : EReal) :=
  sum_coe (fun k => g k * g' k) _ fun k => by rw [h k, h' k]; exact (EReal.coe_mul _ _).symm
theorem red {n : ℕ} (g : ℕ → ℝ) (f : Fin n → EReal) {z : EReal} (hz : z = ((0 : ℝ) : EReal)) (h : ∀ k : Fin n, f k = (g k.val : EReal)) :
    z + ∑ k : Fin n, f k = ((∑ k ∈ Finset.range n, g k : ℝ) : EReal) := by
  rw [sum_coe g f h, hz, EReal.coe_zero, zero_add]

theorem sel {x y : EReal} {p : Prop} [Decidable p] {m : BitVec 1} (hm : m = if p then 1#1 else 0#1) (ha : x = (r : EReal)) (hb : y = (s : EReal)) :
    Scalar.select m x y = ((if p then r else s : ℝ) : EReal) := by
  subst hm
  by_cases h : p
  · rw [if_pos h, if_pos h]; exact ha
  · rw [if_neg h, if_neg h]; exact hb

/-! The words of the constants. -/

theorem c0 : FloatOps.ofBits (F := Ideal) .f32 0x00000000#32 = ((0 : ℝ) : EReal) := by
  show Ideal.ofBits .f32 0x00000000#32 = _
  rw [Ideal.ofBits_zero_f32, EReal.coe_zero]
theorem word (b : BitVec 32) (v : ℝ) (h : Ideal.ieee 8 23 b = (v : EReal)) : FloatOps.ofBits (F := Ideal) .f32 b = (v : EReal) := h
theorem c1 : FloatOps.ofBits (F := Ideal) .f32 0x3F800000#32 = ((1 : ℝ) : EReal) := by
  refine word _ _ ?_; simp [Ideal.ieee, zpow_neg]; norm_num; rw [← EReal.coe_mul, ← EReal.coe_one]; norm_num
theorem c2 : FloatOps.ofBits (F := Ideal) .f32 0x40000000#32 = ((2 : ℝ) : EReal) := by
  refine word _ _ ?_; simp [Ideal.ieee, zpow_neg]; norm_num; rw [← EReal.coe_mul]; norm_num
theorem c3 : FloatOps.ofBits (F := Ideal) .f32 0x40400000#32 = ((3 : ℝ) : EReal) := by
  refine word _ _ ?_; simp [Ideal.ieee, zpow_neg]; norm_num; rw [← EReal.coe_mul]; norm_num
theorem chalf : FloatOps.ofBits (F := Ideal) .f32 0x3F000000#32 = ((1 / 2 : ℝ) : EReal) := by
  refine word _ _ ?_; simp [Ideal.ieee, zpow_neg]; norm_num; rw [← EReal.coe_mul]; norm_num
theorem cm8 : FloatOps.ofBits (F := Ideal) .f32 0xC1000000#32 = ((-8 : ℝ) : EReal) := by
  refine word _ _ ?_; simp [Ideal.ieee, zpow_neg]; norm_num; rw [← EReal.coe_mul]; norm_num
theorem c44715 : FloatOps.ofBits (F := Ideal) .f32 0x472EAB00#32 = ((44715 : ℝ) : EReal) := by
  refine word _ _ ?_; simp [Ideal.ieee, zpow_neg]; norm_num; rw [← EReal.coe_mul]; norm_num
theorem c1e6 : FloatOps.ofBits (F := Ideal) .f32 0x49742400#32 = ((1000000 : ℝ) : EReal) := by
  refine word _ _ ?_; simp [Ideal.ieee, zpow_neg]; norm_num; rw [← EReal.coe_mul]; norm_num
theorem cgc : FloatOps.ofBits (F := Ideal) .f32 0x3F4C422A#32 = (Lru.gc : EReal) := by
  refine word _ _ ?_; simp [Ideal.ieee, zpow_neg, Lru.gc]; norm_num; rw [← EReal.coe_mul]; norm_num
theorem ctop : FloatOps.ofBits (F := Ideal) .f32 0x7F800000#32 = (⊤ : EReal) := by
  show Ideal.ofBits .f32 _ = _; simp [Ideal.ofBits, Ideal.ieee]
theorem cbot : FloatOps.ofBits (F := Ideal) .f32 0xFF800000#32 = (⊥ : EReal) := by
  show Ideal.ofBits .f32 _ = _; simp [Ideal.ofBits, Ideal.ieee]

end Cert.Up
-- ==== Proof.KP.lean ====
module

public import proofs.«01_k».proof.Proof.Gen.KernelIdeal.Frame
public import proofs.«01_k».proof.Proof.Gen.ReferenceIdeal.Read
public import proofs.«01_k».proof.Proof.Up
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe

/-! ## Reading one line of a host program where every buffer is written once -/

section Ssa
open Idealize.ShloMosaic.StableHlo (after upto after_unwritten after_last_write)

variable {T : Topo} {sg : RefSig} {Val : EltTy → Type}
variable {ops : List (HloOp T sg Val)} {W : List (Ref sg .tc)}

theorem ssa_get (hW : ops.map HloOp.writes = W.map fun w => {Proc.devRef (τ := T) .tc w}) (V : Valuation T sg Val)
    (i : ℕ) {op : HloOp T sg Val} (h : ops[i]? = some op) {y : Ref sg .tc} (hy : y ∉ W.drop (i + 1)) :
    after ops V (Proc.devRef .tc y) = op.result (after (ops.take i) V) (Proc.devRef .tc y) := by
  obtain ⟨hi, he⟩ := List.getElem?_eq_some_iff.mp h
  exact after_last_write (W.drop (i + 1)) (rest := ops.drop (i + 1))
    (by rw [List.drop_eq_getElem_cons hi, he]) (by rw [List.map_drop, hW, List.map_drop]) hy V

theorem ssa_src (hW : ops.map HloOp.writes = W.map fun w => {Proc.devRef (τ := T) .tc w}) (V : Valuation T sg Val)
    (i : ℕ) {a : Ref sg .tc} (ha : a ∉ W.drop i) :
    after (ops.take i) V (Proc.devRef .tc a) = after ops V (Proc.devRef .tc a) := by
  have h : ∀ l₁ l₂ : List (HloOp T sg Val), ∀ V, after (l₁ ++ l₂) V = after l₂ (after l₁ V) := by
    intro l₁ l₂
    induction l₁ with
    | nil => intro V; rfl
    | cons o l ih => intro V; exact ih _
  have e := h (ops.take i) (ops.drop i) V
  rw [List.take_append_drop] at e
  rw [e]
  exact (after_unwritten (ops := ops.drop i) (W.drop i) (by rw [List.map_drop, hW, List.map_drop]) ha _).symm

theorem ssa_nullary (hW : ops.map HloOp.writes = W.map fun w => {Proc.devRef (τ := T) .tc w}) (V : Valuation T sg Val)
    (i : ℕ) {y : Ref sg .tc} {v : y.ty.Contents Val} {hv} (h : ops[i]? = some (StableHlo.nullary y v hv))
    (hy : y ∉ W.drop (i + 1)) : after ops V (Proc.devRef .tc y) = v := by
  rw [ssa_get hW V i h hy, StableHlo.nullary_result']

theorem ssa_unary (hW : ops.map HloOp.writes = W.map fun w => {Proc.devRef (τ := T) .tc w}) (V : Valuation T sg Val)
    (i : ℕ) {a0 y : Ref sg .tc} {f : a0.ty.Contents Val → y.ty.Contents Val} {h0 hv}
    (h : ops[i]? = some (StableHlo.unary a0 y f h0 hv)) (hy : y ∉ W.drop (i + 1)) (ha0 : a0 ∉ W.drop i)
    {v0 : a0.ty.Contents Val} (e0 : after ops V (Proc.devRef .tc a0) = v0) :
    after ops V (Proc.devRef .tc y) = f v0 := by
  rw [ssa_get hW V i h hy, StableHlo.unary_result', ssa_src hW V i ha0, e0]

theorem ssa_binary (hW : ops.map HloOp.writes = W.map fun w => {Proc.devRef (τ := T) .tc w}) (V : Valuation T sg Val)
    (i : ℕ) {a0 a1 y : Ref sg .tc} {f : a0.ty.Contents Val → a1.ty.Contents Val → y.ty.Contents Val} {h0 h1 hv}
    (h : ops[i]? = some (StableHlo.binary a0 a1 y f h0 h1 hv)) (hy : y ∉ W.drop (i + 1)) (ha0 : a0 ∉ W.drop i)
    (ha1 : a1 ∉ W.drop i)
    {v0 : a0.ty.Contents Val} (e0 : after ops V (Proc.devRef .tc a0) = v0)
    {v1 : a1.ty.Contents Val} (e1 : after ops V (Proc.devRef .tc a1) = v1) :
    after ops V (Proc.devRef .tc y) = f v0 v1 := by
  rw [ssa_get hW V i h hy, StableHlo.binary_result', ssa_src hW V i ha0, ssa_src hW V i ha1, e0, e1]

theorem ssa_ternary (hW : ops.map HloOp.writes = W.map fun w => {Proc.devRef (τ := T) .tc w}) (V : Valuation T sg Val)
    (i : ℕ) {a0 a1 a2 y : Ref sg .tc}
    {f : a0.ty.Contents Val → a1.ty.Contents Val → a2.ty.Contents Val → y.ty.Contents Val} {h0 h1 h2 hv}
    (h : ops[i]? = some (StableHlo.ternary a0 a1 a2 y f h0 h1 h2 hv)) (hy : y ∉ W.drop (i + 1)) (ha0 : a0 ∉ W.drop i)
    (ha1 : a1 ∉ W.drop i) (ha2 : a2 ∉ W.drop i)
    {v0 : a0.ty.Contents Val} (e0 : after ops V (Proc.devRef .tc a0) = v0)
    {v1 : a1.ty.Contents Val} (e1 : after ops V (Proc.devRef .tc a1) = v1)
    {v2 : a2.ty.Contents Val} (e2 : after ops V (Proc.devRef .tc a2) = v2) :
    after ops V (Proc.devRef .tc y) = f v0 v1 v2 := by
  rw [ssa_get hW V i h hy, StableHlo.ternary_result', ssa_src hW V i ha0, ssa_src hW V i ha1, ssa_src hW V i ha2,
    e0, e1, e2]

theorem ssa_reshape (hW : ops.map HloOp.writes = W.map fun w => {Proc.devRef (τ := T) .tc w}) (V : Valuation T sg Val)
    (i : ℕ) {a0 y : Ref sg .tc} {he hn h0 hv}
    (h : ops[i]? = some (StableHlo.reshape a0 y he hn h0 hv)) (hy : y ∉ W.drop (i + 1)) (ha0 : a0 ∉ W.drop i)
    {v0 : a0.ty.Contents Val} (e0 : after ops V (Proc.devRef .tc a0) = v0) :
    after ops V (Proc.devRef .tc y) = fun j => he ▸ shapeCast y.ty.shape v0 hn j := by
  rw [ssa_get hW V i h hy, StableHlo.reshape_result', ssa_src hW V i ha0, e0]

theorem ssa_nary (hW : ops.map HloOp.writes = W.map fun w => {Proc.devRef (τ := T) .tc w}) (V : Valuation T sg Val)
    (i : ℕ) {n : ℕ} {xs : Fin n → Ref sg .tc} {y : Ref sg .tc}
    {f : ((k : Fin n) → (xs k).ty.Contents Val) → y.ty.Contents Val} {hxs hv}
    (h : ops[i]? = some (StableHlo.nary xs y f hxs hv)) (hy : y ∉ W.drop (i + 1)) (hx : ∀ k, xs k ∉ W.drop i)
    {v : (k : Fin n) → (xs k).ty.Contents Val} (e : ∀ k, after ops V (Proc.devRef .tc (xs k)) = v k) :
    after ops V (Proc.devRef .tc y) = f v := by
  rw [ssa_get hW V i h hy, StableHlo.nary_result']
  exact congrArg f (funext fun k => (ssa_src hW V i (hx k)).trans (e k))

end Ssa

section
variable {F : FTy → Type} [FloatOps F] [Named F]

/-- The host lines before the call, in order. -/
abbrev preOps : List (HloOp τ sig (Elt F)) :=
  List.flatten [hostOps0, hostOps0_1, hostOps0_2, hostOps0_3, hostOps0_4, hostOps0_5, hostOps0_6, hostOps0_7, hostOps0_8]

/-- What they write, in order. -/
abbrev WL : List (Ref sig .tc) := [main_v0, main_cst, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_cst_0, main_v38, main_v39, main_v40, main_v41, main_v42, main_v43, main_cst_1, main_v44, main_v45, main_cst_2, main_v46, main_v47, main_v48, main_v49, main_v50, main_v51, main_v52, main_cst_3, main_v53, main_v54, main_v55, main_v56, main_v57, main_v58, main_cst_4, main_v59, main_v60, main_cst_5, main_v61, main_v62, main_v63, main_v64, main_cst_6, main_v65, main_v66, main_v67, main_call0_cst, main_call0_v0, main_call0_v1, main_call0_v2, main_call0_v3, main_call0_v4, main_call0_v5, main_call0_v6, main_call0_v7, main_call0_v8, main_call0_v9, main_call0_v10, main_call0_v11, main_v68, main_v69, main_v70, main_cst_7, main_v71, main_v72, main_v73, main_v74, main_v75, main_v76, main_c, main_v77, main_v78, main_v79, main_cst_8, main_call1_v0, main_call1_v1, main_call1_v2, main_v80, main_v81, main_v82, main_call2_call0_cst, main_call2_call0_v0, main_v83, main_v84, main_v85, main_v86, main_v87, main_v88, main_v89, main_v90, main_v91, main_v92, main_v93, main_v94, main_v95, main_v96, main_cst_9, main_call3_v0, main_call3_v1, main_call3_v2, main_v97, main_v98, main_v99, main_v100, main_v101, main_cst_10, main_v102, main_cst_11, main_v103, main_v104, main_v105, main_cst_12, main_v106, main_v107, main_v108, main_v109, main_v110, main_v111, main_v112, main_v113, main_v114, main_v115, main_v116, main_v117, main_v118, main_v119, main_v120, main_cst_13, main_v121, main_v122, main_v123, main_v124, main_v125, main_v126, main_v127, main_v128, main_v129, main_v130, main_v131, main_v132, main_v133, main_v134, main_v135, main_v136]

theorem hW : (preOps (F := F)).map HloOp.writes = WL.map fun w => {Proc.devRef (τ := τ) .tc w} := rfl

variable (V : Valuation τ sig (Elt F))

/-- What a buffer holds after the host lines. -/
abbrev G (r : Ref sig .tc) : r.ty.Contents (Elt F) := StableHlo.after preOps V (Proc.devRef .tc r)

/-- Argument 0 of the host lines. -/
def X0 : (⟨S2048x5632, .f32⟩ : BufTy).Contents (Elt F) := V (Proc.devRef .tc main_arg0)
theorem e_arg0 : G V main_arg0 = X0 V := StableHlo.after_unwritten WL hW (by decide) V

/-- Argument 1 of the host lines. -/
def X1 : (⟨S2048x2048, .f32⟩ : BufTy).Contents (Elt F) := V (Proc.devRef .tc main_arg1)
theorem e_arg1 : G V main_arg1 = X1 V := StableHlo.after_unwritten WL hW (by decide) V

/-- Argument 2 of the host lines. -/
def X2 : (⟨S4x1024, .f32⟩ : BufTy).Contents (Elt F) := V (Proc.devRef .tc main_arg2)
theorem e_arg2 : G V main_arg2 = X2 V := StableHlo.after_unwritten WL hW (by decide) V

/-- Argument 3 of the host lines. -/
def X3 : (⟨S1x1024, .f32⟩ : BufTy).Contents (Elt F) := V (Proc.devRef .tc main_arg3)
theorem e_arg3 : G V main_arg3 = X3 V := StableHlo.after_unwritten WL hW (by decide) V

/-- Argument 4 of the host lines. -/
def X4 : (⟨S16x64x64, .f32⟩ : BufTy).Contents (Elt F) := V (Proc.devRef .tc main_arg4)
theorem e_arg4 : G V main_arg4 = X4 V := StableHlo.after_unwritten WL hW (by decide) V

/-- Argument 5 of the host lines. -/
def X5 : (⟨S16x64, .f32⟩ : BufTy).Contents (Elt F) := V (Proc.devRef .tc main_arg5)
theorem e_arg5 : G V main_arg5 = X5 V := StableHlo.after_unwritten WL hW (by decide) V

/-- Argument 6 of the host lines. -/
def X6 : (⟨S16x64x64, .f32⟩ : BufTy).Contents (Elt F) := V (Proc.devRef .tc main_arg6)
theorem e_arg6 : G V main_arg6 = X6 V := StableHlo.after_unwritten WL hW (by decide) V

/-- Argument 7 of the host lines. -/
def X7 : (⟨S16x64, .f32⟩ : BufTy).Contents (Elt F) := V (Proc.devRef .tc main_arg7)
theorem e_arg7 : G V main_arg7 = X7 V := StableHlo.after_unwritten WL hW (by decide) V

/-- Argument 8 of the host lines. -/
def X8 : (⟨S1x1024, .f32⟩ : BufTy).Contents (Elt F) := V (Proc.devRef .tc main_arg8)
theorem e_arg8 : G V main_arg8 = X8 V := StableHlo.after_unwritten WL hW (by decide) V

theorem e_v0 : G V main_v0 = Cert.ReferenceIdeal.Read.val_main_v0 (F := F) (X0 V) :=
  ssa_unary (y := main_v0) (a0 := main_arg0) hW V 0 rfl (by decide) (by decide) (e_arg0 V)

theorem e_cst : G V main_cst = Cert.ReferenceIdeal.Read.val_main_cst_7 (F := F)  :=
  ssa_nullary (y := main_cst)  hW V 1 rfl (by decide)

theorem e_v1 : G V main_v1 = Cert.ReferenceIdeal.Read.val_main_v26 (F := F)  :=
  ssa_unary (y := main_v1) (a0 := main_cst) hW V 2 rfl (by decide) (by decide) (e_cst V)

theorem e_v2 : G V main_v2 = Cert.ReferenceIdeal.Read.val_main_v27 (F := F) (X0 V) :=
  ssa_binary (y := main_v2) (a0 := main_v1) (a1 := main_v0) hW V 3 rfl (by decide) (by decide) (by decide) (e_v1 V) (e_v0 V)

theorem e_v3 : G V main_v3 = Cert.ReferenceIdeal.Read.val_main_v29 (F := F) (X0 V) :=
  ssa_unary (y := main_v3) (a0 := main_v2) hW V 4 rfl (by decide) (by decide) (e_v2 V)

theorem e_v4 : G V main_v4 = Cert.ReferenceIdeal.Read.val_main_v30 (F := F) (X2 V) :=
  ssa_unary (y := main_v4) (a0 := main_arg2) hW V 5 rfl (by decide) (by decide) (e_arg2 V)

theorem e_v5 : G V main_v5 = Cert.ReferenceIdeal.Read.val_main_v31 (F := F) (X2 V) :=
  ssa_reshape (y := main_v5) (a0 := main_v4) hW V 6 rfl (by decide) (by decide) (e_v4 V)

theorem e_v6 : G V main_v6 = Cert.ReferenceIdeal.Read.val_main_v32 (F := F) (X2 V) :=
  ssa_unary (y := main_v6) (a0 := main_v5) hW V 7 rfl (by decide) (by decide) (e_v5 V)

theorem e_v7 : G V main_v7 = Cert.ReferenceIdeal.Read.val_main_v33 (F := F) (X2 V) :=
  ssa_unary (y := main_v7) (a0 := main_v6) hW V 8 rfl (by decide) (by decide) (e_v6 V)

theorem e_v8 : G V main_v8 = Cert.ReferenceIdeal.Read.val_main_v34 (F := F) (X0 V) (X2 V) :=
  ssa_binary (y := main_v8) (a0 := main_v3) (a1 := main_v7) hW V 9 rfl (by decide) (by decide) (by decide) (e_v3 V) (e_v7 V)

theorem e_v9 : G V main_v9 = Cert.ReferenceIdeal.Read.val_main_v35 (F := F) (X0 V) :=
  ssa_unary (y := main_v9) (a0 := main_v2) hW V 10 rfl (by decide) (by decide) (e_v2 V)

theorem e_v10 : G V main_v10 = Cert.ReferenceIdeal.Read.val_main_v36 (F := F) (X2 V) :=
  ssa_unary (y := main_v10) (a0 := main_arg2) hW V 11 rfl (by decide) (by decide) (e_arg2 V)

theorem e_v11 : G V main_v11 = Cert.ReferenceIdeal.Read.val_main_v37 (F := F) (X2 V) :=
  ssa_reshape (y := main_v11) (a0 := main_v10) hW V 12 rfl (by decide) (by decide) (e_v10 V)

theorem e_v12 : G V main_v12 = Cert.ReferenceIdeal.Read.val_main_v38 (F := F) (X2 V) :=
  ssa_unary (y := main_v12) (a0 := main_v11) hW V 13 rfl (by decide) (by decide) (e_v11 V)

theorem e_v13 : G V main_v13 = Cert.ReferenceIdeal.Read.val_main_v39 (F := F) (X2 V) :=
  ssa_unary (y := main_v13) (a0 := main_v12) hW V 14 rfl (by decide) (by decide) (e_v12 V)

theorem e_v14 : G V main_v14 = Cert.ReferenceIdeal.Read.val_main_v40 (F := F) (X0 V) (X2 V) :=
  ssa_binary (y := main_v14) (a0 := main_v9) (a1 := main_v13) hW V 15 rfl (by decide) (by decide) (by decide) (e_v9 V) (e_v13 V)

theorem e_v15 : G V main_v15 = Cert.ReferenceIdeal.Read.val_main_v41 (F := F) (X0 V) (X2 V) :=
  ssa_binary (y := main_v15) (a0 := main_v8) (a1 := main_v14) hW V 16 rfl (by decide) (by decide) (by decide) (e_v8 V) (e_v14 V)

theorem e_v16 : G V main_v16 = Cert.ReferenceIdeal.Read.val_main_v42 (F := F) (X0 V) :=
  ssa_unary (y := main_v16) (a0 := main_v2) hW V 17 rfl (by decide) (by decide) (e_v2 V)

theorem e_v17 : G V main_v17 = Cert.ReferenceIdeal.Read.val_main_v43 (F := F) (X2 V) :=
  ssa_unary (y := main_v17) (a0 := main_arg2) hW V 18 rfl (by decide) (by decide) (e_arg2 V)

theorem e_v18 : G V main_v18 = Cert.ReferenceIdeal.Read.val_main_v44 (F := F) (X2 V) :=
  ssa_reshape (y := main_v18) (a0 := main_v17) hW V 19 rfl (by decide) (by decide) (e_v17 V)

theorem e_v19 : G V main_v19 = Cert.ReferenceIdeal.Read.val_main_v45 (F := F) (X2 V) :=
  ssa_unary (y := main_v19) (a0 := main_v18) hW V 20 rfl (by decide) (by decide) (e_v18 V)

theorem e_v20 : G V main_v20 = Cert.ReferenceIdeal.Read.val_main_v46 (F := F) (X2 V) :=
  ssa_unary (y := main_v20) (a0 := main_v19) hW V 21 rfl (by decide) (by decide) (e_v19 V)

theorem e_v21 : G V main_v21 = Cert.ReferenceIdeal.Read.val_main_v47 (F := F) (X0 V) (X2 V) :=
  ssa_binary (y := main_v21) (a0 := main_v16) (a1 := main_v20) hW V 22 rfl (by decide) (by decide) (by decide) (e_v16 V) (e_v20 V)

theorem e_v22 : G V main_v22 = Cert.ReferenceIdeal.Read.val_main_v48 (F := F) (X0 V) (X2 V) :=
  ssa_binary (y := main_v22) (a0 := main_v15) (a1 := main_v21) hW V 23 rfl (by decide) (by decide) (by decide) (e_v15 V) (e_v21 V)

theorem e_v23 : G V main_v23 = Cert.ReferenceIdeal.Read.val_main_v49 (F := F) (X0 V) :=
  ssa_unary (y := main_v23) (a0 := main_v2) hW V 24 rfl (by decide) (by decide) (e_v2 V)

theorem e_v24 : G V main_v24 = Cert.ReferenceIdeal.Read.val_main_v50 (F := F) (X2 V) :=
  ssa_unary (y := main_v24) (a0 := main_arg2) hW V 25 rfl (by decide) (by decide) (e_arg2 V)

theorem e_v25 : G V main_v25 = Cert.ReferenceIdeal.Read.val_main_v51 (F := F) (X2 V) :=
  ssa_reshape (y := main_v25) (a0 := main_v24) hW V 26 rfl (by decide) (by decide) (e_v24 V)

theorem e_v26 : G V main_v26 = Cert.ReferenceIdeal.Read.val_main_v52 (F := F) (X2 V) :=
  ssa_unary (y := main_v26) (a0 := main_v25) hW V 27 rfl (by decide) (by decide) (e_v25 V)

theorem e_v27 : G V main_v27 = Cert.ReferenceIdeal.Read.val_main_v53 (F := F) (X2 V) :=
  ssa_unary (y := main_v27) (a0 := main_v26) hW V 28 rfl (by decide) (by decide) (e_v26 V)

theorem e_v28 : G V main_v28 = Cert.ReferenceIdeal.Read.val_main_v54 (F := F) (X0 V) (X2 V) :=
  ssa_binary (y := main_v28) (a0 := main_v23) (a1 := main_v27) hW V 29 rfl (by decide) (by decide) (by decide) (e_v23 V) (e_v27 V)

theorem e_v29 : G V main_v29 = Cert.ReferenceIdeal.Read.val_main_v55 (F := F) (X0 V) (X2 V) :=
  ssa_binary (y := main_v29) (a0 := main_v22) (a1 := main_v28) hW V 30 rfl (by decide) (by decide) (by decide) (e_v22 V) (e_v28 V)

theorem e_v30 : G V main_v30 = Cert.ReferenceIdeal.Read.val_main_v56 (F := F) (X3 V) :=
  ssa_unary (y := main_v30) (a0 := main_arg3) hW V 31 rfl (by decide) (by decide) (e_arg3 V)

theorem e_v31 : G V main_v31 = Cert.ReferenceIdeal.Read.val_main_v57 (F := F) (X0 V) (X2 V) (X3 V) :=
  ssa_binary (y := main_v31) (a0 := main_v29) (a1 := main_v30) hW V 32 rfl (by decide) (by decide) (by decide) (e_v29 V) (e_v30 V)

theorem e_v32 : G V main_v32 = Cert.ReferenceIdeal.Read.val_main_v58 (F := F) (X0 V) (X2 V) (X3 V) :=
  ssa_reshape (y := main_v32) (a0 := main_v31) hW V 33 rfl (by decide) (by decide) (e_v31 V)

theorem e_cst_0 : G V main_cst_0 = Cert.ReferenceIdeal.Read.val_main_cst_7 (F := F)  :=
  ssa_nullary (y := main_cst_0)  hW V 39 rfl (by decide)

end

section
/-- A head's product written as a broadcast product summed along the contracted axis. -/
theorem head_sum (y0 : FVec Ideal S2048x16x64 .f32) (w : FVec Ideal S16x64x64 .f32) (i : S2048x16x64.Idx)
    (li : Fin 64 → S16x64x64.Idx) (ri : Fin 64 → S2048x16x64.Idx)
    (hl0 : ∀ k, (li k 0).val = (i 1).val) (hl1 : ∀ k, (li k 1).val = k.val) (hl2 : ∀ k, (li k 2).val = (i 2).val)
    (hr0 : ∀ k, (ri k 0).val = (i 0).val) (hr1 : ∀ k, (ri k 1).val = (i 1).val) (hr2 : ∀ k, (ri k 2).val = k.val) :
    Host.reduceAdd (mulf (broadcastInDim S2048x16x64x64 ![0, 1, 2, 3] bcast_S2048x16x64x1_S2048x16x64x64_0_1_2_3
        (broadcastInDim S2048x16x64x1 ![0, 1, 2] bcast_S2048x16x64_S2048x16x64x1_0_1_2 y0))
      (broadcastInDim S2048x16x64x64 ![0, 1, 2, 3] bcast_S1x16x64x64_S2048x16x64x64_0_1_2_3
        (broadcastInDim S1x16x64x64 ![1, 2, 3] bcast_S16x64x64_S1x16x64x64_1_2_3 w)))
      (constant S_ .f32 0x00000000#32) reducesTo_S2048x16x64x64_S2048x16x64_d2 h_S_ i
      = ∑ k : Fin 64, w (li k) * y0 (ri k) := by
  simp only [Host.reduceAdd, Ideal.hostReduceAdd_def]
  rw [Ideal.hostReduceAdd_single reducesTo_S2048x16x64x64_S2048x16x64_d2 (by decide)]
  have hz : (constant S_ .f32 0x00000000#32 : FVec Ideal S_ .f32) (Shape.Idx.first h_S_) = 0 := by
    exact (Up.c0 : FloatOps.ofBits (F := Ideal) .f32 0x00000000#32 = ((0 : ℝ) : EReal)).trans EReal.coe_zero
  rw [hz, zero_add]
  refine Finset.sum_congr rfl fun k _ => ?_
  rw [mul_comm]
  refine congrArg₂ (· * ·) ?_ ?_
  · refine (broadcastInDim_apply _ bcast_S2048x16x64x1_S2048x16x64x64_0_1_2_3 _ _ (ValueIdx.ix4 (i 0) (i 1) k 0) (fun a => match a with
      | ⟨0, _⟩ => rfl | ⟨1, _⟩ => rfl | ⟨2, _⟩ => rfl | ⟨3, _⟩ => rfl)).trans ?_
    refine (broadcastInDim_apply _ bcast_S2048x16x64_S2048x16x64x1_0_1_2 _ _ (ri k) (fun a => match a with
      | ⟨0, _⟩ => hr0 k | ⟨1, _⟩ => hr1 k | ⟨2, _⟩ => hr2 k))
  · refine (broadcastInDim_apply _ bcast_S1x16x64x64_S2048x16x64x64_0_1_2_3 _ _ (ValueIdx.ix4 0 (i 1) k (i 2)) (fun a => match a with
      | ⟨0, _⟩ => rfl | ⟨1, _⟩ => rfl | ⟨2, _⟩ => rfl | ⟨3, _⟩ => rfl)).trans ?_
    refine (broadcastInDim_apply _ bcast_S16x64x64_S1x16x64x64_1_2_3 _ _ (li k) (fun a => match a with
      | ⟨0, _⟩ => hl0 k | ⟨1, _⟩ => hl1 k | ⟨2, _⟩ => hl2 k))

variable (V : Valuation τ sig (Elt Ideal))

theorem e_v38 : G V main_v38 = Cert.ReferenceIdeal.Read.val_main_v60 (F := Ideal) (X0 V) (X2 V) (X3 V) (X4 V) := by
  have e33 := ssa_unary (y := main_v33) (a0 := main_v32) hW V 34 rfl (by decide) (by decide) (e_v32 V)
  have e34 := ssa_unary (y := main_v34) (a0 := main_arg4) hW V 35 rfl (by decide) (by decide) (e_arg4 V)
  have e35 := ssa_unary (y := main_v35) (a0 := main_v33) hW V 36 rfl (by decide) (by decide) e33
  have e36 := ssa_unary (y := main_v36) (a0 := main_v34) hW V 37 rfl (by decide) (by decide) e34
  have e37 := ssa_binary (y := main_v37) (a0 := main_v35) (a1 := main_v36) hW V 38 rfl (by decide) (by decide) (by decide) e35 e36
  have e38 := ssa_binary (y := main_v38) (a0 := main_v37) (a1 := main_cst_0) hW V 40 rfl (by decide) (by decide) (by decide) e37 (e_cst_0 V)
  refine e38.trans (funext fun i => ?_)
  exact (head_sum _ (X4 V) i (fun k => Cert.ReferenceIdeal.Read.lidx_main_v59 (Cert.ReferenceIdeal.Read.idx_main_v60 i) k) (fun k => Cert.ReferenceIdeal.Read.ridx_main_v59 (Cert.ReferenceIdeal.Read.idx_main_v60 i) k) (fun _ => rfl) (fun _ => rfl) (fun _ => rfl) (fun _ => rfl) (fun _ => rfl) (fun _ => rfl)).trans
    ((Cert.ReferenceIdeal.Read.val_main_v60_apply _ _ _ _ i).trans (Cert.ReferenceIdeal.Read.val_main_v59_apply _ _ _ _ _)).symm

theorem e_v39 : G V main_v39 = Cert.ReferenceIdeal.Read.val_main_v61 (F := Ideal) (X5 V) :=
  ssa_unary (y := main_v39) (a0 := main_arg5) hW V 41 rfl (by decide) (by decide) (e_arg5 V)

theorem e_v40 : G V main_v40 = Cert.ReferenceIdeal.Read.val_main_v62 (F := Ideal) (X5 V) :=
  ssa_unary (y := main_v40) (a0 := main_v39) hW V 42 rfl (by decide) (by decide) (e_v39 V)

theorem e_v41 : G V main_v41 = Cert.ReferenceIdeal.Read.val_main_v63 (F := Ideal) (X0 V) (X2 V) (X3 V) (X4 V) (X5 V) :=
  ssa_binary (y := main_v41) (a0 := main_v38) (a1 := main_v40) hW V 43 rfl (by decide) (by decide) (by decide) (e_v38 V) (e_v40 V)

theorem e_v42 : G V main_v42 = Cert.ReferenceIdeal.Read.val_main_v64 (F := Ideal) (X0 V) (X2 V) (X3 V) (X4 V) (X5 V) :=
  ssa_unary (y := main_v42) (a0 := main_v41) hW V 44 rfl (by decide) (by decide) (e_v41 V)

theorem e_v43 : G V main_v43 = Cert.ReferenceIdeal.Read.val_main_v65 (F := Ideal) (X0 V) (X2 V) (X3 V) (X4 V) (X5 V) :=
  ssa_unary (y := main_v43) (a0 := main_v42) hW V 45 rfl (by decide) (by decide) (e_v42 V)

theorem e_cst_1 : G V main_cst_1 = Cert.ReferenceIdeal.Read.val_main_cst_3 (F := Ideal)  :=
  ssa_nullary (y := main_cst_1)  hW V 46 rfl (by decide)

theorem e_v44 : G V main_v44 = Cert.ReferenceIdeal.Read.val_main_v66 (F := Ideal)  :=
  ssa_unary (y := main_v44) (a0 := main_cst_1) hW V 47 rfl (by decide) (by decide) (e_cst_1 V)

theorem e_v45 : G V main_v45 = Cert.ReferenceIdeal.Read.val_main_v67 (F := Ideal) (X0 V) (X2 V) (X3 V) (X4 V) (X5 V) :=
  ssa_binary (y := main_v45) (a0 := main_v44) (a1 := main_v43) hW V 48 rfl (by decide) (by decide) (by decide) (e_v44 V) (e_v43 V)

theorem e_cst_2 : G V main_cst_2 = Cert.ReferenceIdeal.Read.val_main_cst_3 (F := Ideal)  :=
  ssa_nullary (y := main_cst_2)  hW V 49 rfl (by decide)

theorem e_v46 : G V main_v46 = Cert.ReferenceIdeal.Read.val_main_v66 (F := Ideal)  :=
  ssa_unary (y := main_v46) (a0 := main_cst_2) hW V 50 rfl (by decide) (by decide) (e_cst_2 V)

theorem e_v47 : G V main_v47 = Cert.ReferenceIdeal.Read.val_main_v69 (F := Ideal) (X0 V) (X2 V) (X3 V) (X4 V) (X5 V) :=
  ssa_binary (y := main_v47) (a0 := main_v46) (a1 := main_v45) hW V 51 rfl (by decide) (by decide) (by decide) (e_v46 V) (e_v45 V)

theorem e_cst_3 : G V main_cst_3 = Cert.ReferenceIdeal.Read.val_main_cst_7 (F := Ideal)  :=
  ssa_nullary (y := main_cst_3)  hW V 57 rfl (by decide)

theorem e_v53 : G V main_v53 = Cert.ReferenceIdeal.Read.val_main_v74 (F := Ideal) (X0 V) (X2 V) (X3 V) (X6 V) := by
  have e33 := ssa_unary (y := main_v48) (a0 := main_v32) hW V 52 rfl (by decide) (by decide) (e_v32 V)
  have e34 := ssa_unary (y := main_v49) (a0 := main_arg6) hW V 53 rfl (by decide) (by decide) (e_arg6 V)
  have e35 := ssa_unary (y := main_v50) (a0 := main_v48) hW V 54 rfl (by decide) (by decide) e33
  have e36 := ssa_unary (y := main_v51) (a0 := main_v49) hW V 55 rfl (by decide) (by decide) e34
  have e37 := ssa_binary (y := main_v52) (a0 := main_v50) (a1 := main_v51) hW V 56 rfl (by decide) (by decide) (by decide) e35 e36
  have e38 := ssa_binary (y := main_v53) (a0 := main_v52) (a1 := main_cst_3) hW V 58 rfl (by decide) (by decide) (by decide) e37 (e_cst_3 V)
  refine e38.trans (funext fun i => ?_)
  exact (head_sum _ (X6 V) i (fun k => Cert.ReferenceIdeal.Read.lidx_main_v73 (Cert.ReferenceIdeal.Read.idx_main_v74 i) k) (fun k => Cert.ReferenceIdeal.Read.ridx_main_v73 (Cert.ReferenceIdeal.Read.idx_main_v74 i) k) (fun _ => rfl) (fun _ => rfl) (fun _ => rfl) (fun _ => rfl) (fun _ => rfl) (fun _ => rfl)).trans
    ((Cert.ReferenceIdeal.Read.val_main_v74_apply _ _ _ _ i).trans (Cert.ReferenceIdeal.Read.val_main_v73_apply _ _ _ _ _)).symm

theorem e_v54 : G V main_v54 = Cert.ReferenceIdeal.Read.val_main_v75 (F := Ideal) (X7 V) :=
  ssa_unary (y := main_v54) (a0 := main_arg7) hW V 59 rfl (by decide) (by decide) (e_arg7 V)

theorem e_v55 : G V main_v55 = Cert.ReferenceIdeal.Read.val_main_v76 (F := Ideal) (X7 V) :=
  ssa_unary (y := main_v55) (a0 := main_v54) hW V 60 rfl (by decide) (by decide) (e_v54 V)

theorem e_v56 : G V main_v56 = Cert.ReferenceIdeal.Read.val_main_v77 (F := Ideal) (X0 V) (X2 V) (X3 V) (X6 V) (X7 V) :=
  ssa_binary (y := main_v56) (a0 := main_v53) (a1 := main_v55) hW V 61 rfl (by decide) (by decide) (by decide) (e_v53 V) (e_v55 V)

theorem e_v57 : G V main_v57 = Cert.ReferenceIdeal.Read.val_main_v78 (F := Ideal) (X0 V) (X2 V) (X3 V) (X6 V) (X7 V) :=
  ssa_unary (y := main_v57) (a0 := main_v56) hW V 62 rfl (by decide) (by decide) (e_v56 V)

theorem e_v58 : G V main_v58 = Cert.ReferenceIdeal.Read.val_main_v79 (F := Ideal) (X0 V) (X2 V) (X3 V) (X6 V) (X7 V) :=
  ssa_unary (y := main_v58) (a0 := main_v57) hW V 63 rfl (by decide) (by decide) (e_v57 V)

theorem e_cst_4 : G V main_cst_4 = Cert.ReferenceIdeal.Read.val_main_cst_3 (F := Ideal)  :=
  ssa_nullary (y := main_cst_4)  hW V 64 rfl (by decide)

theorem e_v59 : G V main_v59 = Cert.ReferenceIdeal.Read.val_main_v66 (F := Ideal)  :=
  ssa_unary (y := main_v59) (a0 := main_cst_4) hW V 65 rfl (by decide) (by decide) (e_cst_4 V)

theorem e_v60 : G V main_v60 = Cert.ReferenceIdeal.Read.val_main_v81 (F := Ideal) (X0 V) (X2 V) (X3 V) (X6 V) (X7 V) :=
  ssa_binary (y := main_v60) (a0 := main_v59) (a1 := main_v58) hW V 66 rfl (by decide) (by decide) (by decide) (e_v59 V) (e_v58 V)

theorem e_cst_5 : G V main_cst_5 = Cert.ReferenceIdeal.Read.val_main_cst_3 (F := Ideal)  :=
  ssa_nullary (y := main_cst_5)  hW V 67 rfl (by decide)

theorem e_v61 : G V main_v61 = Cert.ReferenceIdeal.Read.val_main_v66 (F := Ideal)  :=
  ssa_unary (y := main_v61) (a0 := main_cst_5) hW V 68 rfl (by decide) (by decide) (e_cst_5 V)

theorem e_v62 : G V main_v62 = Cert.ReferenceIdeal.Read.val_main_v83 (F := Ideal) (X0 V) (X2 V) (X3 V) (X6 V) (X7 V) :=
  ssa_binary (y := main_v62) (a0 := main_v61) (a1 := main_v60) hW V 69 rfl (by decide) (by decide) (by decide) (e_v61 V) (e_v60 V)

theorem e_v63 : G V main_v63 = Cert.ReferenceIdeal.Read.val_main_v87 (F := Ideal) (X0 V) (X2 V) (X3 V) (X4 V) (X5 V) :=
  ssa_reshape (y := main_v63) (a0 := main_v47) hW V 70 rfl (by decide) (by decide) (e_v47 V)

theorem e_v64 : G V main_v64 = Cert.ReferenceIdeal.Read.val_main_v88 (F := Ideal) (X0 V) (X2 V) (X3 V) (X6 V) (X7 V) :=
  ssa_reshape (y := main_v64) (a0 := main_v62) hW V 71 rfl (by decide) (by decide) (e_v62 V)

theorem e_cst_6 : G V main_cst_6 = Cert.ReferenceIdeal.Read.val_main_cst_15 (F := Ideal)  :=
  ssa_nullary (y := main_cst_6)  hW V 72 rfl (by decide)

theorem e_v65 : G V main_v65 = Cert.ReferenceIdeal.Read.val_main_v89 (F := Ideal)  :=
  ssa_unary (y := main_v65) (a0 := main_cst_6) hW V 73 rfl (by decide) (by decide) (e_cst_6 V)

theorem e_v66 : G V main_v66 = Cert.ReferenceIdeal.Read.val_main_v90 (F := Ideal) (X0 V) (X2 V) (X3 V) (X4 V) (X5 V) :=
  ssa_binary (y := main_v66) (a0 := main_v65) (a1 := main_v63) hW V 74 rfl (by decide) (by decide) (by decide) (e_v65 V) (e_v63 V)

theorem e_v67 : G V main_v67 = Cert.ReferenceIdeal.Read.val_main_v91 (F := Ideal) (X8 V) :=
  ssa_unary (y := main_v67) (a0 := main_arg8) hW V 75 rfl (by decide) (by decide) (e_arg8 V)

theorem e_call0_cst : G V main_call0_cst = Cert.ReferenceIdeal.Read.val_main_cst_7 (F := Ideal)  :=
  ssa_nullary (y := main_call0_cst)  hW V 76 rfl (by decide)

theorem e_call0_v0 : G V main_call0_v0 = Cert.ReferenceIdeal.Read.val_main_call0_v0 (F := Ideal)  :=
  ssa_unary (y := main_call0_v0) (a0 := main_call0_cst) hW V 77 rfl (by decide) (by decide) (e_call0_cst V)

theorem e_call0_v1 : G V main_call0_v1 = Cert.ReferenceIdeal.Read.val_main_call0_v1 (F := Ideal) (X8 V) :=
  ssa_binary (y := main_call0_v1) (a0 := main_v67) (a1 := main_call0_v0) hW V 78 rfl (by decide) (by decide) (by decide) (e_v67 V) (e_call0_v0 V)

theorem e_call0_v2 : G V main_call0_v2 = Cert.ReferenceIdeal.Read.val_main_call0_v0 (F := Ideal)  :=
  ssa_unary (y := main_call0_v2) (a0 := main_call0_cst) hW V 79 rfl (by decide) (by decide) (e_call0_cst V)

theorem e_call0_v3 : G V main_call0_v3 = Cert.ReferenceIdeal.Read.val_main_call0_v3 (F := Ideal) (X8 V) :=
  ssa_binary (y := main_call0_v3) (a0 := main_v67) (a1 := main_call0_v2) hW V 80 rfl (by decide) (by decide) (by decide) (e_v67 V) (e_call0_v2 V)

theorem e_call0_v4 : G V main_call0_v4 = Cert.ReferenceIdeal.Read.val_main_call0_v4 (F := Ideal) (X8 V) :=
  ssa_binary (y := main_call0_v4) (a0 := main_call0_v3) (a1 := main_call0_v3) hW V 81 rfl (by decide) (by decide) (by decide) (e_call0_v3 V) (e_call0_v3 V)

theorem e_call0_v5 : G V main_call0_v5 = Cert.ReferenceIdeal.Read.val_main_call0_v0 (F := Ideal)  :=
  ssa_unary (y := main_call0_v5) (a0 := main_call0_cst) hW V 82 rfl (by decide) (by decide) (e_call0_cst V)

theorem e_call0_v6 : G V main_call0_v6 = Cert.ReferenceIdeal.Read.val_main_call0_v6 (F := Ideal) (X8 V) :=
  ssa_binary (y := main_call0_v6) (a0 := main_v67) (a1 := main_call0_v5) hW V 83 rfl (by decide) (by decide) (by decide) (e_v67 V) (e_call0_v5 V)

theorem e_call0_v7 : G V main_call0_v7 = Cert.ReferenceIdeal.Read.val_main_call0_v7 (F := Ideal) (X8 V) :=
  ssa_unary (y := main_call0_v7) (a0 := main_call0_v3) hW V 84 rfl (by decide) (by decide) (e_call0_v3 V)

theorem e_call0_v8 : G V main_call0_v8 = Cert.ReferenceIdeal.Read.val_main_call0_v8 (F := Ideal) (X8 V) :=
  ssa_unary (y := main_call0_v8) (a0 := main_call0_v7) hW V 85 rfl (by decide) (by decide) (e_call0_v7 V)

theorem e_call0_v9 : G V main_call0_v9 = Cert.ReferenceIdeal.Read.val_main_call0_v9 (F := Ideal) (X8 V) :=
  ssa_unary (y := main_call0_v9) (a0 := main_call0_v8) hW V 86 rfl (by decide) (by decide) (e_call0_v8 V)

theorem e_call0_v10 : G V main_call0_v10 = Cert.ReferenceIdeal.Read.val_main_call0_v10 (F := Ideal) (X8 V) :=
  ssa_unary (y := main_call0_v10) (a0 := main_call0_v9) hW V 87 rfl (by decide) (by decide) (e_call0_v9 V)

theorem e_call0_v11 : G V main_call0_v11 = Cert.ReferenceIdeal.Read.val_main_call0_v11 (F := Ideal) (X8 V) :=
  ssa_binary (y := main_call0_v11) (a0 := main_call0_v1) (a1 := main_call0_v10) hW V 88 rfl (by decide) (by decide) (by decide) (e_call0_v1 V) (e_call0_v10 V)

theorem e_v68 : G V main_v68 = Cert.ReferenceIdeal.Read.val_main_v92_0 (F := Ideal) (X8 V) :=
  ssa_ternary (y := main_v68) (a0 := main_call0_v4) (a1 := main_call0_v6) (a2 := main_call0_v11) hW V 89 rfl (by decide) (by decide) (by decide) (by decide) (e_call0_v4 V) (e_call0_v6 V) (e_call0_v11 V)

theorem e_v69 : G V main_v69 = Cert.ReferenceIdeal.Read.val_main_v93 (F := Ideal) (X8 V) :=
  ssa_unary (y := main_v69) (a0 := main_v68) hW V 90 rfl (by decide) (by decide) (e_v68 V)

theorem e_v70 : G V main_v70 = Cert.ReferenceIdeal.Read.val_main_v94 (F := Ideal) (X0 V) (X2 V) (X3 V) (X4 V) (X5 V) (X8 V) :=
  ssa_binary (y := main_v70) (a0 := main_v66) (a1 := main_v69) hW V 91 rfl (by decide) (by decide) (by decide) (e_v66 V) (e_v69 V)

theorem e_cst_7 : G V main_cst_7 = Cert.ReferenceIdeal.Read.val_main_cst_16 (F := Ideal)  :=
  ssa_nullary (y := main_cst_7)  hW V 92 rfl (by decide)

theorem e_v71 : G V main_v71 = Cert.ReferenceIdeal.Read.val_main_v95 (F := Ideal)  :=
  ssa_unary (y := main_v71) (a0 := main_cst_7) hW V 93 rfl (by decide) (by decide) (e_cst_7 V)

theorem e_v72 : G V main_v72 = Cert.ReferenceIdeal.Read.val_main_v96 (F := Ideal) (X0 V) (X2 V) (X3 V) (X4 V) (X5 V) (X8 V) :=
  ssa_binary (y := main_v72) (a0 := main_v71) (a1 := main_v70) hW V 94 rfl (by decide) (by decide) (by decide) (e_v71 V) (e_v70 V)

theorem e_v73 : G V main_v73 = Cert.ReferenceIdeal.Read.val_main_v97 (F := Ideal) (X0 V) (X2 V) (X3 V) (X4 V) (X5 V) (X8 V) :=
  ssa_unary (y := main_v73) (a0 := main_v72) hW V 95 rfl (by decide) (by decide) (e_v72 V)

theorem e_v74 : G V main_v74 = Cert.ReferenceIdeal.Read.val_main_v99 (F := Ideal) (X0 V) (X2 V) (X3 V) (X4 V) (X5 V) (X8 V) :=
  ssa_unary (y := main_v74) (a0 := main_v73) hW V 96 rfl (by decide) (by decide) (e_v73 V)

theorem e_v75 : G V main_v75 = Cert.ReferenceIdeal.Read.val_main_v100 (F := Ideal) (X0 V) (X2 V) (X3 V) (X4 V) (X5 V) (X8 V) :=
  ssa_unary (y := main_v75) (a0 := main_v74) hW V 97 rfl (by decide) (by decide) (e_v74 V)

theorem e_v76 : G V main_v76 = Cert.ReferenceIdeal.Read.val_main_v103 (F := Ideal)  :=
  ssa_nullary (y := main_v76)  hW V 98 rfl (by decide)

theorem e_c : G V main_c = Cert.ReferenceIdeal.Read.val_main_c (F := Ideal)  :=
  ssa_nullary (y := main_c)  hW V 99 rfl (by decide)

theorem e_v77 : G V main_v77 = Cert.ReferenceIdeal.Read.val_main_v104 (F := Ideal)  :=
  ssa_unary (y := main_v77) (a0 := main_c) hW V 100 rfl (by decide) (by decide) (e_c V)

theorem e_v78 : G V main_v78 = Cert.ReferenceIdeal.Read.val_main_v105 (F := Ideal)  :=
  ssa_binary (y := main_v78) (a0 := main_v76) (a1 := main_v77) hW V 101 rfl (by decide) (by decide) (by decide) (e_v76 V) (e_v77 V)

theorem e_v79 : G V main_v79 = Cert.ReferenceIdeal.Read.val_main_v106 (F := Ideal)  :=
  ssa_unary (y := main_v79) (a0 := main_v78) hW V 102 rfl (by decide) (by decide) (e_v78 V)

theorem e_cst_8 : G V main_cst_8 = Cert.ReferenceIdeal.Read.val_main_cst_3 (F := Ideal)  :=
  ssa_nullary (y := main_cst_8)  hW V 103 rfl (by decide)

theorem e_call1_v0 : G V main_call1_v0 = Cert.ReferenceIdeal.Read.val_main_cst_3 (F := Ideal)  :=
  ssa_unary (y := main_call1_v0) (a0 := main_cst_8) hW V 104 rfl (by decide) (by decide) (e_cst_8 V)

theorem e_call1_v1 : G V main_call1_v1 = Cert.ReferenceIdeal.Read.val_main_v107_1 (F := Ideal)  :=
  ssa_unary (y := main_call1_v1) (a0 := main_v79) hW V 105 rfl (by decide) (by decide) (e_v79 V)

theorem e_call1_v2 : G V main_call1_v2 = Cert.ReferenceIdeal.Read.val_main_v16 (F := Ideal)  :=
  ssa_unary (y := main_call1_v2) (a0 := main_call1_v0) hW V 106 rfl (by decide) (by decide) (e_call1_v0 V)

theorem e_v80 : G V main_v80 = Cert.ReferenceIdeal.Read.val_main_v107_0 (F := Ideal) (X0 V) (X2 V) (X3 V) (X4 V) (X5 V) (X8 V) :=
  ssa_ternary (y := main_v80) (a0 := main_call1_v1) (a1 := main_call1_v2) (a2 := main_v75) hW V 107 rfl (by decide) (by decide) (by decide) (by decide) (e_call1_v1 V) (e_call1_v2 V) (e_v75 V)

theorem e_v81 : G V main_v81 = Cert.ReferenceIdeal.Read.val_main_v108 (F := Ideal) (X0 V) (X2 V) (X3 V) (X6 V) (X7 V) :=
  ssa_binary (y := main_v81) (a0 := main_v31) (a1 := main_v64) hW V 108 rfl (by decide) (by decide) (by decide) (e_v31 V) (e_v64 V)

theorem e_v82 : G V main_v82 = Cert.ReferenceIdeal.Read.val_main_v109 (F := Ideal) (X0 V) (X2 V) (X3 V) (X4 V) (X5 V) (X6 V) (X7 V) (X8 V) :=
  ssa_binary (y := main_v82) (a0 := main_v81) (a1 := main_v80) hW V 109 rfl (by decide) (by decide) (by decide) (e_v81 V) (e_v80 V)

theorem e_call2_call0_cst : G V main_call2_call0_cst = Cert.ReferenceIdeal.Read.val_main_cst_7 (F := Ideal)  :=
  ssa_nullary (y := main_call2_call0_cst)  hW V 110 rfl (by decide)

theorem e_call2_call0_v0 : G V main_call2_call0_v0 = Cert.ReferenceIdeal.Read.val_main_call2_call0_v0 (F := Ideal)  :=
  ssa_unary (y := main_call2_call0_v0) (a0 := main_call2_call0_cst) hW V 111 rfl (by decide) (by decide) (e_call2_call0_cst V)

theorem e_v83 : G V main_v83 = Cert.ReferenceIdeal.Read.val_main_v110 (F := Ideal) (X0 V) (X2 V) (X3 V) (X4 V) (X5 V) (X8 V) :=
  ssa_binary (y := main_v83) (a0 := main_v70) (a1 := main_call2_call0_v0) hW V 112 rfl (by decide) (by decide) (by decide) (e_v70 V) (e_call2_call0_v0 V)

theorem e_v84 : G V main_v84 = Cert.ReferenceIdeal.Read.val_main_v103 (F := Ideal)  :=
  ssa_nullary (y := main_v84)  hW V 113 rfl (by decide)

theorem e_v85 : G V main_v85 = Cert.ReferenceIdeal.Read.val_main_v112 (F := Ideal)  :=
  ssa_unary (y := main_v85) (a0 := main_v84) hW V 114 rfl (by decide) (by decide) (e_v84 V)

theorem e_v86 : G V main_v86 = Cert.ReferenceIdeal.Read.val_main_v103 (F := Ideal)  :=
  ssa_nullary (y := main_v86)  hW V 115 rfl (by decide)

theorem e_v87 : G V main_v87 = Cert.ReferenceIdeal.Read.val_main_v114 (F := Ideal)  :=
  ssa_unary (y := main_v87) (a0 := main_v86) hW V 116 rfl (by decide) (by decide) (e_v86 V)

theorem e_v88 : G V main_v88 = Cert.ReferenceIdeal.Read.val_main_v115 (F := Ideal)  :=
  ssa_unary (y := main_v88) (a0 := main_v85) hW V 117 rfl (by decide) (by decide) (e_v85 V)

theorem e_v89 : G V main_v89 = Cert.ReferenceIdeal.Read.val_main_v116 (F := Ideal)  :=
  ssa_unary (y := main_v89) (a0 := main_v87) hW V 118 rfl (by decide) (by decide) (e_v87 V)

theorem e_v90 : G V main_v90 = Cert.ReferenceIdeal.Read.val_main_v117 (F := Ideal)  :=
  ssa_binary (y := main_v90) (a0 := main_v88) (a1 := main_v89) hW V 119 rfl (by decide) (by decide) (by decide) (e_v88 V) (e_v89 V)

theorem e_v91 : G V main_v91 = Cert.ReferenceIdeal.Read.val_main_v118 (F := Ideal)  :=
  ssa_unary (y := main_v91) (a0 := main_v90) hW V 120 rfl (by decide) (by decide) (e_v90 V)

theorem e_v92 : G V main_v92 = Cert.ReferenceIdeal.Read.val_main_v119 (F := Ideal) (X0 V) (X2 V) (X3 V) (X4 V) (X5 V) (X8 V) :=
  ssa_unary (y := main_v92) (a0 := main_v83) hW V 121 rfl (by decide) (by decide) (e_v83 V)

theorem e_v93 : G V main_v93 = Cert.ReferenceIdeal.Read.val_main_v120 (F := Ideal) (X0 V) (X2 V) (X3 V) (X4 V) (X5 V) (X8 V) :=
  ssa_unary (y := main_v93) (a0 := main_v83) hW V 122 rfl (by decide) (by decide) (e_v83 V)

theorem e_v94 : G V main_v94 = Cert.ReferenceIdeal.Read.val_main_v121 (F := Ideal) (X0 V) (X2 V) (X3 V) (X4 V) (X5 V) (X8 V) :=
  ssa_unary (y := main_v94) (a0 := main_v92) hW V 123 rfl (by decide) (by decide) (e_v92 V)

theorem e_v95 : G V main_v95 = Cert.ReferenceIdeal.Read.val_main_v122 (F := Ideal) (X0 V) (X2 V) (X3 V) (X4 V) (X5 V) (X8 V) :=
  ssa_unary (y := main_v95) (a0 := main_v93) hW V 124 rfl (by decide) (by decide) (e_v93 V)

theorem e_v96 : G V main_v96 = Cert.ReferenceIdeal.Read.val_main_v123 (F := Ideal) (X0 V) (X2 V) (X3 V) (X4 V) (X5 V) (X8 V) :=
  ssa_binary (y := main_v96) (a0 := main_v94) (a1 := main_v95) hW V 125 rfl (by decide) (by decide) (by decide) (e_v94 V) (e_v95 V)

theorem e_cst_9 : G V main_cst_9 = Cert.ReferenceIdeal.Read.val_main_cst_19 (F := Ideal)  :=
  ssa_nullary (y := main_cst_9)  hW V 126 rfl (by decide)

theorem e_call3_v0 : G V main_call3_v0 = Cert.ReferenceIdeal.Read.val_main_cst_19 (F := Ideal)  :=
  ssa_unary (y := main_call3_v0) (a0 := main_cst_9) hW V 127 rfl (by decide) (by decide) (e_cst_9 V)

theorem e_call3_v1 : G V main_call3_v1 = Cert.ReferenceIdeal.Read.val_main_v124_1 (F := Ideal)  :=
  ssa_unary (y := main_call3_v1) (a0 := main_v91) hW V 128 rfl (by decide) (by decide) (e_v91 V)

theorem e_call3_v2 : G V main_call3_v2 = Cert.ReferenceIdeal.Read.val_main_call3_v2 (F := Ideal)  :=
  ssa_unary (y := main_call3_v2) (a0 := main_call3_v0) hW V 129 rfl (by decide) (by decide) (e_call3_v0 V)

theorem e_v97 : G V main_v97 = Cert.ReferenceIdeal.Read.val_main_v124_0 (F := Ideal) (X0 V) (X2 V) (X3 V) (X4 V) (X5 V) (X8 V) :=
  ssa_ternary (y := main_v97) (a0 := main_call3_v1) (a1 := main_v96) (a2 := main_call3_v2) hW V 130 rfl (by decide) (by decide) (by decide) (by decide) (e_call3_v1 V) (e_v96 V) (e_call3_v2 V)

theorem e_v98 : G V main_v98 = Cert.ReferenceIdeal.Read.val_main_v125 (F := Ideal) (X0 V) (X2 V) (X3 V) (X4 V) (X5 V) (X8 V) :=
  ssa_unary (y := main_v98) (a0 := main_v97) hW V 131 rfl (by decide) (by decide) (e_v97 V)

theorem e_v99 : G V main_v99 = Cert.ReferenceIdeal.Read.val_main_v126 (F := Ideal) (X0 V) (X2 V) (X3 V) (X4 V) (X5 V) (X6 V) (X7 V) (X8 V) :=
  ssa_unary (y := main_v99) (a0 := main_v82) hW V 132 rfl (by decide) (by decide) (e_v82 V)

theorem e_v100 : G V main_v100 = Cert.ReferenceIdeal.Read.val_main_v127 (F := Ideal) (X0 V) (X2 V) (X3 V) (X4 V) (X5 V) (X6 V) (X7 V) (X8 V) :=
  ssa_unary (y := main_v100) (a0 := main_v99) hW V 133 rfl (by decide) (by decide) (e_v99 V)

theorem e_v101 : G V main_v101 = Cert.ReferenceIdeal.Read.val_main_v128 (F := Ideal) (X0 V) (X2 V) (X3 V) (X4 V) (X5 V) (X6 V) (X7 V) (X8 V) :=
  ssa_binary (y := main_v101) (a0 := main_v98) (a1 := main_v100) hW V 134 rfl (by decide) (by decide) (by decide) (e_v98 V) (e_v100 V)

theorem e_cst_10 : G V main_cst_10 = Cert.ReferenceIdeal.Read.val_main_cst_7 (F := Ideal)  :=
  ssa_nullary (y := main_cst_10)  hW V 135 rfl (by decide)

theorem e_v102 : G V main_v102 = Cert.ReferenceIdeal.Read.val_main_v129 (F := Ideal) (X0 V) (X2 V) (X3 V) (X4 V) (X5 V) (X6 V) (X7 V) (X8 V) :=
  ssa_binary (y := main_v102) (a0 := main_v101) (a1 := main_cst_10) hW V 136 rfl (by decide) (by decide) (by decide) (e_v101 V) (e_cst_10 V)

end
end Cert.KernelIdeal.Hand
-- ==== Proof.KP2.lean ====
module

public import proofs.«01_k».proof.Proof.KP

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

section Ssa4
open Idealize.ShloMosaic.StableHlo (after)
variable {T : Topo} {sg : RefSig} {Val : EltTy → Type}
variable {ops : List (HloOp T sg Val)} {W : List (Ref sg .tc)}

theorem ssa_nary4 (hW : ops.map HloOp.writes = W.map fun w => {Proc.devRef (τ := T) .tc w}) (V : Valuation T sg Val)
    (i : ℕ) {a0 a1 a2 a3 y : Ref sg .tc}
    {f : ((k : Fin 4) → ((![a0, a1, a2, a3] : Fin 4 → Ref sg .tc) k).ty.Contents Val) → y.ty.Contents Val} {hxs hv}
    (h : ops[i]? = some (StableHlo.nary ![a0, a1, a2, a3] y f hxs hv)) (hy : y ∉ W.drop (i + 1))
    (ha0 : a0 ∉ W.drop i) (ha1 : a1 ∉ W.drop i) (ha2 : a2 ∉ W.drop i) (ha3 : a3 ∉ W.drop i)
    {v0 : a0.ty.Contents Val} (e0 : after ops V (Proc.devRef .tc a0) = v0)
    {v1 : a1.ty.Contents Val} (e1 : after ops V (Proc.devRef .tc a1) = v1)
    {v2 : a2.ty.Contents Val} (e2 : after ops V (Proc.devRef .tc a2) = v2)
    {v3 : a3.ty.Contents Val} (e3 : after ops V (Proc.devRef .tc a3) = v3) :
    after ops V (Proc.devRef .tc y) = f (Fin.cons v0 (Fin.cons v1 (Fin.cons v2 (Fin.cons v3 (fun i => i.elim0))))) := by
  rw [ssa_get hW V i h hy, StableHlo.nary4_result', ssa_src hW V i ha0, ssa_src hW V i ha1, ssa_src hW V i ha2,
    ssa_src hW V i ha3, e0, e1, e2, e3]

end Ssa4

/-! ## Block-diagonal arrays out of the heads' matrices -/

/-- One head of each block of four. -/
theorem piece (w : FVec Ideal S16x64x64 .f32) {f : ℕ → ℕ → ℕ → ℝ}
    (hw : ∀ i, w i = ((f (i 0).val (i 1).val (i 2).val : ℝ) : EReal)) (o : ℕ) (ho : o < 4)
    (h1 : S16x64x64.ShapeCasts S4x4x64x64) (h2 : S4x4x64x64.Slices ![0, o, 0, 0] S4x1x64x64)
    (h3 : S4x1x64x64.ShapeCasts S4x64x64) (i : S4x64x64.Idx) :
    shapeCast S4x64x64 (extractStridedSlice S4x1x64x64 ![0, o, 0, 0] (shapeCast S4x4x64x64 w h1) h2) h3 i
      = ((f (4 * (i 0).val + o) (i 1).val (i 2).val : ℝ) : EReal) := by
  have l0 : (i 0).val < 4 := (i 0).isLt
  have l1 : (i 1).val < 64 := (i 1).isLt
  have l2 : (i 2).val < 64 := (i 2).isLt
  refine (shapeCast_apply _ h3 i (ix4 ⟨(i 0).val, l0⟩ 0 ⟨(i 1).val, l1⟩ ⟨(i 2).val, l2⟩) ?_).trans ?_
  · rewrite [Shape.rowMajor_val_four, Shape.rowMajor_val_three]
    show (((i 0).val * 1 + 0) * 64 + (i 1).val) * 64 + (i 2).val = ((i 0).val * 64 + (i 1).val) * 64 + (i 2).val
    omega
  refine (extractStridedSlice_apply ![0, o, 0, 0] _ h2 _ (ix4 ⟨(i 0).val, l0⟩ ⟨o, ho⟩ ⟨(i 1).val, l1⟩ ⟨(i 2).val, l2⟩) (fun a => match a with
    | ⟨0, _⟩ => by show (i 0).val = 0 + (i 0).val; omega
    | ⟨1, _⟩ => by show o = o + 0; omega
    | ⟨2, _⟩ => by show (i 1).val = 0 + (i 1).val; omega
    | ⟨3, _⟩ => by show (i 2).val = 0 + (i 2).val; omega)).trans ?_
  refine (shapeCast_apply w h1 _ (ix3 ⟨4 * (i 0).val + o, by omega⟩ ⟨(i 1).val, l1⟩ ⟨(i 2).val, l2⟩) ?_).trans (hw _)
  rewrite [Shape.rowMajor_val_four, Shape.rowMajor_val_three]
  show ((4 * (i 0).val + o) * 64 + (i 1).val) * 64 + (i 2).val = (((i 0).val * 4 + o) * 64 + (i 1).val) * 64 + (i 2).val
  omega

/-- Four blocks side by side. -/
theorem cat_cols (a0 a1 a2 a3 : FVec Ideal S4x64x64 .f32) (hc) (j : S4x64x256.Idx) (n : Fin 4) (hn : (j 2).val / 64 = n.val) :
    concatenate S4x64x256 2 [⟨S4x64x64, a0⟩, ⟨S4x64x64, a1⟩, ⟨S4x64x64, a2⟩, ⟨S4x64x64, a3⟩] hc j
      = (![a0, a1, a2, a3] n) (ix3 (j 0) (j 1) ⟨(j 2).val % 64, Nat.mod_lt _ (by decide)⟩) :=
  concatenate_ofFn_apply (t := S4x64x256) (s₁ := S4x64x64) 2 (![a0, a1, a2, a3] : Fin 4 → FVec Ideal S4x64x64 .f32) hc rfl 64 rfl j n hn _ rfl
    (fun b => match b with
      | ⟨0, _⟩ => fun _ => rfl
      | ⟨1, _⟩ => fun _ => rfl
      | ⟨2, _⟩ => fun h => absurd rfl h)

/-- Four blocks under one another. -/
theorem cat_rows (a0 a1 a2 a3 : FVec Ideal S4x64x256 .f32) (hc) (j : S4x256x256.Idx) (n : Fin 4) (hn : (j 1).val / 64 = n.val) :
    concatenate S4x256x256 1 [⟨S4x64x256, a0⟩, ⟨S4x64x256, a1⟩, ⟨S4x64x256, a2⟩, ⟨S4x64x256, a3⟩] hc j
      = (![a0, a1, a2, a3] n) (ix3 (j 0) ⟨(j 1).val % 64, Nat.mod_lt _ (by decide)⟩ (j 2)) :=
  concatenate_ofFn_apply (t := S4x256x256) (s₁ := S4x64x256) 1 (![a0, a1, a2, a3] : Fin 4 → FVec Ideal S4x64x256 .f32) hc rfl 64 rfl j n hn _ rfl
    (fun b => match b with
      | ⟨0, _⟩ => fun _ => rfl
      | ⟨1, _⟩ => fun h => absurd rfl h
      | ⟨2, _⟩ => fun _ => rfl)

theorem split4 {n : ℕ} (h : n < 4) : n = 0 ∨ n = 1 ∨ n = 2 ∨ n = 3 := by omega

/-- A row of four blocks of which the others than block `n` are zero. -/
theorem row_cols (a : Fin 4 → FVec Ideal S4x64x64 .f32) (m : ℕ) {f : ℕ → ℕ → ℕ → ℝ}
    (h1 : ∀ n : Fin 4, n.val = m → ∀ i, a n i = ((f (i 0).val (i 1).val (i 2).val : ℝ) : EReal))
    (h0 : ∀ n : Fin 4, n.val ≠ m → ∀ i, a n i = ((0 : ℝ) : EReal)) (hc) (j : S4x64x256.Idx) :
    concatenate S4x64x256 2 [⟨S4x64x64, a 0⟩, ⟨S4x64x64, a 1⟩, ⟨S4x64x64, a 2⟩, ⟨S4x64x64, a 3⟩] hc j
      = (((if m = (j 2).val / 64 then f (j 0).val (j 1).val ((j 2).val % 64) else 0) : ℝ) : EReal) := by
  have l2 : (j 2).val < 256 := (j 2).isLt
  have key : ∀ n : Fin 4, (j 2).val / 64 = n.val →
      concatenate S4x64x256 2 [⟨S4x64x64, a 0⟩, ⟨S4x64x64, a 1⟩, ⟨S4x64x64, a 2⟩, ⟨S4x64x64, a 3⟩] hc j
        = (a n) (ix3 (j 0) (j 1) ⟨(j 2).val % 64, Nat.mod_lt _ (by decide)⟩) := by
    intro n hn
    rw [cat_cols _ _ _ _ _ _ n hn]
    match n with
    | 0 => rfl
    | 1 => rfl
    | 2 => rfl
    | 3 => rfl
  have e := key ⟨(j 2).val / 64, by omega⟩ rfl
  by_cases hm : m = (j 2).val / 64
  · rw [if_pos hm]; exact e.trans (h1 _ hm.symm _)
  · rw [if_neg hm]; exact e.trans (h0 _ (Ne.symm hm) _)

/-- The block-diagonal array. -/
theorem bdiag (p : Fin 4 → FVec Ideal S4x64x64 .f32) (z : FVec Ideal S4x64x64 .f32) {f : ℕ → ℕ → ℕ → ℝ}
    (hp : ∀ n : Fin 4, ∀ i, p n i = ((f (4 * (i 0).val + n.val) (i 1).val (i 2).val : ℝ) : EReal))
    (hz : ∀ i, z i = ((0 : ℝ) : EReal)) (hc hd) (j : S4x256x256.Idx) :
    concatenate S4x256x256 1
      [⟨S4x64x256, concatenate S4x64x256 2 [⟨S4x64x64, p 0⟩, ⟨S4x64x64, z⟩, ⟨S4x64x64, z⟩, ⟨S4x64x64, z⟩] hc⟩,
       ⟨S4x64x256, concatenate S4x64x256 2 [⟨S4x64x64, z⟩, ⟨S4x64x64, p 1⟩, ⟨S4x64x64, z⟩, ⟨S4x64x64, z⟩] hc⟩,
       ⟨S4x64x256, concatenate S4x64x256 2 [⟨S4x64x64, z⟩, ⟨S4x64x64, z⟩, ⟨S4x64x64, p 2⟩, ⟨S4x64x64, z⟩] hc⟩,
       ⟨S4x64x256, concatenate S4x64x256 2 [⟨S4x64x64, z⟩, ⟨S4x64x64, z⟩, ⟨S4x64x64, z⟩, ⟨S4x64x64, p 3⟩] hc⟩] hd j
      = (((if (j 1).val / 64 = (j 2).val / 64 then f (4 * (j 0).val + (j 1).val / 64) ((j 1).val % 64) ((j 2).val % 64) else 0) : ℝ) : EReal) := by
  have l1 : (j 1).val < 256 := (j 1).isLt
  rcases split4 (n := (j 1).val / 64) (by omega) with h | h | h | h
  · rw [cat_rows _ _ _ _ _ _ 0 h, h]
    exact row_cols ![p 0, z, z, z] 0 (f := fun b q r => f (4 * b + 0) q r)
      (fun n hn => by obtain rfl : n = 0 := Fin.ext hn; exact hp 0)
      (fun n hn => match n, hn with
        | 0, h => absurd rfl h | 1, _ => hz | 2, _ => hz | 3, _ => hz) hc _
  · rw [cat_rows _ _ _ _ _ _ 1 h, h]
    exact row_cols ![z, p 1, z, z] 1 (f := fun b q r => f (4 * b + 1) q r)
      (fun n hn => by obtain rfl : n = 1 := Fin.ext hn; exact hp 1)
      (fun n hn => match n, hn with
        | 0, _ => hz | 1, h => absurd rfl h | 2, _ => hz | 3, _ => hz) hc _
  · rw [cat_rows _ _ _ _ _ _ 2 h, h]
    exact row_cols ![z, z, p 2, z] 2 (f := fun b q r => f (4 * b + 2) q r)
      (fun n hn => by obtain rfl : n = 2 := Fin.ext hn; exact hp 2)
      (fun n hn => match n, hn with
        | 0, _ => hz | 1, _ => hz | 2, h => absurd rfl h | 3, _ => hz) hc _
  · rw [cat_rows _ _ _ _ _ _ 3 h, h]
    exact row_cols ![z, z, z, p 3] 3 (f := fun b q r => f (4 * b + 3) q r)
      (fun n hn => by obtain rfl : n = 3 := Fin.ext hn; exact hp 3)
      (fun n hn => match n, hn with
        | 0, _ => hz | 1, _ => hz | 2, _ => hz | 3, h => absurd rfl h) hc _

variable (V : Valuation τ sig (Elt Ideal))

/-- The convolution's weights with four rows more. -/
theorem r_v104 (j : S8x1024.Idx) (hj : (j 0).val < 4) : G V main_v104 j = X2 V (ix2 ⟨(j 0).val, hj⟩ (j 1)) := by
  have e := ssa_binary (y := main_v104) (a0 := main_arg2) (a1 := main_v103) hW V 139 rfl (by decide) (by decide) (by decide) (e_arg2 V) rfl
  refine (congrFun e j).trans ?_
  exact concatenate_pair_apply_left (t := S8x1024) 0 (X2 V) _ _ j rfl (ix2 ⟨(j 0).val, hj⟩ (j 1)) (Fin.forall_fin_two.2 ⟨rfl, rfl⟩)

theorem r_v135 (i : S1x1024.Idx) : G V main_v135 i = X5 V (ix2 ⟨(i 1).val / 64, by have : (i 1).val < 1024 := (i 1).isLt; omega⟩ ⟨(i 1).val % 64, Nat.mod_lt _ (by decide)⟩) := by
  have e : G V main_v135 = shapeCast S1x1024 (X5 V) shapeCasts_S16x64_S1x1024 := ssa_reshape (y := main_v135) (a0 := main_arg5) hW V 172 rfl (by decide) (by decide) (e_arg5 V)
  refine (congrFun e i).trans (shapeCast_apply _ _ _ _ ?_)
  have l0 : (i 0).val < 1 := (i 0).isLt
  rewrite [Shape.rowMajor_val_two, Shape.rowMajor_val_two]
  show (i 1).val / 64 * 64 + (i 1).val % 64 = (i 0).val * 1024 + (i 1).val
  omega

theorem r_v136 (i : S1x1024.Idx) : G V main_v136 i = X7 V (ix2 ⟨(i 1).val / 64, by have : (i 1).val < 1024 := (i 1).isLt; omega⟩ ⟨(i 1).val % 64, Nat.mod_lt _ (by decide)⟩) := by
  have e : G V main_v136 = shapeCast S1x1024 (X7 V) shapeCasts_S16x64_S1x1024 := ssa_reshape (y := main_v136) (a0 := main_arg7) hW V 173 rfl (by decide) (by decide) (e_arg7 V)
  refine (congrFun e i).trans (shapeCast_apply _ _ _ _ ?_)
  have l0 : (i 0).val < 1 := (i 0).isLt
  rewrite [Shape.rowMajor_val_two, Shape.rowMajor_val_two]
  show (i 1).val / 64 * 64 + (i 1).val % 64 = (i 0).val * 1024 + (i 1).val
  omega

theorem r_v119 {f : ℕ → ℕ → ℕ → ℝ} (hf : ∀ i, X4 V i = ((f (i 0).val (i 1).val (i 2).val : ℝ) : EReal)) (j : S4x256x256.Idx) :
    G V main_v119 j = (((if (j 1).val / 64 = (j 2).val / 64 then f (4 * (j 0).val + (j 1).val / 64) ((j 1).val % 64) ((j 2).val % 64) else 0) : ℝ) : EReal) := by
  have e : G V main_v105 = shapeCast S4x4x64x64 (X4 V) shapeCasts_S16x64x64_S4x4x64x64 := ssa_reshape (y := main_v105) (a0 := main_arg4) hW V 140 rfl (by decide) (by decide) (e_arg4 V)
  have ec := ssa_nullary (y := main_cst_12) hW V 141 rfl (by decide)
  have ez : G V main_v106 = broadcastInDim S4x64x64 ![] bcast_S_S4x64x64 (constant (F := Ideal) S_ .f32 0x00000000#32) := ssa_unary (y := main_v106) (a0 := main_cst_12) hW V 142 rfl (by decide) (by decide) ec
  have hz : ∀ i, broadcastInDim S4x64x64 ![] bcast_S_S4x64x64 (constant (F := Ideal) S_ .f32 0x00000000#32) i = ((0 : ℝ) : EReal) := fun i => (broadcastInDim_apply _ bcast_S_S4x64x64 _ i ix0 (fun a => a.elim0)).trans Up.c0
  generalize broadcastInDim S4x64x64 ![] bcast_S_S4x64x64 (constant (F := Ideal) S_ .f32 0x00000000#32) = z at ez hz
  have s0 := ssa_unary (y := main_v107) (a0 := main_v105) hW V 143 rfl (by decide) (by decide) e
  have p0 : G V main_v108 = shapeCast S4x64x64 (extractStridedSlice S4x1x64x64 ![0, 0, 0, 0] (shapeCast S4x4x64x64 (X4 V) shapeCasts_S16x64x64_S4x4x64x64) slices_S4x4x64x64_S4x1x64x64_0_0_0_0) shapeCasts_S4x1x64x64_S4x64x64 := ssa_reshape (y := main_v108) (a0 := main_v107) hW V 144 rfl (by decide) (by decide) s0
  have h0 := piece _ hf 0 (by decide) shapeCasts_S16x64x64_S4x4x64x64 slices_S4x4x64x64_S4x1x64x64_0_0_0_0 shapeCasts_S4x1x64x64_S4x64x64
  generalize shapeCast S4x64x64 (extractStridedSlice S4x1x64x64 ![0, 0, 0, 0] (shapeCast S4x4x64x64 (X4 V) shapeCasts_S16x64x64_S4x4x64x64) slices_S4x4x64x64_S4x1x64x64_0_0_0_0) shapeCasts_S4x1x64x64_S4x64x64 = q0 at p0 h0
  have c0 : G V main_v109 = concatenate S4x64x256 2 [⟨S4x64x64, q0⟩, ⟨S4x64x64, z⟩, ⟨S4x64x64, z⟩, ⟨S4x64x64, z⟩] concatenates_S4x64x64_S4x64x64_S4x64x64_S4x64x64_S4x64x256_d2 := ssa_nary4 (y := main_v109) (a0 := main_v108) (a1 := main_v106) (a2 := main_v106) (a3 := main_v106) hW V 145 rfl (by decide) (by decide) (by decide) (by decide) (by decide) p0 ez ez ez
  have s1 := ssa_unary (y := main_v110) (a0 := main_v105) hW V 146 rfl (by decide) (by decide) e
  have p1 : G V main_v111 = shapeCast S4x64x64 (extractStridedSlice S4x1x64x64 ![0, 1, 0, 0] (shapeCast S4x4x64x64 (X4 V) shapeCasts_S16x64x64_S4x4x64x64) slices_S4x4x64x64_S4x1x64x64_0_1_0_0) shapeCasts_S4x1x64x64_S4x64x64 := ssa_reshape (y := main_v111) (a0 := main_v110) hW V 147 rfl (by decide) (by decide) s1
  have h1 := piece _ hf 1 (by decide) shapeCasts_S16x64x64_S4x4x64x64 slices_S4x4x64x64_S4x1x64x64_0_1_0_0 shapeCasts_S4x1x64x64_S4x64x64
  generalize shapeCast S4x64x64 (extractStridedSlice S4x1x64x64 ![0, 1, 0, 0] (shapeCast S4x4x64x64 (X4 V) shapeCasts_S16x64x64_S4x4x64x64) slices_S4x4x64x64_S4x1x64x64_0_1_0_0) shapeCasts_S4x1x64x64_S4x64x64 = q1 at p1 h1
  have c1 : G V main_v112 = concatenate S4x64x256 2 [⟨S4x64x64, z⟩, ⟨S4x64x64, q1⟩, ⟨S4x64x64, z⟩, ⟨S4x64x64, z⟩] concatenates_S4x64x64_S4x64x64_S4x64x64_S4x64x64_S4x64x256_d2 := ssa_nary4 (y := main_v112) (a0 := main_v106) (a1 := main_v111) (a2 := main_v106) (a3 := main_v106) hW V 148 rfl (by decide) (by decide) (by decide) (by decide) (by decide) ez p1 ez ez
  have s2 := ssa_unary (y := main_v113) (a0 := main_v105) hW V 149 rfl (by decide) (by decide) e
  have p2 : G V main_v114 = shapeCast S4x64x64 (extractStridedSlice S4x1x64x64 ![0, 2, 0, 0] (shapeCast S4x4x64x64 (X4 V) shapeCasts_S16x64x64_S4x4x64x64) slices_S4x4x64x64_S4x1x64x64_0_2_0_0) shapeCasts_S4x1x64x64_S4x64x64 := ssa_reshape (y := main_v114) (a0 := main_v113) hW V 150 rfl (by decide) (by decide) s2
  have h2 := piece _ hf 2 (by decide) shapeCasts_S16x64x64_S4x4x64x64 slices_S4x4x64x64_S4x1x64x64_0_2_0_0 shapeCasts_S4x1x64x64_S4x64x64
  generalize shapeCast S4x64x64 (extractStridedSlice S4x1x64x64 ![0, 2, 0, 0] (shapeCast S4x4x64x64 (X4 V) shapeCasts_S16x64x64_S4x4x64x64) slices_S4x4x64x64_S4x1x64x64_0_2_0_0) shapeCasts_S4x1x64x64_S4x64x64 = q2 at p2 h2
  have c2 : G V main_v115 = concatenate S4x64x256 2 [⟨S4x64x64, z⟩, ⟨S4x64x64, z⟩, ⟨S4x64x64, q2⟩, ⟨S4x64x64, z⟩] concatenates_S4x64x64_S4x64x64_S4x64x64_S4x64x64_S4x64x256_d2 := ssa_nary4 (y := main_v115) (a0 := main_v106) (a1 := main_v106) (a2 := main_v114) (a3 := main_v106) hW V 151 rfl (by decide) (by decide) (by decide) (by decide) (by decide) ez ez p2 ez
  have s3 := ssa_unary (y := main_v116) (a0 := main_v105) hW V 152 rfl (by decide) (by decide) e
  have p3 : G V main_v117 = shapeCast S4x64x64 (extractStridedSlice S4x1x64x64 ![0, 3, 0, 0] (shapeCast S4x4x64x64 (X4 V) shapeCasts_S16x64x64_S4x4x64x64) slices_S4x4x64x64_S4x1x64x64_0_3_0_0) shapeCasts_S4x1x64x64_S4x64x64 := ssa_reshape (y := main_v117) (a0 := main_v116) hW V 153 rfl (by decide) (by decide) s3
  have h3 := piece _ hf 3 (by decide) shapeCasts_S16x64x64_S4x4x64x64 slices_S4x4x64x64_S4x1x64x64_0_3_0_0 shapeCasts_S4x1x64x64_S4x64x64
  generalize shapeCast S4x64x64 (extractStridedSlice S4x1x64x64 ![0, 3, 0, 0] (shapeCast S4x4x64x64 (X4 V) shapeCasts_S16x64x64_S4x4x64x64) slices_S4x4x64x64_S4x1x64x64_0_3_0_0) shapeCasts_S4x1x64x64_S4x64x64 = q3 at p3 h3
  have c3 : G V main_v118 = concatenate S4x64x256 2 [⟨S4x64x64, z⟩, ⟨S4x64x64, z⟩, ⟨S4x64x64, z⟩, ⟨S4x64x64, q3⟩] concatenates_S4x64x64_S4x64x64_S4x64x64_S4x64x64_S4x64x256_d2 := ssa_nary4 (y := main_v118) (a0 := main_v106) (a1 := main_v106) (a2 := main_v106) (a3 := main_v117) hW V 154 rfl (by decide) (by decide) (by decide) (by decide) (by decide) ez ez ez p3
  have d : G V main_v119 = concatenate S4x256x256 1 [⟨S4x64x256, concatenate S4x64x256 2 [⟨S4x64x64, q0⟩, ⟨S4x64x64, z⟩, ⟨S4x64x64, z⟩, ⟨S4x64x64, z⟩] concatenates_S4x64x64_S4x64x64_S4x64x64_S4x64x64_S4x64x256_d2⟩, ⟨S4x64x256, concatenate S4x64x256 2 [⟨S4x64x64, z⟩, ⟨S4x64x64, q1⟩, ⟨S4x64x64, z⟩, ⟨S4x64x64, z⟩] concatenates_S4x64x64_S4x64x64_S4x64x64_S4x64x64_S4x64x256_d2⟩, ⟨S4x64x256, concatenate S4x64x256 2 [⟨S4x64x64, z⟩, ⟨S4x64x64, z⟩, ⟨S4x64x64, q2⟩, ⟨S4x64x64, z⟩] concatenates_S4x64x64_S4x64x64_S4x64x64_S4x64x64_S4x64x256_d2⟩, ⟨S4x64x256, concatenate S4x64x256 2 [⟨S4x64x64, z⟩, ⟨S4x64x64, z⟩, ⟨S4x64x64, z⟩, ⟨S4x64x64, q3⟩] concatenates_S4x64x64_S4x64x64_S4x64x64_S4x64x64_S4x64x256_d2⟩] concatenates_S4x64x256_S4x64x256_S4x64x256_S4x64x256_S4x256x256_d1 := ssa_nary4 (y := main_v119) (a0 := main_v109) (a1 := main_v112) (a2 := main_v115) (a3 := main_v118) hW V 155 rfl (by decide) (by decide) (by decide) (by decide) (by decide) c0 c1 c2 c3
  refine (congrFun d j).trans ?_
  exact bdiag ![q0, q1, q2, q3] z (fun n => match n with
      | 0 => h0
      | 1 => h1
      | 2 => h2
      | 3 => h3) hz _ _ j

theorem r_v134 {f : ℕ → ℕ → ℕ → ℝ} (hf : ∀ i, X6 V i = ((f (i 0).val (i 1).val (i 2).val : ℝ) : EReal)) (j : S4x256x256.Idx) :
    G V main_v134 j = (((if (j 1).val / 64 = (j 2).val / 64 then f (4 * (j 0).val + (j 1).val / 64) ((j 1).val % 64) ((j 2).val % 64) else 0) : ℝ) : EReal) := by
  have e : G V main_v120 = shapeCast S4x4x64x64 (X6 V) shapeCasts_S16x64x64_S4x4x64x64 := ssa_reshape (y := main_v120) (a0 := main_arg6) hW V 156 rfl (by decide) (by decide) (e_arg6 V)
  have ec := ssa_nullary (y := main_cst_13) hW V 157 rfl (by decide)
  have ez : G V main_v121 = broadcastInDim S4x64x64 ![] bcast_S_S4x64x64 (constant (F := Ideal) S_ .f32 0x00000000#32) := ssa_unary (y := main_v121) (a0 := main_cst_13) hW V 158 rfl (by decide) (by decide) ec
  have hz : ∀ i, broadcastInDim S4x64x64 ![] bcast_S_S4x64x64 (constant (F := Ideal) S_ .f32 0x00000000#32) i = ((0 : ℝ) : EReal) := fun i => (broadcastInDim_apply _ bcast_S_S4x64x64 _ i ix0 (fun a => a.elim0)).trans Up.c0
  generalize broadcastInDim S4x64x64 ![] bcast_S_S4x64x64 (constant (F := Ideal) S_ .f32 0x00000000#32) = z at ez hz
  have s0 := ssa_unary (y := main_v122) (a0 := main_v120) hW V 159 rfl (by decide) (by decide) e
  have p0 : G V main_v123 = shapeCast S4x64x64 (extractStridedSlice S4x1x64x64 ![0, 0, 0, 0] (shapeCast S4x4x64x64 (X6 V) shapeCasts_S16x64x64_S4x4x64x64) slices_S4x4x64x64_S4x1x64x64_0_0_0_0) shapeCasts_S4x1x64x64_S4x64x64 := ssa_reshape (y := main_v123) (a0 := main_v122) hW V 160 rfl (by decide) (by decide) s0
  have h0 := piece _ hf 0 (by decide) shapeCasts_S16x64x64_S4x4x64x64 slices_S4x4x64x64_S4x1x64x64_0_0_0_0 shapeCasts_S4x1x64x64_S4x64x64
  generalize shapeCast S4x64x64 (extractStridedSlice S4x1x64x64 ![0, 0, 0, 0] (shapeCast S4x4x64x64 (X6 V) shapeCasts_S16x64x64_S4x4x64x64) slices_S4x4x64x64_S4x1x64x64_0_0_0_0) shapeCasts_S4x1x64x64_S4x64x64 = q0 at p0 h0
  have c0 : G V main_v124 = concatenate S4x64x256 2 [⟨S4x64x64, q0⟩, ⟨S4x64x64, z⟩, ⟨S4x64x64, z⟩, ⟨S4x64x64, z⟩] concatenates_S4x64x64_S4x64x64_S4x64x64_S4x64x64_S4x64x256_d2 := ssa_nary4 (y := main_v124) (a0 := main_v123) (a1 := main_v121) (a2 := main_v121) (a3 := main_v121) hW V 161 rfl (by decide) (by decide) (by decide) (by decide) (by decide) p0 ez ez ez
  have s1 := ssa_unary (y := main_v125) (a0 := main_v120) hW V 162 rfl (by decide) (by decide) e
  have p1 : G V main_v126 = shapeCast S4x64x64 (extractStridedSlice S4x1x64x64 ![0, 1, 0, 0] (shapeCast S4x4x64x64 (X6 V) shapeCasts_S16x64x64_S4x4x64x64) slices_S4x4x64x64_S4x1x64x64_0_1_0_0) shapeCasts_S4x1x64x64_S4x64x64 := ssa_reshape (y := main_v126) (a0 := main_v125) hW V 163 rfl (by decide) (by decide) s1
  have h1 := piece _ hf 1 (by decide) shapeCasts_S16x64x64_S4x4x64x64 slices_S4x4x64x64_S4x1x64x64_0_1_0_0 shapeCasts_S4x1x64x64_S4x64x64
  generalize shapeCast S4x64x64 (extractStridedSlice S4x1x64x64 ![0, 1, 0, 0] (shapeCast S4x4x64x64 (X6 V) shapeCasts_S16x64x64_S4x4x64x64) slices_S4x4x64x64_S4x1x64x64_0_1_0_0) shapeCasts_S4x1x64x64_S4x64x64 = q1 at p1 h1
  have c1 : G V main_v127 = concatenate S4x64x256 2 [⟨S4x64x64, z⟩, ⟨S4x64x64, q1⟩, ⟨S4x64x64, z⟩, ⟨S4x64x64, z⟩] concatenates_S4x64x64_S4x64x64_S4x64x64_S4x64x64_S4x64x256_d2 := ssa_nary4 (y := main_v127) (a0 := main_v121) (a1 := main_v126) (a2 := main_v121) (a3 := main_v121) hW V 164 rfl (by decide) (by decide) (by decide) (by decide) (by decide) ez p1 ez ez
  have s2 := ssa_unary (y := main_v128) (a0 := main_v120) hW V 165 rfl (by decide) (by decide) e
  have p2 : G V main_v129 = shapeCast S4x64x64 (extractStridedSlice S4x1x64x64 ![0, 2, 0, 0] (shapeCast S4x4x64x64 (X6 V) shapeCasts_S16x64x64_S4x4x64x64) slices_S4x4x64x64_S4x1x64x64_0_2_0_0) shapeCasts_S4x1x64x64_S4x64x64 := ssa_reshape (y := main_v129) (a0 := main_v128) hW V 166 rfl (by decide) (by decide) s2
  have h2 := piece _ hf 2 (by decide) shapeCasts_S16x64x64_S4x4x64x64 slices_S4x4x64x64_S4x1x64x64_0_2_0_0 shapeCasts_S4x1x64x64_S4x64x64
  generalize shapeCast S4x64x64 (extractStridedSlice S4x1x64x64 ![0, 2, 0, 0] (shapeCast S4x4x64x64 (X6 V) shapeCasts_S16x64x64_S4x4x64x64) slices_S4x4x64x64_S4x1x64x64_0_2_0_0) shapeCasts_S4x1x64x64_S4x64x64 = q2 at p2 h2
  have c2 : G V main_v130 = concatenate S4x64x256 2 [⟨S4x64x64, z⟩, ⟨S4x64x64, z⟩, ⟨S4x64x64, q2⟩, ⟨S4x64x64, z⟩] concatenates_S4x64x64_S4x64x64_S4x64x64_S4x64x64_S4x64x256_d2 := ssa_nary4 (y := main_v130) (a0 := main_v121) (a1 := main_v121) (a2 := main_v129) (a3 := main_v121) hW V 167 rfl (by decide) (by decide) (by decide) (by decide) (by decide) ez ez p2 ez
  have s3 := ssa_unary (y := main_v131) (a0 := main_v120) hW V 168 rfl (by decide) (by decide) e
  have p3 : G V main_v132 = shapeCast S4x64x64 (extractStridedSlice S4x1x64x64 ![0, 3, 0, 0] (shapeCast S4x4x64x64 (X6 V) shapeCasts_S16x64x64_S4x4x64x64) slices_S4x4x64x64_S4x1x64x64_0_3_0_0) shapeCasts_S4x1x64x64_S4x64x64 := ssa_reshape (y := main_v132) (a0 := main_v131) hW V 169 rfl (by decide) (by decide) s3
  have h3 := piece _ hf 3 (by decide) shapeCasts_S16x64x64_S4x4x64x64 slices_S4x4x64x64_S4x1x64x64_0_3_0_0 shapeCasts_S4x1x64x64_S4x64x64
  generalize shapeCast S4x64x64 (extractStridedSlice S4x1x64x64 ![0, 3, 0, 0] (shapeCast S4x4x64x64 (X6 V) shapeCasts_S16x64x64_S4x4x64x64) slices_S4x4x64x64_S4x1x64x64_0_3_0_0) shapeCasts_S4x1x64x64_S4x64x64 = q3 at p3 h3
  have c3 : G V main_v133 = concatenate S4x64x256 2 [⟨S4x64x64, z⟩, ⟨S4x64x64, z⟩, ⟨S4x64x64, z⟩, ⟨S4x64x64, q3⟩] concatenates_S4x64x64_S4x64x64_S4x64x64_S4x64x64_S4x64x256_d2 := ssa_nary4 (y := main_v133) (a0 := main_v121) (a1 := main_v121) (a2 := main_v121) (a3 := main_v132) hW V 170 rfl (by decide) (by decide) (by decide) (by decide) (by decide) ez ez ez p3
  have d : G V main_v134 = concatenate S4x256x256 1 [⟨S4x64x256, concatenate S4x64x256 2 [⟨S4x64x64, q0⟩, ⟨S4x64x64, z⟩, ⟨S4x64x64, z⟩, ⟨S4x64x64, z⟩] concatenates_S4x64x64_S4x64x64_S4x64x64_S4x64x64_S4x64x256_d2⟩, ⟨S4x64x256, concatenate S4x64x256 2 [⟨S4x64x64, z⟩, ⟨S4x64x64, q1⟩, ⟨S4x64x64, z⟩, ⟨S4x64x64, z⟩] concatenates_S4x64x64_S4x64x64_S4x64x64_S4x64x64_S4x64x256_d2⟩, ⟨S4x64x256, concatenate S4x64x256 2 [⟨S4x64x64, z⟩, ⟨S4x64x64, z⟩, ⟨S4x64x64, q2⟩, ⟨S4x64x64, z⟩] concatenates_S4x64x64_S4x64x64_S4x64x64_S4x64x64_S4x64x256_d2⟩, ⟨S4x64x256, concatenate S4x64x256 2 [⟨S4x64x64, z⟩, ⟨S4x64x64, z⟩, ⟨S4x64x64, z⟩, ⟨S4x64x64, q3⟩] concatenates_S4x64x64_S4x64x64_S4x64x64_S4x64x64_S4x64x256_d2⟩] concatenates_S4x64x256_S4x64x256_S4x64x256_S4x64x256_S4x256x256_d1 := ssa_nary4 (y := main_v134) (a0 := main_v124) (a1 := main_v127) (a2 := main_v130) (a3 := main_v133) hW V 171 rfl (by decide) (by decide) (by decide) (by decide) (by decide) c0 c1 c2 c3
  refine (congrFun d j).trans ?_
  exact bdiag ![q0, q1, q2, q3] z (fun n => match n with
      | 0 => h0
      | 1 => h1
      | 2 => h2
      | 3 => h3) hz _ _ j

end Cert.KernelIdeal.Hand
-- ==== Proof.KB.lean ====
module

public import proofs.«01_k».proof.Proof.KP2
public import proofs.«01_k».proof.Proof.Dats

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window Dat)

variable {F : FTy → Type} [FloatOps F] [Named F]
variable (m : (ℓ : Loc nD τ sig) → Buf (Elt F) ℓ)

/-- The memory of one device, as its buffers' contents. -/
abbrev Vm (c : Dev nD) : Valuation τ sig (Elt F) := fun b => m (c, b)

/-! ## Where the blocks lie in their arrays -/

theorem ixw0 : ∀ t : Fin grid0.N, win0_0.index t 0 = 0 ∧ win0_0.index t 1 = t.val := by decide +kernel

theorem em0 (t : Fin cfg0.N) (y : S2048x256.Idx) : ((cfg0.win 0).blk t).view.emb y
    = (ix2 ⟨(y 0).val, (y 0).isLt⟩ ⟨256 * (t.val) + (y 1).val, by have ht : t.val < 4 := t.isLt; have hy : (y 1).val < 256 := (y 1).isLt; omega⟩ : S2048x5632.Idx) :=
  funext fun a => Fin.ext (match a with
    | ⟨0, _⟩ => (Window.rect_emb_val win0_0 t y 0).trans (by
        rw [(ixw0 t).1]
        show 0 * 2048 + (y 0).val = (y 0).val
        omega)
    | ⟨1, _⟩ => (Window.rect_emb_val win0_0 t y 1).trans (by
        rw [(ixw0 t).2]
        show (t.val) * 256 + (y 1).val = 256 * (t.val) + (y 1).val
        omega))

theorem ib0 (c : Dev nD) (t : Fin cfg0.N) (y : S2048x256.Idx) : iblk (F := F) m c 0 t y
    = G (F := F) (Vm m c) main_arg0 (ix2 ⟨(y 0).val, (y 0).isLt⟩ ⟨256 * (t.val) + (y 1).val, by have ht : t.val < 4 := t.isLt; have hy : (y 1).val < 256 := (y 1).isLt; omega⟩ : S2048x5632.Idx) := by
  have e : iblk (F := F) m c 0 t = ((cfg0.win 0).blk t).view.read (Elt F) (G (F := F) (Vm m c) main_arg0) := rfl
  rw [e]
  generalize G (F := F) (Vm m c) main_arg0 = A
  exact congrArg A (em0 t y)

theorem ixw1 : ∀ t : Fin grid0.N, win0_1.index t 0 = 0 ∧ win0_1.index t 1 = 4 + t.val := by decide +kernel

theorem em1 (t : Fin cfg0.N) (y : S2048x256.Idx) : ((cfg0.win 1).blk t).view.emb y
    = (ix2 ⟨(y 0).val, (y 0).isLt⟩ ⟨256 * (4 + t.val) + (y 1).val, by have ht : t.val < 4 := t.isLt; have hy : (y 1).val < 256 := (y 1).isLt; omega⟩ : S2048x5632.Idx) :=
  funext fun a => Fin.ext (match a with
    | ⟨0, _⟩ => (Window.rect_emb_val win0_1 t y 0).trans (by
        rw [(ixw1 t).1]
        show 0 * 2048 + (y 0).val = (y 0).val
        omega)
    | ⟨1, _⟩ => (Window.rect_emb_val win0_1 t y 1).trans (by
        rw [(ixw1 t).2]
        show (4 + t.val) * 256 + (y 1).val = 256 * (4 + t.val) + (y 1).val
        omega))

theorem ib1 (c : Dev nD) (t : Fin cfg0.N) (y : S2048x256.Idx) : iblk (F := F) m c 1 t y
    = G (F := F) (Vm m c) main_arg0 (ix2 ⟨(y 0).val, (y 0).isLt⟩ ⟨256 * (4 + t.val) + (y 1).val, by have ht : t.val < 4 := t.isLt; have hy : (y 1).val < 256 := (y 1).isLt; omega⟩ : S2048x5632.Idx) := by
  have e : iblk (F := F) m c 1 t = ((cfg0.win 1).blk t).view.read (Elt F) (G (F := F) (Vm m c) main_arg0) := rfl
  rw [e]
  generalize G (F := F) (Vm m c) main_arg0 = A
  exact congrArg A (em1 t y)

theorem ixw2 : ∀ t : Fin grid0.N, win0_2.index t 0 = 0 ∧ win0_2.index t 1 = t.val := by decide +kernel

theorem em2 (t : Fin cfg0.N) (y : S2048x256.Idx) : ((cfg0.win 2).blk t).view.emb y
    = (ix2 ⟨(y 0).val, (y 0).isLt⟩ ⟨256 * (t.val) + (y 1).val, by have ht : t.val < 4 := t.isLt; have hy : (y 1).val < 256 := (y 1).isLt; omega⟩ : S2048x2048.Idx) :=
  funext fun a => Fin.ext (match a with
    | ⟨0, _⟩ => (Window.rect_emb_val win0_2 t y 0).trans (by
        rw [(ixw2 t).1]
        show 0 * 2048 + (y 0).val = (y 0).val
        omega)
    | ⟨1, _⟩ => (Window.rect_emb_val win0_2 t y 1).trans (by
        rw [(ixw2 t).2]
        show (t.val) * 256 + (y 1).val = 256 * (t.val) + (y 1).val
        omega))

theorem ib2 (c : Dev nD) (t : Fin cfg0.N) (y : S2048x256.Idx) : iblk (F := F) m c 2 t y
    = G (F := F) (Vm m c) main_arg1 (ix2 ⟨(y 0).val, (y 0).isLt⟩ ⟨256 * (t.val) + (y 1).val, by have ht : t.val < 4 := t.isLt; have hy : (y 1).val < 256 := (y 1).isLt; omega⟩ : S2048x2048.Idx) := by
  have e : iblk (F := F) m c 2 t = ((cfg0.win 2).blk t).view.read (Elt F) (G (F := F) (Vm m c) main_arg1) := rfl
  rw [e]
  generalize G (F := F) (Vm m c) main_arg1 = A
  exact congrArg A (em2 t y)

theorem ixw3 : ∀ t : Fin grid0.N, win0_3.index t 0 = 0 ∧ win0_3.index t 1 = t.val := by decide +kernel

theorem em3 (t : Fin cfg0.N) (y : S2048x256.Idx) : ((cfg0.win 3).blk t).view.emb y
    = (ix2 ⟨(y 0).val, (y 0).isLt⟩ ⟨256 * (t.val) + (y 1).val, by have ht : t.val < 4 := t.isLt; have hy : (y 1).val < 256 := (y 1).isLt; omega⟩ : S2048x1024.Idx) :=
  funext fun a => Fin.ext (match a with
    | ⟨0, _⟩ => (Window.rect_emb_val win0_3 t y 0).trans (by
        rw [(ixw3 t).1]
        show 0 * 2048 + (y 0).val = (y 0).val
        omega)
    | ⟨1, _⟩ => (Window.rect_emb_val win0_3 t y 1).trans (by
        rw [(ixw3 t).2]
        show (t.val) * 256 + (y 1).val = 256 * (t.val) + (y 1).val
        omega))

theorem ib3 (c : Dev nD) (t : Fin cfg0.N) (y : S2048x256.Idx) : iblk (F := F) m c 3 t y
    = G (F := F) (Vm m c) main_v102 (ix2 ⟨(y 0).val, (y 0).isLt⟩ ⟨256 * (t.val) + (y 1).val, by have ht : t.val < 4 := t.isLt; have hy : (y 1).val < 256 := (y 1).isLt; omega⟩ : S2048x1024.Idx) := by
  have e : iblk (F := F) m c 3 t = ((cfg0.win 3).blk t).view.read (Elt F) (G (F := F) (Vm m c) main_v102) := rfl
  rw [e]
  generalize G (F := F) (Vm m c) main_v102 = A
  exact congrArg A (em3 t y)

theorem ixw4 : ∀ t : Fin grid0.N, win0_4.index t 0 = 0 ∧ win0_4.index t 1 = t.val := by decide +kernel

theorem em4 (t : Fin cfg0.N) (y : S8x256.Idx) : ((cfg0.win 4).blk t).view.emb y
    = (ix2 ⟨(y 0).val, (y 0).isLt⟩ ⟨256 * (t.val) + (y 1).val, by have ht : t.val < 4 := t.isLt; have hy : (y 1).val < 256 := (y 1).isLt; omega⟩ : S8x1024.Idx) :=
  funext fun a => Fin.ext (match a with
    | ⟨0, _⟩ => (Window.rect_emb_val win0_4 t y 0).trans (by
        rw [(ixw4 t).1]
        show 0 * 8 + (y 0).val = (y 0).val
        omega)
    | ⟨1, _⟩ => (Window.rect_emb_val win0_4 t y 1).trans (by
        rw [(ixw4 t).2]
        show (t.val) * 256 + (y 1).val = 256 * (t.val) + (y 1).val
        omega))

theorem ib4 (c : Dev nD) (t : Fin cfg0.N) (y : S8x256.Idx) : iblk (F := F) m c 4 t y
    = G (F := F) (Vm m c) main_v104 (ix2 ⟨(y 0).val, (y 0).isLt⟩ ⟨256 * (t.val) + (y 1).val, by have ht : t.val < 4 := t.isLt; have hy : (y 1).val < 256 := (y 1).isLt; omega⟩ : S8x1024.Idx) := by
  have e : iblk (F := F) m c 4 t = ((cfg0.win 4).blk t).view.read (Elt F) (G (F := F) (Vm m c) main_v104) := rfl
  rw [e]
  generalize G (F := F) (Vm m c) main_v104 = A
  exact congrArg A (em4 t y)

theorem ixw5 : ∀ t : Fin grid0.N, win0_5.index t 0 = 0 ∧ win0_5.index t 1 = t.val := by decide +kernel

theorem em5 (t : Fin cfg0.N) (y : S1x256.Idx) : ((cfg0.win 5).blk t).view.emb y
    = (ix2 ⟨(y 0).val, (y 0).isLt⟩ ⟨256 * (t.val) + (y 1).val, by have ht : t.val < 4 := t.isLt; have hy : (y 1).val < 256 := (y 1).isLt; omega⟩ : S1x1024.Idx) :=
  funext fun a => Fin.ext (match a with
    | ⟨0, _⟩ => (Window.rect_emb_val win0_5 t y 0).trans (by
        rw [(ixw5 t).1]
        show 0 * 1 + (y 0).val = (y 0).val
        omega)
    | ⟨1, _⟩ => (Window.rect_emb_val win0_5 t y 1).trans (by
        rw [(ixw5 t).2]
        show (t.val) * 256 + (y 1).val = 256 * (t.val) + (y 1).val
        omega))

theorem ib5 (c : Dev nD) (t : Fin cfg0.N) (y : S1x256.Idx) : iblk (F := F) m c 5 t y
    = G (F := F) (Vm m c) main_arg3 (ix2 ⟨(y 0).val, (y 0).isLt⟩ ⟨256 * (t.val) + (y 1).val, by have ht : t.val < 4 := t.isLt; have hy : (y 1).val < 256 := (y 1).isLt; omega⟩ : S1x1024.Idx) := by
  have e : iblk (F := F) m c 5 t = ((cfg0.win 5).blk t).view.read (Elt F) (G (F := F) (Vm m c) main_arg3) := rfl
  rw [e]
  generalize G (F := F) (Vm m c) main_arg3 = A
  exact congrArg A (em5 t y)

theorem ixw6 : ∀ t : Fin grid0.N, win0_6.index t 0 = t.val ∧ win0_6.index t 1 = 0 ∧ win0_6.index t 2 = 0 := by decide +kernel

theorem em6 (t : Fin cfg0.N) (y : S1x256x256.Idx) : ((cfg0.win 6).blk t).view.emb y
    = (ix3 ⟨t.val, t.isLt⟩ ⟨(y 1).val, (y 1).isLt⟩ ⟨(y 2).val, (y 2).isLt⟩ : S4x256x256.Idx) :=
  funext fun a => Fin.ext (match a with
    | ⟨0, _⟩ => (Window.rect_emb_val win0_6 t y 0).trans (by
        rw [(ixw6 t).1]
        have hy : (y 0).val < 1 := (y 0).isLt
        show t.val * 1 + (y 0).val = t.val
        omega)
    | ⟨1, _⟩ => (Window.rect_emb_val win0_6 t y 1).trans (by
        rw [(ixw6 t).2.1]
        show 0 * 256 + (y 1).val = (y 1).val
        omega)
    | ⟨2, _⟩ => (Window.rect_emb_val win0_6 t y 2).trans (by
        rw [(ixw6 t).2.2]
        show 0 * 256 + (y 2).val = (y 2).val
        omega))

theorem ib6 (c : Dev nD) (t : Fin cfg0.N) (y : S1x256x256.Idx) : iblk (F := F) m c 6 t y
    = G (F := F) (Vm m c) main_v119 (ix3 ⟨t.val, t.isLt⟩ ⟨(y 1).val, (y 1).isLt⟩ ⟨(y 2).val, (y 2).isLt⟩ : S4x256x256.Idx) := by
  have e : iblk (F := F) m c 6 t = ((cfg0.win 6).blk t).view.read (Elt F) (G (F := F) (Vm m c) main_v119) := rfl
  rw [e]
  generalize G (F := F) (Vm m c) main_v119 = A
  exact congrArg A (em6 t y)

theorem ixw7 : ∀ t : Fin grid0.N, win0_7.index t 0 = 0 ∧ win0_7.index t 1 = t.val := by decide +kernel

theorem em7 (t : Fin cfg0.N) (y : S1x256.Idx) : ((cfg0.win 7).blk t).view.emb y
    = (ix2 ⟨(y 0).val, (y 0).isLt⟩ ⟨256 * (t.val) + (y 1).val, by have ht : t.val < 4 := t.isLt; have hy : (y 1).val < 256 := (y 1).isLt; omega⟩ : S1x1024.Idx) :=
  funext fun a => Fin.ext (match a with
    | ⟨0, _⟩ => (Window.rect_emb_val win0_7 t y 0).trans (by
        rw [(ixw7 t).1]
        show 0 * 1 + (y 0).val = (y 0).val
        omega)
    | ⟨1, _⟩ => (Window.rect_emb_val win0_7 t y 1).trans (by
        rw [(ixw7 t).2]
        show (t.val) * 256 + (y 1).val = 256 * (t.val) + (y 1).val
        omega))

theorem ib7 (c : Dev nD) (t : Fin cfg0.N) (y : S1x256.Idx) : iblk (F := F) m c 7 t y
    = G (F := F) (Vm m c) main_v135 (ix2 ⟨(y 0).val, (y 0).isLt⟩ ⟨256 * (t.val) + (y 1).val, by have ht : t.val < 4 := t.isLt; have hy : (y 1).val < 256 := (y 1).isLt; omega⟩ : S1x1024.Idx) := by
  have e : iblk (F := F) m c 7 t = ((cfg0.win 7).blk t).view.read (Elt F) (G (F := F) (Vm m c) main_v135) := rfl
  rw [e]
  generalize G (F := F) (Vm m c) main_v135 = A
  exact congrArg A (em7 t y)

theorem ixw8 : ∀ t : Fin grid0.N, win0_8.index t 0 = t.val ∧ win0_8.index t 1 = 0 ∧ win0_8.index t 2 = 0 := by decide +kernel

theorem em8 (t : Fin cfg0.N) (y : S1x256x256.Idx) : ((cfg0.win 8).blk t).view.emb y
    = (ix3 ⟨t.val, t.isLt⟩ ⟨(y 1).val, (y 1).isLt⟩ ⟨(y 2).val, (y 2).isLt⟩ : S4x256x256.Idx) :=
  funext fun a => Fin.ext (match a with
    | ⟨0, _⟩ => (Window.rect_emb_val win0_8 t y 0).trans (by
        rw [(ixw8 t).1]
        have hy : (y 0).val < 1 := (y 0).isLt
        show t.val * 1 + (y 0).val = t.val
        omega)
    | ⟨1, _⟩ => (Window.rect_emb_val win0_8 t y 1).trans (by
        rw [(ixw8 t).2.1]
        show 0 * 256 + (y 1).val = (y 1).val
        omega)
    | ⟨2, _⟩ => (Window.rect_emb_val win0_8 t y 2).trans (by
        rw [(ixw8 t).2.2]
        show 0 * 256 + (y 2).val = (y 2).val
        omega))

theorem ib8 (c : Dev nD) (t : Fin cfg0.N) (y : S1x256x256.Idx) : iblk (F := F) m c 8 t y
    = G (F := F) (Vm m c) main_v134 (ix3 ⟨t.val, t.isLt⟩ ⟨(y 1).val, (y 1).isLt⟩ ⟨(y 2).val, (y 2).isLt⟩ : S4x256x256.Idx) := by
  have e : iblk (F := F) m c 8 t = ((cfg0.win 8).blk t).view.read (Elt F) (G (F := F) (Vm m c) main_v134) := rfl
  rw [e]
  generalize G (F := F) (Vm m c) main_v134 = A
  exact congrArg A (em8 t y)

theorem ixw9 : ∀ t : Fin grid0.N, win0_9.index t 0 = 0 ∧ win0_9.index t 1 = t.val := by decide +kernel

theorem em9 (t : Fin cfg0.N) (y : S1x256.Idx) : ((cfg0.win 9).blk t).view.emb y
    = (ix2 ⟨(y 0).val, (y 0).isLt⟩ ⟨256 * (t.val) + (y 1).val, by have ht : t.val < 4 := t.isLt; have hy : (y 1).val < 256 := (y 1).isLt; omega⟩ : S1x1024.Idx) :=
  funext fun a => Fin.ext (match a with
    | ⟨0, _⟩ => (Window.rect_emb_val win0_9 t y 0).trans (by
        rw [(ixw9 t).1]
        show 0 * 1 + (y 0).val = (y 0).val
        omega)
    | ⟨1, _⟩ => (Window.rect_emb_val win0_9 t y 1).trans (by
        rw [(ixw9 t).2]
        show (t.val) * 256 + (y 1).val = 256 * (t.val) + (y 1).val
        omega))

theorem ib9 (c : Dev nD) (t : Fin cfg0.N) (y : S1x256.Idx) : iblk (F := F) m c 9 t y
    = G (F := F) (Vm m c) main_v136 (ix2 ⟨(y 0).val, (y 0).isLt⟩ ⟨256 * (t.val) + (y 1).val, by have ht : t.val < 4 := t.isLt; have hy : (y 1).val < 256 := (y 1).isLt; omega⟩ : S1x1024.Idx) := by
  have e : iblk (F := F) m c 9 t = ((cfg0.win 9).blk t).view.read (Elt F) (G (F := F) (Vm m c) main_v136) := rfl
  rw [e]
  generalize G (F := F) (Vm m c) main_v136 = A
  exact congrArg A (em9 t y)

theorem ixw10 : ∀ t : Fin grid0.N, win0_10.index t 0 = 0 ∧ win0_10.index t 1 = t.val := by decide +kernel

theorem em10 (t : Fin cfg0.N) (y : S1x256.Idx) : ((cfg0.win 10).blk t).view.emb y
    = (ix2 ⟨(y 0).val, (y 0).isLt⟩ ⟨256 * (t.val) + (y 1).val, by have ht : t.val < 4 := t.isLt; have hy : (y 1).val < 256 := (y 1).isLt; omega⟩ : S1x1024.Idx) :=
  funext fun a => Fin.ext (match a with
    | ⟨0, _⟩ => (Window.rect_emb_val win0_10 t y 0).trans (by
        rw [(ixw10 t).1]
        show 0 * 1 + (y 0).val = (y 0).val
        omega)
    | ⟨1, _⟩ => (Window.rect_emb_val win0_10 t y 1).trans (by
        rw [(ixw10 t).2]
        show (t.val) * 256 + (y 1).val = 256 * (t.val) + (y 1).val
        omega))

theorem ib10 (c : Dev nD) (t : Fin cfg0.N) (y : S1x256.Idx) : iblk (F := F) m c 10 t y
    = G (F := F) (Vm m c) main_arg8 (ix2 ⟨(y 0).val, (y 0).isLt⟩ ⟨256 * (t.val) + (y 1).val, by have ht : t.val < 4 := t.isLt; have hy : (y 1).val < 256 := (y 1).isLt; omega⟩ : S1x1024.Idx) := by
  have e : iblk (F := F) m c 10 t = ((cfg0.win 10).blk t).view.read (Elt F) (G (F := F) (Vm m c) main_arg8) := rfl
  rw [e]
  generalize G (F := F) (Vm m c) main_arg8 = A
  exact congrArg A (em10 t y)

theorem ixw11 : ∀ t : Fin grid0.N, win0_11.index t 0 = 0 ∧ win0_11.index t 1 = t.val := by decide +kernel

theorem em11 (t : Fin cfg0.N) (y : S2048x256.Idx) : ((cfg0.win 11).blk t).view.emb y
    = (ix2 ⟨(y 0).val, (y 0).isLt⟩ ⟨256 * (t.val) + (y 1).val, by have ht : t.val < 4 := t.isLt; have hy : (y 1).val < 256 := (y 1).isLt; omega⟩ : S2048x1024.Idx) :=
  funext fun a => Fin.ext (match a with
    | ⟨0, _⟩ => (Window.rect_emb_val win0_11 t y 0).trans (by
        rw [(ixw11 t).1]
        show 0 * 2048 + (y 0).val = (y 0).val
        omega)
    | ⟨1, _⟩ => (Window.rect_emb_val win0_11 t y 1).trans (by
        rw [(ixw11 t).2]
        show (t.val) * 256 + (y 1).val = 256 * (t.val) + (y 1).val
        omega))

theorem ixw12 : ∀ t : Fin grid0.N, win0_12.index t 0 = 0 ∧ win0_12.index t 1 = t.val := by decide +kernel

theorem em12 (t : Fin cfg0.N) (y : S2048x256.Idx) : ((cfg0.win 12).blk t).view.emb y
    = (ix2 ⟨(y 0).val, (y 0).isLt⟩ ⟨256 * (t.val) + (y 1).val, by have ht : t.val < 4 := t.isLt; have hy : (y 1).val < 256 := (y 1).isLt; omega⟩ : S2048x1024.Idx) :=
  funext fun a => Fin.ext (match a with
    | ⟨0, _⟩ => (Window.rect_emb_val win0_12 t y 0).trans (by
        rw [(ixw12 t).1]
        show 0 * 2048 + (y 0).val = (y 0).val
        omega)
    | ⟨1, _⟩ => (Window.rect_emb_val win0_12 t y 1).trans (by
        rw [(ixw12 t).2]
        show (t.val) * 256 + (y 1).val = 256 * (t.val) + (y 1).val
        omega))

theorem ixw13 : ∀ t : Fin grid0.N, win0_13.index t 0 = 0 ∧ win0_13.index t 1 = t.val := by decide +kernel

theorem em13 (t : Fin cfg0.N) (y : S8x256.Idx) : ((cfg0.win 13).blk t).view.emb y
    = (ix2 ⟨(y 0).val, (y 0).isLt⟩ ⟨256 * (t.val) + (y 1).val, by have ht : t.val < 4 := t.isLt; have hy : (y 1).val < 256 := (y 1).isLt; omega⟩ : S8x1024.Idx) :=
  funext fun a => Fin.ext (match a with
    | ⟨0, _⟩ => (Window.rect_emb_val win0_13 t y 0).trans (by
        rw [(ixw13 t).1]
        show 0 * 8 + (y 0).val = (y 0).val
        omega)
    | ⟨1, _⟩ => (Window.rect_emb_val win0_13 t y 1).trans (by
        rw [(ixw13 t).2]
        show (t.val) * 256 + (y 1).val = 256 * (t.val) + (y 1).val
        omega))

theorem ixw14 : ∀ t : Fin grid0.N, win0_14.index t 0 = t.val ∧ win0_14.index t 1 = 0 ∧ win0_14.index t 2 = 0 := by decide +kernel

theorem em14 (t : Fin cfg0.N) (y : S1x256x256.Idx) : ((cfg0.win 14).blk t).view.emb y
    = (ix3 ⟨t.val, t.isLt⟩ ⟨(y 1).val, (y 1).isLt⟩ ⟨(y 2).val, (y 2).isLt⟩ : S4x256x256.Idx) :=
  funext fun a => Fin.ext (match a with
    | ⟨0, _⟩ => (Window.rect_emb_val win0_14 t y 0).trans (by
        rw [(ixw14 t).1]
        have hy : (y 0).val < 1 := (y 0).isLt
        show t.val * 1 + (y 0).val = t.val
        omega)
    | ⟨1, _⟩ => (Window.rect_emb_val win0_14 t y 1).trans (by
        rw [(ixw14 t).2.1]
        show 0 * 256 + (y 1).val = (y 1).val
        omega)
    | ⟨2, _⟩ => (Window.rect_emb_val win0_14 t y 2).trans (by
        rw [(ixw14 t).2.2]
        show 0 * 256 + (y 2).val = (y 2).val
        omega))

theorem ixw15 : ∀ t : Fin grid0.N, win0_15.index t 0 = t.val ∧ win0_15.index t 1 = 0 ∧ win0_15.index t 2 = 0 := by decide +kernel

theorem em15 (t : Fin cfg0.N) (y : S1x256x256.Idx) : ((cfg0.win 15).blk t).view.emb y
    = (ix3 ⟨t.val, t.isLt⟩ ⟨(y 1).val, (y 1).isLt⟩ ⟨(y 2).val, (y 2).isLt⟩ : S4x256x256.Idx) :=
  funext fun a => Fin.ext (match a with
    | ⟨0, _⟩ => (Window.rect_emb_val win0_15 t y 0).trans (by
        rw [(ixw15 t).1]
        have hy : (y 0).val < 1 := (y 0).isLt
        show t.val * 1 + (y 0).val = t.val
        omega)
    | ⟨1, _⟩ => (Window.rect_emb_val win0_15 t y 1).trans (by
        rw [(ixw15 t).2.1]
        show 0 * 256 + (y 1).val = (y 1).val
        omega)
    | ⟨2, _⟩ => (Window.rect_emb_val win0_15 t y 2).trans (by
        rw [(ixw15 t).2.2]
        show 0 * 256 + (y 2).val = (y 2).val
        omega))

end Cert.KernelIdeal.Hand
-- ==== Proof.RLem.lean ====
module

public import proofs.«01_k».proof.Proof.Up
public import Idealize.ShloMosaic.Lib.Routing.OpsOne
public import Idealize.ShloMosaic.Lib.WordCmp

@[expose] public section

noncomputable section

open Idealize.ShloMosaic Idealize.ShloMosaic.ValueIdx Idealize.ShloMosaic.Routing

namespace Cert.RLem

/-! The host's running sums, pads and comparisons on matrices of real numbers. -/

theorem foldl_coe {n : ℕ} (f : ℕ → ℝ) (g : Fin n → EReal) (h : ∀ k, g k = (f k.val : EReal)) (l : List (Fin n)) (v : ℝ) :
    l.foldl (fun r k => r + g k) (v : EReal) = ((v + (l.map fun k => f k.val).sum : ℝ) : EReal) := by
  induction l generalizing v with
  | nil => simp
  | cons a l ih =>
    rw [List.foldl_cons, h a, ← EReal.coe_add, ih, List.map_cons, List.sum_cons, add_assoc]

theorem sum_fwd (f : ℕ → ℝ) (j : ℕ) (hj : j < 2048) :
    (∑ n ∈ Finset.range 2048, if 2047 ≤ j + n then f (j + n - 2047) else 0) = ∑ s ∈ Finset.range (j + 1), f s := by
  rw [← Finset.sum_filter]
  refine Finset.sum_nbij (fun n => j + n - 2047) ?_ ?_ ?_ ?_
  · intro n hn; simp only [Finset.mem_filter, Finset.mem_range] at hn ⊢; omega
  · intro n hn m hm e; simp only [Finset.coe_filter, Finset.mem_range, Set.mem_setOf_eq] at hn hm e; omega
  · intro s hs; simp only [Finset.coe_range, Set.mem_Iio] at hs
    refine ⟨s + 2047 - j, ?_, ?_⟩
    · simp only [Finset.coe_filter, Finset.mem_range, Set.mem_setOf_eq]; omega
    · show j + (s + 2047 - j) - 2047 = s; omega
  · intro n hn; rfl

theorem sum_rev (f : ℕ → ℝ) (j : ℕ) (hj : j < 2048) :
    (∑ n ∈ Finset.range 2048, if j + n < 2048 then f (j + n) else 0) = ∑ s ∈ Finset.range 2048, if j ≤ s then f s else 0 := by
  rw [← Finset.sum_filter, ← Finset.sum_filter]
  refine Finset.sum_nbij (fun n => j + n) ?_ ?_ ?_ ?_
  · intro n hn; simp only [Finset.mem_filter, Finset.mem_range] at hn ⊢; omega
  · intro n hn m hm e; simp only [Finset.coe_filter, Finset.mem_range, Set.mem_setOf_eq] at hn hm e; omega
  · intro s hs; simp only [Finset.coe_filter, Finset.mem_range, Set.mem_setOf_eq] at hs
    refine ⟨s - j, ?_, ?_⟩
    · simp only [Finset.coe_filter, Finset.mem_range, Set.mem_setOf_eq]; omega
    · show j + (s - j) = s; omega
  · intro n hn; rfl

theorem window_sum {R C : ℕ} (lo hi : Fin 2 → ℕ) (x : FVec Ideal (shape2 R C) .f32) (f : ℕ → ℕ → ℝ)
    (hx : ∀ i, x i = (f (i 0).val (i 1).val : EReal)) (z : FVec Ideal shape0 .f32) (hz : ∀ i, z i = ((0 : ℝ) : EReal))
    (h : (shape2 R C).ReduceWindows (![R, 1] : Fin 2 → Nat) ![1, 1] lo hi (shape2 R C)) (hu : 0 < shape0.numel) (j : (shape2 R C).Idx)
    (h1 : lo 1 = 0) :
    Host.reduceWindowAdd ![R, 1] ![1, 1] lo hi x z h hu j
      = ((∑ n ∈ Finset.range R, if lo 0 ≤ (j 0).val + n ∧ (j 0).val + n - lo 0 < R then f ((j 0).val + n - lo 0) (j 1).val else 0 : ℝ) : EReal) := by
  have hj := (j 0).isLt
  have hc := (j 1).isLt
  show Host.reduceWindow (· + ·) ![R, 1] ![1, 1] lo hi x (fun _ : (⟨0, ![]⟩ : Shape).Idx => z (Shape.Idx.first hu)) h hu j = _
  unfold Host.reduceWindow
  rw [hz]
  refine (foldl_coe (fun n => if lo 0 ≤ (j 0).val + n ∧ (j 0).val + n - lo 0 < R then f ((j 0).val + n - lo 0) (j 1).val else 0) _ (fun n => ?_) _ 0).trans ?_
  · have hw0 : ((shape2 R 1).rowMajor.symm n 0).val = n.val := by rw [symm_col]; rfl
    have hw1 : ((shape2 R 1).rowMajor.symm n 1).val = 0 := by rw [symm_col]; rfl
    have hn : n.val < R := (n.cast (numel_col _)).isLt
    dsimp only
    split
    · next hin =>
      have h0 := hin 0
      change lo 0 ≤ (j 0).val * 1 + ((shape2 R 1).rowMajor.symm n 0).val
        ∧ (j 0).val * 1 + ((shape2 R 1).rowMajor.symm n 0).val - lo 0 < R at h0
      rw [hw0, Nat.mul_one] at h0
      rw [if_pos h0]
      refine (hx _).trans ?_
      have e0 : (j 0).val * 1 + ((shape2 R 1).rowMajor.symm n 0).val - lo 0 = (j 0).val + n.val - lo 0 := by rw [hw0, Nat.mul_one]
      have e1 : (j 1).val * 1 + ((shape2 R 1).rowMajor.symm n 1).val - lo 1 = (j 1).val := by rw [hw1, h1]; omega
      exact congrArg Real.toEReal (congrArg₂ f e0 e1)
    · next hin =>
      rw [if_neg fun hle => hin fun a => by
        match a with
        | ⟨0, _⟩ =>
          show lo 0 ≤ (j 0).val * 1 + ((shape2 R 1).rowMajor.symm n 0).val
            ∧ (j 0).val * 1 + ((shape2 R 1).rowMajor.symm n 0).val - lo 0 < R
          rw [hw0, Nat.mul_one]
          exact hle
        | ⟨1, _⟩ =>
          show lo 1 ≤ (j 1).val * 1 + ((shape2 R 1).rowMajor.symm n 1).val ∧ (j 1).val * 1 + ((shape2 R 1).rowMajor.symm n 1).val - lo 1 < C
          rw [hw1, h1]
          have hc' : (j 1).val < C := hc
          omega]
  · rw [zero_add, ← Fin.sum_univ_def, ← Finset.sum_range (fun k => if lo 0 ≤ (j 0).val + k ∧ (j 0).val + k - lo 0 < R then f ((j 0).val + k - lo 0) (j 1).val else 0)]
    rw [show (Shape.numel ⟨(shape2 R C).rank, (![R, 1] : Fin 2 → ℕ)⟩) = R from numel_col R]

theorem cumsum_fwd (x : FVec Ideal (shape2 2048 1024) .f32) (f : ℕ → ℕ → ℝ)
    (hx : ∀ i, x i = (f (i 0).val (i 1).val : EReal)) (z : FVec Ideal shape0 .f32) (hz : ∀ i, z i = ((0 : ℝ) : EReal))
    (h : (shape2 2048 1024).ReduceWindows (![2048, 1] : Fin 2 → Nat) ![1, 1] ![2047, 0] ![0, 0] (shape2 2048 1024)) (hu : 0 < shape0.numel) (j : (shape2 2048 1024).Idx) :
    Host.reduceWindowAdd ![2048, 1] ![1, 1] ![2047, 0] ![0, 0] x z h hu j = ((∑ s ∈ Finset.range ((j 0).val + 1), f s (j 1).val : ℝ) : EReal) := by
  have hj : (j 0).val < 2048 := (j 0).isLt
  refine (window_sum ![2047, 0] ![0, 0] x f hx z hz h hu j rfl).trans (congrArg Real.toEReal ?_)
  rw [← sum_fwd (fun s => f s (j 1).val) _ hj]
  refine Finset.sum_congr rfl fun n hn => ?_
  have := Finset.mem_range.1 hn
  show (if 2047 ≤ (j 0).val + n ∧ (j 0).val + n - 2047 < 2048 then _ else _) = _
  exact if_congr (by omega) rfl rfl

theorem cumsum_rev (x : FVec Ideal (shape2 2048 1024) .f32) (f : ℕ → ℕ → ℝ)
    (hx : ∀ i, x i = (f (i 0).val (i 1).val : EReal)) (z : FVec Ideal shape0 .f32) (hz : ∀ i, z i = ((0 : ℝ) : EReal))
    (h : (shape2 2048 1024).ReduceWindows (![2048, 1] : Fin 2 → Nat) ![1, 1] ![0, 0] ![2047, 0] (shape2 2048 1024)) (hu : 0 < shape0.numel) (j : (shape2 2048 1024).Idx) :
    Host.reduceWindowAdd ![2048, 1] ![1, 1] ![0, 0] ![2047, 0] x z h hu j = ((∑ s ∈ Finset.range 2048, if (j 0).val ≤ s then f s (j 1).val else 0 : ℝ) : EReal) := by
  have hj : (j 0).val < 2048 := (j 0).isLt
  refine (window_sum ![0, 0] ![2047, 0] x f hx z hz h hu j rfl).trans (congrArg Real.toEReal ?_)
  rw [← sum_rev (fun s => f s (j 1).val) _ hj]
  refine Finset.sum_congr rfl fun n hn => ?_
  show (if 0 ≤ (j 0).val + n ∧ (j 0).val + n - 0 < 2048 then _ else _) = _
  exact if_congr (by omega) rfl rfl

theorem pad_rows {n N C : ℕ} (lo hi : ℕ) (x : FVec Ideal (shape2 n C) .f32) (f : ℕ → ℕ → ℝ) (hx : ∀ i, x i = (f (i 0).val (i 1).val : EReal))
    (z : FVec Ideal shape0 .f32) (hz : ∀ i, z i = ((0 : ℝ) : EReal)) (h : (shape2 n C).Pads (![lo, 0] : Fin 2 → ℕ) ![hi, 0] ![0, 0] (shape2 N C)) (hu : 0 < shape0.numel)
    (j : (shape2 N C).Idx) :
    pad (shape2 N C) (![lo, 0] : Fin 2 → ℕ) ![hi, 0] ![0, 0] x z h hu j
      = ((if lo ≤ (j 0).val ∧ (j 0).val - lo < n then f ((j 0).val - lo) (j 1).val else 0 : ℝ) : EReal) := by
  have hc : (j 1).val < C := (j 1).isLt
  by_cases hin : lo ≤ (j 0).val ∧ (j 0).val - lo < n
  · rw [if_pos hin]
    refine (pad_apply_of_inside _ _ _ x z h hu j (ix2 (⟨(j 0).val - lo, hin.2⟩ : Fin n) (⟨(j 1).val, hc⟩ : Fin C)) fun a => ?_).trans (hx _)
    match a with
    | ⟨0, _⟩ => show (j 0).val = lo + ((j 0).val - lo) * (0 + 1); omega
    | ⟨1, _⟩ => show (j 1).val = 0 + (j 1).val * (0 + 1); omega
  · rw [if_neg hin]
    refine (pad_apply_of_not_inside _ _ _ x z h hu j (0 : Fin 2) fun ha => hin ?_).trans (hz _)
    have ha' : lo ≤ (j 0).val ∧ ((j 0).val - lo) % (0 + 1) = 0 ∧ ((j 0).val - lo) / (0 + 1) < n := ha
    omega

theorem ofBool_ite (p : Prop) [Decidable p] : BitVec.ofBool (decide p) = if p then 1#1 else 0#1 := by
  by_cases h : p <;> simp [h]

theorem eq_zero (n : ℕ) (hn : n < 2048) : IntOp.cmpi .eq (BitVec.ofNat 32 n) 0#32 = if n = 0 then 1#1 else 0#1 := by
  rw [← ofBool_ite]; exact WordCmp.cmpi_eq_ofNat (w := 32) (a := n) (b := 0) (by omega) (by omega)

theorem ge_word (n m : ℕ) (hn : n < 2048) (hm : m < 2048) : IntOp.cmpi .sge (BitVec.ofNat 32 n) (BitVec.ofNat 32 m) = if m ≤ n then 1#1 else 0#1 := by
  rw [← ofBool_ite]; exact WordCmp.cmpi_sge_ofNat (w := 32) (by omega) (by omega)

theorem une_self (x : EReal) : FloatOps.cmpf (F := Ideal) (φ := .f32) .une x x = 0#1 := by
  show BitVec.ofBool (decide (x ≠ x)) = 0#1
  simp
theorem oeq_top (r : ℝ) {x y : EReal} (hx : x = (r : EReal)) (hy : y = ⊤) : FloatOps.cmpf (F := Ideal) (φ := .f32) .oeq x y = 0#1 := by
  subst hx hy
  show BitVec.ofBool (decide ((r : EReal) = ⊤)) = 0#1
  simp
theorem exp_bot : FloatOps.hostUnary (F := Ideal) (φ := .f32) .exp (⊥ : EReal) = ((0 : ℝ) : EReal) := by
  show Ideal.exp ⊥ = _
  rfl

end Cert.RLem
-- ==== Proof.KIs.lean ====
module

public import proofs.«01_k».proof.Proof.Trip
public import proofs.«01_k».proof.Proof.RLem

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Finset (range mem_range sum_congr)
open Cert

/-! Blocks of the kernel that are a function of natural numbers, and the operations on them. -/

/-- The block is this function of its row and column. -/
def M (x : S256x256.Idx → EReal) (f : ℕ → ℕ → ℝ) : Prop := ∀ i, x i = ((f (i 0).val (i 1).val : ℝ) : EReal)
/-- The same of a block with eight rows more. -/
def N (x : S264x256.Idx → EReal) (f : ℕ → ℕ → ℝ) : Prop := ∀ i, x i = ((f (i 0).val (i 1).val : ℝ) : EReal)
/-- The row is this function of its column. -/
def W (x : S1x256.Idx → EReal) (f : ℕ → ℝ) : Prop := ∀ i, x i = ((f (i 1).val : ℝ) : EReal)
/-- The mask holds at the rows of which `p` holds. -/
def Q (m : IVec S256x256 1) (p : ℕ → Prop) [DecidablePred p] : Prop := ∀ i, m i = if p (i 0).val then 1#1 else 0#1
def Q1 (m : IVec S256x1 1) (p : ℕ → Prop) [DecidablePred p] : Prop := ∀ i, m i = if p (i 0).val then 1#1 else 0#1

variable {x y : FVec Ideal S256x256 .f32} {f g : ℕ → ℕ → ℝ}

theorem M.congr (hx : M x f) (h : ∀ t q, t < 256 → q < 256 → f t q = g t q) : M x g := fun i =>
  (hx i).trans (congrArg _ (h _ _ (i 0).isLt (i 1).isLt))
theorem W.congr {x : S1x256.Idx → EReal} {f g : ℕ → ℝ} (hx : W x f) (h : ∀ q, q < 256 → f q = g q) : W x g := fun i =>
  (hx i).trans (congrArg _ (h _ (i 1).isLt))
theorem M.mul (hx : M x f) (hy : M y g) : M (mulf x y) (fun t q => f t q * g t q) := fun i => Up.mul (hx i) (hy i)
theorem M.add (hx : M x f) (hy : M y g) : M (addf x y) (fun t q => f t q + g t q) := fun i => Up.add (hx i) (hy i)
theorem M.sub (hx : M x f) (hy : M y g) : M (subf x y) (fun t q => f t q - g t q) := fun i => Up.sub (hx i) (hy i)
theorem M.div (hx : M x f) (hy : M y g) (h : ∀ t q, g t q ≠ 0) : M (divf x y) (fun t q => f t q / g t q) := fun i =>
  Up.div (hx i) (hy i) (h _ _)
theorem M.exp (hx : M x f) : M (Idealize.ShloMosaic.exp x) (fun t q => Real.exp (f t q)) := fun i => Up.exp (hx i)
theorem M.tanh (hx : M x f) : M (Idealize.ShloMosaic.tanh x) (fun t q => Real.tanh (f t q)) := fun i => Up.tanh (hx i)
theorem M.sqrt (hx : M x f) (h : ∀ t q, 0 ≤ f t q) : M (Idealize.ShloMosaic.sqrt x) (fun t q => Real.sqrt (f t q)) := fun i =>
  Up.sqrt (hx i) (h _ _)
theorem M.logistic (hx : M x f) : M (Idealize.ShloMosaic.logistic x) (fun t q => Lru.sg (f t q)) := fun i => Up.logistic (hx i)
theorem M.const {v : EReal} {r : ℝ} (h : v = (r : EReal)) : M (broadcast S256x256 v) (fun _ _ => r) := fun i => h
theorem M.trunc (hx : M x f) (h : FTy.bf16.bits < FTy.f32.bits) : M (truncf .bf16 x h) f := fun i => hx i

theorem W.self {x : S1x256.Idx → EReal} {f : ℕ → ℝ} (hx : W x f) (h : S1x256.ShapeCasts S1x256) : W (shapeCast S1x256 x h) f := by
  rw [shapeCast_self]; exact hx
theorem W.up {x : S1x256.Idx → EReal} {f : ℕ → ℝ} (hx : W x f) (h : S1x256.Broadcasts S256x256) : M (broadcastTo S256x256 x h) (fun _ q => f q) := fun i =>
  (broadcastTo_apply x h i (ix2 0 (i 1)) (Fin.forall_fin_two.2 ⟨rfl, rfl⟩)).trans (hx _)

theorem M.rot (hx : M x f) (n : ℕ) (hn : (BitVec.ofNat 32 n).toNat % 256 = n) (h : S256x256.Rotates 0 none) :
    M (dynamicRotate 0 (BitVec.ofNat 32 n) none x h) (fun t q => f ((t + 256 - n) % 256) q) := fun i => by
  refine (dynamicRotate_apply 0 (BitVec.ofNat 32 n) x h i (ix2 ⟨((i 0).val + 256 - n) % 256, Nat.mod_lt _ (by omega)⟩ (i 1)) ?_).trans (hx _)
  refine Fin.forall_fin_two.2 ⟨?_, ?_⟩
  · rw [if_pos rfl]
    show ((i 0).val + 256 - n) % 256 = ((i 0).val + 256 - (BitVec.ofNat 32 n).toNat % 256) % 256
    rw [hn]
  · rw [if_neg (by decide)]
theorem N.rot {x : FVec Ideal S264x256 .f32} (hx : N x f) (n : ℕ) (hn : (BitVec.ofNat 32 n).toNat % 264 = n) (h : S264x256.Rotates 0 none) :
    N (dynamicRotate 0 (BitVec.ofNat 32 n) none x h) (fun t q => f ((t + 264 - n) % 264) q) := fun i => by
  refine (dynamicRotate_apply 0 (BitVec.ofNat 32 n) x h i (ix2 ⟨((i 0).val + 264 - n) % 264, Nat.mod_lt _ (by omega)⟩ (i 1)) ?_).trans (hx _)
  refine Fin.forall_fin_two.2 ⟨?_, ?_⟩
  · rw [if_pos rfl]
    show ((i 0).val + 264 - n) % 264 = ((i 0).val + 264 - (BitVec.ofNat 32 n).toNat % 264) % 264
    rw [hn]
  · rw [if_neg (by decide)]
theorem N.slice {x : FVec Ideal S264x256 .f32} (hx : N x f) (o : ℕ) (ho : o ≤ 8) (h : S264x256.Slices ![o, 0] S256x256) :
    M (extractStridedSlice S256x256 ![o, 0] x h) (fun t q => f (o + t) q) := fun i =>
  (extractStridedSlice_apply ![o, 0] x h i (ix2 ⟨o + (i 0).val, by have : (i 0).val < 256 := (i 0).isLt; omega⟩ (i 1))
    (Fin.forall_fin_two.2 ⟨rfl, (Nat.zero_add _).symm⟩)).trans (hx _)

theorem Q.sel {m : IVec S256x256 1} {p : ℕ → Prop} [DecidablePred p] (hm : Q m p) (hx : M x f) (hy : M y g) :
    M (select m x y) (fun t q => if p t then f t q else g t q) := fun i => Up.sel (hm i) (hx i) (hy i)
theorem Q1.up {m : IVec S256x1 1} {p : ℕ → Prop} [DecidablePred p] (hm : Q1 m p) (h : S256x1.ShapeCasts S256x1) (h' : S256x1.Broadcasts S256x256) :
    Q (broadcastTo S256x256 (shapeCast S256x1 m h) h') p := fun i => by
  rw [shapeCast_self]
  exact (broadcastTo_apply m h' i (ix2 (i 0) 0) (Fin.forall_fin_two.2 ⟨rfl, rfl⟩)).trans (hm _)
theorem Q1.lt (h : S256x1.Iotas .tc 32 [0]) (n : ℕ) (hn : n < 256) :
    Q1 (cmpi .slt (iota .tc S256x1 32 [0] h) (broadcast S256x1 (BitVec.ofNat 32 n))) (fun t => t < n) := fun i => by
  have hi : (i 0).val < 256 := (i 0).isLt
  rw [← RLem.ofBool_ite]
  show IntOp.cmpi .slt (BitVec.ofNat 32 (0 * 256 + (i 0).val)) (BitVec.ofNat 32 n) = _
  rw [Nat.zero_mul, Nat.zero_add]
  exact WordCmp.cmpi_slt_ofNat (w := 32) (by omega) (by omega)
theorem Q1.eq (h : S256x1.Iotas .tc 32 [0]) (n : ℕ) (hn : n < 256) :
    Q1 (cmpi .eq (iota .tc S256x1 32 [0] h) (broadcast S256x1 (BitVec.ofNat 32 n))) (fun t => t = n) := fun i => by
  have hi : (i 0).val < 256 := (i 0).isLt
  rw [← RLem.ofBool_ite]
  show IntOp.cmpi .eq (BitVec.ofNat 32 (0 * 256 + (i 0).val)) (BitVec.ofNat 32 n) = _
  rw [Nat.zero_mul, Nat.zero_add]
  exact WordCmp.cmpi_eq_ofNat (w := 32) (by omega) (by omega)
theorem Q1.first (h : S256x1.Iotas .tc 32 [0]) (B : ℕ) (hB : B < 2048) :
    Q1 (cmpi .eq (addi (broadcast S256x1 (BitVec.ofNat 32 B)) (iota .tc S256x1 32 [0] h)) (broadcast S256x1 0#32)) (fun t => B + t = 0) := fun i => by
  have hi : (i 0).val < 256 := (i 0).isLt
  rw [← RLem.ofBool_ite]
  show IntOp.cmpi .eq (BitVec.ofNat 32 B + BitVec.ofNat 32 (0 * 256 + (i 0).val)) 0#32 = _
  rw [Nat.zero_mul, Nat.zero_add, ← BitVec.ofNat_add]
  exact WordCmp.cmpi_eq_ofNat (w := 32) (a := B + (i 0).val) (b := 0) (by omega) (by omega)

/-! ## Sums -/

theorem M.sum (hx : M x f) (acc : BitVec 32) (h : S256x256.Reduces [0] S256) (h1 : FKind.Formats .f32) (h2 : acc = FKind.add.neutral .f32 h1)
    (h3 : S256.ShapeCasts S1x256) :
    W (shapeCast S1x256 (multiReduction .add [0] S256 x acc h h1 h2) h3) (fun q => ∑ t ∈ range 256, f t q) := fun i => by
  rw [shapeCast_apply _ h3 i (fun a => match a with | ⟨0, _⟩ => ⟨(i 1).val, (i 1).isLt⟩)
    (by rw [Shape.rowMajor_val_two]; have : (i 0).val < 1 := (i 0).isLt; rw [Shape.rowMajor_val_one]; show (i 1).val = (i 0).val * 256 + (i 1).val; omega)]
  rw [Ideal.multiReduction_add_single]
  exact Up.sum_coe (fun t => f t (i 1).val) _ fun k => hx _

section dots
local notation "D10" => dot_S256x256_S256x256_S256x256_1_0_0_1_n_n
local notation "D11" => dot_S256x256_S256x256_S256x256_1_1_0_0_n_n
local notation "D00" => dot_S256x256_S256x256_S256x256_0_0_1_1_n_n

variable {a b : FVec Ideal S256x256 .bf16}

theorem M.dot10 (hx : M a f) (hy : M b g) :
    M (Idealize.ShloMosaic.matmul D10 none a b (constant S256x256 .f32 0x00000000#32 : FVec Ideal S256x256 .f32)) (fun t q => ∑ k ∈ range 256, f t k * g k q) := fun i => by
  simp only [Idealize.ShloMosaic.matmul]
  refine (Ideal.matmul_constant_zero_apply D10 none a b i).trans ?_
  rw [← Equiv.sum_comp (contrEquiv1 D10 256 rfl rfl).symm]
  refine Up.sum_mul_coe (fun k => f (i 0).val k) (fun k => g k (i 1).val) _ _ (fun k => ?_) fun k => ?_
  · have hk := contrEquiv1_symm_val D10 256 rfl rfl k
    refine (hx _).trans (congrArg _ (congrArg₂ f ?_ ?_))
    · unfold DotDims.lhsIdx
      rw [dif_neg (show ¬(0 : Fin S256x256.rank) ∈ (D10).lhsBatch by decide), dif_pos (show (0 : Fin S256x256.rank) ∈ (D10).lhsNonContracting by decide)]
      rfl
    · exact ((D10).lhsIdx_val_of_single rfl i _).trans hk
  · have hk := contrEquiv1_symm_val D10 256 rfl rfl k
    refine (hy _).trans (congrArg _ (congrArg₂ g ?_ ?_))
    · exact ((D10).rhsIdx_val_of_single rfl i _).trans hk
    · unfold DotDims.rhsIdx
      rw [dif_neg (show ¬(1 : Fin S256x256.rank) ∈ (D10).rhsBatch by decide), dif_pos (show (1 : Fin S256x256.rank) ∈ (D10).rhsNonContracting by decide)]
      rfl
theorem M.dot11 (hx : M a f) (hy : M b g) :
    M (Idealize.ShloMosaic.matmul D11 none a b (constant S256x256 .f32 0x00000000#32 : FVec Ideal S256x256 .f32)) (fun t q => ∑ k ∈ range 256, f t k * g q k) := fun i => by
  simp only [Idealize.ShloMosaic.matmul]
  refine (Ideal.matmul_constant_zero_apply D11 none a b i).trans ?_
  rw [← Equiv.sum_comp (contrEquiv1 D11 256 rfl rfl).symm]
  refine Up.sum_mul_coe (fun k => f (i 0).val k) (fun k => g (i 1).val k) _ _ (fun k => ?_) fun k => ?_
  · have hk := contrEquiv1_symm_val D11 256 rfl rfl k
    refine (hx _).trans (congrArg _ (congrArg₂ f ?_ ?_))
    · unfold DotDims.lhsIdx
      rw [dif_neg (show ¬(0 : Fin S256x256.rank) ∈ (D11).lhsBatch by decide), dif_pos (show (0 : Fin S256x256.rank) ∈ (D11).lhsNonContracting by decide)]
      rfl
    · exact ((D11).lhsIdx_val_of_single rfl i _).trans hk
  · have hk := contrEquiv1_symm_val D11 256 rfl rfl k
    refine (hy _).trans (congrArg _ (congrArg₂ g ?_ ?_))
    · unfold DotDims.rhsIdx
      rw [dif_neg (show ¬(0 : Fin S256x256.rank) ∈ (D11).rhsBatch by decide), dif_pos (show (0 : Fin S256x256.rank) ∈ (D11).rhsNonContracting by decide)]
      rfl
    · exact ((D11).rhsIdx_val_of_single rfl i _).trans hk
theorem M.dot00 (hx : M a f) (hy : M b g) :
    M (Idealize.ShloMosaic.matmul D00 none a b (constant S256x256 .f32 0x00000000#32 : FVec Ideal S256x256 .f32)) (fun p q => ∑ t ∈ range 256, f t p * g t q) := fun i => by
  simp only [Idealize.ShloMosaic.matmul]
  refine (Ideal.matmul_constant_zero_apply D00 none a b i).trans ?_
  rw [← Equiv.sum_comp (contrEquiv1 D00 256 rfl rfl).symm]
  refine Up.sum_mul_coe (fun k => f k (i 0).val) (fun k => g k (i 1).val) _ _ (fun k => ?_) fun k => ?_
  · have hk := contrEquiv1_symm_val D00 256 rfl rfl k
    refine (hx _).trans (congrArg _ (congrArg₂ f ?_ ?_))
    · exact ((D00).lhsIdx_val_of_single rfl i _).trans hk
    · unfold DotDims.lhsIdx
      rw [dif_neg (show ¬(1 : Fin S256x256.rank) ∈ (D00).lhsBatch by decide), dif_pos (show (1 : Fin S256x256.rank) ∈ (D00).lhsNonContracting by decide)]
      rfl
  · have hk := contrEquiv1_symm_val D00 256 rfl rfl k
    refine (hy _).trans (congrArg _ (congrArg₂ g ?_ ?_))
    · exact ((D00).rhsIdx_val_of_single rfl i _).trans hk
    · unfold DotDims.rhsIdx
      rw [dif_neg (show ¬(1 : Fin S256x256.rank) ∈ (D00).rhsBatch by decide), dif_pos (show (1 : Fin S256x256.rank) ∈ (D00).rhsNonContracting by decide)]
      rfl
end dots

/-- Rows behind which eight more stand. -/
theorem M.cat (hx : M x f) (z : FVec Ideal S8x256 .f32) (hz : ∀ i, z i = ((f (256 + (i 0).val) (i 1).val : ℝ) : EReal))
    (h : Shape.Concatenates [S256x256, S8x256] S264x256 0) :
    N (concatenate S264x256 0 [⟨S256x256, x⟩, ⟨S8x256, z⟩] h) f := fun i => by
  by_cases hi : (i 0).val < 256
  · exact (concatenate_pair_apply_left (t := S264x256) 0 x z h i rfl (ix2 ⟨(i 0).val, hi⟩ (i 1)) (Fin.forall_fin_two.2 ⟨rfl, rfl⟩)).trans (hx _)
  · have h4 : (i 0).val < 264 := (i 0).isLt
    refine (concatenate_pair_apply_right (t := S264x256) 0 x z h i rfl rfl (ix2 ⟨(i 0).val - 256, by omega⟩ (i 1)) (Fin.forall_fin_two.2 ⟨fun h0 => absurd rfl h0, fun _ => rfl⟩)
      (by show (i 0).val - 256 + 256 = (i 0).val; omega)).trans ((hz _).trans (congrArg (fun n => ((f n (i 1).val : ℝ) : EReal)) ?_))
    show 256 + ((i 0).val - 256) = (i 0).val
    omega

/-- A sum over a row of a block-diagonal matrix. -/
theorem blk_sum (F : ℕ → ℝ) (m : ℕ) (hm : m < 4) :
    (∑ k ∈ range 256, if k / 64 = m then F k else 0) = ∑ k ∈ range 64, F (m * 64 + k) := by
  rw [← Finset.sum_filter]
  symm
  refine Finset.sum_nbij' (fun k => m * 64 + k) (fun k => k - m * 64) ?_ ?_ ?_ ?_ ?_
  · intro k hk; have := mem_range.1 hk; rw [Finset.mem_filter, mem_range]; omega
  · intro k hk; rw [Finset.mem_filter, mem_range] at hk; rw [mem_range]; omega
  · intro k hk; omega
  · intro k hk; rw [Finset.mem_filter, mem_range] at hk; omega
  · intro k hk; rfl

/-! ## The scan from the last row -/

/-- After windows of width `d`: the value at a row is what is summed so far and the product so far with the value `d` rows on. -/
def Sc (Gx s a : ℕ → ℕ → ℝ) (d : ℕ) : Prop := ∀ t q, t < 256 → q < 256 → s t q + a t q * Gx (min (t + d) 256) q = Gx t q

theorem Sc.step {Gx s a : ℕ → ℕ → ℝ} {d n : ℕ} (h : Sc Gx s a d) (hd : 0 < d) (hn : n + d = 256) (e : ℕ) (he : e = d + d) :
    Sc Gx (fun t q => if t < n then a t q * s ((t + 256 - n) % 256) q + s t q else s t q)
      (fun t q => if t < n then a t q * a ((t + 256 - n) % 256) q else a t q) e := fun t q ht hq => by
  subst he
  have h1 := h t q ht hq
  beta_reduce
  by_cases hl : t < n
  · have e1 : (t + 256 - n) % 256 = t + d := by omega
    have h2 := h (t + d) q (by omega) hq
    rw [Nat.min_eq_left (by omega)] at h1
    rw [if_pos hl, if_pos hl, e1, ← h1, ← h2, Nat.add_assoc]
    ring
  · rw [if_neg hl, if_neg hl]
    rw [Nat.min_eq_right (by omega)] at h1 ⊢
    exact h1

end Cert.KernelIdeal.Hand
-- ==== Proof.KV.lean ====
module

public import proofs.«01_k».proof.Proof.Loop
public import proofs.«01_k».proof.Proof.KIs

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Finset (range mem_range sum_congr)
open Cert Lru

/-! What a trip computes, as functions of the row and the column. -/

/-- The row a trip begins at. -/
def Bk (k : Fin k0_t3_loop.trips) : ℕ := (7 - k.val) * 256
theorem Bk_le (k : Fin k0_t3_loop.trips) : Bk k + 256 ≤ 2048 := by
  unfold Bk; have := lt_of_lt_of_eq k.isLt trips_eq; omega
theorem Bk_lt (k : Fin k0_t3_loop.trips) : Bk k < 2048 := by have := Bk_le k; omega

/-- A block-diagonal matrix of 64 by 64 blocks, four of which a call sees. -/
def bd (w : ℕ → ℕ → ℕ → ℝ) (b p q : ℕ) : ℝ := if p / 64 = q / 64 then w (4 * b + p / 64) (p % 64) (q % 64) else 0

theorem hd_div (b q : ℕ) (hq : q < 256) : (256 * b + q) / 64 = 4 * b + q / 64 := by omega
theorem hd_mod (b q : ℕ) : (256 * b + q) % 64 = q % 64 := by omega

theorem bdsum (f : ℕ → ℝ) (w : ℕ → ℕ → ℕ → ℝ) (b q : ℕ) (hq : q < 256) :
    (∑ k ∈ range 256, f (256 * b + k) * bd w b k q)
      = ∑ k ∈ range 64, w (4 * b + q / 64) k (q % 64) * f ((4 * b + q / 64) * 64 + k) := by
  have e : ∀ k ∈ range 256, f (256 * b + k) * bd w b k q
      = if k / 64 = q / 64 then f (256 * b + k) * w (4 * b + k / 64) (k % 64) (q % 64) else 0 := fun k _ => by
    unfold bd; rw [mul_ite, mul_zero]
  rw [sum_congr rfl e, blk_sum _ (q / 64) (by omega)]
  refine sum_congr rfl fun k hk => ?_
  have hk := mem_range.1 hk
  rw [show 256 * b + (q / 64 * 64 + k) = (4 * b + q / 64) * 64 + k by omega, show (q / 64 * 64 + k) / 64 = q / 64 by omega,
    show (q / 64 * 64 + k) % 64 = k by omega, mul_comm]

theorem bdsum2 (f : ℕ → ℝ) (w : ℕ → ℕ → ℕ → ℝ) (b q : ℕ) (hq : q < 256) :
    (∑ k ∈ range 256, f (256 * b + k) * bd w b q k)
      = ∑ d ∈ range 64, f ((256 * b + q) / 64 * 64 + d) * w ((256 * b + q) / 64) ((256 * b + q) % 64) d := by
  have e : ∀ k ∈ range 256, f (256 * b + k) * bd w b q k
      = if k / 64 = q / 64 then f (256 * b + k) * w (4 * b + q / 64) (q % 64) (k % 64) else 0 := fun k _ => by
    unfold bd
    by_cases h : k / 64 = q / 64
    · rw [if_pos h, if_pos h.symm]
    · rw [if_neg h, if_neg (fun h' => h h'.symm), mul_zero]
  rw [sum_congr rfl e, blk_sum _ (q / 64) (by omega), hd_div b q hq, hd_mod b q]
  refine sum_congr rfl fun k hk => ?_
  have hk := mem_range.1 hk
  rw [show 256 * b + (q / 64 * 64 + k) = (4 * b + q / 64) * 64 + k by omega, show (q / 64 * 64 + k) % 64 = k by omega]

theorem named1 : Named.named (F := Ideal) (φ := .f32) κ "gelu_cubic" 0x3D372713#32 = ((44715 / 1000000 : ℝ) : EReal) := by
  simp only [Named.named, κ]
  refine congrArg (fun r : ℝ => (r : EReal)) ?_
  norm_num
theorem named3 : Named.named (F := Ideal) (φ := .f32) κ "gelu_cubic_3" 0x3E095D4F#32 = ((134145 / 1000000 : ℝ) : EReal) := by
  simp only [Named.named, κ]
  refine congrArg (fun r : ℝ => (r : EReal)) ?_
  norm_num

/-- What the tape of the column block `b` holds. -/
structure Tp (I : Inp) (b : ℕ) (E : Tape Ideal) : Prop where
  xp : ∀ i, E.xp i = ((if (i 0).val < 8 then 0 else I.X ((i 0).val - 8) (256 * b + (i 1).val) : ℝ) : EReal)
  hp : ∀ i, E.hp i = ((if (i 0).val < 8 then 0 else hh I ((i 0).val - 8) (256 * b + (i 1).val) : ℝ) : EReal)
  g : ∀ i, E.g i = ((I.G (i 0).val (256 * b + (i 1).val) : ℝ) : EReal)
  dy : ∀ i, E.dy i = ((I.DY (i 0).val (256 * b + (i 1).val) : ℝ) : EReal)
  cw : ∀ i, (i 0).val < 4 → E.cw i = ((I.CW (i 0).val (256 * b + (i 1).val) : ℝ) : EReal)
  sp : W E.sp (fun q => Lru.sp I (256 * b + q))
  cb : W E.cb (fun q => I.CB (256 * b + q))
  wa : M E.wa (bd I.WA b)
  ba : W E.ba (fun q => I.BA (4 * b + q / 64) (q % 64))
  wx : M (k0_pay1 E.wx) (bd I.WX b)
  bx : W (k0_pay2 E.bx) (fun q => I.BX (4 * b + q / 64) (q % 64))

/-- What is carried into a trip whose rows end before row `n`. -/
structure Ac (I : Inp) (b n : ℕ) (acc : Carry Ideal) : Prop where
  c1 : W acc.1 (fun q => gd I n (256 * b + q))
  c2 : ∃ α : ℕ → ℝ, W acc.2.1 α ∧ ∀ q, α q * gd I n (256 * b + q) = ea I n (256 * b + q) * gd I n (256 * b + q)
  c3 : ∀ i, acc.2.2 i = ((dz I (n + (i 0).val) (256 * b + (i 1).val) : ℝ) : EReal)

section
variable {I : Inp} {b : ℕ} {E : Tape Ideal}

theorem ld264 {x : Vec Ideal S2056x256 .f32} {f : ℕ → ℕ → ℝ} (hx : ∀ i, x i = ((f (i 0).val (i 1).val : ℝ) : EReal)) (k : Fin k0_t3_loop.trips) :
    N (View.ld x (Rect.unit (s := S2056x256) (k0_off5 k) S264x256.size (k0_off5_inb k))) (fun r q => f (Bk k + r) q) := fun i => by
  have h0 : (i 0).val < 264 := (i 0).isLt
  have hB := Bk_le k
  refine (congrFun (View.ld_unit x (k0_off5 k) S264x256.size (k0_off5_inb k)) i).trans
    ((extractStridedSlice_apply (k0_off5 k) x _ i (ix2 ⟨Bk k + (i 0).val, by omega⟩ (i 1)) ?_).trans (hx _))
  exact Fin.forall_fin_two.2 ⟨congrArg (· + (i 0).val) (congrFun (off5_eq k) 0).symm,
    (Nat.zero_add _).symm.trans (congrArg (· + (i 1).val) (congrFun (off5_eq k) 1).symm)⟩
theorem ld256 {x : Vec Ideal S2048x256 .f32} {f : ℕ → ℕ → ℝ} (hx : ∀ i, x i = ((f (i 0).val (i 1).val : ℝ) : EReal)) (k : Fin k0_t3_loop.trips) :
    M (View.ld x (Rect.unit (s := S2048x256) (k0_off6 k) S256x256.size (k0_off6_inb k))) (fun r q => f (Bk k + r) q) := fun i => by
  have h0 : (i 0).val < 256 := (i 0).isLt
  have hB := Bk_le k
  refine (congrFun (View.ld_unit x (k0_off6 k) S256x256.size (k0_off6_inb k)) i).trans
    ((extractStridedSlice_apply (k0_off6 k) x _ i (ix2 ⟨Bk k + (i 0).val, by omega⟩ (i 1)) ?_).trans (hx _))
  exact Fin.forall_fin_two.2 ⟨congrArg (· + (i 0).val) (congrFun (off6_eq k) 0).symm,
    (Nat.zero_add _).symm.trans (congrArg (· + (i 1).val) (congrFun (off6_eq k) 1).symm)⟩
theorem ld1 (x : Vec Ideal S8x256 .f32) (o : ℕ) (inb : ∀ a : Fin 2, (![o, 0] : Fin 2 → ℕ) a + S1x256.size a ≤ S8x256.size a) (ho : o < 8) (i : S1x256.Idx) :
    View.ld x (Rect.unit (s := S8x256) ![o, 0] S1x256.size inb) i = x (ix2 ⟨o, ho⟩ (i 1)) := by
  have h0 : (i 0).val < 1 := (i 0).isLt
  refine (congrFun (View.ld_unit x ![o, 0] S1x256.size inb) i).trans
    (extractStridedSlice_apply ![o, 0] x _ i (ix2 ⟨o, ho⟩ (i 1)) ?_)
  exact Fin.forall_fin_two.2 ⟨by show o = o + (i 0).val; omega, (Nat.zero_add _).symm⟩

theorem Tp.extN (P : Tp I b E) (k : Fin k0_t3_loop.trips) :
    N (E.ext k) (fun r q => if Bk k + r < 8 then 0 else I.X (Bk k + r - 8) (256 * b + q)) :=
  ld264 (f := fun r q => if r < 8 then 0 else I.X (r - 8) (256 * b + q)) P.xp k
theorem Tp.hextN (P : Tp I b E) (k : Fin k0_t3_loop.trips) :
    N (E.hext k) (fun r q => if Bk k + r < 8 then 0 else hh I (Bk k + r - 8) (256 * b + q)) :=
  ld264 (f := fun r q => if r < 8 then 0 else hh I (r - 8) (256 * b + q)) P.hp k
theorem Tp.gvM (P : Tp I b E) (k : Fin k0_t3_loop.trips) : M (E.gv k) (fun t q => I.G (Bk k + t) (256 * b + q)) :=
  ld256 (f := fun t q => I.G t (256 * b + q)) P.g k
theorem Tp.dvM (P : Tp I b E) (k : Fin k0_t3_loop.trips) : M (E.dv k) (fun t q => I.DY (Bk k + t) (256 * b + q)) :=
  ld256 (f := fun t q => I.DY t (256 * b + q)) P.dy k
theorem Tp.tap0W (P : Tp I b E) : W E.tap0 (fun q => I.CW 0 (256 * b + q)) := fun i => (ld1 E.cw 0 _ (by decide) i).trans (P.cw _ (by decide : 0 < 4))
theorem Tp.tap1W (P : Tp I b E) : W E.tap1 (fun q => I.CW 1 (256 * b + q)) := fun i => (ld1 E.cw 1 _ (by decide) i).trans (P.cw _ (by decide : 1 < 4))
theorem Tp.tap2W (P : Tp I b E) : W E.tap2 (fun q => I.CW 2 (256 * b + q)) := fun i => (ld1 E.cw 2 _ (by decide) i).trans (P.cw _ (by decide : 2 < 4))
theorem Tp.tap3W (P : Tp I b E) : W E.tap3 (fun q => I.CW 3 (256 * b + q)) := fun i => (ld1 E.cw 3 _ (by decide) i).trans (P.cw _ (by decide : 3 < 4))

theorem shiftX (I : Inp) (B t c j r : ℕ) (h : r = 5 + j + t) :
    (if B + r < 8 then 0 else I.X (B + r - 8) c) = xp I (j + (B + t)) c := by
  unfold xp; subst h
  by_cases h : j + (B + t) < 3
  · rw [if_pos h, if_pos (by omega)]
  · rw [if_neg h, if_neg (by omega), show B + (5 + j + t) - 8 = j + (B + t) - 3 by omega]
theorem shiftH (I : Inp) (B t c r : ℕ) (h : r = 7 + t) :
    (if B + r < 8 then 0 else hh I (B + r - 8) c) = hp I (B + t) c := by
  unfold hp; subst h
  by_cases h : B + t = 0
  · rw [if_pos h, if_pos (by omega)]
  · rw [if_neg h, if_neg (by omega), show B + (7 + t) - 8 = B + t - 1 by omega]
theorem shiftHH (I : Inp) (B t c : ℕ) : (if B + (8 + t) < 8 then 0 else hh I (B + (8 + t) - 8) c) = hh I (B + t) c := by
  rw [if_neg (by omega), show B + (8 + t) - 8 = B + t by omega]

end
variable {I : Inp} {b : ℕ} {E : Tape Ideal}

theorem k61 (P : Tp I b E) (k : Fin k0_t3_loop.trips) (acc : Carry Ideal) :
    M (T.v61 E k acc) (fun t q => xp I (3 + (Bk k + t)) (256 * b + q)) := by
  have h61 : M (T.v61 E k acc) _ := (P.extN k).slice 8 (by decide) _
  exact h61.congr fun t q ht hq => shiftX I (Bk k) t (256 * b + q) 3 (8 + t) (by omega)

theorem k67 (P : Tp I b E) (k : Fin k0_t3_loop.trips) (acc : Carry Ideal) :
    M (T.v67 E k acc) (fun t q => xp I (0 + (Bk k + t)) (256 * b + q)) := by
  have h66 : N (T.v66 E k acc) _ := (P.extN k).rot 3 (by decide) _
  have h67 : M (T.v67 E k acc) _ := h66.slice 8 (by decide) _
  exact h67.congr fun t q ht hq => shiftX I (Bk k) t (256 * b + q) 0 _ (by omega)

theorem k74 (P : Tp I b E) (k : Fin k0_t3_loop.trips) (acc : Carry Ideal) :
    M (T.v74 E k acc) (fun t q => xp I (1 + (Bk k + t)) (256 * b + q)) := by
  have h73 : N (T.v73 E k acc) _ := (P.extN k).rot 2 (by decide) _
  have h74 : M (T.v74 E k acc) _ := h73.slice 8 (by decide) _
  exact h74.congr fun t q ht hq => shiftX I (Bk k) t (256 * b + q) 1 _ (by omega)

theorem k81 (P : Tp I b E) (k : Fin k0_t3_loop.trips) (acc : Carry Ideal) :
    M (T.v81 E k acc) (fun t q => xp I (2 + (Bk k + t)) (256 * b + q)) := by
  have h80 : N (T.v80 E k acc) _ := (P.extN k).rot 1 (by decide) _
  have h81 : M (T.v81 E k acc) _ := h80.slice 8 (by decide) _
  exact h81.congr fun t q ht hq => shiftX I (Bk k) t (256 * b + q) 2 _ (by omega)

theorem k88 (P : Tp I b E) (k : Fin k0_t3_loop.trips) (acc : Carry Ideal) :
    M (T.v88 E k acc) (fun t q => xl I (Bk k + t) (256 * b + q)) := by
  have h61 := k61 P k acc
  have h67 := k67 P k acc
  have h74 := k74 P k acc
  have h81 := k81 P k acc
  have h63 : W (T.v63 E k acc) _ := P.tap3W.self _
  have h64 : M (T.v64 E k acc) _ := h63.up _
  have h65 : M (T.v65 E k acc) _ := h61.mul h64
  have h69 : W (T.v69 E k acc) _ := P.tap0W.self _
  have h70 : M (T.v70 E k acc) _ := h69.up _
  have h71 : M (T.v71 E k acc) _ := h67.mul h70
  have h72 : M (T.v72 E k acc) _ := h65.add h71
  have h76 : W (T.v76 E k acc) _ := P.tap1W.self _
  have h77 : M (T.v77 E k acc) _ := h76.up _
  have h78 : M (T.v78 E k acc) _ := h74.mul h77
  have h79 : M (T.v79 E k acc) _ := h72.add h78
  have h83 : W (T.v83 E k acc) _ := P.tap2W.self _
  have h84 : M (T.v84 E k acc) _ := h83.up _
  have h85 : M (T.v85 E k acc) _ := h81.mul h84
  have h86 : M (T.v86 E k acc) _ := h79.add h85
  have h87 : M (T.v87 E k acc) _ := P.cb.up _
  have h88 : M (T.v88 E k acc) _ := h86.add h87
  exact h88.congr fun t q ht hq => by unfold xl; beta_reduce; rw [Nat.zero_add]; ring

theorem k94 (P : Tp I b E) (k : Fin k0_t3_loop.trips) (acc : Carry Ideal) :
    M (T.v94 E k acc) (fun t q => ra I (Bk k + t) (256 * b + q)) := by
  have h88 := k88 P k acc
  have h89 : M (T.v89 E k acc) _ := h88.trunc bitsLt_bf16_f32
  have h90 : M (T.v90 E k acc) _ := P.wa.trunc bitsLt_bf16_f32
  have h91 : M (T.v91 E k acc) _ := h89.dot10 h90
  have h92 : M (T.v92 E k acc) _ := P.ba.up _
  have h93 : M (T.v93 E k acc) _ := h91.add h92
  have h94 : M (T.v94 E k acc) _ := h93.logistic
  exact h94.congr fun t q ht hq => congrArg sg (congrArg₂ (· + ·) ((bdsum (fun c => xl I (Bk k + t) c) I.WA b q hq).trans (by rw [hd_div b q hq, hd_mod b q])) (by rw [hd_div b q hq, hd_mod b q]))

theorem k100 (P : Tp I b E) (k : Fin k0_t3_loop.trips) (acc : Carry Ideal) :
    M (T.v100 E k acc) (fun t q => ig I (Bk k + t) (256 * b + q)) := by
  have h88 := k88 P k acc
  have h95 : M (T.v95 E k acc) _ := h88.trunc bitsLt_bf16_f32
  have h96 : M (T.v96 E k acc) _ := P.wx.trunc bitsLt_bf16_f32
  have h97 : M (T.v97 E k acc) _ := h95.dot10 h96
  have h98 : M (T.v98 E k acc) _ := P.bx.up _
  have h99 : M (T.v99 E k acc) _ := h97.add h98
  have h100 : M (T.v100 E k acc) _ := h99.logistic
  exact h100.congr fun t q ht hq => congrArg sg (congrArg₂ (· + ·) ((bdsum (fun c => xl I (Bk k + t) c) I.WX b q hq).trans (by rw [hd_div b q hq, hd_mod b q])) (by rw [hd_div b q hq, hd_mod b q]))

theorem k104 (P : Tp I b E) (k : Fin k0_t3_loop.trips) (acc : Carry Ideal) :
    M (T.v104 E k acc) (fun t q => la I (Bk k + t) (256 * b + q)) := by
  have h94 := k94 P k acc
  have h101 : M (T.v101 E k acc) _ := M.const Up.cm8
  have h102 : M (T.v102 E k acc) _ := h101.mul h94
  have h103 : M (T.v103 E k acc) _ := P.sp.up _
  have h104 : M (T.v104 E k acc) _ := h102.mul h103
  exact h104.congr fun t q ht hq => rfl

theorem k105 (P : Tp I b E) (k : Fin k0_t3_loop.trips) (acc : Carry Ideal) :
    M (T.v105 E k acc) (fun t q => ea I (Bk k + t) (256 * b + q)) := by
  have h104 := k104 P k acc
  have h105 : M (T.v105 E k acc) _ := h104.exp
  exact h105.congr fun t q ht hq => rfl

theorem k108 (P : Tp I b E) (k : Fin k0_t3_loop.trips) (acc : Carry Ideal) :
    M (T.v108 E k acc) (fun t q => a2 I (Bk k + t) (256 * b + q)) := by
  have h104 := k104 P k acc
  have h106 : M (T.v106 E k acc) _ := M.const Up.c2
  have h107 : M (T.v107 E k acc) _ := h106.mul h104
  have h108 : M (T.v108 E k acc) _ := h107.exp
  exact h108.congr fun t q ht hq => rfl

theorem k114 (P : Tp I b E) (k : Fin k0_t3_loop.trips) (acc : Carry Ideal) :
    M (T.v114 E k acc) (fun t q => 1 - a2 I (Bk k + t) (256 * b + q)) := by
  have h104 := k104 P k acc
  have h108 := k108 P k acc
  have h110 : M (T.v110 E k acc) _ := M.const Up.c0
  have h109 : M (T.v109 E k acc) _ := h104.tanh
  have h111 : M (T.v111 E k acc) _ := h110.sub h109
  have h112 : M (T.v112 E k acc) _ := M.const Up.c1
  have h113 : M (T.v113 E k acc) _ := h108.add h112
  have h114 : M (T.v114 E k acc) _ := h111.mul h113
  exact h114.congr fun t q ht hq => tanh_form (la I (Bk k + t) (256 * b + q))

theorem k115 (P : Tp I b E) (k : Fin k0_t3_loop.trips) (acc : Carry Ideal) :
    M (T.v115 E k acc) (fun t q => root I (Bk k + t) (256 * b + q)) :=
  (k114 P k acc).sqrt fun t q => by linarith [a2_lt I (Bk k + t) (256 * b + q)]

theorem k124 (P : Tp I b E) (k : Fin k0_t3_loop.trips) (acc : Carry Ideal) :
    M (T.v124 E k acc) (fun t q => mult I (Bk k + t) (256 * b + q)) := by
  have h115 := k115 P k acc
  have q120 : Q1 (T.v120 E k acc) (fun t => Bk k + t = 0) := by
    show Q1 (cmpi .eq (addi (broadcast S256x1 (base k)) (T.v116 E k acc)) (T.v119 E k acc)) _
    rw [base_eq k]; exact Q1.first _ (Bk k) (Bk_lt k)
  have h122 : Q (T.v122 E k acc) _ := q120.up _ _
  have h123 : M (T.v123 E k acc) _ := M.const Up.c1
  have h124 : M (T.v124 E k acc) _ := h122.sel h123 h115
  exact h124.congr fun t q ht hq => rfl

theorem k138 (P : Tp I b E) (k : Fin k0_t3_loop.trips) (acc : Carry Ideal) :
    M (T.v138 E k acc) (fun t q => th I (Bk k + t) (256 * b + q)) := by
  have h136 : M (T.v136 E k acc) _ := M.const Up.cgc
  have h131 : M (T.v131 E k acc) _ := M.const named1
  have h132 : M (T.v132 E k acc) _ := h131.mul (P.gvM k)
  have h133 : M (T.v133 E k acc) _ := h132.mul (P.gvM k)
  have h134 : M (T.v134 E k acc) _ := h133.mul (P.gvM k)
  have h135 : M (T.v135 E k acc) _ := (P.gvM k).add h134
  have h137 : M (T.v137 E k acc) _ := h136.mul h135
  have h138 : M (T.v138 E k acc) _ := h137.tanh
  exact h138.congr fun t q ht hq => congrArg (fun z => Real.tanh (gc * (_ + z))) (by ring)

theorem k175 (P : Tp I b E) (k : Fin k0_t3_loop.trips) (acc : Carry Ideal) :
    M (T.v175 E k acc) (fun t q => dh I (Bk k + t) (256 * b + q)) := by
  have h138 := k138 P k acc
  have h139 : M (T.v139 E k acc) _ := M.const Up.chalf
  have h140 : M (T.v140 E k acc) _ := h139.mul (P.gvM k)
  have h141 : M (T.v141 E k acc) _ := M.const Up.c1
  have h142 : M (T.v142 E k acc) _ := h141.add h138
  have h143 : M (T.v143 E k acc) _ := h140.mul h142
  have h175 : M (T.v175 E k acc) _ := (P.dvM k).mul h143
  exact h175.congr fun t q ht hq => by unfold dh ge; ring

/-- What a trip's scan reaches: the gradient of the state at every row. -/
theorem k283 (P : Tp I b E) (k : Fin k0_t3_loop.trips) (acc : Carry Ideal) (A : Ac I b (Bk k + 256) acc) :
    M (T.v283 E k acc) (fun t q => gd I (Bk k + t) (256 * b + q)) := by
  have h175 := k175 P k acc
  have h105 := k105 P k acc
  obtain ⟨α, hα0, hα1⟩ := A.c2
  have hα : W (T.v172 E k acc) α := hα0.self _
  have q55 : Q1 (T.v55 E k acc) _ := Q1.eq _ 255 (by decide)
  have h171 : Q (T.v171 E k acc) _ := q55.up _ _
  have h173 : M (T.v173 E k acc) _ := hα.up _
  have h169 : M (T.v169 E k acc) _ := h105.rot 255 (by decide) _
  have h174 : M (T.v174 E k acc) _ := h171.sel h173 h169
  have z1 : Sc (fun t q => gd I (Bk k + t) (256 * b + q)) (fun t q => dh I (Bk k + t) (256 * b + q))
      (fun t q => if t = 255 then α q else ea I (Bk k + (t + 256 - 255) % 256) (256 * b + q)) 1 := fun t q ht hq => by
    have hB := Bk_le k
    have e := gd_step I (Bk k + t) (256 * b + q) (by omega)
    beta_reduce
    by_cases h : t = 255
    · subst h; rw [if_pos rfl, e]; exact congrArg _ (hα1 q)
    · rw [if_neg h, e, show (t + 256 - 255) % 256 = t + 1 by omega, Nat.min_eq_left (by omega)]; rfl
  have q178 : Q1 (T.v178 E k acc) _ := Q1.lt _ 255 (by decide)
  have h188 : Q (T.v188 E k acc) _ := q178.up _ _
  have h185 : M (T.v185 E k acc) _ := h174.rot 255 (by decide) _
  have h186 : M (T.v186 E k acc) _ := h174.mul h185
  have h189 : M (T.v189 E k acc) _ := h188.sel h186 h174
  have h183 : Q (T.v183 E k acc) _ := q178.up _ _
  have h179 : M (T.v179 E k acc) _ := h175.rot 255 (by decide) _
  have h180 : M (T.v180 E k acc) _ := h174.mul h179
  have h181 : M (T.v181 E k acc) _ := h180.add h175
  have h184 : M (T.v184 E k acc) _ := h183.sel h181 h175
  have z2 := z1.step (n := 255) (by decide) rfl 2 rfl
  have q191 : Q1 (T.v191 E k acc) _ := Q1.lt _ 254 (by decide)
  have h201 : Q (T.v201 E k acc) _ := q191.up _ _
  have h198 : M (T.v198 E k acc) _ := h189.rot 254 (by decide) _
  have h199 : M (T.v199 E k acc) _ := h189.mul h198
  have h202 : M (T.v202 E k acc) _ := h201.sel h199 h189
  have h196 : Q (T.v196 E k acc) _ := q191.up _ _
  have h192 : M (T.v192 E k acc) _ := h184.rot 254 (by decide) _
  have h193 : M (T.v193 E k acc) _ := h189.mul h192
  have h194 : M (T.v194 E k acc) _ := h193.add h184
  have h197 : M (T.v197 E k acc) _ := h196.sel h194 h184
  have z4 := z2.step (n := 254) (by decide) rfl 4 rfl
  have q204 : Q1 (T.v204 E k acc) _ := Q1.lt _ 252 (by decide)
  have h214 : Q (T.v214 E k acc) _ := q204.up _ _
  have h211 : M (T.v211 E k acc) _ := h202.rot 252 (by decide) _
  have h212 : M (T.v212 E k acc) _ := h202.mul h211
  have h215 : M (T.v215 E k acc) _ := h214.sel h212 h202
  have h209 : Q (T.v209 E k acc) _ := q204.up _ _
  have h205 : M (T.v205 E k acc) _ := h197.rot 252 (by decide) _
  have h206 : M (T.v206 E k acc) _ := h202.mul h205
  have h207 : M (T.v207 E k acc) _ := h206.add h197
  have h210 : M (T.v210 E k acc) _ := h209.sel h207 h197
  have z8 := z4.step (n := 252) (by decide) rfl 8 rfl
  have q217 : Q1 (T.v217 E k acc) _ := Q1.lt _ 248 (by decide)
  have h227 : Q (T.v227 E k acc) _ := q217.up _ _
  have h224 : M (T.v224 E k acc) _ := h215.rot 248 (by decide) _
  have h225 : M (T.v225 E k acc) _ := h215.mul h224
  have h228 : M (T.v228 E k acc) _ := h227.sel h225 h215
  have h222 : Q (T.v222 E k acc) _ := q217.up _ _
  have h218 : M (T.v218 E k acc) _ := h210.rot 248 (by decide) _
  have h219 : M (T.v219 E k acc) _ := h215.mul h218
  have h220 : M (T.v220 E k acc) _ := h219.add h210
  have h223 : M (T.v223 E k acc) _ := h222.sel h220 h210
  have z16 := z8.step (n := 248) (by decide) rfl 16 rfl
  have q230 : Q1 (T.v230 E k acc) _ := Q1.lt _ 240 (by decide)
  have h240 : Q (T.v240 E k acc) _ := q230.up _ _
  have h237 : M (T.v237 E k acc) _ := h228.rot 240 (by decide) _
  have h238 : M (T.v238 E k acc) _ := h228.mul h237
  have h241 : M (T.v241 E k acc) _ := h240.sel h238 h228
  have h235 : Q (T.v235 E k acc) _ := q230.up _ _
  have h231 : M (T.v231 E k acc) _ := h223.rot 240 (by decide) _
  have h232 : M (T.v232 E k acc) _ := h228.mul h231
  have h233 : M (T.v233 E k acc) _ := h232.add h223
  have h236 : M (T.v236 E k acc) _ := h235.sel h233 h223
  have z32 := z16.step (n := 240) (by decide) rfl 32 rfl
  have q243 : Q1 (T.v243 E k acc) _ := Q1.lt _ 224 (by decide)
  have h253 : Q (T.v253 E k acc) _ := q243.up _ _
  have h250 : M (T.v250 E k acc) _ := h241.rot 224 (by decide) _
  have h251 : M (T.v251 E k acc) _ := h241.mul h250
  have h254 : M (T.v254 E k acc) _ := h253.sel h251 h241
  have h248 : Q (T.v248 E k acc) _ := q243.up _ _
  have h244 : M (T.v244 E k acc) _ := h236.rot 224 (by decide) _
  have h245 : M (T.v245 E k acc) _ := h241.mul h244
  have h246 : M (T.v246 E k acc) _ := h245.add h236
  have h249 : M (T.v249 E k acc) _ := h248.sel h246 h236
  have z64 := z32.step (n := 224) (by decide) rfl 64 rfl
  have q256 : Q1 (T.v256 E k acc) _ := Q1.lt _ 192 (by decide)
  have h266 : Q (T.v266 E k acc) _ := q256.up _ _
  have h263 : M (T.v263 E k acc) _ := h254.rot 192 (by decide) _
  have h264 : M (T.v264 E k acc) _ := h254.mul h263
  have h267 : M (T.v267 E k acc) _ := h266.sel h264 h254
  have h261 : Q (T.v261 E k acc) _ := q256.up _ _
  have h257 : M (T.v257 E k acc) _ := h249.rot 192 (by decide) _
  have h258 : M (T.v258 E k acc) _ := h254.mul h257
  have h259 : M (T.v259 E k acc) _ := h258.add h249
  have h262 : M (T.v262 E k acc) _ := h261.sel h259 h249
  have z128 := z64.step (n := 192) (by decide) rfl 128 rfl
  have q269 : Q1 (T.v269 E k acc) _ := Q1.lt _ 128 (by decide)
  have h279 : Q (T.v279 E k acc) _ := q269.up _ _
  have h276 : M (T.v276 E k acc) _ := h267.rot 128 (by decide) _
  have h277 : M (T.v277 E k acc) _ := h267.mul h276
  have h280 : M (T.v280 E k acc) _ := h279.sel h277 h267
  have h274 : Q (T.v274 E k acc) _ := q269.up _ _
  have h270 : M (T.v270 E k acc) _ := h262.rot 128 (by decide) _
  have h271 : M (T.v271 E k acc) _ := h267.mul h270
  have h272 : M (T.v272 E k acc) _ := h271.add h262
  have h275 : M (T.v275 E k acc) _ := h274.sel h272 h262
  have z256 := z128.step (n := 128) (by decide) rfl 256 rfl
  have h281 : M (T.v281 E k acc) _ := A.c1.up _
  have h282 : M (T.v282 E k acc) _ := h280.mul h281
  have h283 : M (T.v283 E k acc) _ := h275.add h282
  refine h283.congr fun t q ht hq => ?_
  have z := z256 t q ht hq
  rw [Nat.min_eq_right (by omega)] at z
  exact z

theorem k285 (P : Tp I b E) (k : Fin k0_t3_loop.trips) (acc : Carry Ideal) :
    M (T.v285 E k acc) (fun t q => hp I (Bk k + t) (256 * b + q)) := by
  have h284 : N (T.v284 E k acc) _ := (P.hextN k).rot 1 (by decide) _
  have h285 : M (T.v285 E k acc) _ := h284.slice 8 (by decide) _
  exact h285.congr fun t q ht hq => shiftH I (Bk k) t (256 * b + q) _ (by omega)

theorem k300 (P : Tp I b E) (k : Fin k0_t3_loop.trips) (acc : Carry Ideal) (A : Ac I b (Bk k + 256) acc) :
    M (T.v300 E k acc) (fun t q => dla I (Bk k + t) (256 * b + q)) := by
  have h283 := k283 P k acc A
  have h285 := k285 P k acc
  have h105 := k105 P k acc
  have h88 := k88 P k acc
  have h100 := k100 P k acc
  have h108 := k108 P k acc
  have h124 := k124 P k acc
  have h286 : M (T.v286 E k acc) _ := h283.mul h285
  have h297 : M (T.v297 E k acc) _ := h286.mul h105
  have q120 : Q1 (T.v120 E k acc) (fun t => Bk k + t = 0) := by
    show Q1 (cmpi .eq (addi (broadcast S256x1 (base k)) (T.v116 E k acc)) (T.v119 E k acc)) _
    rw [base_eq k]; exact Q1.first _ (Bk k) (Bk_lt k)
  have h294 : Q (T.v294 E k acc) _ := q120.up _ _
  have h295 : M (T.v295 E k acc) _ := M.const Up.c0
  have h291 : M (T.v291 E k acc) _ := h283.mul h88
  have h292 : M (T.v292 E k acc) _ := h291.mul h100
  have h296 : M (T.v296 E k acc) _ := h294.sel h295 h292
  have h298 : M (T.v298 E k acc) _ := h296.mul h108
  have h299 : M (T.v299 E k acc) _ := h298.div h124 (fun _ _ => (mult_pos I _ _).ne')
  have h300 : M (T.v300 E k acc) _ := h297.sub h299
  exact h300.congr fun t q ht hq => rfl

theorem k317 (P : Tp I b E) (k : Fin k0_t3_loop.trips) (acc : Carry Ideal) (A : Ac I b (Bk k + 256) acc) :
    M (T.v317 E k acc) (fun t q => dpr I (Bk k + t) (256 * b + q)) := by
  have h300 := k300 P k acc A
  have h94 := k94 P k acc
  have h301 : M (T.v301 E k acc) _ := M.const Up.cm8
  have h302 : M (T.v302 E k acc) _ := h300.mul h301
  have h303 : M (T.v303 E k acc) _ := P.sp.up _
  have h304 : M (T.v304 E k acc) _ := h302.mul h303
  have h314 : M (T.v314 E k acc) _ := h304.mul h94
  have h315 : M (T.v315 E k acc) _ := M.const Up.c1
  have h316 : M (T.v316 E k acc) _ := h315.sub h94
  have h317 : M (T.v317 E k acc) _ := h314.mul h316
  exact h317.congr fun t q ht hq => rfl

theorem k321 (P : Tp I b E) (k : Fin k0_t3_loop.trips) (acc : Carry Ideal) (A : Ac I b (Bk k + 256) acc) :
    M (T.v321 E k acc) (fun t q => dpi I (Bk k + t) (256 * b + q)) := by
  have h283 := k283 P k acc A
  have h88 := k88 P k acc
  have h124 := k124 P k acc
  have h100 := k100 P k acc
  have h289 : M (T.v289 E k acc) _ := h283.mul h88
  have h290 : M (T.v290 E k acc) _ := h289.mul h124
  have h318 : M (T.v318 E k acc) _ := h290.mul h100
  have h319 : M (T.v319 E k acc) _ := M.const Up.c1
  have h320 : M (T.v320 E k acc) _ := h319.sub h100
  have h321 : M (T.v321 E k acc) _ := h318.mul h320
  exact h321.congr fun t q ht hq => rfl

theorem k329 (P : Tp I b E) (k : Fin k0_t3_loop.trips) (acc : Carry Ideal) (A : Ac I b (Bk k + 256) acc) :
    M (T.v329 E k acc) (fun t q => dxl I (Bk k + t) (256 * b + q)) := by
  have h283 := k283 P k acc A
  have h100 := k100 P k acc
  have h124 := k124 P k acc
  have h317 := k317 P k acc A
  have h321 := k321 P k acc A
  have h287 : M (T.v287 E k acc) _ := h283.mul h100
  have h288 : M (T.v288 E k acc) _ := h287.mul h124
  have h322 : M (T.v322 E k acc) _ := h317.trunc bitsLt_bf16_f32
  have h323 : M (T.v323 E k acc) _ := P.wa.trunc bitsLt_bf16_f32
  have h324 : M (T.v324 E k acc) _ := h322.dot11 h323
  have h325 : M (T.v325 E k acc) _ := h288.add h324
  have h326 : M (T.v326 E k acc) _ := h321.trunc bitsLt_bf16_f32
  have h327 : M (T.v327 E k acc) _ := P.wx.trunc bitsLt_bf16_f32
  have h328 : M (T.v328 E k acc) _ := h326.dot11 h327
  have h329 : M (T.v329 E k acc) _ := h325.add h328
  exact h329.congr fun t q ht hq => congrArg₂ (· + ·) (congrArg₂ (· + ·) rfl (bdsum2 (fun c => dpr I (Bk k + t) c) I.WA b q hq)) (bdsum2 (fun c => dpi I (Bk k + t) c) I.WX b q hq)

theorem k401 (P : Tp I b E) (k : Fin k0_t3_loop.trips) (acc : Carry Ideal) (A : Ac I b (Bk k + 256) acc) :
    N (T.v401 E k acc) (fun t q => dz I (Bk k + t) (256 * b + q)) := by
  have hd : M (T.v329 E k acc) (fun t q => dz I (Bk k + t) (256 * b + q)) :=
    (k329 P k acc A).congr fun t q ht hq => (if_pos (by have := Bk_le k; omega)).symm
  exact hd.cat _ (fun i => (A.c3 i).trans (by rw [Nat.add_assoc])) _

theorem k427 (P : Tp I b E) (k : Fin k0_t3_loop.trips) (acc : Carry Ideal) (A : Ac I b (Bk k + 256) acc) :
    M (T.v427 E k acc) (fun t q => dx I (Bk k + t) (256 * b + q)) := by
  have h401 := k401 P k acc A
  have h402 : M (T.v402 E k acc) _ := h401.slice 0 (by decide) _
  have h404 : W (T.v404 E k acc) _ := P.tap3W.self _
  have h405 : M (T.v405 E k acc) _ := h404.up _
  have h406 : M (T.v406 E k acc) _ := h402.mul h405
  have h407 : N (T.v407 E k acc) _ := h401.rot 261 (by decide) _
  have h408 : M (T.v408 E k acc) _ := h407.slice 0 (by decide) _
  have h410 : W (T.v410 E k acc) _ := P.tap0W.self _
  have h411 : M (T.v411 E k acc) _ := h410.up _
  have h412 : M (T.v412 E k acc) _ := h408.mul h411
  have h413 : M (T.v413 E k acc) _ := h406.add h412
  have h414 : N (T.v414 E k acc) _ := h401.rot 262 (by decide) _
  have h415 : M (T.v415 E k acc) _ := h414.slice 0 (by decide) _
  have h417 : W (T.v417 E k acc) _ := P.tap1W.self _
  have h418 : M (T.v418 E k acc) _ := h417.up _
  have h419 : M (T.v419 E k acc) _ := h415.mul h418
  have h420 : M (T.v420 E k acc) _ := h413.add h419
  have h421 : N (T.v421 E k acc) _ := h401.rot 263 (by decide) _
  have h422 : M (T.v422 E k acc) _ := h421.slice 0 (by decide) _
  have h424 : W (T.v424 E k acc) _ := P.tap2W.self _
  have h425 : M (T.v425 E k acc) _ := h424.up _
  have h426 : M (T.v426 E k acc) _ := h422.mul h425
  have h427 : M (T.v427 E k acc) _ := h420.add h426
  exact h427.congr fun t q ht hq => by
    unfold dx; beta_reduce
    rw [Nat.zero_add, show (t + 264 - 261) % 264 = t + 3 by omega, show (t + 264 - 262) % 264 = t + 2 by omega, show (t + 264 - 263) % 264 = t + 1 by omega]
    rfl

theorem k144 (P : Tp I b E) (k : Fin k0_t3_loop.trips) (acc : Carry Ideal) :
    M (T.v144 E k acc) (fun t q => hh I (Bk k + t) (256 * b + q)) := by
  have h144 : M (T.v144 E k acc) _ := (P.hextN k).slice 8 (by decide) _
  exact h144.congr fun t q ht hq => shiftHH I (Bk k) t (256 * b + q)

theorem k165 (P : Tp I b E) (k : Fin k0_t3_loop.trips) (acc : Carry Ideal) :
    M (T.v165 E k acc) (fun t q => dg I (Bk k + t) (256 * b + q)) := by
  have h144 := k144 P k acc
  have h138 := k138 P k acc
  have h145 : M (T.v145 E k acc) _ := (P.dvM k).mul h144
  have h148 : M (T.v148 E k acc) _ := M.const Up.chalf
  have h146 : M (T.v146 E k acc) _ := M.const Up.c1
  have h147 : M (T.v147 E k acc) _ := h146.add h138
  have h149 : M (T.v149 E k acc) _ := h148.mul h147
  have h150 : M (T.v150 E k acc) _ := M.const Up.chalf
  have h151 : M (T.v151 E k acc) _ := h150.mul (P.gvM k)
  have h153 : M (T.v153 E k acc) _ := M.const Up.c1
  have h152 : M (T.v152 E k acc) _ := h138.mul h138
  have h154 : M (T.v154 E k acc) _ := h153.sub h152
  have h155 : M (T.v155 E k acc) _ := h151.mul h154
  have h156 : M (T.v156 E k acc) _ := M.const Up.cgc
  have h157 : M (T.v157 E k acc) _ := h155.mul h156
  have h161 : M (T.v161 E k acc) _ := M.const Up.c1
  have h158 : M (T.v158 E k acc) _ := M.const named3
  have h159 : M (T.v159 E k acc) _ := h158.mul (P.gvM k)
  have h160 : M (T.v160 E k acc) _ := h159.mul (P.gvM k)
  have h162 : M (T.v162 E k acc) _ := h161.add h160
  have h163 : M (T.v163 E k acc) _ := h157.mul h162
  have h164 : M (T.v164 E k acc) _ := h149.add h163
  have h165 : M (T.v165 E k acc) _ := h145.mul h164
  exact h165.congr fun t q ht hq => rfl

theorem kr0 (P : Tp I b E) (k : Fin k0_t3_loop.trips) (acc : Carry Ideal) (A : Ac I b (Bk k + 256) acc) :
    W (T.v366 E k acc) (fun q => ∑ t ∈ range 256, dxl I (Bk k + t) (256 * b + q) * xp I (0 + (Bk k + t)) (256 * b + q)) := by
  have h329 := k329 P k acc A
  have h363 := k67 P k acc
  have h364 : M (T.v364 E k acc) _ := h329.mul h363
  have h366 : W (T.v366 E k acc) _ := h364.sum _ _ _ _ _
  exact h366.congr fun q hq => rfl

theorem kr1 (P : Tp I b E) (k : Fin k0_t3_loop.trips) (acc : Carry Ideal) (A : Ac I b (Bk k + 256) acc) :
    W (T.v375 E k acc) (fun q => ∑ t ∈ range 256, dxl I (Bk k + t) (256 * b + q) * xp I (1 + (Bk k + t)) (256 * b + q)) := by
  have h329 := k329 P k acc A
  have h372 := k74 P k acc
  have h373 : M (T.v373 E k acc) _ := h329.mul h372
  have h375 : W (T.v375 E k acc) _ := h373.sum _ _ _ _ _
  exact h375.congr fun q hq => rfl

theorem kr2 (P : Tp I b E) (k : Fin k0_t3_loop.trips) (acc : Carry Ideal) (A : Ac I b (Bk k + 256) acc) :
    W (T.v384 E k acc) (fun q => ∑ t ∈ range 256, dxl I (Bk k + t) (256 * b + q) * xp I (2 + (Bk k + t)) (256 * b + q)) := by
  have h329 := k329 P k acc A
  have h381 := k81 P k acc
  have h382 : M (T.v382 E k acc) _ := h329.mul h381
  have h384 : W (T.v384 E k acc) _ := h382.sum _ _ _ _ _
  exact h384.congr fun q hq => rfl

theorem kr3 (P : Tp I b E) (k : Fin k0_t3_loop.trips) (acc : Carry Ideal) (A : Ac I b (Bk k + 256) acc) :
    W (T.v392 E k acc) (fun q => ∑ t ∈ range 256, dxl I (Bk k + t) (256 * b + q) * xp I (3 + (Bk k + t)) (256 * b + q)) := by
  have h329 := k329 P k acc A
  have h389 := k61 P k acc
  have h390 : M (T.v390 E k acc) _ := h329.mul h389
  have h392 : W (T.v392 E k acc) _ := h390.sum _ _ _ _ _
  exact h392.congr fun q hq => rfl

theorem kr4 (P : Tp I b E) (k : Fin k0_t3_loop.trips) (acc : Carry Ideal) (A : Ac I b (Bk k + 256) acc) :
    W (T.v398 E k acc) (fun q => ∑ t ∈ range 256, dxl I (Bk k + t) (256 * b + q)) := by
  have h329 := k329 P k acc A
  have h398 : W (T.v398 E k acc) _ := h329.sum _ _ _ _ _
  exact h398.congr fun q hq => rfl

theorem kr5 (P : Tp I b E) (k : Fin k0_t3_loop.trips) (acc : Carry Ideal) (A : Ac I b (Bk k + 256) acc) :
    W (T.v351 E k acc) (fun q => ∑ t ∈ range 256, dpr I (Bk k + t) (256 * b + q)) := by
  have h317 := k317 P k acc A
  have h351 : W (T.v351 E k acc) _ := h317.sum _ _ _ _ _
  exact h351.congr fun q hq => rfl

theorem kr6 (P : Tp I b E) (k : Fin k0_t3_loop.trips) (acc : Carry Ideal) (A : Ac I b (Bk k + 256) acc) :
    W (T.v357 E k acc) (fun q => ∑ t ∈ range 256, dpi I (Bk k + t) (256 * b + q)) := by
  have h321 := k321 P k acc A
  have h357 : W (T.v357 E k acc) _ := h321.sum _ _ _ _ _
  exact h357.congr fun q hq => rfl

theorem kr7 (P : Tp I b E) (k : Fin k0_t3_loop.trips) (acc : Carry Ideal) (A : Ac I b (Bk k + 256) acc) :
    W (T.v311 E k acc) (fun q => ∑ t ∈ range 256, dla I (Bk k + t) (256 * b + q) * -8 * ra I (Bk k + t) (256 * b + q)) := by
  have h300 := k300 P k acc A
  have h94 := k94 P k acc
  have h307 : M (T.v307 E k acc) _ := M.const Up.cm8
  have h308 : M (T.v308 E k acc) _ := h300.mul h307
  have h309 : M (T.v309 E k acc) _ := h308.mul h94
  have h311 : W (T.v311 E k acc) _ := h309.sum _ _ _ _ _
  exact h311.congr fun q hq => rfl

theorem k334 (P : Tp I b E) (k : Fin k0_t3_loop.trips) (acc : Carry Ideal) (A : Ac I b (Bk k + 256) acc) :
    M (T.v334 E k acc) (fun p q => ∑ t ∈ range 256, xl I (Bk k + t) (256 * b + p) * dpr I (Bk k + t) (256 * b + q)) := by
  have h88 := k88 P k acc
  have h317 := k317 P k acc A
  have h332 : M (T.v332 E k acc) _ := h88.trunc bitsLt_bf16_f32
  have h333 : M (T.v333 E k acc) _ := h317.trunc bitsLt_bf16_f32
  have h334 : M (T.v334 E k acc) _ := h332.dot00 h333
  exact h334.congr fun t q ht hq => rfl

theorem k343 (P : Tp I b E) (k : Fin k0_t3_loop.trips) (acc : Carry Ideal) (A : Ac I b (Bk k + 256) acc) :
    M (T.v343 E k acc) (fun p q => ∑ t ∈ range 256, xl I (Bk k + t) (256 * b + p) * dpi I (Bk k + t) (256 * b + q)) := by
  have h88 := k88 P k acc
  have h321 := k321 P k acc A
  have h341 : M (T.v341 E k acc) _ := h88.trunc bitsLt_bf16_f32
  have h342 : M (T.v342 E k acc) _ := h321.trunc bitsLt_bf16_f32
  have h343 : M (T.v343 E k acc) _ := h341.dot00 h342
  exact h343.congr fun t q ht hq => rfl

end Cert.KernelIdeal.Hand
-- ==== Proof.KS.lean ====
module

public import proofs.«01_k».proof.Proof.Fin
public import proofs.«01_k».proof.Proof.KV

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Finset (range mem_range sum_congr)
open Cert Lru

/-! What a call leaves in its five outputs. -/

variable {I : Inp} {b : ℕ} {E : Tape Ideal}

/-- The matrix is this function of its row and column. -/
def V3 (x : S1x256x256.Idx → EReal) (f : ℕ → ℕ → ℝ) : Prop := ∀ i, x i = ((f (i 1).val (i 2).val : ℝ) : EReal)

theorem V3.flat {x : S1x256x256.Idx → EReal} {f : ℕ → ℕ → ℝ} (hx : V3 x f) (h : S1x256x256.ShapeCasts S256x256) : M (shapeCast S256x256 x h) f := fun i =>
  (shapeCast_apply x h i (ix3 0 (i 0) (i 1)) (by
    rw [Shape.rowMajor_val_three, Shape.rowMajor_val_two]
    show ((0 * 256 + (i 0).val) * 256 + (i 1).val) = (i 0).val * 256 + (i 1).val
    omega)).trans (hx _)
theorem M.lift {x : S256x256.Idx → EReal} {f : ℕ → ℕ → ℝ} (hx : M x f) (h : S256x256.ShapeCasts S1x256x256) : V3 (shapeCast S1x256x256 x h) f := fun i =>
  (shapeCast_apply x h i (ix2 (i 1) (i 2)) (by
    rw [Shape.rowMajor_val_three, Shape.rowMajor_val_two]
    have h0 : (i 0).val < 1 := (i 0).isLt
    show (i 1).val * 256 + (i 2).val = ((i 0).val * 256 + (i 1).val) * 256 + (i 2).val
    omega)).trans (hx _)
theorem V3.congr {x : S1x256x256.Idx → EReal} {f g : ℕ → ℕ → ℝ} (hx : V3 x f) (h : ∀ p q, f p q = g p q) : V3 x g := fun i =>
  (hx i).trans (congrArg _ (h _ _))
theorem W.add {x y : FVec Ideal S1x256 .f32} {f g : ℕ → ℝ} (hx : W x f) (hy : W y g) : W (addf x y) (fun q => f q + g q) := fun i => Up.add (hx i) (hy i)

/-- The summands of the eight accumulated rows. -/
def rowF (I : Inp) (j t c : ℕ) : ℝ :=
  if j < 4 then dxl I t c * Lru.xp I (j + t) c else if j = 4 then dxl I t c else if j = 5 then dpr I t c else if j = 6 then dpi I t c
  else dla I t c * -8 * ra I t c

theorem rowW {R : Vec Ideal S8x256 .f32} {a : ℕ → ℕ → ℝ} (hR : ∀ i, R i = ((a (i 0).val (i 1).val : ℝ) : EReal)) (o : ℕ)
    (inb : ∀ a : Fin 2, (![o, 0] : Fin 2 → ℕ) a + S1x256.size a ≤ S8x256.size a) (ho : o < 8) : W (T.row R o inb) (fun q => a o q) :=
  fun i => (ld1 R o inb ho i).trans (hR _)

theorem rows_step (P : Tp I b E) (k : Fin k0_t3_loop.trips) (acc : Carry Ideal) (A : Ac I b (Bk k + 256) acc)
    {R : Vec Ideal S8x256 .f32} {a : ℕ → ℕ → ℝ} (hR : ∀ i, R i = ((a (i 0).val (i 1).val : ℝ) : EReal)) :
    ∀ j : Fin 8, W (A14' E k acc R j) (fun q => a j.val q + ∑ t ∈ range 256, rowF I j.val (Bk k + t) (256 * b + q))
  | 0 => ((rowW hR 0 _ (by decide)).self _).add (kr0 P k acc A)
  | 1 => ((rowW hR 1 _ (by decide)).self _).add (kr1 P k acc A)
  | 2 => ((rowW hR 2 _ (by decide)).self _).add (kr2 P k acc A)
  | 3 => ((rowW hR 3 _ (by decide)).self _).add (kr3 P k acc A)
  | 4 => ((rowW hR 4 _ (by decide)).self _).add (kr4 P k acc A)
  | 5 => ((rowW hR 5 _ (by decide)).self _).add (kr5 P k acc A)
  | 6 => ((rowW hR 6 _ (by decide)).self _).add (kr6 P k acc A)
  | 7 => ((rowW hR 7 _ (by decide)).self _).add (kr7 P k acc A)

theorem first_row (f : ℕ → ℝ) : (∑ t ∈ range 256, if t = 0 then f t else 0) = f 0 := by
  rw [Finset.sum_eq_single 0 (fun t _ h => if_neg h) (fun h => absurd (mem_range.2 (by decide)) h), if_pos rfl]

theorem carry1 (P : Tp I b E) (k : Fin k0_t3_loop.trips) (acc : Carry Ideal) (A : Ac I b (Bk k + 256) acc) :
    W (k0_pay8 (T.v437 E k acc)) (fun q => gd I (Bk k) (256 * b + q)) := by
  have q : Q1 (T.v433 E k acc) (fun t => t = 0) := Q1.eq _ 0 (by decide)
  have h435 : Q (T.v435 E k acc) (fun t => t = 0) := q.up _ _
  have h437 : M (T.v437 E k acc) (fun t q => if t = 0 then gd I (Bk k + t) (256 * b + q) else 0) := h435.sel (k283 P k acc A) (M.const Up.c0)
  have h : W (k0_pay8 (T.v437 E k acc)) (fun q => ∑ t ∈ range 256, if t = 0 then gd I (Bk k + t) (256 * b + q) else 0) := h437.sum _ _ _ _ _
  refine h.congr fun q _ => ?_
  rw [first_row (fun t => gd I (Bk k + t) (256 * b + q)), Nat.add_zero]
theorem carry2 (P : Tp I b E) (k : Fin k0_t3_loop.trips) (acc : Carry Ideal) :
    W (k0_pay9 (T.v105 E k acc)) (fun q => ea I (Bk k) (256 * b + q)) := by
  have h0 : M _ (fun t q => if t = 0 then ea I (Bk k + t) (256 * b + q) else 0) :=
    ((Q1.eq iota_S256x1_d0_w32 0 (by decide)).up shapeCasts_S256x1_S256x1 broadcasts_S256x1_S256x256).sel (k105 P k acc) (M.const Up.c0)
  have h : W (k0_pay9 (T.v105 E k acc)) (fun q => ∑ t ∈ range 256, if t = 0 then ea I (Bk k + t) (256 * b + q) else 0) := h0.sum _ _ _ _ _
  refine h.congr fun q _ => ?_
  rw [first_row (fun t => ea I (Bk k + t) (256 * b + q)), Nat.add_zero]
theorem pay10_eq {x : FVec Ideal S256x256 .f32} {f : ℕ → ℕ → ℝ} (hx : M x f) (i : S8x256.Idx) :
    k0_pay10 x i = ((f (i 0).val (i 1).val : ℝ) : EReal) := by
  have hi : (i 0).val < 8 := (i 0).isLt
  show extractStridedSlice S8x256 ![0, 0] x slices_S256x256_o0_0_S8x256 i = _
  exact (extractStridedSlice_apply ![0, 0] x slices_S256x256_o0_0_S8x256 i (ix2 ⟨(i 0).val, by omega⟩ (i 1))
    (Fin.forall_fin_two.2 ⟨(Nat.zero_add _).symm, (Nat.zero_add _).symm⟩)).trans (hx _)
theorem carry3 (P : Tp I b E) (k : Fin k0_t3_loop.trips) (acc : Carry Ideal) (A : Ac I b (Bk k + 256) acc) (i : S8x256.Idx) :
    k0_pay10 (T.v329 E k acc) i = ((dz I (Bk k + (i 0).val) (256 * b + (i 1).val) : ℝ) : EReal) := by
  have hi : (i 0).val < 8 := (i 0).isLt
  rw [pay10_eq (k329 P k acc A) i]
  have hB := Bk_le k
  unfold dz
  rw [if_pos (by omega)]
theorem carry_step (P : Tp I b E) (k : Fin k0_t3_loop.trips) (acc : Carry Ideal) (A : Ac I b (Bk k + 256) acc) :
    Ac I b (Bk k) (k0_pay8 (T.v437 E k acc), k0_pay9 (T.v105 E k acc), k0_pay10 (T.v329 E k acc)) :=
  ⟨carry1 P k acc A, ⟨fun q => ea I (Bk k) (256 * b + q), carry2 P k acc, fun _ => rfl⟩, carry3 P k acc A⟩

abbrev St := Carry Ideal × Vec Ideal S8x256 .f32 × Vec Ideal S1x256x256 .f32 × Vec Ideal S1x256x256 .f32

/-- What holds when the `m` rows from row `B` on are done. -/
structure Inv (I : Inp) (b B m : ℕ) (S : St) : Prop where
  ac : Ac I b B S.1
  row : ∀ i, S.2.1 i = ((∑ t ∈ range m, rowF I (i 0).val (B + t) (256 * b + (i 1).val) : ℝ) : EReal)
  wa : V3 S.2.2.1 (fun p q => ∑ t ∈ range m, xl I (B + t) (256 * b + p) * dpr I (B + t) (256 * b + q))
  wx : V3 S.2.2.2 (fun p q => ∑ t ∈ range m, xl I (B + t) (256 * b + p) * dpi I (B + t) (256 * b + q))

theorem sum_split (F : ℕ → ℝ) (B m : ℕ) :
    (∑ t ∈ range m, F (B + 256 + t)) + (∑ t ∈ range 256, F (B + t)) = ∑ t ∈ range (256 + m), F (B + t) := by
  rw [Finset.sum_range_add, add_comm]
  congr 1
  exact sum_congr rfl fun t _ => by rw [Nat.add_assoc]

theorem inv_zero : Inv I b 2048 0 (STB E 0) where
  ac :=
    { c1 := fun i => Up.c0.trans (congrArg _ (gd_end I 2048 _ (le_refl _)).symm)
      c2 := ⟨fun _ => 0, fun i => Up.c0, fun q => by rw [gd_end I 2048 _ (le_refl _), mul_zero, mul_zero]⟩
      c3 := fun i => Up.c0.trans (congrArg _ (by unfold dz; rw [if_neg (by omega)])) }
  row := fun i => by rw [Finset.sum_range_zero]; exact Up.c0
  wa := V3.congr (M.lift (M.const Up.c0) shapeCasts_S256x256_S1x256x256) fun p q => by rw [Finset.sum_range_zero]
  wx := V3.congr (M.lift (M.const Up.c0) shapeCasts_S256x256_S1x256x256) fun p q => by rw [Finset.sum_range_zero]

theorem step_row (P : Tp I b E) (k : Fin k0_t3_loop.trips) (S : St) (m : ℕ) (H : Inv I b (Bk k + 256) m S) (i : S8x256.Idx) :
    A14' E k S.1 S.2.1 (i 0) (ix2 0 (i 1)) = ((∑ t ∈ range (256 + m), rowF I (i 0).val (Bk k + t) (256 * b + (i 1).val) : ℝ) : EReal) := by
  rw [rows_step P k S.1 H.ac (a := fun j q => ∑ t ∈ range m, rowF I j (Bk k + 256 + t) (256 * b + q)) H.row (i 0) (ix2 0 (i 1)),
    ← sum_split (fun t => rowF I (i 0).val t (256 * b + (i 1).val)) (Bk k) m]
theorem step_wa (P : Tp I b E) (k : Fin k0_t3_loop.trips) (S : St) (m : ℕ) (H : Inv I b (Bk k + 256) m S) :
    V3 (A15' E k S.1 S.2.2.1) (fun p q => ∑ t ∈ range (256 + m), xl I (Bk k + t) (256 * b + p) * dpr I (Bk k + t) (256 * b + q)) := by
  have h : V3 (A15' E k S.1 S.2.2.1) _ := M.lift ((H.wa.flat shapeCasts_S1x256x256_S256x256).add (k334 P k S.1 H.ac)) shapeCasts_S256x256_S1x256x256
  refine h.congr fun p q => ?_
  rw [← sum_split (fun t => xl I t (256 * b + p) * dpr I t (256 * b + q)) (Bk k) m]
theorem step_wx (P : Tp I b E) (k : Fin k0_t3_loop.trips) (S : St) (m : ℕ) (H : Inv I b (Bk k + 256) m S) :
    V3 (A16' E k S.1 S.2.2.2) (fun p q => ∑ t ∈ range (256 + m), xl I (Bk k + t) (256 * b + p) * dpi I (Bk k + t) (256 * b + q)) := by
  have h : V3 (A16' E k S.1 S.2.2.2) _ := M.lift ((H.wx.flat shapeCasts_S1x256x256_S256x256).add (k343 P k S.1 H.ac)) shapeCasts_S256x256_S1x256x256
  refine h.congr fun p q => ?_
  rw [← sum_split (fun t => xl I t (256 * b + p) * dpi I t (256 * b + q)) (Bk k) m]

theorem STB_succ (E : Tape Ideal) (n : ℕ) (h : n < k0_t3_loop.trips) :
    STB E (n + 1) = (carry' E ⟨n, h⟩ (STB E n).1,
       fun y => A14' E ⟨n, h⟩ (STB E n).1 (STB E n).2.1 (y 0) (ix2 0 (y 1)),
       A15' E ⟨n, h⟩ (STB E n).1 (STB E n).2.2.1,
       A16' E ⟨n, h⟩ (STB E n).1 (STB E n).2.2.2) := by
  unfold STB
  rw [ST_succ _ _ _ _ _ n h]

theorem inv_step (P : Tp I b E) (k : Fin k0_t3_loop.trips) (m : ℕ) (S : St) (H : Inv I b (Bk k + 256) m S) :
    Inv I b (Bk k) (256 + m) (carry' E k S.1, fun y => A14' E k S.1 S.2.1 (y 0) (ix2 0 (y 1)), A15' E k S.1 S.2.2.1, A16' E k S.1 S.2.2.2) :=
  ⟨carry_step P k S.1 H.ac, step_row P k S m H, step_wa P k S m H, step_wx P k S m H⟩

theorem inv_succ (P : Tp I b E) (n : ℕ) (h : n < k0_t3_loop.trips) (m : ℕ) (H : Inv I b (Bk ⟨n, h⟩ + 256) m (STB E n)) :
    Inv I b (Bk ⟨n, h⟩) (256 + m) (STB E (n + 1)) := by
  rw [STB_succ E n h]
  exact inv_step P ⟨n, h⟩ m (STB E n) H

theorem inv (P : Tp I b E) : ∀ n, n ≤ 8 → Inv I b (2048 - 256 * n) (256 * n) (STB E n)
  | 0, _ => inv_zero
  | n + 1, h => by
    have hk : n < k0_t3_loop.trips := lt_of_lt_of_eq (by omega) trips_eq.symm
    have eB : Bk ⟨n, hk⟩ = 2048 - 256 * (n + 1) := by show (7 - n) * 256 = _; omega
    have eB' : 2048 - 256 * n = Bk ⟨n, hk⟩ + 256 := by rw [eB]; omega
    have H := inv P n (by omega)
    rw [eB'] at H
    have R := inv_succ P n hk (256 * n) H
    rw [eB, show 256 + 256 * n = 256 * (n + 1) by ring] at R
    exact R

/-! ## The five outputs -/

theorem trip_row (r : Fin 2048) : Bk (tripOf r) + (rowOf r).val = r.val := by
  have := r.isLt
  show (7 - (7 - r.val / 256)) * 256 + r.val % 256 = r.val
  omega
theorem trip_ac (P : Tp I b E) (r : Fin 2048) : Ac I b (Bk (tripOf r) + 256) (STB E (tripOf r).val).1 := by
  have h := (inv P (tripOf r).val (by show 7 - r.val / 256 ≤ 8; omega)).ac
  have e : 2048 - 256 * (tripOf r).val = Bk (tripOf r) + 256 := by
    have := r.isLt
    show 2048 - 256 * (7 - r.val / 256) = (7 - (7 - r.val / 256)) * 256 + 256
    omega
  exact e ▸ h

theorem out12_eq (P : Tp I b E) (y : S2048x256.Idx) : out12 E y = ((dx I (y 0).val (256 * b + (y 1).val) : ℝ) : EReal) := by
  refine (((k427 P _ _ (trip_ac P (y 0))).trunc bitsLt_bf16_f32) (ix2 (rowOf (y 0)) (y 1))).trans ?_
  exact congrArg (fun n => ((dx I n (256 * b + (y 1).val) : ℝ) : EReal)) (trip_row (y 0))
theorem out13_eq (P : Tp I b E) (y : S2048x256.Idx) : out13 E y = ((dg I (y 0).val (256 * b + (y 1).val) : ℝ) : EReal) := by
  refine (((k165 P _ _).trunc bitsLt_bf16_f32) (ix2 (rowOf (y 0)) (y 1))).trans ?_
  exact congrArg (fun n => ((dg I n (256 * b + (y 1).val) : ℝ) : EReal)) (trip_row (y 0))

/-- The eight rows a call leaves. -/
def rowT (I : Inp) (j c : ℕ) : ℝ :=
  if j < 4 then dcw I j c else if j = 4 then dcb I c else if j = 5 then dba I c else if j = 6 then dbx I c else dap I c

theorem rows_all (P : Tp I b E) (i : S8x256.Idx) : (STB E 8).2.1 i = ((∑ t ∈ range 2048, rowF I (i 0).val t (256 * b + (i 1).val) : ℝ) : EReal) := by
  refine ((inv P 8 le_rfl).row i).trans (congrArg _ (sum_congr rfl fun t _ => ?_))
  rw [show 2048 - 256 * 8 + t = t by omega]

theorem out14_eq (P : Tp I b E) (x10 : Vec Ideal S1x256 .f32) (h10 : W x10 (fun q => I.AP (256 * b + q))) (y : S8x256.Idx) :
    out14 E x10 y = ((rowT I (y 0).val (256 * b + (y 1).val) : ℝ) : EReal) := by
  unfold out14
  by_cases h7 : (y 0).val = 7
  · rw [if_pos h7, h7]
    have h44 : W (shapeCast S1x256 (T.row (STB E 8).2.1 7 inb_S8x256_S1x256_7_0) shapeCasts_S1x256_S1x256) _ :=
      (rowW (a := fun j q => ∑ t ∈ range 2048, rowF I j t (256 * b + q)) (rows_all P) 7 _ (by decide)).self _
    refine (Up.mul (h44 _) (Up.sub Up.c0 (Up.logistic (Up.sub Up.c0 (h10 _))))).trans (congrArg _ ?_)
    rw [zero_sub (I.AP _)]
    rfl
  · rw [if_neg h7, rows_all P y]
    refine congrArg _ ?_
    have h8 : (y 0).val < 8 := (y 0).isLt
    unfold rowT rowF
    by_cases h : (y 0).val < 4
    · simp only [if_pos h]; rfl
    · simp only [if_neg h]
      by_cases h : (y 0).val = 4
      · simp only [if_pos h]; rfl
      · simp only [if_neg h]
        by_cases h : (y 0).val = 5
        · simp only [if_pos h]; rfl
        · simp only [if_neg h]
          have h : (y 0).val = 6 := by omega
          simp only [if_pos h]; rfl
theorem out15_eq (P : Tp I b E) : V3 (out15 E) (fun p q => ∑ t ∈ range 2048, xl I t (256 * b + p) * dpr I t (256 * b + q)) :=
  (inv P 8 le_rfl).wa.congr fun p q => sum_congr rfl fun t _ => by rw [show 2048 - 256 * 8 + t = t by omega]
theorem out16_eq (P : Tp I b E) : V3 (out16 E) (fun p q => ∑ t ∈ range 2048, xl I t (256 * b + p) * dpi I t (256 * b + q)) :=
  (inv P 8 le_rfl).wx.congr fun p q => sum_congr rfl fun t _ => by rw [show 2048 - 256 * 8 + t = t by omega]

/-! ## The tape from the blocks a call stages -/

theorem pad8_eq {x : Vec Ideal S2048x256 .f32} {f : ℕ → ℕ → ℝ} (hx : ∀ i, x i = ((f (i 0).val (i 1).val : ℝ) : EReal)) (i : S2056x256.Idx) :
    pad8 x i = ((if (i 0).val < 8 then 0 else f ((i 0).val - 8) (i 1).val : ℝ) : EReal) := by
  unfold pad8
  by_cases h : (i 0).val < 8
  · rw [dif_pos h, if_pos h]; exact Up.c0
  · rw [dif_neg h, if_neg h]; exact hx _

/-- What the blocks of the column block `b` hold. -/
structure Blk (I : Inp) (b : ℕ) (x0 x1 x2 x3 : Vec Ideal S2048x256 .f32) (x4 : Vec Ideal S8x256 .f32) (x5 : Vec Ideal S1x256 .f32)
    (x6 : Vec Ideal S1x256x256 .f32) (x7 : Vec Ideal S1x256 .f32) (x8 : Vec Ideal S1x256x256 .f32) (x9 x10 : Vec Ideal S1x256 .f32) : Prop where
  x : ∀ i, x0 i = ((I.X (i 0).val (256 * b + (i 1).val) : ℝ) : EReal)
  g : ∀ i, x1 i = ((I.G (i 0).val (256 * b + (i 1).val) : ℝ) : EReal)
  dy : ∀ i, x2 i = ((I.DY (i 0).val (256 * b + (i 1).val) : ℝ) : EReal)
  h : ∀ i, x3 i = ((hh I (i 0).val (256 * b + (i 1).val) : ℝ) : EReal)
  cw : ∀ i, (i 0).val < 4 → x4 i = ((I.CW (i 0).val (256 * b + (i 1).val) : ℝ) : EReal)
  cb : W x5 (fun q => I.CB (256 * b + q))
  wa : V3 x6 (bd I.WA b)
  ba : W x7 (fun q => I.BA (4 * b + q / 64) (q % 64))
  wx : V3 x8 (bd I.WX b)
  bx : W x9 (fun q => I.BX (4 * b + q / 64) (q % 64))
  ap : W x10 (fun q => I.AP (256 * b + q))

theorem Blk.tape {x0 x1 x2 x3 : Vec Ideal S2048x256 .f32} {x4 : Vec Ideal S8x256 .f32} {x5 : Vec Ideal S1x256 .f32}
    {x6 : Vec Ideal S1x256x256 .f32} {x7 : Vec Ideal S1x256 .f32} {x8 : Vec Ideal S1x256x256 .f32} {x9 x10 : Vec Ideal S1x256 .f32}
    (K : Blk I b x0 x1 x2 x3 x4 x5 x6 x7 x8 x9 x10) : Tp I b (tapeB x0 x1 x2 x3 x4 x5 x6 x7 x8 x9 x10) where
  xp := pad8_eq (f := fun t q => I.X t (256 * b + q)) K.x
  hp := pad8_eq (f := fun t q => hh I t (256 * b + q)) K.h
  g := K.g
  dy := K.dy
  cw := K.cw
  sp := by
    have h : W (k0_pay65 x10) (fun q => max (0 - I.AP (256 * b + q)) 0 + Real.log (1 + Real.exp (0 - |0 - I.AP (256 * b + q)|))) := fun i =>
      Up.add (Up.max (Up.sub Up.c0 (K.ap i)) Up.c0)
        (Up.log1p (Up.exp (Up.sub Up.c0 (Up.abs (Up.sub Up.c0 (K.ap i))))) (by positivity))
    exact h.congr fun q _ => by rw [zero_sub, zero_sub]; rfl
  cb := K.cb
  wa := K.wa.flat _
  ba := K.ba.self _
  wx := K.wx.flat _
  bx := K.bx.self _

end Cert.KernelIdeal.Hand
-- ==== Proof.RDef.lean ====
module

public import proofs.«01_k».proof.Proof.Mat

@[expose] public section

noncomputable section

open Lru

namespace R

/-! The reference's operations over the real numbers, each by the name of its buffer, and where one of them is one of the
step's own values. -/

def v3 (I : Inp) (i0 i1 : ℕ) : ℝ := (I.G i0 i1) * (I.G i0 i1)
def v4 (I : Inp) (i0 i1 : ℕ) : ℝ := ((v3 I i0 i1)) * (I.G i0 i1)
def v5 (I : Inp) (i0 i1 : ℕ) : ℝ := (I.G i0 i1) * (I.G i0 i1)
def v6 (I : Inp) (i0 i1 : ℕ) : ℝ := (3 : ℝ)
def v7 (I : Inp) (i0 i1 : ℕ) : ℝ := ((v6 I i0 i1)) * ((v5 I i0 i1))
def v8 (I : Inp) (i0 i1 : ℕ) : ℝ := (44715 : ℝ)
def v9 (I : Inp) (i0 i1 : ℕ) : ℝ := ((v8 I i0 i1)) * ((v4 I i0 i1))
def v10 (I : Inp) (i0 i1 : ℕ) : ℝ := (1000000 : ℝ)
def v11 (I : Inp) (i0 i1 : ℕ) : ℝ := ((v9 I i0 i1)) / ((v10 I i0 i1))
def v12 (I : Inp) (i0 i1 : ℕ) : ℝ := (I.G i0 i1) + ((v11 I i0 i1))
def v13 (I : Inp) (i0 i1 : ℕ) : ℝ := (gc : ℝ)
def v14 (I : Inp) (i0 i1 : ℕ) : ℝ := ((v13 I i0 i1)) * ((v12 I i0 i1))
def v15 (I : Inp) (i0 i1 : ℕ) : ℝ := Real.tanh (((v14 I i0 i1)))
theorem ck_v15 (I : Inp) (i0 i1 : ℕ) : v15 I i0 i1 = th I i0 i1 := by
  simp only [v15, v14, v13, v12, v11, v9, v8, v4, v3, v10]
  unfold th; congr 1; ring
def v16 (I : Inp) (i0 i1 : ℕ) : ℝ := (1 : ℝ)
def v17 (I : Inp) (i0 i1 : ℕ) : ℝ := ((v16 I i0 i1)) + (th I i0 i1)
def v18 (I : Inp) (i0 i1 : ℕ) : ℝ := (1 : ℝ)
def v19 (I : Inp) (i0 i1 : ℕ) : ℝ := ((v18 I i0 i1)) - (th I i0 i1)
def v20 (I : Inp) (i0 i1 : ℕ) : ℝ := ((v17 I i0 i1)) * ((v19 I i0 i1))
def v21 (I : Inp) (i0 i1 : ℕ) : ℝ := (1 : ℝ)
def v22 (I : Inp) (i0 i1 : ℕ) : ℝ := ((v21 I i0 i1)) + (th I i0 i1)
def v23 (I : Inp) (i0 i1 : ℕ) : ℝ := (1 / 2 : ℝ)
def v24 (I : Inp) (i0 i1 : ℕ) : ℝ := ((v23 I i0 i1)) * ((v22 I i0 i1))
def v25 (I : Inp) (i0 i1 : ℕ) : ℝ := (I.G i0 i1) * ((v24 I i0 i1))
theorem ck_v25 (I : Inp) (i0 i1 : ℕ) : v25 I i0 i1 = ge I i0 i1 := by
  simp only [v25, v24, v23, v22, v21]
  unfold ge; ring
def v26 (I : Inp) (i0 i1 : ℕ) : ℝ := (0 : ℝ)
def v29 (I : Inp) (i0 i1 : ℕ) : ℝ := xp I i0 i1
def v30 (I : Inp) (i0 i1 : ℕ) : ℝ := I.CW i0 i1
def v31 (I : Inp) (i0 : ℕ) : ℝ := (v30 I 0 i0)
def v32 (I : Inp) (i0 i1 : ℕ) : ℝ := (v31 I i1)
def v33 (I : Inp) (i0 i1 : ℕ) : ℝ := (v32 I 0 i1)
def v34 (I : Inp) (i0 i1 : ℕ) : ℝ := ((v29 I i0 i1)) * ((v33 I i0 i1))
def v35 (I : Inp) (i0 i1 : ℕ) : ℝ := xp I (1 + i0) i1
def v36 (I : Inp) (i0 i1 : ℕ) : ℝ := I.CW (1 + i0) i1
def v37 (I : Inp) (i0 : ℕ) : ℝ := (v36 I 0 i0)
def v38 (I : Inp) (i0 i1 : ℕ) : ℝ := (v37 I i1)
def v39 (I : Inp) (i0 i1 : ℕ) : ℝ := (v38 I 0 i1)
def v40 (I : Inp) (i0 i1 : ℕ) : ℝ := ((v35 I i0 i1)) * ((v39 I i0 i1))
def v41 (I : Inp) (i0 i1 : ℕ) : ℝ := ((v34 I i0 i1)) + ((v40 I i0 i1))
def v42 (I : Inp) (i0 i1 : ℕ) : ℝ := xp I (2 + i0) i1
def v43 (I : Inp) (i0 i1 : ℕ) : ℝ := I.CW (2 + i0) i1
def v44 (I : Inp) (i0 : ℕ) : ℝ := (v43 I 0 i0)
def v45 (I : Inp) (i0 i1 : ℕ) : ℝ := (v44 I i1)
def v46 (I : Inp) (i0 i1 : ℕ) : ℝ := (v45 I 0 i1)
def v47 (I : Inp) (i0 i1 : ℕ) : ℝ := ((v42 I i0 i1)) * ((v46 I i0 i1))
def v48 (I : Inp) (i0 i1 : ℕ) : ℝ := ((v41 I i0 i1)) + ((v47 I i0 i1))
def v49 (I : Inp) (i0 i1 : ℕ) : ℝ := xp I (3 + i0) i1
def v50 (I : Inp) (i0 i1 : ℕ) : ℝ := I.CW (3 + i0) i1
def v51 (I : Inp) (i0 : ℕ) : ℝ := (v50 I 0 i0)
def v52 (I : Inp) (i0 i1 : ℕ) : ℝ := (v51 I i1)
def v53 (I : Inp) (i0 i1 : ℕ) : ℝ := (v52 I 0 i1)
def v54 (I : Inp) (i0 i1 : ℕ) : ℝ := ((v49 I i0 i1)) * ((v53 I i0 i1))
def v55 (I : Inp) (i0 i1 : ℕ) : ℝ := ((v48 I i0 i1)) + ((v54 I i0 i1))
def v56 (I : Inp) (i0 i1 : ℕ) : ℝ := I.CB i1
def v57 (I : Inp) (i0 i1 : ℕ) : ℝ := ((v55 I i0 i1)) + ((v56 I i0 i1))
theorem ck_v57 (I : Inp) (i0 i1 : ℕ) : v57 I i0 i1 = xl I i0 i1 := by
  simp only [v57, v55, v48, v41, v34, v29, v33, v32, v31, v30, v40, v35, v39, v38, v37, v36, v47, v42, v46, v45, v44, v43, v54, v49, v53, v52, v51, v50, v56]
  unfold xl; ring
def v58 (I : Inp) (i0 i1 i2 : ℕ) : ℝ := xl I i0 (i1 * 64 + i2)
def v59 (I : Inp) (i0 i1 i2 : ℕ) : ℝ := ∑ k ∈ Finset.range 64, (I.WA i0 k i1) * ((v58 I i2 i0 k))
def v60 (I : Inp) (i0 i1 i2 : ℕ) : ℝ := (v59 I i1 i2 i0)
def v61 (I : Inp) (i0 i1 i2 : ℕ) : ℝ := I.BA i1 i2
def v62 (I : Inp) (i0 i1 i2 : ℕ) : ℝ := (v61 I 0 i1 i2)
def v63 (I : Inp) (i0 i1 i2 : ℕ) : ℝ := ((v60 I i0 i1 i2)) + ((v62 I i0 i1 i2))
theorem ck_v63 (I : Inp) (i0 i1 i2 : ℕ) : v63 I i0 i1 i2 = pa I i0 i1 i2 := by
  simp only [v63, v60, v59, v58, v62, v61]
  unfold pa; ring
def v64 (I : Inp) (i0 i1 i2 : ℕ) : ℝ := -(pa I i0 i1 i2)
def v65 (I : Inp) (i0 i1 i2 : ℕ) : ℝ := Real.exp (((v64 I i0 i1 i2)))
def v66 (I : Inp) (i0 i1 i2 : ℕ) : ℝ := (1 : ℝ)
def v67 (I : Inp) (i0 i1 i2 : ℕ) : ℝ := ((v66 I i0 i1 i2)) + ((v65 I i0 i1 i2))
def v68 (I : Inp) (i0 i1 i2 : ℕ) : ℝ := (1 : ℝ)
def v69 (I : Inp) (i0 i1 i2 : ℕ) : ℝ := ((v68 I i0 i1 i2)) / ((v67 I i0 i1 i2))
def v70 (I : Inp) (i0 i1 i2 : ℕ) : ℝ := (1 : ℝ)
def v71 (I : Inp) (i0 i1 i2 : ℕ) : ℝ := ((v70 I i0 i1 i2)) - ((v69 I i0 i1 i2))
def v72 (I : Inp) (i0 i1 i2 : ℕ) : ℝ := ((v69 I i0 i1 i2)) * ((v71 I i0 i1 i2))
def v73 (I : Inp) (i0 i1 i2 : ℕ) : ℝ := ∑ k ∈ Finset.range 64, (I.WX i0 k i1) * ((v58 I i2 i0 k))
def v74 (I : Inp) (i0 i1 i2 : ℕ) : ℝ := (v73 I i1 i2 i0)
def v75 (I : Inp) (i0 i1 i2 : ℕ) : ℝ := I.BX i1 i2
def v76 (I : Inp) (i0 i1 i2 : ℕ) : ℝ := (v75 I 0 i1 i2)
def v77 (I : Inp) (i0 i1 i2 : ℕ) : ℝ := ((v74 I i0 i1 i2)) + ((v76 I i0 i1 i2))
theorem ck_v77 (I : Inp) (i0 i1 i2 : ℕ) : v77 I i0 i1 i2 = px I i0 i1 i2 := by
  simp only [v77, v74, v73, v58, v76, v75]
  unfold px; ring
def v78 (I : Inp) (i0 i1 i2 : ℕ) : ℝ := -(px I i0 i1 i2)
def v79 (I : Inp) (i0 i1 i2 : ℕ) : ℝ := Real.exp (((v78 I i0 i1 i2)))
def v80 (I : Inp) (i0 i1 i2 : ℕ) : ℝ := (1 : ℝ)
def v81 (I : Inp) (i0 i1 i2 : ℕ) : ℝ := ((v80 I i0 i1 i2)) + ((v79 I i0 i1 i2))
def v82 (I : Inp) (i0 i1 i2 : ℕ) : ℝ := (1 : ℝ)
def v83 (I : Inp) (i0 i1 i2 : ℕ) : ℝ := ((v82 I i0 i1 i2)) / ((v81 I i0 i1 i2))
def v84 (I : Inp) (i0 i1 i2 : ℕ) : ℝ := (1 : ℝ)
def v85 (I : Inp) (i0 i1 i2 : ℕ) : ℝ := ((v84 I i0 i1 i2)) - ((v83 I i0 i1 i2))
def v86 (I : Inp) (i0 i1 i2 : ℕ) : ℝ := ((v83 I i0 i1 i2)) * ((v85 I i0 i1 i2))
def v87 (I : Inp) (i0 i1 : ℕ) : ℝ := (v69 I i0 (i1 / 64) (i1 % 64))
theorem ck_v87 (I : Inp) (i0 i1 : ℕ) : v87 I i0 i1 = ra I i0 i1 := rfl
def v88 (I : Inp) (i0 i1 : ℕ) : ℝ := (v83 I i0 (i1 / 64) (i1 % 64))
theorem ck_v88 (I : Inp) (i0 i1 : ℕ) : v88 I i0 i1 = ig I i0 i1 := rfl
def v89 (I : Inp) (i0 i1 : ℕ) : ℝ := (-8 : ℝ)
def v90 (I : Inp) (i0 i1 : ℕ) : ℝ := ((v89 I i0 i1)) * (ra I i0 i1)
def v91 (I : Inp) (i0 i1 : ℕ) : ℝ := -(I.AP i1)
def call0_v0 (I : Inp) (i0 i1 : ℕ) : ℝ := (0 : ℝ)
def call0_v1 (I : Inp) (i0 i1 : ℕ) : ℝ := max (((v91 I i0 i1))) ((call0_v0 I i0 i1))
def call0_v2 (I : Inp) (i0 i1 : ℕ) : ℝ := (0 : ℝ)
def call0_v3 (I : Inp) (i0 i1 : ℕ) : ℝ := ((v91 I i0 i1)) - ((call0_v2 I i0 i1))
def call0_v7 (I : Inp) (i0 i1 : ℕ) : ℝ := |((call0_v3 I i0 i1))|
def call0_v8 (I : Inp) (i0 i1 : ℕ) : ℝ := -((call0_v7 I i0 i1))
def call0_v9 (I : Inp) (i0 i1 : ℕ) : ℝ := Real.exp (((call0_v8 I i0 i1)))
def call0_v10 (I : Inp) (i0 i1 : ℕ) : ℝ := Real.log (1 + ((call0_v9 I i0 i1)))
def call0_v11 (I : Inp) (i0 i1 : ℕ) : ℝ := ((call0_v1 I i0 i1)) + ((call0_v10 I i0 i1))
def v92_0 (I : Inp) (i0 i1 : ℕ) : ℝ := (call0_v11 I i0 i1)
theorem ck_v92_0 (I : Inp) (i0 i1 : ℕ) : v92_0 I i0 i1 = sp I i1 := by
  simp only [v92_0, call0_v11, call0_v1, v91, call0_v0, call0_v10, call0_v9, call0_v8, call0_v7, call0_v3, call0_v2]
  unfold sp; rw [sub_zero]
def call0_v16 (I : Inp) (i0 i1 : ℕ) : ℝ := (v91 I i0 i1)
def call0_v20 (I : Inp) (i0 i1 : ℕ) : ℝ := sp I i1
def call0_v21 (I : Inp) (i0 i1 : ℕ) : ℝ := ((call0_v16 I i0 i1)) - ((call0_v20 I i0 i1))
def v92_1 (I : Inp) (i0 i1 : ℕ) : ℝ := Real.exp (((call0_v21 I i0 i1)))
theorem ck_v92_1 (I : Inp) (i0 i1 : ℕ) : v92_1 I i0 i1 = sg (-I.AP i1) := by
  simp only [v92_1, call0_v21, call0_v16, v91, call0_v20]
  exact slope (-I.AP i1)
def v93 (I : Inp) (i0 i1 : ℕ) : ℝ := sp I i1
def v94 (I : Inp) (i0 i1 : ℕ) : ℝ := ((v90 I i0 i1)) * ((v93 I i0 i1))
theorem ck_v94 (I : Inp) (i0 i1 : ℕ) : v94 I i0 i1 = la I i0 i1 := rfl
def v95 (I : Inp) (i0 i1 : ℕ) : ℝ := (2 : ℝ)
def v96 (I : Inp) (i0 i1 : ℕ) : ℝ := ((v95 I i0 i1)) * (la I i0 i1)
def v97 (I : Inp) (i0 i1 : ℕ) : ℝ := Real.exp (((v96 I i0 i1))) - 1
def v98 (I : Inp) (i0 i1 : ℕ) : ℝ := Real.exp (((v96 I i0 i1)))
theorem ck_v98 (I : Inp) (i0 i1 : ℕ) : v98 I i0 i1 = a2 I i0 i1 := rfl
def v99 (I : Inp) (i0 i1 : ℕ) : ℝ := -((v97 I i0 i1))
def v100 (I : Inp) (i0 i1 : ℕ) : ℝ := Real.sqrt ((v99 I i0 i1))
theorem ck_v100 (I : Inp) (i0 i1 : ℕ) : v100 I i0 i1 = root I i0 i1 := by
  simp only [v100, v99, v97, v96, v95]
  unfold root a2; congr 1; ring
def v101 (I : Inp) (i0 i1 : ℕ) : ℝ := (1 / 2 : ℝ)
def v102 (I : Inp) (i0 i1 : ℕ) : ℝ := ((v101 I i0 i1)) / (root I i0 i1)
def call1_v0 (I : Inp) : ℝ := (1 : ℝ)
def call1_v2 (I : Inp) (i0 i1 : ℕ) : ℝ := (call1_v0 I)
def v107_0 (I : Inp) (i0 i1 : ℕ) : ℝ := if i0 = 0 then (call1_v2 I i0 i1) else root I i0 i1
theorem ck_v107_0 (I : Inp) (i0 i1 : ℕ) : v107_0 I i0 i1 = mult I i0 i1 := rfl
def v108 (I : Inp) (i0 i1 : ℕ) : ℝ := (xl I i0 i1) * (ig I i0 i1)
def v109 (I : Inp) (i0 i1 : ℕ) : ℝ := ((v108 I i0 i1)) * (mult I i0 i1)
theorem ck_v109 (I : Inp) (i0 i1 : ℕ) : v109 I i0 i1 = u I i0 i1 := rfl
def call2_call0_v0 (I : Inp) : ℝ := (0 : ℝ)
def v119 (I : Inp) (i0 i1 i2 : ℕ) : ℝ := cs I i0 i2
def v120 (I : Inp) (i0 i1 i2 : ℕ) : ℝ := cs I i1 i2
def v121 (I : Inp) (i0 i1 i2 : ℕ) : ℝ := (v119 I i0 0 i2)
def v122 (I : Inp) (i0 i1 i2 : ℕ) : ℝ := (v120 I 0 i1 i2)
def v123 (I : Inp) (i0 i1 i2 : ℕ) : ℝ := ((v121 I i0 i1 i2)) - ((v122 I i0 i1 i2))
def v126 (I : Inp) (i0 i1 i2 : ℕ) : ℝ := u I i1 i2
def v127 (I : Inp) (i0 i1 i2 : ℕ) : ℝ := (v126 I 0 i1 i2)
def v128 (I : Inp) (i0 i1 i2 : ℕ) : ℝ := (ee I i0 i1 i2) * ((v127 I i0 i1 i2))
def v129 (I : Inp) (i0 i1 : ℕ) : ℝ := ∑ k ∈ Finset.range 2048, (v128 I i0 k i1)
theorem ck_v129 (I : Inp) (i0 i1 : ℕ) : v129 I i0 i1 = hh I i0 i1 := rfl
def v131 (I : Inp) (i0 i1 : ℕ) : ℝ := (ge I i0 i1) * (I.DY i0 i1)
theorem ck_v131 (I : Inp) (i0 i1 : ℕ) : v131 I i0 i1 = dh I i0 i1 := rfl
def v132 (I : Inp) (i0 i1 : ℕ) : ℝ := (I.DY i0 i1) * (hh I i0 i1)
def v133 (I : Inp) (i0 i1 i2 : ℕ) : ℝ := dh I i0 i2
def v134 (I : Inp) (i0 i1 i2 : ℕ) : ℝ := (ee I i0 i1 i2) * ((v133 I i0 i1 i2))
def v135 (I : Inp) (i0 i1 : ℕ) : ℝ := ∑ k ∈ Finset.range 2048, (v134 I k i0 i1)
theorem ck_v135 (I : Inp) (i0 i1 : ℕ) : v135 I i0 i1 = gd I i0 i1 := rfl
def v136 (I : Inp) (i0 i1 i2 : ℕ) : ℝ := gd I i1 i2
def v137 (I : Inp) (i0 i1 i2 : ℕ) : ℝ := (v126 I 0 i1 i2)
def v138 (I : Inp) (i0 i1 i2 : ℕ) : ℝ := ((v133 I i0 i1 i2)) * ((v137 I i0 i1 i2))
def v139 (I : Inp) (i0 i1 : ℕ) : ℝ := ∑ k ∈ Finset.range 1, (v136 I k i0 i1)
theorem ck_v139 (I : Inp) (i0 i1 : ℕ) : v139 I i0 i1 = gd I i0 i1 := by
  simp only [v139, v136]
  rw [Finset.sum_range_one]
def v140 (I : Inp) (i0 i1 i2 : ℕ) : ℝ := ((v138 I i0 i1 i2)) * (ee I i0 i1 i2)
def call4_v0 (I : Inp) (i0 i1 i2 : ℕ) : ℝ := (0 : ℝ)
def v141 (I : Inp) (i0 i1 i2 : ℕ) : ℝ := if i1 ≤ i0 then (v140 I i0 i1 i2) else (call4_v0 I i0 i1 i2)
theorem ck_v141 (I : Inp) (i0 i1 i2 : ℕ) : v141 I i0 i1 i2 = pp I i0 i1 i2 := by
  simp only [v141, v140, v138, v133, v137, v126, call4_v0]
  unfold pp; by_cases h : i1 ≤ i0; · rw [if_pos h]
  · rw [if_neg h, ee_zero I _ _ _ (by omega)]; ring
def v142 (I : Inp) (i0 i1 : ℕ) : ℝ := ∑ k ∈ Finset.range 2048, pp I i0 k i1
def v143 (I : Inp) (i0 i1 i2 : ℕ) : ℝ := (v142 I i0 i2)
def v144 (I : Inp) (i0 i1 i2 : ℕ) : ℝ := -(pp I i0 i1 i2)
def v145 (I : Inp) (i0 i1 : ℕ) : ℝ := ∑ k ∈ Finset.range 2048, (v144 I k i0 i1)
def v146 (I : Inp) (i0 i1 i2 : ℕ) : ℝ := (v145 I i1 i2)
def v147 (I : Inp) (i0 i1 : ℕ) : ℝ := ∑ k ∈ Finset.range 1, (v146 I k i0 i1)
def v148 (I : Inp) (i0 i1 : ℕ) : ℝ := ∑ k ∈ Finset.range 1, (v143 I i0 k i1)
def v149 (I : Inp) (i0 i1 : ℕ) : ℝ := ((v147 I i0 i1)) + ((v148 I i0 i1))
def call5_call0_v0 (I : Inp) : ℝ := (0 : ℝ)
def v150 (I : Inp) (i0 i1 : ℕ) : ℝ := ∑ s ∈ Finset.range 2048, if i0 ≤ s then (v149 I s i1) else 0
theorem ck_v150 (I : Inp) (i0 i1 : ℕ) : v150 I i0 i1 = gd I i0 i1 * hp I i0 i1 * ea I i0 i1 := by
  simp only [v150, v149, v147, v146, v145, v144, v148, v143, v142, call5_call0_v0, Finset.sum_range_one]
  exact rev I i0 i1
def v151 (I : Inp) (i0 i1 : ℕ) : ℝ := ((v108 I i0 i1)) * (gd I i0 i1)
def v152 (I : Inp) (i0 i1 : ℕ) : ℝ := (gd I i0 i1) * (mult I i0 i1)
def v153 (I : Inp) (i0 i1 : ℕ) : ℝ := (xl I i0 i1) * ((v152 I i0 i1))
def v154 (I : Inp) (i0 i1 : ℕ) : ℝ := ((v152 I i0 i1)) * (ig I i0 i1)
def call6_v0 (I : Inp) (i0 i1 : ℕ) : ℝ := (0 : ℝ)
def v155 (I : Inp) (i0 i1 : ℕ) : ℝ := if i0 = 0 then (call6_v0 I i0 i1) else (v151 I i0 i1)
def v156 (I : Inp) (i0 i1 : ℕ) : ℝ := ((v155 I i0 i1)) * ((v102 I i0 i1))
def v157 (I : Inp) (i0 i1 : ℕ) : ℝ := -((v156 I i0 i1))
def v158 (I : Inp) (i0 i1 : ℕ) : ℝ := ((v157 I i0 i1)) * (a2 I i0 i1)
def v159 (I : Inp) (i0 i1 : ℕ) : ℝ := (2 : ℝ)
def v160 (I : Inp) (i0 i1 : ℕ) : ℝ := ((v159 I i0 i1)) * ((v158 I i0 i1))
def v161 (I : Inp) (i0 i1 : ℕ) : ℝ := (gd I i0 i1 * hp I i0 i1 * ea I i0 i1) + ((v160 I i0 i1))
theorem ck_v161 (I : Inp) (i0 i1 : ℕ) : v161 I i0 i1 = dla I i0 i1 := by
  simp only [v161, v160, v159, v158, v157, v156, v155, call6_v0, v151, v108, v102, v101]
  have hr := (root_pos I i0 i1).ne'; unfold dla dm mult; by_cases h : i0 = 0; · rw [if_pos h, if_pos h]; ring
  · rw [if_neg h, if_neg h, if_neg h]; field_simp; ring
def v162 (I : Inp) (i0 i1 : ℕ) : ℝ := ((v90 I i0 i1)) * (dla I i0 i1)
def v163 (I : Inp) (i0 : ℕ) : ℝ := ∑ k ∈ Finset.range 2048, (v162 I k i0)
def v164 (I : Inp) (i0 i1 : ℕ) : ℝ := (v163 I i1)
def v165 (I : Inp) (i0 i1 : ℕ) : ℝ := sp I i1
def v166 (I : Inp) (i0 i1 : ℕ) : ℝ := (dla I i0 i1) * ((v165 I i0 i1))
def v167 (I : Inp) (i0 i1 : ℕ) : ℝ := ((v164 I i0 i1)) * (sg (-I.AP i1))
def v168 (I : Inp) (i0 i1 : ℕ) : ℝ := -((v167 I i0 i1))
theorem ck_v168 (I : Inp) (i0 i1 : ℕ) : v168 I i0 i1 = dap I i1 := by
  simp only [v168, v167, v164, v163, v162, v90, v89]
  unfold dap dsp; rw [Finset.sum_congr rfl fun t _ => show dla I t i1 * -8 * ra I t i1 = -8 * ra I t i1 * dla I t i1 by ring]; ring
def v169 (I : Inp) (i0 i1 : ℕ) : ℝ := (-8 : ℝ)
def v170 (I : Inp) (i0 i1 : ℕ) : ℝ := ((v169 I i0 i1)) * ((v166 I i0 i1))
def v171 (I : Inp) (i0 i1 i2 : ℕ) : ℝ := (v153 I i0 (i1 * 64 + i2))
def v172 (I : Inp) (i0 i1 i2 : ℕ) : ℝ := (v170 I i0 (i1 * 64 + i2))
def v173 (I : Inp) (i0 i1 i2 : ℕ) : ℝ := ((v171 I i0 i1 i2)) * ((v86 I i0 i1 i2))
theorem ck_v173 (I : Inp) (i0 i1 i2 : ℕ) (h2 : i2 < 64) : v173 I i0 i1 i2 = dpi I i0 (i1 * 64 + i2) := by
  simp only [v173, v171, v153, v152, v86, v83, v82, v81, v80, v79, v78, v85, v84]
  have e : (i1 * 64 + i2) / 64 = i1 := by omega
  have e2 : (i1 * 64 + i2) % 64 = i2 := by omega
  unfold dpi ig sg; rw [e, e2]; ring
def v174 (I : Inp) (i0 i1 : ℕ) : ℝ := ∑ k ∈ Finset.range 2048, dpi I k (i0 * 64 + i1)
def v175 (I : Inp) (i0 i1 i2 : ℕ) : ℝ := (v174 I i1 i2)
def v176 (I : Inp) (i0 i1 : ℕ) : ℝ := ∑ k ∈ Finset.range 1, (v175 I k i0 i1)
theorem ck_v176 (I : Inp) (i0 i1 : ℕ) : v176 I i0 i1 = dbx I (i0 * 64 + i1) := by
  simp only [v176, v175, v174]
  rw [Finset.sum_range_one]; rfl
def v177 (I : Inp) (i0 i1 i2 : ℕ) : ℝ := dpi I i2 (i0 * 64 + i1)
def v178 (I : Inp) (i0 i1 i2 : ℕ) : ℝ := ∑ k ∈ Finset.range 64, ((v177 I i0 k i1)) * (I.WX i0 i2 k)
def v179 (I : Inp) (i0 i1 i2 : ℕ) : ℝ := (v178 I i1 i0 i2)
def v180 (I : Inp) (i0 i1 i2 : ℕ) : ℝ := ∑ k ∈ Finset.range 2048, ((v177 I i0 i1 k)) * ((v58 I k i0 i2))
def v181 (I : Inp) (i0 i1 i2 : ℕ) : ℝ := (v180 I i0 i2 i1)
theorem ck_v181 (I : Inp) (i0 i1 i2 : ℕ) : v181 I i0 i1 i2 = dwx I i0 i1 i2 := by
  simp only [v181, v180, v177, v58]
  unfold dwx; exact Finset.sum_congr rfl fun _ _ => mul_comm _ _
def v182 (I : Inp) (i0 i1 i2 : ℕ) : ℝ := ((v172 I i0 i1 i2)) * ((v72 I i0 i1 i2))
theorem ck_v182 (I : Inp) (i0 i1 i2 : ℕ) (h2 : i2 < 64) : v182 I i0 i1 i2 = dpr I i0 (i1 * 64 + i2) := by
  simp only [v182, v172, v170, v169, v166, v165, v72, v69, v68, v67, v66, v65, v64, v71, v70]
  have e : (i1 * 64 + i2) / 64 = i1 := by omega
  have e2 : (i1 * 64 + i2) % 64 = i2 := by omega
  unfold dpr ra sg; rw [e, e2]; ring
def v183 (I : Inp) (i0 i1 : ℕ) : ℝ := ∑ k ∈ Finset.range 2048, dpr I k (i0 * 64 + i1)
def v184 (I : Inp) (i0 i1 i2 : ℕ) : ℝ := (v183 I i1 i2)
def v185 (I : Inp) (i0 i1 : ℕ) : ℝ := ∑ k ∈ Finset.range 1, (v184 I k i0 i1)
theorem ck_v185 (I : Inp) (i0 i1 : ℕ) : v185 I i0 i1 = dba I (i0 * 64 + i1) := by
  simp only [v185, v184, v183]
  rw [Finset.sum_range_one]; rfl
def v186 (I : Inp) (i0 i1 i2 : ℕ) : ℝ := dpr I i2 (i0 * 64 + i1)
def v187 (I : Inp) (i0 i1 i2 : ℕ) : ℝ := ∑ k ∈ Finset.range 64, ((v186 I i0 k i1)) * (I.WA i0 i2 k)
def v188 (I : Inp) (i0 i1 i2 : ℕ) : ℝ := (v187 I i1 i0 i2)
def v189 (I : Inp) (i0 i1 i2 : ℕ) : ℝ := ((v179 I i0 i1 i2)) + ((v188 I i0 i1 i2))
def v190 (I : Inp) (i0 i1 i2 : ℕ) : ℝ := ∑ k ∈ Finset.range 2048, ((v186 I i0 i1 k)) * ((v58 I k i0 i2))
def v191 (I : Inp) (i0 i1 i2 : ℕ) : ℝ := (v190 I i0 i2 i1)
theorem ck_v191 (I : Inp) (i0 i1 i2 : ℕ) : v191 I i0 i1 i2 = dwa I i0 i1 i2 := by
  simp only [v191, v190, v186, v58]
  unfold dwa; exact Finset.sum_congr rfl fun _ _ => mul_comm _ _
def v192 (I : Inp) (i0 i1 : ℕ) : ℝ := (v189 I i0 (i1 / 64) (i1 % 64))
def v193 (I : Inp) (i0 i1 : ℕ) : ℝ := ((v154 I i0 i1)) + ((v192 I i0 i1))
theorem ck_v193 (I : Inp) (i0 i1 : ℕ) : v193 I i0 i1 = dxl I i0 i1 := by
  simp only [v193, v154, v152, v192, v189, v179, v178, v177, v188, v187, v186]
  unfold dxl; ring
def v194 (I : Inp) (i0 : ℕ) : ℝ := ∑ k ∈ Finset.range 2048, dxl I k i0
def v195 (I : Inp) (i0 i1 : ℕ) : ℝ := (v194 I i1)
theorem ck_v195 (I : Inp) (i0 i1 : ℕ) : v195 I i0 i1 = dcb I i1 := rfl
def v196 (I : Inp) (i0 i1 : ℕ) : ℝ := ((v49 I i0 i1)) * (dxl I i0 i1)
def v197 (I : Inp) (i0 : ℕ) : ℝ := ∑ k ∈ Finset.range 2048, (v196 I k i0)
def v198 (I : Inp) (i0 i1 : ℕ) : ℝ := (v197 I i1)
def v199 (I : Inp) (i0 i1 : ℕ) : ℝ := (v52 I 0 i1)
def v200 (I : Inp) (i0 i1 : ℕ) : ℝ := (dxl I i0 i1) * ((v199 I i0 i1))
def v201 (I : Inp) (i0 : ℕ) : ℝ := ∑ k ∈ Finset.range 1, (v198 I k i0)
def v202 (I : Inp) (i0 i1 : ℕ) : ℝ := (v201 I i1)
def v203 (I : Inp) (i0 i1 : ℕ) : ℝ := if 3 ≤ i0 ∧ i0 - 3 < 1 then (v202 I (i0 - 3) i1) else 0
def v204 (I : Inp) (i0 i1 : ℕ) : ℝ := if 3 ≤ i0 ∧ i0 - 3 < 2048 then (v200 I (i0 - 3) i1) else 0
def v205 (I : Inp) (i0 i1 : ℕ) : ℝ := ((v42 I i0 i1)) * (dxl I i0 i1)
def v206 (I : Inp) (i0 : ℕ) : ℝ := ∑ k ∈ Finset.range 2048, (v205 I k i0)
def v207 (I : Inp) (i0 i1 : ℕ) : ℝ := (v206 I i1)
def v208 (I : Inp) (i0 i1 : ℕ) : ℝ := (v45 I 0 i1)
def v209 (I : Inp) (i0 i1 : ℕ) : ℝ := (dxl I i0 i1) * ((v208 I i0 i1))
def v210 (I : Inp) (i0 : ℕ) : ℝ := ∑ k ∈ Finset.range 1, (v207 I k i0)
def v211 (I : Inp) (i0 i1 : ℕ) : ℝ := (v210 I i1)
def v212 (I : Inp) (i0 i1 : ℕ) : ℝ := if 2 ≤ i0 ∧ i0 - 2 < 1 then (v211 I (i0 - 2) i1) else 0
def v213 (I : Inp) (i0 i1 : ℕ) : ℝ := ((v203 I i0 i1)) + ((v212 I i0 i1))
def v214 (I : Inp) (i0 i1 : ℕ) : ℝ := if 2 ≤ i0 ∧ i0 - 2 < 2048 then (v209 I (i0 - 2) i1) else 0
def v215 (I : Inp) (i0 i1 : ℕ) : ℝ := ((v204 I i0 i1)) + ((v214 I i0 i1))
def v216 (I : Inp) (i0 i1 : ℕ) : ℝ := ((v35 I i0 i1)) * (dxl I i0 i1)
def v217 (I : Inp) (i0 : ℕ) : ℝ := ∑ k ∈ Finset.range 2048, (v216 I k i0)
def v218 (I : Inp) (i0 i1 : ℕ) : ℝ := (v217 I i1)
def v219 (I : Inp) (i0 i1 : ℕ) : ℝ := (v38 I 0 i1)
def v220 (I : Inp) (i0 i1 : ℕ) : ℝ := (dxl I i0 i1) * ((v219 I i0 i1))
def v221 (I : Inp) (i0 : ℕ) : ℝ := ∑ k ∈ Finset.range 1, (v218 I k i0)
def v222 (I : Inp) (i0 i1 : ℕ) : ℝ := (v221 I i1)
def v223 (I : Inp) (i0 i1 : ℕ) : ℝ := if 1 ≤ i0 ∧ i0 - 1 < 1 then (v222 I (i0 - 1) i1) else 0
def v224 (I : Inp) (i0 i1 : ℕ) : ℝ := ((v213 I i0 i1)) + ((v223 I i0 i1))
def v225 (I : Inp) (i0 i1 : ℕ) : ℝ := if 1 ≤ i0 ∧ i0 - 1 < 2048 then (v220 I (i0 - 1) i1) else 0
def v226 (I : Inp) (i0 i1 : ℕ) : ℝ := ((v215 I i0 i1)) + ((v225 I i0 i1))
def v227 (I : Inp) (i0 i1 : ℕ) : ℝ := ((v29 I i0 i1)) * (dxl I i0 i1)
def v228 (I : Inp) (i0 : ℕ) : ℝ := ∑ k ∈ Finset.range 2048, (v227 I k i0)
def v229 (I : Inp) (i0 i1 : ℕ) : ℝ := (v228 I i1)
def v230 (I : Inp) (i0 i1 : ℕ) : ℝ := (v32 I 0 i1)
def v231 (I : Inp) (i0 i1 : ℕ) : ℝ := (dxl I i0 i1) * ((v230 I i0 i1))
def v232 (I : Inp) (i0 : ℕ) : ℝ := ∑ k ∈ Finset.range 1, (v229 I k i0)
def v233 (I : Inp) (i0 i1 : ℕ) : ℝ := (v232 I i1)
def v234 (I : Inp) (i0 i1 : ℕ) : ℝ := if 0 ≤ i0 ∧ i0 - 0 < 1 then (v233 I (i0 - 0) i1) else 0
def v235 (I : Inp) (i0 i1 : ℕ) : ℝ := ((v224 I i0 i1)) + ((v234 I i0 i1))
theorem ck_v235 (I : Inp) (i0 i1 : ℕ) (h2 : i0 < 4) : v235 I i0 i1 = dcw I i0 i1 := by
  simp only [v235, v224, v213, v203, v202, v201, v198, v197, v196, v49, v212, v211, v210, v207, v206, v205, v42, v223, v222, v221, v218, v217, v216, v35, v234, v233, v232, v229, v228, v227, v29, Finset.sum_range_one]
  exact dcw_pads I i0 i1 h2
def v236 (I : Inp) (i0 i1 : ℕ) : ℝ := if 0 ≤ i0 ∧ i0 - 0 < 2048 then (v231 I (i0 - 0) i1) else 0
def v237 (I : Inp) (i0 i1 : ℕ) : ℝ := ((v226 I i0 i1)) + ((v236 I i0 i1))
def v239 (I : Inp) (i0 i1 : ℕ) : ℝ := (v237 I (3 + i0) i1)
theorem ck_v239 (I : Inp) (i0 i1 : ℕ) (h2 : i0 < 2048) : v239 I i0 i1 = dx I i0 i1 := by
  simp only [v239, v237, v226, v215, v204, v200, v199, v52, v51, v50, v214, v209, v208, v45, v44, v43, v225, v220, v219, v38, v37, v36, v236, v231, v230, v32, v31, v30]
  exact dx_pads I i0 i1 h2
def v240 (I : Inp) (i0 i1 : ℕ) : ℝ := (I.G i0 i1) * ((v132 I i0 i1))
def v241 (I : Inp) (i0 i1 : ℕ) : ℝ := ((v132 I i0 i1)) * ((v24 I i0 i1))
def v242 (I : Inp) (i0 i1 : ℕ) : ℝ := (1 / 2 : ℝ)
def v243 (I : Inp) (i0 i1 : ℕ) : ℝ := ((v242 I i0 i1)) * ((v240 I i0 i1))
def v244 (I : Inp) (i0 i1 : ℕ) : ℝ := ((v243 I i0 i1)) * ((v20 I i0 i1))
def v245 (I : Inp) (i0 i1 : ℕ) : ℝ := (gc : ℝ)
def v246 (I : Inp) (i0 i1 : ℕ) : ℝ := ((v245 I i0 i1)) * ((v244 I i0 i1))
def v247 (I : Inp) (i0 i1 : ℕ) : ℝ := ((v241 I i0 i1)) + ((v246 I i0 i1))
def v248 (I : Inp) (i0 i1 : ℕ) : ℝ := (1000000 : ℝ)
def v249 (I : Inp) (i0 i1 : ℕ) : ℝ := ((v246 I i0 i1)) / ((v248 I i0 i1))
def v250 (I : Inp) (i0 i1 : ℕ) : ℝ := (44715 : ℝ)
def v251 (I : Inp) (i0 i1 : ℕ) : ℝ := ((v250 I i0 i1)) * ((v249 I i0 i1))
def v252 (I : Inp) (i0 i1 : ℕ) : ℝ := ((v251 I i0 i1)) * ((v7 I i0 i1))
def v253 (I : Inp) (i0 i1 : ℕ) : ℝ := ((v247 I i0 i1)) + ((v252 I i0 i1))
theorem ck_v253 (I : Inp) (i0 i1 : ℕ) : v253 I i0 i1 = dg I i0 i1 := by
  simp only [v253, v247, v241, v132, v24, v23, v22, v21, v246, v245, v244, v243, v242, v240, v20, v17, v16, v19, v18, v252, v251, v250, v249, v248, v7, v6, v5]
  unfold dg; ring

end R
-- ==== Proof.RHyp.lean ====
module

public import proofs.«01_k».proof.Proof.Gen.ReferenceIdeal.Read
public import proofs.«01_k».proof.Proof.RDef
public import proofs.«01_k».proof.Proof.RLem

@[expose] public section

noncomputable section

open Idealize.ShloMosaic Cert.ReferenceIdeal Cert.ReferenceIdeal.Read Lru Cert

namespace R

/-- The arguments of the reference are the real numbers of `I`. -/
structure Hyp (I : Inp) (x0 : (⟨S2048x5632, .f32⟩ : BufTy).Contents (Elt Ideal)) (x1 : (⟨S2048x2048, .f32⟩ : BufTy).Contents (Elt Ideal))
  (x2 : (⟨S4x1024, .f32⟩ : BufTy).Contents (Elt Ideal)) (x3 : (⟨S1x1024, .f32⟩ : BufTy).Contents (Elt Ideal))
  (x4 : (⟨S16x64x64, .f32⟩ : BufTy).Contents (Elt Ideal)) (x5 : (⟨S16x64, .f32⟩ : BufTy).Contents (Elt Ideal))
  (x6 : (⟨S16x64x64, .f32⟩ : BufTy).Contents (Elt Ideal)) (x7 : (⟨S16x64, .f32⟩ : BufTy).Contents (Elt Ideal))
  (x8 : (⟨S1x1024, .f32⟩ : BufTy).Contents (Elt Ideal)) : Prop where
  x : ∀ i : S2048x1024.Idx, x0 (idx_main_v0 i) = ((I.X (i 0).val (i 1).val : ℝ) : EReal)
  g : ∀ i : S2048x1024.Idx, x0 (idx_main_v1 i) = ((I.G (i 0).val (i 1).val : ℝ) : EReal)
  dy : ∀ i : S2048x1024.Idx, x1 (idx_main_v2 i) = ((I.DY (i 0).val (i 1).val : ℝ) : EReal)
  x2 : ∀ i : S4x1024.Idx, x2 i = ((I.CW (i 0).val (i 1).val : ℝ) : EReal)
  x3 : ∀ i : S1x1024.Idx, x3 i = ((I.CB (i 1).val : ℝ) : EReal)
  x4 : ∀ i : S16x64x64.Idx, x4 i = ((I.WA (i 0).val (i 1).val (i 2).val : ℝ) : EReal)
  x5 : ∀ i : S16x64.Idx, x5 i = ((I.BA (i 0).val (i 1).val : ℝ) : EReal)
  x6 : ∀ i : S16x64x64.Idx, x6 i = ((I.WX (i 0).val (i 1).val (i 2).val : ℝ) : EReal)
  x7 : ∀ i : S16x64.Idx, x7 i = ((I.BX (i 0).val (i 1).val : ℝ) : EReal)
  x8 : ∀ i : S1x1024.Idx, x8 i = ((I.AP (i 1).val : ℝ) : EReal)

theorem B_main_v107_1 (i : S2048x1024.Idx) : val_main_v107_1 (F := Ideal) i = if (i 0).val = 0 then 1#1 else 0#1 := by
  rw [val_main_v107_1_apply, val_main_v106_apply, val_main_v105_apply, val_main_v104_apply]
  exact RLem.eq_zero (i 0).val (i 0).isLt

theorem B_main_v124_1 (i : S2048x2048x1024.Idx) : val_main_v124_1 (F := Ideal) i = if (i 1).val ≤ (i 0).val then 1#1 else 0#1 := by
  rw [val_main_v124_1_apply, val_main_v118_apply, val_main_v117_apply, val_main_v115_apply, val_main_v116_apply, val_main_v112_apply, val_main_v114_apply]
  exact RLem.ge_word (i 0).val (i 1).val (i 0).isLt (i 1).isLt

theorem bot_main_call3_v2 (i : S2048x2048x1024.Idx) : val_main_call3_v2 (F := Ideal) i = (⊥ : EReal) :=
  (val_main_call3_v2_apply i).trans Up.cbot

end R
-- ==== Proof.RVal0.lean ====
module

public import proofs.«01_k».proof.Proof.RHyp

@[expose] public section

noncomputable section

open Idealize.ShloMosaic Cert.ReferenceIdeal Cert.ReferenceIdeal.Read Lru Cert

namespace R

/-! Each operation of the reference holds the real number of the same name. -/

variable {I : Inp} {x0 : (⟨S2048x5632, .f32⟩ : BufTy).Contents (Elt Ideal)} {x1 : (⟨S2048x2048, .f32⟩ : BufTy).Contents (Elt Ideal)}
  {x2 : (⟨S4x1024, .f32⟩ : BufTy).Contents (Elt Ideal)} {x3 : (⟨S1x1024, .f32⟩ : BufTy).Contents (Elt Ideal)}
  {x4 : (⟨S16x64x64, .f32⟩ : BufTy).Contents (Elt Ideal)} {x5 : (⟨S16x64, .f32⟩ : BufTy).Contents (Elt Ideal)}
  {x6 : (⟨S16x64x64, .f32⟩ : BufTy).Contents (Elt Ideal)} {x7 : (⟨S16x64, .f32⟩ : BufTy).Contents (Elt Ideal)}
  {x8 : (⟨S1x1024, .f32⟩ : BufTy).Contents (Elt Ideal)} (H : Hyp I x0 x1 x2 x3 x4 x5 x6 x7 x8)

include H

theorem L_main_v0 (i : S2048x1024.Idx) : val_main_v0 (F := Ideal) x0 i = ((I.X ((i 0).val) ((i 1).val) : ℝ) : EReal) :=
  (val_main_v0_apply x0 i).trans (H.x i)
theorem L_main_v1 (i : S2048x1024.Idx) : val_main_v1 (F := Ideal) x0 i = ((I.G ((i 0).val) ((i 1).val) : ℝ) : EReal) :=
  (val_main_v1_apply x0 i).trans (H.g i)
theorem L_main_v2 (i : S2048x1024.Idx) : val_main_v2 (F := Ideal) x1 i = ((I.DY ((i 0).val) ((i 1).val) : ℝ) : EReal) :=
  (val_main_v2_apply x1 i).trans (H.dy i)
theorem L_main_v3 (i : S2048x1024.Idx) : val_main_v3 (F := Ideal) x0 i = ((v3 I (i 0).val (i 1).val : ℝ) : EReal) :=
  (val_main_v3_apply x0 i).trans (Up.mul (L_main_v1 H i) (L_main_v1 H i))
theorem L_main_v4 (i : S2048x1024.Idx) : val_main_v4 (F := Ideal) x0 i = ((v4 I (i 0).val (i 1).val : ℝ) : EReal) :=
  (val_main_v4_apply x0 i).trans (Up.mul (L_main_v3 H i) (L_main_v1 H i))
theorem L_main_v5 (i : S2048x1024.Idx) : val_main_v5 (F := Ideal) x0 i = ((v5 I (i 0).val (i 1).val : ℝ) : EReal) :=
  (val_main_v5_apply x0 i).trans (Up.mul (L_main_v1 H i) (L_main_v1 H i))
theorem L_main_cst (i : S_.Idx) : val_main_cst (F := Ideal) i = ((3 : ℝ) : EReal) :=
  Up.c3
theorem L_main_v6 (i : S2048x1024.Idx) : val_main_v6 (F := Ideal) i = ((v6 I (i 0).val (i 1).val : ℝ) : EReal) :=
  (val_main_v6_apply i).trans (L_main_cst H (idx_main_v6 i))
theorem L_main_v7 (i : S2048x1024.Idx) : val_main_v7 (F := Ideal) x0 i = ((v7 I (i 0).val (i 1).val : ℝ) : EReal) :=
  (val_main_v7_apply x0 i).trans (Up.mul (L_main_v6 H i) (L_main_v5 H i))
theorem L_main_cst_0 (i : S_.Idx) : val_main_cst_0 (F := Ideal) i = ((44715 : ℝ) : EReal) :=
  Up.c44715
theorem L_main_v8 (i : S2048x1024.Idx) : val_main_v8 (F := Ideal) i = ((v8 I (i 0).val (i 1).val : ℝ) : EReal) :=
  (val_main_v8_apply i).trans (L_main_cst_0 H (idx_main_v8 i))
theorem L_main_v9 (i : S2048x1024.Idx) : val_main_v9 (F := Ideal) x0 i = ((v9 I (i 0).val (i 1).val : ℝ) : EReal) :=
  (val_main_v9_apply x0 i).trans (Up.mul (L_main_v8 H i) (L_main_v4 H i))
theorem L_main_cst_1 (i : S_.Idx) : val_main_cst_1 (F := Ideal) i = ((1000000 : ℝ) : EReal) :=
  Up.c1e6
theorem L_main_v10 (i : S2048x1024.Idx) : val_main_v10 (F := Ideal) i = ((v10 I (i 0).val (i 1).val : ℝ) : EReal) :=
  (val_main_v10_apply i).trans (L_main_cst_1 H (idx_main_v10 i))
theorem L_main_v11 (i : S2048x1024.Idx) : val_main_v11 (F := Ideal) x0 i = ((v11 I (i 0).val (i 1).val : ℝ) : EReal) :=
  (val_main_v11_apply x0 i).trans (Up.hdiv (L_main_v9 H i) (L_main_v10 H i) (by norm_num [v10]))
theorem L_main_v12 (i : S2048x1024.Idx) : val_main_v12 (F := Ideal) x0 i = ((v12 I (i 0).val (i 1).val : ℝ) : EReal) :=
  (val_main_v12_apply x0 i).trans (Up.add (L_main_v1 H i) (L_main_v11 H i))
theorem L_main_cst_2 (i : S_.Idx) : val_main_cst_2 (F := Ideal) i = ((gc : ℝ) : EReal) :=
  Up.cgc
theorem L_main_v13 (i : S2048x1024.Idx) : val_main_v13 (F := Ideal) i = ((v13 I (i 0).val (i 1).val : ℝ) : EReal) :=
  (val_main_v13_apply i).trans (L_main_cst_2 H (idx_main_v13 i))
theorem L_main_v14 (i : S2048x1024.Idx) : val_main_v14 (F := Ideal) x0 i = ((v14 I (i 0).val (i 1).val : ℝ) : EReal) :=
  (val_main_v14_apply x0 i).trans (Up.mul (L_main_v13 H i) (L_main_v12 H i))
theorem L_main_v15 (i : S2048x1024.Idx) : val_main_v15 (F := Ideal) x0 i = ((th I ((i 0).val) ((i 1).val) : ℝ) : EReal) :=
  ((val_main_v15_apply x0 i).trans (Up.htanh (L_main_v14 H i))).trans (congrArg Real.toEReal (ck_v15 I (i 0).val (i 1).val))
theorem L_main_cst_3 (i : S_.Idx) : val_main_cst_3 (F := Ideal) i = ((1 : ℝ) : EReal) :=
  Up.c1
theorem L_main_v16 (i : S2048x1024.Idx) : val_main_v16 (F := Ideal) i = ((v16 I (i 0).val (i 1).val : ℝ) : EReal) :=
  (val_main_v16_apply i).trans (L_main_cst_3 H (idx_main_v16 i))
theorem L_main_v17 (i : S2048x1024.Idx) : val_main_v17 (F := Ideal) x0 i = ((v17 I (i 0).val (i 1).val : ℝ) : EReal) :=
  (val_main_v17_apply x0 i).trans (Up.add (L_main_v16 H i) (L_main_v15 H i))
theorem L_main_cst_4 (i : S_.Idx) : val_main_cst_4 (F := Ideal) i = ((1 : ℝ) : EReal) :=
  Up.c1
theorem L_main_v18 (i : S2048x1024.Idx) : val_main_v18 (F := Ideal) i = ((v18 I (i 0).val (i 1).val : ℝ) : EReal) :=
  (val_main_v18_apply i).trans (L_main_cst_4 H (idx_main_v18 i))
theorem L_main_v19 (i : S2048x1024.Idx) : val_main_v19 (F := Ideal) x0 i = ((v19 I (i 0).val (i 1).val : ℝ) : EReal) :=
  (val_main_v19_apply x0 i).trans (Up.sub (L_main_v18 H i) (L_main_v15 H i))
theorem L_main_v20 (i : S2048x1024.Idx) : val_main_v20 (F := Ideal) x0 i = ((v20 I (i 0).val (i 1).val : ℝ) : EReal) :=
  (val_main_v20_apply x0 i).trans (Up.mul (L_main_v17 H i) (L_main_v19 H i))
theorem L_main_cst_5 (i : S_.Idx) : val_main_cst_5 (F := Ideal) i = ((1 : ℝ) : EReal) :=
  Up.c1
theorem L_main_v21 (i : S2048x1024.Idx) : val_main_v21 (F := Ideal) i = ((v21 I (i 0).val (i 1).val : ℝ) : EReal) :=
  (val_main_v21_apply i).trans (L_main_cst_5 H (idx_main_v21 i))
theorem L_main_v22 (i : S2048x1024.Idx) : val_main_v22 (F := Ideal) x0 i = ((v22 I (i 0).val (i 1).val : ℝ) : EReal) :=
  (val_main_v22_apply x0 i).trans (Up.add (L_main_v21 H i) (L_main_v15 H i))
theorem L_main_cst_6 (i : S_.Idx) : val_main_cst_6 (F := Ideal) i = ((1 / 2 : ℝ) : EReal) :=
  Up.chalf
theorem L_main_v23 (i : S2048x1024.Idx) : val_main_v23 (F := Ideal) i = ((v23 I (i 0).val (i 1).val : ℝ) : EReal) :=
  (val_main_v23_apply i).trans (L_main_cst_6 H (idx_main_v23 i))
theorem L_main_v24 (i : S2048x1024.Idx) : val_main_v24 (F := Ideal) x0 i = ((v24 I (i 0).val (i 1).val : ℝ) : EReal) :=
  (val_main_v24_apply x0 i).trans (Up.mul (L_main_v23 H i) (L_main_v22 H i))
theorem L_main_v25 (i : S2048x1024.Idx) : val_main_v25 (F := Ideal) x0 i = ((ge I ((i 0).val) ((i 1).val) : ℝ) : EReal) :=
  ((val_main_v25_apply x0 i).trans (Up.mul (L_main_v1 H i) (L_main_v24 H i))).trans (congrArg Real.toEReal (ck_v25 I (i 0).val (i 1).val))
theorem L_main_cst_7 (i : S_.Idx) : val_main_cst_7 (F := Ideal) i = ((0 : ℝ) : EReal) :=
  Up.c0
theorem L_main_v26 (i : S3x1024.Idx) : val_main_v26 (F := Ideal) i = ((v26 I (i 0).val (i 1).val : ℝ) : EReal) :=
  (val_main_v26_apply i).trans (L_main_cst_7 H (idx_main_v26 i))
theorem L_main_v27 (i : S2051x1024.Idx) : val_main_v27 (F := Ideal) x0 i = ((xp I (i 0).val (i 1).val : ℝ) : EReal) := by
  have h0 : (i 0).val < 2051 := (i 0).isLt
  have h1 : (i 1).val < 1024 := (i 1).isLt
  unfold val_main_v27 xp
  by_cases h : (i 0).val < 3
  · rw [if_pos h]
    refine (concatenate_pair_apply_left (s₁ := S3x1024) (s₂ := S2048x1024) (0 : Fin 2) _ _ _ i rfl (ValueIdx.ix2 (⟨(i 0).val, h⟩ : Fin 3) (⟨(i 1).val, h1⟩ : Fin 1024)) fun b => ?_).trans (L_main_v26 H _)
    match b with
    | ⟨0, _⟩ => rfl
    | ⟨1, _⟩ => rfl
  · rw [if_neg h]
    refine (concatenate_pair_apply_right (s₁ := S3x1024) (s₂ := S2048x1024) (0 : Fin 2) _ _ _ i rfl rfl (ValueIdx.ix2 (⟨(i 0).val - 3, by omega⟩ : Fin 2048) (⟨(i 1).val, h1⟩ : Fin 1024)) (fun b hb => ?_) ?_).trans (L_main_v0 H _)
    · match b with
      | ⟨0, _⟩ => exact absurd rfl hb
      | ⟨1, _⟩ => rfl
    · show (i 0).val - 3 + 3 = (i 0).val
      omega
theorem L_main_v29 (i : S2048x1024.Idx) : val_main_v29 (F := Ideal) x0 i = ((v29 I (i 0).val (i 1).val : ℝ) : EReal) :=
  (val_main_v29_apply x0 i).trans (L_main_v27 H (idx_main_v29 i))
theorem L_main_v30 (i : S1x1024.Idx) : val_main_v30 (F := Ideal) x2 i = ((v30 I (i 0).val (i 1).val : ℝ) : EReal) :=
  (val_main_v30_apply x2 i).trans (H.x2 (idx_main_v30 i))
theorem L_main_v31 (i : S1024.Idx) : val_main_v31 (F := Ideal) x2 i = ((v31 I (i 0).val : ℝ) : EReal) :=
  (val_main_v31_apply x2 i).trans ((L_main_v30 H (idx_main_v31 i)).trans (congrArg Real.toEReal (by have h0 : (i 0).val < 1024 := (i 0).isLt; have e0 : ((i 0).val) % 1024 = (i 0).val := (by omega); exact congrArg (fun (z0 : ℕ) => (v30 I 0 z0)) e0)))
theorem L_main_v32 (i : S1x1024.Idx) : val_main_v32 (F := Ideal) x2 i = ((v32 I (i 0).val (i 1).val : ℝ) : EReal) :=
  (val_main_v32_apply x2 i).trans (L_main_v31 H (idx_main_v32 i))
theorem L_main_v33 (i : S2048x1024.Idx) : val_main_v33 (F := Ideal) x2 i = ((v33 I (i 0).val (i 1).val : ℝ) : EReal) :=
  (val_main_v33_apply x2 i).trans (L_main_v32 H (idx_main_v33 i))
theorem L_main_v34 (i : S2048x1024.Idx) : val_main_v34 (F := Ideal) x0 x2 i = ((v34 I (i 0).val (i 1).val : ℝ) : EReal) :=
  (val_main_v34_apply x0 x2 i).trans (Up.mul (L_main_v29 H i) (L_main_v33 H i))
theorem L_main_v35 (i : S2048x1024.Idx) : val_main_v35 (F := Ideal) x0 i = ((v35 I (i 0).val (i 1).val : ℝ) : EReal) :=
  (val_main_v35_apply x0 i).trans (L_main_v27 H (idx_main_v35 i))
theorem L_main_v36 (i : S1x1024.Idx) : val_main_v36 (F := Ideal) x2 i = ((v36 I (i 0).val (i 1).val : ℝ) : EReal) :=
  (val_main_v36_apply x2 i).trans (H.x2 (idx_main_v36 i))
theorem L_main_v37 (i : S1024.Idx) : val_main_v37 (F := Ideal) x2 i = ((v37 I (i 0).val : ℝ) : EReal) :=
  (val_main_v37_apply x2 i).trans ((L_main_v36 H (idx_main_v37 i)).trans (congrArg Real.toEReal (by have h0 : (i 0).val < 1024 := (i 0).isLt; have e0 : ((i 0).val) % 1024 = (i 0).val := (by omega); exact congrArg (fun (z0 : ℕ) => (v36 I 0 z0)) e0)))
theorem L_main_v38 (i : S1x1024.Idx) : val_main_v38 (F := Ideal) x2 i = ((v38 I (i 0).val (i 1).val : ℝ) : EReal) :=
  (val_main_v38_apply x2 i).trans (L_main_v37 H (idx_main_v38 i))
theorem L_main_v39 (i : S2048x1024.Idx) : val_main_v39 (F := Ideal) x2 i = ((v39 I (i 0).val (i 1).val : ℝ) : EReal) :=
  (val_main_v39_apply x2 i).trans (L_main_v38 H (idx_main_v39 i))
theorem L_main_v40 (i : S2048x1024.Idx) : val_main_v40 (F := Ideal) x0 x2 i = ((v40 I (i 0).val (i 1).val : ℝ) : EReal) :=
  (val_main_v40_apply x0 x2 i).trans (Up.mul (L_main_v35 H i) (L_main_v39 H i))
theorem L_main_v41 (i : S2048x1024.Idx) : val_main_v41 (F := Ideal) x0 x2 i = ((v41 I (i 0).val (i 1).val : ℝ) : EReal) :=
  (val_main_v41_apply x0 x2 i).trans (Up.add (L_main_v34 H i) (L_main_v40 H i))
theorem L_main_v42 (i : S2048x1024.Idx) : val_main_v42 (F := Ideal) x0 i = ((v42 I (i 0).val (i 1).val : ℝ) : EReal) :=
  (val_main_v42_apply x0 i).trans (L_main_v27 H (idx_main_v42 i))
theorem L_main_v43 (i : S1x1024.Idx) : val_main_v43 (F := Ideal) x2 i = ((v43 I (i 0).val (i 1).val : ℝ) : EReal) :=
  (val_main_v43_apply x2 i).trans (H.x2 (idx_main_v43 i))
theorem L_main_v44 (i : S1024.Idx) : val_main_v44 (F := Ideal) x2 i = ((v44 I (i 0).val : ℝ) : EReal) :=
  (val_main_v44_apply x2 i).trans ((L_main_v43 H (idx_main_v44 i)).trans (congrArg Real.toEReal (by have h0 : (i 0).val < 1024 := (i 0).isLt; have e0 : ((i 0).val) % 1024 = (i 0).val := (by omega); exact congrArg (fun (z0 : ℕ) => (v43 I 0 z0)) e0)))
theorem L_main_v45 (i : S1x1024.Idx) : val_main_v45 (F := Ideal) x2 i = ((v45 I (i 0).val (i 1).val : ℝ) : EReal) :=
  (val_main_v45_apply x2 i).trans (L_main_v44 H (idx_main_v45 i))
theorem L_main_v46 (i : S2048x1024.Idx) : val_main_v46 (F := Ideal) x2 i = ((v46 I (i 0).val (i 1).val : ℝ) : EReal) :=
  (val_main_v46_apply x2 i).trans (L_main_v45 H (idx_main_v46 i))
theorem L_main_v47 (i : S2048x1024.Idx) : val_main_v47 (F := Ideal) x0 x2 i = ((v47 I (i 0).val (i 1).val : ℝ) : EReal) :=
  (val_main_v47_apply x0 x2 i).trans (Up.mul (L_main_v42 H i) (L_main_v46 H i))
theorem L_main_v48 (i : S2048x1024.Idx) : val_main_v48 (F := Ideal) x0 x2 i = ((v48 I (i 0).val (i 1).val : ℝ) : EReal) :=
  (val_main_v48_apply x0 x2 i).trans (Up.add (L_main_v41 H i) (L_main_v47 H i))
theorem L_main_v49 (i : S2048x1024.Idx) : val_main_v49 (F := Ideal) x0 i = ((v49 I (i 0).val (i 1).val : ℝ) : EReal) :=
  (val_main_v49_apply x0 i).trans (L_main_v27 H (idx_main_v49 i))
theorem L_main_v50 (i : S1x1024.Idx) : val_main_v50 (F := Ideal) x2 i = ((v50 I (i 0).val (i 1).val : ℝ) : EReal) :=
  (val_main_v50_apply x2 i).trans (H.x2 (idx_main_v50 i))
theorem L_main_v51 (i : S1024.Idx) : val_main_v51 (F := Ideal) x2 i = ((v51 I (i 0).val : ℝ) : EReal) :=
  (val_main_v51_apply x2 i).trans ((L_main_v50 H (idx_main_v51 i)).trans (congrArg Real.toEReal (by have h0 : (i 0).val < 1024 := (i 0).isLt; have e0 : ((i 0).val) % 1024 = (i 0).val := (by omega); exact congrArg (fun (z0 : ℕ) => (v50 I 0 z0)) e0)))
theorem L_main_v52 (i : S1x1024.Idx) : val_main_v52 (F := Ideal) x2 i = ((v52 I (i 0).val (i 1).val : ℝ) : EReal) :=
  (val_main_v52_apply x2 i).trans (L_main_v51 H (idx_main_v52 i))
theorem L_main_v53 (i : S2048x1024.Idx) : val_main_v53 (F := Ideal) x2 i = ((v53 I (i 0).val (i 1).val : ℝ) : EReal) :=
  (val_main_v53_apply x2 i).trans (L_main_v52 H (idx_main_v53 i))
theorem L_main_v54 (i : S2048x1024.Idx) : val_main_v54 (F := Ideal) x0 x2 i = ((v54 I (i 0).val (i 1).val : ℝ) : EReal) :=
  (val_main_v54_apply x0 x2 i).trans (Up.mul (L_main_v49 H i) (L_main_v53 H i))
theorem L_main_v55 (i : S2048x1024.Idx) : val_main_v55 (F := Ideal) x0 x2 i = ((v55 I (i 0).val (i 1).val : ℝ) : EReal) :=
  (val_main_v55_apply x0 x2 i).trans (Up.add (L_main_v48 H i) (L_main_v54 H i))
theorem L_main_v56 (i : S2048x1024.Idx) : val_main_v56 (F := Ideal) x3 i = ((v56 I (i 0).val (i 1).val : ℝ) : EReal) :=
  (val_main_v56_apply x3 i).trans (H.x3 (idx_main_v56 i))
theorem L_main_v57 (i : S2048x1024.Idx) : val_main_v57 (F := Ideal) x0 x2 x3 i = ((xl I ((i 0).val) ((i 1).val) : ℝ) : EReal) :=
  ((val_main_v57_apply x0 x2 x3 i).trans (Up.add (L_main_v55 H i) (L_main_v56 H i))).trans (congrArg Real.toEReal (ck_v57 I (i 0).val (i 1).val))
theorem L_main_v58 (i : S2048x16x64.Idx) : val_main_v58 (F := Ideal) x0 x2 x3 i = ((v58 I (i 0).val (i 1).val (i 2).val : ℝ) : EReal) :=
  (val_main_v58_apply x0 x2 x3 i).trans ((L_main_v57 H (idx_main_v58 i)).trans (congrArg Real.toEReal (by have h0 : (i 0).val < 2048 := (i 0).isLt; have h1 : (i 1).val < 16 := (i 1).isLt; have h2 : (i 2).val < 64 := (i 2).isLt; have e0 : (((i 0).val * 16 + (i 1).val) * 64 + (i 2).val) / 1024 = (i 0).val := (by omega); have e1 : (((i 0).val * 16 + (i 1).val) * 64 + (i 2).val) % 1024 = (i 1).val * 64 + (i 2).val := (by omega); exact congrArg₂ (fun (z0 : ℕ) (z1 : ℕ) => xl I z0 z1) e0 e1)))
theorem L_main_v59 (i : S16x64x2048.Idx) : val_main_v59 (F := Ideal) x0 x2 x3 x4 i = ((v59 I (i 0).val (i 1).val (i 2).val : ℝ) : EReal) :=
  (val_main_v59_apply x0 x2 x3 x4 i).trans (Up.sum_mul_coe (fun k => I.WA ((i 0).val) k ((i 1).val)) (fun k => (v58 I ((i 2).val) ((i 0).val) k)) _ _ (fun k => (H.x4 (lidx_main_v59 i k))) (fun k => (L_main_v58 H (ridx_main_v59 i k))))
theorem L_main_v60 (i : S2048x16x64.Idx) : val_main_v60 (F := Ideal) x0 x2 x3 x4 i = ((v60 I (i 0).val (i 1).val (i 2).val : ℝ) : EReal) :=
  (val_main_v60_apply x0 x2 x3 x4 i).trans (L_main_v59 H (idx_main_v60 i))
theorem L_main_v61 (i : S1x16x64.Idx) : val_main_v61 (F := Ideal) x5 i = ((v61 I (i 0).val (i 1).val (i 2).val : ℝ) : EReal) :=
  (val_main_v61_apply x5 i).trans (H.x5 (idx_main_v61 i))
theorem L_main_v62 (i : S2048x16x64.Idx) : val_main_v62 (F := Ideal) x5 i = ((v62 I (i 0).val (i 1).val (i 2).val : ℝ) : EReal) :=
  (val_main_v62_apply x5 i).trans (L_main_v61 H (idx_main_v62 i))
theorem L_main_v63 (i : S2048x16x64.Idx) : val_main_v63 (F := Ideal) x0 x2 x3 x4 x5 i = ((pa I ((i 0).val) ((i 1).val) ((i 2).val) : ℝ) : EReal) :=
  ((val_main_v63_apply x0 x2 x3 x4 x5 i).trans (Up.add (L_main_v60 H i) (L_main_v62 H i))).trans (congrArg Real.toEReal (ck_v63 I (i 0).val (i 1).val (i 2).val))
theorem L_main_v64 (i : S2048x16x64.Idx) : val_main_v64 (F := Ideal) x0 x2 x3 x4 x5 i = ((v64 I (i 0).val (i 1).val (i 2).val : ℝ) : EReal) :=
  (val_main_v64_apply x0 x2 x3 x4 x5 i).trans (Up.neg (L_main_v63 H i))
theorem L_main_v65 (i : S2048x16x64.Idx) : val_main_v65 (F := Ideal) x0 x2 x3 x4 x5 i = ((v65 I (i 0).val (i 1).val (i 2).val : ℝ) : EReal) :=
  (val_main_v65_apply x0 x2 x3 x4 x5 i).trans (Up.hexp (L_main_v64 H i))
theorem L_main_cst_9 (i : S_.Idx) : val_main_cst_9 (F := Ideal) i = ((1 : ℝ) : EReal) :=
  Up.c1
theorem L_main_v66 (i : S2048x16x64.Idx) : val_main_v66 (F := Ideal) i = ((v66 I (i 0).val (i 1).val (i 2).val : ℝ) : EReal) :=
  (val_main_v66_apply i).trans (L_main_cst_9 H (idx_main_v66 i))
theorem L_main_v67 (i : S2048x16x64.Idx) : val_main_v67 (F := Ideal) x0 x2 x3 x4 x5 i = ((v67 I (i 0).val (i 1).val (i 2).val : ℝ) : EReal) :=
  (val_main_v67_apply x0 x2 x3 x4 x5 i).trans (Up.add (L_main_v66 H i) (L_main_v65 H i))
theorem L_main_cst_10 (i : S_.Idx) : val_main_cst_10 (F := Ideal) i = ((1 : ℝ) : EReal) :=
  Up.c1
theorem L_main_v68 (i : S2048x16x64.Idx) : val_main_v68 (F := Ideal) i = ((v68 I (i 0).val (i 1).val (i 2).val : ℝ) : EReal) :=
  (val_main_v68_apply i).trans (L_main_cst_10 H (idx_main_v68 i))
theorem L_main_v69 (i : S2048x16x64.Idx) : val_main_v69 (F := Ideal) x0 x2 x3 x4 x5 i = ((v69 I (i 0).val (i 1).val (i 2).val : ℝ) : EReal) :=
  (val_main_v69_apply x0 x2 x3 x4 x5 i).trans (Up.hdiv (L_main_v68 H i) (L_main_v67 H i) (ne_of_gt (by show (0:ℝ) < 1 + Real.exp _; positivity)))
theorem L_main_cst_11 (i : S_.Idx) : val_main_cst_11 (F := Ideal) i = ((1 : ℝ) : EReal) :=
  Up.c1
theorem L_main_v70 (i : S2048x16x64.Idx) : val_main_v70 (F := Ideal) i = ((v70 I (i 0).val (i 1).val (i 2).val : ℝ) : EReal) :=
  (val_main_v70_apply i).trans (L_main_cst_11 H (idx_main_v70 i))
theorem L_main_v71 (i : S2048x16x64.Idx) : val_main_v71 (F := Ideal) x0 x2 x3 x4 x5 i = ((v71 I (i 0).val (i 1).val (i 2).val : ℝ) : EReal) :=
  (val_main_v71_apply x0 x2 x3 x4 x5 i).trans (Up.sub (L_main_v70 H i) (L_main_v69 H i))
theorem L_main_v72 (i : S2048x16x64.Idx) : val_main_v72 (F := Ideal) x0 x2 x3 x4 x5 i = ((v72 I (i 0).val (i 1).val (i 2).val : ℝ) : EReal) :=
  (val_main_v72_apply x0 x2 x3 x4 x5 i).trans (Up.mul (L_main_v69 H i) (L_main_v71 H i))
theorem L_main_v73 (i : S16x64x2048.Idx) : val_main_v73 (F := Ideal) x0 x2 x3 x6 i = ((v73 I (i 0).val (i 1).val (i 2).val : ℝ) : EReal) :=
  (val_main_v73_apply x0 x2 x3 x6 i).trans (Up.sum_mul_coe (fun k => I.WX ((i 0).val) k ((i 1).val)) (fun k => (v58 I ((i 2).val) ((i 0).val) k)) _ _ (fun k => (H.x6 (lidx_main_v73 i k))) (fun k => (L_main_v58 H (ridx_main_v73 i k))))
theorem L_main_v74 (i : S2048x16x64.Idx) : val_main_v74 (F := Ideal) x0 x2 x3 x6 i = ((v74 I (i 0).val (i 1).val (i 2).val : ℝ) : EReal) :=
  (val_main_v74_apply x0 x2 x3 x6 i).trans (L_main_v73 H (idx_main_v74 i))
theorem L_main_v75 (i : S1x16x64.Idx) : val_main_v75 (F := Ideal) x7 i = ((v75 I (i 0).val (i 1).val (i 2).val : ℝ) : EReal) :=
  (val_main_v75_apply x7 i).trans (H.x7 (idx_main_v75 i))
theorem L_main_v76 (i : S2048x16x64.Idx) : val_main_v76 (F := Ideal) x7 i = ((v76 I (i 0).val (i 1).val (i 2).val : ℝ) : EReal) :=
  (val_main_v76_apply x7 i).trans (L_main_v75 H (idx_main_v76 i))
theorem L_main_v77 (i : S2048x16x64.Idx) : val_main_v77 (F := Ideal) x0 x2 x3 x6 x7 i = ((px I ((i 0).val) ((i 1).val) ((i 2).val) : ℝ) : EReal) :=
  ((val_main_v77_apply x0 x2 x3 x6 x7 i).trans (Up.add (L_main_v74 H i) (L_main_v76 H i))).trans (congrArg Real.toEReal (ck_v77 I (i 0).val (i 1).val (i 2).val))
theorem L_main_v78 (i : S2048x16x64.Idx) : val_main_v78 (F := Ideal) x0 x2 x3 x6 x7 i = ((v78 I (i 0).val (i 1).val (i 2).val : ℝ) : EReal) :=
  (val_main_v78_apply x0 x2 x3 x6 x7 i).trans (Up.neg (L_main_v77 H i))
theorem L_main_v79 (i : S2048x16x64.Idx) : val_main_v79 (F := Ideal) x0 x2 x3 x6 x7 i = ((v79 I (i 0).val (i 1).val (i 2).val : ℝ) : EReal) :=
  (val_main_v79_apply x0 x2 x3 x6 x7 i).trans (Up.hexp (L_main_v78 H i))
theorem L_main_cst_12 (i : S_.Idx) : val_main_cst_12 (F := Ideal) i = ((1 : ℝ) : EReal) :=
  Up.c1
theorem L_main_v80 (i : S2048x16x64.Idx) : val_main_v80 (F := Ideal) i = ((v80 I (i 0).val (i 1).val (i 2).val : ℝ) : EReal) :=
  (val_main_v80_apply i).trans (L_main_cst_12 H (idx_main_v80 i))
theorem L_main_v81 (i : S2048x16x64.Idx) : val_main_v81 (F := Ideal) x0 x2 x3 x6 x7 i = ((v81 I (i 0).val (i 1).val (i 2).val : ℝ) : EReal) :=
  (val_main_v81_apply x0 x2 x3 x6 x7 i).trans (Up.add (L_main_v80 H i) (L_main_v79 H i))
theorem L_main_cst_13 (i : S_.Idx) : val_main_cst_13 (F := Ideal) i = ((1 : ℝ) : EReal) :=
  Up.c1
theorem L_main_v82 (i : S2048x16x64.Idx) : val_main_v82 (F := Ideal) i = ((v82 I (i 0).val (i 1).val (i 2).val : ℝ) : EReal) :=
  (val_main_v82_apply i).trans (L_main_cst_13 H (idx_main_v82 i))
theorem L_main_v83 (i : S2048x16x64.Idx) : val_main_v83 (F := Ideal) x0 x2 x3 x6 x7 i = ((v83 I (i 0).val (i 1).val (i 2).val : ℝ) : EReal) :=
  (val_main_v83_apply x0 x2 x3 x6 x7 i).trans (Up.hdiv (L_main_v82 H i) (L_main_v81 H i) (ne_of_gt (by show (0:ℝ) < 1 + Real.exp _; positivity)))
theorem L_main_cst_14 (i : S_.Idx) : val_main_cst_14 (F := Ideal) i = ((1 : ℝ) : EReal) :=
  Up.c1
theorem L_main_v84 (i : S2048x16x64.Idx) : val_main_v84 (F := Ideal) i = ((v84 I (i 0).val (i 1).val (i 2).val : ℝ) : EReal) :=
  (val_main_v84_apply i).trans (L_main_cst_14 H (idx_main_v84 i))
theorem L_main_v85 (i : S2048x16x64.Idx) : val_main_v85 (F := Ideal) x0 x2 x3 x6 x7 i = ((v85 I (i 0).val (i 1).val (i 2).val : ℝ) : EReal) :=
  (val_main_v85_apply x0 x2 x3 x6 x7 i).trans (Up.sub (L_main_v84 H i) (L_main_v83 H i))
theorem L_main_v86 (i : S2048x16x64.Idx) : val_main_v86 (F := Ideal) x0 x2 x3 x6 x7 i = ((v86 I (i 0).val (i 1).val (i 2).val : ℝ) : EReal) :=
  (val_main_v86_apply x0 x2 x3 x6 x7 i).trans (Up.mul (L_main_v83 H i) (L_main_v85 H i))
theorem L_main_v87 (i : S2048x1024.Idx) : val_main_v87 (F := Ideal) x0 x2 x3 x4 x5 i = ((ra I ((i 0).val) ((i 1).val) : ℝ) : EReal) :=
  ((val_main_v87_apply x0 x2 x3 x4 x5 i).trans ((L_main_v69 H (idx_main_v87 i)).trans (congrArg Real.toEReal (by have h0 : (i 0).val < 2048 := (i 0).isLt; have h1 : (i 1).val < 1024 := (i 1).isLt; have e0 : ((i 0).val * 1024 + (i 1).val) / 1024 = (i 0).val := (by omega); have e1 : ((i 0).val * 1024 + (i 1).val) / 64 % 16 = (i 1).val / 64 := (by omega); have e2 : ((i 0).val * 1024 + (i 1).val) % 64 = (i 1).val % 64 := (by omega); exact (congrArg₂ (fun (z0 z1 : ℕ) => (fun (z0 : ℕ) (z1 : ℕ) (z2 : ℕ) => (v69 I z0 z1 z2)) z0 z1 _) e0 e1).trans (congrArg ((fun (z0 : ℕ) (z1 : ℕ) (z2 : ℕ) => (v69 I z0 z1 z2)) _ _) e2))))).trans (congrArg Real.toEReal (ck_v87 I (i 0).val (i 1).val))
theorem L_main_v88 (i : S2048x1024.Idx) : val_main_v88 (F := Ideal) x0 x2 x3 x6 x7 i = ((ig I ((i 0).val) ((i 1).val) : ℝ) : EReal) :=
  ((val_main_v88_apply x0 x2 x3 x6 x7 i).trans ((L_main_v83 H (idx_main_v88 i)).trans (congrArg Real.toEReal (by have h0 : (i 0).val < 2048 := (i 0).isLt; have h1 : (i 1).val < 1024 := (i 1).isLt; have e0 : ((i 0).val * 1024 + (i 1).val) / 1024 = (i 0).val := (by omega); have e1 : ((i 0).val * 1024 + (i 1).val) / 64 % 16 = (i 1).val / 64 := (by omega); have e2 : ((i 0).val * 1024 + (i 1).val) % 64 = (i 1).val % 64 := (by omega); exact (congrArg₂ (fun (z0 z1 : ℕ) => (fun (z0 : ℕ) (z1 : ℕ) (z2 : ℕ) => (v83 I z0 z1 z2)) z0 z1 _) e0 e1).trans (congrArg ((fun (z0 : ℕ) (z1 : ℕ) (z2 : ℕ) => (v83 I z0 z1 z2)) _ _) e2))))).trans (congrArg Real.toEReal (ck_v88 I (i 0).val (i 1).val))
theorem L_main_cst_15 (i : S_.Idx) : val_main_cst_15 (F := Ideal) i = ((-8 : ℝ) : EReal) :=
  Up.cm8
theorem L_main_v89 (i : S2048x1024.Idx) : val_main_v89 (F := Ideal) i = ((v89 I (i 0).val (i 1).val : ℝ) : EReal) :=
  (val_main_v89_apply i).trans (L_main_cst_15 H (idx_main_v89 i))
theorem L_main_v90 (i : S2048x1024.Idx) : val_main_v90 (F := Ideal) x0 x2 x3 x4 x5 i = ((v90 I (i 0).val (i 1).val : ℝ) : EReal) :=
  (val_main_v90_apply x0 x2 x3 x4 x5 i).trans (Up.mul (L_main_v89 H i) (L_main_v87 H i))
theorem L_main_v91 (i : S1x1024.Idx) : val_main_v91 (F := Ideal) x8 i = ((v91 I (i 0).val (i 1).val : ℝ) : EReal) :=
  (val_main_v91_apply x8 i).trans (Up.neg (H.x8 i))
theorem L_main_call0_cst (i : S_.Idx) : val_main_call0_cst (F := Ideal) i = ((0 : ℝ) : EReal) :=
  Up.c0
theorem L_main_call0_v0 (i : S1x1024.Idx) : val_main_call0_v0 (F := Ideal) i = ((call0_v0 I (i 0).val (i 1).val : ℝ) : EReal) :=
  (val_main_call0_v0_apply i).trans (L_main_call0_cst H (idx_main_call0_v0 i))
theorem L_main_call0_v1 (i : S1x1024.Idx) : val_main_call0_v1 (F := Ideal) x8 i = ((call0_v1 I (i 0).val (i 1).val : ℝ) : EReal) :=
  (val_main_call0_v1_apply x8 i).trans (Up.max (L_main_v91 H i) (L_main_call0_v0 H i))
theorem L_main_call0_v2 (i : S1x1024.Idx) : val_main_call0_v2 (F := Ideal) i = ((call0_v2 I (i 0).val (i 1).val : ℝ) : EReal) :=
  (val_main_call0_v2_apply i).trans (L_main_call0_cst H (idx_main_call0_v2 i))
theorem L_main_call0_v3 (i : S1x1024.Idx) : val_main_call0_v3 (F := Ideal) x8 i = ((call0_v3 I (i 0).val (i 1).val : ℝ) : EReal) :=
  (val_main_call0_v3_apply x8 i).trans (Up.sub (L_main_v91 H i) (L_main_call0_v2 H i))
theorem B_main_call0_v4 (i : S1x1024.Idx) : val_main_call0_v4 (F := Ideal) x8 i = 0#1 :=
  (val_main_call0_v4_apply x8 i).trans (RLem.une_self _)
theorem L_main_call0_v7 (i : S1x1024.Idx) : val_main_call0_v7 (F := Ideal) x8 i = ((call0_v7 I (i 0).val (i 1).val : ℝ) : EReal) :=
  (val_main_call0_v7_apply x8 i).trans (Up.habs (L_main_call0_v3 H i))
theorem L_main_call0_v8 (i : S1x1024.Idx) : val_main_call0_v8 (F := Ideal) x8 i = ((call0_v8 I (i 0).val (i 1).val : ℝ) : EReal) :=
  (val_main_call0_v8_apply x8 i).trans (Up.neg (L_main_call0_v7 H i))
theorem L_main_call0_v9 (i : S1x1024.Idx) : val_main_call0_v9 (F := Ideal) x8 i = ((call0_v9 I (i 0).val (i 1).val : ℝ) : EReal) :=
  (val_main_call0_v9_apply x8 i).trans (Up.hexp (L_main_call0_v8 H i))
theorem L_main_call0_v10 (i : S1x1024.Idx) : val_main_call0_v10 (F := Ideal) x8 i = ((call0_v10 I (i 0).val (i 1).val : ℝ) : EReal) :=
  (val_main_call0_v10_apply x8 i).trans (Up.hlog1p (L_main_call0_v9 H i) (by show 0 < 1 + Real.exp _; positivity))
theorem L_main_call0_v11 (i : S1x1024.Idx) : val_main_call0_v11 (F := Ideal) x8 i = ((call0_v11 I (i 0).val (i 1).val : ℝ) : EReal) :=
  (val_main_call0_v11_apply x8 i).trans (Up.add (L_main_call0_v1 H i) (L_main_call0_v10 H i))
theorem L_main_v92_0 (i : S1x1024.Idx) : val_main_v92_0 (F := Ideal) x8 i = ((sp I ((i 1).val) : ℝ) : EReal) :=
  ((val_main_v92_0_apply x8 i).trans ((congrArg (fun m => Scalar.select m _ _) (B_main_call0_v4 H i)).trans (L_main_call0_v11 H i))).trans (congrArg Real.toEReal (ck_v92_0 I (i 0).val (i 1).val))
theorem B_main_call0_v14 (i : S1x1024.Idx) : val_main_call0_v14 (F := Ideal) x8 i = 0#1 :=
  (val_main_call0_v14_apply x8 i).trans (RLem.oeq_top _ (L_main_v91 H i) ((val_main_call0_v13_apply i).trans Up.ctop))
theorem L_main_call0_v16 (i : S1x1024.Idx) : val_main_call0_v16 (F := Ideal) x8 i = ((call0_v16 I (i 0).val (i 1).val : ℝ) : EReal) :=
  (val_main_call0_v16_apply x8 i).trans ((congrArg (fun m => Scalar.select m _ _) (B_main_call0_v14 H i)).trans (L_main_v91 H i))
theorem B_main_call0_v18 (i : S1x1024.Idx) : val_main_call0_v18 (F := Ideal) x8 i = 0#1 :=
  (val_main_call0_v18_apply x8 i).trans (RLem.oeq_top _ (L_main_v92_0 H i) ((val_main_call0_v17_apply i).trans Up.ctop))
theorem L_main_call0_v20 (i : S1x1024.Idx) : val_main_call0_v20 (F := Ideal) x8 i = ((call0_v20 I (i 0).val (i 1).val : ℝ) : EReal) :=
  (val_main_call0_v20_apply x8 i).trans ((congrArg (fun m => Scalar.select m _ _) (B_main_call0_v18 H i)).trans (L_main_v92_0 H i))
theorem L_main_call0_v21 (i : S1x1024.Idx) : val_main_call0_v21 (F := Ideal) x8 i = ((call0_v21 I (i 0).val (i 1).val : ℝ) : EReal) :=
  (val_main_call0_v21_apply x8 i).trans (Up.sub (L_main_call0_v16 H i) (L_main_call0_v20 H i))
theorem L_main_v92_1 (i : S1x1024.Idx) : val_main_v92_1 (F := Ideal) x8 i = ((sg (-I.AP ((i 1).val)) : ℝ) : EReal) :=
  ((val_main_v92_1_apply x8 i).trans (Up.hexp (L_main_call0_v21 H i))).trans (congrArg Real.toEReal (ck_v92_1 I (i 0).val (i 1).val))
theorem L_main_v93 (i : S2048x1024.Idx) : val_main_v93 (F := Ideal) x8 i = ((v93 I (i 0).val (i 1).val : ℝ) : EReal) :=
  (val_main_v93_apply x8 i).trans (L_main_v92_0 H (idx_main_v93 i))
theorem L_main_v94 (i : S2048x1024.Idx) : val_main_v94 (F := Ideal) x0 x2 x3 x4 x5 x8 i = ((la I ((i 0).val) ((i 1).val) : ℝ) : EReal) :=
  ((val_main_v94_apply x0 x2 x3 x4 x5 x8 i).trans (Up.mul (L_main_v90 H i) (L_main_v93 H i))).trans (congrArg Real.toEReal (ck_v94 I (i 0).val (i 1).val))
theorem L_main_cst_16 (i : S_.Idx) : val_main_cst_16 (F := Ideal) i = ((2 : ℝ) : EReal) :=
  Up.c2
theorem L_main_v95 (i : S2048x1024.Idx) : val_main_v95 (F := Ideal) i = ((v95 I (i 0).val (i 1).val : ℝ) : EReal) :=
  (val_main_v95_apply i).trans (L_main_cst_16 H (idx_main_v95 i))
theorem L_main_v96 (i : S2048x1024.Idx) : val_main_v96 (F := Ideal) x0 x2 x3 x4 x5 x8 i = ((v96 I (i 0).val (i 1).val : ℝ) : EReal) :=
  (val_main_v96_apply x0 x2 x3 x4 x5 x8 i).trans (Up.mul (L_main_v95 H i) (L_main_v94 H i))
theorem L_main_v97 (i : S2048x1024.Idx) : val_main_v97 (F := Ideal) x0 x2 x3 x4 x5 x8 i = ((v97 I (i 0).val (i 1).val : ℝ) : EReal) :=
  (val_main_v97_apply x0 x2 x3 x4 x5 x8 i).trans (Up.hexpm1 (L_main_v96 H i))
theorem L_main_v98 (i : S2048x1024.Idx) : val_main_v98 (F := Ideal) x0 x2 x3 x4 x5 x8 i = ((a2 I ((i 0).val) ((i 1).val) : ℝ) : EReal) :=
  ((val_main_v98_apply x0 x2 x3 x4 x5 x8 i).trans (Up.hexp (L_main_v96 H i))).trans (congrArg Real.toEReal (ck_v98 I (i 0).val (i 1).val))
theorem L_main_v99 (i : S2048x1024.Idx) : val_main_v99 (F := Ideal) x0 x2 x3 x4 x5 x8 i = ((v99 I (i 0).val (i 1).val : ℝ) : EReal) :=
  (val_main_v99_apply x0 x2 x3 x4 x5 x8 i).trans (Up.neg (L_main_v97 H i))
theorem L_main_v100 (i : S2048x1024.Idx) : val_main_v100 (F := Ideal) x0 x2 x3 x4 x5 x8 i = ((root I ((i 0).val) ((i 1).val) : ℝ) : EReal) :=
  ((val_main_v100_apply x0 x2 x3 x4 x5 x8 i).trans (Up.hsqrt (L_main_v99 H i) (by show 0 ≤ -(Real.exp (2 * la I _ _) - 1); have := a2_lt I (i 0).val (i 1).val; unfold a2 at this; linarith))).trans (congrArg Real.toEReal (ck_v100 I (i 0).val (i 1).val))
theorem L_main_cst_17 (i : S_.Idx) : val_main_cst_17 (F := Ideal) i = ((1 / 2 : ℝ) : EReal) :=
  Up.chalf
theorem L_main_v101 (i : S2048x1024.Idx) : val_main_v101 (F := Ideal) i = ((v101 I (i 0).val (i 1).val : ℝ) : EReal) :=
  (val_main_v101_apply i).trans (L_main_cst_17 H (idx_main_v101 i))
theorem L_main_v102 (i : S2048x1024.Idx) : val_main_v102 (F := Ideal) x0 x2 x3 x4 x5 x8 i = ((v102 I (i 0).val (i 1).val : ℝ) : EReal) :=
  (val_main_v102_apply x0 x2 x3 x4 x5 x8 i).trans (Up.hdiv (L_main_v101 H i) (L_main_v100 H i) (root_pos I _ _).ne')
theorem L_main_cst_18 (i : S_.Idx) : val_main_cst_18 (F := Ideal) i = ((1 : ℝ) : EReal) :=
  Up.c1
theorem L_main_call1_v0 (i : S_.Idx) : val_main_call1_v0 (F := Ideal) i = ((call1_v0 I : ℝ) : EReal) :=
  (L_main_cst_18 H i)
theorem L_main_call1_v2 (i : S2048x1024.Idx) : val_main_call1_v2 (F := Ideal) i = ((call1_v2 I (i 0).val (i 1).val : ℝ) : EReal) :=
  (val_main_call1_v2_apply i).trans (L_main_call1_v0 H (idx_main_call1_v2 i))
theorem L_main_v107_0 (i : S2048x1024.Idx) : val_main_v107_0 (F := Ideal) x0 x2 x3 x4 x5 x8 i = ((mult I ((i 0).val) ((i 1).val) : ℝ) : EReal) :=
  ((val_main_v107_0_apply x0 x2 x3 x4 x5 x8 i).trans (Up.sel (B_main_v107_1 i) (L_main_call1_v2 H i) (L_main_v100 H i))).trans (congrArg Real.toEReal (ck_v107_0 I (i 0).val (i 1).val))
theorem L_main_v108 (i : S2048x1024.Idx) : val_main_v108 (F := Ideal) x0 x2 x3 x6 x7 i = ((v108 I (i 0).val (i 1).val : ℝ) : EReal) :=
  (val_main_v108_apply x0 x2 x3 x6 x7 i).trans (Up.mul (L_main_v57 H i) (L_main_v88 H i))
theorem L_main_v109 (i : S2048x1024.Idx) : val_main_v109 (F := Ideal) x0 x2 x3 x4 x5 x6 x7 x8 i = ((u I ((i 0).val) ((i 1).val) : ℝ) : EReal) :=
  ((val_main_v109_apply x0 x2 x3 x4 x5 x6 x7 x8 i).trans (Up.mul (L_main_v108 H i) (L_main_v107_0 H i))).trans (congrArg Real.toEReal (ck_v109 I (i 0).val (i 1).val))
theorem L_main_call2_call0_cst (i : S_.Idx) : val_main_call2_call0_cst (F := Ideal) i = ((0 : ℝ) : EReal) :=
  Up.c0
theorem L_main_call2_call0_v0 (i : S_.Idx) : val_main_call2_call0_v0 (F := Ideal) i = ((call2_call0_v0 I : ℝ) : EReal) :=
  (val_main_call2_call0_v0_apply i).trans (L_main_call2_call0_cst H (idx_main_call2_call0_v0 i))
theorem L_main_v110 (i : S2048x1024.Idx) : val_main_v110 (F := Ideal) x0 x2 x3 x4 x5 x8 i = ((cs I (i 0).val (i 1).val : ℝ) : EReal) :=
  RLem.cumsum_fwd _ (fun t c => la I t c) (fun i => L_main_v94 H i) _ (fun i => L_main_call2_call0_v0 H i) _ _ i
theorem L_main_v119 (i : S2048x1x1024.Idx) : val_main_v119 (F := Ideal) x0 x2 x3 x4 x5 x8 i = ((v119 I (i 0).val (i 1).val (i 2).val : ℝ) : EReal) :=
  (val_main_v119_apply x0 x2 x3 x4 x5 x8 i).trans (L_main_v110 H (idx_main_v119 i))
theorem L_main_v120 (i : S1x2048x1024.Idx) : val_main_v120 (F := Ideal) x0 x2 x3 x4 x5 x8 i = ((v120 I (i 0).val (i 1).val (i 2).val : ℝ) : EReal) :=
  (val_main_v120_apply x0 x2 x3 x4 x5 x8 i).trans (L_main_v110 H (idx_main_v120 i))
theorem L_main_v121 (i : S2048x2048x1024.Idx) : val_main_v121 (F := Ideal) x0 x2 x3 x4 x5 x8 i = ((v121 I (i 0).val (i 1).val (i 2).val : ℝ) : EReal) :=
  (val_main_v121_apply x0 x2 x3 x4 x5 x8 i).trans (L_main_v119 H (idx_main_v121 i))
theorem L_main_v122 (i : S2048x2048x1024.Idx) : val_main_v122 (F := Ideal) x0 x2 x3 x4 x5 x8 i = ((v122 I (i 0).val (i 1).val (i 2).val : ℝ) : EReal) :=
  (val_main_v122_apply x0 x2 x3 x4 x5 x8 i).trans (L_main_v120 H (idx_main_v122 i))
theorem L_main_v123 (i : S2048x2048x1024.Idx) : val_main_v123 (F := Ideal) x0 x2 x3 x4 x5 x8 i = ((v123 I (i 0).val (i 1).val (i 2).val : ℝ) : EReal) :=
  (val_main_v123_apply x0 x2 x3 x4 x5 x8 i).trans (Up.sub (L_main_v121 H i) (L_main_v122 H i))
theorem L_main_v125 (i : S2048x2048x1024.Idx) : val_main_v125 (F := Ideal) x0 x2 x3 x4 x5 x8 i = ((ee I (i 0).val (i 1).val (i 2).val : ℝ) : EReal) := by
  rw [val_main_v125_apply, val_main_v124_0_apply, B_main_v124_1]
  unfold ee
  by_cases h : (i 1).val ≤ (i 0).val
  · rw [if_pos h, if_pos h]
    exact Up.hexp (L_main_v123 H i)
  · rw [if_neg h, if_neg h]
    exact (congrArg (FloatOps.hostUnary (F := Ideal) (φ := .f32) .exp) (bot_main_call3_v2 i)).trans RLem.exp_bot
theorem L_main_v126 (i : S1x2048x1024.Idx) : val_main_v126 (F := Ideal) x0 x2 x3 x4 x5 x6 x7 x8 i = ((v126 I (i 0).val (i 1).val (i 2).val : ℝ) : EReal) :=
  (val_main_v126_apply x0 x2 x3 x4 x5 x6 x7 x8 i).trans (L_main_v109 H (idx_main_v126 i))
theorem L_main_v127 (i : S2048x2048x1024.Idx) : val_main_v127 (F := Ideal) x0 x2 x3 x4 x5 x6 x7 x8 i = ((v127 I (i 0).val (i 1).val (i 2).val : ℝ) : EReal) :=
  (val_main_v127_apply x0 x2 x3 x4 x5 x6 x7 x8 i).trans (L_main_v126 H (idx_main_v127 i))
theorem L_main_v128 (i : S2048x2048x1024.Idx) : val_main_v128 (F := Ideal) x0 x2 x3 x4 x5 x6 x7 x8 i = ((v128 I (i 0).val (i 1).val (i 2).val : ℝ) : EReal) :=
  (val_main_v128_apply x0 x2 x3 x4 x5 x6 x7 x8 i).trans (Up.mul (L_main_v125 H i) (L_main_v127 H i))
theorem L_main_cst_20 (i : S_.Idx) : val_main_cst_20 (F := Ideal) i = ((0 : ℝ) : EReal) :=
  Up.c0
theorem L_main_v129 (i : S2048x1024.Idx) : val_main_v129 (F := Ideal) x0 x2 x3 x4 x5 x6 x7 x8 i = ((hh I ((i 0).val) ((i 1).val) : ℝ) : EReal) :=
  ((val_main_v129_apply x0 x2 x3 x4 x5 x6 x7 x8 i).trans (Up.red (fun k => (v128 I ((i 0).val) k ((i 1).val))) _ (L_main_cst_20 H _) (fun k => (L_main_v128 H (idx_main_v129 i k))))).trans (congrArg Real.toEReal (ck_v129 I (i 0).val (i 1).val))
theorem L_main_v131 (i : S2048x1024.Idx) : val_main_v131 (F := Ideal) x0 x1 i = ((dh I ((i 0).val) ((i 1).val) : ℝ) : EReal) :=
  ((val_main_v131_apply x0 x1 i).trans (Up.mul (L_main_v25 H i) (L_main_v2 H i))).trans (congrArg Real.toEReal (ck_v131 I (i 0).val (i 1).val))
theorem L_main_v132 (i : S2048x1024.Idx) : val_main_v132 (F := Ideal) x0 x1 x2 x3 x4 x5 x6 x7 x8 i = ((v132 I (i 0).val (i 1).val : ℝ) : EReal) :=
  (val_main_v132_apply x0 x1 x2 x3 x4 x5 x6 x7 x8 i).trans (Up.mul (L_main_v2 H i) (L_main_v129 H i))
theorem L_main_v133 (i : S2048x2048x1024.Idx) : val_main_v133 (F := Ideal) x0 x1 i = ((v133 I (i 0).val (i 1).val (i 2).val : ℝ) : EReal) :=
  (val_main_v133_apply x0 x1 i).trans (L_main_v131 H (idx_main_v133 i))
theorem L_main_v134 (i : S2048x2048x1024.Idx) : val_main_v134 (F := Ideal) x0 x1 x2 x3 x4 x5 x8 i = ((v134 I (i 0).val (i 1).val (i 2).val : ℝ) : EReal) :=
  (val_main_v134_apply x0 x1 x2 x3 x4 x5 x8 i).trans (Up.mul (L_main_v125 H i) (L_main_v133 H i))
theorem L_main_cst_21 (i : S_.Idx) : val_main_cst_21 (F := Ideal) i = ((0 : ℝ) : EReal) :=
  Up.c0
theorem L_main_v135 (i : S2048x1024.Idx) : val_main_v135 (F := Ideal) x0 x1 x2 x3 x4 x5 x8 i = ((gd I ((i 0).val) ((i 1).val) : ℝ) : EReal) :=
  ((val_main_v135_apply x0 x1 x2 x3 x4 x5 x8 i).trans (Up.red (fun k => (v134 I k ((i 0).val) ((i 1).val))) _ (L_main_cst_21 H _) (fun k => (L_main_v134 H (idx_main_v135 i k))))).trans (congrArg Real.toEReal (ck_v135 I (i 0).val (i 1).val))
theorem L_main_v136 (i : S1x2048x1024.Idx) : val_main_v136 (F := Ideal) x0 x1 x2 x3 x4 x5 x8 i = ((v136 I (i 0).val (i 1).val (i 2).val : ℝ) : EReal) :=
  (val_main_v136_apply x0 x1 x2 x3 x4 x5 x8 i).trans ((L_main_v135 H (idx_main_v136 i)).trans (congrArg Real.toEReal (by have h0 : (i 0).val < 1 := (i 0).isLt; have h1 : (i 1).val < 2048 := (i 1).isLt; have h2 : (i 2).val < 1024 := (i 2).isLt; have e0 : (((i 0).val * 2048 + (i 1).val) * 1024 + (i 2).val) / 1024 = (i 1).val := (by omega); have e1 : (((i 0).val * 2048 + (i 1).val) * 1024 + (i 2).val) % 1024 = (i 2).val := (by omega); exact congrArg₂ (fun (z0 : ℕ) (z1 : ℕ) => gd I z0 z1) e0 e1)))
theorem L_main_v137 (i : S2048x2048x1024.Idx) : val_main_v137 (F := Ideal) x0 x2 x3 x4 x5 x6 x7 x8 i = ((v137 I (i 0).val (i 1).val (i 2).val : ℝ) : EReal) :=
  (val_main_v137_apply x0 x2 x3 x4 x5 x6 x7 x8 i).trans (L_main_v126 H (idx_main_v137 i))
theorem L_main_v138 (i : S2048x2048x1024.Idx) : val_main_v138 (F := Ideal) x0 x1 x2 x3 x4 x5 x6 x7 x8 i = ((v138 I (i 0).val (i 1).val (i 2).val : ℝ) : EReal) :=
  (val_main_v138_apply x0 x1 x2 x3 x4 x5 x6 x7 x8 i).trans (Up.mul (L_main_v133 H i) (L_main_v137 H i))
theorem L_main_cst_22 (i : S_.Idx) : val_main_cst_22 (F := Ideal) i = ((0 : ℝ) : EReal) :=
  Up.c0
theorem L_main_v139 (i : S2048x1024.Idx) : val_main_v139 (F := Ideal) x0 x1 x2 x3 x4 x5 x8 i = ((gd I ((i 0).val) ((i 1).val) : ℝ) : EReal) :=
  ((val_main_v139_apply x0 x1 x2 x3 x4 x5 x8 i).trans (Up.red (fun k => (v136 I k ((i 0).val) ((i 1).val))) _ (L_main_cst_22 H _) (fun k => (L_main_v136 H (idx_main_v139 i k))))).trans (congrArg Real.toEReal (ck_v139 I (i 0).val (i 1).val))
theorem L_main_v140 (i : S2048x2048x1024.Idx) : val_main_v140 (F := Ideal) x0 x1 x2 x3 x4 x5 x6 x7 x8 i = ((v140 I (i 0).val (i 1).val (i 2).val : ℝ) : EReal) :=
  (val_main_v140_apply x0 x1 x2 x3 x4 x5 x6 x7 x8 i).trans (Up.mul (L_main_v138 H i) (L_main_v125 H i))
theorem L_main_call4_cst (i : S_.Idx) : val_main_call4_cst (F := Ideal) i = ((0 : ℝ) : EReal) :=
  Up.c0
theorem L_main_call4_v0 (i : S2048x2048x1024.Idx) : val_main_call4_v0 (F := Ideal) i = ((call4_v0 I (i 0).val (i 1).val (i 2).val : ℝ) : EReal) :=
  (val_main_call4_v0_apply i).trans (L_main_call4_cst H (idx_main_call4_v0 i))
theorem L_main_v141 (i : S2048x2048x1024.Idx) : val_main_v141 (F := Ideal) x0 x1 x2 x3 x4 x5 x6 x7 x8 i = ((pp I ((i 0).val) ((i 1).val) ((i 2).val) : ℝ) : EReal) :=
  ((val_main_v141_apply x0 x1 x2 x3 x4 x5 x6 x7 x8 i).trans (Up.sel (B_main_v124_1 i) (L_main_v140 H i) (L_main_call4_v0 H i))).trans (congrArg Real.toEReal (ck_v141 I (i 0).val (i 1).val (i 2).val))
theorem L_main_cst_23 (i : S_.Idx) : val_main_cst_23 (F := Ideal) i = ((0 : ℝ) : EReal) :=
  Up.c0
theorem L_main_v142 (i : S2048x1024.Idx) : val_main_v142 (F := Ideal) x0 x1 x2 x3 x4 x5 x6 x7 x8 i = ((v142 I (i 0).val (i 1).val : ℝ) : EReal) :=
  (val_main_v142_apply x0 x1 x2 x3 x4 x5 x6 x7 x8 i).trans (Up.red (fun k => pp I ((i 0).val) k ((i 1).val)) _ (L_main_cst_23 H _) (fun k => (L_main_v141 H (idx_main_v142 i k))))
theorem L_main_v143 (i : S2048x1x1024.Idx) : val_main_v143 (F := Ideal) x0 x1 x2 x3 x4 x5 x6 x7 x8 i = ((v143 I (i 0).val (i 1).val (i 2).val : ℝ) : EReal) :=
  (val_main_v143_apply x0 x1 x2 x3 x4 x5 x6 x7 x8 i).trans ((L_main_v142 H (idx_main_v143 i)).trans (congrArg Real.toEReal (by have h0 : (i 0).val < 2048 := (i 0).isLt; have h1 : (i 1).val < 1 := (i 1).isLt; have h2 : (i 2).val < 1024 := (i 2).isLt; have e0 : (((i 0).val * 1 + (i 1).val) * 1024 + (i 2).val) / 1024 = (i 0).val := (by omega); have e1 : (((i 0).val * 1 + (i 1).val) * 1024 + (i 2).val) % 1024 = (i 2).val := (by omega); exact congrArg₂ (fun (z0 : ℕ) (z1 : ℕ) => (v142 I z0 z1)) e0 e1)))
theorem L_main_v144 (i : S2048x2048x1024.Idx) : val_main_v144 (F := Ideal) x0 x1 x2 x3 x4 x5 x6 x7 x8 i = ((v144 I (i 0).val (i 1).val (i 2).val : ℝ) : EReal) :=
  (val_main_v144_apply x0 x1 x2 x3 x4 x5 x6 x7 x8 i).trans (Up.neg (L_main_v141 H i))
theorem L_main_cst_24 (i : S_.Idx) : val_main_cst_24 (F := Ideal) i = ((0 : ℝ) : EReal) :=
  Up.c0
theorem L_main_v145 (i : S2048x1024.Idx) : val_main_v145 (F := Ideal) x0 x1 x2 x3 x4 x5 x6 x7 x8 i = ((v145 I (i 0).val (i 1).val : ℝ) : EReal) :=
  (val_main_v145_apply x0 x1 x2 x3 x4 x5 x6 x7 x8 i).trans (Up.red (fun k => (v144 I k ((i 0).val) ((i 1).val))) _ (L_main_cst_24 H _) (fun k => (L_main_v144 H (idx_main_v145 i k))))
theorem L_main_v146 (i : S1x2048x1024.Idx) : val_main_v146 (F := Ideal) x0 x1 x2 x3 x4 x5 x6 x7 x8 i = ((v146 I (i 0).val (i 1).val (i 2).val : ℝ) : EReal) :=
  (val_main_v146_apply x0 x1 x2 x3 x4 x5 x6 x7 x8 i).trans ((L_main_v145 H (idx_main_v146 i)).trans (congrArg Real.toEReal (by have h0 : (i 0).val < 1 := (i 0).isLt; have h1 : (i 1).val < 2048 := (i 1).isLt; have h2 : (i 2).val < 1024 := (i 2).isLt; have e0 : (((i 0).val * 2048 + (i 1).val) * 1024 + (i 2).val) / 1024 = (i 1).val := (by omega); have e1 : (((i 0).val * 2048 + (i 1).val) * 1024 + (i 2).val) % 1024 = (i 2).val := (by omega); exact congrArg₂ (fun (z0 : ℕ) (z1 : ℕ) => (v145 I z0 z1)) e0 e1)))
theorem L_main_cst_25 (i : S_.Idx) : val_main_cst_25 (F := Ideal) i = ((0 : ℝ) : EReal) :=
  Up.c0
theorem L_main_v147 (i : S2048x1024.Idx) : val_main_v147 (F := Ideal) x0 x1 x2 x3 x4 x5 x6 x7 x8 i = ((v147 I (i 0).val (i 1).val : ℝ) : EReal) :=
  (val_main_v147_apply x0 x1 x2 x3 x4 x5 x6 x7 x8 i).trans (Up.red (fun k => (v146 I k ((i 0).val) ((i 1).val))) _ (L_main_cst_25 H _) (fun k => (L_main_v146 H (idx_main_v147 i k))))
theorem L_main_cst_26 (i : S_.Idx) : val_main_cst_26 (F := Ideal) i = ((0 : ℝ) : EReal) :=
  Up.c0
theorem L_main_v148 (i : S2048x1024.Idx) : val_main_v148 (F := Ideal) x0 x1 x2 x3 x4 x5 x6 x7 x8 i = ((v148 I (i 0).val (i 1).val : ℝ) : EReal) :=
  (val_main_v148_apply x0 x1 x2 x3 x4 x5 x6 x7 x8 i).trans (Up.red (fun k => (v143 I ((i 0).val) k ((i 1).val))) _ (L_main_cst_26 H _) (fun k => (L_main_v143 H (idx_main_v148 i k))))
theorem L_main_v149 (i : S2048x1024.Idx) : val_main_v149 (F := Ideal) x0 x1 x2 x3 x4 x5 x6 x7 x8 i = ((v149 I (i 0).val (i 1).val : ℝ) : EReal) :=
  (val_main_v149_apply x0 x1 x2 x3 x4 x5 x6 x7 x8 i).trans (Up.add (L_main_v147 H i) (L_main_v148 H i))
theorem L_main_call5_call0_cst (i : S_.Idx) : val_main_call5_call0_cst (F := Ideal) i = ((0 : ℝ) : EReal) :=
  Up.c0
theorem L_main_call5_call0_v0 (i : S_.Idx) : val_main_call5_call0_v0 (F := Ideal) i = ((call5_call0_v0 I : ℝ) : EReal) :=
  (val_main_call5_call0_v0_apply i).trans (L_main_call5_call0_cst H (idx_main_call5_call0_v0 i))
theorem L_main_v150 (i : S2048x1024.Idx) : val_main_v150 (F := Ideal) x0 x1 x2 x3 x4 x5 x6 x7 x8 i
    = ((gd I (i 0).val (i 1).val * hp I (i 0).val (i 1).val * ea I (i 0).val (i 1).val : ℝ) : EReal) :=
  (RLem.cumsum_rev _ (fun t c => v149 I t c) (fun i => L_main_v149 H i) _ (fun i => L_main_call5_call0_v0 H i) _ _ i).trans (congrArg Real.toEReal (ck_v150 I (i 0).val (i 1).val))
theorem L_main_v151 (i : S2048x1024.Idx) : val_main_v151 (F := Ideal) x0 x1 x2 x3 x4 x5 x6 x7 x8 i = ((v151 I (i 0).val (i 1).val : ℝ) : EReal) :=
  (val_main_v151_apply x0 x1 x2 x3 x4 x5 x6 x7 x8 i).trans (Up.mul (L_main_v108 H i) (L_main_v139 H i))
theorem L_main_v152 (i : S2048x1024.Idx) : val_main_v152 (F := Ideal) x0 x1 x2 x3 x4 x5 x8 i = ((v152 I (i 0).val (i 1).val : ℝ) : EReal) :=
  (val_main_v152_apply x0 x1 x2 x3 x4 x5 x8 i).trans (Up.mul (L_main_v139 H i) (L_main_v107_0 H i))
theorem L_main_v153 (i : S2048x1024.Idx) : val_main_v153 (F := Ideal) x0 x1 x2 x3 x4 x5 x8 i = ((v153 I (i 0).val (i 1).val : ℝ) : EReal) :=
  (val_main_v153_apply x0 x1 x2 x3 x4 x5 x8 i).trans (Up.mul (L_main_v57 H i) (L_main_v152 H i))
theorem L_main_v154 (i : S2048x1024.Idx) : val_main_v154 (F := Ideal) x0 x1 x2 x3 x4 x5 x6 x7 x8 i = ((v154 I (i 0).val (i 1).val : ℝ) : EReal) :=
  (val_main_v154_apply x0 x1 x2 x3 x4 x5 x6 x7 x8 i).trans (Up.mul (L_main_v152 H i) (L_main_v88 H i))
theorem L_main_call6_cst (i : S_.Idx) : val_main_call6_cst (F := Ideal) i = ((0 : ℝ) : EReal) :=
  Up.c0
theorem L_main_call6_v0 (i : S2048x1024.Idx) : val_main_call6_v0 (F := Ideal) i = ((call6_v0 I (i 0).val (i 1).val : ℝ) : EReal) :=
  (val_main_call6_v0_apply i).trans (L_main_call6_cst H (idx_main_call6_v0 i))
theorem L_main_v155 (i : S2048x1024.Idx) : val_main_v155 (F := Ideal) x0 x1 x2 x3 x4 x5 x6 x7 x8 i = ((v155 I (i 0).val (i 1).val : ℝ) : EReal) :=
  (val_main_v155_apply x0 x1 x2 x3 x4 x5 x6 x7 x8 i).trans (Up.sel (B_main_v107_1 i) (L_main_call6_v0 H i) (L_main_v151 H i))
theorem L_main_v156 (i : S2048x1024.Idx) : val_main_v156 (F := Ideal) x0 x1 x2 x3 x4 x5 x6 x7 x8 i = ((v156 I (i 0).val (i 1).val : ℝ) : EReal) :=
  (val_main_v156_apply x0 x1 x2 x3 x4 x5 x6 x7 x8 i).trans (Up.mul (L_main_v155 H i) (L_main_v102 H i))

end R
-- ==== Proof.KC.lean ====
module

public import proofs.«01_k».proof.Proof.KB
public import proofs.«01_k».proof.Proof.KS
public import proofs.«01_k».proof.Proof.RVal0

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window Dat)
open Finset (range mem_range sum_congr)
open Cert Lru

/-! What the calls leave in the whole arrays, as real numbers. -/

variable (m : (ℓ : Loc nD τ sig) → Buf (Elt Ideal) ℓ) (c : Dev nD) {I : Inp}

/-- The arguments of the kernel are the real numbers of `I`. -/
abbrev HypV (I : Inp) (V : Valuation τ sig (Elt Ideal)) : Prop :=
  R.Hyp I (X0 V) (X1 V) (X2 V) (X3 V) (X4 V) (X5 V) (X6 V) (X7 V) (X8 V)

theorem col {t : Fin cfg0.N} (y : Fin 256) : 256 * t.val + y.val < 1024 := by
  have ht : t.val < 4 := t.isLt
  have := y.isLt
  omega

theorem div64 (t y : ℕ) : (256 * t + y) / 64 = 4 * t + y / 64 := by omega
theorem mod64 (t y : ℕ) : (256 * t + y) % 64 = y % 64 := by omega

section
variable {V : Valuation τ sig (Elt Ideal)} (H : HypV I V)
include H

theorem g0 (a : Fin 2048) (q : Fin 1024) (k : S2048x5632.Idx) (h0 : (k 0).val = a.val) (h1 : (k 1).val = q.val) :
    G V main_arg0 k = ((I.X a.val q.val : ℝ) : EReal) := by
  rw [e_arg0]
  refine (congrArg (X0 V) (funext fun x => Fin.ext ?_)).trans (H.x (ix2 a q))
  match x with
  | ⟨0, _⟩ => exact h0.trans (by first | rfl | (show a.val = 0 + a.val; omega) | (show a.val = a.val + 0; omega))
  | ⟨1, _⟩ => exact h1.trans (by first | rfl | (show q.val = 0 + q.val; omega))

theorem g1 (a : Fin 2048) (q : Fin 1024) (k : S2048x5632.Idx) (h0 : (k 0).val = a.val) (h1 : (k 1).val = 1024 + q.val) :
    G V main_arg0 k = ((I.G a.val q.val : ℝ) : EReal) := by
  rw [e_arg0]
  refine (congrArg (X0 V) (funext fun x => Fin.ext ?_)).trans (H.g (ix2 a q))
  match x with
  | ⟨0, _⟩ => exact h0.trans (by first | rfl | (show a.val = 0 + a.val; omega))
  | ⟨1, _⟩ => exact h1.trans (by first | rfl | (show 1024 + q.val = q.val + 1024; omega))

theorem g2 (a : Fin 2048) (q : Fin 1024) (k : S2048x2048.Idx) (h0 : (k 0).val = a.val) (h1 : (k 1).val = q.val) :
    G V main_arg1 k = ((I.DY a.val q.val : ℝ) : EReal) := by
  rw [e_arg1]
  refine (congrArg (X1 V) (funext fun x => Fin.ext ?_)).trans (H.dy (ix2 a q))
  match x with
  | ⟨0, _⟩ => exact h0.trans (by first | rfl | (show a.val = 0 + a.val; omega))
  | ⟨1, _⟩ => exact h1.trans (by first | rfl | (show q.val = 0 + q.val; omega))

theorem g3 (k : S2048x1024.Idx) : G V main_v102 k = ((hh I (k 0).val (k 1).val : ℝ) : EReal) := by
  rw [e_v102]
  exact R.L_main_v129 H k

theorem g4 (k : S8x1024.Idx) (h : (k 0).val < 4) : G V main_v104 k = ((I.CW (k 0).val (k 1).val : ℝ) : EReal) :=
  (r_v104 V k h).trans (H.x2 _)
theorem g5 (k : S1x1024.Idx) : G V main_arg3 k = ((I.CB (k 1).val : ℝ) : EReal) := by
  rw [e_arg3]; exact H.x3 k
theorem g7 (k : S1x1024.Idx) : G V main_v135 k = ((I.BA ((k 1).val / 64) ((k 1).val % 64) : ℝ) : EReal) :=
  (r_v135 V k).trans (H.x5 _)
theorem g9 (k : S1x1024.Idx) : G V main_v136 k = ((I.BX ((k 1).val / 64) ((k 1).val % 64) : ℝ) : EReal) :=
  (r_v136 V k).trans (H.x7 _)
theorem g10 (k : S1x1024.Idx) : G V main_arg8 k = ((I.AP (k 1).val : ℝ) : EReal) := by
  rw [e_arg8]; exact H.x8 k
end

variable (H : HypV I (Vm m c))
include H

/-- What the blocks of grid point `t` hold. -/
theorem blk_at (t : Fin cfg0.N) : Blk I t.val (iblk m c 0 t) (iblk m c 1 t) (iblk m c 2 t) (iblk m c 3 t) (iblk m c 4 t)
    (iblk m c 5 t) (iblk m c 6 t) (iblk m c 7 t) (iblk m c 8 t) (iblk m c 9 t) (iblk m c 10 t) where
  x i := (ib0 m c t i).trans (g0 H ⟨(i 0).val, (i 0).isLt⟩ ⟨256 * t.val + (i 1).val, col (i 1)⟩ _ rfl rfl)
  g i := (ib1 m c t i).trans (g1 H ⟨(i 0).val, (i 0).isLt⟩ ⟨256 * t.val + (i 1).val, col (i 1)⟩ _ rfl (by
    show 256 * (4 + t.val) + (i 1).val = 1024 + (256 * t.val + (i 1).val); omega))
  dy i := (ib2 m c t i).trans (g2 H ⟨(i 0).val, (i 0).isLt⟩ ⟨256 * t.val + (i 1).val, col (i 1)⟩ _ rfl rfl)
  h i := (ib3 m c t i).trans (g3 H _)
  cw i h := (ib4 m c t i).trans (g4 H _ h)
  cb i := (ib5 m c t i).trans (g5 H _)
  wa i := (ib6 m c t i).trans (r_v119 _ H.x4 _)
  ba i := (ib7 m c t i).trans ((g7 H _).trans (by
    show ((I.BA ((256 * t.val + (i 1).val) / 64) ((256 * t.val + (i 1).val) % 64) : ℝ) : EReal) = _
    rw [div64, mod64]))
  wx i := (ib8 m c t i).trans (r_v134 _ H.x6 _)
  bx i := (ib9 m c t i).trans ((g9 H _).trans (by
    show ((I.BX ((256 * t.val + (i 1).val) / 64) ((256 * t.val + (i 1).val) % 64) : ℝ) : EReal) = _
    rw [div64, mod64]))
  ap i := (ib10 m c t i).trans (g10 H _)

theorem tp_at (t : Fin cfg0.N) : Tp I t.val (tp m c t) := (blk_at m c H t).tape

theorem arr11 : (dats m 0 c).arrAt 11 cfg0.N = (fun i : S2048x1024.Idx => ((dx I (i 0).val (i 1).val : ℝ) : EReal)) := by
  refine Dat.arrAt_eq_of_cover (dats m 0 c) 11 (fun i : S2048x1024.Idx => ((dx I (i 0).val (i 1).val : ℝ) : EReal)) (fun t _ => ?_) (fun i => ?_)
  · have e : (dats m 0 c).flushed 11 t = fun y => (dats m 0 c).after 11 t y := rfl
    rw [e, after0_11 m c t]
    funext y
    refine (out12_eq (tp_at m c H t) y).trans ?_
    exact (congrArg (fun i : S2048x1024.Idx => ((dx I (i 0).val (i 1).val : ℝ) : EReal)) (em11 t y)).symm
  · have h1 : (i 1).val < 1024 := (i 1).isLt
    have h0 : (i 0).val < 2048 := (i 0).isLt
    let t : Fin cfg0.N := ⟨(i 1).val / 256, (by show (i 1).val / 256 < 4; omega)⟩
    refine ⟨t, flush0_11 t, ?_⟩
    have e := em11 t (ix2 ⟨(i 0).val, h0⟩ ⟨(i 1).val % 256, Nat.mod_lt _ (by decide)⟩)
    have e2 : i = ((cfg0.win 11).blk t).view.emb (ix2 ⟨(i 0).val, h0⟩ ⟨(i 1).val % 256, Nat.mod_lt _ (by decide)⟩) := by
      rw [e]
      funext a
      match a with
      | ⟨0, _⟩ => rfl
      | ⟨1, _⟩ => exact Fin.ext (by show (i 1).val = 256 * ((i 1).val / 256) + (i 1).val % 256; omega)
    rw [e2]
    exact View.emb_mem_set _ _

theorem arr12 : (dats m 0 c).arrAt 12 cfg0.N = (fun i : S2048x1024.Idx => ((dg I (i 0).val (i 1).val : ℝ) : EReal)) := by
  refine Dat.arrAt_eq_of_cover (dats m 0 c) 12 (fun i : S2048x1024.Idx => ((dg I (i 0).val (i 1).val : ℝ) : EReal)) (fun t _ => ?_) (fun i => ?_)
  · have e : (dats m 0 c).flushed 12 t = fun y => (dats m 0 c).after 12 t y := rfl
    rw [e, after0_12 m c t]
    funext y
    refine (out13_eq (tp_at m c H t) y).trans ?_
    exact (congrArg (fun i : S2048x1024.Idx => ((dg I (i 0).val (i 1).val : ℝ) : EReal)) (em12 t y)).symm
  · have h1 : (i 1).val < 1024 := (i 1).isLt
    have h0 : (i 0).val < 2048 := (i 0).isLt
    let t : Fin cfg0.N := ⟨(i 1).val / 256, (by show (i 1).val / 256 < 4; omega)⟩
    refine ⟨t, flush0_12 t, ?_⟩
    have e := em12 t (ix2 ⟨(i 0).val, h0⟩ ⟨(i 1).val % 256, Nat.mod_lt _ (by decide)⟩)
    have e2 : i = ((cfg0.win 12).blk t).view.emb (ix2 ⟨(i 0).val, h0⟩ ⟨(i 1).val % 256, Nat.mod_lt _ (by decide)⟩) := by
      rw [e]
      funext a
      match a with
      | ⟨0, _⟩ => rfl
      | ⟨1, _⟩ => exact Fin.ext (by show (i 1).val = 256 * ((i 1).val / 256) + (i 1).val % 256; omega)
    rw [e2]
    exact View.emb_mem_set _ _

theorem arr13 : (dats m 0 c).arrAt 13 cfg0.N = (fun i : S8x1024.Idx => ((rowT I (i 0).val (i 1).val : ℝ) : EReal)) := by
  refine Dat.arrAt_eq_of_cover (dats m 0 c) 13 (fun i : S8x1024.Idx => ((rowT I (i 0).val (i 1).val : ℝ) : EReal)) (fun t _ => ?_) (fun i => ?_)
  · have e : (dats m 0 c).flushed 13 t = fun y => (dats m 0 c).after 13 t y := rfl
    rw [e, after0_13 m c t]
    funext y
    refine (out14_eq (tp_at m c H t) (iblk m c 10 t) (blk_at m c H t).ap y).trans ?_
    exact (congrArg (fun i : S8x1024.Idx => ((rowT I (i 0).val (i 1).val : ℝ) : EReal)) (em13 t y)).symm
  · have h1 : (i 1).val < 1024 := (i 1).isLt
    have h0 : (i 0).val < 8 := (i 0).isLt
    let t : Fin cfg0.N := ⟨(i 1).val / 256, (by show (i 1).val / 256 < 4; omega)⟩
    refine ⟨t, flush0_13 t, ?_⟩
    have e := em13 t (ix2 ⟨(i 0).val, h0⟩ ⟨(i 1).val % 256, Nat.mod_lt _ (by decide)⟩)
    have e2 : i = ((cfg0.win 13).blk t).view.emb (ix2 ⟨(i 0).val, h0⟩ ⟨(i 1).val % 256, Nat.mod_lt _ (by decide)⟩) := by
      rw [e]
      funext a
      match a with
      | ⟨0, _⟩ => rfl
      | ⟨1, _⟩ => exact Fin.ext (by show (i 1).val = 256 * ((i 1).val / 256) + (i 1).val % 256; omega)
    rw [e2]
    exact View.emb_mem_set _ _

theorem arr14 : (dats m 0 c).arrAt 14 cfg0.N = (fun i : S4x256x256.Idx => ((∑ t ∈ range 2048, xl I t (256 * (i 0).val + (i 1).val) * dpr I t (256 * (i 0).val + (i 2).val) : ℝ) : EReal)) := by
  refine Dat.arrAt_eq_of_cover (dats m 0 c) 14 (fun i : S4x256x256.Idx => ((∑ t ∈ range 2048, xl I t (256 * (i 0).val + (i 1).val) * dpr I t (256 * (i 0).val + (i 2).val) : ℝ) : EReal)) (fun t _ => ?_) (fun i => ?_)
  · have e : (dats m 0 c).flushed 14 t = fun y => (dats m 0 c).after 14 t y := rfl
    rw [e, after0_14 m c t]
    funext y
    refine (out15_eq (tp_at m c H t) y).trans ?_
    exact (congrArg (fun i : S4x256x256.Idx => ((∑ t ∈ range 2048, xl I t (256 * (i 0).val + (i 1).val) * dpr I t (256 * (i 0).val + (i 2).val) : ℝ) : EReal)) (em14 t y)).symm
  · have h0 : (i 0).val < 4 := (i 0).isLt
    have h1 : (i 1).val < 256 := (i 1).isLt
    have h2 : (i 2).val < 256 := (i 2).isLt
    let t : Fin cfg0.N := ⟨(i 0).val, h0⟩
    refine ⟨t, flush0_14 t, ?_⟩
    have e := em14 t (ix3 ⟨0, by decide⟩ ⟨(i 1).val, h1⟩ ⟨(i 2).val, h2⟩)
    have e2 : i = ((cfg0.win 14).blk t).view.emb (ix3 ⟨0, by decide⟩ ⟨(i 1).val, h1⟩ ⟨(i 2).val, h2⟩) := by
      rw [e]
      funext a
      match a with
      | ⟨0, _⟩ => rfl
      | ⟨1, _⟩ => rfl
      | ⟨2, _⟩ => rfl
    rw [e2]
    exact View.emb_mem_set _ _

theorem arr15 : (dats m 0 c).arrAt 15 cfg0.N = (fun i : S4x256x256.Idx => ((∑ t ∈ range 2048, xl I t (256 * (i 0).val + (i 1).val) * dpi I t (256 * (i 0).val + (i 2).val) : ℝ) : EReal)) := by
  refine Dat.arrAt_eq_of_cover (dats m 0 c) 15 (fun i : S4x256x256.Idx => ((∑ t ∈ range 2048, xl I t (256 * (i 0).val + (i 1).val) * dpi I t (256 * (i 0).val + (i 2).val) : ℝ) : EReal)) (fun t _ => ?_) (fun i => ?_)
  · have e : (dats m 0 c).flushed 15 t = fun y => (dats m 0 c).after 15 t y := rfl
    rw [e, after0_15 m c t]
    funext y
    refine (out16_eq (tp_at m c H t) y).trans ?_
    exact (congrArg (fun i : S4x256x256.Idx => ((∑ t ∈ range 2048, xl I t (256 * (i 0).val + (i 1).val) * dpi I t (256 * (i 0).val + (i 2).val) : ℝ) : EReal)) (em15 t y)).symm
  · have h0 : (i 0).val < 4 := (i 0).isLt
    have h1 : (i 1).val < 256 := (i 1).isLt
    have h2 : (i 2).val < 256 := (i 2).isLt
    let t : Fin cfg0.N := ⟨(i 0).val, h0⟩
    refine ⟨t, flush0_15 t, ?_⟩
    have e := em15 t (ix3 ⟨0, by decide⟩ ⟨(i 1).val, h1⟩ ⟨(i 2).val, h2⟩)
    have e2 : i = ((cfg0.win 15).blk t).view.emb (ix3 ⟨0, by decide⟩ ⟨(i 1).val, h1⟩ ⟨(i 2).val, h2⟩) := by
      rw [e]
      funext a
      match a with
      | ⟨0, _⟩ => rfl
      | ⟨1, _⟩ => rfl
      | ⟨2, _⟩ => rfl
    rw [e2]
    exact View.emb_mem_set _ _

end Cert.KernelIdeal.Hand
-- ==== Proof.KD.lean ====
module

public import proofs.«01_k».proof.Proof.KP2

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window Dat)
open Finset (range mem_range sum_congr)
open Cert Lru

/-! The host lines after the call. -/

/-- One head of the four of each block. -/
theorem head4 (D : FVec Ideal S4x256x256 .f32) {f : ℕ → ℕ → ℕ → ℝ}
    (hD : ∀ i, D i = ((f (i 0).val (i 1).val (i 2).val : ℝ) : EReal)) (o : ℕ) (ho : o ≤ 192)
    (h1 : S4x256x256.Slices ![0, o, o] S4x64x64) (h2 : S4x64x64.BroadcastsInDim S4x1x64x64 ![0, 2, 3]) (i : S4x1x64x64.Idx) :
    broadcastInDim S4x1x64x64 ![0, 2, 3] h2 (extractStridedSlice S4x64x64 ![0, o, o] D h1) i
      = ((f (i 0).val (o + (i 2).val) (o + (i 3).val) : ℝ) : EReal) := by
  have l0 : (i 0).val < 4 := (i 0).isLt
  have l2 : (i 2).val < 64 := (i 2).isLt
  have l3 : (i 3).val < 64 := (i 3).isLt
  refine (broadcastInDim_apply _ h2 _ i (ix3 ⟨(i 0).val, l0⟩ ⟨(i 2).val, l2⟩ ⟨(i 3).val, l3⟩) (fun a => match a with
    | ⟨0, _⟩ => rfl
    | ⟨1, _⟩ => rfl
    | ⟨2, _⟩ => rfl)).trans ?_
  exact (extractStridedSlice_apply ![0, o, o] D h1 _ (ix3 ⟨(i 0).val, l0⟩ ⟨o + (i 2).val, by omega⟩ ⟨o + (i 3).val, by omega⟩) (fun a => match a with
    | ⟨0, _⟩ => by show (i 0).val = 0 + (i 0).val; omega
    | ⟨1, _⟩ => by show o + (i 2).val = o + (i 2).val; omega
    | ⟨2, _⟩ => by show o + (i 3).val = o + (i 3).val; omega)).trans (hD _)

theorem cat_heads (a : Fin 4 → FVec Ideal S4x1x64x64 .f32) (hc) (j : S4x4x64x64.Idx) (n : Fin 4) (hn : (j 1).val / 1 = n.val) :
    concatenate S4x4x64x64 1 [⟨S4x1x64x64, a 0⟩, ⟨S4x1x64x64, a 1⟩, ⟨S4x1x64x64, a 2⟩, ⟨S4x1x64x64, a 3⟩] hc j
      = a n (ix4 (j 0) ⟨(j 1).val % 1, Nat.mod_lt _ (by decide)⟩ (j 2) (j 3)) :=
  concatenate_ofFn_apply (t := S4x4x64x64) (s₁ := S4x1x64x64) 1 a hc rfl 1 rfl j n hn _ rfl
    (fun b => match b with
      | ⟨0, _⟩ => fun _ => rfl
      | ⟨1, _⟩ => fun h => absurd rfl h
      | ⟨2, _⟩ => fun _ => rfl
      | ⟨3, _⟩ => fun _ => rfl)

/-- The heads' matrices out of the blocks' diagonals. -/
theorem unblock (p : Fin 4 → FVec Ideal S4x1x64x64 .f32) {f : ℕ → ℕ → ℕ → ℝ}
    (hp : ∀ n : Fin 4, ∀ i, p n i = ((f (i 0).val (64 * n.val + (i 2).val) (64 * n.val + (i 3).val) : ℝ) : EReal))
    (hc) (hr : S4x4x64x64.ShapeCasts S16x64x64) (i : S16x64x64.Idx) :
    shapeCast S16x64x64 (concatenate S4x4x64x64 1 [⟨S4x1x64x64, p 0⟩, ⟨S4x1x64x64, p 1⟩, ⟨S4x1x64x64, p 2⟩, ⟨S4x1x64x64, p 3⟩] hc) hr i
      = ((f ((i 0).val / 4) (64 * ((i 0).val % 4) + (i 1).val) (64 * ((i 0).val % 4) + (i 2).val) : ℝ) : EReal) := by
  have l0 : (i 0).val < 16 := (i 0).isLt
  have l1 : (i 1).val < 64 := (i 1).isLt
  have l2 : (i 2).val < 64 := (i 2).isLt
  refine (shapeCast_apply _ hr i (ix4 ⟨(i 0).val / 4, by omega⟩ ⟨(i 0).val % 4, by omega⟩ ⟨(i 1).val, l1⟩ ⟨(i 2).val, l2⟩) ?_).trans ?_
  · rewrite [Shape.rowMajor_val_four, Shape.rowMajor_val_three]
    show (((i 0).val / 4 * 4 + (i 0).val % 4) * 64 + (i 1).val) * 64 + (i 2).val = ((i 0).val * 64 + (i 1).val) * 64 + (i 2).val
    omega
  exact (cat_heads p hc _ ⟨(i 0).val % 4, by omega⟩ (Nat.div_one _)).trans (hp _ _)

/-- The host lines after the call, in order. -/
abbrev postOps : List (HloOp τ sig (Elt Ideal)) := List.flatten [hostOps1]

/-- What they write, in order. -/
abbrev WP : List (Ref sig .tc) := [main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164]

theorem hP : postOps.map HloOp.writes = WP.map fun w => {Proc.devRef (τ := τ) .tc w} := rfl

variable (U : Valuation τ sig (Elt Ideal))

/-- What reference `r` holds after the last host line. -/
abbrev QP (r : Ref sig .tc) : r.ty.Contents (Elt Ideal) := StableHlo.after postOps U (Proc.devRef .tc r)

theorem p_v137_0 : QP U main_v137_0 = U (Proc.devRef .tc main_v137_0) := StableHlo.after_unwritten WP hP (by decide) U
theorem p_v137_1 : QP U main_v137_1 = U (Proc.devRef .tc main_v137_1) := StableHlo.after_unwritten WP hP (by decide) U
theorem p_v137_2 : QP U main_v137_2 = U (Proc.devRef .tc main_v137_2) := StableHlo.after_unwritten WP hP (by decide) U
theorem p_v137_3 : QP U main_v137_3 = U (Proc.devRef .tc main_v137_3) := StableHlo.after_unwritten WP hP (by decide) U
theorem p_v137_4 : QP U main_v137_4 = U (Proc.devRef .tc main_v137_4) := StableHlo.after_unwritten WP hP (by decide) U

section
variable {U} {D : FVec Ideal S8x1024 .f32} {f : ℕ → ℕ → ℝ} (h : U (Proc.devRef .tc main_v137_2) = D)
  (hD : ∀ i, D i = ((f (i 0).val (i 1).val : ℝ) : EReal))
include h hD

theorem q_v138 (i : S4x1024.Idx) : QP U main_v138 i = ((f (i 0).val (i 1).val : ℝ) : EReal) := by
  have l0 : (i 0).val < 4 := (i 0).isLt
  have l1 : (i 1).val < 1024 := (i 1).isLt
  have e := ssa_unary (y := main_v138) (a0 := main_v137_2) hP U 0 rfl (by decide) (by decide) ((p_v137_2 U).trans h)
  refine (congrFun e i).trans ((extractStridedSlice_apply ![0, 0] D slices_S8x1024_S4x1024_0_0 i (ix2 ⟨(i 0).val, by omega⟩ ⟨(i 1).val, l1⟩) (fun a => match a with
    | ⟨0, _⟩ => by show (i 0).val = 0 + (i 0).val; omega
    | ⟨1, _⟩ => by show (i 1).val = 0 + (i 1).val; omega)).trans (hD _))

theorem q_v139 (i : S1x1024.Idx) : QP U main_v139 i = ((f 4 (i 1).val : ℝ) : EReal) := by
  have l0 : (i 0).val < 1 := (i 0).isLt
  have l1 : (i 1).val < 1024 := (i 1).isLt
  have e := ssa_unary (y := main_v139) (a0 := main_v137_2) hP U 1 rfl (by decide) (by decide) ((p_v137_2 U).trans h)
  refine (congrFun e i).trans ((extractStridedSlice_apply ![4, 0] D slices_S8x1024_S1x1024_4_0 i (ix2 ⟨4, by omega⟩ ⟨(i 1).val, l1⟩) (fun a => match a with
    | ⟨0, _⟩ => by show 4 = 4 + (i 0).val; omega
    | ⟨1, _⟩ => by show (i 1).val = 0 + (i 1).val; omega)).trans (hD _))

theorem q_v164 (i : S1x1024.Idx) : QP U main_v164 i = ((f 7 (i 1).val : ℝ) : EReal) := by
  have l0 : (i 0).val < 1 := (i 0).isLt
  have l1 : (i 1).val < 1024 := (i 1).isLt
  have e := ssa_unary (y := main_v164) (a0 := main_v137_2) hP U 26 rfl (by decide) (by decide) ((p_v137_2 U).trans h)
  refine (congrFun e i).trans ((extractStridedSlice_apply ![7, 0] D slices_S8x1024_S1x1024_7_0 i (ix2 ⟨7, by omega⟩ ⟨(i 1).val, l1⟩) (fun a => match a with
    | ⟨0, _⟩ => by show 7 = 7 + (i 0).val; omega
    | ⟨1, _⟩ => by show (i 1).val = 0 + (i 1).val; omega)).trans (hD _))

theorem q_v151 (i : S16x64.Idx) : QP U main_v151 i = ((f 5 ((i 0).val * 64 + (i 1).val) : ℝ) : EReal) := by
  have l0 : (i 0).val < 16 := (i 0).isLt
  have l1 : (i 1).val < 64 := (i 1).isLt
  have e1 := ssa_unary (y := main_v150) (a0 := main_v137_2) hP U 12 rfl (by decide) (by decide) ((p_v137_2 U).trans h)
  have e : QP U main_v151 = shapeCast S16x64 (extractStridedSlice S1x1024 ![5, 0] D slices_S8x1024_S1x1024_5_0) shapeCasts_S1x1024_S16x64 :=
    ssa_reshape (y := main_v151) (a0 := main_v150) hP U 13 rfl (by decide) (by decide) e1
  refine (congrFun e i).trans ((shapeCast_apply _ _ _ (ix2 ⟨0, by decide⟩ ⟨(i 0).val * 64 + (i 1).val, by omega⟩) ?_).trans ?_)
  · rewrite [Shape.rowMajor_val_two, Shape.rowMajor_val_two]
    show 0 * 1024 + ((i 0).val * 64 + (i 1).val) = (i 0).val * 64 + (i 1).val
    omega
  exact (extractStridedSlice_apply ![5, 0] D slices_S8x1024_S1x1024_5_0 _ (ix2 ⟨5, by omega⟩ ⟨(i 0).val * 64 + (i 1).val, by omega⟩) (fun a => match a with
    | ⟨0, _⟩ => by show 5 = 5 + 0; omega
    | ⟨1, _⟩ => by show (i 0).val * 64 + (i 1).val = 0 + ((i 0).val * 64 + (i 1).val); omega)).trans (hD _)

theorem q_v163 (i : S16x64.Idx) : QP U main_v163 i = ((f 6 ((i 0).val * 64 + (i 1).val) : ℝ) : EReal) := by
  have l0 : (i 0).val < 16 := (i 0).isLt
  have l1 : (i 1).val < 64 := (i 1).isLt
  have e1 := ssa_unary (y := main_v162) (a0 := main_v137_2) hP U 24 rfl (by decide) (by decide) ((p_v137_2 U).trans h)
  have e : QP U main_v163 = shapeCast S16x64 (extractStridedSlice S1x1024 ![6, 0] D slices_S8x1024_S1x1024_6_0) shapeCasts_S1x1024_S16x64 :=
    ssa_reshape (y := main_v163) (a0 := main_v162) hP U 25 rfl (by decide) (by decide) e1
  refine (congrFun e i).trans ((shapeCast_apply _ _ _ (ix2 ⟨0, by decide⟩ ⟨(i 0).val * 64 + (i 1).val, by omega⟩) ?_).trans ?_)
  · rewrite [Shape.rowMajor_val_two, Shape.rowMajor_val_two]
    show 0 * 1024 + ((i 0).val * 64 + (i 1).val) = (i 0).val * 64 + (i 1).val
    omega
  exact (extractStridedSlice_apply ![6, 0] D slices_S8x1024_S1x1024_6_0 _ (ix2 ⟨6, by omega⟩ ⟨(i 0).val * 64 + (i 1).val, by omega⟩) (fun a => match a with
    | ⟨0, _⟩ => by show 6 = 6 + 0; omega
    | ⟨1, _⟩ => by show (i 0).val * 64 + (i 1).val = 0 + ((i 0).val * 64 + (i 1).val); omega)).trans (hD _)

end

theorem q_v149 {U} {D : FVec Ideal S4x256x256 .f32} {f : ℕ → ℕ → ℕ → ℝ} (h : U (Proc.devRef .tc main_v137_3) = D)
    (hD : ∀ i, D i = ((f (i 0).val (i 1).val (i 2).val : ℝ) : EReal)) (i : S16x64x64.Idx) :
    QP U main_v149 i = ((f ((i 0).val / 4) (64 * ((i 0).val % 4) + (i 1).val) (64 * ((i 0).val % 4) + (i 2).val) : ℝ) : EReal) := by
  have s0 := ssa_unary (y := main_v140) (a0 := main_v137_3) hP U 2 rfl (by decide) (by decide) ((p_v137_3 U).trans h)
  have b0 : QP U main_v144 = broadcastInDim S4x1x64x64 ![0, 2, 3] bcast_S4x64x64_S4x1x64x64_0_2_3 (extractStridedSlice S4x64x64 ![0, 0, 0] D slices_S4x256x256_S4x64x64_0_0_0) := ssa_unary (y := main_v144) (a0 := main_v140) hP U 6 rfl (by decide) (by decide) s0
  have h0 := head4 D hD 0 (by decide) slices_S4x256x256_S4x64x64_0_0_0 bcast_S4x64x64_S4x1x64x64_0_2_3
  generalize broadcastInDim S4x1x64x64 ![0, 2, 3] bcast_S4x64x64_S4x1x64x64_0_2_3 (extractStridedSlice S4x64x64 ![0, 0, 0] D slices_S4x256x256_S4x64x64_0_0_0) = q0 at b0 h0
  have s1 := ssa_unary (y := main_v141) (a0 := main_v137_3) hP U 3 rfl (by decide) (by decide) ((p_v137_3 U).trans h)
  have b1 : QP U main_v145 = broadcastInDim S4x1x64x64 ![0, 2, 3] bcast_S4x64x64_S4x1x64x64_0_2_3 (extractStridedSlice S4x64x64 ![0, 64, 64] D slices_S4x256x256_S4x64x64_0_64_64) := ssa_unary (y := main_v145) (a0 := main_v141) hP U 7 rfl (by decide) (by decide) s1
  have h1 := head4 D hD 64 (by decide) slices_S4x256x256_S4x64x64_0_64_64 bcast_S4x64x64_S4x1x64x64_0_2_3
  generalize broadcastInDim S4x1x64x64 ![0, 2, 3] bcast_S4x64x64_S4x1x64x64_0_2_3 (extractStridedSlice S4x64x64 ![0, 64, 64] D slices_S4x256x256_S4x64x64_0_64_64) = q1 at b1 h1
  have s2 := ssa_unary (y := main_v142) (a0 := main_v137_3) hP U 4 rfl (by decide) (by decide) ((p_v137_3 U).trans h)
  have b2 : QP U main_v146 = broadcastInDim S4x1x64x64 ![0, 2, 3] bcast_S4x64x64_S4x1x64x64_0_2_3 (extractStridedSlice S4x64x64 ![0, 128, 128] D slices_S4x256x256_S4x64x64_0_128_128) := ssa_unary (y := main_v146) (a0 := main_v142) hP U 8 rfl (by decide) (by decide) s2
  have h2 := head4 D hD 128 (by decide) slices_S4x256x256_S4x64x64_0_128_128 bcast_S4x64x64_S4x1x64x64_0_2_3
  generalize broadcastInDim S4x1x64x64 ![0, 2, 3] bcast_S4x64x64_S4x1x64x64_0_2_3 (extractStridedSlice S4x64x64 ![0, 128, 128] D slices_S4x256x256_S4x64x64_0_128_128) = q2 at b2 h2
  have s3 := ssa_unary (y := main_v143) (a0 := main_v137_3) hP U 5 rfl (by decide) (by decide) ((p_v137_3 U).trans h)
  have b3 : QP U main_v147 = broadcastInDim S4x1x64x64 ![0, 2, 3] bcast_S4x64x64_S4x1x64x64_0_2_3 (extractStridedSlice S4x64x64 ![0, 192, 192] D slices_S4x256x256_S4x64x64_0_192_192) := ssa_unary (y := main_v147) (a0 := main_v143) hP U 9 rfl (by decide) (by decide) s3
  have h3 := head4 D hD 192 (by decide) slices_S4x256x256_S4x64x64_0_192_192 bcast_S4x64x64_S4x1x64x64_0_2_3
  generalize broadcastInDim S4x1x64x64 ![0, 2, 3] bcast_S4x64x64_S4x1x64x64_0_2_3 (extractStridedSlice S4x64x64 ![0, 192, 192] D slices_S4x256x256_S4x64x64_0_192_192) = q3 at b3 h3
  have e : QP U main_v148 = concatenate S4x4x64x64 1 [⟨S4x1x64x64, q0⟩, ⟨S4x1x64x64, q1⟩, ⟨S4x1x64x64, q2⟩, ⟨S4x1x64x64, q3⟩] concatenates_S4x1x64x64_S4x1x64x64_S4x1x64x64_S4x1x64x64_S4x4x64x64_d1 := ssa_nary4 (y := main_v148) (a0 := main_v144) (a1 := main_v145) (a2 := main_v146) (a3 := main_v147) hP U 10 rfl (by decide) (by decide) (by decide) (by decide) (by decide) b0 b1 b2 b3
  have d : QP U main_v149 = shapeCast S16x64x64 (concatenate S4x4x64x64 1 [⟨S4x1x64x64, q0⟩, ⟨S4x1x64x64, q1⟩, ⟨S4x1x64x64, q2⟩, ⟨S4x1x64x64, q3⟩] concatenates_S4x1x64x64_S4x1x64x64_S4x1x64x64_S4x1x64x64_S4x4x64x64_d1) shapeCasts_S4x4x64x64_S16x64x64 :=
    ssa_reshape (y := main_v149) (a0 := main_v148) hP U 11 rfl (by decide) (by decide) e
  refine (congrFun d i).trans ?_
  exact unblock ![q0, q1, q2, q3] (fun n => match n with
      | 0 => h0
      | 1 => h1
      | 2 => h2
      | 3 => h3) _ _ i

theorem q_v161 {U} {D : FVec Ideal S4x256x256 .f32} {f : ℕ → ℕ → ℕ → ℝ} (h : U (Proc.devRef .tc main_v137_4) = D)
    (hD : ∀ i, D i = ((f (i 0).val (i 1).val (i 2).val : ℝ) : EReal)) (i : S16x64x64.Idx) :
    QP U main_v161 i = ((f ((i 0).val / 4) (64 * ((i 0).val % 4) + (i 1).val) (64 * ((i 0).val % 4) + (i 2).val) : ℝ) : EReal) := by
  have s0 := ssa_unary (y := main_v152) (a0 := main_v137_4) hP U 14 rfl (by decide) (by decide) ((p_v137_4 U).trans h)
  have b0 : QP U main_v156 = broadcastInDim S4x1x64x64 ![0, 2, 3] bcast_S4x64x64_S4x1x64x64_0_2_3 (extractStridedSlice S4x64x64 ![0, 0, 0] D slices_S4x256x256_S4x64x64_0_0_0) := ssa_unary (y := main_v156) (a0 := main_v152) hP U 18 rfl (by decide) (by decide) s0
  have h0 := head4 D hD 0 (by decide) slices_S4x256x256_S4x64x64_0_0_0 bcast_S4x64x64_S4x1x64x64_0_2_3
  generalize broadcastInDim S4x1x64x64 ![0, 2, 3] bcast_S4x64x64_S4x1x64x64_0_2_3 (extractStridedSlice S4x64x64 ![0, 0, 0] D slices_S4x256x256_S4x64x64_0_0_0) = q0 at b0 h0
  have s1 := ssa_unary (y := main_v153) (a0 := main_v137_4) hP U 15 rfl (by decide) (by decide) ((p_v137_4 U).trans h)
  have b1 : QP U main_v157 = broadcastInDim S4x1x64x64 ![0, 2, 3] bcast_S4x64x64_S4x1x64x64_0_2_3 (extractStridedSlice S4x64x64 ![0, 64, 64] D slices_S4x256x256_S4x64x64_0_64_64) := ssa_unary (y := main_v157) (a0 := main_v153) hP U 19 rfl (by decide) (by decide) s1
  have h1 := head4 D hD 64 (by decide) slices_S4x256x256_S4x64x64_0_64_64 bcast_S4x64x64_S4x1x64x64_0_2_3
  generalize broadcastInDim S4x1x64x64 ![0, 2, 3] bcast_S4x64x64_S4x1x64x64_0_2_3 (extractStridedSlice S4x64x64 ![0, 64, 64] D slices_S4x256x256_S4x64x64_0_64_64) = q1 at b1 h1
  have s2 := ssa_unary (y := main_v154) (a0 := main_v137_4) hP U 16 rfl (by decide) (by decide) ((p_v137_4 U).trans h)
  have b2 : QP U main_v158 = broadcastInDim S4x1x64x64 ![0, 2, 3] bcast_S4x64x64_S4x1x64x64_0_2_3 (extractStridedSlice S4x64x64 ![0, 128, 128] D slices_S4x256x256_S4x64x64_0_128_128) := ssa_unary (y := main_v158) (a0 := main_v154) hP U 20 rfl (by decide) (by decide) s2
  have h2 := head4 D hD 128 (by decide) slices_S4x256x256_S4x64x64_0_128_128 bcast_S4x64x64_S4x1x64x64_0_2_3
  generalize broadcastInDim S4x1x64x64 ![0, 2, 3] bcast_S4x64x64_S4x1x64x64_0_2_3 (extractStridedSlice S4x64x64 ![0, 128, 128] D slices_S4x256x256_S4x64x64_0_128_128) = q2 at b2 h2
  have s3 := ssa_unary (y := main_v155) (a0 := main_v137_4) hP U 17 rfl (by decide) (by decide) ((p_v137_4 U).trans h)
  have b3 : QP U main_v159 = broadcastInDim S4x1x64x64 ![0, 2, 3] bcast_S4x64x64_S4x1x64x64_0_2_3 (extractStridedSlice S4x64x64 ![0, 192, 192] D slices_S4x256x256_S4x64x64_0_192_192) := ssa_unary (y := main_v159) (a0 := main_v155) hP U 21 rfl (by decide) (by decide) s3
  have h3 := head4 D hD 192 (by decide) slices_S4x256x256_S4x64x64_0_192_192 bcast_S4x64x64_S4x1x64x64_0_2_3
  generalize broadcastInDim S4x1x64x64 ![0, 2, 3] bcast_S4x64x64_S4x1x64x64_0_2_3 (extractStridedSlice S4x64x64 ![0, 192, 192] D slices_S4x256x256_S4x64x64_0_192_192) = q3 at b3 h3
  have e : QP U main_v160 = concatenate S4x4x64x64 1 [⟨S4x1x64x64, q0⟩, ⟨S4x1x64x64, q1⟩, ⟨S4x1x64x64, q2⟩, ⟨S4x1x64x64, q3⟩] concatenates_S4x1x64x64_S4x1x64x64_S4x1x64x64_S4x1x64x64_S4x4x64x64_d1 := ssa_nary4 (y := main_v160) (a0 := main_v156) (a1 := main_v157) (a2 := main_v158) (a3 := main_v159) hP U 22 rfl (by decide) (by decide) (by decide) (by decide) (by decide) b0 b1 b2 b3
  have d : QP U main_v161 = shapeCast S16x64x64 (concatenate S4x4x64x64 1 [⟨S4x1x64x64, q0⟩, ⟨S4x1x64x64, q1⟩, ⟨S4x1x64x64, q2⟩, ⟨S4x1x64x64, q3⟩] concatenates_S4x1x64x64_S4x1x64x64_S4x1x64x64_S4x1x64x64_S4x4x64x64_d1) shapeCasts_S4x4x64x64_S16x64x64 :=
    ssa_reshape (y := main_v161) (a0 := main_v160) hP U 23 rfl (by decide) (by decide) e
  refine (congrFun d i).trans ?_
  exact unblock ![q0, q1, q2, q3] (fun n => match n with
      | 0 => h0
      | 1 => h1
      | 2 => h2
      | 3 => h3) _ _ i

end Cert.KernelIdeal.Hand
-- ==== Proof.KE.lean ====
module

public import proofs.«01_k».proof.Proof.KC
public import proofs.«01_k».proof.Proof.KD

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window Dat)
open Finset (range mem_range sum_congr)
open Cert Lru

/-! The kernel's nine results as real numbers. -/

variable (m : (ℓ : Loc nD τ sig) → Buf (Elt Ideal) ℓ) (ρ : Dev nD → PrngReg)

/-- The buffers after the call. -/
def Uc (c : Dev nD) : Valuation τ sig (Elt Ideal) :=
  Pipeline.withArrays (cfgs 0).spec c (V0 m c) fun w => (dats m 0 c).arrAt w (cfgs 0).N

theorem Uc_arr (c : Dev nD) (w : Fin 16) : Uc m c (Proc.devRef .tc (Pipeline.arrRef spec0 w)) = (dats m 0 c).arrAt w cfg0.N :=
  Pipeline.withArrays_arr_shared spec0 c (V0 m c) (fun w => (dats m 0 c).arrAt w cfg0.N)
    ((dats m 0 c).arrAt_sharedIn sharedIn0 (V0 m c) (A_eq m c) cfg0.N) w

theorem block_dwa (I : Inp) (h k d : ℕ) : (∑ t ∈ range 2048, xl I t (256 * (h / 4) + (64 * (h % 4) + k)) * dpr I t (256 * (h / 4) + (64 * (h % 4) + d))) = dwa I h k d := by
  unfold dwa
  rw [show 256 * (h / 4) + (64 * (h % 4) + k) = h * 64 + k by omega, show 256 * (h / 4) + (64 * (h % 4) + d) = h * 64 + d by omega]
theorem block_dwx (I : Inp) (h k d : ℕ) : (∑ t ∈ range 2048, xl I t (256 * (h / 4) + (64 * (h % 4) + k)) * dpi I t (256 * (h / 4) + (64 * (h % 4) + d))) = dwx I h k d := by
  unfold dwx
  rw [show 256 * (h / 4) + (64 * (h % 4) + k) = h * 64 + k by omega, show 256 * (h / 4) + (64 * (h % 4) + d) = h * 64 + d by omega]

section
variable {I : Inp} (c : Dev nD) (H : HypV I (Vm m c))
include H

theorem U2 : Uc m c (Proc.devRef .tc main_v137_2) = (fun i : S8x1024.Idx => ((rowT I (i 0).val (i 1).val : ℝ) : EReal)) :=
  (Uc_arr m c 13).trans (arr13 m c H)
theorem U3 : Uc m c (Proc.devRef .tc main_v137_3) = (fun i : S4x256x256.Idx => ((∑ t ∈ range 2048, xl I t (256 * (i 0).val + (i 1).val) * dpr I t (256 * (i 0).val + (i 2).val) : ℝ) : EReal)) :=
  (Uc_arr m c 14).trans (arr14 m c H)
theorem U4 : Uc m c (Proc.devRef .tc main_v137_4) = (fun i : S4x256x256.Idx => ((∑ t ∈ range 2048, xl I t (256 * (i 0).val + (i 1).val) * dpi I t (256 * (i 0).val + (i 2).val) : ℝ) : EReal)) :=
  (Uc_arr m c 15).trans (arr15 m c H)

theorem z_v138 : QP (Uc m c) main_v138 = (fun i : S4x1024.Idx => ((dcw I (i 0).val (i 1).val : ℝ) : EReal)) := funext fun i =>
  (q_v138 (f := rowT I) (U2 m c H) (fun _ => rfl) i).trans (congrArg _ (by
    have l : (i 0).val < 4 := (i 0).isLt
    unfold rowT
    rw [if_pos l]))
theorem z_v139 : QP (Uc m c) main_v139 = (fun i : S1x1024.Idx => ((dcb I (i 1).val : ℝ) : EReal)) := funext fun i =>
  q_v139 (f := rowT I) (U2 m c H) (fun _ => rfl) i
theorem z_v149 : QP (Uc m c) main_v149 = (fun i : S16x64x64.Idx => ((dwa I (i 0).val (i 1).val (i 2).val : ℝ) : EReal)) := funext fun i =>
  (q_v149 (f := fun b p q => ∑ t ∈ range 2048, xl I t (256 * b + p) * dpr I t (256 * b + q)) (U3 m c H) (fun _ => rfl) i).trans
    (congrArg _ (block_dwa I _ _ _))
theorem z_v151 : QP (Uc m c) main_v151 = (fun i : S16x64.Idx => ((dba I ((i 0).val * 64 + (i 1).val) : ℝ) : EReal)) := funext fun i =>
  q_v151 (f := rowT I) (U2 m c H) (fun _ => rfl) i
theorem z_v161 : QP (Uc m c) main_v161 = (fun i : S16x64x64.Idx => ((dwx I (i 0).val (i 1).val (i 2).val : ℝ) : EReal)) := funext fun i =>
  (q_v161 (f := fun b p q => ∑ t ∈ range 2048, xl I t (256 * b + p) * dpi I t (256 * b + q)) (U4 m c H) (fun _ => rfl) i).trans
    (congrArg _ (block_dwx I _ _ _))
theorem z_v163 : QP (Uc m c) main_v163 = (fun i : S16x64.Idx => ((dbx I ((i 0).val * 64 + (i 1).val) : ℝ) : EReal)) := funext fun i =>
  q_v163 (f := rowT I) (U2 m c H) (fun _ => rfl) i
theorem z_v164 : QP (Uc m c) main_v164 = (fun i : S1x1024.Idx => ((dap I (i 1).val : ℝ) : EReal)) := funext fun i =>
  q_v164 (f := rowT I) (U2 m c H) (fun _ => rfl) i
end

/-- Every execution ends with the nine results at these real numbers. -/
theorem values (I : Dev nD → Inp) (H : ∀ c, HypV (I c) (Vm m c)) :
    θ_run defs (onTc (τ := τ) (main (F := Ideal))) ⟨m, fun _ => 0, ρ⟩ (fun r => ∀ c : Dev nD,
      r.2.mem ((c.tc : Thread nD τ).loc main_v137_0) = (fun i : S2048x1024.Idx => ((dx (I c) (i 0).val (i 1).val : ℝ) : EReal))
      ∧ r.2.mem ((c.tc : Thread nD τ).loc main_v137_1) = (fun i : S2048x1024.Idx => ((dg (I c) (i 0).val (i 1).val : ℝ) : EReal))
      ∧ r.2.mem ((c.tc : Thread nD τ).loc main_v138) = (fun i : S4x1024.Idx => ((dcw (I c) (i 0).val (i 1).val : ℝ) : EReal))
      ∧ r.2.mem ((c.tc : Thread nD τ).loc main_v139) = (fun i : S1x1024.Idx => ((dcb (I c) (i 1).val : ℝ) : EReal))
      ∧ r.2.mem ((c.tc : Thread nD τ).loc main_v149) = (fun i : S16x64x64.Idx => ((dwa (I c) (i 0).val (i 1).val (i 2).val : ℝ) : EReal))
      ∧ r.2.mem ((c.tc : Thread nD τ).loc main_v151) = (fun i : S16x64.Idx => ((dba (I c) ((i 0).val * 64 + (i 1).val) : ℝ) : EReal))
      ∧ r.2.mem ((c.tc : Thread nD τ).loc main_v161) = (fun i : S16x64x64.Idx => ((dwx (I c) (i 0).val (i 1).val (i 2).val : ℝ) : EReal))
      ∧ r.2.mem ((c.tc : Thread nD τ).loc main_v163) = (fun i : S16x64.Idx => ((dbx (I c) ((i 0).val * 64 + (i 1).val) : ℝ) : EReal))
      ∧ r.2.mem ((c.tc : Thread nD τ).loc main_v164) = (fun i : S1x1024.Idx => ((dap (I c) (i 1).val : ℝ) : EReal))) :=
  (θ_run defs _ _).mono (fun r h c => ⟨((h c).1 11).trans (arr11 m c (H c)), ((h c).1 12).trans (arr12 m c (H c)),
    ((h c).2 main_v138 (Pipeline.mem_restRefs_of main_v138 (by decide) (by decide))).trans (z_v138 m c (H c)),
    ((h c).2 main_v139 (Pipeline.mem_restRefs_of main_v139 (by decide) (by decide))).trans (z_v139 m c (H c)),
    ((h c).2 main_v149 (Pipeline.mem_restRefs_of main_v149 (by decide) (by decide))).trans (z_v149 m c (H c)),
    ((h c).2 main_v151 (Pipeline.mem_restRefs_of main_v151 (by decide) (by decide))).trans (z_v151 m c (H c)),
    ((h c).2 main_v161 (Pipeline.mem_restRefs_of main_v161 (by decide) (by decide))).trans (z_v161 m c (H c)),
    ((h c).2 main_v163 (Pipeline.mem_restRefs_of main_v163 (by decide) (by decide))).trans (z_v163 m c (H c)),
    ((h c).2 main_v164 (Pipeline.mem_restRefs_of main_v164 (by decide) (by decide))).trans (z_v164 m c (H c))⟩) (run_main m ρ)

end Cert.KernelIdeal.Hand
-- ==== Proof.RVal1.lean ====
module

public import proofs.«01_k».proof.Proof.RVal0

@[expose] public section

noncomputable section

open Idealize.ShloMosaic Cert.ReferenceIdeal Cert.ReferenceIdeal.Read Lru Cert

namespace R

/-! Each operation of the reference holds the real number of the same name. -/

variable {I : Inp} {x0 : (⟨S2048x5632, .f32⟩ : BufTy).Contents (Elt Ideal)} {x1 : (⟨S2048x2048, .f32⟩ : BufTy).Contents (Elt Ideal)}
  {x2 : (⟨S4x1024, .f32⟩ : BufTy).Contents (Elt Ideal)} {x3 : (⟨S1x1024, .f32⟩ : BufTy).Contents (Elt Ideal)}
  {x4 : (⟨S16x64x64, .f32⟩ : BufTy).Contents (Elt Ideal)} {x5 : (⟨S16x64, .f32⟩ : BufTy).Contents (Elt Ideal)}
  {x6 : (⟨S16x64x64, .f32⟩ : BufTy).Contents (Elt Ideal)} {x7 : (⟨S16x64, .f32⟩ : BufTy).Contents (Elt Ideal)}
  {x8 : (⟨S1x1024, .f32⟩ : BufTy).Contents (Elt Ideal)} (H : Hyp I x0 x1 x2 x3 x4 x5 x6 x7 x8)

include H

theorem L_main_v157 (i : S2048x1024.Idx) : val_main_v157 (F := Ideal) x0 x1 x2 x3 x4 x5 x6 x7 x8 i = ((v157 I (i 0).val (i 1).val : ℝ) : EReal) :=
  (val_main_v157_apply x0 x1 x2 x3 x4 x5 x6 x7 x8 i).trans (Up.neg (L_main_v156 H i))
theorem L_main_v158 (i : S2048x1024.Idx) : val_main_v158 (F := Ideal) x0 x1 x2 x3 x4 x5 x6 x7 x8 i = ((v158 I (i 0).val (i 1).val : ℝ) : EReal) :=
  (val_main_v158_apply x0 x1 x2 x3 x4 x5 x6 x7 x8 i).trans (Up.mul (L_main_v157 H i) (L_main_v98 H i))
theorem L_main_cst_27 (i : S_.Idx) : val_main_cst_27 (F := Ideal) i = ((2 : ℝ) : EReal) :=
  Up.c2
theorem L_main_v159 (i : S2048x1024.Idx) : val_main_v159 (F := Ideal) i = ((v159 I (i 0).val (i 1).val : ℝ) : EReal) :=
  (val_main_v159_apply i).trans (L_main_cst_27 H (idx_main_v159 i))
theorem L_main_v160 (i : S2048x1024.Idx) : val_main_v160 (F := Ideal) x0 x1 x2 x3 x4 x5 x6 x7 x8 i = ((v160 I (i 0).val (i 1).val : ℝ) : EReal) :=
  (val_main_v160_apply x0 x1 x2 x3 x4 x5 x6 x7 x8 i).trans (Up.mul (L_main_v159 H i) (L_main_v158 H i))
theorem L_main_v161 (i : S2048x1024.Idx) : val_main_v161 (F := Ideal) x0 x1 x2 x3 x4 x5 x6 x7 x8 i = ((dla I ((i 0).val) ((i 1).val) : ℝ) : EReal) :=
  ((val_main_v161_apply x0 x1 x2 x3 x4 x5 x6 x7 x8 i).trans (Up.add (L_main_v150 H i) (L_main_v160 H i))).trans (congrArg Real.toEReal (ck_v161 I (i 0).val (i 1).val))
theorem L_main_v162 (i : S2048x1024.Idx) : val_main_v162 (F := Ideal) x0 x1 x2 x3 x4 x5 x6 x7 x8 i = ((v162 I (i 0).val (i 1).val : ℝ) : EReal) :=
  (val_main_v162_apply x0 x1 x2 x3 x4 x5 x6 x7 x8 i).trans (Up.mul (L_main_v90 H i) (L_main_v161 H i))
theorem L_main_cst_28 (i : S_.Idx) : val_main_cst_28 (F := Ideal) i = ((0 : ℝ) : EReal) :=
  Up.c0
theorem L_main_v163 (i : S1024.Idx) : val_main_v163 (F := Ideal) x0 x1 x2 x3 x4 x5 x6 x7 x8 i = ((v163 I (i 0).val : ℝ) : EReal) :=
  (val_main_v163_apply x0 x1 x2 x3 x4 x5 x6 x7 x8 i).trans (Up.red (fun k => (v162 I k ((i 0).val))) _ (L_main_cst_28 H _) (fun k => (L_main_v162 H (idx_main_v163 i k))))
theorem L_main_v164 (i : S1x1024.Idx) : val_main_v164 (F := Ideal) x0 x1 x2 x3 x4 x5 x6 x7 x8 i = ((v164 I (i 0).val (i 1).val : ℝ) : EReal) :=
  (val_main_v164_apply x0 x1 x2 x3 x4 x5 x6 x7 x8 i).trans ((L_main_v163 H (idx_main_v164 i)).trans (congrArg Real.toEReal (by have h0 : (i 0).val < 1 := (i 0).isLt; have h1 : (i 1).val < 1024 := (i 1).isLt; have e0 : (i 0).val * 1024 + (i 1).val = (i 1).val := (by omega); exact congrArg (fun (z0 : ℕ) => (v163 I z0)) e0)))
theorem L_main_v165 (i : S2048x1024.Idx) : val_main_v165 (F := Ideal) x8 i = ((v165 I (i 0).val (i 1).val : ℝ) : EReal) :=
  (val_main_v165_apply x8 i).trans (L_main_v92_0 H (idx_main_v165 i))
theorem L_main_v166 (i : S2048x1024.Idx) : val_main_v166 (F := Ideal) x0 x1 x2 x3 x4 x5 x6 x7 x8 i = ((v166 I (i 0).val (i 1).val : ℝ) : EReal) :=
  (val_main_v166_apply x0 x1 x2 x3 x4 x5 x6 x7 x8 i).trans (Up.mul (L_main_v161 H i) (L_main_v165 H i))
theorem L_main_v167 (i : S1x1024.Idx) : val_main_v167 (F := Ideal) x0 x1 x2 x3 x4 x5 x6 x7 x8 i = ((v167 I (i 0).val (i 1).val : ℝ) : EReal) :=
  (val_main_v167_apply x0 x1 x2 x3 x4 x5 x6 x7 x8 i).trans (Up.mul (L_main_v164 H i) (L_main_v92_1 H i))
theorem L_main_v168 (i : S1x1024.Idx) : val_main_v168 (F := Ideal) x0 x1 x2 x3 x4 x5 x6 x7 x8 i = ((dap I ((i 1).val) : ℝ) : EReal) :=
  ((val_main_v168_apply x0 x1 x2 x3 x4 x5 x6 x7 x8 i).trans (Up.neg (L_main_v167 H i))).trans (congrArg Real.toEReal (ck_v168 I (i 0).val (i 1).val))
theorem L_main_cst_29 (i : S_.Idx) : val_main_cst_29 (F := Ideal) i = ((-8 : ℝ) : EReal) :=
  Up.cm8
theorem L_main_v169 (i : S2048x1024.Idx) : val_main_v169 (F := Ideal) i = ((v169 I (i 0).val (i 1).val : ℝ) : EReal) :=
  (val_main_v169_apply i).trans (L_main_cst_29 H (idx_main_v169 i))
theorem L_main_v170 (i : S2048x1024.Idx) : val_main_v170 (F := Ideal) x0 x1 x2 x3 x4 x5 x6 x7 x8 i = ((v170 I (i 0).val (i 1).val : ℝ) : EReal) :=
  (val_main_v170_apply x0 x1 x2 x3 x4 x5 x6 x7 x8 i).trans (Up.mul (L_main_v169 H i) (L_main_v166 H i))
theorem L_main_v171 (i : S2048x16x64.Idx) : val_main_v171 (F := Ideal) x0 x1 x2 x3 x4 x5 x8 i = ((v171 I (i 0).val (i 1).val (i 2).val : ℝ) : EReal) :=
  (val_main_v171_apply x0 x1 x2 x3 x4 x5 x8 i).trans ((L_main_v153 H (idx_main_v171 i)).trans (congrArg Real.toEReal (by have h0 : (i 0).val < 2048 := (i 0).isLt; have h1 : (i 1).val < 16 := (i 1).isLt; have h2 : (i 2).val < 64 := (i 2).isLt; have e0 : (((i 0).val * 16 + (i 1).val) * 64 + (i 2).val) / 1024 = (i 0).val := (by omega); have e1 : (((i 0).val * 16 + (i 1).val) * 64 + (i 2).val) % 1024 = (i 1).val * 64 + (i 2).val := (by omega); exact congrArg₂ (fun (z0 : ℕ) (z1 : ℕ) => (v153 I z0 z1)) e0 e1)))
theorem L_main_v172 (i : S2048x16x64.Idx) : val_main_v172 (F := Ideal) x0 x1 x2 x3 x4 x5 x6 x7 x8 i = ((v172 I (i 0).val (i 1).val (i 2).val : ℝ) : EReal) :=
  (val_main_v172_apply x0 x1 x2 x3 x4 x5 x6 x7 x8 i).trans ((L_main_v170 H (idx_main_v172 i)).trans (congrArg Real.toEReal (by have h0 : (i 0).val < 2048 := (i 0).isLt; have h1 : (i 1).val < 16 := (i 1).isLt; have h2 : (i 2).val < 64 := (i 2).isLt; have e0 : (((i 0).val * 16 + (i 1).val) * 64 + (i 2).val) / 1024 = (i 0).val := (by omega); have e1 : (((i 0).val * 16 + (i 1).val) * 64 + (i 2).val) % 1024 = (i 1).val * 64 + (i 2).val := (by omega); exact congrArg₂ (fun (z0 : ℕ) (z1 : ℕ) => (v170 I z0 z1)) e0 e1)))
theorem L_main_v173 (i : S2048x16x64.Idx) : val_main_v173 (F := Ideal) x0 x1 x2 x3 x4 x5 x6 x7 x8 i = ((dpi I ((i 0).val) (((i 1).val) * 64 + ((i 2).val)) : ℝ) : EReal) :=
  ((val_main_v173_apply x0 x1 x2 x3 x4 x5 x6 x7 x8 i).trans (Up.mul (L_main_v171 H i) (L_main_v86 H i))).trans (congrArg Real.toEReal (ck_v173 I (i 0).val (i 1).val (i 2).val (i 2).isLt))
theorem L_main_cst_30 (i : S_.Idx) : val_main_cst_30 (F := Ideal) i = ((0 : ℝ) : EReal) :=
  Up.c0
theorem L_main_v174 (i : S16x64.Idx) : val_main_v174 (F := Ideal) x0 x1 x2 x3 x4 x5 x6 x7 x8 i = ((v174 I (i 0).val (i 1).val : ℝ) : EReal) :=
  (val_main_v174_apply x0 x1 x2 x3 x4 x5 x6 x7 x8 i).trans (Up.red (fun k => dpi I k (((i 0).val) * 64 + ((i 1).val))) _ (L_main_cst_30 H _) (fun k => (L_main_v173 H (idx_main_v174 i k))))
theorem L_main_v175 (i : S1x16x64.Idx) : val_main_v175 (F := Ideal) x0 x1 x2 x3 x4 x5 x6 x7 x8 i = ((v175 I (i 0).val (i 1).val (i 2).val : ℝ) : EReal) :=
  (val_main_v175_apply x0 x1 x2 x3 x4 x5 x6 x7 x8 i).trans ((L_main_v174 H (idx_main_v175 i)).trans (congrArg Real.toEReal (by have h0 : (i 0).val < 1 := (i 0).isLt; have h1 : (i 1).val < 16 := (i 1).isLt; have h2 : (i 2).val < 64 := (i 2).isLt; have e0 : (((i 0).val * 16 + (i 1).val) * 64 + (i 2).val) / 64 = (i 1).val := (by omega); have e1 : (((i 0).val * 16 + (i 1).val) * 64 + (i 2).val) % 64 = (i 2).val := (by omega); exact congrArg₂ (fun (z0 : ℕ) (z1 : ℕ) => (v174 I z0 z1)) e0 e1)))
theorem L_main_cst_31 (i : S_.Idx) : val_main_cst_31 (F := Ideal) i = ((0 : ℝ) : EReal) :=
  Up.c0
theorem L_main_v176 (i : S16x64.Idx) : val_main_v176 (F := Ideal) x0 x1 x2 x3 x4 x5 x6 x7 x8 i = ((dbx I (((i 0).val) * 64 + ((i 1).val)) : ℝ) : EReal) :=
  ((val_main_v176_apply x0 x1 x2 x3 x4 x5 x6 x7 x8 i).trans (Up.red (fun k => (v175 I k ((i 0).val) ((i 1).val))) _ (L_main_cst_31 H _) (fun k => (L_main_v175 H (idx_main_v176 i k))))).trans (congrArg Real.toEReal (ck_v176 I (i 0).val (i 1).val))
theorem L_main_v177 (i : S16x64x2048.Idx) : val_main_v177 (F := Ideal) x0 x1 x2 x3 x4 x5 x6 x7 x8 i = ((v177 I (i 0).val (i 1).val (i 2).val : ℝ) : EReal) :=
  (val_main_v177_apply x0 x1 x2 x3 x4 x5 x6 x7 x8 i).trans (L_main_v173 H (idx_main_v177 i))
theorem L_main_v178 (i : S16x2048x64.Idx) : val_main_v178 (F := Ideal) x0 x1 x2 x3 x4 x5 x6 x7 x8 i = ((v178 I (i 0).val (i 1).val (i 2).val : ℝ) : EReal) :=
  (val_main_v178_apply x0 x1 x2 x3 x4 x5 x6 x7 x8 i).trans (Up.sum_mul_coe (fun k => (v177 I ((i 0).val) k ((i 1).val))) (fun k => I.WX ((i 0).val) ((i 2).val) k) _ _ (fun k => (L_main_v177 H (lidx_main_v178 i k))) (fun k => (H.x6 (ridx_main_v178 i k))))
theorem L_main_v179 (i : S2048x16x64.Idx) : val_main_v179 (F := Ideal) x0 x1 x2 x3 x4 x5 x6 x7 x8 i = ((v179 I (i 0).val (i 1).val (i 2).val : ℝ) : EReal) :=
  (val_main_v179_apply x0 x1 x2 x3 x4 x5 x6 x7 x8 i).trans (L_main_v178 H (idx_main_v179 i))
theorem L_main_v180 (i : S16x64x64.Idx) : val_main_v180 (F := Ideal) x0 x1 x2 x3 x4 x5 x6 x7 x8 i = ((v180 I (i 0).val (i 1).val (i 2).val : ℝ) : EReal) :=
  (val_main_v180_apply x0 x1 x2 x3 x4 x5 x6 x7 x8 i).trans (Up.sum_mul_coe (fun k => (v177 I ((i 0).val) ((i 1).val) k)) (fun k => (v58 I k ((i 0).val) ((i 2).val))) _ _ (fun k => (L_main_v177 H (lidx_main_v180 i k))) (fun k => (L_main_v58 H (ridx_main_v180 i k))))
theorem L_main_v181 (i : S16x64x64.Idx) : val_main_v181 (F := Ideal) x0 x1 x2 x3 x4 x5 x6 x7 x8 i = ((dwx I ((i 0).val) ((i 1).val) ((i 2).val) : ℝ) : EReal) :=
  ((val_main_v181_apply x0 x1 x2 x3 x4 x5 x6 x7 x8 i).trans (L_main_v180 H (idx_main_v181 i))).trans (congrArg Real.toEReal (ck_v181 I (i 0).val (i 1).val (i 2).val))
theorem L_main_v182 (i : S2048x16x64.Idx) : val_main_v182 (F := Ideal) x0 x1 x2 x3 x4 x5 x6 x7 x8 i = ((dpr I ((i 0).val) (((i 1).val) * 64 + ((i 2).val)) : ℝ) : EReal) :=
  ((val_main_v182_apply x0 x1 x2 x3 x4 x5 x6 x7 x8 i).trans (Up.mul (L_main_v172 H i) (L_main_v72 H i))).trans (congrArg Real.toEReal (ck_v182 I (i 0).val (i 1).val (i 2).val (i 2).isLt))
theorem L_main_cst_32 (i : S_.Idx) : val_main_cst_32 (F := Ideal) i = ((0 : ℝ) : EReal) :=
  Up.c0
theorem L_main_v183 (i : S16x64.Idx) : val_main_v183 (F := Ideal) x0 x1 x2 x3 x4 x5 x6 x7 x8 i = ((v183 I (i 0).val (i 1).val : ℝ) : EReal) :=
  (val_main_v183_apply x0 x1 x2 x3 x4 x5 x6 x7 x8 i).trans (Up.red (fun k => dpr I k (((i 0).val) * 64 + ((i 1).val))) _ (L_main_cst_32 H _) (fun k => (L_main_v182 H (idx_main_v183 i k))))
theorem L_main_v184 (i : S1x16x64.Idx) : val_main_v184 (F := Ideal) x0 x1 x2 x3 x4 x5 x6 x7 x8 i = ((v184 I (i 0).val (i 1).val (i 2).val : ℝ) : EReal) :=
  (val_main_v184_apply x0 x1 x2 x3 x4 x5 x6 x7 x8 i).trans ((L_main_v183 H (idx_main_v184 i)).trans (congrArg Real.toEReal (by have h0 : (i 0).val < 1 := (i 0).isLt; have h1 : (i 1).val < 16 := (i 1).isLt; have h2 : (i 2).val < 64 := (i 2).isLt; have e0 : (((i 0).val * 16 + (i 1).val) * 64 + (i 2).val) / 64 = (i 1).val := (by omega); have e1 : (((i 0).val * 16 + (i 1).val) * 64 + (i 2).val) % 64 = (i 2).val := (by omega); exact congrArg₂ (fun (z0 : ℕ) (z1 : ℕ) => (v183 I z0 z1)) e0 e1)))
theorem L_main_cst_33 (i : S_.Idx) : val_main_cst_33 (F := Ideal) i = ((0 : ℝ) : EReal) :=
  Up.c0
theorem L_main_v185 (i : S16x64.Idx) : val_main_v185 (F := Ideal) x0 x1 x2 x3 x4 x5 x6 x7 x8 i = ((dba I (((i 0).val) * 64 + ((i 1).val)) : ℝ) : EReal) :=
  ((val_main_v185_apply x0 x1 x2 x3 x4 x5 x6 x7 x8 i).trans (Up.red (fun k => (v184 I k ((i 0).val) ((i 1).val))) _ (L_main_cst_33 H _) (fun k => (L_main_v184 H (idx_main_v185 i k))))).trans (congrArg Real.toEReal (ck_v185 I (i 0).val (i 1).val))
theorem L_main_v186 (i : S16x64x2048.Idx) : val_main_v186 (F := Ideal) x0 x1 x2 x3 x4 x5 x6 x7 x8 i = ((v186 I (i 0).val (i 1).val (i 2).val : ℝ) : EReal) :=
  (val_main_v186_apply x0 x1 x2 x3 x4 x5 x6 x7 x8 i).trans (L_main_v182 H (idx_main_v186 i))
theorem L_main_v187 (i : S16x2048x64.Idx) : val_main_v187 (F := Ideal) x0 x1 x2 x3 x4 x5 x6 x7 x8 i = ((v187 I (i 0).val (i 1).val (i 2).val : ℝ) : EReal) :=
  (val_main_v187_apply x0 x1 x2 x3 x4 x5 x6 x7 x8 i).trans (Up.sum_mul_coe (fun k => (v186 I ((i 0).val) k ((i 1).val))) (fun k => I.WA ((i 0).val) ((i 2).val) k) _ _ (fun k => (L_main_v186 H (lidx_main_v187 i k))) (fun k => (H.x4 (ridx_main_v187 i k))))
theorem L_main_v188 (i : S2048x16x64.Idx) : val_main_v188 (F := Ideal) x0 x1 x2 x3 x4 x5 x6 x7 x8 i = ((v188 I (i 0).val (i 1).val (i 2).val : ℝ) : EReal) :=
  (val_main_v188_apply x0 x1 x2 x3 x4 x5 x6 x7 x8 i).trans (L_main_v187 H (idx_main_v188 i))
theorem L_main_v189 (i : S2048x16x64.Idx) : val_main_v189 (F := Ideal) x0 x1 x2 x3 x4 x5 x6 x7 x8 i = ((v189 I (i 0).val (i 1).val (i 2).val : ℝ) : EReal) :=
  (val_main_v189_apply x0 x1 x2 x3 x4 x5 x6 x7 x8 i).trans (Up.add (L_main_v179 H i) (L_main_v188 H i))
theorem L_main_v190 (i : S16x64x64.Idx) : val_main_v190 (F := Ideal) x0 x1 x2 x3 x4 x5 x6 x7 x8 i = ((v190 I (i 0).val (i 1).val (i 2).val : ℝ) : EReal) :=
  (val_main_v190_apply x0 x1 x2 x3 x4 x5 x6 x7 x8 i).trans (Up.sum_mul_coe (fun k => (v186 I ((i 0).val) ((i 1).val) k)) (fun k => (v58 I k ((i 0).val) ((i 2).val))) _ _ (fun k => (L_main_v186 H (lidx_main_v190 i k))) (fun k => (L_main_v58 H (ridx_main_v190 i k))))
theorem L_main_v191 (i : S16x64x64.Idx) : val_main_v191 (F := Ideal) x0 x1 x2 x3 x4 x5 x6 x7 x8 i = ((dwa I ((i 0).val) ((i 1).val) ((i 2).val) : ℝ) : EReal) :=
  ((val_main_v191_apply x0 x1 x2 x3 x4 x5 x6 x7 x8 i).trans (L_main_v190 H (idx_main_v191 i))).trans (congrArg Real.toEReal (ck_v191 I (i 0).val (i 1).val (i 2).val))
theorem L_main_v192 (i : S2048x1024.Idx) : val_main_v192 (F := Ideal) x0 x1 x2 x3 x4 x5 x6 x7 x8 i = ((v192 I (i 0).val (i 1).val : ℝ) : EReal) :=
  (val_main_v192_apply x0 x1 x2 x3 x4 x5 x6 x7 x8 i).trans ((L_main_v189 H (idx_main_v192 i)).trans (congrArg Real.toEReal (by have h0 : (i 0).val < 2048 := (i 0).isLt; have h1 : (i 1).val < 1024 := (i 1).isLt; have e0 : ((i 0).val * 1024 + (i 1).val) / 1024 = (i 0).val := (by omega); have e1 : ((i 0).val * 1024 + (i 1).val) / 64 % 16 = (i 1).val / 64 := (by omega); have e2 : ((i 0).val * 1024 + (i 1).val) % 64 = (i 1).val % 64 := (by omega); exact (congrArg₂ (fun (z0 z1 : ℕ) => (fun (z0 : ℕ) (z1 : ℕ) (z2 : ℕ) => (v189 I z0 z1 z2)) z0 z1 _) e0 e1).trans (congrArg ((fun (z0 : ℕ) (z1 : ℕ) (z2 : ℕ) => (v189 I z0 z1 z2)) _ _) e2))))
theorem L_main_v193 (i : S2048x1024.Idx) : val_main_v193 (F := Ideal) x0 x1 x2 x3 x4 x5 x6 x7 x8 i = ((dxl I ((i 0).val) ((i 1).val) : ℝ) : EReal) :=
  ((val_main_v193_apply x0 x1 x2 x3 x4 x5 x6 x7 x8 i).trans (Up.add (L_main_v154 H i) (L_main_v192 H i))).trans (congrArg Real.toEReal (ck_v193 I (i 0).val (i 1).val))
theorem L_main_cst_34 (i : S_.Idx) : val_main_cst_34 (F := Ideal) i = ((0 : ℝ) : EReal) :=
  Up.c0
theorem L_main_v194 (i : S1024.Idx) : val_main_v194 (F := Ideal) x0 x1 x2 x3 x4 x5 x6 x7 x8 i = ((v194 I (i 0).val : ℝ) : EReal) :=
  (val_main_v194_apply x0 x1 x2 x3 x4 x5 x6 x7 x8 i).trans (Up.red (fun k => dxl I k ((i 0).val)) _ (L_main_cst_34 H _) (fun k => (L_main_v193 H (idx_main_v194 i k))))
theorem L_main_v195 (i : S1x1024.Idx) : val_main_v195 (F := Ideal) x0 x1 x2 x3 x4 x5 x6 x7 x8 i = ((dcb I ((i 1).val) : ℝ) : EReal) :=
  ((val_main_v195_apply x0 x1 x2 x3 x4 x5 x6 x7 x8 i).trans ((L_main_v194 H (idx_main_v195 i)).trans (congrArg Real.toEReal (by have h0 : (i 0).val < 1 := (i 0).isLt; have h1 : (i 1).val < 1024 := (i 1).isLt; have e0 : (i 0).val * 1024 + (i 1).val = (i 1).val := (by omega); exact congrArg (fun (z0 : ℕ) => (v194 I z0)) e0)))).trans (congrArg Real.toEReal (ck_v195 I (i 0).val (i 1).val))
theorem L_main_v196 (i : S2048x1024.Idx) : val_main_v196 (F := Ideal) x0 x1 x2 x3 x4 x5 x6 x7 x8 i = ((v196 I (i 0).val (i 1).val : ℝ) : EReal) :=
  (val_main_v196_apply x0 x1 x2 x3 x4 x5 x6 x7 x8 i).trans (Up.mul (L_main_v49 H i) (L_main_v193 H i))
theorem L_main_cst_35 (i : S_.Idx) : val_main_cst_35 (F := Ideal) i = ((0 : ℝ) : EReal) :=
  Up.c0
theorem L_main_v197 (i : S1024.Idx) : val_main_v197 (F := Ideal) x0 x1 x2 x3 x4 x5 x6 x7 x8 i = ((v197 I (i 0).val : ℝ) : EReal) :=
  (val_main_v197_apply x0 x1 x2 x3 x4 x5 x6 x7 x8 i).trans (Up.red (fun k => (v196 I k ((i 0).val))) _ (L_main_cst_35 H _) (fun k => (L_main_v196 H (idx_main_v197 i k))))
theorem L_main_v198 (i : S1x1024.Idx) : val_main_v198 (F := Ideal) x0 x1 x2 x3 x4 x5 x6 x7 x8 i = ((v198 I (i 0).val (i 1).val : ℝ) : EReal) :=
  (val_main_v198_apply x0 x1 x2 x3 x4 x5 x6 x7 x8 i).trans ((L_main_v197 H (idx_main_v198 i)).trans (congrArg Real.toEReal (by have h0 : (i 0).val < 1 := (i 0).isLt; have h1 : (i 1).val < 1024 := (i 1).isLt; have e0 : (i 0).val * 1024 + (i 1).val = (i 1).val := (by omega); exact congrArg (fun (z0 : ℕ) => (v197 I z0)) e0)))
theorem L_main_v199 (i : S2048x1024.Idx) : val_main_v199 (F := Ideal) x2 i = ((v199 I (i 0).val (i 1).val : ℝ) : EReal) :=
  (val_main_v199_apply x2 i).trans (L_main_v52 H (idx_main_v199 i))
theorem L_main_v200 (i : S2048x1024.Idx) : val_main_v200 (F := Ideal) x0 x1 x2 x3 x4 x5 x6 x7 x8 i = ((v200 I (i 0).val (i 1).val : ℝ) : EReal) :=
  (val_main_v200_apply x0 x1 x2 x3 x4 x5 x6 x7 x8 i).trans (Up.mul (L_main_v193 H i) (L_main_v199 H i))
theorem L_main_cst_36 (i : S_.Idx) : val_main_cst_36 (F := Ideal) i = ((0 : ℝ) : EReal) :=
  Up.c0
theorem L_main_v201 (i : S1024.Idx) : val_main_v201 (F := Ideal) x0 x1 x2 x3 x4 x5 x6 x7 x8 i = ((v201 I (i 0).val : ℝ) : EReal) :=
  (val_main_v201_apply x0 x1 x2 x3 x4 x5 x6 x7 x8 i).trans (Up.red (fun k => (v198 I k ((i 0).val))) _ (L_main_cst_36 H _) (fun k => (L_main_v198 H (idx_main_v201 i k))))
theorem L_main_v202 (i : S1x1024.Idx) : val_main_v202 (F := Ideal) x0 x1 x2 x3 x4 x5 x6 x7 x8 i = ((v202 I (i 0).val (i 1).val : ℝ) : EReal) :=
  (val_main_v202_apply x0 x1 x2 x3 x4 x5 x6 x7 x8 i).trans (L_main_v201 H (idx_main_v202 i))
theorem L_main_cst_37 (i : S_.Idx) : val_main_cst_37 (F := Ideal) i = ((0 : ℝ) : EReal) :=
  Up.c0
theorem L_main_v203 (i : S4x1024.Idx) : val_main_v203 (F := Ideal) x0 x1 x2 x3 x4 x5 x6 x7 x8 i = ((v203 I (i 0).val (i 1).val : ℝ) : EReal) :=
  RLem.pad_rows _ _ _ (fun i0 i1 => (v202 I i0 i1)) (fun i => L_main_v202 H i) _ (fun i => L_main_cst_37 H i) _ _ i
theorem L_main_cst_38 (i : S_.Idx) : val_main_cst_38 (F := Ideal) i = ((0 : ℝ) : EReal) :=
  Up.c0
theorem L_main_v204 (i : S2051x1024.Idx) : val_main_v204 (F := Ideal) x0 x1 x2 x3 x4 x5 x6 x7 x8 i = ((v204 I (i 0).val (i 1).val : ℝ) : EReal) :=
  RLem.pad_rows _ _ _ (fun i0 i1 => (v200 I i0 i1)) (fun i => L_main_v200 H i) _ (fun i => L_main_cst_38 H i) _ _ i
theorem L_main_v205 (i : S2048x1024.Idx) : val_main_v205 (F := Ideal) x0 x1 x2 x3 x4 x5 x6 x7 x8 i = ((v205 I (i 0).val (i 1).val : ℝ) : EReal) :=
  (val_main_v205_apply x0 x1 x2 x3 x4 x5 x6 x7 x8 i).trans (Up.mul (L_main_v42 H i) (L_main_v193 H i))
theorem L_main_cst_39 (i : S_.Idx) : val_main_cst_39 (F := Ideal) i = ((0 : ℝ) : EReal) :=
  Up.c0
theorem L_main_v206 (i : S1024.Idx) : val_main_v206 (F := Ideal) x0 x1 x2 x3 x4 x5 x6 x7 x8 i = ((v206 I (i 0).val : ℝ) : EReal) :=
  (val_main_v206_apply x0 x1 x2 x3 x4 x5 x6 x7 x8 i).trans (Up.red (fun k => (v205 I k ((i 0).val))) _ (L_main_cst_39 H _) (fun k => (L_main_v205 H (idx_main_v206 i k))))
theorem L_main_v207 (i : S1x1024.Idx) : val_main_v207 (F := Ideal) x0 x1 x2 x3 x4 x5 x6 x7 x8 i = ((v207 I (i 0).val (i 1).val : ℝ) : EReal) :=
  (val_main_v207_apply x0 x1 x2 x3 x4 x5 x6 x7 x8 i).trans ((L_main_v206 H (idx_main_v207 i)).trans (congrArg Real.toEReal (by have h0 : (i 0).val < 1 := (i 0).isLt; have h1 : (i 1).val < 1024 := (i 1).isLt; have e0 : (i 0).val * 1024 + (i 1).val = (i 1).val := (by omega); exact congrArg (fun (z0 : ℕ) => (v206 I z0)) e0)))
theorem L_main_v208 (i : S2048x1024.Idx) : val_main_v208 (F := Ideal) x2 i = ((v208 I (i 0).val (i 1).val : ℝ) : EReal) :=
  (val_main_v208_apply x2 i).trans (L_main_v45 H (idx_main_v208 i))
theorem L_main_v209 (i : S2048x1024.Idx) : val_main_v209 (F := Ideal) x0 x1 x2 x3 x4 x5 x6 x7 x8 i = ((v209 I (i 0).val (i 1).val : ℝ) : EReal) :=
  (val_main_v209_apply x0 x1 x2 x3 x4 x5 x6 x7 x8 i).trans (Up.mul (L_main_v193 H i) (L_main_v208 H i))
theorem L_main_cst_40 (i : S_.Idx) : val_main_cst_40 (F := Ideal) i = ((0 : ℝ) : EReal) :=
  Up.c0
theorem L_main_v210 (i : S1024.Idx) : val_main_v210 (F := Ideal) x0 x1 x2 x3 x4 x5 x6 x7 x8 i = ((v210 I (i 0).val : ℝ) : EReal) :=
  (val_main_v210_apply x0 x1 x2 x3 x4 x5 x6 x7 x8 i).trans (Up.red (fun k => (v207 I k ((i 0).val))) _ (L_main_cst_40 H _) (fun k => (L_main_v207 H (idx_main_v210 i k))))
theorem L_main_v211 (i : S1x1024.Idx) : val_main_v211 (F := Ideal) x0 x1 x2 x3 x4 x5 x6 x7 x8 i = ((v211 I (i 0).val (i 1).val : ℝ) : EReal) :=
  (val_main_v211_apply x0 x1 x2 x3 x4 x5 x6 x7 x8 i).trans (L_main_v210 H (idx_main_v211 i))
theorem L_main_cst_41 (i : S_.Idx) : val_main_cst_41 (F := Ideal) i = ((0 : ℝ) : EReal) :=
  Up.c0
theorem L_main_v212 (i : S4x1024.Idx) : val_main_v212 (F := Ideal) x0 x1 x2 x3 x4 x5 x6 x7 x8 i = ((v212 I (i 0).val (i 1).val : ℝ) : EReal) :=
  RLem.pad_rows _ _ _ (fun i0 i1 => (v211 I i0 i1)) (fun i => L_main_v211 H i) _ (fun i => L_main_cst_41 H i) _ _ i
theorem L_main_v213 (i : S4x1024.Idx) : val_main_v213 (F := Ideal) x0 x1 x2 x3 x4 x5 x6 x7 x8 i = ((v213 I (i 0).val (i 1).val : ℝ) : EReal) :=
  (val_main_v213_apply x0 x1 x2 x3 x4 x5 x6 x7 x8 i).trans (Up.add (L_main_v203 H i) (L_main_v212 H i))
theorem L_main_cst_42 (i : S_.Idx) : val_main_cst_42 (F := Ideal) i = ((0 : ℝ) : EReal) :=
  Up.c0
theorem L_main_v214 (i : S2051x1024.Idx) : val_main_v214 (F := Ideal) x0 x1 x2 x3 x4 x5 x6 x7 x8 i = ((v214 I (i 0).val (i 1).val : ℝ) : EReal) :=
  RLem.pad_rows _ _ _ (fun i0 i1 => (v209 I i0 i1)) (fun i => L_main_v209 H i) _ (fun i => L_main_cst_42 H i) _ _ i
theorem L_main_v215 (i : S2051x1024.Idx) : val_main_v215 (F := Ideal) x0 x1 x2 x3 x4 x5 x6 x7 x8 i = ((v215 I (i 0).val (i 1).val : ℝ) : EReal) :=
  (val_main_v215_apply x0 x1 x2 x3 x4 x5 x6 x7 x8 i).trans (Up.add (L_main_v204 H i) (L_main_v214 H i))
theorem L_main_v216 (i : S2048x1024.Idx) : val_main_v216 (F := Ideal) x0 x1 x2 x3 x4 x5 x6 x7 x8 i = ((v216 I (i 0).val (i 1).val : ℝ) : EReal) :=
  (val_main_v216_apply x0 x1 x2 x3 x4 x5 x6 x7 x8 i).trans (Up.mul (L_main_v35 H i) (L_main_v193 H i))
theorem L_main_cst_43 (i : S_.Idx) : val_main_cst_43 (F := Ideal) i = ((0 : ℝ) : EReal) :=
  Up.c0
theorem L_main_v217 (i : S1024.Idx) : val_main_v217 (F := Ideal) x0 x1 x2 x3 x4 x5 x6 x7 x8 i = ((v217 I (i 0).val : ℝ) : EReal) :=
  (val_main_v217_apply x0 x1 x2 x3 x4 x5 x6 x7 x8 i).trans (Up.red (fun k => (v216 I k ((i 0).val))) _ (L_main_cst_43 H _) (fun k => (L_main_v216 H (idx_main_v217 i k))))
theorem L_main_v218 (i : S1x1024.Idx) : val_main_v218 (F := Ideal) x0 x1 x2 x3 x4 x5 x6 x7 x8 i = ((v218 I (i 0).val (i 1).val : ℝ) : EReal) :=
  (val_main_v218_apply x0 x1 x2 x3 x4 x5 x6 x7 x8 i).trans ((L_main_v217 H (idx_main_v218 i)).trans (congrArg Real.toEReal (by have h0 : (i 0).val < 1 := (i 0).isLt; have h1 : (i 1).val < 1024 := (i 1).isLt; have e0 : (i 0).val * 1024 + (i 1).val = (i 1).val := (by omega); exact congrArg (fun (z0 : ℕ) => (v217 I z0)) e0)))
theorem L_main_v219 (i : S2048x1024.Idx) : val_main_v219 (F := Ideal) x2 i = ((v219 I (i 0).val (i 1).val : ℝ) : EReal) :=
  (val_main_v219_apply x2 i).trans (L_main_v38 H (idx_main_v219 i))
theorem L_main_v220 (i : S2048x1024.Idx) : val_main_v220 (F := Ideal) x0 x1 x2 x3 x4 x5 x6 x7 x8 i = ((v220 I (i 0).val (i 1).val : ℝ) : EReal) :=
  (val_main_v220_apply x0 x1 x2 x3 x4 x5 x6 x7 x8 i).trans (Up.mul (L_main_v193 H i) (L_main_v219 H i))
theorem L_main_cst_44 (i : S_.Idx) : val_main_cst_44 (F := Ideal) i = ((0 : ℝ) : EReal) :=
  Up.c0
theorem L_main_v221 (i : S1024.Idx) : val_main_v221 (F := Ideal) x0 x1 x2 x3 x4 x5 x6 x7 x8 i = ((v221 I (i 0).val : ℝ) : EReal) :=
  (val_main_v221_apply x0 x1 x2 x3 x4 x5 x6 x7 x8 i).trans (Up.red (fun k => (v218 I k ((i 0).val))) _ (L_main_cst_44 H _) (fun k => (L_main_v218 H (idx_main_v221 i k))))
theorem L_main_v222 (i : S1x1024.Idx) : val_main_v222 (F := Ideal) x0 x1 x2 x3 x4 x5 x6 x7 x8 i = ((v222 I (i 0).val (i 1).val : ℝ) : EReal) :=
  (val_main_v222_apply x0 x1 x2 x3 x4 x5 x6 x7 x8 i).trans (L_main_v221 H (idx_main_v222 i))
theorem L_main_cst_45 (i : S_.Idx) : val_main_cst_45 (F := Ideal) i = ((0 : ℝ) : EReal) :=
  Up.c0
theorem L_main_v223 (i : S4x1024.Idx) : val_main_v223 (F := Ideal) x0 x1 x2 x3 x4 x5 x6 x7 x8 i = ((v223 I (i 0).val (i 1).val : ℝ) : EReal) :=
  RLem.pad_rows _ _ _ (fun i0 i1 => (v222 I i0 i1)) (fun i => L_main_v222 H i) _ (fun i => L_main_cst_45 H i) _ _ i
theorem L_main_v224 (i : S4x1024.Idx) : val_main_v224 (F := Ideal) x0 x1 x2 x3 x4 x5 x6 x7 x8 i = ((v224 I (i 0).val (i 1).val : ℝ) : EReal) :=
  (val_main_v224_apply x0 x1 x2 x3 x4 x5 x6 x7 x8 i).trans (Up.add (L_main_v213 H i) (L_main_v223 H i))
theorem L_main_cst_46 (i : S_.Idx) : val_main_cst_46 (F := Ideal) i = ((0 : ℝ) : EReal) :=
  Up.c0
theorem L_main_v225 (i : S2051x1024.Idx) : val_main_v225 (F := Ideal) x0 x1 x2 x3 x4 x5 x6 x7 x8 i = ((v225 I (i 0).val (i 1).val : ℝ) : EReal) :=
  RLem.pad_rows _ _ _ (fun i0 i1 => (v220 I i0 i1)) (fun i => L_main_v220 H i) _ (fun i => L_main_cst_46 H i) _ _ i
theorem L_main_v226 (i : S2051x1024.Idx) : val_main_v226 (F := Ideal) x0 x1 x2 x3 x4 x5 x6 x7 x8 i = ((v226 I (i 0).val (i 1).val : ℝ) : EReal) :=
  (val_main_v226_apply x0 x1 x2 x3 x4 x5 x6 x7 x8 i).trans (Up.add (L_main_v215 H i) (L_main_v225 H i))
theorem L_main_v227 (i : S2048x1024.Idx) : val_main_v227 (F := Ideal) x0 x1 x2 x3 x4 x5 x6 x7 x8 i = ((v227 I (i 0).val (i 1).val : ℝ) : EReal) :=
  (val_main_v227_apply x0 x1 x2 x3 x4 x5 x6 x7 x8 i).trans (Up.mul (L_main_v29 H i) (L_main_v193 H i))
theorem L_main_cst_47 (i : S_.Idx) : val_main_cst_47 (F := Ideal) i = ((0 : ℝ) : EReal) :=
  Up.c0
theorem L_main_v228 (i : S1024.Idx) : val_main_v228 (F := Ideal) x0 x1 x2 x3 x4 x5 x6 x7 x8 i = ((v228 I (i 0).val : ℝ) : EReal) :=
  (val_main_v228_apply x0 x1 x2 x3 x4 x5 x6 x7 x8 i).trans (Up.red (fun k => (v227 I k ((i 0).val))) _ (L_main_cst_47 H _) (fun k => (L_main_v227 H (idx_main_v228 i k))))
theorem L_main_v229 (i : S1x1024.Idx) : val_main_v229 (F := Ideal) x0 x1 x2 x3 x4 x5 x6 x7 x8 i = ((v229 I (i 0).val (i 1).val : ℝ) : EReal) :=
  (val_main_v229_apply x0 x1 x2 x3 x4 x5 x6 x7 x8 i).trans ((L_main_v228 H (idx_main_v229 i)).trans (congrArg Real.toEReal (by have h0 : (i 0).val < 1 := (i 0).isLt; have h1 : (i 1).val < 1024 := (i 1).isLt; have e0 : (i 0).val * 1024 + (i 1).val = (i 1).val := (by omega); exact congrArg (fun (z0 : ℕ) => (v228 I z0)) e0)))
theorem L_main_v230 (i : S2048x1024.Idx) : val_main_v230 (F := Ideal) x2 i = ((v230 I (i 0).val (i 1).val : ℝ) : EReal) :=
  (val_main_v230_apply x2 i).trans (L_main_v32 H (idx_main_v230 i))
theorem L_main_v231 (i : S2048x1024.Idx) : val_main_v231 (F := Ideal) x0 x1 x2 x3 x4 x5 x6 x7 x8 i = ((v231 I (i 0).val (i 1).val : ℝ) : EReal) :=
  (val_main_v231_apply x0 x1 x2 x3 x4 x5 x6 x7 x8 i).trans (Up.mul (L_main_v193 H i) (L_main_v230 H i))
theorem L_main_cst_48 (i : S_.Idx) : val_main_cst_48 (F := Ideal) i = ((0 : ℝ) : EReal) :=
  Up.c0
theorem L_main_v232 (i : S1024.Idx) : val_main_v232 (F := Ideal) x0 x1 x2 x3 x4 x5 x6 x7 x8 i = ((v232 I (i 0).val : ℝ) : EReal) :=
  (val_main_v232_apply x0 x1 x2 x3 x4 x5 x6 x7 x8 i).trans (Up.red (fun k => (v229 I k ((i 0).val))) _ (L_main_cst_48 H _) (fun k => (L_main_v229 H (idx_main_v232 i k))))
theorem L_main_v233 (i : S1x1024.Idx) : val_main_v233 (F := Ideal) x0 x1 x2 x3 x4 x5 x6 x7 x8 i = ((v233 I (i 0).val (i 1).val : ℝ) : EReal) :=
  (val_main_v233_apply x0 x1 x2 x3 x4 x5 x6 x7 x8 i).trans (L_main_v232 H (idx_main_v233 i))
theorem L_main_cst_49 (i : S_.Idx) : val_main_cst_49 (F := Ideal) i = ((0 : ℝ) : EReal) :=
  Up.c0
theorem L_main_v234 (i : S4x1024.Idx) : val_main_v234 (F := Ideal) x0 x1 x2 x3 x4 x5 x6 x7 x8 i = ((v234 I (i 0).val (i 1).val : ℝ) : EReal) :=
  RLem.pad_rows _ _ _ (fun i0 i1 => (v233 I i0 i1)) (fun i => L_main_v233 H i) _ (fun i => L_main_cst_49 H i) _ _ i
theorem L_main_v235 (i : S4x1024.Idx) : val_main_v235 (F := Ideal) x0 x1 x2 x3 x4 x5 x6 x7 x8 i = ((dcw I ((i 0).val) ((i 1).val) : ℝ) : EReal) :=
  ((val_main_v235_apply x0 x1 x2 x3 x4 x5 x6 x7 x8 i).trans (Up.add (L_main_v224 H i) (L_main_v234 H i))).trans (congrArg Real.toEReal (ck_v235 I (i 0).val (i 1).val (i 0).isLt))
theorem L_main_cst_50 (i : S_.Idx) : val_main_cst_50 (F := Ideal) i = ((0 : ℝ) : EReal) :=
  Up.c0
theorem L_main_v236 (i : S2051x1024.Idx) : val_main_v236 (F := Ideal) x0 x1 x2 x3 x4 x5 x6 x7 x8 i = ((v236 I (i 0).val (i 1).val : ℝ) : EReal) :=
  RLem.pad_rows _ _ _ (fun i0 i1 => (v231 I i0 i1)) (fun i => L_main_v231 H i) _ (fun i => L_main_cst_50 H i) _ _ i
theorem L_main_v237 (i : S2051x1024.Idx) : val_main_v237 (F := Ideal) x0 x1 x2 x3 x4 x5 x6 x7 x8 i = ((v237 I (i 0).val (i 1).val : ℝ) : EReal) :=
  (val_main_v237_apply x0 x1 x2 x3 x4 x5 x6 x7 x8 i).trans (Up.add (L_main_v226 H i) (L_main_v236 H i))
theorem L_main_v239 (i : S2048x1024.Idx) : val_main_v239 (F := Ideal) x0 x1 x2 x3 x4 x5 x6 x7 x8 i = ((dx I ((i 0).val) ((i 1).val) : ℝ) : EReal) :=
  ((val_main_v239_apply x0 x1 x2 x3 x4 x5 x6 x7 x8 i).trans (L_main_v237 H (idx_main_v239 i))).trans (congrArg Real.toEReal (ck_v239 I (i 0).val (i 1).val (i 0).isLt))
theorem L_main_v240 (i : S2048x1024.Idx) : val_main_v240 (F := Ideal) x0 x1 x2 x3 x4 x5 x6 x7 x8 i = ((v240 I (i 0).val (i 1).val : ℝ) : EReal) :=
  (val_main_v240_apply x0 x1 x2 x3 x4 x5 x6 x7 x8 i).trans (Up.mul (L_main_v1 H i) (L_main_v132 H i))
theorem L_main_v241 (i : S2048x1024.Idx) : val_main_v241 (F := Ideal) x0 x1 x2 x3 x4 x5 x6 x7 x8 i = ((v241 I (i 0).val (i 1).val : ℝ) : EReal) :=
  (val_main_v241_apply x0 x1 x2 x3 x4 x5 x6 x7 x8 i).trans (Up.mul (L_main_v132 H i) (L_main_v24 H i))
theorem L_main_cst_51 (i : S_.Idx) : val_main_cst_51 (F := Ideal) i = ((1 / 2 : ℝ) : EReal) :=
  Up.chalf
theorem L_main_v242 (i : S2048x1024.Idx) : val_main_v242 (F := Ideal) i = ((v242 I (i 0).val (i 1).val : ℝ) : EReal) :=
  (val_main_v242_apply i).trans (L_main_cst_51 H (idx_main_v242 i))
theorem L_main_v243 (i : S2048x1024.Idx) : val_main_v243 (F := Ideal) x0 x1 x2 x3 x4 x5 x6 x7 x8 i = ((v243 I (i 0).val (i 1).val : ℝ) : EReal) :=
  (val_main_v243_apply x0 x1 x2 x3 x4 x5 x6 x7 x8 i).trans (Up.mul (L_main_v242 H i) (L_main_v240 H i))
theorem L_main_v244 (i : S2048x1024.Idx) : val_main_v244 (F := Ideal) x0 x1 x2 x3 x4 x5 x6 x7 x8 i = ((v244 I (i 0).val (i 1).val : ℝ) : EReal) :=
  (val_main_v244_apply x0 x1 x2 x3 x4 x5 x6 x7 x8 i).trans (Up.mul (L_main_v243 H i) (L_main_v20 H i))
theorem L_main_cst_52 (i : S_.Idx) : val_main_cst_52 (F := Ideal) i = ((gc : ℝ) : EReal) :=
  Up.cgc
theorem L_main_v245 (i : S2048x1024.Idx) : val_main_v245 (F := Ideal) i = ((v245 I (i 0).val (i 1).val : ℝ) : EReal) :=
  (val_main_v245_apply i).trans (L_main_cst_52 H (idx_main_v245 i))
theorem L_main_v246 (i : S2048x1024.Idx) : val_main_v246 (F := Ideal) x0 x1 x2 x3 x4 x5 x6 x7 x8 i = ((v246 I (i 0).val (i 1).val : ℝ) : EReal) :=
  (val_main_v246_apply x0 x1 x2 x3 x4 x5 x6 x7 x8 i).trans (Up.mul (L_main_v245 H i) (L_main_v244 H i))
theorem L_main_v247 (i : S2048x1024.Idx) : val_main_v247 (F := Ideal) x0 x1 x2 x3 x4 x5 x6 x7 x8 i = ((v247 I (i 0).val (i 1).val : ℝ) : EReal) :=
  (val_main_v247_apply x0 x1 x2 x3 x4 x5 x6 x7 x8 i).trans (Up.add (L_main_v241 H i) (L_main_v246 H i))
theorem L_main_cst_53 (i : S_.Idx) : val_main_cst_53 (F := Ideal) i = ((1000000 : ℝ) : EReal) :=
  Up.c1e6
theorem L_main_v248 (i : S2048x1024.Idx) : val_main_v248 (F := Ideal) i = ((v248 I (i 0).val (i 1).val : ℝ) : EReal) :=
  (val_main_v248_apply i).trans (L_main_cst_53 H (idx_main_v248 i))
theorem L_main_v249 (i : S2048x1024.Idx) : val_main_v249 (F := Ideal) x0 x1 x2 x3 x4 x5 x6 x7 x8 i = ((v249 I (i 0).val (i 1).val : ℝ) : EReal) :=
  (val_main_v249_apply x0 x1 x2 x3 x4 x5 x6 x7 x8 i).trans (Up.hdiv (L_main_v246 H i) (L_main_v248 H i) (by norm_num [v248]))
theorem L_main_cst_54 (i : S_.Idx) : val_main_cst_54 (F := Ideal) i = ((44715 : ℝ) : EReal) :=
  Up.c44715
theorem L_main_v250 (i : S2048x1024.Idx) : val_main_v250 (F := Ideal) i = ((v250 I (i 0).val (i 1).val : ℝ) : EReal) :=
  (val_main_v250_apply i).trans (L_main_cst_54 H (idx_main_v250 i))
theorem L_main_v251 (i : S2048x1024.Idx) : val_main_v251 (F := Ideal) x0 x1 x2 x3 x4 x5 x6 x7 x8 i = ((v251 I (i 0).val (i 1).val : ℝ) : EReal) :=
  (val_main_v251_apply x0 x1 x2 x3 x4 x5 x6 x7 x8 i).trans (Up.mul (L_main_v250 H i) (L_main_v249 H i))
theorem L_main_v252 (i : S2048x1024.Idx) : val_main_v252 (F := Ideal) x0 x1 x2 x3 x4 x5 x6 x7 x8 i = ((v252 I (i 0).val (i 1).val : ℝ) : EReal) :=
  (val_main_v252_apply x0 x1 x2 x3 x4 x5 x6 x7 x8 i).trans (Up.mul (L_main_v251 H i) (L_main_v7 H i))
theorem L_main_v253 (i : S2048x1024.Idx) : val_main_v253 (F := Ideal) x0 x1 x2 x3 x4 x5 x6 x7 x8 i = ((dg I ((i 0).val) ((i 1).val) : ℝ) : EReal) :=
  ((val_main_v253_apply x0 x1 x2 x3 x4 x5 x6 x7 x8 i).trans (Up.add (L_main_v247 H i) (L_main_v252 H i))).trans (congrArg Real.toEReal (ck_v253 I (i 0).val (i 1).val))

end R
-- ==== Proof.RE.lean ====
module

public import proofs.«01_k».proof.Proof.RVal1
public import proofs.«01_k».proof.Proof.Gen.ReferenceIdeal.Run

@[expose] public section

set_option maxRecDepth 16384

noncomputable section

namespace R

open Cert.ReferenceIdeal Cert.ReferenceIdeal.Gen Cert.ReferenceIdeal.Read
open Idealize.ShloMosaic Idealize.ShloMosaic.TcCoe Idealize.ShloMosaic.ValueIdx
open Idealize.ShloMosaic.Pipeline (Window Dat)
open Finset (range mem_range sum_congr)
open Cert Lru

/-! The reference's nine results as real numbers. -/

variable (m : (ℓ : Loc nD τ sig) → Buf (Elt Ideal) ℓ) (ρ : Dev nD → PrngReg)

/-- An argument of the reference on one device. -/
abbrev arg (c : Dev nD) (r : Ref sig .tc) : r.ty.Contents (Elt Ideal) := StableHlo.launchContents m c (Proc.devRef .tc r)

theorem z_v254 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v254 (F := Ideal) (arg m c main_arg0) (arg m c main_arg1) (arg m c main_arg2) (arg m c main_arg3) (arg m c main_arg4) (arg m c main_arg5) (arg m c main_arg6) (arg m c main_arg7) (arg m c main_arg8) = (fun i : S2048x1024.Idx => ((dx I (i 0).val (i 1).val : ℝ) : EReal)) := funext fun i =>
  (val_main_v254_apply _ _ _ _ _ _ _ _ _ i).trans (L_main_v239 H i)

theorem z_v255 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v255 (F := Ideal) (arg m c main_arg0) (arg m c main_arg1) (arg m c main_arg2) (arg m c main_arg3) (arg m c main_arg4) (arg m c main_arg5) (arg m c main_arg6) (arg m c main_arg7) (arg m c main_arg8) = (fun i : S2048x1024.Idx => ((dg I (i 0).val (i 1).val : ℝ) : EReal)) := funext fun i =>
  (val_main_v255_apply _ _ _ _ _ _ _ _ _ i).trans (L_main_v253 H i)

theorem z_v235 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v235 (F := Ideal) (arg m c main_arg0) (arg m c main_arg1) (arg m c main_arg2) (arg m c main_arg3) (arg m c main_arg4) (arg m c main_arg5) (arg m c main_arg6) (arg m c main_arg7) (arg m c main_arg8) = (fun i : S4x1024.Idx => ((dcw I (i 0).val (i 1).val : ℝ) : EReal)) := funext fun i =>
  L_main_v235 H i

theorem z_v195 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v195 (F := Ideal) (arg m c main_arg0) (arg m c main_arg1) (arg m c main_arg2) (arg m c main_arg3) (arg m c main_arg4) (arg m c main_arg5) (arg m c main_arg6) (arg m c main_arg7) (arg m c main_arg8) = (fun i : S1x1024.Idx => ((dcb I (i 1).val : ℝ) : EReal)) := funext fun i =>
  L_main_v195 H i

theorem z_v191 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v191 (F := Ideal) (arg m c main_arg0) (arg m c main_arg1) (arg m c main_arg2) (arg m c main_arg3) (arg m c main_arg4) (arg m c main_arg5) (arg m c main_arg6) (arg m c main_arg7) (arg m c main_arg8) = (fun i : S16x64x64.Idx => ((dwa I (i 0).val (i 1).val (i 2).val : ℝ) : EReal)) := funext fun i =>
  L_main_v191 H i

theorem z_v185 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v185 (F := Ideal) (arg m c main_arg0) (arg m c main_arg1) (arg m c main_arg2) (arg m c main_arg3) (arg m c main_arg4) (arg m c main_arg5) (arg m c main_arg6) (arg m c main_arg7) (arg m c main_arg8) = (fun i : S16x64.Idx => ((dba I ((i 0).val * 64 + (i 1).val) : ℝ) : EReal)) := funext fun i =>
  L_main_v185 H i

theorem z_v181 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v181 (F := Ideal) (arg m c main_arg0) (arg m c main_arg1) (arg m c main_arg2) (arg m c main_arg3) (arg m c main_arg4) (arg m c main_arg5) (arg m c main_arg6) (arg m c main_arg7) (arg m c main_arg8) = (fun i : S16x64x64.Idx => ((dwx I (i 0).val (i 1).val (i 2).val : ℝ) : EReal)) := funext fun i =>
  L_main_v181 H i

theorem z_v176 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v176 (F := Ideal) (arg m c main_arg0) (arg m c main_arg1) (arg m c main_arg2) (arg m c main_arg3) (arg m c main_arg4) (arg m c main_arg5) (arg m c main_arg6) (arg m c main_arg7) (arg m c main_arg8) = (fun i : S16x64.Idx => ((dbx I ((i 0).val * 64 + (i 1).val) : ℝ) : EReal)) := funext fun i =>
  L_main_v176 H i

theorem z_v168 {I : Inp} (c : Dev nD) (H : Hyp I (arg m c main_arg0) (arg m c main_arg1) (arg m c main_arg2) (arg m c main_arg3) (arg m c main_arg4) (arg m c main_arg5) (arg m c main_arg6) (arg m c main_arg7) (arg m c main_arg8)) :
    val_main_v168 (F := Ideal) (arg m c main_arg0) (arg m c main_arg1) (arg m c main_arg2) (arg m c main_arg3) (arg m c main_arg4) (arg m c main_arg5) (arg m c main_arg6) (arg m c main_arg7) (arg m c main_arg8) = (fun i : S1x1024.Idx => ((dap I (i 1).val : ℝ) : EReal)) := funext fun i =>
  L_main_v168 H i

/-- Every execution ends with the nine results at these real numbers and the arguments unchanged. -/
theorem values (I : Dev nD → Inp) (H : ∀ c, Hyp (I c) (arg m c main_arg0) (arg m c main_arg1) (arg m c main_arg2) (arg m c main_arg3) (arg m c main_arg4) (arg m c main_arg5) (arg m c main_arg6) (arg m c main_arg7) (arg m c main_arg8)) :
    θ_run defs (onTc (τ := τ) (main (F := Ideal))) ⟨m, fun _ => 0, ρ⟩ (fun r => ∀ c : Dev nD,
      r.2.mem ((c.tc : Thread nD τ).loc main_v254) = (fun i : S2048x1024.Idx => ((dx (I c) (i 0).val (i 1).val : ℝ) : EReal))
      ∧ r.2.mem ((c.tc : Thread nD τ).loc main_v255) = (fun i : S2048x1024.Idx => ((dg (I c) (i 0).val (i 1).val : ℝ) : EReal))
      ∧ r.2.mem ((c.tc : Thread nD τ).loc main_v235) = (fun i : S4x1024.Idx => ((dcw (I c) (i 0).val (i 1).val : ℝ) : EReal))
      ∧ r.2.mem ((c.tc : Thread nD τ).loc main_v195) = (fun i : S1x1024.Idx => ((dcb (I c) (i 1).val : ℝ) : EReal))
      ∧ r.2.mem ((c.tc : Thread nD τ).loc main_v191) = (fun i : S16x64x64.Idx => ((dwa (I c) (i 0).val (i 1).val (i 2).val : ℝ) : EReal))
      ∧ r.2.mem ((c.tc : Thread nD τ).loc main_v185) = (fun i : S16x64.Idx => ((dba (I c) ((i 0).val * 64 + (i 1).val) : ℝ) : EReal))
      ∧ r.2.mem ((c.tc : Thread nD τ).loc main_v181) = (fun i : S16x64x64.Idx => ((dwx (I c) (i 0).val (i 1).val (i 2).val : ℝ) : EReal))
      ∧ r.2.mem ((c.tc : Thread nD τ).loc main_v176) = (fun i : S16x64.Idx => ((dbx (I c) ((i 0).val * 64 + (i 1).val) : ℝ) : EReal))
      ∧ r.2.mem ((c.tc : Thread nD τ).loc main_v168) = (fun i : S1x1024.Idx => ((dap (I c) (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    exact ⟨(h c).1.trans ((val_main_v254_eq (F := Ideal) (StableHlo.launchContents m c)).trans (z_v254 m c (H c))),
    (h c).2.1.trans ((val_main_v255_eq (F := Ideal) (StableHlo.launchContents m c)).trans (z_v255 m c (H c))),
    (h c).2.2.1.trans ((val_main_v235_eq (F := Ideal) (StableHlo.launchContents m c)).trans (z_v235 m c (H c))),
    (h c).2.2.2.1.trans ((val_main_v195_eq (F := Ideal) (StableHlo.launchContents m c)).trans (z_v195 m c (H c))),
    (h c).2.2.2.2.1.trans ((val_main_v191_eq (F := Ideal) (StableHlo.launchContents m c)).trans (z_v191 m c (H c))),
    (h c).2.2.2.2.2.1.trans ((val_main_v185_eq (F := Ideal) (StableHlo.launchContents m c)).trans (z_v185 m c (H c))),
    (h c).2.2.2.2.2.2.1.trans ((val_main_v181_eq (F := Ideal) (StableHlo.launchContents m c)).trans (z_v181 m c (H c))),
    (h c).2.2.2.2.2.2.2.1.trans ((val_main_v176_eq (F := Ideal) (StableHlo.launchContents m c)).trans (z_v176 m c (H c))),
    (h c).2.2.2.2.2.2.2.2.1.trans ((val_main_v168_eq (F := Ideal) (StableHlo.launchContents m c)).trans (z_v168 m c (H c))), (h c).2.2.2.2.2.2.2.2.2⟩) (Cert.ReferenceIdeal.Value.run m ρ)

end R
-- ==== Proof.KF.lean ====
module

public import proofs.«01_k».proof.Pre_finite
public import proofs.«01_k».proof.Proof.RHyp

@[expose] public section

noncomputable section

open Idealize.ShloMosaic Idealize.ShloMosaic.ValueIdx Lru Cert

namespace R

/-! Arguments of which `finite` is all ones are real numbers. -/

theorem real_of_lt (a : EReal) (h : Ideal.cmp .olt (Max.max a (-a)) ⊤ = 1#1) : a = ((a.toReal : ℝ) : EReal) := by
  have e : Max.max a (-a) < ⊤ := by
    by_contra hn
    have : Ideal.cmp .olt (Max.max a (-a)) ⊤ = 0#1 := by
      show BitVec.ofBool (decide (Max.max a (-a) < ⊤)) = 0#1
      rw [decide_eq_false hn]; rfl
    rw [this] at h
    exact absurd h (by decide)
  have h1 : a ≠ ⊤ := fun hh => by rw [hh] at e; exact absurd e (by simp)
  have h2 : a ≠ ⊥ := fun hh => by rw [hh] at e; exact absurd e (by simp)
  exact (EReal.coe_toReal h1 h2).symm

theorem fin_at {s : Shape} (x : FVec Ideal s .f32) (hb : Cert.Pre_finite.S_.BroadcastsInDim s ![])
    (h : cmpf .olt (Host.absf x) (broadcastInDim s ![] hb (constant (F := Ideal) Cert.Pre_finite.S_ .f32 0x7F800000#32)) = fun _ => 1#1) (i : s.Idx) :
    x i = (((x i).toReal : ℝ) : EReal) := by
  refine real_of_lt (x i) ?_
  have e := congrFun h i
  have eb : broadcastInDim s ![] hb (constant (F := Ideal) Cert.Pre_finite.S_ .f32 0x7F800000#32) i = (⊤ : EReal) :=
    (broadcastInDim_apply _ hb _ i ix0 (fun a => a.elim0)).trans Up.ctop
  generalize broadcastInDim s ![] hb (constant (F := Ideal) Cert.Pre_finite.S_ .f32 0x7F800000#32) = z at e eb
  have e2 : Ideal.cmp .olt (Max.max (x i) (-(x i))) (z i) = 1#1 := e
  rw [eb] at e2
  exact e2

/-- The real numbers the arguments are. -/
def inp (x0 : FVec Ideal Cert.ReferenceIdeal.S2048x5632 .f32) (x1 : FVec Ideal Cert.ReferenceIdeal.S2048x2048 .f32) (x2 : FVec Ideal Cert.ReferenceIdeal.S4x1024 .f32) (x3 : FVec Ideal Cert.ReferenceIdeal.S1x1024 .f32) (x4 : FVec Ideal Cert.ReferenceIdeal.S16x64x64 .f32) (x5 : FVec Ideal Cert.ReferenceIdeal.S16x64 .f32) (x6 : FVec Ideal Cert.ReferenceIdeal.S16x64x64 .f32) (x7 : FVec Ideal Cert.ReferenceIdeal.S16x64 .f32) (x8 : FVec Ideal Cert.ReferenceIdeal.S1x1024 .f32) : Inp where
  X a b := if h : a < 2048 ∧ b < 5632 then (x0 (ix2 ⟨a, h.1⟩ ⟨b, h.2⟩)).toReal else 0
  G a b := if h : a < 2048 ∧ (1024 + b) < 5632 then (x0 (ix2 ⟨a, h.1⟩ ⟨(1024 + b), h.2⟩)).toReal else 0
  DY a b := if h : a < 2048 ∧ b < 2048 then (x1 (ix2 ⟨a, h.1⟩ ⟨b, h.2⟩)).toReal else 0
  CW a b := if h : a < 4 ∧ b < 1024 then (x2 (ix2 ⟨a, h.1⟩ ⟨b, h.2⟩)).toReal else 0
  CB b := if h : 0 < 1 ∧ b < 1024 then (x3 (ix2 ⟨0, h.1⟩ ⟨b, h.2⟩)).toReal else 0
  WA a b d := if h : a < 16 ∧ b < 64 ∧ d < 64 then (x4 (ix3 ⟨a, h.1⟩ ⟨b, h.2.1⟩ ⟨d, h.2.2⟩)).toReal else 0
  WX a b d := if h : a < 16 ∧ b < 64 ∧ d < 64 then (x6 (ix3 ⟨a, h.1⟩ ⟨b, h.2.1⟩ ⟨d, h.2.2⟩)).toReal else 0
  BA a b := if h : a < 16 ∧ b < 64 then (x5 (ix2 ⟨a, h.1⟩ ⟨b, h.2⟩)).toReal else 0
  BX a b := if h : a < 16 ∧ b < 64 then (x7 (ix2 ⟨a, h.1⟩ ⟨b, h.2⟩)).toReal else 0
  AP b := if h : 0 < 1 ∧ b < 1024 then (x8 (ix2 ⟨0, h.1⟩ ⟨b, h.2⟩)).toReal else 0

variable [Cert.Pre_finite.Facts]
open Cert.Pre_finite.Facts

theorem hyp_of_finite (x0 : FVec Ideal Cert.ReferenceIdeal.S2048x5632 .f32) (x1 : FVec Ideal Cert.ReferenceIdeal.S2048x2048 .f32) (x2 : FVec Ideal Cert.ReferenceIdeal.S4x1024 .f32) (x3 : FVec Ideal Cert.ReferenceIdeal.S1x1024 .f32) (x4 : FVec Ideal Cert.ReferenceIdeal.S16x64x64 .f32) (x5 : FVec Ideal Cert.ReferenceIdeal.S16x64 .f32) (x6 : FVec Ideal Cert.ReferenceIdeal.S16x64x64 .f32) (x7 : FVec Ideal Cert.ReferenceIdeal.S16x64 .f32) (x8 : FVec Ideal Cert.ReferenceIdeal.S1x1024 .f32)
    (h0 : (Cert.Pre_finite.fn (F := Ideal) x0 x1 x2 x3 x4 x5 x6 x7 x8).1 = (fun _ => 1#1))
    (h1 : (Cert.Pre_finite.fn (F := Ideal) x0 x1 x2 x3 x4 x5 x6 x7 x8).2.1 = (fun _ => 1#1))
    (h2 : (Cert.Pre_finite.fn (F := Ideal) x0 x1 x2 x3 x4 x5 x6 x7 x8).2.2.1 = (fun _ => 1#1))
    (h3 : (Cert.Pre_finite.fn (F := Ideal) x0 x1 x2 x3 x4 x5 x6 x7 x8).2.2.2.1 = (fun _ => 1#1))
    (h4 : (Cert.Pre_finite.fn (F := Ideal) x0 x1 x2 x3 x4 x5 x6 x7 x8).2.2.2.2.1 = (fun _ => 1#1))
    (h5 : (Cert.Pre_finite.fn (F := Ideal) x0 x1 x2 x3 x4 x5 x6 x7 x8).2.2.2.2.2.1 = (fun _ => 1#1))
    (h6 : (Cert.Pre_finite.fn (F := Ideal) x0 x1 x2 x3 x4 x5 x6 x7 x8).2.2.2.2.2.2.1 = (fun _ => 1#1))
    (h7 : (Cert.Pre_finite.fn (F := Ideal) x0 x1 x2 x3 x4 x5 x6 x7 x8).2.2.2.2.2.2.2.1 = (fun _ => 1#1))
    (h8 : (Cert.Pre_finite.fn (F := Ideal) x0 x1 x2 x3 x4 x5 x6 x7 x8).2.2.2.2.2.2.2.2.1 = (fun _ => 1#1))
    (h9 : (Cert.Pre_finite.fn (F := Ideal) x0 x1 x2 x3 x4 x5 x6 x7 x8).2.2.2.2.2.2.2.2.2 = (fun _ => 1#1)) : Hyp (inp x0 x1 x2 x3 x4 x5 x6 x7 x8) x0 x1 x2 x3 x4 x5 x6 x7 x8 where
  x i := by
    have l0 : (i 0).val < 2048 := (i 0).isLt
    have l1 : (i 1).val < 1024 := (i 1).isLt
    have hx : (inp x0 x1 x2 x3 x4 x5 x6 x7 x8).X (i 0).val (i 1).val = (x0 (ix2 ⟨(i 0).val, l0⟩ ⟨(i 1).val, by omega⟩)).toReal := dif_pos ⟨l0, by omega⟩
    have hi : Cert.ReferenceIdeal.Read.idx_main_v0 i = ix2 ⟨(i 0).val, l0⟩ ⟨(i 1).val, by omega⟩ := funext fun a => Fin.ext (match a with
      | ⟨0, _⟩ => (by first | rfl | (show 0 + (i 0).val = (i 0).val; omega))
      | ⟨1, _⟩ => (by first | rfl | (show 0 + (i 1).val = (i 1).val; omega) | (show (i 1).val + 1024 = 1024 + (i 1).val; omega)))
    have hv : extractStridedSlice Cert.Pre_finite.S2048x1024 ![0, 0] x0 Cert.Pre_finite.Facts.slices_S2048x5632_S2048x1024_0_0 i = x0 (Cert.ReferenceIdeal.Read.idx_main_v0 i) := Cert.ReferenceIdeal.Read.val_main_v0_apply (F := Ideal) x0 i
    have hc : cmpf .olt (Host.absf (extractStridedSlice Cert.Pre_finite.S2048x1024 ![0, 0] x0 Cert.Pre_finite.Facts.slices_S2048x5632_S2048x1024_0_0)) (broadcastInDim Cert.Pre_finite.S2048x1024 ![] Cert.Pre_finite.Facts.bcast_S_S2048x1024 (constant (F := Ideal) Cert.Pre_finite.S_ .f32 0x7F800000#32)) = fun _ => 1#1 := h0
    have hf := fin_at _ _ hc i
    rw [hv] at hf
    rw [hx, ← hi]
    exact hf
  g i := by
    have l0 : (i 0).val < 2048 := (i 0).isLt
    have l1 : (i 1).val < 1024 := (i 1).isLt
    have hx : (inp x0 x1 x2 x3 x4 x5 x6 x7 x8).G (i 0).val (i 1).val = (x0 (ix2 ⟨(i 0).val, l0⟩ ⟨1024 + (i 1).val, by omega⟩)).toReal := dif_pos ⟨l0, by omega⟩
    have hi : Cert.ReferenceIdeal.Read.idx_main_v1 i = ix2 ⟨(i 0).val, l0⟩ ⟨1024 + (i 1).val, by omega⟩ := funext fun a => Fin.ext (match a with
      | ⟨0, _⟩ => (by first | rfl | (show 0 + (i 0).val = (i 0).val; omega))
      | ⟨1, _⟩ => (by first | rfl | (show 0 + (i 1).val = (i 1).val; omega) | (show (i 1).val + 1024 = 1024 + (i 1).val; omega)))
    have hv : extractStridedSlice Cert.Pre_finite.S2048x1024 ![0, 1024] x0 Cert.Pre_finite.Facts.slices_S2048x5632_S2048x1024_0_1024 i = x0 (Cert.ReferenceIdeal.Read.idx_main_v1 i) := Cert.ReferenceIdeal.Read.val_main_v1_apply (F := Ideal) x0 i
    have hc : cmpf .olt (Host.absf (extractStridedSlice Cert.Pre_finite.S2048x1024 ![0, 1024] x0 Cert.Pre_finite.Facts.slices_S2048x5632_S2048x1024_0_1024)) (broadcastInDim Cert.Pre_finite.S2048x1024 ![] Cert.Pre_finite.Facts.bcast_S_S2048x1024 (constant (F := Ideal) Cert.Pre_finite.S_ .f32 0x7F800000#32)) = fun _ => 1#1 := h1
    have hf := fin_at _ _ hc i
    rw [hv] at hf
    rw [hx, ← hi]
    exact hf
  dy i := by
    have l0 : (i 0).val < 2048 := (i 0).isLt
    have l1 : (i 1).val < 1024 := (i 1).isLt
    have hx : (inp x0 x1 x2 x3 x4 x5 x6 x7 x8).DY (i 0).val (i 1).val = (x1 (ix2 ⟨(i 0).val, l0⟩ ⟨(i 1).val, by omega⟩)).toReal := dif_pos ⟨l0, by omega⟩
    have hi : Cert.ReferenceIdeal.Read.idx_main_v2 i = ix2 ⟨(i 0).val, l0⟩ ⟨(i 1).val, by omega⟩ := funext fun a => Fin.ext (match a with
      | ⟨0, _⟩ => (by first | rfl | (show 0 + (i 0).val = (i 0).val; omega))
      | ⟨1, _⟩ => (by first | rfl | (show 0 + (i 1).val = (i 1).val; omega) | (show (i 1).val + 1024 = 1024 + (i 1).val; omega)))
    have hv : extractStridedSlice Cert.Pre_finite.S2048x1024 ![0, 0] x1 Cert.Pre_finite.Facts.slices_S2048x2048_S2048x1024_0_0 i = x1 (Cert.ReferenceIdeal.Read.idx_main_v2 i) := Cert.ReferenceIdeal.Read.val_main_v2_apply (F := Ideal) x1 i
    have hc : cmpf .olt (Host.absf (extractStridedSlice Cert.Pre_finite.S2048x1024 ![0, 0] x1 Cert.Pre_finite.Facts.slices_S2048x2048_S2048x1024_0_0)) (broadcastInDim Cert.Pre_finite.S2048x1024 ![] Cert.Pre_finite.Facts.bcast_S_S2048x1024 (constant (F := Ideal) Cert.Pre_finite.S_ .f32 0x7F800000#32)) = fun _ => 1#1 := h2
    have hf := fin_at _ _ hc i
    rw [hv] at hf
    rw [hx, ← hi]
    exact hf
  x2 i := by
    have hx : (inp x0 x1 x2 x3 x4 x5 x6 x7 x8).CW (i 0).val (i 1).val = (x2 i).toReal :=
      (dif_pos ⟨(i 0).isLt, (i 1).isLt⟩).trans (congrArg (fun j => (x2 j).toReal) (funext fun a => match a with
        | ⟨0, _⟩ => rfl
        | ⟨1, _⟩ => rfl))
    rw [hx]
    exact fin_at x2 _ h3 i
  x3 i := by
    have l0 : (i 0).val < 1 := (i 0).isLt
    have hx : (inp x0 x1 x2 x3 x4 x5 x6 x7 x8).CB (i 1).val = (x3 i).toReal :=
      (dif_pos ⟨by decide, (i 1).isLt⟩).trans (congrArg (fun j => (x3 j).toReal) (funext fun a => match a with
        | ⟨0, _⟩ => Fin.ext (by show 0 = (i 0).val; omega)
        | ⟨1, _⟩ => rfl))
    rw [hx]
    exact fin_at x3 _ h4 i
  x4 i := by
    have hx : (inp x0 x1 x2 x3 x4 x5 x6 x7 x8).WA (i 0).val (i 1).val (i 2).val = (x4 i).toReal :=
      (dif_pos ⟨(i 0).isLt, (i 1).isLt, (i 2).isLt⟩).trans (congrArg (fun j => (x4 j).toReal) (funext fun a => match a with
        | ⟨0, _⟩ => rfl
        | ⟨1, _⟩ => rfl
        | ⟨2, _⟩ => rfl))
    rw [hx]
    exact fin_at x4 _ h5 i
  x5 i := by
    have hx : (inp x0 x1 x2 x3 x4 x5 x6 x7 x8).BA (i 0).val (i 1).val = (x5 i).toReal :=
      (dif_pos ⟨(i 0).isLt, (i 1).isLt⟩).trans (congrArg (fun j => (x5 j).toReal) (funext fun a => match a with
        | ⟨0, _⟩ => rfl
        | ⟨1, _⟩ => rfl))
    rw [hx]
    exact fin_at x5 _ h6 i
  x6 i := by
    have hx : (inp x0 x1 x2 x3 x4 x5 x6 x7 x8).WX (i 0).val (i 1).val (i 2).val = (x6 i).toReal :=
      (dif_pos ⟨(i 0).isLt, (i 1).isLt, (i 2).isLt⟩).trans (congrArg (fun j => (x6 j).toReal) (funext fun a => match a with
        | ⟨0, _⟩ => rfl
        | ⟨1, _⟩ => rfl
        | ⟨2, _⟩ => rfl))
    rw [hx]
    exact fin_at x6 _ h7 i
  x7 i := by
    have hx : (inp x0 x1 x2 x3 x4 x5 x6 x7 x8).BX (i 0).val (i 1).val = (x7 i).toReal :=
      (dif_pos ⟨(i 0).isLt, (i 1).isLt⟩).trans (congrArg (fun j => (x7 j).toReal) (funext fun a => match a with
        | ⟨0, _⟩ => rfl
        | ⟨1, _⟩ => rfl))
    rw [hx]
    exact fin_at x7 _ h8 i
  x8 i := by
    have l0 : (i 0).val < 1 := (i 0).isLt
    have hx : (inp x0 x1 x2 x3 x4 x5 x6 x7 x8).AP (i 1).val = (x8 i).toReal :=
      (dif_pos ⟨by decide, (i 1).isLt⟩).trans (congrArg (fun j => (x8 j).toReal) (funext fun a => match a with
        | ⟨0, _⟩ => Fin.ext (by show 0 = (i 0).val; omega)
        | ⟨1, _⟩ => rfl))
    rw [hx]
    exact fin_at x8 _ h9 i

end R
-- ==== Proof.MmPleGate.lean ====
module

public import proofs.«01_k».proof.Defs
public import proofs.«01_k».proof.Proof.Gen.PleGateIdeal.Value
public import proofs.«01_k».proof.Proof.Gen.PleGateRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.PleGateIdeal.Hand

open Idealize.ShloMosaic Idealize.ShloMosaic.TcCoe Idealize.SL.Sem Cert.PleGateIdeal Cert.PleGateIdeal.Gen Cert.PleGateRefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- What the reference computes. -/
abbrev ref (x0 : FVec Ideal S2048x1024 .bf16) (x1 : FVec Ideal S2048x1024 .bf16) : FVec Ideal S1024x1024 .bf16 :=
  val_main_v6 (F := Ideal) x0 x1

/-- An entry of the tile that a grid point stores is the reference's entry at its place. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_cst, val_main_v2, val_main_v3, val_main_v4, val_main_v5, val_main_v6]
  refine Finset.sum_congr rfl fun k _ => (mul_comm _ _).trans ?_
  blk_point [iblk, V, idx t]

/-- The kernel's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with the same arrays. -/
theorem alg : Cert.algebraic_PleGateIdeal_PleGateRefIdeal := by
  pair_intro
  · run_from run_main m g
  · run_from Cert.PleGateRefIdeal.Value.run m' g'
    exact (final m c).symm

end Cert.PleGateIdeal.Hand

end
-- ==== Proof.MmPle.lean ====
module

public import proofs.«01_k».proof.Defs
public import proofs.«01_k».proof.Proof.Gen.PleIdeal.Value
public import proofs.«01_k».proof.Proof.Gen.PleRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.PleIdeal.Hand

open Idealize.ShloMosaic Idealize.ShloMosaic.TcCoe Idealize.SL.Sem Cert.PleIdeal Cert.PleIdeal.Gen Cert.PleRefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![(grid0.coords t 1).val, (grid0.coords t 0).val, 0] :=
  (by decide +kernel : ∀ t : Fin grid0.N, _)

/-- What the reference computes. -/
abbrev ref (x0 : FVec Ideal S2048x256 .f32) (x1 : FVec Ideal S2048x1024 .bf16) : FVec Ideal S8x256x128 .bf16 :=
  val_main_v7 (F := Ideal) x0 x1

/-- An entry of the tile that a grid point stores is the reference's entry at its place. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_cst, val_main_v1, val_main_v2, val_main_v3, val_main_v4, val_main_v5, val_main_v6, val_main_v7]
  refine Finset.sum_congr rfl fun k _ => (mul_comm _ _).trans ?_
  blk_point [iblk, V, idx t]

/-- The kernel's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with the same arrays. -/
theorem alg : Cert.algebraic_PleIdeal_PleRefIdeal := by
  pair_intro
  · run_from run_main m g
  · run_from Cert.PleRefIdeal.Value.run m' g'
    exact (final m c).symm

end Cert.PleIdeal.Hand

end
-- ==== Proof.MmWFf2.lean ====
module

public import proofs.«01_k».proof.Defs
public import proofs.«01_k».proof.Proof.Gen.WFf2Ideal.Value
public import proofs.«01_k».proof.Proof.Gen.WFf2RefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WFf2Ideal.Hand

open Idealize.ShloMosaic Idealize.ShloMosaic.TcCoe Idealize.SL.Sem Cert.WFf2Ideal Cert.WFf2Ideal.Gen Cert.WFf2RefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- What the reference computes. -/
abbrev ref (x0 : FVec Ideal S2048x4096 .bf16) (x1 : FVec Ideal S2048x1024 .bf16) : FVec Ideal S4096x1024 .bf16 :=
  val_main_v8 (F := Ideal) x0 x1

/-- An entry of the tile that a grid point stores is the reference's entry at its place. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_call0_cst, val_main_call0_v0, val_main_v1, val_main_v2, val_main_v3, val_main_cst, val_main_v4, val_main_v5, val_main_v6, val_main_v7, val_main_v8]
  blk_point [iblk, V, idx t]

/-- The kernel's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with the same arrays. -/
theorem alg : Cert.algebraic_WFf2Ideal_WFf2RefIdeal := by
  pair_intro
  · run_from run_main m g
  · run_from Cert.WFf2RefIdeal.Value.run m' g'
    exact (final m c).symm

end Cert.WFf2Ideal.Hand

end
-- ==== Proof.MmPre.lean ====
module

public import proofs.«01_k».proof.Defs
public import proofs.«01_k».proof.Proof.Gen.PreIdeal.Value
public import proofs.«01_k».proof.Proof.Gen.PreRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.PreIdeal.Hand

open Idealize.ShloMosaic Idealize.ShloMosaic.TcCoe Idealize.SL.Sem Cert.PreIdeal Cert.PreIdeal.Gen Cert.PreRefIdeal.Read

variable (m : (ℓ : Loc nD τ sig) → Buf (Elt Ideal) ℓ)

/-- Where each block stands at a grid point. -/
theorem idx : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] :=
  (by decide +kernel : ∀ t : Fin grid0.N, _)

/-- The derivative of the squared rectifier, written without a case. -/
theorem gate (S k z : EReal) : S * k * max z 0 = if 0 < z then S * (k * max z 0) else 0 := by
  split_ifs with h
  · rw [mul_assoc]
  · rw [max_eq_right (not_lt.1 h), mul_zero]

/-- What the reference computes. -/
abbrev ref (x0 : FVec Ideal S2048x1024 .bf16) (x1 : FVec Ideal S4096x1024 .bf16) (x2 : FVec Ideal S2048x4096 .bf16) : FVec Ideal S2048x4096 .bf16 :=
  val_main_v15 (F := Ideal) x0 x1 x2

/-- An entry of the tile that a grid point stores is the reference's entry at its place. -/
theorem point (c : Dev nD) (t : Fin cfg0.N) (y) : k0_pay1 (iblk m c 0 t) (iblk m c 1 t) (iblk m c 2 t) y
    = ref (m ((c : Thread nD τ).loc main_arg0)) (m ((c : Thread nD τ).loc main_arg1)) (m ((c : Thread nD τ).loc main_arg2)) (((cfg0.win 3).blk t).view.emb y) := by
  pointwise [k0_pay1, ref, val_main_v0, val_main_call0_cst, val_main_call0_v0, val_main_v1, val_main_cst, val_main_v2, val_main_v3, val_main_cst_0, val_main_v4, val_main_v5, val_main_cst_1, val_main_v6, val_main_v7, val_main_v8, val_main_v9, val_main_v10, val_main_v11, val_main_v12, val_main_cst_2, val_main_v13, val_main_v14, val_main_v15]
  refine Eq.trans ?_ (gate _ _ _)
  blk_point [iblk, V, idx t]

/-- The kernel's result is the reference's. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- Kernel and reference end with the same arrays. -/
theorem alg : Cert.algebraic_PreIdeal_PreRefIdeal := by
  pair_intro
  · run_from run_main m g
  · run_from Cert.PreRefIdeal.Value.run m' g'
    exact (final m c).symm

end Cert.PreIdeal.Hand

end
-- ==== Proof.MmWFf1.lean ====
module

public import proofs.«01_k».proof.Defs
public import proofs.«01_k».proof.Proof.Gen.WFf1Ideal.Value
public import proofs.«01_k».proof.Proof.Gen.WFf1RefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WFf1Ideal.Hand

open Idealize.ShloMosaic Idealize.ShloMosaic.TcCoe Idealize.SL.Sem Cert.WFf1Ideal Cert.WFf1Ideal.Gen Cert.WFf1RefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![(grid0.coords t 1).val, (grid0.coords t 0).val, 0] :=
  (by decide +kernel : ∀ t : Fin grid0.N, _)

/-- What the reference computes. -/
abbrev ref (x0 : FVec Ideal S2048x1024 .bf16) (x1 : FVec Ideal S2048x4096 .bf16) : FVec Ideal S8x1024x512 .bf16 :=
  val_main_v8 (F := Ideal) x0 x1

/-- An entry of the tile that a grid point stores is the reference's entry at its place. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_cst, val_main_v2, val_main_v3, val_main_v4, val_main_v5, val_main_v6, val_main_v7, val_main_v8]
  refine Finset.sum_congr rfl fun k _ => (mul_comm _ _).trans ?_
  blk_point [iblk, V, idx t]

/-- The kernel's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with the same arrays. -/
theorem alg : Cert.algebraic_WFf1Ideal_WFf1RefIdeal := by
  pair_intro
  · run_from run_main m g
  · run_from Cert.WFf1RefIdeal.Value.run m' g'
    exact (final m c).symm

end Cert.WFf1Ideal.Hand

end
-- ==== Proof.MmWOut.lean ====
module

public import proofs.«01_k».proof.Defs
public import proofs.«01_k».proof.Proof.Gen.WOutIdeal.Value
public import proofs.«01_k».proof.Proof.Gen.WOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WOutIdeal.Hand

open Idealize.ShloMosaic Idealize.ShloMosaic.TcCoe Idealize.SL.Sem Cert.WOutIdeal Cert.WOutIdeal.Gen Cert.WOutRefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- What the reference computes. -/
abbrev ref (x0 : FVec Ideal S2048x2048 .bf16) (x1 : FVec Ideal S2048x1024 .bf16) : FVec Ideal S2048x1024 .bf16 :=
  val_main_v6 (F := Ideal) x0 x1

/-- An entry of the tile that a grid point stores is the reference's entry at its place. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_cst, val_main_v2, val_main_v3, val_main_v4, val_main_v5, val_main_v6]
  refine Finset.sum_congr rfl fun k _ => (mul_comm _ _).trans ?_
  blk_point [iblk, V, idx t]

/-- The kernel's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with the same arrays. -/
theorem alg : Cert.algebraic_WOutIdeal_WOutRefIdeal := by
  pair_intro
  · run_from run_main m g
  · run_from Cert.WOutRefIdeal.Value.run m' g'
    exact (final m c).symm

end Cert.WOutIdeal.Hand

end
-- ==== Proof.MmYcat.lean ====
module

public import proofs.«01_k».proof.Defs
public import proofs.«01_k».proof.Proof.Gen.YcatIdeal.Value
public import proofs.«01_k».proof.Proof.Gen.YcatRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.YcatIdeal.Hand

open Idealize.ShloMosaic Idealize.ShloMosaic.TcCoe Idealize.SL.Sem Cert.YcatIdeal Cert.YcatIdeal.Gen Cert.YcatRefIdeal.Read

variable (m : (ℓ : Loc nD τ sig) → Buf (Elt Ideal) ℓ)

/-- Where each block stands at a grid point. -/
theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- What the reference computes. -/
abbrev ref (x0 : FVec Ideal S2048x1024 .bf16) (x1 : FVec Ideal S2048x1024 .bf16) : FVec Ideal S2048x2048 .f32 :=
  val_main_v4 (F := Ideal) x0 x1

/-- An entry of the tile that a grid point stores is the reference's entry at its place. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_cst, val_main_v0, val_main_v1, val_main_v2, val_main_v3, val_main_v4]
  blk_point [iblk, V, idx t]

/-- The kernel's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with the same arrays. -/
theorem alg : Cert.algebraic_YcatIdeal_YcatRefIdeal := by
  pair_intro
  · run_from run_main m g
  · run_from Cert.YcatRefIdeal.Value.run m' g'
    exact (final m c).symm

end Cert.YcatIdeal.Hand

end
-- ==== Proof.MmInProj.lean ====
module

public import proofs.«01_k».proof.Defs
public import proofs.«01_k».proof.Proof.Gen.InProjIdeal.Value
public import proofs.«01_k».proof.Proof.Gen.InProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Hand

open Idealize.ShloMosaic Idealize.ShloMosaic.TcCoe Idealize.SL.Sem Cert.InProjIdeal Cert.InProjIdeal.Gen Cert.InProjRefIdeal.Read

variable (m : (ℓ : Loc nD τ sig) → Buf (Elt Ideal) ℓ)

/-- Where each block stands at a grid point. -/
theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- An update from the corner on, at an index. -/
theorem atCorner {α : Type} (x : Shape.Idx S5632x1024 → α) (u : Shape.Idx S5136x1024 → α) (s : Fin 2 → Int)
    (h : Shape.Slices S5632x1024 (fun _ => 0) S5136x1024) (hs : ∀ k, s k = 0) (i : Shape.Idx S5632x1024) :
    Host.dynamicUpdateSlice x u s h i = if h : (i 0).val < 5136 then u (ix2 ⟨i 0, h⟩ (i 1)) else x i := by
  obtain rfl : s = fun _ => 0 := funext hs
  have z : ∀ a, Host.clampedStart S5632x1024 S5136x1024 h.1 (fun _ => 0) a = 0 := fun a => by
    simp [Host.clampedStart]
  pointwise
  simp [z]

/-- The transposed weight under rows of zeros, at an index. -/
theorem wt (c : Dev nD) (i : Shape.Idx S5632x1024) : (V m c main_v3 i : EReal)
    = if h : (i 0).val < 5136 then m ((c : Thread nD τ).loc main_arg1) (ix2 (i 1) ⟨i 0, h⟩) else (0 : EReal) := by
  entry_read
  refine (atCorner _ _ _ _ (fun k => by fin_cases k <;> rfl) i).trans ?_
  pointwise

/-- What the reference computes. -/
abbrev ref (x0 : FVec Ideal S2048x1024 .f32) (x1 : FVec Ideal S1024x5136 .bf16) : FVec Ideal S2048x5632 .f32 :=
  val_main_v3 (F := Ideal) x0 x1

/-- An entry of the tile that a grid point stores is the reference's entry at its place. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_cst, val_main_v2, val_main_v3]
  split_ifs with h
  · refine Finset.sum_congr rfl fun k _ => congrArg₂ (· * ·) ?_ ?_
    · blk_point [iblk, V, idx t]
    · refine (wt m c (((cfg0.win 1).blk t).view.emb (ix2 (y 1) k))).trans ((dif_pos ?_).trans ?_)
      · blk_simp [idx t] at h ⊢
        exact h
      · blk_ext [idx t]
  · refine Finset.sum_eq_zero fun k _ => (congrArg _ ((wt m c (((cfg0.win 1).blk t).view.emb (ix2 (y 1) k))).trans (dif_neg ?_))).trans (mul_zero _)
    blk_simp [idx t] at h ⊢
    exact h

/-- The kernel's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with the same arrays. -/
theorem alg : Cert.algebraic_InProjIdeal_InProjRefIdeal := by
  pair_intro
  · run_from run_main m g
  · run_from Cert.InProjRefIdeal.Value.run m' g'
    exact (final m c).symm

end Cert.InProjIdeal.Hand

end
-- ==== Proof.MmDx.lean ====
module

public import proofs.«01_k».proof.Defs
public import proofs.«01_k».proof.Proof.Gen.DxIdeal.Value
public import proofs.«01_k».proof.Proof.Gen.DxRefIdeal.Read
public import proofs.«01_k».proof.Proof.MmInProj
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

namespace Cert.DxIdeal.Hand

open Idealize.ShloMosaic Idealize.ShloMosaic.TcCoe Idealize.SL.Sem Cert.DxIdeal Cert.DxIdeal.Gen Cert.DxRefIdeal.Read

variable (m : (ℓ : Loc nD τ sig) → Buf (Elt Ideal) ℓ)

/-- Where each block stands at a grid point. -/
theorem idx : ∀ t : Fin cfg0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![0, 0] ∧ win0_6.index t = ![(grid0.coords t 0).val, 0] ∧ win0_7.index t = ![(grid0.coords t 0).val, 0] :=
  (by decide +kernel : ∀ t : Fin grid0.N, _)

/-- The transposed weight under rows of zeros, at an index. -/
theorem wt (c : Dev nD) (i : Shape.Idx S5632x1024) : (V m c main_v2 i : EReal)
    = if h : (i 0).val < 5136 then m ((c : Thread nD τ).loc main_arg5) (ix2 (i 1) ⟨i 0, h⟩) else (0 : EReal) := by
  entry_read
  refine (Cert.InProjIdeal.Hand.atCorner _ _ _ _ (fun k => by fin_cases k <;> rfl) i).trans ?_
  pointwise

/-- The same through the one block that holds the weight. -/
theorem w5 (c : Dev nD) (t : Fin cfg0.N) (n : Fin 5632) (j : Fin 1024) : (iblk m c 5 t (ix2 n j) : EReal)
    = if h : n.val < 5136 then m ((c : Thread nD τ).loc main_arg5) (ix2 j ⟨n, h⟩) else (0 : EReal) := by
  refine (wt m c (((cfg0.win 5).blk t).view.emb (ix2 n j))).trans ?_
  by_cases h : n.val < 5136
  · rw [dif_pos h]
    refine (dif_pos ?_).trans ?_
    · blk_simp [idx t]
      exact h
    · blk_ext [idx t]
  · rw [dif_neg h]
    refine dif_neg ?_
    blk_simp [idx t]
    exact h

/-- A function on 5136 columns, zero beyond. -/
def ext (T : Fin 5136 → EReal) (n : ℕ) : EReal := if h : n < 5136 then T ⟨n, h⟩ else 0

theorem pieces (T : Fin 5136 → EReal) : ∑ k : Fin 1024, ext T k + ∑ k : Fin 1024, ext T (1024 + k)
    + ∑ k : Fin 1024, ext T (2048 + k) + ∑ k : Fin 2048, ext T (3072 + k) + ∑ k : Fin 128, ext T (5120 + k) = ∑ k, T k := by
  have e : ∑ k, T k = ∑ k : Fin 5136, ext T k := Finset.sum_congr rfl fun k _ => by rw [ext, dif_pos k.isLt]
  have z : ∑ k ∈ Finset.range 5248, ext T k = ∑ k ∈ Finset.range 5136, ext T k := by
    rw [show 5248 = 5136 + 112 from rfl, Finset.sum_range_add]
    exact (congrArg _ (Finset.sum_eq_zero fun k _ => dif_neg (by omega))).trans (add_zero _)
  rw [e, Fin.sum_univ_eq_sum_range (ext T) 5136, ← z, show 5248 = 1024 + 1024 + 1024 + 2048 + 128 from rfl]
  rw [Finset.sum_range_add, Finset.sum_range_add, Finset.sum_range_add, Finset.sum_range_add]
  simp only [Nat.reduceAdd, ← Fin.sum_univ_eq_sum_range]

/-- What the reference computes. -/
def ref (x0 : FVec Ideal S2048x1024 .bf16) (x1 : FVec Ideal S2048x1024 .bf16) (x2 : FVec Ideal S2048x1024 .bf16) (x3 : FVec Ideal S2048x2048 .bf16) (x4 : FVec Ideal S2048x128 .bf16) (x5 : FVec Ideal S1024x5136 .bf16) (x6 : FVec Ideal S2048x1024 .f32) : FVec Ideal S2048x1024 .f32 :=
  val_main_v15 (F := Ideal) x0 x1 x2 x3 x4 x5 x6

/-- An entry of the tile that a grid point stores is the reference's entry at its place. -/
theorem point (c : Dev nD) (t : Fin cfg0.N) (y) : k0_pay1 (iblk m c 0 t) (View.ld (iblk m c 5 t) r0_1) (iblk m c 1 t) (View.ld (iblk m c 5 t) r0_2) (iblk m c 2 t) (View.ld (iblk m c 5 t) r0_3) (iblk m c 3 t) (View.ld (iblk m c 5 t) r0_5) (iblk m c 4 t) (View.ld (iblk m c 5 t) r0_7) (iblk m c 6 t) y
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  pointwise [k0_pay1, ref, val_main_v0, val_main_v1, val_main_v2, val_main_v3, val_main_v4, val_main_v5, val_main_v6, val_main_cst, val_main_v7, val_main_cst_0, val_main_v8, val_main_v9, val_main_v10, val_main_v11, val_main_v12, val_main_cst_1, val_main_v13, val_main_v14, val_main_v15]
  refine congrArg₂ (· + ·) ?_ ?_
  · refine Eq.trans ?_ (pieces _)
    refine congrArg₂ (· + ·) (congrArg₂ (· + ·) (congrArg₂ (· + ·) (congrArg₂ (· + ·) ?_ ?_) ?_) ?_) ?_ <;>
      refine Finset.sum_congr rfl fun k _ => ?_ <;> have hk := k.isLt
    · rw [ext, dif_pos (by omega)]
      refine congrArg₂ (· * ·) ?_ ((w5 m c t _ _).trans ((dif_pos ?_).trans ?_))
      · dsimp only
        split_ifs <;> first | (exfalso; omega) | blk_point [iblk, V, idx t]
      · first | omega | (dsimp only; omega)
      · blk_ext [idx t]
    · rw [ext, dif_pos (by omega)]
      refine congrArg₂ (· * ·) ?_ ((w5 m c t _ _).trans ((dif_pos ?_).trans ?_))
      · dsimp only
        split_ifs <;> first | (exfalso; omega) | blk_point [iblk, V, idx t]
      · first | omega | (dsimp only; omega)
      · blk_ext [idx t]
    · rw [ext, dif_pos (by omega)]
      refine congrArg₂ (· * ·) ?_ ((w5 m c t _ _).trans ((dif_pos ?_).trans ?_))
      · dsimp only
        split_ifs <;> first | (exfalso; omega) | blk_point [iblk, V, idx t]
      · first | omega | (dsimp only; omega)
      · blk_ext [idx t]
    · rw [ext, dif_pos (by omega)]
      refine congrArg₂ (· * ·) ?_ ((w5 m c t _ _).trans ((dif_pos ?_).trans ?_))
      · dsimp only
        split_ifs <;> first | (exfalso; omega) | blk_point [iblk, V, idx t]
      · first | omega | (dsimp only; omega)
      · blk_ext [idx t]
    · by_cases h16 : k.val < 16
      · rw [ext, dif_pos (by omega)]
        refine congrArg₂ (· * ·) ?_ ((w5 m c t _ _).trans ((dif_pos ?_).trans ?_))
        · dsimp only
          split_ifs <;> first | (exfalso; omega) | blk_point [iblk, V, idx t]
        · first | omega | (dsimp only; omega)
        · blk_ext [idx t]
      · rw [ext, dif_neg (by omega)]
        refine (congrArg _ ((w5 m c t _ _).trans (dif_neg ?_))).trans (mul_zero _)
        first | omega | (dsimp only; omega)
  · blk_point [iblk, V, idx t]

/-- The kernel's result is the reference's. -/
theorem final (c : Dev nD) : (dats m 0 c).arrAt 7 (cfgs 0).N
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]; frame_out
  exact point m c t y

end Cert.DxIdeal.Hand

end
-- ==== Proof.MmDxAlg.lean ====
module

public import proofs.«01_k».proof.Defs
public import proofs.«01_k».proof.Proof.Gen.DxIdeal.Value
public import proofs.«01_k».proof.Proof.Gen.DxRefIdeal.Read
public import proofs.«01_k».proof.Proof.MmDx
public import Idealize.ShloMosaic.Lib.Pipeline.ValueKit
public import Idealize.ShloMosaic.Lib.Pointwise
public import Idealize.ShloMosaic.Lib.Claim

@[expose] public section

set_option maxRecDepth 16384
set_option maxHeartbeats 200000

noncomputable section

namespace Cert.DxIdeal.Hand

open Idealize.ShloMosaic Idealize.ShloMosaic.TcCoe Idealize.SL.Sem Cert.DxIdeal Cert.DxIdeal.Gen Cert.DxRefIdeal.Read

variable (m : (ℓ : Loc nD τ sig) → Buf (Elt Ideal) ℓ)

/-- Kernel and reference end with the same arrays. -/
theorem alg : Cert.algebraic_DxIdeal_DxRefIdeal := by
  pair_intro
  · run_from run_main m g
  · run_from Cert.DxRefIdeal.Value.run m' g'
    refine (val_main_v15_eq _ _ _ _ _ _ _).trans ?_
    rw [(hagree c).2.2.2.2.1]
    exact (final m c).symm

end Cert.DxIdeal.Hand

end
-- ==== Proof.MmFf1.lean ====
module

public import proofs.«01_k».proof.Defs
public import proofs.«01_k».proof.Proof.Gen.Ff1Ideal.Value
public import proofs.«01_k».proof.Proof.Gen.Ff1RefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Ff1Ideal.Hand

open Idealize.ShloMosaic Idealize.ShloMosaic.TcCoe Idealize.SL.Sem Cert.Ff1Ideal Cert.Ff1Ideal.Gen Cert.Ff1RefIdeal.Read

variable (m : (ℓ : Loc nD τ sig) → Buf (Elt Ideal) ℓ)

/-- Where each block stands at a grid point. -/
theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- What the reference computes. -/
abbrev ref (x0 : FVec Ideal S2048x1024 .bf16) (x1 : FVec Ideal S1024x4096 .bf16) : FVec Ideal S2048x4096 .bf16 :=
  val_main_v3 (F := Ideal) x0 x1

/-- An entry of the tile that a grid point stores is the reference's entry at its place. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3]
  blk_point [iblk, V, idx t]

/-- The kernel's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with the same arrays. -/
theorem alg : Cert.algebraic_Ff1Ideal_Ff1RefIdeal := by
  pair_intro
  · run_from run_main m g
  · run_from Cert.Ff1RefIdeal.Value.run m' g'
    exact (final m c).symm

end Cert.Ff1Ideal.Hand

end
-- ==== Proof.MmOutProj.lean ====
module

public import proofs.«01_k».proof.Defs
public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Hand

open Idealize.ShloMosaic Idealize.ShloMosaic.TcCoe Idealize.SL.Sem Cert.OutProjIdeal Cert.OutProjIdeal.Gen Cert.OutProjRefIdeal.Read

variable (m : (ℓ : Loc nD τ sig) → Buf (Elt Ideal) ℓ)

/-- Where each block stands at a grid point. -/
theorem idx : ∀ t : Fin cfg0.N, win0_0.index t = ![(grid0.coords t 0).val, 0] ∧ win0_1.index t = ![0, 0] ∧ win0_2.index t = ![(grid0.coords t 0).val, 0] ∧ win0_3.index t = ![0, 0] ∧ win0_4.index t = ![0, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- What the reference computes. -/
abbrev ref_5 (x0 : FVec Ideal S2048x2048 .bf16) (x1 : FVec Ideal S2048x1024 .bf16) : FVec Ideal S2048x1024 .f32 :=
  val_main_v2 (F := Ideal) x0 x1

/-- An entry of the tile that a grid point stores is the reference's entry at its place. -/
theorem point_5 (c : Dev nD) (t : Fin cfg0.N) (y) : k0_pay1 (iblk m c 0 t) (iblk m c 1 t) y
    = ref_5 (m ((c : Thread nD τ).loc main_arg0)) (m ((c : Thread nD τ).loc main_arg1)) (((cfg0.win 5).blk t).view.emb y) := by
  pointwise [k0_pay1, k0_pay2, k0_pay3, ref_5, val_main_v0, val_main_v1, val_main_v2, val_main_cst, val_main_v3, val_main_v4, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30]
  blk_point [iblk, V, idx t]

/-- The kernel's result is the reference's. -/
theorem final_5 (c : Dev nD) : (dats m 0 c).arrAt 5 (cfgs 0).N
    = ref_5 (m ((c : Thread nD τ).loc main_arg0)) (m ((c : Thread nD τ).loc main_arg1)) := by
  refine (dats m 0 c).arrAt_eq_of_covers 5 _ (by decide +kernel) fun t _ y => ?_
  blk_simp
  rw [after0_5]; frame_out
  exact point_5 m c t y

/-- What the reference computes. -/
abbrev ref_6 (x0 : FVec Ideal S2048x2048 .bf16) (x1 : FVec Ideal S2048x1024 .bf16) (x2 : FVec Ideal S2048x1024 .f32) (x3 : FVec Ideal S1x1024 .f32) (x4 : FVec Ideal S1x1024 .f32) : FVec Ideal S2048x1024 .f32 :=
  val_main_v29 (F := Ideal) x0 x1 x2 x3 x4

/-- An entry of the tile that a grid point stores is the reference's entry at its place. -/
theorem point_6 (c : Dev nD) (t : Fin cfg0.N) (y) : k0_pay2 (iblk m c 0 t) (iblk m c 1 t) (iblk m c 2 t) (iblk m c 3 t) (iblk m c 4 t) y
    = ref_6 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay2, k0_pay3, ref_6, val_main_v0, val_main_v1, val_main_v2, val_main_cst, val_main_v3, val_main_v4, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30]
  blk_point [iblk, V, idx t]

/-- The kernel's result is the reference's. -/
theorem final_6 (c : Dev nD) : (dats m 0 c).arrAt 6 (cfgs 0).N
    = ref_6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_6 m c t y

/-- What the reference computes. -/
abbrev ref_7 (x0 : FVec Ideal S2048x2048 .bf16) (x1 : FVec Ideal S2048x1024 .bf16) (x2 : FVec Ideal S2048x1024 .f32) (x3 : FVec Ideal S1x1024 .f32) (x4 : FVec Ideal S1x1024 .f32) : FVec Ideal S2048x1024 .bf16 :=
  val_main_v30 (F := Ideal) x0 x1 x2 x3 x4

/-- An entry of the tile that a grid point stores is the reference's entry at its place. -/
theorem point_7 (c : Dev nD) (t : Fin cfg0.N) (y) : k0_pay3 (iblk m c 0 t) (iblk m c 1 t) (iblk m c 2 t) (iblk m c 3 t) (iblk m c 4 t) y
    = ref_7 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, k0_pay2, k0_pay3, ref_7, val_main_v0, val_main_v1, val_main_v2, val_main_cst, val_main_v3, val_main_v4, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30]
  blk_point [iblk, V, idx t]

/-- The kernel's result is the reference's. -/
theorem final_7 (c : Dev nD) : (dats m 0 c).arrAt 7 (cfgs 0).N
    = ref_7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact point_7 m c t y

/-- Kernel and reference end with the same arrays. -/
theorem alg : Cert.algebraic_OutProjIdeal_OutProjRefIdeal := by
  pair_intro
  · run_from run_main m g
  · run_from Cert.OutProjRefIdeal.Value.run m' g'
    · exact (final_5 m c).symm
    · exact (final_6 m c).symm
    · exact (final_7 m c).symm

end Cert.OutProjIdeal.Hand

end
-- ==== Proof.MmFfTwo.lean ====
module

public import proofs.«01_k».proof.Defs
public import proofs.«01_k».proof.Proof.Gen.FfTwoIdeal.Value
public import proofs.«01_k».proof.Proof.Gen.FfTwoRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfTwoIdeal.Hand

open Idealize.ShloMosaic Idealize.ShloMosaic.TcCoe Idealize.SL.Sem Cert.FfTwoIdeal Cert.FfTwoIdeal.Gen Cert.FfTwoRefIdeal.Read

variable (m : (ℓ : Loc nD τ sig) → Buf (Elt Ideal) ℓ)

/-- Where each block stands at a grid point. -/
theorem idx : ∀ t : Fin cfg0.N, win0_0.index t = ![(grid0.coords t 0).val, 0] ∧ win0_1.index t = ![0, 0] ∧ win0_2.index t = ![(grid0.coords t 0).val, 0] ∧ win0_3.index t = ![0, 0] ∧ win0_4.index t = ![0, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- What the reference computes. -/
abbrev ref_5 (x0 : FVec Ideal S2048x4096 .bf16) (x1 : FVec Ideal S4096x1024 .bf16) : FVec Ideal S2048x1024 .f32 :=
  val_main_v4 (F := Ideal) x0 x1

/-- An entry of the tile that a grid point stores is the reference's entry at its place. -/
theorem point_5 (c : Dev nD) (t : Fin cfg0.N) (y) : k0_pay1 (iblk m c 0 t) (iblk m c 1 t) y
    = ref_5 (m ((c : Thread nD τ).loc main_arg0)) (m ((c : Thread nD τ).loc main_arg1)) (((cfg0.win 5).blk t).view.emb y) := by
  pointwise [k0_pay1, k0_pay2, k0_pay3, ref_5, val_main_v0, val_main_call0_cst, val_main_call0_v0, val_main_v1, val_main_v2, val_main_v3, val_main_v4, val_main_cst, val_main_v5, val_main_v6, val_main_v7, val_main_v8, val_main_v9, val_main_cst_0, val_main_v10, val_main_v11, val_main_cst_1, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29, val_main_v30, val_main_v31, val_main_v32]
  blk_point [iblk, V, idx t]

/-- The kernel's result is the reference's. -/
theorem final_5 (c : Dev nD) : (dats m 0 c).arrAt 5 (cfgs 0).N
    = ref_5 (m ((c : Thread nD τ).loc main_arg0)) (m ((c : Thread nD τ).loc main_arg1)) := by
  refine (dats m 0 c).arrAt_eq_of_covers 5 _ (by decide +kernel) fun t _ y => ?_
  blk_simp
  rw [after0_5]; frame_out
  exact point_5 m c t y

/-- What the reference computes. -/
abbrev ref_6 (x0 : FVec Ideal S2048x4096 .bf16) (x1 : FVec Ideal S4096x1024 .bf16) (x2 : FVec Ideal S2048x1024 .f32) (x3 : FVec Ideal S1x1024 .f32) (x4 : FVec Ideal S1x1024 .f32) : FVec Ideal S2048x1024 .f32 :=
  val_main_v31 (F := Ideal) x0 x1 x2 x3 x4

/-- An entry of the tile that a grid point stores is the reference's entry at its place. -/
theorem point_6 (c : Dev nD) (t : Fin cfg0.N) (y) : k0_pay2 (iblk m c 0 t) (iblk m c 1 t) (iblk m c 2 t) (iblk m c 3 t) (iblk m c 4 t) y
    = ref_6 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay2, k0_pay3, ref_6, val_main_v0, val_main_call0_cst, val_main_call0_v0, val_main_v1, val_main_v2, val_main_v3, val_main_v4, val_main_cst, val_main_v5, val_main_v6, val_main_v7, val_main_v8, val_main_v9, val_main_cst_0, val_main_v10, val_main_v11, val_main_cst_1, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29, val_main_v30, val_main_v31, val_main_v32]
  blk_point [iblk, V, idx t]

/-- The kernel's result is the reference's. -/
theorem final_6 (c : Dev nD) : (dats m 0 c).arrAt 6 (cfgs 0).N
    = ref_6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_6 m c t y

/-- What the reference computes. -/
abbrev ref_7 (x0 : FVec Ideal S2048x4096 .bf16) (x1 : FVec Ideal S4096x1024 .bf16) (x2 : FVec Ideal S2048x1024 .f32) (x3 : FVec Ideal S1x1024 .f32) (x4 : FVec Ideal S1x1024 .f32) : FVec Ideal S2048x1024 .bf16 :=
  val_main_v32 (F := Ideal) x0 x1 x2 x3 x4

/-- An entry of the tile that a grid point stores is the reference's entry at its place. -/
theorem point_7 (c : Dev nD) (t : Fin cfg0.N) (y) : k0_pay3 (iblk m c 0 t) (iblk m c 1 t) (iblk m c 2 t) (iblk m c 3 t) (iblk m c 4 t) y
    = ref_7 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, k0_pay2, k0_pay3, ref_7, val_main_v0, val_main_call0_cst, val_main_call0_v0, val_main_v1, val_main_v2, val_main_v3, val_main_v4, val_main_cst, val_main_v5, val_main_v6, val_main_v7, val_main_v8, val_main_v9, val_main_cst_0, val_main_v10, val_main_v11, val_main_cst_1, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29, val_main_v30, val_main_v31, val_main_v32]
  blk_point [iblk, V, idx t]

/-- The kernel's result is the reference's. -/
theorem final_7 (c : Dev nD) : (dats m 0 c).arrAt 7 (cfgs 0).N
    = ref_7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact point_7 m c t y

/-- Kernel and reference end with the same arrays. -/
theorem alg : Cert.algebraic_FfTwoIdeal_FfTwoRefIdeal := by
  pair_intro
  · run_from run_main m g
  · run_from Cert.FfTwoRefIdeal.Value.run m' g'
    · exact (final_5 m c).symm
    · obtain ⟨h0, h1, h2, h3, h4⟩ := hagree c
      rw [val_main_v31_eq, h0, h1, h2, h3, h4]
      exact (final_6 m c).symm
    · obtain ⟨h0, h1, h2, h3, h4⟩ := hagree c
      rw [val_main_v32_eq, h0, h1, h2, h3, h4]
      exact (final_7 m c).symm

end Cert.FfTwoIdeal.Hand

end
-- ==== Proof.MmWInG.lean ====
module

public import proofs.«01_k».proof.Defs
public import proofs.«01_k».proof.Proof.Gen.WInGIdeal.Value
public import proofs.«01_k».proof.Proof.Gen.WInGRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WInGIdeal.Hand

open Idealize.ShloMosaic Idealize.ShloMosaic.TcCoe Idealize.SL.Sem Cert.WInGIdeal Cert.WInGIdeal.Gen Cert.WInGRefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![2 + (grid0.coords t 0).val, (grid0.coords t 1).val] ∧ (grid0.coords t 0).val < 2 :=
  (by decide +kernel : ∀ t : Fin grid0.N, _)

/-- What the reference computes. -/
abbrev ref (x0 : FVec Ideal S2048x1024 .bf16) (x1 : FVec Ideal S2048x1024 .f32) (x2 : FVec Ideal S5136x1024 .bf16) : FVec Ideal S5136x1024 .bf16 :=
  val_main_v9 (F := Ideal) x0 x1 x2

/-- The result array starts as the array that the gradient is written into. -/
theorem entry (c : Dev nD) : V m c main_v1 = m ((c : Thread nD τ).loc main_arg2) := by
  unfold V; after_results; try rfl

/-- Outside of its rows the reference keeps the array that it is given. -/
theorem rest (x0 : FVec Ideal S2048x1024 .bf16) (x1 : FVec Ideal S2048x1024 .f32) (x2 : FVec Ideal S5136x1024 .bf16) (i : S5136x1024.Idx)
    (h : ¬ (1024 ≤ (i 0 : ℕ) ∧ (i 0 : ℕ) < 2048)) : x2 i = ref x0 x1 x2 i := by
  have h5 : (i 0 : ℕ) < 5136 := (i 0).isLt
  pointwise [ref, val_main_v9, val_main_v7, val_main_v8]
  split_ifs
  all_goals first | omega | blk_ext

/-- Within its rows the reference is the product. -/
theorem part (x0 : FVec Ideal S2048x1024 .bf16) (x1 : FVec Ideal S2048x1024 .f32) (x2 : FVec Ideal S5136x1024 .bf16) (i : S5136x1024.Idx)
    (k : Fin 1024) (hi : (i 0 : ℕ) = 1024 + k.val) : ref x0 x1 x2 i = ∑ r : Fin 2048, x0 (ix2 r k) * x1 (ix2 r (i 1)) := by
  pointwise [ref, val_main_v0, val_main_v1, val_main_cst, val_main_v2, val_main_v3, val_main_v4, val_main_v5, val_main_v6, val_main_v7, val_main_v8, val_main_v9]
  rw [dif_neg (by omega), dif_pos (by omega)]
  blk_point []

/-- An entry of the tile that a grid point stores is the reference's entry at its place. -/
theorem point (c : Dev nD) (t : Fin cfg0.N) (y : ((cfg0.win 2).xblock (cfg0.grid.coords t)).Idx) :
    k0_pay1 (iblk m c 0 t) (iblk m c 1 t) ((cfg0.win 2).xinj (cfg0.grid.coords t) y)
    = ref (m ((c : Thread nD τ).loc main_arg0)) (m ((c : Thread nD τ).loc main_arg1)) (m ((c : Thread nD τ).loc main_arg2)) (((cfg0.win 2).blk t).view.emb y) := by
  have h4 := (idx t).2.2.2
  have hy : (y 0 : ℕ) < 512 := ((cfg0.win 2).xinj (cfg0.grid.coords t) y 0).isLt
  refine Eq.trans ?_ (part _ _ _ _ ⟨(grid0.coords t 0).val * 512 + (y 0 : ℕ), by omega⟩ ?_).symm
  · pointwise [k0_pay1]
    refine Finset.sum_congr rfl fun k _ => ?_
    blk_point [iblk, V, idx t]
  · blk_simp [idx t]
    dsimp only
    omega

/-- The kernel's result is the reference's on the rows of the product and the given array elsewhere. -/
theorem rows (c : Dev nD) : (dats m 0 c).arrAt 2 (cfgs 0).N
    = fun i => if 1024 ≤ (i 0 : ℕ) ∧ (i 0 : ℕ) < 2048
        then ref (m ((c : Thread nD τ).loc main_arg0)) (m ((c : Thread nD τ).loc main_arg1)) (m ((c : Thread nD τ).loc main_arg2)) i
        else V m c main_v1 i := by
  refine (dats m 0 c).arrAt_eq_of_coversWhere 2 _ (fun β => 2 ≤ β 0 ∧ β 0 < 4) (by decide +kernel) (fun t _ y => ?_) (fun j => ?_)
  · blk_simp
    rw [after0_2]; unfold outsAt0 out0_A_2; frame_out
    exact point m c t y
  · blk_simp [Pipeline.Window.cell_apply]
    omega

/-- The kernel's result is the reference's. -/
theorem final (c : Dev nD) : (dats m 0 c).arrAt 2 (cfgs 0).N
    = ref (m ((c : Thread nD τ).loc main_arg0)) (m ((c : Thread nD τ).loc main_arg1)) (m ((c : Thread nD τ).loc main_arg2)) := by
  rw [rows]; funext i
  split_ifs with h
  · rfl
  · rw [entry]; exact rest _ _ _ i h

/-- Kernel and reference end with the same arrays. -/
theorem alg : Cert.algebraic_WInGIdeal_WInGRefIdeal := by
  pair_intro
  · run_from run_main m g
  · run_from Cert.WInGRefIdeal.Value.run m' g'
    refine (val_main_v9_eq _ _ _).trans ?_
    rw [(hagree c).2.2]
    exact (final m c).symm

end Cert.WInGIdeal.Hand

end
-- ==== Proof.MmWInZ.lean ====
module

public import proofs.«01_k».proof.Defs
public import proofs.«01_k».proof.Proof.Gen.WInZIdeal.Value
public import proofs.«01_k».proof.Proof.Gen.WInZRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WInZIdeal.Hand

open Idealize.ShloMosaic Idealize.ShloMosaic.TcCoe Idealize.SL.Sem Cert.WInZIdeal Cert.WInZIdeal.Gen Cert.WInZRefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![4 + (grid0.coords t 0).val, (grid0.coords t 1).val] ∧ (grid0.coords t 0).val < 2 :=
  (by decide +kernel : ∀ t : Fin grid0.N, _)

/-- What the reference computes. -/
abbrev ref (x0 : FVec Ideal S2048x1024 .bf16) (x1 : FVec Ideal S2048x1024 .f32) (x2 : FVec Ideal S5136x1024 .bf16) : FVec Ideal S5136x1024 .bf16 :=
  val_main_v9 (F := Ideal) x0 x1 x2

/-- The result array starts as the array that the gradient is written into. -/
theorem entry (c : Dev nD) : V m c main_v1 = m ((c : Thread nD τ).loc main_arg2) := by
  unfold V; after_results; try rfl

/-- Outside of its rows the reference keeps the array that it is given. -/
theorem rest (x0 : FVec Ideal S2048x1024 .bf16) (x1 : FVec Ideal S2048x1024 .f32) (x2 : FVec Ideal S5136x1024 .bf16) (i : S5136x1024.Idx)
    (h : ¬ (2048 ≤ (i 0 : ℕ) ∧ (i 0 : ℕ) < 3072)) : x2 i = ref x0 x1 x2 i := by
  have h5 : (i 0 : ℕ) < 5136 := (i 0).isLt
  pointwise [ref, val_main_v9, val_main_v7, val_main_v8]
  split_ifs
  all_goals first | omega | blk_ext

/-- Within its rows the reference is the product. -/
theorem part (x0 : FVec Ideal S2048x1024 .bf16) (x1 : FVec Ideal S2048x1024 .f32) (x2 : FVec Ideal S5136x1024 .bf16) (i : S5136x1024.Idx)
    (k : Fin 1024) (hi : (i 0 : ℕ) = 2048 + k.val) : ref x0 x1 x2 i = ∑ r : Fin 2048, x0 (ix2 r k) * x1 (ix2 r (i 1)) := by
  pointwise [ref, val_main_v0, val_main_v1, val_main_cst, val_main_v2, val_main_v3, val_main_v4, val_main_v5, val_main_v6, val_main_v7, val_main_v8, val_main_v9]
  rw [dif_neg (by omega), dif_pos (by omega)]
  blk_point []

/-- An entry of the tile that a grid point stores is the reference's entry at its place. -/
theorem point (c : Dev nD) (t : Fin cfg0.N) (y : ((cfg0.win 2).xblock (cfg0.grid.coords t)).Idx) :
    k0_pay1 (iblk m c 0 t) (iblk m c 1 t) ((cfg0.win 2).xinj (cfg0.grid.coords t) y)
    = ref (m ((c : Thread nD τ).loc main_arg0)) (m ((c : Thread nD τ).loc main_arg1)) (m ((c : Thread nD τ).loc main_arg2)) (((cfg0.win 2).blk t).view.emb y) := by
  have h4 := (idx t).2.2.2
  have hy : (y 0 : ℕ) < 512 := ((cfg0.win 2).xinj (cfg0.grid.coords t) y 0).isLt
  refine Eq.trans ?_ (part _ _ _ _ ⟨(grid0.coords t 0).val * 512 + (y 0 : ℕ), by omega⟩ ?_).symm
  · pointwise [k0_pay1]
    refine Finset.sum_congr rfl fun k _ => ?_
    blk_point [iblk, V, idx t]
  · blk_simp [idx t]
    dsimp only
    omega

/-- The kernel's result is the reference's on the rows of the product and the given array elsewhere. -/
theorem rows (c : Dev nD) : (dats m 0 c).arrAt 2 (cfgs 0).N
    = fun i => if 2048 ≤ (i 0 : ℕ) ∧ (i 0 : ℕ) < 3072
        then ref (m ((c : Thread nD τ).loc main_arg0)) (m ((c : Thread nD τ).loc main_arg1)) (m ((c : Thread nD τ).loc main_arg2)) i
        else V m c main_v1 i := by
  refine (dats m 0 c).arrAt_eq_of_coversWhere 2 _ (fun β => 4 ≤ β 0 ∧ β 0 < 6) (by decide +kernel) (fun t _ y => ?_) (fun j => ?_)
  · blk_simp
    rw [after0_2]; unfold outsAt0 out0_A_2; frame_out
    exact point m c t y
  · blk_simp [Pipeline.Window.cell_apply]
    omega

/-- The kernel's result is the reference's. -/
theorem final (c : Dev nD) : (dats m 0 c).arrAt 2 (cfgs 0).N
    = ref (m ((c : Thread nD τ).loc main_arg0)) (m ((c : Thread nD τ).loc main_arg1)) (m ((c : Thread nD τ).loc main_arg2)) := by
  rw [rows]; funext i
  split_ifs with h
  · rfl
  · rw [entry]; exact rest _ _ _ i h

/-- Kernel and reference end with the same arrays. -/
theorem alg : Cert.algebraic_WInZIdeal_WInZRefIdeal := by
  pair_intro
  · run_from run_main m g
  · run_from Cert.WInZRefIdeal.Value.run m' g'
    refine (val_main_v9_eq _ _ _).trans ?_
    rw [(hagree c).2.2]
    exact (final m c).symm

end Cert.WInZIdeal.Hand

end
-- ==== Proof.MmWInXbc.lean ====
module

public import proofs.«01_k».proof.Defs
public import proofs.«01_k».proof.Proof.Gen.WInXbcIdeal.Value
public import proofs.«01_k».proof.Proof.Gen.WInXbcRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WInXbcIdeal.Hand

open Idealize.ShloMosaic Idealize.ShloMosaic.TcCoe Idealize.SL.Sem Cert.WInXbcIdeal Cert.WInXbcIdeal.Gen Cert.WInXbcRefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![6 + (grid0.coords t 0).val, (grid0.coords t 1).val] ∧ (grid0.coords t 0).val < 4 :=
  (by decide +kernel : ∀ t : Fin grid0.N, _)

/-- What the reference computes. -/
abbrev ref (x0 : FVec Ideal S2048x2048 .bf16) (x1 : FVec Ideal S2048x1024 .f32) (x2 : FVec Ideal S5136x1024 .bf16) : FVec Ideal S5136x1024 .bf16 :=
  val_main_v9 (F := Ideal) x0 x1 x2

/-- The result array starts as the array that the gradient is written into. -/
theorem entry (c : Dev nD) : V m c main_v1 = m ((c : Thread nD τ).loc main_arg2) := by
  unfold V; after_results; try rfl

/-- Outside of its rows the reference keeps the array that it is given. -/
theorem rest (x0 : FVec Ideal S2048x2048 .bf16) (x1 : FVec Ideal S2048x1024 .f32) (x2 : FVec Ideal S5136x1024 .bf16) (i : S5136x1024.Idx)
    (h : ¬ (3072 ≤ (i 0 : ℕ) ∧ (i 0 : ℕ) < 5120)) : x2 i = ref x0 x1 x2 i := by
  have h5 : (i 0 : ℕ) < 5136 := (i 0).isLt
  pointwise [ref, val_main_v9, val_main_v7, val_main_v8]
  split_ifs
  all_goals first | omega | blk_ext

/-- Within its rows the reference is the product. -/
theorem part (x0 : FVec Ideal S2048x2048 .bf16) (x1 : FVec Ideal S2048x1024 .f32) (x2 : FVec Ideal S5136x1024 .bf16) (i : S5136x1024.Idx)
    (k : Fin 2048) (hi : (i 0 : ℕ) = 3072 + k.val) : ref x0 x1 x2 i = ∑ r : Fin 2048, x0 (ix2 r k) * x1 (ix2 r (i 1)) := by
  pointwise [ref, val_main_v0, val_main_v1, val_main_cst, val_main_v2, val_main_v3, val_main_v4, val_main_v5, val_main_v6, val_main_v7, val_main_v8, val_main_v9]
  rw [dif_neg (by omega), dif_pos (by omega)]
  blk_point []

/-- An entry of the tile that a grid point stores is the reference's entry at its place. -/
theorem point (c : Dev nD) (t : Fin cfg0.N) (y : ((cfg0.win 2).xblock (cfg0.grid.coords t)).Idx) :
    k0_pay1 (iblk m c 0 t) (iblk m c 1 t) ((cfg0.win 2).xinj (cfg0.grid.coords t) y)
    = ref (m ((c : Thread nD τ).loc main_arg0)) (m ((c : Thread nD τ).loc main_arg1)) (m ((c : Thread nD τ).loc main_arg2)) (((cfg0.win 2).blk t).view.emb y) := by
  have h4 := (idx t).2.2.2
  have hy : (y 0 : ℕ) < 512 := ((cfg0.win 2).xinj (cfg0.grid.coords t) y 0).isLt
  refine Eq.trans ?_ (part _ _ _ _ ⟨(grid0.coords t 0).val * 512 + (y 0 : ℕ), by omega⟩ ?_).symm
  · pointwise [k0_pay1]
    refine Finset.sum_congr rfl fun k _ => ?_
    blk_point [iblk, V, idx t]
  · blk_simp [idx t]
    dsimp only
    omega

/-- The kernel's result is the reference's on the rows of the product and the given array elsewhere. -/
theorem rows (c : Dev nD) : (dats m 0 c).arrAt 2 (cfgs 0).N
    = fun i => if 3072 ≤ (i 0 : ℕ) ∧ (i 0 : ℕ) < 5120
        then ref (m ((c : Thread nD τ).loc main_arg0)) (m ((c : Thread nD τ).loc main_arg1)) (m ((c : Thread nD τ).loc main_arg2)) i
        else V m c main_v1 i := by
  refine (dats m 0 c).arrAt_eq_of_coversWhere 2 _ (fun β => 6 ≤ β 0 ∧ β 0 < 10) (by decide +kernel) (fun t _ y => ?_) (fun j => ?_)
  · blk_simp
    rw [after0_2]; unfold outsAt0 out0_A_2; frame_out
    exact point m c t y
  · blk_simp [Pipeline.Window.cell_apply]
    omega

/-- The kernel's result is the reference's. -/
theorem final (c : Dev nD) : (dats m 0 c).arrAt 2 (cfgs 0).N
    = ref (m ((c : Thread nD τ).loc main_arg0)) (m ((c : Thread nD τ).loc main_arg1)) (m ((c : Thread nD τ).loc main_arg2)) := by
  rw [rows]; funext i
  split_ifs with h
  · rfl
  · rw [entry]; exact rest _ _ _ i h

/-- Kernel and reference end with the same arrays. -/
theorem alg : Cert.algebraic_WInXbcIdeal_WInXbcRefIdeal := by
  pair_intro
  · run_from run_main m g
  · run_from Cert.WInXbcRefIdeal.Value.run m' g'
    refine (val_main_v9_eq _ _ _).trans ?_
    rw [(hagree c).2.2]
    exact (final m c).symm

end Cert.WInXbcIdeal.Hand

end
-- ==== Proof.MmWInDt.lean ====
module

public import proofs.«01_k».proof.Defs
public import proofs.«01_k».proof.Proof.Gen.WInDtIdeal.Value
public import proofs.«01_k».proof.Proof.Gen.WInDtRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.WInDtIdeal.Hand

open Idealize.ShloMosaic Idealize.ShloMosaic.TcCoe Idealize.SL.Sem Cert.WInDtIdeal Cert.WInDtIdeal.Gen Cert.WInDtRefIdeal.Read

variable (m : (ℓ : Loc nD τ sig) → Buf (Elt Ideal) ℓ)

/-- Where each block stands at a grid point. -/
theorem idx : ∀ t : Fin cfg0.N, win0_0.index t = ![0, (grid0.coords t 0).val] ∧ win0_1.index t = ![0, (grid0.coords t 1).val] ∧ win0_2.index t = ![40 + (grid0.coords t 0).val, (grid0.coords t 1).val] ∧ (grid0.coords t 0).val < 1 :=
  (by decide +kernel : ∀ t : Fin grid0.N, _)

/-- What the reference computes. -/
abbrev ref (x0 : FVec Ideal S2048x128 .bf16) (x1 : FVec Ideal S2048x1024 .f32) (x2 : FVec Ideal S5136x1024 .bf16) : FVec Ideal S5136x1024 .bf16 :=
  val_main_v9 (F := Ideal) x0 x1 x2

/-- The result array starts as the array that the gradient is written into. -/
theorem entry (c : Dev nD) : V m c main_v1 = m ((c : Thread nD τ).loc main_arg2) := by
  unfold V; after_results; try rfl

/-- Outside of its rows the reference keeps the array that it is given. -/
theorem rest (x0 : FVec Ideal S2048x128 .bf16) (x1 : FVec Ideal S2048x1024 .f32) (x2 : FVec Ideal S5136x1024 .bf16) (i : S5136x1024.Idx)
    (h : ¬ (5120 ≤ (i 0 : ℕ) ∧ (i 0 : ℕ) < 5136)) : x2 i = ref x0 x1 x2 i := by
  have h5 : (i 0 : ℕ) < 5136 := (i 0).isLt
  pointwise [ref, val_main_v9, val_main_v8]
  split_ifs
  all_goals first | omega | blk_ext

/-- Within its rows the reference is the product. -/
theorem part (x0 : FVec Ideal S2048x128 .bf16) (x1 : FVec Ideal S2048x1024 .f32) (x2 : FVec Ideal S5136x1024 .bf16) (i : S5136x1024.Idx)
    (k : Fin 16) (hi : (i 0 : ℕ) = 5120 + k.val) : ref x0 x1 x2 i = ∑ r : Fin 2048, x0 (ix2 r ⟨k.val, by omega⟩) * x1 (ix2 r (i 1)) := by
  pointwise [ref, val_main_v0, val_main_v1, val_main_cst, val_main_v2, val_main_v3, val_main_v4, val_main_v5, val_main_v6, val_main_v7, val_main_v8, val_main_v9]
  rw [dif_neg (by omega)]
  blk_point []

/-- An entry of the tile that a grid point stores is the reference's entry at its place. -/
theorem point (c : Dev nD) (t : Fin cfg0.N) (y : ((cfg0.win 2).xblock (cfg0.grid.coords t)).Idx) :
    k0_pay1 (iblk m c 0 t) (iblk m c 1 t) ((cfg0.win 2).xinj (cfg0.grid.coords t) y)
    = ref (m ((c : Thread nD τ).loc main_arg0)) (m ((c : Thread nD τ).loc main_arg1)) (m ((c : Thread nD τ).loc main_arg2)) (((cfg0.win 2).blk t).view.emb y) := by
  have h4 := (idx t).2.2.2
  have hy : (y 0 : ℕ) < 16 := by
    have h := (((cfg0.win 2).blk t).view.emb y 0).isLt
    have e : ((((cfg0.win 2).blk t).view.emb y 0 : Fin _) : ℕ) < 5136 := h
    blk_simp [idx t] at e
    omega
  refine Eq.trans ?_ (part _ _ _ _ ⟨(grid0.coords t 0).val * 128 + (y 0 : ℕ), by omega⟩ ?_).symm
  · pointwise [k0_pay1]
    refine Finset.sum_congr rfl fun k _ => ?_
    blk_point [iblk, V, idx t]
  · blk_simp [idx t]

/-- The kernel's result is the reference's on the rows of the product and the given array elsewhere. -/
theorem rows (c : Dev nD) : (dats m 0 c).arrAt 2 (cfgs 0).N
    = fun i => if 5120 ≤ (i 0 : ℕ) ∧ (i 0 : ℕ) < 5136
        then ref (m ((c : Thread nD τ).loc main_arg0)) (m ((c : Thread nD τ).loc main_arg1)) (m ((c : Thread nD τ).loc main_arg2)) i
        else V m c main_v1 i := by
  refine (dats m 0 c).arrAt_eq_of_coversWhere 2 _ (fun β => 40 ≤ β 0 ∧ β 0 < 41) (by decide +kernel) (fun t _ y => ?_) (fun j => ?_)
  · blk_simp
    rw [after0_2]; unfold outsAt0 out0_A_2; frame_out
    exact point m c t y
  · have hj : (j 0 : ℕ) < 5136 := (j 0).isLt
    blk_simp [Pipeline.Window.cell_apply]
    omega

/-- The kernel's result is the reference's. -/
theorem final (c : Dev nD) : (dats m 0 c).arrAt 2 (cfgs 0).N
    = ref (m ((c : Thread nD τ).loc main_arg0)) (m ((c : Thread nD τ).loc main_arg1)) (m ((c : Thread nD τ).loc main_arg2)) := by
  rw [rows]; funext i
  split_ifs with h
  · rfl
  · rw [entry]; exact rest _ _ _ i h

/-- Kernel and reference end with the same arrays. -/
theorem alg : Cert.algebraic_WInDtIdeal_WInDtRefIdeal := by
  pair_intro
  · run_from run_main m g
  · run_from Cert.WInDtRefIdeal.Value.run m' g'
    refine (val_main_v9_eq _ _ _).trans ?_
    rw [(hagree c).2.2]
    exact (final m c).symm

end Cert.WInDtIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.CDats
public import proofs.«01_k».proof.Proof.Dats
public import proofs.«01_k».proof.Proof.KE
public import proofs.«01_k».proof.Proof.RE
public import proofs.«01_k».proof.Proof.KF
public import proofs.«01_k».proof.Proof.Gen.PleGate.Frame
public import proofs.«01_k».proof.Proof.Gen.PleGateIdeal.Value
public import proofs.«01_k».proof.Proof.Gen.PleGateRefIdeal.Run
public import proofs.«01_k».proof.Proof.Gen.PleGateRefIdeal.Read
public import proofs.«01_k».proof.Proof.MmPleGate
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import proofs.«01_k».proof.Proof.MmPle
public import proofs.«01_k».proof.Proof.Gen.WFf2.Frame
public import proofs.«01_k».proof.Proof.Gen.WFf2Ideal.Value
public import proofs.«01_k».proof.Proof.Gen.WFf2RefIdeal.Run
public import proofs.«01_k».proof.Proof.Gen.WFf2RefIdeal.Read
public import proofs.«01_k».proof.Proof.MmWFf2
public import proofs.«01_k».proof.Proof.Gen.Pre.Frame
public import proofs.«01_k».proof.Proof.Gen.PreIdeal.Value
public import proofs.«01_k».proof.Proof.Gen.PreRefIdeal.Run
public import proofs.«01_k».proof.Proof.Gen.PreRefIdeal.Read
public import proofs.«01_k».proof.Proof.MmPre
public import proofs.«01_k».proof.Proof.Gen.WFf1.Frame
public import proofs.«01_k».proof.Proof.Gen.WFf1Ideal.Value
public import proofs.«01_k».proof.Proof.Gen.WFf1RefIdeal.Run
public import proofs.«01_k».proof.Proof.Gen.WFf1RefIdeal.Read
public import proofs.«01_k».proof.Proof.MmWFf1
public import proofs.«01_k».proof.Proof.Gen.WOut.Frame
public import proofs.«01_k».proof.Proof.Gen.WOutIdeal.Value
public import proofs.«01_k».proof.Proof.Gen.WOutRefIdeal.Run
public import proofs.«01_k».proof.Proof.Gen.WOutRefIdeal.Read
public import proofs.«01_k».proof.Proof.MmWOut
public import proofs.«01_k».proof.Proof.Gen.Ycat.Frame
public import proofs.«01_k».proof.Proof.Gen.YcatIdeal.Value
public import proofs.«01_k».proof.Proof.Gen.YcatRefIdeal.Run
public import proofs.«01_k».proof.Proof.Gen.YcatRefIdeal.Read
public import proofs.«01_k».proof.Proof.MmYcat
public import proofs.«01_k».proof.Proof.Gen.Dx.Frame
public import proofs.«01_k».proof.Proof.Gen.DxIdeal.Value
public import proofs.«01_k».proof.Proof.Gen.DxRefIdeal.Run
public import proofs.«01_k».proof.Proof.Gen.DxRefIdeal.Read
public import proofs.«01_k».proof.Proof.MmDx
public import proofs.«01_k».proof.Proof.MmDxAlg
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.MmInProj
public import proofs.«01_k».proof.Proof.Gen.Ff1.Frame
public import proofs.«01_k».proof.Proof.Gen.Ff1Ideal.Value
public import proofs.«01_k».proof.Proof.Gen.Ff1RefIdeal.Run
public import proofs.«01_k».proof.Proof.Gen.Ff1RefIdeal.Read
public import proofs.«01_k».proof.Proof.MmFf1
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.MmOutProj
public import proofs.«01_k».proof.Proof.Gen.FfTwo.Frame
public import proofs.«01_k».proof.Proof.Gen.FfTwoIdeal.Value
public import proofs.«01_k».proof.Proof.Gen.FfTwoRefIdeal.Run
public import proofs.«01_k».proof.Proof.Gen.FfTwoRefIdeal.Read
public import proofs.«01_k».proof.Proof.MmFfTwo
public import proofs.«01_k».proof.Proof.Gen.WInG.Frame
public import proofs.«01_k».proof.Proof.Gen.WInGIdeal.Value
public import proofs.«01_k».proof.Proof.Gen.WInGRefIdeal.Run
public import proofs.«01_k».proof.Proof.Gen.WInGRefIdeal.Read
public import proofs.«01_k».proof.Proof.MmWInG
public import proofs.«01_k».proof.Proof.Gen.WInZ.Frame
public import proofs.«01_k».proof.Proof.Gen.WInZIdeal.Value
public import proofs.«01_k».proof.Proof.Gen.WInZRefIdeal.Run
public import proofs.«01_k».proof.Proof.Gen.WInZRefIdeal.Read
public import proofs.«01_k».proof.Proof.MmWInZ
public import proofs.«01_k».proof.Proof.Gen.WInXbc.Frame
public import proofs.«01_k».proof.Proof.Gen.WInXbcIdeal.Value
public import proofs.«01_k».proof.Proof.Gen.WInXbcRefIdeal.Run
public import proofs.«01_k».proof.Proof.Gen.WInXbcRefIdeal.Read
public import proofs.«01_k».proof.Proof.MmWInXbc
public import proofs.«01_k».proof.Proof.Gen.WInDt.Frame
public import proofs.«01_k».proof.Proof.Gen.WInDtIdeal.Value
public import proofs.«01_k».proof.Proof.Gen.WInDtRefIdeal.Run
public import proofs.«01_k».proof.Proof.Gen.WInDtRefIdeal.Read
public import proofs.«01_k».proof.Proof.MmWInDt
public import Idealize.ShloMosaic.Adequacy
public import Idealize.ShloMosaic.Init

@[expose] public section

noncomputable section

namespace Cert.Proof

open Idealize.ShloMosaic Idealize.SL.Sem Lru

/-- The facts the precondition states. -/
instance preFacts : Cert.Pre_finite.Facts where
  slices_S2048x5632_S2048x1024_0_0 := by decide
  slices_S2048x5632_S2048x1024_0_1024 := by decide
  slices_S2048x2048_S2048x1024_0_0 := by decide
  bcast_S_S2048x1024 := by decide
  bcast_S_S4x1024 := by decide
  bcast_S_S1x1024 := by decide
  bcast_S_S16x64x64 := by decide
  bcast_S_S16x64 := by decide

theorem ref_frame : Cert.quiescent_ReferenceIdeal := fun m ρ _ =>
  (θ_run _ _ _).mono (fun r h => ⟨fun c => (h c).2.2.2.2.2.2.2.2.2, Idealize.ShloMosaic.sem_eq_zero_of_no_sems (by decide) r.2⟩)
    (Cert.ReferenceIdeal.Value.run (F := Ideal) m ρ)

/-- The real arguments of a device. -/
def inps (m : (ℓ : Loc Cert.KernelIdeal.nD Cert.KernelIdeal.τ Cert.KernelIdeal.sig) → Buf (Elt Ideal) ℓ) (c : Dev Cert.KernelIdeal.nD) : Inp :=
  R.inp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

theorem hyps (m : (ℓ : Loc Cert.KernelIdeal.nD Cert.KernelIdeal.τ Cert.KernelIdeal.sig) → Buf (Elt Ideal) ℓ)
    (hp : Cert.Pre_KernelIdeal_finite m) (c : Dev Cert.KernelIdeal.nD) :
    R.Hyp (inps m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  R.hyp_of_finite _ _ _ _ _ _ _ _ _
    (hp c).1
    (hp c).2.1
    (hp c).2.2.1
    (hp c).2.2.2.1
    (hp c).2.2.2.2.1
    (hp c).2.2.2.2.2.1
    (hp c).2.2.2.2.2.2.1
    (hp c).2.2.2.2.2.2.2.1
    (hp c).2.2.2.2.2.2.2.2.1
    (hp c).2.2.2.2.2.2.2.2.2

theorem alg : Cert.algebraic_KernelIdeal_ReferenceIdeal_pre_finite := by
  intro m ρ m' ρ' hp hm
  have HK : ∀ c, Cert.KernelIdeal.Hand.HypV (inps m c) (Cert.KernelIdeal.Hand.Vm m c) := fun c => hyps m hp c
  have HR : ∀ c, R.Hyp (inps m c) (R.arg m' c Cert.ReferenceIdeal.main_arg0) (R.arg m' c Cert.ReferenceIdeal.main_arg1) (R.arg m' c Cert.ReferenceIdeal.main_arg2) (R.arg m' c Cert.ReferenceIdeal.main_arg3) (R.arg m' c Cert.ReferenceIdeal.main_arg4) (R.arg m' c Cert.ReferenceIdeal.main_arg5) (R.arg m' c Cert.ReferenceIdeal.main_arg6) (R.arg m' c Cert.ReferenceIdeal.main_arg7) (R.arg m' c Cert.ReferenceIdeal.main_arg8) := by
    intro c
    have e0 : R.arg m' c Cert.ReferenceIdeal.main_arg0 = m ((c.tc : Thread Cert.KernelIdeal.nD Cert.KernelIdeal.τ).loc Cert.KernelIdeal.main_arg0) := (hm c).1
    have e1 : R.arg m' c Cert.ReferenceIdeal.main_arg1 = m ((c.tc : Thread Cert.KernelIdeal.nD Cert.KernelIdeal.τ).loc Cert.KernelIdeal.main_arg1) := (hm c).2.1
    have e2 : R.arg m' c Cert.ReferenceIdeal.main_arg2 = m ((c.tc : Thread Cert.KernelIdeal.nD Cert.KernelIdeal.τ).loc Cert.KernelIdeal.main_arg2) := (hm c).2.2.1
    have e3 : R.arg m' c Cert.ReferenceIdeal.main_arg3 = m ((c.tc : Thread Cert.KernelIdeal.nD Cert.KernelIdeal.τ).loc Cert.KernelIdeal.main_arg3) := (hm c).2.2.2.1
    have e4 : R.arg m' c Cert.ReferenceIdeal.main_arg4 = m ((c.tc : Thread Cert.KernelIdeal.nD Cert.KernelIdeal.τ).loc Cert.KernelIdeal.main_arg4) := (hm c).2.2.2.2.1
    have e5 : R.arg m' c Cert.ReferenceIdeal.main_arg5 = m ((c.tc : Thread Cert.KernelIdeal.nD Cert.KernelIdeal.τ).loc Cert.KernelIdeal.main_arg5) := (hm c).2.2.2.2.2.1
    have e6 : R.arg m' c Cert.ReferenceIdeal.main_arg6 = m ((c.tc : Thread Cert.KernelIdeal.nD Cert.KernelIdeal.τ).loc Cert.KernelIdeal.main_arg6) := (hm c).2.2.2.2.2.2.1
    have e7 : R.arg m' c Cert.ReferenceIdeal.main_arg7 = m ((c.tc : Thread Cert.KernelIdeal.nD Cert.KernelIdeal.τ).loc Cert.KernelIdeal.main_arg7) := (hm c).2.2.2.2.2.2.2.1
    have e8 : R.arg m' c Cert.ReferenceIdeal.main_arg8 = m ((c.tc : Thread Cert.KernelIdeal.nD Cert.KernelIdeal.τ).loc Cert.KernelIdeal.main_arg8) := (hm c).2.2.2.2.2.2.2.2
    rw [e0, e1, e2, e3, e4, e5, e6, e7, e8]
    exact hyps m hp c
  refine ⟨_, _, _, _, _, _, _, _, _, ?_, R.values m' ρ' (inps m) HR⟩
  refine (θ_run _ _ _).mono (fun r h c => ?_) (θ_run_and (Cert.KernelIdeal.Hand.values m ρ (inps m) HK) (Cert.KernelIdeal.Hand.unchanged m ρ))
  exact ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2, h.2 c⟩

/-- The frame of the reference PleGateRef. -/
theorem framePleGateRef : Cert.quiescent_PleGateRefIdeal := fun m ρ _ =>
  (θ_run _ _ _).mono (fun r h => ⟨fun c => (h c).2, Idealize.ShloMosaic.sem_eq_zero_of_no_sems (by decide) r.2⟩)
    (Cert.PleGateRefIdeal.Value.run (F := Ideal) m ρ)

/-- The frame of the reference PleRef. -/
theorem framePleRef : Cert.quiescent_PleRefIdeal := fun m ρ _ =>
  (θ_run _ _ _).mono (fun r h => ⟨fun c => (h c).2, Idealize.ShloMosaic.sem_eq_zero_of_no_sems (by decide) r.2⟩)
    (Cert.PleRefIdeal.Value.run (F := Ideal) m ρ)

/-- The frame of the reference WFf2Ref. -/
theorem frameWFf2Ref : Cert.quiescent_WFf2RefIdeal := fun m ρ _ =>
  (θ_run _ _ _).mono (fun r h => ⟨fun c => (h c).2, Idealize.ShloMosaic.sem_eq_zero_of_no_sems (by decide) r.2⟩)
    (Cert.WFf2RefIdeal.Value.run (F := Ideal) m ρ)

/-- The frame of the reference PreRef. -/
theorem framePreRef : Cert.quiescent_PreRefIdeal := fun m ρ _ =>
  (θ_run _ _ _).mono (fun r h => ⟨fun c => (h c).2, Idealize.ShloMosaic.sem_eq_zero_of_no_sems (by decide) r.2⟩)
    (Cert.PreRefIdeal.Value.run (F := Ideal) m ρ)

/-- The frame of the reference WFf1Ref. -/
theorem frameWFf1Ref : Cert.quiescent_WFf1RefIdeal := fun m ρ _ =>
  (θ_run _ _ _).mono (fun r h => ⟨fun c => (h c).2, Idealize.ShloMosaic.sem_eq_zero_of_no_sems (by decide) r.2⟩)
    (Cert.WFf1RefIdeal.Value.run (F := Ideal) m ρ)

/-- The frame of the reference WOutRef. -/
theorem frameWOutRef : Cert.quiescent_WOutRefIdeal := fun m ρ _ =>
  (θ_run _ _ _).mono (fun r h => ⟨fun c => (h c).2, Idealize.ShloMosaic.sem_eq_zero_of_no_sems (by decide) r.2⟩)
    (Cert.WOutRefIdeal.Value.run (F := Ideal) m ρ)

/-- The frame of the reference YcatRef. -/
theorem frameYcatRef : Cert.quiescent_YcatRefIdeal := fun m ρ _ =>
  (θ_run _ _ _).mono (fun r h => ⟨fun c => (h c).2, Idealize.ShloMosaic.sem_eq_zero_of_no_sems (by decide) r.2⟩)
    (Cert.YcatRefIdeal.Value.run (F := Ideal) m ρ)

/-- The frame of the reference DxRef. -/
theorem frameDxRef : Cert.quiescent_DxRefIdeal := fun m ρ _ =>
  (θ_run _ _ _).mono (fun r h => ⟨fun c => (h c).2, Idealize.ShloMosaic.sem_eq_zero_of_no_sems (by decide) r.2⟩)
    (Cert.DxRefIdeal.Value.run (F := Ideal) m ρ)

/-- The frame of the reference InProjRef. -/
theorem frameInProjRef : Cert.quiescent_InProjRefIdeal := fun m ρ _ =>
  (θ_run _ _ _).mono (fun r h => ⟨fun c => (h c).2, Idealize.ShloMosaic.sem_eq_zero_of_no_sems (by decide) r.2⟩)
    (Cert.InProjRefIdeal.Value.run (F := Ideal) m ρ)

/-- The frame of the reference Ff1Ref. -/
theorem frameFf1Ref : Cert.quiescent_Ff1RefIdeal := fun m ρ _ =>
  (θ_run _ _ _).mono (fun r h => ⟨fun c => (h c).2, Idealize.ShloMosaic.sem_eq_zero_of_no_sems (by decide) r.2⟩)
    (Cert.Ff1RefIdeal.Value.run (F := Ideal) m ρ)

/-- The frame of the reference OutProjRef. -/
theorem frameOutProjRef : Cert.quiescent_OutProjRefIdeal := fun m ρ _ =>
  (θ_run _ _ _).mono (fun r h => ⟨fun c => (h c).2.2.2, Idealize.ShloMosaic.sem_eq_zero_of_no_sems (by decide) r.2⟩)
    (Cert.OutProjRefIdeal.Value.run (F := Ideal) m ρ)

/-- The frame of the reference FfTwoRef. -/
theorem frameFfTwoRef : Cert.quiescent_FfTwoRefIdeal := fun m ρ _ =>
  (θ_run _ _ _).mono (fun r h => ⟨fun c => (h c).2.2.2, Idealize.ShloMosaic.sem_eq_zero_of_no_sems (by decide) r.2⟩)
    (Cert.FfTwoRefIdeal.Value.run (F := Ideal) m ρ)

/-- The frame of the reference WInGRef. -/
theorem frameWInGRef : Cert.quiescent_WInGRefIdeal := fun m ρ _ =>
  (θ_run _ _ _).mono (fun r h => ⟨fun c => (h c).2, Idealize.ShloMosaic.sem_eq_zero_of_no_sems (by decide) r.2⟩)
    (Cert.WInGRefIdeal.Value.run (F := Ideal) m ρ)

/-- The frame of the reference WInZRef. -/
theorem frameWInZRef : Cert.quiescent_WInZRefIdeal := fun m ρ _ =>
  (θ_run _ _ _).mono (fun r h => ⟨fun c => (h c).2, Idealize.ShloMosaic.sem_eq_zero_of_no_sems (by decide) r.2⟩)
    (Cert.WInZRefIdeal.Value.run (F := Ideal) m ρ)

/-- The frame of the reference WInXbcRef. -/
theorem frameWInXbcRef : Cert.quiescent_WInXbcRefIdeal := fun m ρ _ =>
  (θ_run _ _ _).mono (fun r h => ⟨fun c => (h c).2, Idealize.ShloMosaic.sem_eq_zero_of_no_sems (by decide) r.2⟩)
    (Cert.WInXbcRefIdeal.Value.run (F := Ideal) m ρ)

/-- The frame of the reference WInDtRef. -/
theorem frameWInDtRef : Cert.quiescent_WInDtRefIdeal := fun m ρ _ =>
  (θ_run _ _ _).mono (fun r h => ⟨fun c => (h c).2, Idealize.ShloMosaic.sem_eq_zero_of_no_sems (by decide) r.2⟩)
    (Cert.WInDtRefIdeal.Value.run (F := Ideal) m ρ)

theorem claim : Cert.Claim :=
  ⟨Cert.Kernel.Gen.facts, Cert.KernelIdeal.Gen.facts, Cert.ReferenceIdeal.Gen.facts,
    Cert.PleGate.Gen.facts, Cert.PleGateIdeal.Gen.facts, Cert.PleGateRefIdeal.Gen.facts,
    Cert.Ple.Gen.facts, Cert.PleIdeal.Gen.facts, Cert.PleRefIdeal.Gen.facts,
    Cert.WFf2.Gen.facts, Cert.WFf2Ideal.Gen.facts, Cert.WFf2RefIdeal.Gen.facts,
    Cert.Pre.Gen.facts, Cert.PreIdeal.Gen.facts, Cert.PreRefIdeal.Gen.facts,
    Cert.WFf1.Gen.facts, Cert.WFf1Ideal.Gen.facts, Cert.WFf1RefIdeal.Gen.facts,
    Cert.WOut.Gen.facts, Cert.WOutIdeal.Gen.facts, Cert.WOutRefIdeal.Gen.facts,
    Cert.Ycat.Gen.facts, Cert.YcatIdeal.Gen.facts, Cert.YcatRefIdeal.Gen.facts,
    Cert.Dx.Gen.facts, Cert.DxIdeal.Gen.facts, Cert.DxRefIdeal.Gen.facts,
    Cert.InProj.Gen.facts, Cert.InProjIdeal.Gen.facts, Cert.InProjRefIdeal.Gen.facts,
    Cert.Ff1.Gen.facts, Cert.Ff1Ideal.Gen.facts, Cert.Ff1RefIdeal.Gen.facts,
    Cert.OutProj.Gen.facts, Cert.OutProjIdeal.Gen.facts, Cert.OutProjRefIdeal.Gen.facts,
    Cert.FfTwo.Gen.facts, Cert.FfTwoIdeal.Gen.facts, Cert.FfTwoRefIdeal.Gen.facts,
    Cert.WInG.Gen.facts, Cert.WInGIdeal.Gen.facts, Cert.WInGRefIdeal.Gen.facts,
    Cert.WInZ.Gen.facts, Cert.WInZIdeal.Gen.facts, Cert.WInZRefIdeal.Gen.facts,
    Cert.WInXbc.Gen.facts, Cert.WInXbcIdeal.Gen.facts, Cert.WInXbcRefIdeal.Gen.facts,
    Cert.WInDt.Gen.facts, Cert.WInDtIdeal.Gen.facts, Cert.WInDtRefIdeal.Gen.facts,
    preFacts,
    fun m ρ _ => Cert.Kernel.Hand.frame m ρ,
    fun m ρ _ => Cert.KernelIdeal.Hand.frame m ρ,
    fun m ρ _ => Cert.KernelIdeal.Hand.frame m ρ,
    ref_frame,
    fun m ρ _ => ref_frame m ρ trivial,
    fun m ρ _ => Cert.PleGate.Gen.frame m ρ, fun m ρ _ => Cert.PleGateIdeal.Gen.frame m ρ, framePleGateRef,
    fun m ρ _ => Cert.Ple.Gen.frame m ρ, fun m ρ _ => Cert.PleIdeal.Gen.frame m ρ, framePleRef,
    fun m ρ _ => Cert.WFf2.Gen.frame m ρ, fun m ρ _ => Cert.WFf2Ideal.Gen.frame m ρ, frameWFf2Ref,
    fun m ρ _ => Cert.Pre.Gen.frame m ρ, fun m ρ _ => Cert.PreIdeal.Gen.frame m ρ, framePreRef,
    fun m ρ _ => Cert.WFf1.Gen.frame m ρ, fun m ρ _ => Cert.WFf1Ideal.Gen.frame m ρ, frameWFf1Ref,
    fun m ρ _ => Cert.WOut.Gen.frame m ρ, fun m ρ _ => Cert.WOutIdeal.Gen.frame m ρ, frameWOutRef,
    fun m ρ _ => Cert.Ycat.Gen.frame m ρ, fun m ρ _ => Cert.YcatIdeal.Gen.frame m ρ, frameYcatRef,
    fun m ρ _ => Cert.Dx.Gen.frame m ρ, fun m ρ _ => Cert.DxIdeal.Gen.frame m ρ, frameDxRef,
    fun m ρ _ => Cert.InProj.Gen.frame m ρ, fun m ρ _ => Cert.InProjIdeal.Gen.frame m ρ, frameInProjRef,
    fun m ρ _ => Cert.Ff1.Gen.frame m ρ, fun m ρ _ => Cert.Ff1Ideal.Gen.frame m ρ, frameFf1Ref,
    fun m ρ _ => Cert.OutProj.Gen.frame m ρ, fun m ρ _ => Cert.OutProjIdeal.Gen.frame m ρ, frameOutProjRef,
    fun m ρ _ => Cert.FfTwo.Gen.frame m ρ, fun m ρ _ => Cert.FfTwoIdeal.Gen.frame m ρ, frameFfTwoRef,
    fun m ρ _ => Cert.WInG.Gen.frame m ρ, fun m ρ _ => Cert.WInGIdeal.Gen.frame m ρ, frameWInGRef,
    fun m ρ _ => Cert.WInZ.Gen.frame m ρ, fun m ρ _ => Cert.WInZIdeal.Gen.frame m ρ, frameWInZRef,
    fun m ρ _ => Cert.WInXbc.Gen.frame m ρ, fun m ρ _ => Cert.WInXbcIdeal.Gen.frame m ρ, frameWInXbcRef,
    fun m ρ _ => Cert.WInDt.Gen.frame m ρ, fun m ρ _ => Cert.WInDtIdeal.Gen.frame m ρ, frameWInDtRef,
    ⟨IdealRules.named_const.statement _ _ _ _ _ rfl, IdealRules.named_const.statement _ _ _ _ _ rfl⟩,
    alg,
    trivial, Cert.PleGateIdeal.Hand.alg,
    trivial, Cert.PleIdeal.Hand.alg,
    trivial, Cert.WFf2Ideal.Hand.alg,
    trivial, Cert.PreIdeal.Hand.alg,
    trivial, Cert.WFf1Ideal.Hand.alg,
    trivial, Cert.WOutIdeal.Hand.alg,
    trivial, Cert.YcatIdeal.Hand.alg,
    trivial, Cert.DxIdeal.Hand.alg,
    trivial, Cert.InProjIdeal.Hand.alg,
    trivial, Cert.Ff1Ideal.Hand.alg,
    trivial, Cert.OutProjIdeal.Hand.alg,
    trivial, Cert.FfTwoIdeal.Hand.alg,
    trivial, Cert.WInGIdeal.Hand.alg,
    trivial, Cert.WInZIdeal.Hand.alg,
    trivial, Cert.WInXbcIdeal.Hand.alg,
    trivial, Cert.WInDtIdeal.Hand.alg⟩

end Cert.Proof

end
